-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite26 [hPre_finite26 : Cert.Pre_finite26.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite26 [hPre_finite26 : Cert.Pre_finite26.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Kernel26Ideal_pre_finite26 [hKernel26Ideal : Cert.Kernel26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite26 m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Reference26Ideal_pre_finite26 [hReference26Ideal : Cert.Reference26Ideal.Facts] [hPre_finite26 : Cert.Pre_finite26.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite26 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def preserves_Kernel_KernelIdeal : Prop :=
  IdealRules.named_const.Statement Cert.KernelIdeal.κ "q_scale" .f32 0x3E0293EE#32 (((Real.log 2)⁻¹ * (Real.sqrt 128)⁻¹ : ℝ) : EReal)
  ∧ IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "masked" .f32 0xF149F2CA#32 ⊥
  ∧ IdealRules.named_const.Statement Cert.KernelIdeal.κ "ln2" .f32 0x3F317218#32 ((Real.log 2 : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)) (v4 : (c : Dev Cert.KernelIdeal.nD) → Buf (Elt Ideal) ((c.tc : Thread Cert.KernelIdeal.nD Cert.KernelIdeal.τ).loc Cert.KernelIdeal.main_v53_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_v53_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v11) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v5) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_v11) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v49) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v27) = v2 c
          ∧ r.2.mem ((c.tc : Thread Cert.Reference14Ideal.nD Cert.Reference14Ideal.τ).loc Cert.Reference14Ideal.main_v32) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v18) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v49) = v0 c
          ∧ r.2.mem ((c.tc : Thread Cert.Reference16Ideal.nD Cert.Reference16Ideal.τ).loc Cert.Reference16Ideal.main_v48) = v1 c
          ∧ r.2.mem ((c.tc : Thread Cert.Reference16Ideal.nD Cert.Reference16Ideal.τ).loc Cert.Reference16Ideal.main_v32) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_v29) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_v16) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_v29) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_v16) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal_pre_finite26 [hKernel26Ideal : Cert.Kernel26Ideal.Facts] [hReference26Ideal : Cert.Reference26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite26 m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite4 : Cert.Pre_finite4.Facts) (hPre_finite26 : Cert.Pre_finite26.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite26 (hKernel26Ideal := hKernel26Ideal) (hPre_finite26 := hPre_finite26)
    ∧ quiescent_Reference26Ideal (hReference26Ideal := hReference26Ideal)
    ∧ quiescent_Reference26Ideal_pre_finite26 (hReference26Ideal := hReference26Ideal) (hPre_finite26 := hPre_finite26)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite26 (hKernel26Ideal := hKernel26Ideal) (hReference26Ideal := hReference26Ideal) (hPre_finite26 := hPre_finite26)
-- ==== Pre_finite.lean ====
abbrev S8192x7680 : Shape := ⟨2, ![8192, 7680]⟩
abbrev S8x8192 : Shape := ⟨2, ![8, 8192]⟩
abbrev S8192x1024 : Shape := ⟨2, ![8192, 1024]⟩
abbrev S8192x3072 : Shape := ⟨2, ![8192, 3072]⟩
abbrev S_ : Shape := ⟨0, ![]⟩

class Facts : Prop where
  slices_S8192x7680_S8192x3072_0_0 : S8192x7680.Slices ![0, 0] S8192x3072
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x7680 .f32) (main_arg1 : FVec F S8x8192 .f32) (main_arg2 : FVec F S8192x1024 .bf16) : IVec S_ 1 :=
  let main_v0 : FVec F S8192x3072 .f32 := (extractStridedSlice S8192x3072 ![0, 0] · slices_S8192x7680_S8192x3072_0_0) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8x8192 .f32 := Host.absf main_arg1
  let main_cst_0 : FVec F S_ .f32 := constant S_ .f32 0x7F800000#32
  let main_v6 : FVec F S8x8192 .f32 := broadcastInDim S8x8192 ![] bcast_S_S8x8192 main_cst_0
  let main_v7 : IVec S8x8192 1 := cmpf .olt main_v5 main_v6
  let main_c_1 : IVec S_ 1 := constantI S_ 1 1#1
  let main_v8 : IVec S_ 1 := (fun x v => Host.reduce IntOp.andi x v reducesTo_S8x8192_S_d0_1 h_S_) main_v7 main_c_1
  let main_v9 : IVec S_ 1 := andi main_v4 main_v8
  let main_v10 : FVec F S8192x1024 .bf16 := Host.absf main_arg2
  let main_cst_2 : FVec F S_ .bf16 := constant S_ .bf16 0x7F80#16
  let main_v11 : FVec F S8192x1024 .bf16 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  main_v14
-- ==== Pre_finite26.lean ====
abbrev S8x2048 : Shape := ⟨2, ![8, 2048]⟩
abbrev S8x2304 : Shape := ⟨2, ![8, 2304]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S8x2304 : S_.BroadcastsInDim S8x2304 (![] : Fin 0 → Fin S8x2304.rank)
  reducesTo_S8x2304_S_d0_1 : S8x2304.ReducesTo [0, 1] S_

variable [Facts]

def fn {F : FTy → Type} [FloatOps F] (main_arg0 : FVec F S8x2048 .f32) (main_arg1 : FVec F S8x2304 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  let main_v4 : FVec F S8x2304 .f32 := Host.absf main_arg1
  let main_cst_0 : FVec F S_ .f32 := constant S_ .f32 0x7F800000#32
  let main_v5 : FVec F S8x2304 .f32 := broadcastInDim S8x2304 ![] bcast_S_S8x2304 main_cst_0
  let main_v6 : IVec S8x2304 1 := cmpf .olt main_v4 main_v5
  let main_c_1 : IVec S_ 1 := constantI S_ 1 1#1
  let main_v7 : IVec S_ 1 := (fun x v => Host.reduce IntOp.andi x v reducesTo_S8x2304_S_d0_1 h_S_) main_v6 main_c_1
  let main_v8 : IVec S_ 1 := andi main_v3 main_v7
  main_v8
-- ==== Pre_finite4.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .bf16) (main_arg1 : FVec F S5632x2048 .bf16) (main_arg2 : FVec F S8192x5632 .bf16) (main_arg3 : FVec F S8192x5632 .bf16) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S5632x2048 .bf16 := Host.absf main_arg1
  let main_cst_0 : FVec F S_ .bf16 := constant S_ .bf16 0x7F80#16
  let main_v5 : FVec F S5632x2048 .bf16 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S8192x5632 .bf16 := Host.absf main_arg3
  let main_cst_2 : FVec F S_ .bf16 := constant S_ .bf16 0x7F80#16
  let main_v10 : FVec F S8192x5632 .bf16 := broadcastInDim S8192x5632 ![] bcast_S_S8192x5632 main_cst_2
  let main_v11 : IVec S8192x5632 1 := cmpf .olt main_v9 main_v10
  let main_c_3 : IVec S_ 1 := constantI S_ 1 1#1
  let main_v12 : IVec S_ 1 := (fun x v => Host.reduce IntOp.andi x v reducesTo_S8192x5632_S_d0_1 h_S_) main_v11 main_c_3
  let main_v13 : IVec S_ 1 := andi main_v8 main_v12
  main_v13
-- ==== Kernel.lean ====
abbrev S8192x7680 : Shape := ⟨2, ![8192, 7680]⟩
abbrev S8x8192 : Shape := ⟨2, ![8, 8192]⟩
abbrev S8192x1024 : Shape := ⟨2, ![8192, 1024]⟩
abbrev S136 : Shape := ⟨1, ![136]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x16x1x512 : Shape := ⟨4, ![8, 16, 1, 512]⟩
abbrev S512x512 : Shape := ⟨2, ![512, 512]⟩
abbrev S1 : Shape := ⟨1, ![1]⟩
abbrev S4x1x512 : Shape := ⟨3, ![4, 1, 512]⟩
abbrev S4x512x128 : Shape := ⟨3, ![4, 512, 128]⟩
abbrev S4x16x1x512 : Shape := ⟨4, ![4, 16, 1, 512]⟩
abbrev S4x512x1 : Shape := ⟨3, ![4, 512, 1]⟩
abbrev S4x8192x128 : Shape := ⟨3, ![4, 8192, 128]⟩
abbrev S512x128 : Shape := ⟨2, ![512, 128]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S1x512x128 : Shape := ⟨3, ![1, 512, 128]⟩
abbrev S512 : Shape := ⟨1, ![512]⟩
abbrev S1x1x1x512 : Shape := ⟨4, ![1, 1, 1, 512]⟩

abbrev nBuf : Space → Nat
  | .hbm => 70
  | .vmem => 29
  | .smem => 2
  | _ => 0

abbrev bufTy : (tb : Table) → Fin (tcTables nBuf tb) → BufTy
  | .hbm, ⟨0, _⟩ => ⟨S8192x7680, .f32⟩
  | .hbm, ⟨1, _⟩ => ⟨S8x8192, .f32⟩
  | .hbm, ⟨2, _⟩ => ⟨S8192x1024, .bf16⟩
  | .hbm, ⟨3, _⟩ => ⟨S8192x1024, .f32⟩
  | .hbm, ⟨4, _⟩ => ⟨S8192x8x128, .f32⟩
  | .hbm, ⟨5, _⟩ => ⟨S8x8192x128, .f32⟩
  | .hbm, ⟨6, _⟩ => ⟨S8192x1024, .f32⟩
  | .hbm, ⟨7, _⟩ => ⟨S8192x8x128, .f32⟩
  | .hbm, ⟨8, _⟩ => ⟨S8x8192x128, .f32⟩
  | .hbm, ⟨9, _⟩ => ⟨S8192x1024, .f32⟩
  | .hbm, ⟨10, _⟩ => ⟨S8192x8x128, .f32⟩
  | .hbm, ⟨11, _⟩ => ⟨S8x8192x128, .f32⟩
  | .hbm, ⟨12, _⟩ => ⟨S8x8192x8192, .f32⟩
  | .hbm, ⟨13, _⟩ => ⟨S_, .f32⟩
  | .hbm, ⟨14, _⟩ => ⟨S_, .f32⟩
  | .hbm, ⟨15, _⟩ => ⟨S8x8192x8192, .f32⟩
  | .hbm, ⟨16, _⟩ => ⟨S8x8192x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x1x8192, .f32⟩
  | .hbm, ⟨21, _⟩ => ⟨S8x8192x8192, .f32⟩
  | .hbm, ⟨22, _⟩ => ⟨S8x8192x8192, .f32⟩
  | .hbm, ⟨23, _⟩ => ⟨S8192, .i32⟩
  | .hbm, ⟨24, _⟩ => ⟨S1x8192, .i32⟩
  | .hbm, ⟨25, _⟩ => ⟨S8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8x8192x8192, .i1⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x8192, .f32⟩
  | .hbm, ⟨45, _⟩ => ⟨S8x8192x8192, .f32⟩
  | .hbm, ⟨46, _⟩ => ⟨S8x8192x128, .f32⟩
  | .hbm, ⟨47, _⟩ => ⟨S8x8192x1, .f32⟩
  | .hbm, ⟨48, _⟩ => ⟨S8x8192x1, .f32⟩
  | .hbm, ⟨49, _⟩ => ⟨S8x8192, .f32⟩
  | .hbm, ⟨50, _⟩ => ⟨S_, .f32⟩
  | .hbm, ⟨51, _⟩ => ⟨S_, .f32⟩
  | .hbm, ⟨52, _⟩ => ⟨S8x8192, .f32⟩
  | .hbm, ⟨53, _⟩ => ⟨S8x8192, .f32⟩
  | .hbm, ⟨54, _⟩ => ⟨S8192x1024, .f32⟩
  | .hbm, ⟨55, _⟩ => ⟨S8192x8x128, .f32⟩
  | .hbm, ⟨56, _⟩ => ⟨S8x8192x128, .f32⟩
  | .hbm, ⟨57, _⟩ => ⟨S8x8192x128, .f32⟩
  | .hbm, ⟨58, _⟩ => ⟨S_, .f32⟩
  | .hbm, ⟨59, _⟩ => ⟨S8x8192, .f32⟩
  | .hbm, ⟨60, _⟩ => ⟨S8x1x8192, .f32⟩
  | .hbm, ⟨61, _⟩ => ⟨S8x8192x1, .f32⟩
  | .hbm, ⟨62, _⟩ => ⟨S8x8192x128, .f32⟩
  | .hbm, ⟨63, _⟩ => ⟨S8x1x8192, .f32⟩
  | .hbm, ⟨64, _⟩ => ⟨S8x1x8192, .f32⟩
  | .hbm, ⟨65, _⟩ => ⟨S8192x1024, .bf16⟩
  | .hbm, ⟨66, _⟩ => ⟨S8192x1024, .bf16⟩
  | .hbm, ⟨67, _⟩ => ⟨S8x1x8192, .f32⟩
  | .hbm, ⟨68, _⟩ => ⟨S8x8192x128, .bf16⟩
  | .hbm, ⟨69, _⟩ => ⟨S8x16x1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S4x1x512, .f32⟩
  | .local _ .vmem, ⟨9, _⟩ => ⟨S4x1x512, .f32⟩
  | .local _ .vmem, ⟨10, _⟩ => ⟨S4x512x128, .f32⟩
  | .local _ .vmem, ⟨11, _⟩ => ⟨S4x512x128, .f32⟩
  | .local _ .vmem, ⟨12, _⟩ => ⟨S4x1x512, .f32⟩
  | .local _ .vmem, ⟨13, _⟩ => ⟨S4x1x512, .f32⟩
  | .local _ .vmem, ⟨14, _⟩ => ⟨S4x1x512, .f32⟩
  | .local _ .vmem, ⟨15, _⟩ => ⟨S4x1x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S4x1x512, .f32⟩
  | .local _ .vmem, ⟨21, _⟩ => ⟨S4x1x512, .f32⟩
  | .local _ .vmem, ⟨22, _⟩ => ⟨S4x16x1x512, .f32⟩
  | .local _ .vmem, ⟨23, _⟩ => ⟨S4x16x1x512, .f32⟩
  | .local _ .vmem, ⟨24, _⟩ => ⟨S4x512x128, .f32⟩
  | .local _ .vmem, ⟨25, _⟩ => ⟨S4x512x128, .f32⟩
  | .local _ .vmem, ⟨26, _⟩ => ⟨S4x512x1, .f32⟩
  | .local _ .vmem, ⟨27, _⟩ => ⟨S4x8192x128, .f32⟩
  | .local _ .vmem, ⟨28, _⟩ => ⟨S512x128, .bf16⟩
  | .local _ .smem, ⟨0, _⟩ => ⟨S136, .i32⟩
  | .local _ .smem, ⟨1, _⟩ => ⟨S136, .i32⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53_0 : Ref sig .tc := ⟨.hbm, 65, rfl⟩
abbrev main_v53_1 : Ref sig .tc := ⟨.hbm, 66, rfl⟩
abbrev main_v53_2 : Ref sig .tc := ⟨.hbm, 67, rfl⟩
abbrev main_v53_3 : Ref sig .tc := ⟨.hbm, 68, rfl⟩
abbrev main_v53_4 : Ref sig .tc := ⟨.hbm, 69, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v4 : BitVec 32 := Scalar.muli v1 c512_i32
  v4

def k0_chk1 (v1 : BitVec 32) : Prop :=
  (512 ∣ (k0_mult1 v1).toNat)
theorem k0_mult1_dvd : ∀ (v1 : BitVec 32) (k0_hw1 : k0_chk1 v1), 512 ∣ (k0_mult1 v1).toNat := fun v1 k0_hw1 => k0_hw1

def k0_off2 (v1 : BitVec 32) : Fin 3 → Nat :=
  let c0_62 : Index := 0#32
  let c512_i32 : BitVec 32 := 512#32
  let v4 : BitVec 32 := Scalar.muli v1 c512_i32
  let v5 : BitVec 32 := v4
  let v94 : Index := Scalar.indexCast v5
  let c0_63 : Index := 0#32
  ![0, v94.toNat, 0]
def k0_cond2 (v1 : BitVec 32) (v3 : BitVec 32) : BitVec 1 :=
  let v9 : BitVec 1 := Scalar.cmpi .eq v1 v3
  let v10 : BitVec 32 := Scalar.extui v9
  let c0_i32_1 : BitVec 32 := 0#32
  let v11 : BitVec 1 := Scalar.cmpi .ne v10 c0_i32_1
  v11

def k0_off3 (v1 : BitVec 32) : Fin 4 → Nat :=
  let c0_67 : Index := 0#32
  let v105 : Index := Scalar.indexCast v1
  let c0_68 : Index := 0#32
  let c0_69 : Index := 0#32
  ![0, v105.toNat, 0, 0]
def k0_off4 (v1 : BitVec 32) : Fin 3 → Nat :=
  let c1_119 : Index := 1#32
  let c512_i32 : BitVec 32 := 512#32
  let v4 : BitVec 32 := Scalar.muli v1 c512_i32
  let v5 : BitVec 32 := v4
  let v176 : Index := Scalar.indexCast v5
  let c0_120 : Index := 0#32
  ![1, v176.toNat, 0]
def k0_off5 (v1 : BitVec 32) : Fin 4 → Nat :=
  let c1_124 : Index := 1#32
  let v187 : Index := Scalar.indexCast v1
  let c0_125 : Index := 0#32
  let c0_126 : Index := 0#32
  ![1, v187.toNat, 0, 0]
def k0_off6 (v1 : BitVec 32) : Fin 3 → Nat :=
  let c2_176 : Index := 2#32
  let c512_i32 : BitVec 32 := 512#32
  let v4 : BitVec 32 := Scalar.muli v1 c512_i32
  let v5 : BitVec 32 := v4
  let v258 : Index := Scalar.indexCast v5
  let c0_177 : Index := 0#32
  ![2, v258.toNat, 0]
def k0_off7 (v1 : BitVec 32) : Fin 4 → Nat :=
  let c2_181 : Index := 2#32
  let v269 : Index := Scalar.indexCast v1
  let c0_182 : Index := 0#32
  let c0_183 : Index := 0#32
  ![2, v269.toNat, 0, 0]
def k0_off8 (v1 : BitVec 32) : Fin 3 → Nat :=
  let c3_233 : Index := 3#32
  let c512_i32 : BitVec 32 := 512#32
  let v4 : BitVec 32 := Scalar.muli v1 c512_i32
  let v5 : BitVec 32 := v4
  let v340 : Index := Scalar.indexCast v5
  let c0_234 : Index := 0#32
  ![3, v340.toNat, 0]
def k0_off9 (v1 : BitVec 32) : Fin 4 → Nat :=
  let c3_238 : Index := 3#32
  let v351 : Index := Scalar.indexCast v1
  let c0_239 : Index := 0#32
  let c0_240 : Index := 0#32
  ![3, v351.toNat, 0, 0]
def k0_off10 (v1 : BitVec 32) : Fin 3 → Nat :=
  let c0_49 : Index := 0#32
  let c512_i32 : BitVec 32 := 512#32
  let v4 : BitVec 32 := Scalar.muli v1 c512_i32
  let v5 : BitVec 32 := v4
  let v77 : Index := Scalar.indexCast v5
  let c0_50 : Index := 0#32
  ![0, v77.toNat, 0]
def k0_cond3 (v1 : BitVec 32) (v3 : BitVec 32) : BitVec 1 :=
  let v12 : BitVec 1 := Scalar.cmpi .sgt v1 v3
  let v13 : BitVec 32 := Scalar.extui v12
  let c0_i32_2 : BitVec 32 := 0#32
  let v14 : BitVec 1 := Scalar.cmpi .ne v13 c0_i32_2
  v14

def k0_off11 (v1 : BitVec 32) : Fin 4 → Nat :=
  let c0_54 : Index := 0#32
  let v88 : Index := Scalar.indexCast v1
  let c0_55 : Index := 0#32
  let c0_56 : Index := 0#32
  ![0, v88.toNat, 0, 0]
def k0_off12 (v1 : BitVec 32) : Fin 3 → Nat :=
  let c1_105 : Index := 1#32
  let c512_i32 : BitVec 32 := 512#32
  let v4 : BitVec 32 := Scalar.muli v1 c512_i32
  let v5 : BitVec 32 := v4
  let v154 : Index := Scalar.indexCast v5
  let c0_106 : Index := 0#32
  ![1, v154.toNat, 0]
def k0_off13 (v1 : BitVec 32) : Fin 4 → Nat :=
  let c1_110 : Index := 1#32
  let v165 : Index := Scalar.indexCast v1
  let c0_111 : Index := 0#32
  let c0_112 : Index := 0#32
  ![1, v165.toNat, 0, 0]
def k0_off14 (v1 : BitVec 32) : Fin 3 → Nat :=
  let c2_161 : Index := 2#32
  let c512_i32 : BitVec 32 := 512#32
  let v4 : BitVec 32 := Scalar.muli v1 c512_i32
  let v5 : BitVec 32 := v4
  let v231 : Index := Scalar.indexCast v5
  let c0_162 : Index := 0#32
  ![2, v231.toNat, 0]
def k0_off15 (v1 : BitVec 32) : Fin 4 → Nat :=
  let c2_166 : Index := 2#32
  let v242 : Index := Scalar.indexCast v1
  let c0_167 : Index := 0#32
  let c0_168 : Index := 0#32
  ![2, v242.toNat, 0, 0]
def k0_off16 (v1 : BitVec 32) : Fin 3 → Nat :=
  let c3_217 : Index := 3#32
  let c512_i32 : BitVec 32 := 512#32
  let v4 : BitVec 32 := Scalar.muli v1 c512_i32
  let v5 : BitVec 32 := v4
  let v308 : Index := Scalar.indexCast v5
  let c0_218 : Index := 0#32
  ![3, v308.toNat, 0]
def k0_off17 (v1 : BitVec 32) : Fin 4 → Nat :=
  let c3_222 : Index := 3#32
  let v319 : Index := Scalar.indexCast v1
  let c0_223 : Index := 0#32
  let c0_224 : Index := 0#32
  ![3, v319.toNat, 0, 0]

def k0_chk2 (v1 : BitVec 32) (v3 : BitVec 32) : Prop :=
  (∀ (k0_h2 : k0_cond2 v1 v3 = 1#1), ∀ a, (k0_off2 v1) a + S1x512x128.size a ≤ S4x8192x128.size a) ∧
  (∀ (k0_h2 : k0_cond2 v1 v3 = 1#1), ∀ a, (k0_off3 v1) a + S1x1x1x512.size a ≤ S4x16x1x512.size a) ∧
  (∀ (k0_h2 : k0_cond2 v1 v3 = 1#1), ∀ a, (k0_off4 v1) a + S1x512x128.size a ≤ S4x8192x128.size a) ∧
  (∀ (k0_h2 : k0_cond2 v1 v3 = 1#1), ∀ a, (k0_off5 v1) a + S1x1x1x512.size a ≤ S4x16x1x512.size a) ∧
  (∀ (k0_h2 : k0_cond2 v1 v3 = 1#1), ∀ a, (k0_off6 v1) a + S1x512x128.size a ≤ S4x8192x128.size a) ∧
  (∀ (k0_h2 : k0_cond2 v1 v3 = 1#1), ∀ a, (k0_off7 v1) a + S1x1x1x512.size a ≤ S4x16x1x512.size a) ∧
  (∀ (k0_h2 : k0_cond2 v1 v3 = 1#1), ∀ a, (k0_off8 v1) a + S1x512x128.size a ≤ S4x8192x128.size a) ∧
  (∀ (k0_h2 : k0_cond2 v1 v3 = 1#1), ∀ a, (k0_off9 v1) a + S1x1x1x512.size a ≤ S4x16x1x512.size a) ∧
  (∀ (k0_h3 : k0_cond3 v1 v3 = 1#1), ∀ a, (k0_off10 v1) a + S1x512x128.size a ≤ S4x8192x128.size a) ∧
  (∀ (k0_h3 : k0_cond3 v1 v3 = 1#1), ∀ a, (k0_off11 v1) a + S1x1x1x512.size a ≤ S4x16x1x512.size a) ∧
  (∀ (k0_h3 : k0_cond3 v1 v3 = 1#1), ∀ a, (k0_off12 v1) a + S1x512x128.size a ≤ S4x8192x128.size a) ∧
  (∀ (k0_h3 : k0_cond3 v1 v3 = 1#1), ∀ a, (k0_off13 v1) a + S1x1x1x512.size a ≤ S4x16x1x512.size a) ∧
  (∀ (k0_h3 : k0_cond3 v1 v3 = 1#1), ∀ a, (k0_off14 v1) a + S1x512x128.size a ≤ S4x8192x128.size a) ∧
  (∀ (k0_h3 : k0_cond3 v1 v3 = 1#1), ∀ a, (k0_off15 v1) a + S1x1x1x512.size a ≤ S4x16x1x512.size a) ∧
  (∀ (k0_h3 : k0_cond3 v1 v3 = 1#1), ∀ a, (k0_off16 v1) a + S1x512x128.size a ≤ S4x8192x128.size a) ∧
  (∀ (k0_h3 : k0_cond3 v1 v3 = 1#1), ∀ a, (k0_off17 v1) a + S1x1x1x512.size a ≤ S4x16x1x512.size a)
theorem k0_off2_inb : ∀ (v1 : BitVec 32) (v3 : BitVec 32) (k0_hw2 : k0_chk2 v1 v3), ∀ (k0_h2 : k0_cond2 v1 v3 = 1#1), ∀ a, (k0_off2 v1) a + S1x512x128.size a ≤ S4x8192x128.size a := fun v1 v3 k0_hw2 k0_h2 => k0_hw2.1 k0_h2
theorem k0_off3_inb : ∀ (v1 : BitVec 32) (v3 : BitVec 32) (k0_hw2 : k0_chk2 v1 v3), ∀ (k0_h2 : k0_cond2 v1 v3 = 1#1), ∀ a, (k0_off3 v1) a + S1x1x1x512.size a ≤ S4x16x1x512.size a := fun v1 v3 k0_hw2 k0_h2 => k0_hw2.2.1 k0_h2
theorem k0_off4_inb : ∀ (v1 : BitVec 32) (v3 : BitVec 32) (k0_hw2 : k0_chk2 v1 v3), ∀ (k0_h2 : k0_cond2 v1 v3 = 1#1), ∀ a, (k0_off4 v1) a + S1x512x128.size a ≤ S4x8192x128.size a := fun v1 v3 k0_hw2 k0_h2 => k0_hw2.2.2.1 k0_h2
theorem k0_off5_inb : ∀ (v1 : BitVec 32) (v3 : BitVec 32) (k0_hw2 : k0_chk2 v1 v3), ∀ (k0_h2 : k0_cond2 v1 v3 = 1#1), ∀ a, (k0_off5 v1) a + S1x1x1x512.size a ≤ S4x16x1x512.size a := fun v1 v3 k0_hw2 k0_h2 => k0_hw2.2.2.2.1 k0_h2
theorem k0_off6_inb : ∀ (v1 : BitVec 32) (v3 : BitVec 32) (k0_hw2 : k0_chk2 v1 v3), ∀ (k0_h2 : k0_cond2 v1 v3 = 1#1), ∀ a, (k0_off6 v1) a + S1x512x128.size a ≤ S4x8192x128.size a := fun v1 v3 k0_hw2 k0_h2 => k0_hw2.2.2.2.2.1 k0_h2
theorem k0_off7_inb : ∀ (v1 : BitVec 32) (v3 : BitVec 32) (k0_hw2 : k0_chk2 v1 v3), ∀ (k0_h2 : k0_cond2 v1 v3 = 1#1), ∀ a, (k0_off7 v1) a + S1x1x1x512.size a ≤ S4x16x1x512.size a := fun v1 v3 k0_hw2 k0_h2 => k0_hw2.2.2.2.2.2.1 k0_h2
theorem k0_off8_inb : ∀ (v1 : BitVec 32) (v3 : BitVec 32) (k0_hw2 : k0_chk2 v1 v3), ∀ (k0_h2 : k0_cond2 v1 v3 = 1#1), ∀ a, (k0_off8 v1) a + S1x512x128.size a ≤ S4x8192x128.size a := fun v1 v3 k0_hw2 k0_h2 => k0_hw2.2.2.2.2.2.2.1 k0_h2
theorem k0_off9_inb : ∀ (v1 : BitVec 32) (v3 : BitVec 32) (k0_hw2 : k0_chk2 v1 v3), ∀ (k0_h2 : k0_cond2 v1 v3 = 1#1), ∀ a, (k0_off9 v1) a + S1x1x1x512.size a ≤ S4x16x1x512.size a := fun v1 v3 k0_hw2 k0_h2 => k0_hw2.2.2.2.2.2.2.2.1 k0_h2
theorem k0_off10_inb : ∀ (v1 : BitVec 32) (v3 : BitVec 32) (k0_hw2 : k0_chk2 v1 v3), ∀ (k0_h3 : k0_cond3 v1 v3 = 1#1), ∀ a, (k0_off10 v1) a + S1x512x128.size a ≤ S4x8192x128.size a := fun v1 v3 k0_hw2 k0_h3 => k0_hw2.2.2.2.2.2.2.2.2.1 k0_h3
theorem k0_off11_inb : ∀ (v1 : BitVec 32) (v3 : BitVec 32) (k0_hw2 : k0_chk2 v1 v3), ∀ (k0_h3 : k0_cond3 v1 v3 = 1#1), ∀ a, (k0_off11 v1) a + S1x1x1x512.size a ≤ S4x16x1x512.size a := fun v1 v3 k0_hw2 k0_h3 => k0_hw2.2.2.2.2.2.2.2.2.2.1 k0_h3
theorem k0_off12_inb : ∀ (v1 : BitVec 32) (v3 : BitVec 32) (k0_hw2 : k0_chk2 v1 v3), ∀ (k0_h3 : k0_cond3 v1 v3 = 1#1), ∀ a, (k0_off12 v1) a + S1x512x128.size a ≤ S4x8192x128.size a := fun v1 v3 k0_hw2 k0_h3 => k0_hw2.2.2.2.2.2.2.2.2.2.2.1 k0_h3
theorem k0_off13_inb : ∀ (v1 : BitVec 32) (v3 : BitVec 32) (k0_hw2 : k0_chk2 v1 v3), ∀ (k0_h3 : k0_cond3 v1 v3 = 1#1), ∀ a, (k0_off13 v1) a + S1x1x1x512.size a ≤ S4x16x1x512.size a := fun v1 v3 k0_hw2 k0_h3 => k0_hw2.2.2.2.2.2.2.2.2.2.2.2.1 k0_h3
theorem k0_off14_inb : ∀ (v1 : BitVec 32) (v3 : BitVec 32) (k0_hw2 : k0_chk2 v1 v3), ∀ (k0_h3 : k0_cond3 v1 v3 = 1#1), ∀ a, (k0_off14 v1) a + S1x512x128.size a ≤ S4x8192x128.size a := fun v1 v3 k0_hw2 k0_h3 => k0_hw2.2.2.2.2.2.2.2.2.2.2.2.2.1 k0_h3
theorem k0_off15_inb : ∀ (v1 : BitVec 32) (v3 : BitVec 32) (k0_hw2 : k0_chk2 v1 v3), ∀ (k0_h3 : k0_cond3 v1 v3 = 1#1), ∀ a, (k0_off15 v1) a + S1x1x1x512.size a ≤ S4x16x1x512.size a := fun v1 v3 k0_hw2 k0_h3 => k0_hw2.2.2.2.2.2.2.2.2.2.2.2.2.2.1 k0_h3
theorem k0_off16_inb : ∀ (v1 : BitVec 32) (v3 : BitVec 32) (k0_hw2 : k0_chk2 v1 v3), ∀ (k0_h3 : k0_cond3 v1 v3 = 1#1), ∀ a, (k0_off16 v1) a + S1x512x128.size a ≤ S4x8192x128.size a := fun v1 v3 k0_hw2 k0_h3 => k0_hw2.2.2.2.2.2.2.2.2.2.2.2.2.2.2.1 k0_h3
theorem k0_off17_inb : ∀ (v1 : BitVec 32) (v3 : BitVec 32) (k0_hw2 : k0_chk2 v1 v3), ∀ (k0_h3 : k0_cond3 v1 v3 = 1#1), ∀ a, (k0_off17 v1) a + S1x1x1x512.size a ≤ S4x16x1x512.size a := fun v1 v3 k0_hw2 k0_h3 => k0_hw2.2.2.2.2.2.2.2.2.2.2.2.2.2.2.2 k0_h3

def k0_cond5 (i : grid0.Coords) : BitVec 1 :=
  let arg1 : BitVec 32 := BitVec.ofNat 32 (i 1).val
  let c135_i32 : BitVec 32 := 135#32
  let v18 : BitVec 1 := Scalar.cmpi .eq arg1 c135_i32
  let v19 : BitVec 32 := Scalar.extui v18
  let c0_i32_4 : BitVec 32 := 0#32
  let v20 : BitVec 1 := Scalar.cmpi .ne v19 c0_i32_4
  v20

@[reducible] def k0_t1_loop : Scf.Loop 32 :=
  let c0_i32_6 : BitVec 32 := 0#32
  let c16_i32 : BitVec 32 := 16#32
  let v23 : BitVec 32 := Scalar.addi c0_i32_6 c16_i32
  let c1_i32 : BitVec 32 := 1#32
  ⟨c0_i32_6, v23, c1_i32⟩
def k0_mult2 (k0_t1 : Fin k0_t1_loop.trips) : BitVec 32 :=
  let c0_i32_6 : BitVec 32 := 0#32
  let c1_i32 : BitVec 32 := 1#32
  let arg23 : BitVec 32 := Scf.iv c0_i32_6 c1_i32 k0_t1
  let c512_i32_24 : BitVec 32 := 512#32
  let v33 : BitVec 32 := Scalar.muli arg23 c512_i32_24
  v33
def k0_off18 (k0_t1 : Fin k0_t1_loop.trips) : Fin 3 → Nat :=
  let c0 : Index := 0#32
  let c0_i32_6 : BitVec 32 := 0#32
  let c1_i32 : BitVec 32 := 1#32
  let arg23 : BitVec 32 := Scf.iv c0_i32_6 c1_i32 k0_t1
  let c512_i32_24 : BitVec 32 := 512#32
  let v33 : BitVec 32 := Scalar.muli arg23 c512_i32_24
  let v34 : BitVec 32 := v33
  let v35 : Index := Scalar.indexCast v34
  let c0_25 : Index := 0#32
  ![0, v35.toNat, 0]
def k0_off19 (i : grid0.Coords) (k0_t1 : Fin k0_t1_loop.trips) : Fin 3 → Nat :=
  let arg0 : BitVec 32 := BitVec.ofNat 32 (i 0).val
  let c4_i32 : BitVec 32 := 4#32
  let v21 : BitVec 32 := Scalar.muli arg0 c4_i32
  let c0_i32_5 : BitVec 32 := 0#32
  let v22 : BitVec 32 := Scalar.addi v21 c0_i32_5
  let c0_i32_6 : BitVec 32 := 0#32
  let c1_i32 : BitVec 32 := 1#32
  let arg23 : BitVec 32 := Scf.iv c0_i32_6 c1_i32 k0_t1
  let c512_i32_24 : BitVec 32 := 512#32
  let v33 : BitVec 32 := Scalar.muli arg23 c512_i32_24
  let v34 : BitVec 32 := v33
  let c0_i32_28 : BitVec 32 := 0#32
  ![v22.toNat, v34.toNat, 0]
@[reducible] def k0_t2_loop : Scf.Loop 32 :=
  let c0_i32_10 : BitVec 32 := 0#32
  let c16_i32_11 : BitVec 32 := 16#32
  let v26 : BitVec 32 := Scalar.addi c0_i32_10 c16_i32_11
  let c1_i32_12 : BitVec 32 := 1#32
  ⟨c0_i32_10, v26, c1_i32_12⟩
def k0_mult3 (k0_t2 : Fin k0_t2_loop.trips) : BitVec 32 :=
  let c0_i32_10 : BitVec 32 := 0#32
  let c1_i32_12 : BitVec 32 := 1#32
  let arg23 : BitVec 32 := Scf.iv c0_i32_10 c1_i32_12 k0_t2
  let c512_i32_24 : BitVec 32 := 512#32
  let v33 : BitVec 32 := Scalar.muli arg23 c512_i32_24
  v33
def k0_off20 (k0_t2 : Fin k0_t2_loop.trips) : Fin 3 → Nat :=
  let c1 : Index := 1#32
  let c0_i32_10 : BitVec 32 := 0#32
  let c1_i32_12 : BitVec 32 := 1#32
  let arg23 : BitVec 32 := Scf.iv c0_i32_10 c1_i32_12 k0_t2
  let c512_i32_24 : BitVec 32 := 512#32
  let v33 : BitVec 32 := Scalar.muli arg23 c512_i32_24
  let v34 : BitVec 32 := v33
  let v35 : Index := Scalar.indexCast v34
  let c0 : Index := 0#32
  ![1, v35.toNat, 0]
def k0_off21 (i : grid0.Coords) (k0_t2 : Fin k0_t2_loop.trips) : Fin 3 → Nat :=
  let arg0 : BitVec 32 := BitVec.ofNat 32 (i 0).val
  let c4_i32_8 : BitVec 32 := 4#32
  let v24 : BitVec 32 := Scalar.muli arg0 c4_i32_8
  let c1_i32_9 : BitVec 32 := 1#32
  let v25 : BitVec 32 := Scalar.addi v24 c1_i32_9
  let c0_i32_10 : BitVec 32 := 0#32
  let c1_i32_12 : BitVec 32 := 1#32
  let arg23 : BitVec 32 := Scf.iv c0_i32_10 c1_i32_12 k0_t2
  let c512_i32_24 : BitVec 32 := 512#32
  let v33 : BitVec 32 := Scalar.muli arg23 c512_i32_24
  let v34 : BitVec 32 := v33
  let c0_i32_27 : BitVec 32 := 0#32
  ![v25.toNat, v34.toNat, 0]
@[reducible] def k0_t3_loop : Scf.Loop 32 :=
  let c0_i32_15 : BitVec 32 := 0#32
  let c16_i32_16 : BitVec 32 := 16#32
  let v29 : BitVec 32 := Scalar.addi c0_i32_15 c16_i32_16
  let c1_i32_17 : BitVec 32 := 1#32
  ⟨c0_i32_15, v29, c1_i32_17⟩
def k0_mult4 (k0_t3 : Fin k0_t3_loop.trips) : BitVec 32 :=
  let c0_i32_15 : BitVec 32 := 0#32
  let c1_i32_17 : BitVec 32 := 1#32
  let arg23 : BitVec 32 := Scf.iv c0_i32_15 c1_i32_17 k0_t3
  let c512_i32_24 : BitVec 32 := 512#32
  let v33 : BitVec 32 := Scalar.muli arg23 c512_i32_24
  v33
def k0_off22 (k0_t3 : Fin k0_t3_loop.trips) : Fin 3 → Nat :=
  let c2 : Index := 2#32
  let c0_i32_15 : BitVec 32 := 0#32
  let c1_i32_17 : BitVec 32 := 1#32
  let arg23 : BitVec 32 := Scf.iv c0_i32_15 c1_i32_17 k0_t3
  let c512_i32_24 : BitVec 32 := 512#32
  let v33 : BitVec 32 := Scalar.muli arg23 c512_i32_24
  let v34 : BitVec 32 := v33
  let v35 : Index := Scalar.indexCast v34
  let c0 : Index := 0#32
  ![2, v35.toNat, 0]
def k0_off23 (i : grid0.Coords) (k0_t3 : Fin k0_t3_loop.trips) : Fin 3 → Nat :=
  let arg0 : BitVec 32 := BitVec.ofNat 32 (i 0).val
  let c4_i32_14 : BitVec 32 := 4#32
  let v27 : BitVec 32 := Scalar.muli arg0 c4_i32_14
  let c2_i32 : BitVec 32 := 2#32
  let v28 : BitVec 32 := Scalar.addi v27 c2_i32
  let c0_i32_15 : BitVec 32 := 0#32
  let c1_i32_17 : BitVec 32 := 1#32
  let arg23 : BitVec 32 := Scf.iv c0_i32_15 c1_i32_17 k0_t3
  let c512_i32_24 : BitVec 32 := 512#32
  let v33 : BitVec 32 := Scalar.muli arg23 c512_i32_24
  let v34 : BitVec 32 := v33
  let c0_i32_27 : BitVec 32 := 0#32
  ![v28.toNat, v34.toNat, 0]
@[reducible] def k0_t4_loop : Scf.Loop 32 :=
  let c0_i32_20 : BitVec 32 := 0#32
  let c16_i32_21 : BitVec 32 := 16#32
  let v32 : BitVec 32 := Scalar.addi c0_i32_20 c16_i32_21
  let c1_i32_22 : BitVec 32 := 1#32
  ⟨c0_i32_20, v32, c1_i32_22⟩
def k0_mult5 (k0_t4 : Fin k0_t4_loop.trips) : BitVec 32 :=
  let c0_i32_20 : BitVec 32 := 0#32
  let c1_i32_22 : BitVec 32 := 1#32
  let arg23 : BitVec 32 := Scf.iv c0_i32_20 c1_i32_22 k0_t4
  let c512_i32_24 : BitVec 32 := 512#32
  let v33 : BitVec 32 := Scalar.muli arg23 c512_i32_24
  v33
def k0_off24 (k0_t4 : Fin k0_t4_loop.trips) : Fin 3 → Nat :=
  let c3 : Index := 3#32
  let c0_i32_20 : BitVec 32 := 0#32
  let c1_i32_22 : BitVec 32 := 1#32
  let arg23 : BitVec 32 := Scf.iv c0_i32_20 c1_i32_22 k0_t4
  let c512_i32_24 : BitVec 32 := 512#32
  let v33 : BitVec 32 := Scalar.muli arg23 c512_i32_24
  let v34 : BitVec 32 := v33
  let v35 : Index := Scalar.indexCast v34
  let c0 : Index := 0#32
  ![3, v35.toNat, 0]
def k0_off25 (i : grid0.Coords) (k0_t4 : Fin k0_t4_loop.trips) : Fin 3 → Nat :=
  let arg0 : BitVec 32 := BitVec.ofNat 32 (i 0).val
  let c4_i32_19 : BitVec 32 := 4#32
  let v30 : BitVec 32 := Scalar.muli arg0 c4_i32_19
  let c3_i32 : BitVec 32 := 3#32
  let v31 : BitVec 32 := Scalar.addi v30 c3_i32
  let c0_i32_20 : BitVec 32 := 0#32
  let c1_i32_22 : BitVec 32 := 1#32
  let arg23 : BitVec 32 := Scf.iv c0_i32_20 c1_i32_22 k0_t4
  let c512_i32_24 : BitVec 32 := 512#32
  let v33 : BitVec 32 := Scalar.muli arg23 c512_i32_24
  let v34 : BitVec 32 := v33
  let c0_i32_27 : BitVec 32 := 0#32
  ![v31.toNat, v34.toNat, 0]
def k0_cond4 (v1 : BitVec 32) : BitVec 1 :=
  let c15_i32 : BitVec 32 := 15#32
  let v15 : BitVec 1 := Scalar.cmpi .eq v1 c15_i32
  let v16 : BitVec 32 := Scalar.extui v15
  let c0_i32_3 : BitVec 32 := 0#32
  let v17 : BitVec 1 := Scalar.cmpi .ne v16 c0_i32_3
  v17

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_0 : BitVec 32 := 0#32
  let v8 : BitVec 1 := Scalar.cmpi .ne v7 c0_i32_0
  v8

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c2_i32 : BitVec 32 := 2#32
  let v2 : BitVec 32 := Scalar.addi c2_i32 arg0
  let c0_i32 : BitVec 32 := 0#32
  ![v1.toNat, v2.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c4_i32 : BitVec 32 := 4#32
  let v2 : BitVec 32 := Scalar.addi c4_i32 arg0
  let c0_i32 : BitVec 32 := 0#32
  ![v1.toNat, v2.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_7 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_8 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x16x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "masked" => some ⊥
  | "neg_log2e" => some ((-((Real.log 2)⁻¹) : ℝ) : EReal)
  | "q_scale" => some (((Real.log 2)⁻¹ * (Real.sqrt 128)⁻¹ : ℝ) : EReal)
  | "scale" => some (((Real.sqrt 128)⁻¹ : ℝ) : EReal)
  | _ => none
-- ==== ReferenceIdeal.lean ====
abbrev S8192x7680 : Shape := ⟨2, ![8192, 7680]⟩
abbrev S8x8192 : Shape := ⟨2, ![8, 8192]⟩
abbrev S8192x1024 : Shape := ⟨2, ![8192, 1024]⟩
abbrev S8192x4608 : Shape := ⟨2, ![8192, 4608]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x16x1x512 : Shape := ⟨4, ![8, 16, 1, 512]⟩

abbrev nBuf : Space → Nat
  | .hbm => 124
  | .vmem => 0
  | .smem => 0
  | _ => 0

abbrev bufTy : (tb : Table) → Fin (tcTables nBuf tb) → BufTy
  | .hbm, ⟨0, _⟩ => ⟨S8192x7680, .f32⟩
  | .hbm, ⟨1, _⟩ => ⟨S8x8192, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x4608, .f32⟩
  | .hbm, ⟨7, _⟩ => ⟨S8192x1024, .f32⟩
  | .hbm, ⟨8, _⟩ => ⟨S8192x8x128, .f32⟩
  | .hbm, ⟨9, _⟩ => ⟨S8x8192x128, .f32⟩
  | .hbm, ⟨10, _⟩ => ⟨S8192x8x128, .f32⟩
  | .hbm, ⟨11, _⟩ => ⟨S8x8192x128, .f32⟩
  | .hbm, ⟨12, _⟩ => ⟨S8192x8x128, .f32⟩
  | .hbm, ⟨13, _⟩ => ⟨S8x8192x128, .f32⟩
  | .hbm, ⟨14, _⟩ => ⟨S8192x8x128, .f32⟩
  | .hbm, ⟨15, _⟩ => ⟨S8x8192x128, .f32⟩
  | .hbm, ⟨16, _⟩ => ⟨S8x8192x8192, .f32⟩
  | .hbm, ⟨17, _⟩ => ⟨S_, .f32⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x1x8192, .f32⟩
  | .hbm, ⟨25, _⟩ => ⟨S8x8192x8192, .f32⟩
  | .hbm, ⟨26, _⟩ => ⟨S8x8192x8192, .f32⟩
  | .hbm, ⟨27, _⟩ => ⟨S8192, .i32⟩
  | .hbm, ⟨28, _⟩ => ⟨S1x8192, .i32⟩
  | .hbm, ⟨29, _⟩ => ⟨S8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x8192, .f32⟩
  | .hbm, ⟨45, _⟩ => ⟨S8x8192x8192, .i1⟩
  | .hbm, ⟨46, _⟩ => ⟨S8x8192x8192, .f32⟩
  | .hbm, ⟨47, _⟩ => ⟨S_, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S_, .f32⟩
  | .hbm, ⟨53, _⟩ => ⟨S8x8192, .f32⟩
  | .hbm, ⟨54, _⟩ => ⟨S8x8192, .i1⟩
  | .hbm, ⟨55, _⟩ => ⟨S_, .f32⟩
  | .hbm, ⟨56, _⟩ => ⟨S8x8192, .f32⟩
  | .hbm, ⟨57, _⟩ => ⟨S8x8192, .i1⟩
  | .hbm, ⟨58, _⟩ => ⟨S_, .f32⟩
  | .hbm, ⟨59, _⟩ => ⟨S8x8192, .f32⟩
  | .hbm, ⟨60, _⟩ => ⟨S_, .f32⟩
  | .hbm, ⟨61, _⟩ => ⟨S8x8192, .f32⟩
  | .hbm, ⟨62, _⟩ => ⟨S_, .f32⟩
  | .hbm, ⟨63, _⟩ => ⟨S8x8192, .f32⟩
  | .hbm, ⟨64, _⟩ => ⟨S8x8192, .f32⟩
  | .hbm, ⟨65, _⟩ => ⟨S8x8192, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x8192, .f32⟩
  | .hbm, ⟨74, _⟩ => ⟨S8x8192x8192, .f32⟩
  | .hbm, ⟨75, _⟩ => ⟨S8x8192x1, .f32⟩
  | .hbm, ⟨76, _⟩ => ⟨S_, .f32⟩
  | .hbm, ⟨77, _⟩ => ⟨S8x8192x1, .f32⟩
  | .hbm, ⟨78, _⟩ => ⟨S8x8192x1, .f32⟩
  | .hbm, ⟨79, _⟩ => ⟨S8x8192x128, .f32⟩
  | .hbm, ⟨80, _⟩ => ⟨S8x128x8192, .f32⟩
  | .hbm, ⟨81, _⟩ => ⟨S8x8192x128, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192, .f32⟩
  | .hbm, ⟨88, _⟩ => ⟨S8x8192x1, .f32⟩
  | .hbm, ⟨89, _⟩ => ⟨S8x8192x1, .f32⟩
  | .hbm, ⟨90, _⟩ => ⟨S8x8192x8192, .f32⟩
  | .hbm, ⟨91, _⟩ => ⟨S8x8192x8192, .f32⟩
  | .hbm, ⟨92, _⟩ => ⟨S_, .f32⟩
  | .hbm, ⟨93, _⟩ => ⟨S8x8192, .f32⟩
  | .hbm, ⟨94, _⟩ => ⟨S8x8192x8192, .f32⟩
  | .hbm, ⟨95, _⟩ => ⟨S8x8192x8192, .f32⟩
  | .hbm, ⟨96, _⟩ => ⟨S8x8192x8192, .f32⟩
  | .hbm, ⟨97, _⟩ => ⟨S_, .f32⟩
  | .hbm, ⟨98, _⟩ => ⟨S8x8192x8192, .f32⟩
  | .hbm, ⟨99, _⟩ => ⟨S8x8192x8192, .f32⟩
  | .hbm, ⟨100, _⟩ => ⟨S8x8192x8192, .f32⟩
  | .hbm, ⟨101, _⟩ => ⟨S_, .f32⟩
  | .hbm, ⟨102, _⟩ => ⟨S8x8192, .f32⟩
  | .hbm, ⟨103, _⟩ => ⟨S8x1x8192, .f32⟩
  | .hbm, ⟨104, _⟩ => ⟨S_, .f32⟩
  | .hbm, ⟨105, _⟩ => ⟨S8x8192, .f32⟩
  | .hbm, ⟨106, _⟩ => ⟨S_, .f32⟩
  | .hbm, ⟨107, _⟩ => ⟨S8x8192, .f32⟩
  | .hbm, ⟨108, _⟩ => ⟨S8x8192x1, .f32⟩
  | .hbm, ⟨109, _⟩ => ⟨S_, .f32⟩
  | .hbm, ⟨110, _⟩ => ⟨S8x8192, .f32⟩
  | .hbm, ⟨111, _⟩ => ⟨S8x8192x8192, .f32⟩
  | .hbm, ⟨112, _⟩ => ⟨S8x8192x8192, .f32⟩
  | .hbm, ⟨113, _⟩ => ⟨S8x8192x128, .f32⟩
  | .hbm, ⟨114, _⟩ => ⟨S8x8192x128, .f32⟩
  | .hbm, ⟨115, _⟩ => ⟨S8192x8x128, .f32⟩
  | .hbm, ⟨116, _⟩ => ⟨S8192x1024, .f32⟩
  | .hbm, ⟨117, _⟩ => ⟨S8192x1024, .bf16⟩
  | .hbm, ⟨118, _⟩ => ⟨S8192x8x128, .f32⟩
  | .hbm, ⟨119, _⟩ => ⟨S8192x1024, .f32⟩
  | .hbm, ⟨120, _⟩ => ⟨S8192x1024, .bf16⟩
  | .hbm, ⟨121, _⟩ => ⟨S8x1x8192, .f32⟩
  | .hbm, ⟨122, _⟩ => ⟨S8x8192x128, .bf16⟩
  | .hbm, ⟨123, _⟩ => ⟨S8x16x1x512, .f32⟩
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_call0_v0 : Ref sig .tc := ⟨.hbm, 35, rfl⟩
abbrev main_v30_1 : Ref sig .tc := ⟨.hbm, 36, rfl⟩
abbrev main_call0_v2 : Ref sig .tc := ⟨.hbm, 37, rfl⟩
abbrev main_v30_0 : Ref sig .tc := ⟨.hbm, 38, rfl⟩
abbrev main_call0_cst : Ref sig .tc := ⟨.hbm, 39, rfl⟩
abbrev main_v30_2 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩

abbrev nD : Nat := 1
abbrev τ : Topo := Topo.v7x

variable {F : FTy → Type} [FloatOps F]
-- ==== Kernel2.lean ====
abbrev S8192x2048 : Shape := ⟨2, ![8192, 2048]⟩
abbrev S8192x5632 : Shape := ⟨2, ![8192, 5632]⟩
abbrev S8192x8x704 : Shape := ⟨3, ![8192, 8, 704]⟩
abbrev S8x8192x704 : Shape := ⟨3, ![8, 8192, 704]⟩
abbrev S8x2048x704 : Shape := ⟨3, ![8, 2048, 704]⟩
abbrev S1024x2048 : Shape := ⟨2, ![1024, 2048]⟩
abbrev S1x1024x704 : Shape := ⟨3, ![1, 1024, 704]⟩
abbrev S1x2048x704 : Shape := ⟨3, ![1, 2048, 704]⟩
abbrev S2048x704 : Shape := ⟨2, ![2048, 704]⟩
abbrev S1024x704 : Shape := ⟨2, ![1024, 704]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S8192x8x704, .bf16⟩
  | .hbm, ⟨4, _⟩ => ⟨S8x8192x704, .bf16⟩
  | .hbm, ⟨5, _⟩ => ⟨S8192x8x704, .bf16⟩
  | .hbm, ⟨6, _⟩ => ⟨S8x8192x704, .bf16⟩
  | .hbm, ⟨7, _⟩ => ⟨S8x2048x704, .bf16⟩
  | .hbm, ⟨8, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S2048x704, .f32⟩
  | .local _ .vmem, ⟨11, _⟩ => ⟨S2048x704, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S_, .f32⟩
  | .hbm, ⟨4, _⟩ => ⟨S2048x5632, .f32⟩
  | .hbm, ⟨5, _⟩ => ⟨S8192x2048, .f32⟩
  | .hbm, ⟨6, _⟩ => ⟨S8192x5632, .f32⟩
  | .hbm, ⟨7, _⟩ => ⟨S8192x2048, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S5632x2048, .f32⟩
  | .hbm, ⟨12, _⟩ => ⟨S2048x5632, .f32⟩
  | .hbm, ⟨13, _⟩ => ⟨S5632x2048, .f32⟩
  | .hbm, ⟨14, _⟩ => ⟨S2048x5632, .f32⟩
  | .hbm, ⟨15, _⟩ => ⟨S2048x8x704, .f32⟩
  | .hbm, ⟨16, _⟩ => ⟨S8x2048x704, .f32⟩
  | .hbm, ⟨17, _⟩ => ⟨S8x2048x704, .bf16⟩
  | .hbm, ⟨18, _⟩ => ⟨S2048x8x704, .f32⟩
  | .hbm, ⟨19, _⟩ => ⟨S8x2048x704, .f32⟩
  | .hbm, ⟨20, _⟩ => ⟨S8x2048x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel3.lean ====
abbrev S8192x5632 : Shape := ⟨2, ![8192, 5632]⟩
abbrev S2048x5632 : Shape := ⟨2, ![2048, 5632]⟩
abbrev S8192x8x704 : Shape := ⟨3, ![8192, 8, 704]⟩
abbrev S8x8192x704 : Shape := ⟨3, ![8, 8192, 704]⟩
abbrev S2048x8x704 : Shape := ⟨3, ![2048, 8, 704]⟩
abbrev S8x2048x704 : Shape := ⟨3, ![8, 2048, 704]⟩
abbrev S8x1x2048x704 : Shape := ⟨4, ![8, 1, 2048, 704]⟩
abbrev S8192x2048 : Shape := ⟨2, ![8192, 2048]⟩
abbrev S1x1024x704 : Shape := ⟨3, ![1, 1024, 704]⟩
abbrev S1x1x2048x704 : Shape := ⟨4, ![1, 1, 2048, 704]⟩
abbrev S1024x2048 : Shape := ⟨2, ![1024, 2048]⟩
abbrev S1024x704 : Shape := ⟨2, ![1024, 704]⟩
abbrev S2048x704 : Shape := ⟨2, ![2048, 704]⟩

abbrev nBuf : Space → Nat
  | .hbm => 15
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x5632, .bf16⟩
  | .hbm, ⟨3, _⟩ => ⟨S2048x5632, .bf16⟩
  | .hbm, ⟨4, _⟩ => ⟨S8192x8x704, .bf16⟩
  | .hbm, ⟨5, _⟩ => ⟨S8x8192x704, .bf16⟩
  | .hbm, ⟨6, _⟩ => ⟨S8192x8x704, .bf16⟩
  | .hbm, ⟨7, _⟩ => ⟨S8x8192x704, .bf16⟩
  | .hbm, ⟨8, _⟩ => ⟨S2048x8x704, .bf16⟩
  | .hbm, ⟨9, _⟩ => ⟨S8x2048x704, .bf16⟩
  | .hbm, ⟨10, _⟩ => ⟨S8x1x2048x704, .bf16⟩
  | .hbm, ⟨11, _⟩ => ⟨S2048x8x704, .bf16⟩
  | .hbm, ⟨12, _⟩ => ⟨S8x2048x704, .bf16⟩
  | .hbm, ⟨13, _⟩ => ⟨S8x1x2048x704, .bf16⟩
  | .hbm, ⟨14, _⟩ => ⟨S8192x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x2048x704, .bf16⟩
  | .local _ .vmem, ⟨5, _⟩ => ⟨S1x1x2048x704, .bf16⟩
  | .local _ .vmem, ⟨6, _⟩ => ⟨S1x1x2048x704, .bf16⟩
  | .local _ .vmem, ⟨7, _⟩ => ⟨S1x1x2048x704, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_19 : BitVec 32 := 0#32
  let v21 : BitVec 1 := Scalar.cmpi .ne v20 c0_i32_19
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S8192x2048, .f32⟩
  | .hbm, ⟨6, _⟩ => ⟨S2048x5632, .f32⟩
  | .hbm, ⟨7, _⟩ => ⟨S8192x5632, .f32⟩
  | .hbm, ⟨8, _⟩ => ⟨S2048x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x2048, .f32⟩
  | .hbm, ⟨13, _⟩ => ⟨S8192x2048, .f32⟩
  | .hbm, ⟨14, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩
abbrev S8x1x704x2048 : Shape := ⟨4, ![8, 1, 704, 2048]⟩
abbrev S8192x8x704 : Shape := ⟨3, ![8192, 8, 704]⟩
abbrev S8x8192x704 : Shape := ⟨3, ![8, 8192, 704]⟩
abbrev S8x704x2048 : Shape := ⟨3, ![8, 704, 2048]⟩
abbrev S1024x2048 : Shape := ⟨2, ![1024, 2048]⟩
abbrev S1x1x704x2048 : Shape := ⟨4, ![1, 1, 704, 2048]⟩
abbrev S1x1024x704 : Shape := ⟨3, ![1, 1024, 704]⟩
abbrev S1x704x2048 : Shape := ⟨3, ![1, 704, 2048]⟩
abbrev S704x2048 : Shape := ⟨2, ![704, 2048]⟩
abbrev S1024x704 : Shape := ⟨2, ![1024, 704]⟩

abbrev nBuf : Space → Nat
  | .hbm => 27
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | .hbm, ⟨17, _⟩ => ⟨S8x1x704x2048, .bf16⟩
  | .hbm, ⟨18, _⟩ => ⟨S8192x8x704, .bf16⟩
  | .hbm, ⟨19, _⟩ => ⟨S8x8192x704, .bf16⟩
  | .hbm, ⟨20, _⟩ => ⟨S8192x8x704, .bf16⟩
  | .hbm, ⟨21, _⟩ => ⟨S8x8192x704, .bf16⟩
  | .hbm, ⟨22, _⟩ => ⟨S8192x8x704, .bf16⟩
  | .hbm, ⟨23, _⟩ => ⟨S8x8192x704, .bf16⟩
  | .hbm, ⟨24, _⟩ => ⟨S8x8192x704, .bf16⟩
  | .hbm, ⟨25, _⟩ => ⟨S8x8192x704, .bf16⟩
  | .hbm, ⟨26, _⟩ => ⟨S8x704x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x704x2048, .bf16⟩
  | .local _ .vmem, ⟨3, _⟩ => ⟨S1x1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x704x2048, .bf16⟩
  | .local _ .vmem, ⟨15, _⟩ => ⟨S1x704x2048, .bf16⟩
  | .local _ .vmem, ⟨16, _⟩ => ⟨S704x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_31 : BitVec 32 := 0#32
  let v48 : BitVec 1 := Scalar.cmpi .ne v47 c0_i32_31
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩
abbrev S2048x5632 : Shape := ⟨2, ![2048, 5632]⟩
abbrev S8192x8x704 : Shape := ⟨3, ![8192, 8, 704]⟩
abbrev S8x8192x704 : Shape := ⟨3, ![8, 8192, 704]⟩
abbrev S8x704x2048 : Shape := ⟨3, ![8, 704, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S5632x2048, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S8192x2048, .f32⟩
  | .hbm, ⟨23, _⟩ => ⟨S2048x5632, .f32⟩
  | .hbm, ⟨24, _⟩ => ⟨S5632x2048, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x8x704, .f32⟩
  | .hbm, ⟨33, _⟩ => ⟨S8x8192x704, .f32⟩
  | .hbm, ⟨34, _⟩ => ⟨S8x8192x704, .bf16⟩
  | .hbm, ⟨35, _⟩ => ⟨S8192x8x704, .f32⟩
  | .hbm, ⟨36, _⟩ => ⟨S8x8192x704, .f32⟩
  | .hbm, ⟨37, _⟩ => ⟨S8x8192x704, .bf16⟩
  | .hbm, ⟨38, _⟩ => ⟨S8x704x2048, .f32⟩
  | .hbm, ⟨39, _⟩ => ⟨S8x704x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel5.lean ====
abbrev S8192x7680 : Shape := ⟨2, ![8192, 7680]⟩
abbrev S2048x7680 : Shape := ⟨2, ![2048, 7680]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x7680, .bf16⟩
  | .hbm, ⟨1, _⟩ => ⟨S2048x7680, .bf16⟩
  | .hbm, ⟨2, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x7680 : Shape := ⟨2, ![8192, 7680]⟩
abbrev S2048x7680 : Shape := ⟨2, ![2048, 7680]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x7680, .bf16⟩
  | .hbm, ⟨1, _⟩ => ⟨S2048x7680, .bf16⟩
  | .hbm, ⟨2, _⟩ => ⟨S_, .f32⟩
  | .hbm, ⟨3, _⟩ => ⟨S8192x2048, .f32⟩
  | .hbm, ⟨4, _⟩ => ⟨S2048x7680, .f32⟩
  | .hbm, ⟨5, _⟩ => ⟨S8192x7680, .f32⟩
  | .hbm, ⟨6, _⟩ => ⟨S8192x7680, .f32⟩
  | .hbm, ⟨7, _⟩ => ⟨S8192x2048, .f32⟩
  | _, _ => ⟨S8192x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S8192x7680 : Shape := ⟨2, ![8192, 7680]⟩
abbrev S2048x7680 : Shape := ⟨2, ![2048, 7680]⟩
abbrev S1024x2048 : Shape := ⟨2, ![1024, 2048]⟩
abbrev S1024x1536 : Shape := ⟨2, ![1024, 1536]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x7680, .bf16⟩
  | .hbm, ⟨2, _⟩ => ⟨S2048x7680, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .bf16⟩
  | .local _ .vmem, ⟨5, _⟩ => ⟨S2048x1536, .bf16⟩
  | .local _ .vmem, ⟨6, _⟩ => ⟨S2048x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x7680 : Shape := ⟨2, ![8192, 7680]⟩
abbrev S_ : Shape := ⟨0, ![]⟩
abbrev S2048x7680 : Shape := ⟨2, ![2048, 7680]⟩
abbrev S7680x2048 : Shape := ⟨2, ![7680, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x7680, .bf16⟩
  | .hbm, ⟨2, _⟩ => ⟨S_, .f32⟩
  | .hbm, ⟨3, _⟩ => ⟨S2048x7680, .f32⟩
  | .hbm, ⟨4, _⟩ => ⟨S8192x2048, .f32⟩
  | .hbm, ⟨5, _⟩ => ⟨S8192x7680, .f32⟩
  | .hbm, ⟨6, _⟩ => ⟨S8192x7680, .f32⟩
  | .hbm, ⟨7, _⟩ => ⟨S7680x2048, .f32⟩
  | .hbm, ⟨8, _⟩ => ⟨S2048x7680, .f32⟩
  | .hbm, ⟨9, _⟩ => ⟨S2048x7680, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x2048 : Shape := ⟨2, ![8192, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S8x1x2048x704 : Shape := ⟨4, ![8, 1, 2048, 704]⟩
abbrev S8x8192x704 : Shape := ⟨3, ![8, 8192, 704]⟩
abbrev S1024x2048 : Shape := ⟨2, ![1024, 2048]⟩
abbrev S1x1x2048x704 : Shape := ⟨4, ![1, 1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 12
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S2048x8x704, .bf16⟩
  | .hbm, ⟨4, _⟩ => ⟨S8x2048x704, .bf16⟩
  | .hbm, ⟨5, _⟩ => ⟨S8x1x2048x704, .bf16⟩
  | .hbm, ⟨6, _⟩ => ⟨S2048x8x704, .bf16⟩
  | .hbm, ⟨7, _⟩ => ⟨S8x2048x704, .bf16⟩
  | .hbm, ⟨8, _⟩ => ⟨S8x1x2048x704, .bf16⟩
  | .hbm, ⟨9, _⟩ => ⟨S8x8192x704, .bf16⟩
  | .hbm, ⟨10, _⟩ => ⟨S8x8192x704, .bf16⟩
  | .hbm, ⟨11, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x704, .bf16⟩
  | .local _ .vmem, ⟨3, _⟩ => ⟨S1x1x2048x704, .bf16⟩
  | .local _ .vmem, ⟨4, _⟩ => ⟨S1x1x2048x704, .bf16⟩
  | .local _ .vmem, ⟨5, _⟩ => ⟨S1x1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8192x2048 : Shape := ⟨2, ![8192, 2048]⟩
abbrev S2048x5632 : Shape := ⟨2, ![2048, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S8192x8x704, .f32⟩
  | .hbm, ⟨10, _⟩ => ⟨S8x8192x704, .f32⟩
  | .hbm, ⟨11, _⟩ => ⟨S8x8192x704, .bf16⟩
  | .hbm, ⟨12, _⟩ => ⟨S8192x8x704, .f32⟩
  | .hbm, ⟨13, _⟩ => ⟨S8x8192x704, .f32⟩
  | .hbm, ⟨14, _⟩ => ⟨S8x8192x704, .bf16⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x8x704, .f32⟩
  | .hbm, ⟨26, _⟩ => ⟨S8x8192x704, .f32⟩
  | .hbm, ⟨27, _⟩ => ⟨S8x8192x704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Kernel10.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S8192x8x704 : Shape := ⟨3, ![8192, 8, 704]⟩
abbrev S8x8192x704 : Shape := ⟨3, ![8, 8192, 704]⟩
abbrev S8x1x704x2048 : Shape := ⟨4, ![8, 1, 704, 2048]⟩
abbrev S1x1024x704 : Shape := ⟨3, ![1, 1024, 704]⟩
abbrev S1x1x704x2048 : Shape := ⟨4, ![1, 1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x8x704, .bf16⟩
  | .hbm, ⟨5, _⟩ => ⟨S8x8192x704, .bf16⟩
  | .hbm, ⟨6, _⟩ => ⟨S8x1x704x2048, .bf16⟩
  | .hbm, ⟨7, _⟩ => ⟨S8192x2048, .bf16⟩
  | .hbm, ⟨8, _⟩ => ⟨S8192x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x704x2048, .bf16⟩
  | .local _ .vmem, ⟨3, _⟩ => ⟨S1x1x704x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference10Ideal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .bf16⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel11.lean ====
abbrev S8192x2048 : Shape := ⟨2, ![8192, 2048]⟩
abbrev S2048x7680 : Shape := ⟨2, ![2048, 7680]⟩
abbrev S8192x7680 : Shape := ⟨2, ![8192, 7680]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x7680, .bf16⟩
  | .hbm, ⟨2, _⟩ => ⟨S8192x7680, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x7680 : Shape := ⟨2, ![2048, 7680]⟩
abbrev S8192x7680 : Shape := ⟨2, ![8192, 7680]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7680, .bf16⟩
  | .hbm, ⟨2, _⟩ => ⟨S8192x2048, .f32⟩
  | .hbm, ⟨3, _⟩ => ⟨S2048x7680, .f32⟩
  | .hbm, ⟨4, _⟩ => ⟨S8192x7680, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel13.lean ====
abbrev S8192x2048 : Shape := ⟨2, ![8192, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S8192x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference13Ideal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel14.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference14Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel15.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel16.lean ====
abbrev S8192x2048 : Shape := ⟨2, ![8192, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x128, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x128, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference16Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel17.lean ====
abbrev S8x2048x899 : Shape := ⟨3, ![8, 2048, 899]⟩
abbrev S2048x899 : Shape := ⟨2, ![2048, 899]⟩
abbrev S8x128x899 : Shape := ⟨3, ![8, 128, 899]⟩
abbrev S128x899 : Shape := ⟨2, ![128, 899]⟩
abbrev S1x128x899 : Shape := ⟨3, ![1, 128, 899]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x899, .bf16⟩
  | .hbm, ⟨1, _⟩ => ⟨S2048x899, .f32⟩
  | .hbm, ⟨2, _⟩ => ⟨S2048x899, .f32⟩
  | .hbm, ⟨3, _⟩ => ⟨S2048x899, .f32⟩
  | .hbm, ⟨4, _⟩ => ⟨S2048x899, .f32⟩
  | .hbm, ⟨5, _⟩ => ⟨S2048x899, .f32⟩
  | .hbm, ⟨6, _⟩ => ⟨S2048x899, .f32⟩
  | .hbm, ⟨7, _⟩ => ⟨S2048x899, .f32⟩
  | .local _ .vmem, ⟨0, _⟩ => ⟨S8x128x899, .bf16⟩
  | .local _ .vmem, ⟨1, _⟩ => ⟨S8x128x899, .bf16⟩
  | .local _ .vmem, ⟨2, _⟩ => ⟨S128x899, .f32⟩
  | .local _ .vmem, ⟨3, _⟩ => ⟨S128x899, .f32⟩
  | .local _ .vmem, ⟨4, _⟩ => ⟨S128x899, .f32⟩
  | .local _ .vmem, ⟨5, _⟩ => ⟨S128x899, .f32⟩
  | .local _ .vmem, ⟨6, _⟩ => ⟨S128x899, .f32⟩
  | .local _ .vmem, ⟨7, _⟩ => ⟨S128x899, .f32⟩
  | .local _ .vmem, ⟨8, _⟩ => ⟨S128x899, .f32⟩
  | .local _ .vmem, ⟨9, _⟩ => ⟨S128x899, .f32⟩
  | .local _ .vmem, ⟨10, _⟩ => ⟨S128x899, .f32⟩
  | .local _ .vmem, ⟨11, _⟩ => ⟨S128x899, .f32⟩
  | .local _ .vmem, ⟨12, _⟩ => ⟨S128x899, .f32⟩
  | .local _ .vmem, ⟨13, _⟩ => ⟨S128x899, .f32⟩
  | .local _ .vmem, ⟨14, _⟩ => ⟨S128x899, .f32⟩
  | .local _ .vmem, ⟨15, _⟩ => ⟨S128x899, .f32⟩
  | _, _ => ⟨S8x2048x899, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x899 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x899 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x899 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x899 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x899 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x899 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x899 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x899 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8x2048x899 : Shape := ⟨3, ![8, 2048, 899]⟩
abbrev S2048x899 : Shape := ⟨2, ![2048, 899]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x899, .bf16⟩
  | .hbm, ⟨1, _⟩ => ⟨S2048x899, .f32⟩
  | .hbm, ⟨2, _⟩ => ⟨S2048x899, .f32⟩
  | .hbm, ⟨3, _⟩ => ⟨S2048x899, .f32⟩
  | .hbm, ⟨4, _⟩ => ⟨S8x2048x899, .f32⟩
  | .hbm, ⟨5, _⟩ => ⟨S_, .f32⟩
  | .hbm, ⟨6, _⟩ => ⟨S2048x899, .f32⟩
  | .hbm, ⟨7, _⟩ => ⟨S_, .f32⟩
  | .hbm, ⟨8, _⟩ => ⟨S2048x899, .f32⟩
  | .hbm, ⟨9, _⟩ => ⟨S2048x899, .f32⟩
  | .hbm, ⟨10, _⟩ => ⟨S_, .f32⟩
  | .hbm, ⟨11, _⟩ => ⟨S2048x899, .f32⟩
  | .hbm, ⟨12, _⟩ => ⟨S2048x899, .f32⟩
  | .hbm, ⟨13, _⟩ => ⟨S2048x899, .f32⟩
  | .hbm, ⟨14, _⟩ => ⟨S_, .f32⟩
  | .hbm, ⟨15, _⟩ => ⟨S2048x899, .f32⟩
  | .hbm, ⟨16, _⟩ => ⟨S2048x899, .f32⟩
  | .hbm, ⟨17, _⟩ => ⟨S2048x899, .f32⟩
  | .hbm, ⟨18, _⟩ => ⟨S_, .f32⟩
  | .hbm, ⟨19, _⟩ => ⟨S2048x899, .f32⟩
  | .hbm, ⟨20, _⟩ => ⟨S2048x899, .f32⟩
  | .hbm, ⟨21, _⟩ => ⟨S2048x899, .f32⟩
  | .hbm, ⟨22, _⟩ => ⟨S_, .f32⟩
  | .hbm, ⟨23, _⟩ => ⟨S2048x899, .f32⟩
  | .hbm, ⟨24, _⟩ => ⟨S2048x899, .f32⟩
  | .hbm, ⟨25, _⟩ => ⟨S_, .f32⟩
  | .hbm, ⟨26, _⟩ => ⟨S2048x899, .f32⟩
  | .hbm, ⟨27, _⟩ => ⟨S2048x899, .f32⟩
  | .hbm, ⟨28, _⟩ => ⟨S2048x899, .f32⟩
  | .hbm, ⟨29, _⟩ => ⟨S_, .f32⟩
  | .hbm, ⟨30, _⟩ => ⟨S2048x899, .f32⟩
  | .hbm, ⟨31, _⟩ => ⟨S2048x899, .f32⟩
  | .hbm, ⟨32, _⟩ => ⟨S2048x899, .f32⟩
  | .hbm, ⟨33, _⟩ => ⟨S_, .f32⟩
  | .hbm, ⟨34, _⟩ => ⟨S2048x899, .f32⟩
  | .hbm, ⟨35, _⟩ => ⟨S2048x899, .f32⟩
  | .hbm, ⟨36, _⟩ => ⟨S2048x899, .f32⟩
  | .hbm, ⟨37, _⟩ => ⟨S_, .f32⟩
  | .hbm, ⟨38, _⟩ => ⟨S2048x899, .f32⟩
  | .hbm, ⟨39, _⟩ => ⟨S2048x899, .f32⟩
  | _, _ => ⟨S8x2048x899, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x256x2048 : Shape := ⟨3, ![8, 256, 2048]⟩
abbrev S256x2048 : Shape := ⟨2, ![256, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S1x2048x2304 : Shape := ⟨3, ![1, 2048, 2304]⟩
abbrev S2048x2304 : Shape := ⟨2, ![2048, 2304]⟩
abbrev S1x256x2304 : Shape := ⟨3, ![1, 256, 2304]⟩
abbrev S256x2304 : Shape := ⟨2, ![256, 2304]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .local _ .vmem, ⟨0, _⟩ => ⟨S1x256x2304, .f32⟩
  | .local _ .vmem, ⟨1, _⟩ => ⟨S1x256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | .local _ .vmem, ⟨14, _⟩ => ⟨S256x2304, .f32⟩
  | .local _ .vmem, ⟨15, _⟩ => ⟨S256x2304, .f32⟩
  | _, _ => ⟨S1x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S1x2048x2304 : Shape := ⟨3, ![1, 2048, 2304]⟩
abbrev S2048x2304 : Shape := ⟨2, ![2048, 2304]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S_, .f32⟩
  | .hbm, ⟨5, _⟩ => ⟨S2048x2304, .f32⟩
  | .hbm, ⟨6, _⟩ => ⟨S_, .f32⟩
  | .hbm, ⟨7, _⟩ => ⟨S2048x2304, .f32⟩
  | .hbm, ⟨8, _⟩ => ⟨S2048x2304, .f32⟩
  | .hbm, ⟨9, _⟩ => ⟨S_, .f32⟩
  | .hbm, ⟨10, _⟩ => ⟨S2048x2304, .f32⟩
  | .hbm, ⟨11, _⟩ => ⟨S2048x2304, .f32⟩
  | .hbm, ⟨12, _⟩ => ⟨S2048x2304, .f32⟩
  | .hbm, ⟨13, _⟩ => ⟨S_, .f32⟩
  | .hbm, ⟨14, _⟩ => ⟨S2048x2304, .f32⟩
  | .hbm, ⟨15, _⟩ => ⟨S2048x2304, .f32⟩
  | .hbm, ⟨16, _⟩ => ⟨S2048x2304, .f32⟩
  | .hbm, ⟨17, _⟩ => ⟨S_, .f32⟩
  | .hbm, ⟨18, _⟩ => ⟨S2048x2304, .f32⟩
  | .hbm, ⟨19, _⟩ => ⟨S2048x2304, .f32⟩
  | .hbm, ⟨20, _⟩ => ⟨S2048x2304, .f32⟩
  | .hbm, ⟨21, _⟩ => ⟨S_, .f32⟩
  | .hbm, ⟨22, _⟩ => ⟨S2048x2304, .f32⟩
  | .hbm, ⟨23, _⟩ => ⟨S2048x2304, .f32⟩
  | .hbm, ⟨24, _⟩ => ⟨S_, .f32⟩
  | .hbm, ⟨25, _⟩ => ⟨S2048x2304, .f32⟩
  | .hbm, ⟨26, _⟩ => ⟨S2048x2304, .f32⟩
  | .hbm, ⟨27, _⟩ => ⟨S2048x2304, .f32⟩
  | .hbm, ⟨28, _⟩ => ⟨S_, .f32⟩
  | .hbm, ⟨29, _⟩ => ⟨S2048x2304, .f32⟩
  | .hbm, ⟨30, _⟩ => ⟨S2048x2304, .f32⟩
  | .hbm, ⟨31, _⟩ => ⟨S2048x2304, .f32⟩
  | .hbm, ⟨32, _⟩ => ⟨S_, .f32⟩
  | .hbm, ⟨33, _⟩ => ⟨S2048x2304, .f32⟩
  | .hbm, ⟨34, _⟩ => ⟨S2048x2304, .f32⟩
  | .hbm, ⟨35, _⟩ => ⟨S2048x2304, .f32⟩
  | .hbm, ⟨36, _⟩ => ⟨S_, .f32⟩
  | .hbm, ⟨37, _⟩ => ⟨S2048x2304, .f32⟩
  | .hbm, ⟨38, _⟩ => ⟨S2048x2304, .f32⟩
  | _, _ => ⟨S1x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S8x1x18432 : Shape := ⟨3, ![8, 1, 18432]⟩
abbrev S1x18432 : Shape := ⟨2, ![1, 18432]⟩
abbrev S1x1x18432 : Shape := ⟨3, ![1, 1, 18432]⟩

abbrev nBuf : Space → Nat
  | .hbm => 8
  | .vmem => 8
  | .smem => 0
  | _ => 0

abbrev bufTy : (tb : Table) → Fin (tcTables nBuf tb) → BufTy
  | .hbm, ⟨0, _⟩ => ⟨S8x1x18432, .f32⟩
  | .hbm, ⟨1, _⟩ => ⟨S1x18432, .f32⟩
  | .hbm, ⟨2, _⟩ => ⟨S1x18432, .f32⟩
  | .hbm, ⟨3, _⟩ => ⟨S1x18432, .f32⟩
  | .hbm, ⟨4, _⟩ => ⟨S1x18432, .f32⟩
  | .hbm, ⟨5, _⟩ => ⟨S1x18432, .f32⟩
  | .hbm, ⟨6, _⟩ => ⟨S1x18432, .f32⟩
  | .hbm, ⟨7, _⟩ => ⟨S1x18432, .f32⟩
  | .local _ .vmem, ⟨0, _⟩ => ⟨S8x1x18432, .f32⟩
  | .local _ .vmem, ⟨1, _⟩ => ⟨S1x18432, .f32⟩
  | .local _ .vmem, ⟨2, _⟩ => ⟨S1x18432, .f32⟩
  | .local _ .vmem, ⟨3, _⟩ => ⟨S1x18432, .f32⟩
  | .local _ .vmem, ⟨4, _⟩ => ⟨S1x18432, .f32⟩
  | .local _ .vmem, ⟨5, _⟩ => ⟨S1x18432, .f32⟩
  | .local _ .vmem, ⟨6, _⟩ => ⟨S1x18432, .f32⟩
  | .local _ .vmem, ⟨7, _⟩ => ⟨S1x18432, .f32⟩
  | _, _ => ⟨S8x1x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x18432 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x18432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x1x18432 : Shape := ⟨3, ![8, 1, 18432]⟩
abbrev S1x18432 : Shape := ⟨2, ![1, 18432]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x18432, .f32⟩
  | .hbm, ⟨1, _⟩ => ⟨S1x18432, .f32⟩
  | .hbm, ⟨2, _⟩ => ⟨S1x18432, .f32⟩
  | .hbm, ⟨3, _⟩ => ⟨S1x18432, .f32⟩
  | .hbm, ⟨4, _⟩ => ⟨S_, .f32⟩
  | .hbm, ⟨5, _⟩ => ⟨S1x18432, .f32⟩
  | .hbm, ⟨6, _⟩ => ⟨S_, .f32⟩
  | .hbm, ⟨7, _⟩ => ⟨S1x18432, .f32⟩
  | .hbm, ⟨8, _⟩ => ⟨S1x18432, .f32⟩
  | .hbm, ⟨9, _⟩ => ⟨S_, .f32⟩
  | .hbm, ⟨10, _⟩ => ⟨S1x18432, .f32⟩
  | .hbm, ⟨11, _⟩ => ⟨S1x18432, .f32⟩
  | .hbm, ⟨12, _⟩ => ⟨S1x18432, .f32⟩
  | .hbm, ⟨13, _⟩ => ⟨S_, .f32⟩
  | .hbm, ⟨14, _⟩ => ⟨S1x18432, .f32⟩
  | .hbm, ⟨15, _⟩ => ⟨S1x18432, .f32⟩
  | .hbm, ⟨16, _⟩ => ⟨S1x18432, .f32⟩
  | .hbm, ⟨17, _⟩ => ⟨S_, .f32⟩
  | .hbm, ⟨18, _⟩ => ⟨S1x18432, .f32⟩
  | .hbm, ⟨19, _⟩ => ⟨S1x18432, .f32⟩
  | .hbm, ⟨20, _⟩ => ⟨S1x18432, .f32⟩
  | .hbm, ⟨21, _⟩ => ⟨S_, .f32⟩
  | .hbm, ⟨22, _⟩ => ⟨S1x18432, .f32⟩
  | .hbm, ⟨23, _⟩ => ⟨S1x18432, .f32⟩
  | .hbm, ⟨24, _⟩ => ⟨S_, .f32⟩
  | .hbm, ⟨25, _⟩ => ⟨S1x18432, .f32⟩
  | .hbm, ⟨26, _⟩ => ⟨S1x18432, .f32⟩
  | .hbm, ⟨27, _⟩ => ⟨S1x18432, .f32⟩
  | .hbm, ⟨28, _⟩ => ⟨S_, .f32⟩
  | .hbm, ⟨29, _⟩ => ⟨S1x18432, .f32⟩
  | .hbm, ⟨30, _⟩ => ⟨S1x18432, .f32⟩
  | .hbm, ⟨31, _⟩ => ⟨S1x18432, .f32⟩
  | .hbm, ⟨32, _⟩ => ⟨S_, .f32⟩
  | .hbm, ⟨33, _⟩ => ⟨S1x18432, .f32⟩
  | .hbm, ⟨34, _⟩ => ⟨S1x18432, .f32⟩
  | .hbm, ⟨35, _⟩ => ⟨S1x18432, .f32⟩
  | .hbm, ⟨36, _⟩ => ⟨S_, .f32⟩
  | .hbm, ⟨37, _⟩ => ⟨S1x18432, .f32⟩
  | .hbm, ⟨38, _⟩ => ⟨S1x18432, .f32⟩
  | _, _ => ⟨S8x1x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x3x256 : Shape := ⟨3, ![8, 3, 256]⟩
abbrev S3x256 : Shape := ⟨2, ![3, 256]⟩
abbrev S1x3x256 : Shape := ⟨3, ![1, 3, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .hbm, ⟨7, _⟩ => ⟨S3x256, .f32⟩
  | .local _ .vmem, ⟨0, _⟩ => ⟨S8x3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | _, _ => ⟨S8x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x3x256 : Shape := ⟨3, ![8, 3, 256]⟩
abbrev S3x256 : Shape := ⟨2, ![3, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S_, .f32⟩
  | .hbm, ⟨7, _⟩ => ⟨S3x256, .f32⟩
  | .hbm, ⟨8, _⟩ => ⟨S3x256, .f32⟩
  | .hbm, ⟨9, _⟩ => ⟨S_, .f32⟩
  | .hbm, ⟨10, _⟩ => ⟨S3x256, .f32⟩
  | .hbm, ⟨11, _⟩ => ⟨S3x256, .f32⟩
  | .hbm, ⟨12, _⟩ => ⟨S3x256, .f32⟩
  | .hbm, ⟨13, _⟩ => ⟨S_, .f32⟩
  | .hbm, ⟨14, _⟩ => ⟨S3x256, .f32⟩
  | .hbm, ⟨15, _⟩ => ⟨S3x256, .f32⟩
  | .hbm, ⟨16, _⟩ => ⟨S3x256, .f32⟩
  | .hbm, ⟨17, _⟩ => ⟨S_, .f32⟩
  | .hbm, ⟨18, _⟩ => ⟨S3x256, .f32⟩
  | .hbm, ⟨19, _⟩ => ⟨S3x256, .f32⟩
  | .hbm, ⟨20, _⟩ => ⟨S3x256, .f32⟩
  | .hbm, ⟨21, _⟩ => ⟨S_, .f32⟩
  | .hbm, ⟨22, _⟩ => ⟨S3x256, .f32⟩
  | .hbm, ⟨23, _⟩ => ⟨S3x256, .f32⟩
  | .hbm, ⟨24, _⟩ => ⟨S_, .f32⟩
  | .hbm, ⟨25, _⟩ => ⟨S3x256, .f32⟩
  | .hbm, ⟨26, _⟩ => ⟨S3x256, .f32⟩
  | .hbm, ⟨27, _⟩ => ⟨S3x256, .f32⟩
  | .hbm, ⟨28, _⟩ => ⟨S_, .f32⟩
  | .hbm, ⟨29, _⟩ => ⟨S3x256, .f32⟩
  | .hbm, ⟨30, _⟩ => ⟨S3x256, .f32⟩
  | .hbm, ⟨31, _⟩ => ⟨S3x256, .f32⟩
  | .hbm, ⟨32, _⟩ => ⟨S_, .f32⟩
  | .hbm, ⟨33, _⟩ => ⟨S3x256, .f32⟩
  | .hbm, ⟨34, _⟩ => ⟨S3x256, .f32⟩
  | .hbm, ⟨35, _⟩ => ⟨S3x256, .f32⟩
  | .hbm, ⟨36, _⟩ => ⟨S_, .f32⟩
  | .hbm, ⟨37, _⟩ => ⟨S3x256, .f32⟩
  | .hbm, ⟨38, _⟩ => ⟨S3x256, .f32⟩
  | _, _ => ⟨S8x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S8x4x384 : Shape := ⟨3, ![8, 4, 384]⟩
abbrev S4x384 : Shape := ⟨2, ![4, 384]⟩
abbrev S1x4x384 : Shape := ⟨3, ![1, 4, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S8x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x4x384 : Shape := ⟨3, ![8, 4, 384]⟩
abbrev S4x384 : Shape := ⟨2, ![4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S_, .f32⟩
  | .hbm, ⟨7, _⟩ => ⟨S4x384, .f32⟩
  | .hbm, ⟨8, _⟩ => ⟨S4x384, .f32⟩
  | .hbm, ⟨9, _⟩ => ⟨S_, .f32⟩
  | .hbm, ⟨10, _⟩ => ⟨S4x384, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | _, _ => ⟨S8x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S8x1x2688 : Shape := ⟨3, ![8, 1, 2688]⟩
abbrev S1x2688 : Shape := ⟨2, ![1, 2688]⟩
abbrev S1x1x2688 : Shape := ⟨3, ![1, 1, 2688]⟩

abbrev nBuf : Space → Nat
  | .hbm => 8
  | .vmem => 8
  | .smem => 0
  | _ => 0

abbrev bufTy : (tb : Table) → Fin (tcTables nBuf tb) → BufTy
  | .hbm, ⟨0, _⟩ => ⟨S8x1x2688, .f32⟩
  | .hbm, ⟨1, _⟩ => ⟨S1x2688, .f32⟩
  | .hbm, ⟨2, _⟩ => ⟨S1x2688, .f32⟩
  | .hbm, ⟨3, _⟩ => ⟨S1x2688, .f32⟩
  | .hbm, ⟨4, _⟩ => ⟨S1x2688, .f32⟩
  | .hbm, ⟨5, _⟩ => ⟨S1x2688, .f32⟩
  | .hbm, ⟨6, _⟩ => ⟨S1x2688, .f32⟩
  | .hbm, ⟨7, _⟩ => ⟨S1x2688, .f32⟩
  | .local _ .vmem, ⟨0, _⟩ => ⟨S8x1x2688, .f32⟩
  | .local _ .vmem, ⟨1, _⟩ => ⟨S1x2688, .f32⟩
  | .local _ .vmem, ⟨2, _⟩ => ⟨S1x2688, .f32⟩
  | .local _ .vmem, ⟨3, _⟩ => ⟨S1x2688, .f32⟩
  | .local _ .vmem, ⟨4, _⟩ => ⟨S1x2688, .f32⟩
  | .local _ .vmem, ⟨5, _⟩ => ⟨S1x2688, .f32⟩
  | .local _ .vmem, ⟨6, _⟩ => ⟨S1x2688, .f32⟩
  | .local _ .vmem, ⟨7, _⟩ => ⟨S1x2688, .f32⟩
  | _, _ => ⟨S8x1x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x2688 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2688 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2688 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2688 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S8x1x2688 : Shape := ⟨3, ![8, 1, 2688]⟩
abbrev S1x2688 : Shape := ⟨2, ![1, 2688]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x2688, .f32⟩
  | .hbm, ⟨1, _⟩ => ⟨S1x2688, .f32⟩
  | .hbm, ⟨2, _⟩ => ⟨S1x2688, .f32⟩
  | .hbm, ⟨3, _⟩ => ⟨S1x2688, .f32⟩
  | .hbm, ⟨4, _⟩ => ⟨S_, .f32⟩
  | .hbm, ⟨5, _⟩ => ⟨S1x2688, .f32⟩
  | .hbm, ⟨6, _⟩ => ⟨S_, .f32⟩
  | .hbm, ⟨7, _⟩ => ⟨S1x2688, .f32⟩
  | .hbm, ⟨8, _⟩ => ⟨S1x2688, .f32⟩
  | .hbm, ⟨9, _⟩ => ⟨S_, .f32⟩
  | .hbm, ⟨10, _⟩ => ⟨S1x2688, .f32⟩
  | .hbm, ⟨11, _⟩ => ⟨S1x2688, .f32⟩
  | .hbm, ⟨12, _⟩ => ⟨S1x2688, .f32⟩
  | .hbm, ⟨13, _⟩ => ⟨S_, .f32⟩
  | .hbm, ⟨14, _⟩ => ⟨S1x2688, .f32⟩
  | .hbm, ⟨15, _⟩ => ⟨S1x2688, .f32⟩
  | .hbm, ⟨16, _⟩ => ⟨S1x2688, .f32⟩
  | .hbm, ⟨17, _⟩ => ⟨S_, .f32⟩
  | .hbm, ⟨18, _⟩ => ⟨S1x2688, .f32⟩
  | .hbm, ⟨19, _⟩ => ⟨S1x2688, .f32⟩
  | .hbm, ⟨20, _⟩ => ⟨S1x2688, .f32⟩
  | .hbm, ⟨21, _⟩ => ⟨S_, .f32⟩
  | .hbm, ⟨22, _⟩ => ⟨S1x2688, .f32⟩
  | .hbm, ⟨23, _⟩ => ⟨S1x2688, .f32⟩
  | .hbm, ⟨24, _⟩ => ⟨S_, .f32⟩
  | .hbm, ⟨25, _⟩ => ⟨S1x2688, .f32⟩
  | .hbm, ⟨26, _⟩ => ⟨S1x2688, .f32⟩
  | .hbm, ⟨27, _⟩ => ⟨S1x2688, .f32⟩
  | .hbm, ⟨28, _⟩ => ⟨S_, .f32⟩
  | .hbm, ⟨29, _⟩ => ⟨S1x2688, .f32⟩
  | .hbm, ⟨30, _⟩ => ⟨S1x2688, .f32⟩
  | .hbm, ⟨31, _⟩ => ⟨S1x2688, .f32⟩
  | .hbm, ⟨32, _⟩ => ⟨S_, .f32⟩
  | .hbm, ⟨33, _⟩ => ⟨S1x2688, .f32⟩
  | .hbm, ⟨34, _⟩ => ⟨S1x2688, .f32⟩
  | .hbm, ⟨35, _⟩ => ⟨S1x2688, .f32⟩
  | .hbm, ⟨36, _⟩ => ⟨S_, .f32⟩
  | .hbm, ⟨37, _⟩ => ⟨S1x2688, .f32⟩
  | .hbm, ⟨38, _⟩ => ⟨S1x2688, .f32⟩
  | _, _ => ⟨S8x1x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S8x2048x704 : Shape := ⟨3, ![8, 2048, 704]⟩
abbrev S1x2x2048x704 : Shape := ⟨4, ![1, 2, 2048, 704]⟩
abbrev S8x128x704 : Shape := ⟨3, ![8, 128, 704]⟩
abbrev S1x1x128x704 : Shape := ⟨4, ![1, 1, 128, 704]⟩
abbrev S1x128x704 : Shape := ⟨3, ![1, 128, 704]⟩
abbrev S128x704 : Shape := ⟨2, ![128, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S1x2x2048x704, .f32⟩
  | .hbm, ⟨3, _⟩ => ⟨S1x2x2048x704, .f32⟩
  | .hbm, ⟨4, _⟩ => ⟨S1x2x2048x704, .f32⟩
  | .hbm, ⟨5, _⟩ => ⟨S1x2x2048x704, .f32⟩
  | .hbm, ⟨6, _⟩ => ⟨S1x2x2048x704, .f32⟩
  | .hbm, ⟨7, _⟩ => ⟨S1x2x2048x704, .f32⟩
  | .hbm, ⟨8, _⟩ => ⟨S1x2x2048x704, .f32⟩
  | .local _ .vmem, ⟨0, _⟩ => ⟨S8x128x704, .bf16⟩
  | .local _ .vmem, ⟨1, _⟩ => ⟨S8x128x704, .bf16⟩
  | .local _ .vmem, ⟨2, _⟩ => ⟨S8x128x704, .bf16⟩
  | .local _ .vmem, ⟨3, _⟩ => ⟨S8x128x704, .bf16⟩
  | .local _ .vmem, ⟨4, _⟩ => ⟨S1x1x128x704, .f32⟩
  | .local _ .vmem, ⟨5, _⟩ => ⟨S1x1x128x704, .f32⟩
  | .local _ .vmem, ⟨6, _⟩ => ⟨S1x1x128x704, .f32⟩
  | .local _ .vmem, ⟨7, _⟩ => ⟨S1x1x128x704, .f32⟩
  | .local _ .vmem, ⟨8, _⟩ => ⟨S1x1x128x704, .f32⟩
  | .local _ .vmem, ⟨9, _⟩ => ⟨S1x1x128x704, .f32⟩
  | .local _ .vmem, ⟨10, _⟩ => ⟨S1x1x128x704, .f32⟩
  | .local _ .vmem, ⟨11, _⟩ => ⟨S1x1x128x704, .f32⟩
  | .local _ .vmem, ⟨12, _⟩ => ⟨S1x1x128x704, .f32⟩
  | .local _ .vmem, ⟨13, _⟩ => ⟨S1x1x128x704, .f32⟩
  | .local _ .vmem, ⟨14, _⟩ => ⟨S1x1x128x704, .f32⟩
  | .local _ .vmem, ⟨15, _⟩ => ⟨S1x1x128x704, .f32⟩
  | .local _ .vmem, ⟨16, _⟩ => ⟨S1x1x128x704, .f32⟩
  | .local _ .vmem, ⟨17, _⟩ => ⟨S1x1x128x704, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S8x2048x704 : Shape := ⟨3, ![8, 2048, 704]⟩
abbrev S1x2x2048x704 : Shape := ⟨4, ![1, 2, 2048, 704]⟩
abbrev S1x8x2048x704 : Shape := ⟨4, ![1, 8, 2048, 704]⟩
abbrev S2x8x2048x704 : Shape := ⟨4, ![2, 8, 2048, 704]⟩
abbrev S_ : Shape := ⟨0, ![]⟩
abbrev S2x2048x704 : Shape := ⟨3, ![2, 2048, 704]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S1x2x2048x704, .f32⟩
  | .hbm, ⟨3, _⟩ => ⟨S1x2x2048x704, .f32⟩
  | .hbm, ⟨4, _⟩ => ⟨S1x2x2048x704, .f32⟩
  | .hbm, ⟨5, _⟩ => ⟨S1x8x2048x704, .bf16⟩
  | .hbm, ⟨6, _⟩ => ⟨S1x8x2048x704, .bf16⟩
  | .hbm, ⟨7, _⟩ => ⟨S2x8x2048x704, .bf16⟩
  | .hbm, ⟨8, _⟩ => ⟨S2x8x2048x704, .f32⟩
  | .hbm, ⟨9, _⟩ => ⟨S_, .f32⟩
  | .hbm, ⟨10, _⟩ => ⟨S2x2048x704, .f32⟩
  | .hbm, ⟨11, _⟩ => ⟨S1x2x2048x704, .f32⟩
  | .hbm, ⟨12, _⟩ => ⟨S_, .f32⟩
  | .hbm, ⟨13, _⟩ => ⟨S1x2x2048x704, .f32⟩
  | .hbm, ⟨14, _⟩ => ⟨S1x2x2048x704, .f32⟩
  | .hbm, ⟨15, _⟩ => ⟨S_, .f32⟩
  | .hbm, ⟨16, _⟩ => ⟨S1x2x2048x704, .f32⟩
  | .hbm, ⟨17, _⟩ => ⟨S1x2x2048x704, .f32⟩
  | .hbm, ⟨18, _⟩ => ⟨S1x2x2048x704, .f32⟩
  | .hbm, ⟨19, _⟩ => ⟨S_, .f32⟩
  | .hbm, ⟨20, _⟩ => ⟨S1x2x2048x704, .f32⟩
  | .hbm, ⟨21, _⟩ => ⟨S1x2x2048x704, .f32⟩
  | .hbm, ⟨22, _⟩ => ⟨S1x2x2048x704, .f32⟩
  | .hbm, ⟨23, _⟩ => ⟨S_, .f32⟩
  | .hbm, ⟨24, _⟩ => ⟨S1x2x2048x704, .f32⟩
  | .hbm, ⟨25, _⟩ => ⟨S1x2x2048x704, .f32⟩
  | .hbm, ⟨26, _⟩ => ⟨S1x2x2048x704, .f32⟩
  | .hbm, ⟨27, _⟩ => ⟨S_, .f32⟩
  | .hbm, ⟨28, _⟩ => ⟨S1x2x2048x704, .f32⟩
  | .hbm, ⟨29, _⟩ => ⟨S1x2x2048x704, .f32⟩
  | .hbm, ⟨30, _⟩ => ⟨S_, .f32⟩
  | .hbm, ⟨31, _⟩ => ⟨S1x2x2048x704, .f32⟩
  | .hbm, ⟨32, _⟩ => ⟨S1x2x2048x704, .f32⟩
  | .hbm, ⟨33, _⟩ => ⟨S1x2x2048x704, .f32⟩
  | .hbm, ⟨34, _⟩ => ⟨S_, .f32⟩
  | .hbm, ⟨35, _⟩ => ⟨S1x2x2048x704, .f32⟩
  | .hbm, ⟨36, _⟩ => ⟨S1x2x2048x704, .f32⟩
  | .hbm, ⟨37, _⟩ => ⟨S1x2x2048x704, .f32⟩
  | .hbm, ⟨38, _⟩ => ⟨S_, .f32⟩
  | .hbm, ⟨39, _⟩ => ⟨S1x2x2048x704, .f32⟩
  | .hbm, ⟨40, _⟩ => ⟨S1x2x2048x704, .f32⟩
  | .hbm, ⟨41, _⟩ => ⟨S1x2x2048x704, .f32⟩
  | .hbm, ⟨42, _⟩ => ⟨S_, .f32⟩
  | .hbm, ⟨43, _⟩ => ⟨S1x2x2048x704, .f32⟩
  | .hbm, ⟨44, _⟩ => ⟨S1x2x2048x704, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel25.lean ====
abbrev S8x704x2048 : Shape := ⟨3, ![8, 704, 2048]⟩
abbrev S1x2x704x2048 : Shape := ⟨4, ![1, 2, 704, 2048]⟩
abbrev S8x64x2048 : Shape := ⟨3, ![8, 64, 2048]⟩
abbrev S1x1x64x2048 : Shape := ⟨4, ![1, 1, 64, 2048]⟩
abbrev S1x64x2048 : Shape := ⟨3, ![1, 64, 2048]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S1x2x704x2048, .f32⟩
  | .hbm, ⟨3, _⟩ => ⟨S1x2x704x2048, .f32⟩
  | .hbm, ⟨4, _⟩ => ⟨S1x2x704x2048, .f32⟩
  | .hbm, ⟨5, _⟩ => ⟨S1x2x704x2048, .f32⟩
  | .hbm, ⟨6, _⟩ => ⟨S1x2x704x2048, .f32⟩
  | .hbm, ⟨7, _⟩ => ⟨S1x2x704x2048, .f32⟩
  | .hbm, ⟨8, _⟩ => ⟨S1x2x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S1x1x64x2048, .f32⟩
  | .local _ .vmem, ⟨5, _⟩ => ⟨S1x1x64x2048, .f32⟩
  | .local _ .vmem, ⟨6, _⟩ => ⟨S1x1x64x2048, .f32⟩
  | .local _ .vmem, ⟨7, _⟩ => ⟨S1x1x64x2048, .f32⟩
  | .local _ .vmem, ⟨8, _⟩ => ⟨S1x1x64x2048, .f32⟩
  | .local _ .vmem, ⟨9, _⟩ => ⟨S1x1x64x2048, .f32⟩
  | .local _ .vmem, ⟨10, _⟩ => ⟨S1x1x64x2048, .f32⟩
  | .local _ .vmem, ⟨11, _⟩ => ⟨S1x1x64x2048, .f32⟩
  | .local _ .vmem, ⟨12, _⟩ => ⟨S1x1x64x2048, .f32⟩
  | .local _ .vmem, ⟨13, _⟩ => ⟨S1x1x64x2048, .f32⟩
  | .local _ .vmem, ⟨14, _⟩ => ⟨S1x1x64x2048, .f32⟩
  | .local _ .vmem, ⟨15, _⟩ => ⟨S1x1x64x2048, .f32⟩
  | .local _ .vmem, ⟨16, _⟩ => ⟨S1x1x64x2048, .f32⟩
  | .local _ .vmem, ⟨17, _⟩ => ⟨S1x1x64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c10_i32 : BitVec 32 := 10#32
  let v1 : BitVec 32 := Scalar.select v0 arg1 c10_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference25Ideal.lean ====
abbrev S8x704x2048 : Shape := ⟨3, ![8, 704, 2048]⟩
abbrev S1x2x704x2048 : Shape := ⟨4, ![1, 2, 704, 2048]⟩
abbrev S1x8x704x2048 : Shape := ⟨4, ![1, 8, 704, 2048]⟩
abbrev S2x8x704x2048 : Shape := ⟨4, ![2, 8, 704, 2048]⟩
abbrev S_ : Shape := ⟨0, ![]⟩
abbrev S2x704x2048 : Shape := ⟨3, ![2, 704, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S1x2x704x2048, .f32⟩
  | .hbm, ⟨3, _⟩ => ⟨S1x2x704x2048, .f32⟩
  | .hbm, ⟨4, _⟩ => ⟨S1x2x704x2048, .f32⟩
  | .hbm, ⟨5, _⟩ => ⟨S1x8x704x2048, .bf16⟩
  | .hbm, ⟨6, _⟩ => ⟨S1x8x704x2048, .bf16⟩
  | .hbm, ⟨7, _⟩ => ⟨S2x8x704x2048, .bf16⟩
  | .hbm, ⟨8, _⟩ => ⟨S2x8x704x2048, .f32⟩
  | .hbm, ⟨9, _⟩ => ⟨S_, .f32⟩
  | .hbm, ⟨10, _⟩ => ⟨S2x704x2048, .f32⟩
  | .hbm, ⟨11, _⟩ => ⟨S1x2x704x2048, .f32⟩
  | .hbm, ⟨12, _⟩ => ⟨S_, .f32⟩
  | .hbm, ⟨13, _⟩ => ⟨S1x2x704x2048, .f32⟩
  | .hbm, ⟨14, _⟩ => ⟨S1x2x704x2048, .f32⟩
  | .hbm, ⟨15, _⟩ => ⟨S_, .f32⟩
  | .hbm, ⟨16, _⟩ => ⟨S1x2x704x2048, .f32⟩
  | .hbm, ⟨17, _⟩ => ⟨S1x2x704x2048, .f32⟩
  | .hbm, ⟨18, _⟩ => ⟨S1x2x704x2048, .f32⟩
  | .hbm, ⟨19, _⟩ => ⟨S_, .f32⟩
  | .hbm, ⟨20, _⟩ => ⟨S1x2x704x2048, .f32⟩
  | .hbm, ⟨21, _⟩ => ⟨S1x2x704x2048, .f32⟩
  | .hbm, ⟨22, _⟩ => ⟨S1x2x704x2048, .f32⟩
  | .hbm, ⟨23, _⟩ => ⟨S_, .f32⟩
  | .hbm, ⟨24, _⟩ => ⟨S1x2x704x2048, .f32⟩
  | .hbm, ⟨25, _⟩ => ⟨S1x2x704x2048, .f32⟩
  | .hbm, ⟨26, _⟩ => ⟨S1x2x704x2048, .f32⟩
  | .hbm, ⟨27, _⟩ => ⟨S_, .f32⟩
  | .hbm, ⟨28, _⟩ => ⟨S1x2x704x2048, .f32⟩
  | .hbm, ⟨29, _⟩ => ⟨S1x2x704x2048, .f32⟩
  | .hbm, ⟨30, _⟩ => ⟨S_, .f32⟩
  | .hbm, ⟨31, _⟩ => ⟨S1x2x704x2048, .f32⟩
  | .hbm, ⟨32, _⟩ => ⟨S1x2x704x2048, .f32⟩
  | .hbm, ⟨33, _⟩ => ⟨S1x2x704x2048, .f32⟩
  | .hbm, ⟨34, _⟩ => ⟨S_, .f32⟩
  | .hbm, ⟨35, _⟩ => ⟨S1x2x704x2048, .f32⟩
  | .hbm, ⟨36, _⟩ => ⟨S1x2x704x2048, .f32⟩
  | .hbm, ⟨37, _⟩ => ⟨S1x2x704x2048, .f32⟩
  | .hbm, ⟨38, _⟩ => ⟨S_, .f32⟩
  | .hbm, ⟨39, _⟩ => ⟨S1x2x704x2048, .f32⟩
  | .hbm, ⟨40, _⟩ => ⟨S1x2x704x2048, .f32⟩
  | .hbm, ⟨41, _⟩ => ⟨S1x2x704x2048, .f32⟩
  | .hbm, ⟨42, _⟩ => ⟨S_, .f32⟩
  | .hbm, ⟨43, _⟩ => ⟨S1x2x704x2048, .f32⟩
  | .hbm, ⟨44, _⟩ => ⟨S1x2x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel26.lean ====
abbrev S8x2048 : Shape := ⟨2, ![8, 2048]⟩
abbrev S8x2304 : Shape := ⟨2, ![8, 2304]⟩
abbrev S2048x8 : Shape := ⟨2, ![2048, 8]⟩
abbrev S_ : Shape := ⟨0, ![]⟩
abbrev S2048x128 : Shape := ⟨2, ![2048, 128]⟩
abbrev S128x2304 : Shape := ⟨2, ![128, 2304]⟩
abbrev S2048x2304 : Shape := ⟨2, ![2048, 2304]⟩
abbrev S128x256 : Shape := ⟨2, ![128, 256]⟩
abbrev S2048x256 : Shape := ⟨2, ![2048, 256]⟩

abbrev nBuf : Space → Nat
  | .hbm => 10
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x2304, .f32⟩
  | .hbm, ⟨2, _⟩ => ⟨S2048x8, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S_, .i32⟩
  | .hbm, ⟨7, _⟩ => ⟨S_, .f32⟩
  | .hbm, ⟨8, _⟩ => ⟨S128x2304, .f32⟩
  | .hbm, ⟨9, _⟩ => ⟨S2048x2304, .f32⟩
  | .local _ .vmem, ⟨0, _⟩ => ⟨S2048x128, .f32⟩
  | .local _ .vmem, ⟨1, _⟩ => ⟨S128x256, .f32⟩
  | .local _ .vmem, ⟨2, _⟩ => ⟨S128x256, .f32⟩
  | .local _ .vmem, ⟨3, _⟩ => ⟨S2048x256, .f32⟩
  | .local _ .vmem, ⟨4, _⟩ => ⟨S2048x256, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S8x2048 : Shape := ⟨2, ![8, 2048]⟩
abbrev S8x2304 : Shape := ⟨2, ![8, 2304]⟩
abbrev S_ : Shape := ⟨0, ![]⟩
abbrev S2048x2304 : Shape := ⟨2, ![2048, 2304]⟩
abbrev S2304x2048 : Shape := ⟨2, ![2304, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2304, .f32⟩
  | .hbm, ⟨2, _⟩ => ⟨S_, .f32⟩
  | .hbm, ⟨3, _⟩ => ⟨S2048x2304, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2304, .f32⟩
  | .hbm, ⟨14, _⟩ => ⟨S2304x2048, .f32⟩
  | .hbm, ⟨15, _⟩ => ⟨S2048x2304, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Blocks.lean ====
/-
  The body of the attention's backward kernel, cut into its five stretches: each is a conditional of the
  printed body under a name of its own, so that each can be run on its own. `body_eq` says that the printed
  body is the five in sequence after the two table words are read.
-/
module

public import proofs.«01_k».proof.Proof.Gen.KernelIdeal.Skeleton

@[expose] public section

set_option synthInstance.maxSize 4096

noncomputable section

namespace Cert.Fox

open Cert.KernelIdeal Cert.KernelIdeal.Gen
open Idealize.ShloMosaic Idealize.SL.Sem

variable {F : FTy → Type} [FloatOps F] [Named F]

/-- Of the body, the first stretch: at a sweep's first pair the query accumulators are zeroed. -/
def blk1 (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    :
    Prog (TpuEff nD τ sig (Elt F) Λ₀ .tc) PUnit := do
  if k0_h1 : k0_cond1 i = 1#1 then do
    let v22 : Vec F S4x8192x128 .f32 ← Prog.lift (.load arg20 (Rect.unit (s := S4x8192x128) ![0, 0, 0] S4x8192x128.size inb_S4x8192x128_S4x8192x128_0_0_0).toLoadRect (View.loadsAt_vmem h_S4x8192x128))
    Prog.lift (.store arg20 (Rect.unit (s := S4x8192x128) ![0, 0, 0] S4x8192x128.size inb_S4x8192x128_S4x8192x128_0_0_0) (k0_pay1 (F := F)) Finset.univ (View.stores_vmem_bits_univ h_S4x8192x128 rfl) (.inl rfl))
    let v26 : Vec F S4x16x1x512 .f32 ← Prog.lift (.load arg16 (Rect.unit (s := S4x16x1x512) ![0, 0, 0, 0] S4x16x1x512.size inb_S4x16x1x512_S4x16x1x512_0_0_0_0).toLoadRect (View.loadsAt_vmem h_S4x16x1x512))
    Prog.lift (.store arg16 (Rect.unit (s := S4x16x1x512) ![0, 0, 0, 0] S4x16x1x512.size inb_S4x16x1x512_S4x16x1x512_0_0_0_0) (k0_pay2 (F := F)) Finset.univ (View.stores_vmem_bits_univ h_S4x16x1x512 rfl) (.inl rfl))
    pure ⟨⟩
  else do
    pure ⟨⟩

/-- Of the body, the second stretch: the pair on the diagonal. -/
def blk2 (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
     (v1 v3 : BitVec 32) (k0_hw1 : k0_chk1 v1) (k0_hw2 : k0_chk2 v1 v3) (v5 : BitVec 32) :
    Prog (TpuEff nD τ sig (Elt F) Λ₀ .tc) PUnit := do
  if k0_h2 : k0_cond2 v1 v3 = 1#1 then do
    let ⟨v36, v37, v38, v42, v46, v47⟩ : Σ' (v36 : FVec F S512x128 .bf16) (v37 : Vec F S512x128 .f32) (v38 : Vec F S512x128 .bf16) (v42 : FVec F S512x1 .f32) (v46 : FVec F S1x512 .f32), Vec F S1x1x512 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
    let ⟨v77, v82⟩ : Σ' (v77 : FVec F S512x512 .f32), FVec F S512x128 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v36 v37 v38 v42 v46 v47
    let v118 : FVec F S512x128 .bf16 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw2 v5 k0_h2 v37 v77 v82
    let ⟨v119, v120, v143⟩ : Σ' (v119 : Vec F S512x128 .f32) (v120 : Vec F S512x128 .bf16), FVec F S512x512 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v118
    let ⟨v159, v186⟩ : Σ' (v159 : FVec F S512x512 .f32), FVec F S1x512x128 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw2 v5 k0_h2 v118 v119 v120 v143
    let ⟨v200, v201, v202, v215, v218⟩ : Σ' (v200 : FVec F S512x128 .bf16) (v201 : Vec F S512x128 .f32) (v202 : Vec F S512x128 .bf16) (v215 : FVec F S512x512 .f32), FVec F S512x512 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw2 k0_h2 v159 v186
    let ⟨v241, v251⟩ : Σ' (v241 : FVec F S512x512 .f32), FVec F S512x1 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v200 v202 v215 v218
    let ⟨v282, v283, v284⟩ : Σ' (v282 : FVec F S512x128 .bf16) (v283 : Vec F S512x128 .f32), Vec F S512x128 .bf16 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw2 v5 k0_h2 v201 v241 v251
    let ⟨v307, v318, v319⟩ : Σ' (v307 : FVec F S512x512 .f32) (v318 : FVec F S512x512 .f32), Vec F S1x1x512 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v282 v283 v284
    let ⟨v323, v353⟩ : Σ' (v323 : FVec F S512x512 .f32), FVec F S1x512 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw2 v5 k0_h2 v282 v283 v307 v318 v319
    let v358 : Vec F S1x1x1x512 .f32 ← Prog.lift (.load arg16 (Rect.unit (s := S4x16x1x512) (k0_off9 v1) S1x1x1x512.size (k0_off9_inb v1 v3 k0_hw2 k0_h2)).toLoadRect (View.loadsAt_vmem h_S1x1x1x512))
    Prog.lift (.store arg16 (Rect.unit (s := S4x16x1x512) (k0_off9 v1) S1x1x1x512.size (k0_off9_inb v1 v3 k0_hw2 k0_h2)) (k0_pay3 v323 v353) Finset.univ (View.stores_vmem_bits_univ h_S1x1x1x512 rfl) (.inl rfl))
    pure ⟨⟩
  else do
    pure ⟨⟩

/-- Of the body, the third stretch: a pair below the diagonal. -/
def blk3 (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
     (v1 v3 : BitVec 32) (k0_hw1 : k0_chk1 v1) (k0_hw2 : k0_chk2 v1 v3) (v5 : BitVec 32) :
    Prog (TpuEff nD τ sig (Elt F) Λ₀ .tc) PUnit := do
  if k0_h3 : k0_cond3 v1 v3 = 1#1 then do
    let ⟨v24, v25, v26, v44⟩ : Σ' (v24 : FVec F S512x128 .bf16) (v25 : Vec F S512x128 .f32) (v26 : Vec F S512x128 .bf16), FVec F S512x512 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
    let ⟨v60, v83⟩ : Σ' (v60 : FVec F S512x512 .f32), FVec F S512x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw2 v5 k0_h3 v24 v25 v26 v44
    let ⟨v101, v102, v103, v116, v117, v118⟩ : Σ' (v101 : FVec F S512x128 .bf16) (v102 : Vec F S512x128 .f32) (v103 : Vec F S512x128 .bf16) (v116 : FVec F S512x512 .f32) (v117 : FVec F S512x512 .f32), FVec F S512x512 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw2 k0_h3 v60 v83
    let ⟨v137, v150⟩ : Σ' (v137 : FVec F S512x512 .f32), FVec F S512x1 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v101 v103 v116 v117 v118
    let ⟨v178, v179, v180, v182, v183⟩ : Σ' (v178 : FVec F S512x128 .bf16) (v179 : Vec F S512x128 .f32) (v180 : Vec F S512x128 .bf16) (v182 : FVec F S512x1 .f32), FVec F S512x1 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw2 v5 k0_h3 v102 v137 v150
    let ⟨v214, v216, v217, cst_150⟩ : Σ' (v214 : FVec F S512x512 .f32) (v216 : FVec F S512x128 .f32) (v217 : FVec F S512x512 .bf16), FVec F S512x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v178 v179 v180 v182 v183
    k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw2 v5 k0_h3 v178 v179 v214 v216 v217 cst_150
    let ⟨v255, v256, v257, v275⟩ : Σ' (v255 : FVec F S512x128 .bf16) (v256 : Vec F S512x128 .f32) (v257 : Vec F S512x128 .bf16), FVec F S512x512 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
    let ⟨v291, v314⟩ : Σ' (v291 : FVec F S512x512 .f32), FVec F S512x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw2 v5 k0_h3 v255 v256 v257 v275
    Prog.lift (.store arg20 (Rect.unit (s := S4x8192x128) (k0_off16 v1) S1x512x128.size (k0_off16_inb v1 v3 k0_hw2 k0_h3)) (k0_pay4 v314) Finset.univ (View.stores_vmem_bits_univ h_S1x512x128 rfl) (.inl rfl))
    let v320 : Vec F S1x1x1x512 .f32 ← Prog.lift (.load arg16 (Rect.unit (s := S4x16x1x512) (k0_off17 v1) S1x1x1x512.size (k0_off17_inb v1 v3 k0_hw2 k0_h3)).toLoadRect (View.loadsAt_vmem h_S1x1x1x512))
    let v326 : Vec F S1x1x1x512 .f32 ← Prog.lift (.load arg16 (Rect.unit (s := S4x16x1x512) (k0_off17 v1) S1x1x1x512.size (k0_off17_inb v1 v3 k0_hw2 k0_h3)).toLoadRect (View.loadsAt_vmem h_S1x1x1x512))
    Prog.lift (.store arg16 (Rect.unit (s := S4x16x1x512) (k0_off17 v1) S1x1x1x512.size (k0_off17_inb v1 v3 k0_hw2 k0_h3)) (k0_pay5 v291 v320) Finset.univ (View.stores_vmem_bits_univ h_S1x1x1x512 rfl) (.inl rfl))
    pure ⟨⟩
  else do
    pure ⟨⟩

/-- Of the body, the fourth stretch: the last query block of a key block, whose sums are written out. -/
def blk4 (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
     (v1 : BitVec 32) :
    Prog (TpuEff nD τ sig (Elt F) Λ₀ .tc) PUnit := do
  if k0_h4 : k0_cond4 v1 = 1#1 then do
    let v51 : FVec F S512x128 .bf16 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
    let v81 : FVec F S512x128 .bf16 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v51
    let ⟨v112, v113, v114⟩ : Σ' (v112 : FVec F S512x1 .f32) (v113 : IVec S512x512 32), IVec S512x512 32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v81
    let v122 : Vec F S1x1x512 .f32 ← Prog.lift (.load arg14 (Rect.unit (s := S4x1x512) ![3, 0, 0] S1x1x512.size inb_S4x1x512_S1x1x512_3_0_0).toLoadRect (View.loadsAt_vmem h_S1x1x512))
    Prog.lift (.store arg14 (Rect.unit (s := S4x1x512) ![3, 0, 0] S1x1x512.size inb_S4x1x512_S1x1x512_3_0_0) (k0_pay6 v112 v113 v114) Finset.univ (View.stores_vmem_bits_univ h_S1x1x512 rfl) (.inl rfl))
    pure ⟨⟩
  else do
    pure ⟨⟩

/-- Of the body, the last stretch: the last pair of a sweep, which sends the query gradient out. -/
def blk5 (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    :
    Prog (TpuEff nD τ sig (Elt F) Λ₀ .tc) PUnit := do
  if k0_h5 : k0_cond5 i = 1#1 then do
    Scf.Loop.for k0_t1_loop (k0_t1_ok i k0_h5) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5)
    Scf.Loop.for k0_t2_loop (k0_t2_ok i k0_h5) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5)
    Scf.Loop.for k0_t3_loop (k0_t3_ok i k0_h5) ⟨⟩ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5)
    Scf.Loop.for k0_t4_loop (k0_t4_ok i k0_h5) ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5)
    pure ⟨⟩
  else do
    pure ⟨⟩

set_option maxRecDepth 65536 in
/-- The printed body is its five stretches in sequence. -/
theorem body_eq (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_) :
    cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 = (do
      let v1 : Elt F .i32 ← smemLoad arg2 (Rect.unit (s := S136) (k0_off1 i) S1.size (k0_off1_inb i)) numel1_S1 rfl
      have k0_hw1 : k0_chk1 v1 := (← Prog.lift (TpuEff.assume (k0_chk1 v1) (k0_chk1.dec v1))).down
      let v3 : Elt F .i32 ← smemLoad arg3 (Rect.unit (s := S136) (k0_off1 i) S1.size (k0_off1_inb i)) numel1_S1 rfl
      have k0_hw2 : k0_chk2 v1 v3 := (← Prog.lift (TpuEff.assume (k0_chk2 v1 v3) (k0_chk2.dec v1 v3))).down
      blk1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
      blk2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw1 k0_hw2 (Scalar.muli v1 512#32)
      blk3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1 v3 k0_hw1 k0_hw2 (Scalar.muli v1 512#32)
      blk4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1
      blk5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) := by
  rw [cc0_fox_bwd_eq_skeleton]
  unfold cc0_fox_bwd_skel
  refine congrArg (_ >>= ·) (funext fun v1 => congrArg (_ >>= ·) (funext fun w1 => congrArg (_ >>= ·) (funext fun v3 =>
    congrArg (_ >>= ·) (funext fun w2 => ?_))))
  unfold blk1 blk2 blk3 blk4 blk5
  by_cases h1 : k0_cond1 i = 1#1 <;> by_cases h2 : k0_cond2 v1 v3 = 1#1 <;> by_cases h3 : k0_cond3 v1 v3 = 1#1 <;>
    by_cases h4 : k0_cond4 v1 = 1#1 <;> by_cases h5 : k0_cond5 i = 1#1 <;>
    simp only [h1, h2, h3, h4, h5, dite_true, dite_false, bind_assoc, pure_bind]

end Cert.Fox
-- ==== Proof.Points.lean ====
/-
  The grid's points: a sweep over four heads, and a pair of a query block and a key block at or above the diagonal, read
  from the two tables. What the tables hold, and that every block they name lies inside its array.
-/
module

public import proofs.«01_k».proof.Proof.Blocks
public import proofs.«01_k».proof.Proof.Gen.KernelIdeal.Launch
public import Idealize.ShloMosaic.Lib.Pipeline.FrameBody
public import Idealize.ShloMosaic.Lib.Pipeline.FrameValue
public import Idealize.ShloMosaic.Lib.Tactic
public import Idealize.ShloMosaic.Lib.WordCmp
public import Idealize.ShloMosaic.Lib.PairWhole

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The query block of a pair, and its key block. -/
def iq (p : Fin 136) : Fin 16 := ⟨(lit0 p).toNat % 16, Nat.mod_lt _ (by decide)⟩
def ik (p : Fin 136) : Fin 16 := ⟨(lit1 p).toNat % 16, Nat.mod_lt _ (by decide)⟩

theorem lit0_eq (p : Fin 136) : lit0 p = BitVec.ofNat 32 (iq p).val := by revert p; decide +kernel
theorem lit1_eq (p : Fin 136) : lit1 p = BitVec.ofNat 32 (ik p).val := by revert p; decide +kernel
theorem ik_le_iq (p : Fin 136) : (ik p).val ≤ (iq p).val := by revert p; decide +kernel

/-- The tables' contents. -/
def pf : pre0.Contents (Elt F) := fun
  | 0 => fun i => lit0 (S136.rowMajor i)
  | 1 => fun i => lit1 (S136.rowMajor i)

def prow (i : grid0.Coords) : Fin 136 := i 1
def sweep (i : grid0.Coords) : Fin 2 := i 0

theorem rowMajor_off1 (i : grid0.Coords) :
    S136.rowMajor ((Rect.unit (s := S136) (k0_off1 i) S1.size (k0_off1_inb i)).emb (Shape.Idx.first (numel1_S1.symm ▸ Nat.one_pos))) = prow i := by
  have h := (prow i).isLt
  have e : (k0_off1 i) 0 = (prow i).val := by
    show (BitVec.ofNat 32 (prow i).val).toNat = _
    rw [BitVec.toNat_ofNat]; omega
  apply Fin.ext
  rw [Shape.rowMajor_val_one]
  show (k0_off1 i) 0 + 1 * 0 = _
  omega

theorem at0 (i : grid0.Coords) : (pf (F := F)).at 0 (Rect.unit (s := S136) (k0_off1 i) S1.size (k0_off1_inb i)) numel1_S1 = BitVec.ofNat 32 (iq (prow i)).val := by
  rw [← lit0_eq, ← rowMajor_off1]; rfl
theorem at1 (i : grid0.Coords) : (pf (F := F)).at 1 (Rect.unit (s := S136) (k0_off1 i) S1.size (k0_off1_inb i)) numel1_S1 = BitVec.ofNat 32 (ik (prow i)).val := by
  rw [← lit1_eq, ← rowMajor_off1]; rfl
theorem atD0 (i : grid0.Coords) : (pf (F := F)).atD 0 (k0_off1 i) = BitVec.ofNat 32 (iq (prow i)).val := by
  rw [← at0 (F := F)]
  unfold Pipeline.Prefetch.Contents.atD
  split
  · rfl
  · rename_i h; exact absurd (fun a => by have := k0_off1_inb i a; fin_cases a; exact this) h
theorem atD1 (i : grid0.Coords) : (pf (F := F)).atD 1 (k0_off1 i) = BitVec.ofNat 32 (ik (prow i)).val := by
  rw [← at1 (F := F)]
  unfold Pipeline.Prefetch.Contents.atD
  split
  · rfl
  · rename_i h; exact absurd (fun a => by have := k0_off1_inb i a; fin_cases a; exact this) h

theorem cond1_iff (i : grid0.Coords) : k0_cond1 i = 1#1 ↔ (prow i).val = 0 := by
  have h : ∀ p : Fin 136, Scalar.cmpi .ne (Scalar.extui (Scalar.cmpi .eq (BitVec.ofNat 32 p.val) 0#32) : BitVec 32) 0#32 = 1#1 ↔ p.val = 0 := by decide +kernel
  exact h (prow i)
theorem cond5_iff (i : grid0.Coords) : k0_cond5 i = 1#1 ↔ (prow i).val = 135 := by
  have h : ∀ p : Fin 136, Scalar.cmpi .ne (Scalar.extui (Scalar.cmpi .eq (BitVec.ofNat 32 p.val) 135#32) : BitVec 32) 0#32 = 1#1 ↔ p.val = 135 := by decide +kernel
  exact h (prow i)
theorem cond2_iff (n m : Fin 16) : k0_cond2 (BitVec.ofNat 32 n.val) (BitVec.ofNat 32 m.val) = 1#1 ↔ n = m := by revert n m; decide +kernel
theorem cond3_iff (n m : Fin 16) : k0_cond3 (BitVec.ofNat 32 n.val) (BitVec.ofNat 32 m.val) = 1#1 ↔ m.val < n.val := by revert n m; decide +kernel
theorem cond4_iff (n : Fin 16) : k0_cond4 (BitVec.ofNat 32 n.val) = 1#1 ↔ n.val = 15 := by revert n; decide +kernel
theorem chk1 (n : Fin 16) : k0_chk1 (BitVec.ofNat 32 n.val) := by revert n; decide +kernel
theorem chk2 (n m : Fin 16) : k0_chk2 (BitVec.ofNat 32 n.val) (BitVec.ofNat 32 m.val) := by
  unfold k0_chk2
  refine ⟨?_, ?_, ?_, ?_, ?_, ?_, ?_, ?_, ?_, ?_, ?_, ?_, ?_, ?_, ?_, ?_⟩ <;> intro _ <;> clear * - n <;> revert n <;> decide +kernel

theorem sweepN (i : grid0.Coords) : (BitVec.ofNat 32 (sweep i).val).toNat = (sweep i).val := by
  have := (sweep i).isLt
  rw [BitVec.toNat_ofNat]; omega
theorem plusN (n : ℕ) (hn : n < 1000) (i : grid0.Coords) : (Scalar.addi (BitVec.ofNat 32 n) (BitVec.ofNat 32 (sweep i).val)).toNat = n + (sweep i).val := by
  have := (sweep i).isLt
  show (BitVec.ofNat 32 n + BitVec.ofNat 32 (sweep i).val).toNat = _
  rw [BitVec.toNat_add, BitVec.toNat_ofNat, BitVec.toNat_ofNat]; omega
theorem word16 (n : Fin 16) : (BitVec.ofNat 32 n.val).toNat = n.val := by
  have := n.isLt
  rw [BitVec.toNat_ofNat]; omega
theorem word0 (i : grid0.Coords) : BitVec.toNat ((pf (F := F)).at 0 (Rect.unit (s := S136) (k0_off1 i) S1.size (k0_off1_inb i)) numel1_S1) = (iq (prow i)).val := by
  rw [at0]; exact word16 _
theorem word1 (i : grid0.Coords) : BitVec.toNat ((pf (F := F)).at 1 (Rect.unit (s := S136) (k0_off1 i) S1.size (k0_off1_inb i)) numel1_S1) = (ik (prow i)).val := by
  rw [at1]; exact word16 _

theorem tr0 (i : grid0.Coords) : cc0_transform_0 (F := F) k0_off1_inb numel1_S1 pf i = ![(iq (prow i)).val, (sweep i).val] := by
  funext a
  fin_cases a
  · exact word0 i
  · exact sweepN i
theorem tr1 (i : grid0.Coords) : cc0_transform_1 (F := F) k0_off1_inb numel1_S1 pf i = ![(ik (prow i)).val, 2 + (sweep i).val] := by
  funext a
  fin_cases a
  · exact word1 i
  · exact plusN 2 (by decide) i
theorem tr2 (i : grid0.Coords) : cc0_transform_2 (F := F) k0_off1_inb numel1_S1 pf i = ![(ik (prow i)).val, 4 + (sweep i).val] := by
  funext a
  fin_cases a
  · exact word1 i
  · exact plusN 4 (by decide) i
theorem tr3 (i : grid0.Coords) : cc0_transform_3 (F := F) k0_off1_inb numel1_S1 pf i = ![(iq (prow i)).val, (sweep i).val] := by
  funext a
  fin_cases a
  · exact word0 i
  · exact sweepN i
theorem tr4 (i : grid0.Coords) : cc0_transform_4 (F := F) k0_off1_inb numel1_S1 pf i = ![(sweep i).val, 0, (iq (prow i)).val] := by
  funext a
  fin_cases a
  · exact sweepN i
  · rfl
  · exact word0 i
theorem tr5 (i : grid0.Coords) : cc0_transform_5 (F := F) k0_off1_inb numel1_S1 pf i = ![(sweep i).val, (ik (prow i)).val, 0] := by
  funext a
  fin_cases a
  · exact sweepN i
  · exact word1 i
  · rfl
theorem tr6 (i : grid0.Coords) : cc0_transform_6 (F := F) k0_off1_inb numel1_S1 pf i = ![(sweep i).val, 0, (iq (prow i)).val] := by
  funext a
  fin_cases a
  · exact sweepN i
  · rfl
  · exact word0 i
theorem tr7 (i : grid0.Coords) : cc0_transform_7 (F := F) k0_off1_inb numel1_S1 pf i = ![(sweep i).val, 0, (iq (prow i)).val] := by
  funext a
  fin_cases a
  · exact sweepN i
  · rfl
  · exact word0 i
theorem tr8 (i : grid0.Coords) : cc0_transform_8 (F := F) k0_off1_inb numel1_S1 pf i = ![(ik (prow i)).val, (sweep i).val] := by
  funext a
  fin_cases a
  · exact word1 i
  · exact sweepN i
theorem tr9 (i : grid0.Coords) : cc0_transform_9 (F := F) k0_off1_inb numel1_S1 pf i = ![(ik (prow i)).val, (sweep i).val] := by
  funext a
  fin_cases a
  · exact word1 i
  · exact sweepN i
theorem tr10 (i : grid0.Coords) : cc0_transform_10 (F := F) k0_off1_inb numel1_S1 pf i = ![(sweep i).val, 0, (ik (prow i)).val] := by
  funext a
  fin_cases a
  · exact sweepN i
  · rfl
  · exact word1 i
theorem tr11 (i : grid0.Coords) : cc0_transform_12 i = ![(sweep i).val, 0, 0, 0] := by
  funext a
  fin_cases a
  · exact sweepN i
  all_goals rfl

/-- Every block the tables name is inside its array. -/
theorem ok : ok0 (F := F) pf := by
  unfold ok0
  have hz : ∀ i : grid0.Coords, (sweep i).val < 2 := fun i => (sweep i).isLt
  have hq : ∀ i : grid0.Coords, (iq (prow i)).val < 16 := fun i => (iq (prow i)).isLt
  have hk : ∀ i : grid0.Coords, (ik (prow i)).val < 16 := fun i => (ik (prow i)).isLt
  refine ⟨?_, ?_, ?_, ?_, ?_, ?_, ?_, ?_, ?_, ?_, ?_⟩ <;> intro i
  · have := hz i; have := hq i; have := hk i
    refine ⟨fun a => ?_, .inl rfl⟩
    · rw [tr0]
      fin_cases a
      · show ((iq (prow i)).val + 1) * 512 ≤ 8192; omega
      · show ((sweep i).val + 1) * 512 ≤ 7680; omega
  · have := hz i; have := hq i; have := hk i
    refine ⟨fun a => ?_, .inl rfl⟩
    · rw [tr1]
      fin_cases a
      · show ((ik (prow i)).val + 1) * 512 ≤ 8192; omega
      · show (2 + (sweep i).val + 1) * 512 ≤ 7680; omega
  · have := hz i; have := hq i; have := hk i
    refine ⟨fun a => ?_, .inl rfl⟩
    · rw [tr2]
      fin_cases a
      · show ((ik (prow i)).val + 1) * 512 ≤ 8192; omega
      · show (4 + (sweep i).val + 1) * 512 ≤ 7680; omega
  · have := hz i; have := hq i; have := hk i
    refine ⟨fun a => ?_, .inr (Rect.PackedRows.wholeWords ?_)⟩
    · rw [tr3]
      fin_cases a
      · show ((iq (prow i)).val + 1) * 512 ≤ 8192; omega
      · show ((sweep i).val + 1) * 512 ≤ 1024; omega
    · refine Rect.packedRows_of_rowAxis _ _ (by decide) ?_ ?_ rfl
      swap
      · show 2 ∣ 512; decide
      show 2 ∣ cc0_transform_3 k0_off1_inb numel1_S1 pf i 0 * 512
      omega
  · have := hz i; have := hq i; have := hk i
    refine ⟨fun a => ?_, .inl rfl⟩
    · rw [tr4]
      fin_cases a
      · show ((sweep i).val + 1) * 4 ≤ 8; omega
      · show (0 + 1) * 1 ≤ 1; omega
      · show ((iq (prow i)).val + 1) * 512 ≤ 8192; omega
  · have := hz i; have := hq i; have := hk i
    refine ⟨fun a => ?_, .inl rfl⟩
    · rw [tr5]
      fin_cases a
      · show ((sweep i).val + 1) * 4 ≤ 8; omega
      · show ((ik (prow i)).val + 1) * 512 ≤ 8192; omega
      · show (0 + 1) * 128 ≤ 128; omega
  · have := hz i; have := hq i; have := hk i
    refine ⟨fun a => ?_, .inl rfl⟩
    · rw [tr6]
      fin_cases a
      · show ((sweep i).val + 1) * 4 ≤ 8; omega
      · show (0 + 1) * 1 ≤ 1; omega
      · show ((iq (prow i)).val + 1) * 512 ≤ 8192; omega
  · have := hz i; have := hq i; have := hk i
    refine ⟨fun a => ?_, .inl rfl⟩
    · rw [tr7]
      fin_cases a
      · show ((sweep i).val + 1) * 4 ≤ 8; omega
      · show (0 + 1) * 1 ≤ 1; omega
      · show ((iq (prow i)).val + 1) * 512 ≤ 8192; omega
  · have := hz i; have := hq i; have := hk i
    refine ⟨fun a => ?_, .inr (Rect.PackedRows.wholeWords ?_)⟩
    · rw [tr8]
      fin_cases a
      · show ((ik (prow i)).val + 1) * 512 ≤ 8192; omega
      · show ((sweep i).val + 1) * 512 ≤ 1024; omega
    · refine Rect.packedRows_of_rowAxis _ _ (by decide) ?_ ?_ rfl
      swap
      · show 2 ∣ 512; decide
      show 2 ∣ cc0_transform_8 k0_off1_inb numel1_S1 pf i 0 * 512
      omega
  · have := hz i; have := hq i; have := hk i
    refine ⟨fun a => ?_, .inr (Rect.PackedRows.wholeWords ?_)⟩
    · rw [tr9]
      fin_cases a
      · show ((ik (prow i)).val + 1) * 512 ≤ 8192; omega
      · show ((sweep i).val + 1) * 512 ≤ 1024; omega
    · refine Rect.packedRows_of_rowAxis _ _ (by decide) ?_ ?_ rfl
      swap
      · show 2 ∣ 512; decide
      show 2 ∣ cc0_transform_9 k0_off1_inb numel1_S1 pf i 0 * 512
      omega
  · have := hz i; have := hq i; have := hk i
    refine ⟨fun a => ?_, .inl rfl⟩
    · rw [tr10]
      fin_cases a
      · show ((sweep i).val + 1) * 4 ≤ 8; omega
      · show (0 + 1) * 1 ≤ 1; omega
      · show ((ik (prow i)).val + 1) * 512 ≤ 8192; omega

end Cert.Fox
-- ==== Proof.Step.lean ====
/-
  What one pair of blocks of the attention's backward kernel computes, as functions of the blocks it reads. For
  each of the four heads of a step: the transposed probabilities of the pair, the transposed gradient of the
  scores, and what the pair adds to each of the five sums.
-/
module

public import proofs.«01_k».proof.Proof.Gen.KernelIdeal.Skeleton
public import Idealize.ShloMosaic.Lib.VecWindow

@[expose] public section

set_option synthInstance.maxSize 4096

noncomputable section

namespace Cert.Fox

open Cert.KernelIdeal Cert.KernelIdeal.Gen
open Idealize.ShloMosaic Idealize.SL.Sem
open Facts

variable {F : FTy → Type} [FloatOps F] [Named F]

/-- The eight blocks a step reads: queries, keys, values, the cotangent, the cumulative gate along the queries
    and along the keys, the rows' log-sums in base 2, and the rows' sums of cotangent times output. -/
structure Win (F : FTy → Type) where
  q : Vec F S512x512 .f32
  k : Vec F S512x512 .f32
  v : Vec F S512x512 .f32
  ct : Vec F S512x512 .bf16
  cq : Vec F S4x1x512 .f32
  ck : Vec F S4x512x128 .f32
  lse : Vec F S4x1x512 .f32
  delta : Vec F S4x1x512 .f32

/-- Head `g`'s 128 columns of a block of four heads. -/
def cols {e : EltTy} (x : Vec F S512x512 e) (g : Fin 4) : Vec F S512x128 e :=
  VecWindow.window x ![0, 128 * g.val] S512x128.size (by revert g; decide)

/-- Head `g`'s row of a block of four rows. -/
def rowOf (x : Vec F S4x1x512 .f32) (g : Fin 4) : Vec F S1x1x512 .f32 :=
  VecWindow.window x ![g.val, 0, 0] S1x1x512.size (by revert g; decide)

/-- Head `g`'s first column of a block of four blocks. -/
def colOf (x : Vec F S4x512x128 .f32) (g : Fin 4) : Vec F S1x512x1 .f32 :=
  VecWindow.window x ![g.val, 0, 0] S1x512x1.size (by revert g; decide)

/-- The queries, scaled. -/
def qs (x : Win F) (g : Fin 4) : FVec F S512x128 .bf16 :=
  truncf .bf16 (mulf (cols x.q g) (broadcast S512x128 (Named.named κ "q_scale" 0x3E0293EE#32))) bitsLt_bf16_f32

/-- The scores in base 2, keys along the rows: the product of key and scaled query, minus the key's gate, plus the
    query's, minus the query's log-sum. -/
def sc (x : Win F) (g : Fin 4) : FVec F S512x512 .f32 :=
  addf (matmul dot_S512x128_S512x128_S512x512_1_1_0_0_n_n none (truncf .bf16 (cols x.k g) bitsLt_bf16_f32) (qs x g)
      (constant S512x512 .f32 0x00000000#32))
    (addf
      (broadcastTo S512x512 (mulf (shapeCast S512x1 (colOf x.ck g) shapeCasts_S1x512x1_S512x1)
        (broadcast S512x1 (Named.named κ "neg_log2e" 0xBFB8AA3B#32))) broadcasts_S512x1_S512x512)
      (broadcastTo S512x512 (subf (mulf (shapeCast S1x512 (rowOf x.cq g) shapeCasts_S1x1x512_S1x512)
          (broadcast S1x512 (Named.named κ "log2e" 0x3FB8AA3B#32)))
        (shapeCast S1x512 (rowOf x.lse g) shapeCasts_S1x1x512_S1x512)) broadcasts_S1x512_S512x512))

/-- The probabilities, keys along the rows; on the diagonal (`d`) a key after its query has probability zero. -/
def pt (d : Bool) (x : Win F) (g : Fin 4) : FVec F S512x512 .f32 :=
  match d with
  | true => exp2 (select (cmpi .sle (iota .tc S512x512 32 [0] iota_S512x512_d0_w32) (iota .tc S512x512 32 [1] iota_S512x512_d1_w32))
      (sc x g) (broadcast S512x512 (Named.named κ "masked" 0xF149F2CA#32)))
  | false => exp2 (sc x g)

/-- The gradient of the scores, keys along the rows. -/
def dst (d : Bool) (x : Win F) (g : Fin 4) : FVec F S512x512 .f32 :=
  mulf (pt d x g)
    (subf (matmul dot_S512x128_S512x128_S512x512_1_1_0_0_n_n none (truncf .bf16 (cols x.v g) bitsLt_bf16_f32) (cols x.ct g)
        (constant S512x512 .f32 0x00000000#32))
      (broadcastTo S512x512 (shapeCast S1x512 (rowOf x.delta g) shapeCasts_S1x1x512_S1x512) broadcasts_S1x512_S512x512))

/-- The values' gradient after the pair, from before it. -/
def addDv (d : Bool) (x : Win F) (g : Fin 4) (a : Vec F S1x512x128 .f32) : FVec F S1x512x128 .f32 :=
  shapeCast S1x512x128 (addf (shapeCast S512x128 a shapeCasts_S1x512x128_S512x128)
    (matmul dot_S512x512_S512x128_S512x128_1_0_0_1_n_n none (truncf .bf16 (pt d x g) bitsLt_bf16_f32) (cols x.ct g)
      (constant S512x128 .f32 0x00000000#32))) shapeCasts_S512x128_S1x512x128

/-- The keys' gradient after the pair, from before it. -/
def addDk (d : Bool) (x : Win F) (g : Fin 4) (a : Vec F S1x512x128 .f32) : FVec F S1x512x128 .f32 :=
  shapeCast S1x512x128 (addf (shapeCast S512x128 a shapeCasts_S1x512x128_S512x128)
    (matmul dot_S512x512_S512x128_S512x128_1_0_0_1_n_n none (truncf .bf16 (dst d x g) bitsLt_bf16_f32) (qs x g)
      (constant S512x128 .f32 0x00000000#32))) shapeCasts_S512x128_S1x512x128

/-- The key gates' sum after the pair, from before it. -/
def addDck (d : Bool) (x : Win F) (g : Fin 4) (a : Vec F S1x512x1 .f32) : FVec F S1x512x1 .f32 :=
  shapeCast S1x512x1 (addf (shapeCast S512x1 a shapeCasts_S1x512x1_S512x1)
    (shapeCast S512x1 (multiReduction .add [1] S512 (dst d x g) 0x00000000#32 reduces_S512x512_S512 (.inl rfl) rfl)
      shapeCasts_S512_S512x1)) shapeCasts_S512x1_S1x512x1

/-- The queries' gradient after the pair, from before it. -/
def addDq (d : Bool) (x : Win F) (g : Fin 4) (a : Vec F S1x512x128 .f32) : FVec F S1x512x128 .f32 :=
  shapeCast S1x512x128 (addf (shapeCast S512x128 a shapeCasts_S1x512x128_S512x128)
    (matmul dot_S512x512_S512x128_S512x128_0_0_1_1_n_n none (truncf .bf16 (dst d x g) bitsLt_bf16_f32)
      (truncf .bf16 (cols x.k g) bitsLt_bf16_f32) (constant S512x128 .f32 0x00000000#32))) shapeCasts_S512x128_S1x512x128

/-- The query gates' sum after the pair, from before it. -/
def addDcq (d : Bool) (x : Win F) (g : Fin 4) (a : Vec F S1x1x1x512 .f32) : FVec F S1x1x1x512 .f32 :=
  shapeCast S1x1x1x512 (addf (shapeCast S1x512 a shapeCasts_S1x1x1x512_S1x512)
    (shapeCast S1x512 (multiReduction .add [0] S512 (dst d x g) 0x00000000#32 reduces_S512x512_S512_2 (.inl rfl) rfl)
      shapeCasts_S512_S1x512)) shapeCasts_S1x512_S1x1x1x512

/-- Four windows of an array, apart from one another, each rewritten from what it held. -/
def upd {α : Type} {s : Shape} (off : Fin 4 → Fin s.rank → ℕ) (size : Fin s.rank → ℕ)
    (inb : ∀ g a, off g a + size a ≤ s.size a)
    (f : Fin 4 → (((a : Fin s.rank) → Fin (size a)) → α) → ((a : Fin s.rank) → Fin (size a)) → α) (x : s.Idx → α) : s.Idx → α :=
  VecWindow.put (VecWindow.put (VecWindow.put (VecWindow.put x
    (off 0) size (f 0 (VecWindow.window x (off 0) size (inb 0))))
    (off 1) size (f 1 (VecWindow.window x (off 1) size (inb 1))))
    (off 2) size (f 2 (VecWindow.window x (off 2) size (inb 2))))
    (off 3) size (f 3 (VecWindow.window x (off 3) size (inb 3)))

theorem upd_eq {α : Type} {s : Shape} (off : Fin 4 → Fin s.rank → ℕ) (size : Fin s.rank → ℕ)
    (inb : ∀ g a, off g a + size a ≤ s.size a)
    (f : Fin 4 → (((a : Fin s.rank) → Fin (size a)) → α) → ((a : Fin s.rank) → Fin (size a)) → α) (x : s.Idx → α)
    {w0 w1 w2 w3 : ((a : Fin s.rank) → Fin (size a)) → α}
    (h0 : w0 = f 0 (VecWindow.window x (off 0) size (inb 0))) (h1 : w1 = f 1 (VecWindow.window x (off 1) size (inb 1)))
    (h2 : w2 = f 2 (VecWindow.window x (off 2) size (inb 2))) (h3 : w3 = f 3 (VecWindow.window x (off 3) size (inb 3))) :
    VecWindow.put (VecWindow.put (VecWindow.put (VecWindow.put x (off 0) size w0) (off 1) size w1) (off 2) size w2)
      (off 3) size w3 = upd off size inb f x := by
  subst h0 h1 h2 h3
  rfl

/-- Head `g`'s plane of a stack of four. -/
def offG (g : Fin 4) : Fin 3 → ℕ := ![g.val, 0, 0]

/-- Head `g`'s rows of query block `n`. -/
def offQ (n : Fin 16) (g : Fin 4) : Fin 3 → ℕ := ![g.val, 512 * n.val, 0]

/-- Head `g`'s row of query block `n`. -/
def offR (n : Fin 16) (g : Fin 4) : Fin 4 → ℕ := ![g.val, n.val, 0, 0]

/-- The five sums a step carries: of the keys' gradient, the values', the key gates', the queries', the query gates'. -/
structure Sums (F : FTy → Type) where
  dk : Vec F S4x512x128 .f32
  dv : Vec F S4x512x128 .f32
  dck : Vec F S4x512x1 .f32
  dq : Vec F S4x8192x128 .f32
  dcq : Vec F S4x16x1x512 .f32

def stepDk (d : Bool) (x : Win F) (a : Vec F S4x512x128 .f32) : Vec F S4x512x128 .f32 :=
  upd offG S1x512x128.size (by decide) (fun g => addDk d x g) a

def stepDv (d : Bool) (x : Win F) (a : Vec F S4x512x128 .f32) : Vec F S4x512x128 .f32 :=
  upd offG S1x512x128.size (by decide) (fun g => addDv d x g) a

def stepDck (d : Bool) (x : Win F) (a : Vec F S4x512x1 .f32) : Vec F S4x512x1 .f32 :=
  upd offG S1x512x1.size (by decide) (fun g => addDck d x g) a

def stepDq (n : Fin 16) (d : Bool) (x : Win F) (a : Vec F S4x8192x128 .f32) : Vec F S4x8192x128 .f32 :=
  upd (offQ n) S1x512x128.size (by revert n; decide) (fun g => addDq d x g) a

def stepDcq (n : Fin 16) (d : Bool) (x : Win F) (a : Vec F S4x16x1x512 .f32) : Vec F S4x16x1x512 .f32 :=
  upd (offR n) S1x1x1x512.size (by revert n; decide) (fun g => addDcq d x g) a

end Cert.Fox
-- ==== Proof.Offs.lean ====
/-
  Where the stores of a step fall, in closed form, and reads after stores.
-/
module

public import proofs.«01_k».proof.Proof.Blocks
public import proofs.«01_k».proof.Proof.Step
public import proofs.«01_k».proof.Proof.Gen.KernelIdeal.Loops
public import Idealize.ShloMosaic.Lib.Pipeline.FrameBody
public import Idealize.ShloMosaic.Lib.Pipeline.FrameValue
public import Idealize.ShloMosaic.Lib.Tactic
public import Idealize.ShloMosaic.Lib.WordCmp

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

instance (n : Fin 16) : ClosedOff (k0_off2 (BitVec.ofNat 32 n.val)) := ⟨![0, 512 * n.val, 0], by revert n; decide⟩
instance (n : Fin 16) : ClosedOff (k0_off3 (BitVec.ofNat 32 n.val)) := ⟨![0, n.val, 0, 0], by revert n; decide⟩
instance (n : Fin 16) : ClosedOff (k0_off4 (BitVec.ofNat 32 n.val)) := ⟨![1, 512 * n.val, 0], by revert n; decide⟩
instance (n : Fin 16) : ClosedOff (k0_off5 (BitVec.ofNat 32 n.val)) := ⟨![1, n.val, 0, 0], by revert n; decide⟩
instance (n : Fin 16) : ClosedOff (k0_off6 (BitVec.ofNat 32 n.val)) := ⟨![2, 512 * n.val, 0], by revert n; decide⟩
instance (n : Fin 16) : ClosedOff (k0_off7 (BitVec.ofNat 32 n.val)) := ⟨![2, n.val, 0, 0], by revert n; decide⟩
instance (n : Fin 16) : ClosedOff (k0_off8 (BitVec.ofNat 32 n.val)) := ⟨![3, 512 * n.val, 0], by revert n; decide⟩
instance (n : Fin 16) : ClosedOff (k0_off9 (BitVec.ofNat 32 n.val)) := ⟨![3, n.val, 0, 0], by revert n; decide⟩
instance (n : Fin 16) : ClosedOff (k0_off10 (BitVec.ofNat 32 n.val)) := ⟨![0, 512 * n.val, 0], by revert n; decide⟩
instance (n : Fin 16) : ClosedOff (k0_off11 (BitVec.ofNat 32 n.val)) := ⟨![0, n.val, 0, 0], by revert n; decide⟩
instance (n : Fin 16) : ClosedOff (k0_off12 (BitVec.ofNat 32 n.val)) := ⟨![1, 512 * n.val, 0], by revert n; decide⟩
instance (n : Fin 16) : ClosedOff (k0_off13 (BitVec.ofNat 32 n.val)) := ⟨![1, n.val, 0, 0], by revert n; decide⟩
instance (n : Fin 16) : ClosedOff (k0_off14 (BitVec.ofNat 32 n.val)) := ⟨![2, 512 * n.val, 0], by revert n; decide⟩
instance (n : Fin 16) : ClosedOff (k0_off15 (BitVec.ofNat 32 n.val)) := ⟨![2, n.val, 0, 0], by revert n; decide⟩
instance (n : Fin 16) : ClosedOff (k0_off16 (BitVec.ofNat 32 n.val)) := ⟨![3, 512 * n.val, 0], by revert n; decide⟩
instance (n : Fin 16) : ClosedOff (k0_off17 (BitVec.ofNat 32 n.val)) := ⟨![3, n.val, 0, 0], by revert n; decide⟩

theorem inbQ (n : Fin 16) (g : Fin 4) : ∀ a, offQ n g a + S1x512x128.size a ≤ S4x8192x128.size a := by revert n g; decide
theorem inbR (n : Fin 16) (g : Fin 4) : ∀ a, offR n g a + S1x1x1x512.size a ≤ S4x16x1x512.size a := by revert n g; decide

section
variable {sig₁ : RefSig} {κ₁ : Kind} {sp : Space} {s : Shape} {e : EltTy} {Val : EltTy → Type} [∀ e, Nonempty (Val e)]

/-- A read that a store of everything covers, of that store's values. -/
theorem cov_full (v : View sig₁ κ₁ sp s e) {off offz size : Fin s.rank → ℕ} (inb : ∀ a, off a + size a ≤ s.size a)
    (inbz : ∀ a, offz a + s.size a ≤ s.size a) (w : s.Idx → Val e) (L : List (View.Piece Val s e)) :
    v.readCov (⟨Rect.unit offz s.size inbz, w⟩ :: L) (Rect.unit off size inb).toLoadRect = VecWindow.window w off size inb := by
  unfold View.readCov
  rw [View.readAt_unit v _ inb rfl inb, View.read_writes_full]

/-- A store apart from what is read afterwards does not change it. -/
theorem cov_skip (v : View sig₁ κ₁ sp s e) {off off₁ size size₁ : Fin s.rank → ℕ} (inb : ∀ a, off a + size a ≤ s.size a)
    (inb₁ : ∀ a, off₁ a + size₁ a ≤ s.size a) (w : (Rect.unit off₁ size₁ inb₁).shape.Idx → Val e) (L : List (View.Piece Val s e))
    (a : Fin s.rank) (ha : off a + size a ≤ off₁ a ∨ off₁ a + size₁ a ≤ off a) :
    v.readCov (⟨Rect.unit off₁ size₁ inb₁, w⟩ :: L) (Rect.unit off size inb).toLoadRect
      = v.readCov L (Rect.unit off size inb).toLoadRect := by
  unfold View.readCov
  rw [View.readAt_unit v _ inb rfl inb, View.read_writes_cons_put _ _ _ _ _ rfl, VecWindow.window_put_of_disjoint _ _ _ _ _ _ _ a ha]
  rfl
end

end Cert.Fox
-- ==== Proof.Diag.lean ====
/-
  A pair on the diagonal, run.
-/
module

public import proofs.«01_k».proof.Proof.Blocks
public import proofs.«01_k».proof.Proof.Step
public import proofs.«01_k».proof.Proof.Gen.KernelIdeal.Loops
public import Idealize.ShloMosaic.Lib.Pipeline.FrameBody
public import Idealize.ShloMosaic.Lib.Pipeline.FrameValue
public import Idealize.ShloMosaic.Lib.Tactic
public import Idealize.ShloMosaic.Lib.WordCmp
public import proofs.«01_k».proof.Proof.Offs

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
theorem run2 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (n : Fin 16) (v3 : BitVec 32) (h1 : k0_chk1 (BitVec.ofNat 32 n.val)) (h2 : k0_chk2 (BitVec.ofNat 32 n.val) v3) (h3 : k0_cond2 (BitVec.ofNat 32 n.val) v3 = 1#1) (v5 : BitVec 32)
    (x : Win F) (s : Sums F) (W : Waits sig Unit) (K : PUnit → sProp 𝕄) :
    iprop(owns (c : Thread nD τ) arg4 fullShare x.q ∗ owns (c : Thread nD τ) arg5 fullShare x.k ∗ owns (c : Thread nD τ) arg6 fullShare x.v ∗ owns (c : Thread nD τ) arg7 fullShare x.ct ∗ owns (c : Thread nD τ) arg8 fullShare x.cq ∗ owns (c : Thread nD τ) arg9 fullShare x.ck ∗ owns (c : Thread nD τ) arg10 fullShare x.lse ∗ owns (c : Thread nD τ) arg11 fullShare x.delta ∗ owns (c : Thread nD τ) arg16 fullShare s.dcq ∗ owns (c : Thread nD τ) arg17 fullShare s.dk ∗ owns (c : Thread nD τ) arg18 fullShare s.dv ∗ owns (c : Thread nD τ) arg19 fullShare s.dck ∗ owns (c : Thread nD τ) arg20 fullShare s.dq ∗ owes (c : Thread nD τ) 0 W ∗ ((owns (c : Thread nD τ) arg4 fullShare x.q ∗ owns (c : Thread nD τ) arg5 fullShare x.k ∗ owns (c : Thread nD τ) arg6 fullShare x.v ∗ owns (c : Thread nD τ) arg7 fullShare x.ct ∗ owns (c : Thread nD τ) arg8 fullShare x.cq ∗ owns (c : Thread nD τ) arg9 fullShare x.ck ∗ owns (c : Thread nD τ) arg10 fullShare x.lse ∗ owns (c : Thread nD τ) arg11 fullShare x.delta ∗ owns (c : Thread nD τ) arg16 fullShare (stepDcq n true x s.dcq) ∗ owns (c : Thread nD τ) arg17 fullShare (stepDk true x k0_pay11) ∗ owns (c : Thread nD τ) arg18 fullShare (stepDv true x k0_pay12) ∗ owns (c : Thread nD τ) arg19 fullShare (stepDck true x k0_pay13) ∗ owns (c : Thread nD τ) arg20 fullShare (stepDq n true x s.dq) ∗ owes (c : Thread nD τ) 0 W) -∗ K ⟨⟩))
    ⊢ wp frame (wpE (defs₀ (F := F)) Variants.none c none) Set.univ (blk2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 n.val) v3 h1 h2 v5) K := by
  unfold blk2
  rw [dif_pos h3]
  sl_open_parts
  obtain ⟨xq, xk, xv, xct, xcq, xck, xlse, xdelta⟩ := x
  obtain ⟨sdk, sdv, sdck, sdq, sdcq⟩ := s
  dsimp only
  unfold owns
  iintro ⟨⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f16, %e16, H16⟩, ⟨%f17, %e17, H17⟩, ⟨%f18, %e18, H18⟩, ⟨%f19, %e19, H19⟩, ⟨%f20, %e20, H20⟩, HW, Hk⟩
  subst e4 e5 e6 e7 e8 e9 e10 e11 e16 e17 e18 e19 e20
  sl_exec
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H16]
  · iexists _; isplitr; swap; · iexact H16
    ipureintro
    sl_unfold_run_names
    rw [View.read_writes_cons_put _ _ _ _ _ ((inferInstance : ClosedOff (k0_off9 (BitVec.ofNat 32 n.val))).eq.trans (show (![3, n.val, 0, 0] : Fin 4 → ℕ) = offR n 3 from rfl)), View.read_writes_cons_put _ _ _ _ _ ((inferInstance : ClosedOff (k0_off7 (BitVec.ofNat 32 n.val))).eq.trans (show (![2, n.val, 0, 0] : Fin 4 → ℕ) = offR n 2 from rfl)), View.read_writes_cons_put _ _ _ _ _ ((inferInstance : ClosedOff (k0_off5 (BitVec.ofNat 32 n.val))).eq.trans (show (![1, n.val, 0, 0] : Fin 4 → ℕ) = offR n 1 from rfl)), View.read_writes_cons_put _ _ _ _ _ ((inferInstance : ClosedOff (k0_off3 (BitVec.ofNat 32 n.val))).eq.trans (show (![0, n.val, 0, 0] : Fin 4 → ℕ) = offR n 0 from rfl)), View.writes_nil]
    sl_unfold_run_names
    refine upd_eq _ _ _ _ _ ?_ ?_ ?_ ?_
    · rw [View.readAt_unit arg16.view f16 _ ((inferInstance : ClosedOff (k0_off3 (BitVec.ofNat 32 n.val))).eq.trans (show (![0, n.val, 0, 0] : Fin 4 → ℕ) = offR n 0 from rfl)) (inbR n 0)]
      rfl
    · rw [View.readAt_unit arg16.view f16 _ ((inferInstance : ClosedOff (k0_off5 (BitVec.ofNat 32 n.val))).eq.trans (show (![1, n.val, 0, 0] : Fin 4 → ℕ) = offR n 1 from rfl)) (inbR n 1)]
      rfl
    · rw [View.readAt_unit arg16.view f16 _ ((inferInstance : ClosedOff (k0_off7 (BitVec.ofNat 32 n.val))).eq.trans (show (![2, n.val, 0, 0] : Fin 4 → ℕ) = offR n 2 from rfl)) (inbR n 2)]
      rfl
    · rw [View.readAt_unit arg16.view f16 _ ((inferInstance : ClosedOff (k0_off9 (BitVec.ofNat 32 n.val))).eq.trans (show (![3, n.val, 0, 0] : Fin 4 → ℕ) = offR n 3 from rfl)) (inbR n 3)]
      rfl
  isplitl [H17]
  · iexists _; isplitr; swap; · iexact H17
    ipureintro
    sl_unfold_run_names
    rw [View.read_writes_cons_put _ _ _ _ _ (show (![3, 0, 0] : Fin 3 → ℕ) = offG 3 from rfl), View.read_writes_cons_put _ _ _ _ _ (show (![2, 0, 0] : Fin 3 → ℕ) = offG 2 from rfl), View.read_writes_cons_put _ _ _ _ _ (show (![1, 0, 0] : Fin 3 → ℕ) = offG 1 from rfl), View.read_writes_cons_put _ _ _ _ _ (show (![0, 0, 0] : Fin 3 → ℕ) = offG 0 from rfl), View.read_writes_full]
    refine upd_eq _ _ _ _ _ ?_ ?_ ?_ ?_
    · dsimp only
      refine congrArg (addDk true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 0) ?_
      exact cov_full _ _ _ _ _
    · dsimp only
      refine congrArg (addDk true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 1) ?_
      exact (cov_skip _ _ _ _ _ 0 (by decide)).trans (cov_full _ _ _ _ _)
    · dsimp only
      refine congrArg (addDk true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 2) ?_
      exact (cov_skip _ _ _ _ _ 0 (by decide)).trans ((cov_skip _ _ _ _ _ 0 (by decide)).trans (cov_full _ _ _ _ _))
    · dsimp only
      refine congrArg (addDk true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 3) ?_
      exact (cov_skip _ _ _ _ _ 0 (by decide)).trans ((cov_skip _ _ _ _ _ 0 (by decide)).trans ((cov_skip _ _ _ _ _ 0 (by decide)).trans (cov_full _ _ _ _ _)))
  isplitl [H18]
  · iexists _; isplitr; swap; · iexact H18
    ipureintro
    sl_unfold_run_names
    rw [View.read_writes_cons_put _ _ _ _ _ (show (![3, 0, 0] : Fin 3 → ℕ) = offG 3 from rfl), View.read_writes_cons_put _ _ _ _ _ (show (![2, 0, 0] : Fin 3 → ℕ) = offG 2 from rfl), View.read_writes_cons_put _ _ _ _ _ (show (![1, 0, 0] : Fin 3 → ℕ) = offG 1 from rfl), View.read_writes_cons_put _ _ _ _ _ (show (![0, 0, 0] : Fin 3 → ℕ) = offG 0 from rfl), View.read_writes_full]
    refine upd_eq _ _ _ _ _ ?_ ?_ ?_ ?_
    · dsimp only
      refine congrArg (addDv true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 0) ?_
      exact cov_full _ _ _ _ _
    · dsimp only
      refine congrArg (addDv true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 1) ?_
      exact (cov_skip _ _ _ _ _ 0 (by decide)).trans (cov_full _ _ _ _ _)
    · dsimp only
      refine congrArg (addDv true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 2) ?_
      exact (cov_skip _ _ _ _ _ 0 (by decide)).trans ((cov_skip _ _ _ _ _ 0 (by decide)).trans (cov_full _ _ _ _ _))
    · dsimp only
      refine congrArg (addDv true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 3) ?_
      exact (cov_skip _ _ _ _ _ 0 (by decide)).trans ((cov_skip _ _ _ _ _ 0 (by decide)).trans ((cov_skip _ _ _ _ _ 0 (by decide)).trans (cov_full _ _ _ _ _)))
  isplitl [H19]
  · iexists _; isplitr; swap; · iexact H19
    ipureintro
    sl_unfold_run_names
    rw [View.read_writes_cons_put _ _ _ _ _ (show (![3, 0, 0] : Fin 3 → ℕ) = offG 3 from rfl), View.read_writes_cons_put _ _ _ _ _ (show (![2, 0, 0] : Fin 3 → ℕ) = offG 2 from rfl), View.read_writes_cons_put _ _ _ _ _ (show (![1, 0, 0] : Fin 3 → ℕ) = offG 1 from rfl), View.read_writes_cons_put _ _ _ _ _ (show (![0, 0, 0] : Fin 3 → ℕ) = offG 0 from rfl), View.read_writes_full]
    refine upd_eq _ _ _ _ _ ?_ ?_ ?_ ?_
    · dsimp only
      refine congrArg (addDck true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 0) ?_
      exact cov_full _ _ _ _ _
    · dsimp only
      refine congrArg (addDck true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 1) ?_
      exact (cov_skip _ _ _ _ _ 0 (by decide)).trans (cov_full _ _ _ _ _)
    · dsimp only
      refine congrArg (addDck true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 2) ?_
      exact (cov_skip _ _ _ _ _ 0 (by decide)).trans ((cov_skip _ _ _ _ _ 0 (by decide)).trans (cov_full _ _ _ _ _))
    · dsimp only
      refine congrArg (addDck true ⟨View.read (Elt F) arg4.view f4, View.read (Elt F) arg5.view f5, View.read (Elt F) arg6.view f6, View.read (Elt F) arg7.view f7, View.read (Elt F) arg8.view f8, View.read (Elt F) arg9.view f9, View.read (Elt F) arg10.view f10, View.read (Elt F) arg11.view f11⟩ 3) ?_
      exact (cov_skip _ _ _ _ _ 0 (by decide)).trans ((cov_skip _ _ _ _ _ 0 (by decide)).trans ((cov_skip _ _ _ _ _ 0 (by decide)).trans (cov_full _ _ _ _ _)))
  isplitl [H20]
  · iexists _; isplitr; swap; · iexact H20
    ipureintro
    sl_unfold_run_names
    rw [View.read_writes_cons_put _ _ _ _ _ ((inferInstance : ClosedOff (k0_off8 (BitVec.ofNat 32 n.val))).eq.trans (show (![3, 512 * n.val, 0] : Fin 3 → ℕ) = offQ n 3 from rfl)), View.read_writes_cons_put _ _ _ _ _ ((inferInstance : ClosedOff (k0_off6 (BitVec.ofNat 32 n.val))).eq.trans (show (![2, 512 * n.val, 0] : Fin 3 → ℕ) = offQ n 2 from rfl)), View.read_writes_cons_put _ _ _ _ _ ((inferInstance : ClosedOff (k0_off4 (BitVec.ofNat 32 n.val))).eq.trans (show (![1, 512 * n.val, 0] : Fin 3 → ℕ) = offQ n 1 from rfl)), View.read_writes_cons_put _ _ _ _ _ ((inferInstance : ClosedOff (k0_off2 (BitVec.ofNat 32 n.val))).eq.trans (show (![0, 512 * n.val, 0] : Fin 3 → ℕ) = offQ n 0 from rfl)), View.writes_nil]
    sl_unfold_run_names
    refine upd_eq _ _ _ _ _ ?_ ?_ ?_ ?_
    · rw [View.readAt_unit arg20.view f20 _ ((inferInstance : ClosedOff (k0_off2 (BitVec.ofNat 32 n.val))).eq.trans (show (![0, 512 * n.val, 0] : Fin 3 → ℕ) = offQ n 0 from rfl)) (inbQ n 0)]
      rfl
    · rw [View.readAt_unit arg20.view f20 _ ((inferInstance : ClosedOff (k0_off4 (BitVec.ofNat 32 n.val))).eq.trans (show (![1, 512 * n.val, 0] : Fin 3 → ℕ) = offQ n 1 from rfl)) (inbQ n 1)]
      rfl
    · rw [View.readAt_unit arg20.view f20 _ ((inferInstance : ClosedOff (k0_off6 (BitVec.ofNat 32 n.val))).eq.trans (show (![2, 512 * n.val, 0] : Fin 3 → ℕ) = offQ n 2 from rfl)) (inbQ n 2)]
      rfl
    · rw [View.readAt_unit arg20.view f20 _ ((inferInstance : ClosedOff (k0_off8 (BitVec.ofNat 32 n.val))).eq.trans (show (![3, 512 * n.val, 0] : Fin 3 → ℕ) = offQ n 3 from rfl)) (inbQ n 3)]
      rfl
  iexact HW

end Cert.Fox
-- ==== Proof.Below.lean ====
/-
  A pair below the diagonal, run.
-/
module

public import proofs.«01_k».proof.Proof.Blocks
public import proofs.«01_k».proof.Proof.Step
public import proofs.«01_k».proof.Proof.Gen.KernelIdeal.Loops
public import Idealize.ShloMosaic.Lib.Pipeline.FrameBody
public import Idealize.ShloMosaic.Lib.Pipeline.FrameValue
public import Idealize.ShloMosaic.Lib.Tactic
public import Idealize.ShloMosaic.Lib.WordCmp
public import proofs.«01_k».proof.Proof.Offs

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
theorem run3 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (n : Fin 16) (v3 : BitVec 32) (h1 : k0_chk1 (BitVec.ofNat 32 n.val)) (h2 : k0_chk2 (BitVec.ofNat 32 n.val) v3) (h3 : k0_cond3 (BitVec.ofNat 32 n.val) v3 = 1#1) (v5 : BitVec 32)
    (x : Win F) (s : Sums F) (W : Waits sig Unit) (K : PUnit → sProp 𝕄) :
    iprop(owns (c : Thread nD τ) arg4 fullShare x.q ∗ owns (c : Thread nD τ) arg5 fullShare x.k ∗ owns (c : Thread nD τ) arg6 fullShare x.v ∗ owns (c : Thread nD τ) arg7 fullShare x.ct ∗ owns (c : Thread nD τ) arg8 fullShare x.cq ∗ owns (c : Thread nD τ) arg9 fullShare x.ck ∗ owns (c : Thread nD τ) arg10 fullShare x.lse ∗ owns (c : Thread nD τ) arg11 fullShare x.delta ∗ owns (c : Thread nD τ) arg16 fullShare s.dcq ∗ owns (c : Thread nD τ) arg17 fullShare s.dk ∗ owns (c : Thread nD τ) arg18 fullShare s.dv ∗ owns (c : Thread nD τ) arg19 fullShare s.dck ∗ owns (c : Thread nD τ) arg20 fullShare s.dq ∗ owes (c : Thread nD τ) 0 W ∗ ((owns (c : Thread nD τ) arg4 fullShare x.q ∗ owns (c : Thread nD τ) arg5 fullShare x.k ∗ owns (c : Thread nD τ) arg6 fullShare x.v ∗ owns (c : Thread nD τ) arg7 fullShare x.ct ∗ owns (c : Thread nD τ) arg8 fullShare x.cq ∗ owns (c : Thread nD τ) arg9 fullShare x.ck ∗ owns (c : Thread nD τ) arg10 fullShare x.lse ∗ owns (c : Thread nD τ) arg11 fullShare x.delta ∗ owns (c : Thread nD τ) arg16 fullShare (stepDcq n false x s.dcq) ∗ owns (c : Thread nD τ) arg17 fullShare (stepDk false x s.dk) ∗ owns (c : Thread nD τ) arg18 fullShare (stepDv false x s.dv) ∗ owns (c : Thread nD τ) arg19 fullShare (stepDck false x s.dck) ∗ owns (c : Thread nD τ) arg20 fullShare (stepDq n false x s.dq) ∗ owes (c : Thread nD τ) 0 W) -∗ K ⟨⟩))
    ⊢ wp frame (wpE (defs₀ (F := F)) Variants.none c none) Set.univ (blk3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 n.val) v3 h1 h2 v5) K := by
  unfold blk3
  rw [dif_pos h3]
  sl_open_parts
  obtain ⟨xq, xk, xv, xct, xcq, xck, xlse, xdelta⟩ := x
  obtain ⟨sdk, sdv, sdck, sdq, sdcq⟩ := s
  dsimp only
  unfold owns
  iintro ⟨⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f16, %e16, H16⟩, ⟨%f17, %e17, H17⟩, ⟨%f18, %e18, H18⟩, ⟨%f19, %e19, H19⟩, ⟨%f20, %e20, H20⟩, HW, Hk⟩
  subst e4 e5 e6 e7 e8 e9 e10 e11 e16 e17 e18 e19 e20
  sl_exec
  sl_step
  iapply Hk
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H16]
  · iexists _; isplitr; swap; · iexact H16
    ipureintro
    rw [View.read_writes_cons_put _ _ _ _ _ ((inferInstance : ClosedOff (k0_off17 (BitVec.ofNat 32 n.val))).eq.trans (show (![3, n.val, 0, 0] : Fin 4 → ℕ) = offR n 3 from rfl)), View.read_writes_cons_put _ _ _ _ _ ((inferInstance : ClosedOff (k0_off15 (BitVec.ofNat 32 n.val))).eq.trans (show (![2, n.val, 0, 0] : Fin 4 → ℕ) = offR n 2 from rfl)), View.read_writes_cons_put _ _ _ _ _ ((inferInstance : ClosedOff (k0_off13 (BitVec.ofNat 32 n.val))).eq.trans (show (![1, n.val, 0, 0] : Fin 4 → ℕ) = offR n 1 from rfl)), View.read_writes_cons_put _ _ _ _ _ ((inferInstance : ClosedOff (k0_off11 (BitVec.ofNat 32 n.val))).eq.trans (show (![0, n.val, 0, 0] : Fin 4 → ℕ) = offR n 0 from rfl)), View.writes_nil]
    sl_unfold_run_names
    refine upd_eq _ _ _ _ _ ?_ ?_ ?_ ?_
    · rw [View.readAt_unit arg16.view f16 _ ((inferInstance : ClosedOff (k0_off11 (BitVec.ofNat 32 n.val))).eq.trans (show (![0, n.val, 0, 0] : Fin 4 → ℕ) = offR n 0 from rfl)) (inbR n 0)]
      rfl
    · rw [View.readAt_unit arg16.view f16 _ ((inferInstance : ClosedOff (k0_off13 (BitVec.ofNat 32 n.val))).eq.trans (show (![1, n.val, 0, 0] : Fin 4 → ℕ) = offR n 1 from rfl)) (inbR n 1)]
      rfl
    · rw [View.readAt_unit arg16.view f16 _ ((inferInstance : ClosedOff (k0_off15 (BitVec.ofNat 32 n.val))).eq.trans (show (![2, n.val, 0, 0] : Fin 4 → ℕ) = offR n 2 from rfl)) (inbR n 2)]
      rfl
    · rw [View.readAt_unit arg16.view f16 _ ((inferInstance : ClosedOff (k0_off17 (BitVec.ofNat 32 n.val))).eq.trans (show (![3, n.val, 0, 0] : Fin 4 → ℕ) = offR n 3 from rfl)) (inbR n 3)]
      rfl
  isplitl [H17]
  · iexists _; isplitr; swap; · iexact H17
    ipureintro
    rw [View.read_writes_cons_put _ _ _ _ _ (show (![3, 0, 0] : Fin 3 → ℕ) = offG 3 from rfl), View.read_writes_cons_put _ _ _ _ _ (show (![2, 0, 0] : Fin 3 → ℕ) = offG 2 from rfl), View.read_writes_cons_put _ _ _ _ _ (show (![1, 0, 0] : Fin 3 → ℕ) = offG 1 from rfl), View.read_writes_cons_put _ _ _ _ _ (show (![0, 0, 0] : Fin 3 → ℕ) = offG 0 from rfl), View.writes_nil]
    refine upd_eq _ _ _ _ _ ?_ ?_ ?_ ?_
    · rfl
    · rfl
    · rfl
    · rfl
  isplitl [H18]
  · iexists _; isplitr; swap; · iexact H18
    ipureintro
    rw [View.read_writes_cons_put _ _ _ _ _ (show (![3, 0, 0] : Fin 3 → ℕ) = offG 3 from rfl), View.read_writes_cons_put _ _ _ _ _ (show (![2, 0, 0] : Fin 3 → ℕ) = offG 2 from rfl), View.read_writes_cons_put _ _ _ _ _ (show (![1, 0, 0] : Fin 3 → ℕ) = offG 1 from rfl), View.read_writes_cons_put _ _ _ _ _ (show (![0, 0, 0] : Fin 3 → ℕ) = offG 0 from rfl), View.writes_nil]
    refine upd_eq _ _ _ _ _ ?_ ?_ ?_ ?_
    · rfl
    · rfl
    · rfl
    · rfl
  isplitl [H19]
  · iexists _; isplitr; swap; · iexact H19
    ipureintro
    rw [View.read_writes_cons_put _ _ _ _ _ (show (![3, 0, 0] : Fin 3 → ℕ) = offG 3 from rfl), View.read_writes_cons_put _ _ _ _ _ (show (![2, 0, 0] : Fin 3 → ℕ) = offG 2 from rfl), View.read_writes_cons_put _ _ _ _ _ (show (![1, 0, 0] : Fin 3 → ℕ) = offG 1 from rfl), View.read_writes_cons_put _ _ _ _ _ (show (![0, 0, 0] : Fin 3 → ℕ) = offG 0 from rfl), View.writes_nil]
    refine upd_eq _ _ _ _ _ ?_ ?_ ?_ ?_
    · rfl
    · rfl
    · rfl
    · rfl
  isplitl [H20]
  · iexists _; isplitr; swap; · iexact H20
    ipureintro
    rw [View.read_writes_cons_put _ _ _ _ _ ((inferInstance : ClosedOff (k0_off16 (BitVec.ofNat 32 n.val))).eq.trans (show (![3, 512 * n.val, 0] : Fin 3 → ℕ) = offQ n 3 from rfl)), View.read_writes_cons_put _ _ _ _ _ ((inferInstance : ClosedOff (k0_off14 (BitVec.ofNat 32 n.val))).eq.trans (show (![2, 512 * n.val, 0] : Fin 3 → ℕ) = offQ n 2 from rfl)), View.read_writes_cons_put _ _ _ _ _ ((inferInstance : ClosedOff (k0_off12 (BitVec.ofNat 32 n.val))).eq.trans (show (![1, 512 * n.val, 0] : Fin 3 → ℕ) = offQ n 1 from rfl)), View.read_writes_cons_put _ _ _ _ _ ((inferInstance : ClosedOff (k0_off10 (BitVec.ofNat 32 n.val))).eq.trans (show (![0, 512 * n.val, 0] : Fin 3 → ℕ) = offQ n 0 from rfl)), View.writes_nil]
    sl_unfold_run_names
    refine upd_eq _ _ _ _ _ ?_ ?_ ?_ ?_
    · rw [View.readAt_unit arg20.view f20 _ ((inferInstance : ClosedOff (k0_off10 (BitVec.ofNat 32 n.val))).eq.trans (show (![0, 512 * n.val, 0] : Fin 3 → ℕ) = offQ n 0 from rfl)) (inbQ n 0)]
      rfl
    · rw [View.readAt_unit arg20.view f20 _ ((inferInstance : ClosedOff (k0_off12 (BitVec.ofNat 32 n.val))).eq.trans (show (![1, 512 * n.val, 0] : Fin 3 → ℕ) = offQ n 1 from rfl)) (inbQ n 1)]
      rfl
    · rw [View.readAt_unit arg20.view f20 _ ((inferInstance : ClosedOff (k0_off14 (BitVec.ofNat 32 n.val))).eq.trans (show (![2, 512 * n.val, 0] : Fin 3 → ℕ) = offQ n 2 from rfl)) (inbQ n 2)]
      rfl
    · rw [View.readAt_unit arg20.view f20 _ ((inferInstance : ClosedOff (k0_off16 (BitVec.ofNat 32 n.val))).eq.trans (show (![3, 512 * n.val, 0] : Fin 3 → ℕ) = offQ n 3 from rfl)) (inbQ n 3)]
      rfl
  iexact HW

end Cert.Fox
-- ==== Proof.Send.lean ====
/-
  The last pair of a sweep sends the query gradient out: for each head and each of the sixteen query blocks, the rows
  are scaled, rounded, staged and copied into the result's rows.
-/
module

public import proofs.«01_k».proof.Proof.Blocks
public import proofs.«01_k».proof.Proof.Step
public import proofs.«01_k».proof.Proof.Gen.KernelIdeal.Loops
public import Idealize.ShloMosaic.Lib.Pipeline.FrameBody
public import Idealize.ShloMosaic.Lib.Pipeline.FrameValue
public import Idealize.ShloMosaic.Lib.Tactic
public import Idealize.ShloMosaic.Lib.WordCmp
public import proofs.«01_k».proof.Proof.Offs
public import Idealize.ShloMosaic.Lib.Pointwise.Reshape

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The query gradient as it goes out. -/
def dqOut (X : Vec F S4x8192x128 .f32) : Vec F S4x8192x128 .bf16 :=
  truncf .bf16 (mulf X (broadcast S4x8192x128 (Named.named κ "scale" 0x3DB504F3#32))) bitsLt_bf16_f32

/-- The result once the first `K` rows of head `g` of sweep `z` have gone out. -/
def rows (z g K : ℕ) (hg : g + 1 ≤ 4) (hK : K ≤ 8192) (D : Vec F S4x8192x128 .bf16) (Y : Vec F S8x8192x128 .bf16) : Vec F S8x8192x128 .bf16 :=
  VecWindow.put Y ![4 * z + g, 0, 0] ![1, K, 128]
    (VecWindow.window D ![g, 0, 0] ![1, K, 128] (by
      intro a; fin_cases a
      · exact hg
      · show 0 + K ≤ 8192; omega
      · show 0 + 128 ≤ 128; omega))

theorem rows_zero (z g : ℕ) (hg : g + 1 ≤ 4) (D : Vec F S4x8192x128 .bf16) (Y : Vec F S8x8192x128 .bf16) :
    rows z g 0 hg (by omega) D Y = Y := by
  funext y
  unfold rows VecWindow.put
  rw [dif_neg]
  intro h
  have h1 : (y 1).val < 0 + 0 := (h 1).2
  omega

theorem rows_succ (z g k : ℕ) (hg : g + 1 ≤ 4) (hk : k < 16) (D : Vec F S4x8192x128 .bf16) (Y : Vec F S8x8192x128 .bf16)
    (inb : ∀ a, (![g, 512 * k, 0] : Fin 3 → ℕ) a + S1x512x128.size a ≤ S4x8192x128.size a) :
    VecWindow.put (rows z g (512 * k) hg (by omega) D Y) ![4 * z + g, 512 * k, 0] S1x512x128.size
      (VecWindow.window D ![g, 512 * k, 0] S1x512x128.size inb) = rows z g (512 * (k + 1)) hg (by omega) D Y := by
  funext y
  have e1 : (∀ a, (![4 * z + g, 512 * k, 0] : Fin 3 → ℕ) a ≤ (y a).val ∧ (y a).val < (![4 * z + g, 512 * k, 0] : Fin 3 → ℕ) a + S1x512x128.size a)
      ↔ (y 0).val = 4 * z + g ∧ 512 * k ≤ (y 1).val ∧ (y 1).val < 512 * k + 512 := by
    have h2 : (y 2).val < 128 := (y 2).isLt
    constructor
    · intro h
      have a0 : 4 * z + g ≤ (y 0).val ∧ (y 0).val < 4 * z + g + 1 := h 0
      have a1 : 512 * k ≤ (y 1).val ∧ (y 1).val < 512 * k + 512 := h 1
      omega
    · intro h a
      fin_cases a
      · show 4 * z + g ≤ (y 0).val ∧ (y 0).val < 4 * z + g + 1; omega
      · show 512 * k ≤ (y 1).val ∧ (y 1).val < 512 * k + 512; omega
      · show 0 ≤ (y 2).val ∧ (y 2).val < 0 + 128; omega
  have e2 : ∀ K, (∀ a, (![4 * z + g, 0, 0] : Fin 3 → ℕ) a ≤ (y a).val ∧ (y a).val < (![4 * z + g, 0, 0] : Fin 3 → ℕ) a + (![1, K, 128] : Fin 3 → ℕ) a)
      ↔ (y 0).val = 4 * z + g ∧ (y 1).val < K := by
    intro K
    have h2 : (y 2).val < 128 := (y 2).isLt
    constructor
    · intro h
      have a0 : 4 * z + g ≤ (y 0).val ∧ (y 0).val < 4 * z + g + 1 := h 0
      have a1 : 0 ≤ (y 1).val ∧ (y 1).val < 0 + K := h 1
      omega
    · intro h a
      fin_cases a
      · show 4 * z + g ≤ (y 0).val ∧ (y 0).val < 4 * z + g + 1; omega
      · show 0 ≤ (y 1).val ∧ (y 1).val < 0 + K; omega
      · show 0 ≤ (y 2).val ∧ (y 2).val < 0 + 128; omega
  unfold rows VecWindow.put VecWindow.window
  dsimp only
  by_cases h1 : (y 0).val = 4 * z + g ∧ 512 * k ≤ (y 1).val ∧ (y 1).val < 512 * k + 512
  · rw [dif_pos (e1.mpr h1), dif_pos ((e2 _).mpr ⟨h1.1, by omega⟩)]
    refine congrArg D (funext fun a => Fin.ext ?_)
    fin_cases a
    · show g + 1 * ((y 0).val - (4 * z + g)) = g + 1 * ((y 0).val - (4 * z + g)); rfl
    · show 512 * k + 1 * ((y 1).val - 512 * k) = 0 + 1 * ((y 1).val - 0); omega
    · rfl
  · rw [dif_neg (fun h => h1 (e1.mp h))]
    by_cases h2 : (y 0).val = 4 * z + g ∧ (y 1).val < 512 * k
    · rw [dif_pos ((e2 _).mpr h2), dif_pos ((e2 _).mpr ⟨h2.1, by omega⟩)]
      rfl
    · rw [dif_neg (fun h => h2 ((e2 _).mp h)), dif_neg (fun h => by have := (e2 _).mp h; omega)]

/-- A copy of a staged block into a window of an array, through the window with its unit axis dropped. -/
theorem read_copy (arg15 : Memref sig .tc .hbm S8x8192x128 .bf16) {off off' : Fin 3 → ℕ} (inb : ∀ a, off a + S1x512x128.size a ≤ S8x8192x128.size a)
    (h1) (h2) (f : BufTy.Contents (Elt F) arg15.view.ty) (w : S512x128.Idx → Elt F .bf16) (h : off = off') :
    arg15.view.read (Elt F) (View.write (Elt F) ((arg15.slice (Rect.unit (s := S8x8192x128) off S1x512x128.size inb) h1).squeeze S512x128 h2).view f w Finset.univ)
      = VecWindow.put (arg15.view.read (Elt F) f) off' S1x512x128.size
          (fun x => w ((Shape.reshapeEquiv (s := S1x512x128) (s' := S512x128) h2.numel_eq).symm x)) :=
  (congrArg (View.read (Elt F) arg15.view) (View.write_reshape_univ (arg15.view.slice (Rect.unit (s := S8x8192x128) off S1x512x128.size inb)) h2.numel_eq f w)).trans (View.read_writes_cons_put arg15.view f inb _ [] h)

instance (k : Fin k0_t1_loop.trips) : ClosedOff (k0_off18 k) := ⟨![0, 512 * k.val, 0], by revert k; decide⟩
theorem inbK0 : ∀ (k : Fin k0_t1_loop.trips) (a : Fin 3), (![0, 512 * k.val, 0] : Fin 3 → ℕ) a + S1x512x128.size a ≤ S4x8192x128.size a := by decide
theorem off19_eq (i : grid0.Coords) (k : Fin k0_t1_loop.trips) : k0_off19 i k = ![4 * (i 0).val + 0, 512 * k.val, 0] := by
  have h : ∀ (z : Fin 2) (k : Fin k0_t1_loop.trips), ![(Scalar.addi (Scalar.muli (BitVec.ofNat 32 z.val) 4#32) 0#32).toNat, (Scalar.muli (Scf.iv 0#32 1#32 k) 512#32).toNat, 0] = (![4 * z.val + 0, 512 * k.val, 0] : Fin 3 → ℕ) := by decide
  exact h (i 0) k

theorem pay7_eq (a : Vec F S1x512x128 .f32) (h2) (x : S1x512x128.Idx) :
    k0_pay7 a ((Shape.reshapeEquiv (s := S1x512x128) (s' := S512x128) h2).symm x)
      = truncf .bf16 (mulf a (broadcast S1x512x128 (Named.named κ "scale" 0x3DB504F3#32))) bitsLt_bf16_f32 x := by
  unfold k0_pay7
  rw [shapeCast_id]
  show truncf .bf16 (mulf a (broadcast S1x512x128 (Named.named κ "scale" 0x3DB504F3#32))) bitsLt_bf16_f32 (Shape.reshapeEquiv _ ((Shape.reshapeEquiv (s := S1x512x128) (s' := S512x128) h2).symm x)) = _
  exact congrArg _ (by simp)

theorem trip1 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (k0_h5 : k0_cond5 i = 1#1) (k : Fin k0_t1_loop.trips) (f20 : BufTy.Contents (Elt F) arg20.view.ty) (f21 : BufTy.Contents (Elt F) arg21.view.ty) (f15 : BufTy.Contents (Elt F) arg15.view.ty) (W : Waits sig Unit) :
    (iprop((arg20.view.loc (c : Thread nD τ) ↦[arg20.view.set]{fullShare} f20) ∗ (arg21.view.loc (c : Thread nD τ) ↦[arg21.view.set]{fullShare} f21)
      ∗ (arg15.view.loc (c : Thread nD τ) ↦{fullShare} f15) ∗ (semVal ((c : Thread nD τ), SemLoc.dma arg22.sem) 0) ∗ owes (c : Thread nD τ) 0 W) : sProp 𝕄)
    ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5 k PUnit.unit)
      (fun _ => iprop((arg20.view.loc (c : Thread nD τ) ↦[arg20.view.set]{fullShare} f20) ∗ (∃ f, arg21.view.loc (c : Thread nD τ) ↦[arg21.view.set]{fullShare} f)
      ∗ (∃ f, ⌜arg15.view.read (Elt F) f = VecWindow.put (arg15.view.read (Elt F) f15) ![4 * (i 0).val + 0, 512 * k.val, 0] S1x512x128.size
          (VecWindow.window (dqOut (arg20.view.read (Elt F) f20)) ![0, 512 * k.val, 0] S1x512x128.size (inbK0 k))⌝
        ∗ (arg15.view.loc (c : Thread nD τ) ↦{fullShare} f)) ∗ (semVal ((c : Thread nD τ), SemLoc.dma arg22.sem) 0) ∗ (∃ W, owes (c : Thread nD τ) 0 W))) := by
  have hk : k.val < 16 := Nat.lt_of_lt_of_le k.isLt k0_t1_abs.2.1
  unfold k0_t1_body
  iintro ⟨H20, H21, H15, HC, HO⟩
  sl_exec
  sl_step
  isplitl [H20]; · iexact H20
  isplitl [H21]; · iexists _; iexact H21
  isplitl [H15]
  · iexists _; isplitr; swap; · iexact H15
    ipureintro
    sl_unfold_run_names
    refine (read_copy arg15 _ _ _ f15 _ (off19_eq i k)).trans ?_
    refine congrArg (VecWindow.put _ _ _) (funext fun x => ?_)
    refine (congrFun (View.read_writes_full arg21.view f21 _ _ []) _).trans ?_
    rw [pay7_eq, View.readAt_unit arg20.view f20 _ (inferInstance : ClosedOff (k0_off18 k)).eq (inbK0 k)]
    rfl
  isplitl [HC]; · iexact HC
  iexists _; iexact HO

/-- Head 0's rows go out. -/
theorem send1 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (k0_h5 : k0_cond5 i = 1#1) (f20 : BufTy.Contents (Elt F) arg20.view.ty) (Y : Vec F S8x8192x128 .bf16) (K : PUnit → sProp 𝕄) :
    (iprop((arg20.view.loc (c : Thread nD τ) ↦[arg20.view.set]{fullShare} f20) ∗ (∃ f, arg21.view.loc (c : Thread nD τ) ↦[arg21.view.set]{fullShare} f)
      ∗ (∃ f, ⌜arg15.view.read (Elt F) f = Y⌝ ∗ (arg15.view.loc (c : Thread nD τ) ↦{fullShare} f)) ∗ (semVal ((c : Thread nD τ), SemLoc.dma arg22.sem) 0) ∗ (∃ W, owes (c : Thread nD τ) 0 W)
      ∗ (((arg20.view.loc (c : Thread nD τ) ↦[arg20.view.set]{fullShare} f20) ∗ (∃ f, arg21.view.loc (c : Thread nD τ) ↦[arg21.view.set]{fullShare} f)
      ∗ (∃ f, ⌜arg15.view.read (Elt F) f = rows (i 0).val 0 8192 (by omega) (by omega) (dqOut (arg20.view.read (Elt F) f20)) Y⌝ ∗ (arg15.view.loc (c : Thread nD τ) ↦{fullShare} f)) ∗ (semVal ((c : Thread nD τ), SemLoc.dma arg22.sem) 0) ∗ (∃ W, owes (c : Thread nD τ) 0 W)) -∗ K ⟨⟩)) : sProp 𝕄)
    ⊢ wp frame (wpE (defs₀ (F := F)) Variants.none (c : Thread nD τ) none) Set.univ
      (Scf.Loop.for k0_t1_loop (k0_t1_ok i k0_h5) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5)) K := by
  have htr : k0_t1_loop.trips = 16 := by decide
  iintro ⟨H20, H21, ⟨%f, %hf, H15⟩, HC, HO, HK⟩
  iapply (Scf.wp_for frame (wpE (defs₀ (F := F)) Variants.none (c : Thread nD τ) none) Set.univ _ _ _ _ _ _
    (fun k _ => (iprop((arg20.view.loc (c : Thread nD τ) ↦[arg20.view.set]{fullShare} f20) ∗ (∃ f, arg21.view.loc (c : Thread nD τ) ↦[arg21.view.set]{fullShare} f)
      ∗ (∃ f, ⌜∀ hk : k ≤ 16, arg15.view.read (Elt F) f = rows (i 0).val 0 (512 * k) (by omega) (by omega) (dqOut (arg20.view.read (Elt F) f20)) Y⌝ ∗ (arg15.view.loc (c : Thread nD τ) ↦{fullShare} f)) ∗ (semVal ((c : Thread nD τ), SemLoc.dma arg22.sem) 0) ∗ (∃ W, owes (c : Thread nD τ) 0 W)) : sProp 𝕄)) ?_)
  · intro k acc
    iintro ⟨H20, ⟨%f21, H21⟩, ⟨%f', %hf', H15⟩, HC, ⟨%W, HO⟩⟩
    have hk : k.val < 16 := Nat.lt_of_lt_of_le k.isLt k0_t1_abs.2.1
    iapply (wp_wand_r frame (wpE (defs₀ (F := F)) Variants.none (c : Thread nD τ) none) Set.univ)
    isplitl [H20 H21 H15 HC HO]
    · iapply (trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5 k f20 f21 f' W)
      isplitl [H20]; · iexact H20
      isplitl [H21]; · iexact H21
      isplitl [H15]; · iexact H15
      isplitl [HC]; · iexact HC
      iexact HO
    · iintro %acc' ⟨H20, H21, ⟨%f'', %hf'', H15⟩, HC, HO⟩
      isplitl [H20]; · iexact H20
      isplitl [H21]; · iexact H21
      isplitl [H15]
      · iexists f''; isplitr; swap; · iexact H15
        ipureintro
        intro hk'
        rw [hf'', hf' (by omega)]
        exact rows_succ _ 0 k.val (by omega) hk _ _ _
      isplitl [HC]; · iexact HC
      iexact HO
  · isplitl [H20 H21 H15 HC HO]
    · isplitl [H20]; · iexact H20
      isplitl [H21]; · iexact H21
      isplitl [H15]
      · iexists f; isplitr; swap; · iexact H15
        ipureintro
        intro _
        exact hf.trans (rows_zero _ _ _ _ _).symm
      isplitl [HC]; · iexact HC
      iexact HO
    · iintro %acc ⟨H20, H21, ⟨%f', %hf', H15⟩, HC, HO⟩
      iapply HK
      isplitl [H20]; · iexact H20
      isplitl [H21]; · iexact H21
      isplitl [H15]
      · iexists f'; isplitr; swap; · iexact H15
        ipureintro
        exact hf' (by decide)
      isplitl [HC]; · iexact HC
      iexact HO

instance (k : Fin k0_t2_loop.trips) : ClosedOff (k0_off20 k) := ⟨![1, 512 * k.val, 0], by revert k; decide⟩
theorem inbK1 : ∀ (k : Fin k0_t2_loop.trips) (a : Fin 3), (![1, 512 * k.val, 0] : Fin 3 → ℕ) a + S1x512x128.size a ≤ S4x8192x128.size a := by decide
theorem off21_eq (i : grid0.Coords) (k : Fin k0_t2_loop.trips) : k0_off21 i k = ![4 * (i 0).val + 1, 512 * k.val, 0] := by
  have h : ∀ (z : Fin 2) (k : Fin k0_t2_loop.trips), ![(Scalar.addi (Scalar.muli (BitVec.ofNat 32 z.val) 4#32) 1#32).toNat, (Scalar.muli (Scf.iv 0#32 1#32 k) 512#32).toNat, 0] = (![4 * z.val + 1, 512 * k.val, 0] : Fin 3 → ℕ) := by decide
  exact h (i 0) k

theorem pay8_eq (a : Vec F S1x512x128 .f32) (h2) (x : S1x512x128.Idx) :
    k0_pay8 a ((Shape.reshapeEquiv (s := S1x512x128) (s' := S512x128) h2).symm x)
      = truncf .bf16 (mulf a (broadcast S1x512x128 (Named.named κ "scale" 0x3DB504F3#32))) bitsLt_bf16_f32 x := by
  unfold k0_pay8
  rw [shapeCast_id]
  show truncf .bf16 (mulf a (broadcast S1x512x128 (Named.named κ "scale" 0x3DB504F3#32))) bitsLt_bf16_f32 (Shape.reshapeEquiv _ ((Shape.reshapeEquiv (s := S1x512x128) (s' := S512x128) h2).symm x)) = _
  exact congrArg _ (by simp)

theorem trip2 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (k0_h5 : k0_cond5 i = 1#1) (k : Fin k0_t2_loop.trips) (f20 : BufTy.Contents (Elt F) arg20.view.ty) (f21 : BufTy.Contents (Elt F) arg21.view.ty) (f15 : BufTy.Contents (Elt F) arg15.view.ty) (W : Waits sig Unit) :
    (iprop((arg20.view.loc (c : Thread nD τ) ↦[arg20.view.set]{fullShare} f20) ∗ (arg21.view.loc (c : Thread nD τ) ↦[arg21.view.set]{fullShare} f21)
      ∗ (arg15.view.loc (c : Thread nD τ) ↦{fullShare} f15) ∗ (semVal ((c : Thread nD τ), SemLoc.dma arg22.sem) 0) ∗ owes (c : Thread nD τ) 0 W) : sProp 𝕄)
    ⊢ wp frame (wpE (defs₀ (F := F)) Variants.none (c : Thread nD τ) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5 k PUnit.unit)
      (fun _ => iprop((arg20.view.loc (c : Thread nD τ) ↦[arg20.view.set]{fullShare} f20) ∗ (∃ f, arg21.view.loc (c : Thread nD τ) ↦[arg21.view.set]{fullShare} f)
      ∗ (∃ f, ⌜arg15.view.read (Elt F) f = VecWindow.put (arg15.view.read (Elt F) f15) ![4 * (i 0).val + 1, 512 * k.val, 0] S1x512x128.size
          (VecWindow.window (dqOut (arg20.view.read (Elt F) f20)) ![1, 512 * k.val, 0] S1x512x128.size (inbK1 k))⌝
        ∗ (arg15.view.loc (c : Thread nD τ) ↦{fullShare} f)) ∗ (semVal ((c : Thread nD τ), SemLoc.dma arg22.sem) 0) ∗ (∃ W, owes (c : Thread nD τ) 0 W))) := by
  have hk : k.val < 16 := Nat.lt_of_lt_of_le k.isLt k0_t2_abs.2.1
  unfold k0_t2_body
  iintro ⟨H20, H21, H15, HC, HO⟩
  sl_exec
  sl_step
  isplitl [H20]; · iexact H20
  isplitl [H21]; · iexists _; iexact H21
  isplitl [H15]
  · iexists _; isplitr; swap; · iexact H15
    ipureintro
    sl_unfold_run_names
    refine (read_copy arg15 _ _ _ f15 _ (off21_eq i k)).trans ?_
    refine congrArg (VecWindow.put _ _ _) (funext fun x => ?_)
    refine (congrFun (View.read_writes_full arg21.view f21 _ _ []) _).trans ?_
    rw [pay8_eq, View.readAt_unit arg20.view f20 _ (inferInstance : ClosedOff (k0_off20 k)).eq (inbK1 k)]
    rfl
  isplitl [HC]; · iexact HC
  iexists _; iexact HO

/-- Head 1's rows go out. -/
theorem send2 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (k0_h5 : k0_cond5 i = 1#1) (f20 : BufTy.Contents (Elt F) arg20.view.ty) (Y : Vec F S8x8192x128 .bf16) (K : PUnit → sProp 𝕄) :
    (iprop((arg20.view.loc (c : Thread nD τ) ↦[arg20.view.set]{fullShare} f20) ∗ (∃ f, arg21.view.loc (c : Thread nD τ) ↦[arg21.view.set]{fullShare} f)
      ∗ (∃ f, ⌜arg15.view.read (Elt F) f = Y⌝ ∗ (arg15.view.loc (c : Thread nD τ) ↦{fullShare} f)) ∗ (semVal ((c : Thread nD τ), SemLoc.dma arg22.sem) 0) ∗ (∃ W, owes (c : Thread nD τ) 0 W)
      ∗ (((arg20.view.loc (c : Thread nD τ) ↦[arg20.view.set]{fullShare} f20) ∗ (∃ f, arg21.view.loc (c : Thread nD τ) ↦[arg21.view.set]{fullShare} f)
      ∗ (∃ f, ⌜arg15.view.read (Elt F) f = rows (i 0).val 1 8192 (by omega) (by omega) (dqOut (arg20.view.read (Elt F) f20)) Y⌝ ∗ (arg15.view.loc (c : Thread nD τ) ↦{fullShare} f)) ∗ (semVal ((c : Thread nD τ), SemLoc.dma arg22.sem) 0) ∗ (∃ W, owes (c : Thread nD τ) 0 W)) -∗ K ⟨⟩)) : sProp 𝕄)
    ⊢ wp frame (wpE (defs₀ (F := F)) Variants.none (c : Thread nD τ) none) Set.univ
      (Scf.Loop.for k0_t2_loop (k0_t2_ok i k0_h5) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5)) K := by
  have htr : k0_t2_loop.trips = 16 := by decide
  iintro ⟨H20, H21, ⟨%f, %hf, H15⟩, HC, HO, HK⟩
  iapply (Scf.wp_for frame (wpE (defs₀ (F := F)) Variants.none (c : Thread nD τ) none) Set.univ _ _ _ _ _ _
    (fun k _ => (iprop((arg20.view.loc (c : Thread nD τ) ↦[arg20.view.set]{fullShare} f20) ∗ (∃ f, arg21.view.loc (c : Thread nD τ) ↦[arg21.view.set]{fullShare} f)
      ∗ (∃ f, ⌜∀ hk : k ≤ 16, arg15.view.read (Elt F) f = rows (i 0).val 1 (512 * k) (by omega) (by omega) (dqOut (arg20.view.read (Elt F) f20)) Y⌝ ∗ (arg15.view.loc (c : Thread nD τ) ↦{fullShare} f)) ∗ (semVal ((c : Thread nD τ), SemLoc.dma arg22.sem) 0) ∗ (∃ W, owes (c : Thread nD τ) 0 W)) : sProp 𝕄)) ?_)
  · intro k acc
    iintro ⟨H20, ⟨%f21, H21⟩, ⟨%f', %hf', H15⟩, HC, ⟨%W, HO⟩⟩
    have hk : k.val < 16 := Nat.lt_of_lt_of_le k.isLt k0_t2_abs.2.1
    iapply (wp_wand_r frame (wpE (defs₀ (F := F)) Variants.none (c : Thread nD τ) none) Set.univ)
    isplitl [H20 H21 H15 HC HO]
    · iapply (trip2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5 k f20 f21 f' W)
      isplitl [H20]; · iexact H20
      isplitl [H21]; · iexact H21
      isplitl [H15]; · iexact H15
      isplitl [HC]; · iexact HC
      iexact HO
    · iintro %acc' ⟨H20, H21, ⟨%f'', %hf'', H15⟩, HC, HO⟩
      isplitl [H20]; · iexact H20
      isplitl [H21]; · iexact H21
      isplitl [H15]
      · iexists f''; isplitr; swap; · iexact H15
        ipureintro
        intro hk'
        rw [hf'', hf' (by omega)]
        exact rows_succ _ 1 k.val (by omega) hk _ _ _
      isplitl [HC]; · iexact HC
      iexact HO
  · isplitl [H20 H21 H15 HC HO]
    · isplitl [H20]; · iexact H20
      isplitl [H21]; · iexact H21
      isplitl [H15]
      · iexists f; isplitr; swap; · iexact H15
        ipureintro
        intro _
        exact hf.trans (rows_zero _ _ _ _ _).symm
      isplitl [HC]; · iexact HC
      iexact HO
    · iintro %acc ⟨H20, H21, ⟨%f', %hf', H15⟩, HC, HO⟩
      iapply HK
      isplitl [H20]; · iexact H20
      isplitl [H21]; · iexact H21
      isplitl [H15]
      · iexists f'; isplitr; swap; · iexact H15
        ipureintro
        exact hf' (by decide)
      isplitl [HC]; · iexact HC
      iexact HO

instance (k : Fin k0_t3_loop.trips) : ClosedOff (k0_off22 k) := ⟨![2, 512 * k.val, 0], by revert k; decide⟩
theorem inbK2 : ∀ (k : Fin k0_t3_loop.trips) (a : Fin 3), (![2, 512 * k.val, 0] : Fin 3 → ℕ) a + S1x512x128.size a ≤ S4x8192x128.size a := by decide
theorem off23_eq (i : grid0.Coords) (k : Fin k0_t3_loop.trips) : k0_off23 i k = ![4 * (i 0).val + 2, 512 * k.val, 0] := by
  have h : ∀ (z : Fin 2) (k : Fin k0_t3_loop.trips), ![(Scalar.addi (Scalar.muli (BitVec.ofNat 32 z.val) 4#32) 2#32).toNat, (Scalar.muli (Scf.iv 0#32 1#32 k) 512#32).toNat, 0] = (![4 * z.val + 2, 512 * k.val, 0] : Fin 3 → ℕ) := by decide
  exact h (i 0) k

theorem pay9_eq (a : Vec F S1x512x128 .f32) (h2) (x : S1x512x128.Idx) :
    k0_pay9 a ((Shape.reshapeEquiv (s := S1x512x128) (s' := S512x128) h2).symm x)
      = truncf .bf16 (mulf a (broadcast S1x512x128 (Named.named κ "scale" 0x3DB504F3#32))) bitsLt_bf16_f32 x := by
  unfold k0_pay9
  rw [shapeCast_id]
  show truncf .bf16 (mulf a (broadcast S1x512x128 (Named.named κ "scale" 0x3DB504F3#32))) bitsLt_bf16_f32 (Shape.reshapeEquiv _ ((Shape.reshapeEquiv (s := S1x512x128) (s' := S512x128) h2).symm x)) = _
  exact congrArg _ (by simp)

theorem trip3 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (k0_h5 : k0_cond5 i = 1#1) (k : Fin k0_t3_loop.trips) (f20 : BufTy.Contents (Elt F) arg20.view.ty) (f21 : BufTy.Contents (Elt F) arg21.view.ty) (f15 : BufTy.Contents (Elt F) arg15.view.ty) (W : Waits sig Unit) :
    (iprop((arg20.view.loc (c : Thread nD τ) ↦[arg20.view.set]{fullShare} f20) ∗ (arg21.view.loc (c : Thread nD τ) ↦[arg21.view.set]{fullShare} f21)
      ∗ (arg15.view.loc (c : Thread nD τ) ↦{fullShare} f15) ∗ (semVal ((c : Thread nD τ), SemLoc.dma arg22.sem) 0) ∗ owes (c : Thread nD τ) 0 W) : sProp 𝕄)
    ⊢ wp frame (wpE (defs₀ (F := F)) Variants.none (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5 k PUnit.unit)
      (fun _ => iprop((arg20.view.loc (c : Thread nD τ) ↦[arg20.view.set]{fullShare} f20) ∗ (∃ f, arg21.view.loc (c : Thread nD τ) ↦[arg21.view.set]{fullShare} f)
      ∗ (∃ f, ⌜arg15.view.read (Elt F) f = VecWindow.put (arg15.view.read (Elt F) f15) ![4 * (i 0).val + 2, 512 * k.val, 0] S1x512x128.size
          (VecWindow.window (dqOut (arg20.view.read (Elt F) f20)) ![2, 512 * k.val, 0] S1x512x128.size (inbK2 k))⌝
        ∗ (arg15.view.loc (c : Thread nD τ) ↦{fullShare} f)) ∗ (semVal ((c : Thread nD τ), SemLoc.dma arg22.sem) 0) ∗ (∃ W, owes (c : Thread nD τ) 0 W))) := by
  have hk : k.val < 16 := Nat.lt_of_lt_of_le k.isLt k0_t3_abs.2.1
  unfold k0_t3_body
  iintro ⟨H20, H21, H15, HC, HO⟩
  sl_exec
  sl_step
  isplitl [H20]; · iexact H20
  isplitl [H21]; · iexists _; iexact H21
  isplitl [H15]
  · iexists _; isplitr; swap; · iexact H15
    ipureintro
    sl_unfold_run_names
    refine (read_copy arg15 _ _ _ f15 _ (off23_eq i k)).trans ?_
    refine congrArg (VecWindow.put _ _ _) (funext fun x => ?_)
    refine (congrFun (View.read_writes_full arg21.view f21 _ _ []) _).trans ?_
    rw [pay9_eq, View.readAt_unit arg20.view f20 _ (inferInstance : ClosedOff (k0_off22 k)).eq (inbK2 k)]
    rfl
  isplitl [HC]; · iexact HC
  iexists _; iexact HO

/-- Head 2's rows go out. -/
theorem send3 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (k0_h5 : k0_cond5 i = 1#1) (f20 : BufTy.Contents (Elt F) arg20.view.ty) (Y : Vec F S8x8192x128 .bf16) (K : PUnit → sProp 𝕄) :
    (iprop((arg20.view.loc (c : Thread nD τ) ↦[arg20.view.set]{fullShare} f20) ∗ (∃ f, arg21.view.loc (c : Thread nD τ) ↦[arg21.view.set]{fullShare} f)
      ∗ (∃ f, ⌜arg15.view.read (Elt F) f = Y⌝ ∗ (arg15.view.loc (c : Thread nD τ) ↦{fullShare} f)) ∗ (semVal ((c : Thread nD τ), SemLoc.dma arg22.sem) 0) ∗ (∃ W, owes (c : Thread nD τ) 0 W)
      ∗ (((arg20.view.loc (c : Thread nD τ) ↦[arg20.view.set]{fullShare} f20) ∗ (∃ f, arg21.view.loc (c : Thread nD τ) ↦[arg21.view.set]{fullShare} f)
      ∗ (∃ f, ⌜arg15.view.read (Elt F) f = rows (i 0).val 2 8192 (by omega) (by omega) (dqOut (arg20.view.read (Elt F) f20)) Y⌝ ∗ (arg15.view.loc (c : Thread nD τ) ↦{fullShare} f)) ∗ (semVal ((c : Thread nD τ), SemLoc.dma arg22.sem) 0) ∗ (∃ W, owes (c : Thread nD τ) 0 W)) -∗ K ⟨⟩)) : sProp 𝕄)
    ⊢ wp frame (wpE (defs₀ (F := F)) Variants.none (c : Thread nD τ) none) Set.univ
      (Scf.Loop.for k0_t3_loop (k0_t3_ok i k0_h5) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5)) K := by
  have htr : k0_t3_loop.trips = 16 := by decide
  iintro ⟨H20, H21, ⟨%f, %hf, H15⟩, HC, HO, HK⟩
  iapply (Scf.wp_for frame (wpE (defs₀ (F := F)) Variants.none (c : Thread nD τ) none) Set.univ _ _ _ _ _ _
    (fun k _ => (iprop((arg20.view.loc (c : Thread nD τ) ↦[arg20.view.set]{fullShare} f20) ∗ (∃ f, arg21.view.loc (c : Thread nD τ) ↦[arg21.view.set]{fullShare} f)
      ∗ (∃ f, ⌜∀ hk : k ≤ 16, arg15.view.read (Elt F) f = rows (i 0).val 2 (512 * k) (by omega) (by omega) (dqOut (arg20.view.read (Elt F) f20)) Y⌝ ∗ (arg15.view.loc (c : Thread nD τ) ↦{fullShare} f)) ∗ (semVal ((c : Thread nD τ), SemLoc.dma arg22.sem) 0) ∗ (∃ W, owes (c : Thread nD τ) 0 W)) : sProp 𝕄)) ?_)
  · intro k acc
    iintro ⟨H20, ⟨%f21, H21⟩, ⟨%f', %hf', H15⟩, HC, ⟨%W, HO⟩⟩
    have hk : k.val < 16 := Nat.lt_of_lt_of_le k.isLt k0_t3_abs.2.1
    iapply (wp_wand_r frame (wpE (defs₀ (F := F)) Variants.none (c : Thread nD τ) none) Set.univ)
    isplitl [H20 H21 H15 HC HO]
    · iapply (trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5 k f20 f21 f' W)
      isplitl [H20]; · iexact H20
      isplitl [H21]; · iexact H21
      isplitl [H15]; · iexact H15
      isplitl [HC]; · iexact HC
      iexact HO
    · iintro %acc' ⟨H20, H21, ⟨%f'', %hf'', H15⟩, HC, HO⟩
      isplitl [H20]; · iexact H20
      isplitl [H21]; · iexact H21
      isplitl [H15]
      · iexists f''; isplitr; swap; · iexact H15
        ipureintro
        intro hk'
        rw [hf'', hf' (by omega)]
        exact rows_succ _ 2 k.val (by omega) hk _ _ _
      isplitl [HC]; · iexact HC
      iexact HO
  · isplitl [H20 H21 H15 HC HO]
    · isplitl [H20]; · iexact H20
      isplitl [H21]; · iexact H21
      isplitl [H15]
      · iexists f; isplitr; swap; · iexact H15
        ipureintro
        intro _
        exact hf.trans (rows_zero _ _ _ _ _).symm
      isplitl [HC]; · iexact HC
      iexact HO
    · iintro %acc ⟨H20, H21, ⟨%f', %hf', H15⟩, HC, HO⟩
      iapply HK
      isplitl [H20]; · iexact H20
      isplitl [H21]; · iexact H21
      isplitl [H15]
      · iexists f'; isplitr; swap; · iexact H15
        ipureintro
        exact hf' (by decide)
      isplitl [HC]; · iexact HC
      iexact HO

instance (k : Fin k0_t4_loop.trips) : ClosedOff (k0_off24 k) := ⟨![3, 512 * k.val, 0], by revert k; decide⟩
theorem inbK3 : ∀ (k : Fin k0_t4_loop.trips) (a : Fin 3), (![3, 512 * k.val, 0] : Fin 3 → ℕ) a + S1x512x128.size a ≤ S4x8192x128.size a := by decide
theorem off25_eq (i : grid0.Coords) (k : Fin k0_t4_loop.trips) : k0_off25 i k = ![4 * (i 0).val + 3, 512 * k.val, 0] := by
  have h : ∀ (z : Fin 2) (k : Fin k0_t4_loop.trips), ![(Scalar.addi (Scalar.muli (BitVec.ofNat 32 z.val) 4#32) 3#32).toNat, (Scalar.muli (Scf.iv 0#32 1#32 k) 512#32).toNat, 0] = (![4 * z.val + 3, 512 * k.val, 0] : Fin 3 → ℕ) := by decide
  exact h (i 0) k

theorem pay10_eq (a : Vec F S1x512x128 .f32) (h2) (x : S1x512x128.Idx) :
    k0_pay10 a ((Shape.reshapeEquiv (s := S1x512x128) (s' := S512x128) h2).symm x)
      = truncf .bf16 (mulf a (broadcast S1x512x128 (Named.named κ "scale" 0x3DB504F3#32))) bitsLt_bf16_f32 x := by
  unfold k0_pay10
  rw [shapeCast_id]
  show truncf .bf16 (mulf a (broadcast S1x512x128 (Named.named κ "scale" 0x3DB504F3#32))) bitsLt_bf16_f32 (Shape.reshapeEquiv _ ((Shape.reshapeEquiv (s := S1x512x128) (s' := S512x128) h2).symm x)) = _
  exact congrArg _ (by simp)

theorem trip4 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (k0_h5 : k0_cond5 i = 1#1) (k : Fin k0_t4_loop.trips) (f20 : BufTy.Contents (Elt F) arg20.view.ty) (f21 : BufTy.Contents (Elt F) arg21.view.ty) (f15 : BufTy.Contents (Elt F) arg15.view.ty) (W : Waits sig Unit) :
    (iprop((arg20.view.loc (c : Thread nD τ) ↦[arg20.view.set]{fullShare} f20) ∗ (arg21.view.loc (c : Thread nD τ) ↦[arg21.view.set]{fullShare} f21)
      ∗ (arg15.view.loc (c : Thread nD τ) ↦{fullShare} f15) ∗ (semVal ((c : Thread nD τ), SemLoc.dma arg22.sem) 0) ∗ owes (c : Thread nD τ) 0 W) : sProp 𝕄)
    ⊢ wp frame (wpE (defs₀ (F := F)) Variants.none (c : Thread nD τ) none) Set.univ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5 k PUnit.unit)
      (fun _ => iprop((arg20.view.loc (c : Thread nD τ) ↦[arg20.view.set]{fullShare} f20) ∗ (∃ f, arg21.view.loc (c : Thread nD τ) ↦[arg21.view.set]{fullShare} f)
      ∗ (∃ f, ⌜arg15.view.read (Elt F) f = VecWindow.put (arg15.view.read (Elt F) f15) ![4 * (i 0).val + 3, 512 * k.val, 0] S1x512x128.size
          (VecWindow.window (dqOut (arg20.view.read (Elt F) f20)) ![3, 512 * k.val, 0] S1x512x128.size (inbK3 k))⌝
        ∗ (arg15.view.loc (c : Thread nD τ) ↦{fullShare} f)) ∗ (semVal ((c : Thread nD τ), SemLoc.dma arg22.sem) 0) ∗ (∃ W, owes (c : Thread nD τ) 0 W))) := by
  have hk : k.val < 16 := Nat.lt_of_lt_of_le k.isLt k0_t4_abs.2.1
  unfold k0_t4_body
  iintro ⟨H20, H21, H15, HC, HO⟩
  sl_exec
  sl_step
  isplitl [H20]; · iexact H20
  isplitl [H21]; · iexists _; iexact H21
  isplitl [H15]
  · iexists _; isplitr; swap; · iexact H15
    ipureintro
    sl_unfold_run_names
    refine (read_copy arg15 _ _ _ f15 _ (off25_eq i k)).trans ?_
    refine congrArg (VecWindow.put _ _ _) (funext fun x => ?_)
    refine (congrFun (View.read_writes_full arg21.view f21 _ _ []) _).trans ?_
    rw [pay10_eq, View.readAt_unit arg20.view f20 _ (inferInstance : ClosedOff (k0_off24 k)).eq (inbK3 k)]
    rfl
  isplitl [HC]; · iexact HC
  iexists _; iexact HO

/-- Head 3's rows go out. -/
theorem send4 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (k0_h5 : k0_cond5 i = 1#1) (f20 : BufTy.Contents (Elt F) arg20.view.ty) (Y : Vec F S8x8192x128 .bf16) (K : PUnit → sProp 𝕄) :
    (iprop((arg20.view.loc (c : Thread nD τ) ↦[arg20.view.set]{fullShare} f20) ∗ (∃ f, arg21.view.loc (c : Thread nD τ) ↦[arg21.view.set]{fullShare} f)
      ∗ (∃ f, ⌜arg15.view.read (Elt F) f = Y⌝ ∗ (arg15.view.loc (c : Thread nD τ) ↦{fullShare} f)) ∗ (semVal ((c : Thread nD τ), SemLoc.dma arg22.sem) 0) ∗ (∃ W, owes (c : Thread nD τ) 0 W)
      ∗ (((arg20.view.loc (c : Thread nD τ) ↦[arg20.view.set]{fullShare} f20) ∗ (∃ f, arg21.view.loc (c : Thread nD τ) ↦[arg21.view.set]{fullShare} f)
      ∗ (∃ f, ⌜arg15.view.read (Elt F) f = rows (i 0).val 3 8192 (by omega) (by omega) (dqOut (arg20.view.read (Elt F) f20)) Y⌝ ∗ (arg15.view.loc (c : Thread nD τ) ↦{fullShare} f)) ∗ (semVal ((c : Thread nD τ), SemLoc.dma arg22.sem) 0) ∗ (∃ W, owes (c : Thread nD τ) 0 W)) -∗ K ⟨⟩)) : sProp 𝕄)
    ⊢ wp frame (wpE (defs₀ (F := F)) Variants.none (c : Thread nD τ) none) Set.univ
      (Scf.Loop.for k0_t4_loop (k0_t4_ok i k0_h5) ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5)) K := by
  have htr : k0_t4_loop.trips = 16 := by decide
  iintro ⟨H20, H21, ⟨%f, %hf, H15⟩, HC, HO, HK⟩
  iapply (Scf.wp_for frame (wpE (defs₀ (F := F)) Variants.none (c : Thread nD τ) none) Set.univ _ _ _ _ _ _
    (fun k _ => (iprop((arg20.view.loc (c : Thread nD τ) ↦[arg20.view.set]{fullShare} f20) ∗ (∃ f, arg21.view.loc (c : Thread nD τ) ↦[arg21.view.set]{fullShare} f)
      ∗ (∃ f, ⌜∀ hk : k ≤ 16, arg15.view.read (Elt F) f = rows (i 0).val 3 (512 * k) (by omega) (by omega) (dqOut (arg20.view.read (Elt F) f20)) Y⌝ ∗ (arg15.view.loc (c : Thread nD τ) ↦{fullShare} f)) ∗ (semVal ((c : Thread nD τ), SemLoc.dma arg22.sem) 0) ∗ (∃ W, owes (c : Thread nD τ) 0 W)) : sProp 𝕄)) ?_)
  · intro k acc
    iintro ⟨H20, ⟨%f21, H21⟩, ⟨%f', %hf', H15⟩, HC, ⟨%W, HO⟩⟩
    have hk : k.val < 16 := Nat.lt_of_lt_of_le k.isLt k0_t4_abs.2.1
    iapply (wp_wand_r frame (wpE (defs₀ (F := F)) Variants.none (c : Thread nD τ) none) Set.univ)
    isplitl [H20 H21 H15 HC HO]
    · iapply (trip4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_h5 k f20 f21 f' W)
      isplitl [H20]; · iexact H20
      isplitl [H21]; · iexact H21
      isplitl [H15]; · iexact H15
      isplitl [HC]; · iexact HC
      iexact HO
    · iintro %acc' ⟨H20, H21, ⟨%f'', %hf'', H15⟩, HC, HO⟩
      isplitl [H20]; · iexact H20
      isplitl [H21]; · iexact H21
      isplitl [H15]
      · iexists f''; isplitr; swap; · iexact H15
        ipureintro
        intro hk'
        rw [hf'', hf' (by omega)]
        exact rows_succ _ 3 k.val (by omega) hk _ _ _
      isplitl [HC]; · iexact HC
      iexact HO
  · isplitl [H20 H21 H15 HC HO]
    · isplitl [H20]; · iexact H20
      isplitl [H21]; · iexact H21
      isplitl [H15]
      · iexists f; isplitr; swap; · iexact H15
        ipureintro
        intro _
        exact hf.trans (rows_zero _ _ _ _ _).symm
      isplitl [HC]; · iexact HC
      iexact HO
    · iintro %acc ⟨H20, H21, ⟨%f', %hf', H15⟩, HC, HO⟩
      iapply HK
      isplitl [H20]; · iexact H20
      isplitl [H21]; · iexact H21
      isplitl [H15]
      · iexists f'; isplitr; swap; · iexact H15
        ipureintro
        exact hf' (by decide)
      isplitl [HC]; · iexact HC
      iexact HO

end Cert.Fox
-- ==== Proof.Ends.lean ====
/-
  The other stretches of a step, run: a sweep's first pair fills the two sums over the keys with zeros; a column's last
  pair rounds the three sums over the queries into the results' blocks.
-/
module

public import proofs.«01_k».proof.Proof.Blocks
public import proofs.«01_k».proof.Proof.Step
public import proofs.«01_k».proof.Proof.Gen.KernelIdeal.Loops
public import Idealize.ShloMosaic.Lib.Pipeline.FrameBody
public import Idealize.ShloMosaic.Lib.Pipeline.FrameValue
public import Idealize.ShloMosaic.Lib.Tactic
public import Idealize.ShloMosaic.Lib.WordCmp
public import proofs.«01_k».proof.Proof.Offs
public import Idealize.ShloMosaic.Lib.Pointwise.Reshape
public import Idealize.ShloMosaic.Lib.Pointwise.Elementwise
public import Idealize.ShloMosaic.Lib.Pointwise.ShapeOps

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- Four heads' planes side by side. -/
def beside (a : Vec F S4x512x128 .f32) : FVec F S512x512 .f32 :=
  fun y => a (ix3 ⟨(y 1).val / 128, by have h : (y 1).val < 512 := (y 1).isLt; omega⟩ (y 0) ⟨(y 1).val % 128, by omega⟩)

/-- The keys' gradient as it goes out. -/
def outDk (a : Vec F S4x512x128 .f32) : FVec F S512x512 .bf16 :=
  truncf .bf16 (mulf (beside a) (broadcast S512x512 (Named.named κ "ln2" 0x3F317218#32))) bitsLt_bf16_f32

/-- The values' gradient as it goes out. -/
def outDv (a : Vec F S4x512x128 .f32) : FVec F S512x512 .bf16 := truncf .bf16 (beside a) bitsLt_bf16_f32

/-- One head's key gates as they go out: minus the sums, as a row (the diagonal of the column copied across, summed). -/
def rowDck (a : Vec F S1x512x1 .f32) : FVec F S1x1x512 .f32 :=
  shapeCast S1x1x512 (shapeCast S1x512 (multiReduction .add [0] S512
    (select (cmpi .eq (iota .tc S512x512 32 [0] iota_S512x512_d0_w32) (iota .tc S512x512 32 [1] iota_S512x512_d1_w32))
      (broadcastTo S512x512 (shapeCast S512x1 (subf (broadcast S512x1 (Scalar.ofBits .f32 0x00000000#32)) (shapeCast S512x1 a shapeCasts_S1x512x1_S512x1))
        shapeCasts_S512x1_S512x1) broadcasts_S512x1_S512x512)
      (broadcast S512x512 (Scalar.ofBits .f32 0x00000000#32)))
    0x00000000#32 reduces_S512x512_S512_2 (.inl rfl) rfl) shapeCasts_S512_S1x512) shapeCasts_S1x512_S1x1x512

/-- One entry of a head's key gates as they go out. -/
def dckAt (a : Vec F S4x512x1 .f32) (n : ℕ) (hn : n < 4) (l : ℕ) (hl : l < 512) : F .f32 :=
  rowDck (VecWindow.window a ![n, 0, 0] S1x512x1.size (by
    intro b; fin_cases b
    · show n + 1 ≤ 4; omega
    · show 0 + 512 ≤ 512; omega
    · show 0 + 1 ≤ 1; omega)) (ix3 ⟨0, by omega⟩ ⟨0, by omega⟩ ⟨l, hl⟩)

/-- The key gates' gradient as it goes out. -/
def outDck (a : Vec F S4x512x1 .f32) : FVec F S4x1x512 .f32 :=
  fun y => dckAt a (y 0).val (y 0).isLt (y 2).val (y 2).isLt

/-- Rewriting a window of `x` by another array's window. -/
theorem put_window {α : Type} {s : Shape} (x G : s.Idx → α) (off size : Fin s.rank → ℕ) (inb : ∀ a, off a + size a ≤ s.size a) (y : s.Idx) :
    VecWindow.put x off size (VecWindow.window G off size inb) y
      = if ∀ a, off a ≤ (y a).val ∧ (y a).val < off a + size a then G y else x y := by
  unfold VecWindow.put
  by_cases h : ∀ a, off a ≤ (y a).val ∧ (y a).val < off a + size a
  · rw [dif_pos h, if_pos h]
    refine congrArg G (funext fun a => Fin.ext ?_)
    have := h a
    show off a + 1 * ((y a).val - off a) = (y a).val
    omega
  · rw [dif_neg h, if_neg h]

/-- Four windows that together are everything, each rewritten by `G`'s, make `G`. -/
theorem put4_eq {α : Type} {s : Shape} (x G : s.Idx → α) (off : Fin 4 → Fin s.rank → ℕ) (size : Fin s.rank → ℕ)
    (inb : ∀ g a, off g a + size a ≤ s.size a) (cover : ∀ y : s.Idx, ∃ g, ∀ a, off g a ≤ (y a).val ∧ (y a).val < off g a + size a)
    {w0 w1 w2 w3 : ((a : Fin s.rank) → Fin (size a)) → α}
    (h0 : w0 = VecWindow.window G (off 0) size (inb 0)) (h1 : w1 = VecWindow.window G (off 1) size (inb 1))
    (h2 : w2 = VecWindow.window G (off 2) size (inb 2)) (h3 : w3 = VecWindow.window G (off 3) size (inb 3)) :
    VecWindow.put (VecWindow.put (VecWindow.put (VecWindow.put x (off 0) size w0) (off 1) size w1) (off 2) size w2)
      (off 3) size w3 = G := by
  subst h0 h1 h2 h3
  funext y
  obtain ⟨g, hg⟩ := cover y
  rw [put_window, put_window, put_window, put_window]
  fin_cases g
  · split_ifs <;> first | rfl | exact absurd hg ‹_›
  · split_ifs <;> first | rfl | exact absurd hg ‹_›
  · split_ifs <;> first | rfl | exact absurd hg ‹_›
  · split_ifs <;> first | rfl | exact absurd hg ‹_›

def offC (g : Fin 4) : Fin 2 → ℕ := ![0, 128 * g.val]
def offH (g : Fin 4) : Fin 3 → ℕ := ![g.val, 0, 0]
theorem inbC (g : Fin 4) : ∀ a, offC g a + S512x128.size a ≤ S512x512.size a := by revert g; decide
theorem inbH (g : Fin 4) : ∀ a, offH g a + S1x1x512.size a ≤ S4x1x512.size a := by revert g; decide
theorem inbG (g : Fin 4) : ∀ a, offG g a + S1x512x128.size a ≤ S4x512x128.size a := by revert g; decide
theorem inbG' (g : Fin 4) : ∀ a, offG g a + S1x512x1.size a ≤ S4x512x1.size a := by revert g; decide
theorem coverC (y : S512x512.Idx) : ∃ g : Fin 4, ∀ a, offC g a ≤ (y a).val ∧ (y a).val < offC g a + S512x128.size a := by
  have h0 : (y 0).val < 512 := (y 0).isLt
  have h1 : (y 1).val < 512 := (y 1).isLt
  refine ⟨⟨(y 1).val / 128, by omega⟩, fun a => ?_⟩
  fin_cases a
  · show 0 ≤ (y 0).val ∧ (y 0).val < 0 + 512; omega
  · show 128 * ((y 1).val / 128) ≤ (y 1).val ∧ (y 1).val < 128 * ((y 1).val / 128) + 128; omega
theorem coverH (y : S4x1x512.Idx) : ∃ g : Fin 4, ∀ a, offH g a ≤ (y a).val ∧ (y a).val < offH g a + S1x1x512.size a := by
  have h1 : (y 1).val < 1 := (y 1).isLt
  have h2 : (y 2).val < 512 := (y 2).isLt
  refine ⟨y 0, fun a => ?_⟩
  fin_cases a
  · show (y 0).val ≤ (y 0).val ∧ (y 0).val < (y 0).val + 1; omega
  · show 0 ≤ (y 1).val ∧ (y 1).val < 0 + 1; omega
  · show 0 ≤ (y 2).val ∧ (y 2).val < 0 + 512; omega

theorem beside_window (a : Vec F S4x512x128 .f32) (g : Fin 4) :
    shapeCast S512x128 (VecWindow.window a (offG g) S1x512x128.size (inbG g)) shapeCasts_S1x512x128_S512x128
      = VecWindow.window (beside a) (offC g) S512x128.size (inbC g) := by
  funext y
  have h0 : (y 0).val < 512 := (y 0).isLt
  have h1 : (y 1).val < 128 := (y 1).isLt
  simp only [pointwise]
  unfold VecWindow.window beside
  refine congrArg a (funext fun b => Fin.ext ?_)
  fin_cases b
  · show g.val + 1 * 0 = (128 * g.val + 1 * (y 1).val) / 128; omega
  · show 0 + 1 * (y 0).val = 0 + 1 * (y 0).val; rfl
  · show 0 + 1 * (y 1).val = (128 * g.val + 1 * (y 1).val) % 128; omega

theorem outDck_window (a : Vec F S4x512x1 .f32) (g : Fin 4) :
    rowDck (VecWindow.window a (offG g) S1x512x1.size (inbG' g)) = VecWindow.window (outDck a) (offH g) S1x1x512.size (inbH g) := by
  funext y
  have h0 : (y 0).val < 1 := (y 0).isLt
  have h1 : (y 1).val < 1 := (y 1).isLt
  have e : ∀ (n n' l l' : ℕ) (hn hn' hl hl'), n = n' → l = l' → dckAt a n hn l hl = dckAt a n' hn' l' hl' := by
    intro n n' l l' hn hn' hl hl' h h'; subst h h'; rfl
  refine Eq.trans (b := dckAt a g.val g.isLt (y 2).val (y 2).isLt) ?_
    (e _ _ _ _ _ ((Rect.unit (s := S4x1x512) (offH g) S1x1x512.size (inbH g)).emb y 0).isLt _ ((Rect.unit (s := S4x1x512) (offH g) S1x1x512.size (inbH g)).emb y 2).isLt ?_ ?_)
  · unfold dckAt
    refine congrArg (rowDck _) (funext fun b => Fin.ext ?_)
    fin_cases b
    · exact show (y 0).val = 0 by omega
    · exact show (y 1).val = 0 by omega
    · rfl
  · exact show g.val = g.val + 1 * (y 0).val by omega
  · exact show (y 2).val = 0 + 1 * (y 2).val by omega

/-- The first pair of a sweep. -/
theorem run1 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (h1 : k0_cond1 i = 1#1) (dcq : Vec F S4x16x1x512 .f32) (dq : Vec F S4x8192x128 .f32) (W : Waits sig Unit) (K : PUnit → sProp 𝕄) :
    (iprop(owns (c : Thread nD τ) arg16 fullShare dcq ∗ owns (c : Thread nD τ) arg20 fullShare dq ∗ owes (c : Thread nD τ) 0 W ∗ ((owns (c : Thread nD τ) arg16 fullShare k0_pay2 ∗ owns (c : Thread nD τ) arg20 fullShare k0_pay1 ∗ owes (c : Thread nD τ) 0 W) -∗ K ⟨⟩)) : sProp 𝕄)
    ⊢ wp frame (wpE (defs₀ (F := F)) Variants.none c none) Set.univ (blk1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) K := by
  unfold blk1
  rw [dif_pos h1]
  unfold owns
  iintro ⟨⟨%f16, %e16, H16⟩, ⟨%f20, %e20, H20⟩, HW, Hk⟩
  sl_exec
  sl_step
  iapply Hk
  isplitl [H16]
  · iexists _; isplitr; swap; · iexact H16
    ipureintro
    exact View.read_writes_full arg16.view f16 _ _ []
  isplitl [H20]
  · iexists _; isplitr; swap; · iexact H20
    ipureintro
    exact View.read_writes_full arg20.view f20 _ _ []
  iexact HW

set_option maxHeartbeats 4000000 in
/-- The last pair of a column. -/
theorem run4 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (v1 : BitVec 32) (h4 : k0_cond4 v1 = 1#1) (dk dv : Vec F S4x512x128 .f32) (dck : Vec F S4x512x1 .f32) (W : Waits sig Unit) (K : PUnit → sProp 𝕄) :
    (iprop((∃ X, owns (c : Thread nD τ) arg12 fullShare X) ∗ (∃ X, owns (c : Thread nD τ) arg13 fullShare X) ∗ (∃ X, owns (c : Thread nD τ) arg14 fullShare X) ∗ owns (c : Thread nD τ) arg17 fullShare dk ∗ owns (c : Thread nD τ) arg18 fullShare dv ∗ owns (c : Thread nD τ) arg19 fullShare dck ∗ owes (c : Thread nD τ) 0 W
      ∗ ((owns (c : Thread nD τ) arg12 fullShare (outDk dk) ∗ owns (c : Thread nD τ) arg13 fullShare (outDv dv) ∗ owns (c : Thread nD τ) arg14 fullShare (outDck dck) ∗ owns (c : Thread nD τ) arg17 fullShare dk ∗ owns (c : Thread nD τ) arg18 fullShare dv ∗ owns (c : Thread nD τ) arg19 fullShare dck ∗ owes (c : Thread nD τ) 0 W) -∗ K ⟨⟩)) : sProp 𝕄)
    ⊢ wp frame (wpE (defs₀ (F := F)) Variants.none c none) Set.univ (blk4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v1) K := by
  unfold blk4
  rw [dif_pos h4]
  sl_open_parts
  unfold owns
  iintro ⟨⟨%X12, %f12, %e12, H12⟩, ⟨%X13, %f13, %e13, H13⟩, ⟨%X14, %f14, %e14, H14⟩, ⟨%f17, %e17, H17⟩, ⟨%f18, %e18, H18⟩, ⟨%f19, %e19, H19⟩, HW, Hk⟩
  subst e17 e18 e19
  sl_exec
  sl_step
  iapply Hk
  isplitl [H12]
  · iexists _; isplitr; swap; · iexact H12
    ipureintro
    sl_unfold_run_names
    rw [View.read_writes_cons_put _ _ _ _ _ (show (![0, 384] : Fin 2 → ℕ) = offC 3 from rfl), View.read_writes_cons_put _ _ _ _ _ (show (![0, 256] : Fin 2 → ℕ) = offC 2 from rfl), View.read_writes_cons_put _ _ _ _ _ (show (![0, 128] : Fin 2 → ℕ) = offC 1 from rfl), View.read_writes_cons_put _ _ _ _ _ (show (![0, 0] : Fin 2 → ℕ) = offC 0 from rfl), View.writes_nil]
    refine put4_eq _ (outDk (View.read (Elt F) arg17.view f17)) offC _ inbC coverC ?_ ?_ ?_ ?_
    · exact congrArg (fun z : Vec F S512x128 .f32 => truncf .bf16 (mulf z (broadcast S512x128 (Named.named κ "ln2" 0x3F317218#32))) bitsLt_bf16_f32) (beside_window (View.read (Elt F) arg17.view f17) 0)
    · exact congrArg (fun z : Vec F S512x128 .f32 => truncf .bf16 (mulf z (broadcast S512x128 (Named.named κ "ln2" 0x3F317218#32))) bitsLt_bf16_f32) (beside_window (View.read (Elt F) arg17.view f17) 1)
    · exact congrArg (fun z : Vec F S512x128 .f32 => truncf .bf16 (mulf z (broadcast S512x128 (Named.named κ "ln2" 0x3F317218#32))) bitsLt_bf16_f32) (beside_window (View.read (Elt F) arg17.view f17) 2)
    · exact congrArg (fun z : Vec F S512x128 .f32 => truncf .bf16 (mulf z (broadcast S512x128 (Named.named κ "ln2" 0x3F317218#32))) bitsLt_bf16_f32) (beside_window (View.read (Elt F) arg17.view f17) 3)
  isplitl [H13]
  · iexists _; isplitr; swap; · iexact H13
    ipureintro
    sl_unfold_run_names
    rw [View.read_writes_cons_put _ _ _ _ _ (show (![0, 384] : Fin 2 → ℕ) = offC 3 from rfl), View.read_writes_cons_put _ _ _ _ _ (show (![0, 256] : Fin 2 → ℕ) = offC 2 from rfl), View.read_writes_cons_put _ _ _ _ _ (show (![0, 128] : Fin 2 → ℕ) = offC 1 from rfl), View.read_writes_cons_put _ _ _ _ _ (show (![0, 0] : Fin 2 → ℕ) = offC 0 from rfl), View.writes_nil]
    refine put4_eq _ (outDv (View.read (Elt F) arg18.view f18)) offC _ inbC coverC ?_ ?_ ?_ ?_
    · exact congrArg (fun z : Vec F S512x128 .f32 => truncf .bf16 z bitsLt_bf16_f32) (beside_window (View.read (Elt F) arg18.view f18) 0)
    · exact congrArg (fun z : Vec F S512x128 .f32 => truncf .bf16 z bitsLt_bf16_f32) (beside_window (View.read (Elt F) arg18.view f18) 1)
    · exact congrArg (fun z : Vec F S512x128 .f32 => truncf .bf16 z bitsLt_bf16_f32) (beside_window (View.read (Elt F) arg18.view f18) 2)
    · exact congrArg (fun z : Vec F S512x128 .f32 => truncf .bf16 z bitsLt_bf16_f32) (beside_window (View.read (Elt F) arg18.view f18) 3)
  isplitl [H14]
  · iexists _; isplitr; swap; · iexact H14
    ipureintro
    sl_unfold_run_names
    rw [View.read_writes_cons_put _ _ _ _ _ (show (![3, 0, 0] : Fin 3 → ℕ) = offH 3 from rfl), View.read_writes_cons_put _ _ _ _ _ (show (![2, 0, 0] : Fin 3 → ℕ) = offH 2 from rfl), View.read_writes_cons_put _ _ _ _ _ (show (![1, 0, 0] : Fin 3 → ℕ) = offH 1 from rfl), View.read_writes_cons_put _ _ _ _ _ (show (![0, 0, 0] : Fin 3 → ℕ) = offH 0 from rfl), View.writes_nil]
    refine put4_eq _ (outDck (View.read (Elt F) arg19.view f19)) offH _ inbH coverH ?_ ?_ ?_ ?_
    · exact outDck_window (View.read (Elt F) arg19.view f19) 0
    · exact outDck_window (View.read (Elt F) arg19.view f19) 1
    · exact outDck_window (View.read (Elt F) arg19.view f19) 2
    · exact outDck_window (View.read (Elt F) arg19.view f19) 3
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro; rfl
  iexact HW

end Cert.Fox
-- ==== Proof.Body.lean ====
/-
  One grid point: the two words the tables hold for it, then the five blocks, each taken or left as the words say. What
  the point leaves in the scratch is `step` of what it found.
-/
module

public import proofs.«01_k».proof.Proof.Points
public import proofs.«01_k».proof.Proof.Diag
public import proofs.«01_k».proof.Proof.Below
public import proofs.«01_k».proof.Proof.Send
public import proofs.«01_k».proof.Proof.Ends

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The sums a sweep starts from. -/
def start (p : Fin 136) (s : Sums F) : Sums F := if p.val = 0 then { s with dcq := k0_pay2, dq := k0_pay1 } else s
/-- A pair on the diagonal starts the key block's sums, -/
def onDiag (p : Fin 136) (x : Win F) (s : Sums F) : Sums F :=
  if iq p = ik p then ⟨stepDk true x k0_pay11, stepDv true x k0_pay12, stepDck true x k0_pay13, stepDq (iq p) true x s.dq, stepDcq (iq p) true x s.dcq⟩ else s
/-- and a pair off it adds to them. -/
def offDiag (p : Fin 136) (x : Win F) (s : Sums F) : Sums F :=
  if (ik p).val < (iq p).val then ⟨stepDk false x s.dk, stepDv false x s.dv, stepDck false x s.dck, stepDq (iq p) false x s.dq, stepDcq (iq p) false x s.dcq⟩ else s
def step (p : Fin 136) (x : Win F) (s : Sums F) : Sums F := offDiag p x (onDiag p x (start p s))

/-- The first pair of a sweep does not read the sums it finds. -/
theorem step_first (p : Fin 136) (hp : p.val = 0) (x : Win F) (s s' : Sums F) : step p x s = step p x s' := by
  have hd : iq p = ik p := by revert p; decide +kernel
  have hl : ¬(ik p).val < (iq p).val := by rw [hd]; exact Nat.lt_irrefl _
  unfold step offDiag onDiag start
  simp only [if_pos hp, if_pos hd, if_neg hl]

/-- The query gradient's rows of a sweep, sent. -/
def sent (z : ℕ) (hz : z < 2) (dq : Vec F S4x8192x128 .f32) (Y : Vec F S8x8192x128 .bf16) : Vec F S8x8192x128 .bf16 :=
  rows z 3 8192 (by omega) (by omega) (dqOut dq) (rows z 2 8192 (by omega) (by omega) (dqOut dq)
    (rows z 1 8192 (by omega) (by omega) (dqOut dq) (rows z 0 8192 (by omega) (by omega) (dqOut dq) Y)))

theorem do1 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (s : Sums F) (W : Waits sig Unit) (K : PUnit → sProp 𝕄) :
    (iprop(owns (c : Thread nD τ) arg16 fullShare s.dcq ∗ owns (c : Thread nD τ) arg17 fullShare s.dk ∗ owns (c : Thread nD τ) arg18 fullShare s.dv ∗ owns (c : Thread nD τ) arg19 fullShare s.dck ∗ owns (c : Thread nD τ) arg20 fullShare s.dq ∗ owes (c : Thread nD τ) 0 W ∗ ((owns (c : Thread nD τ) arg16 fullShare (start (prow i) s).dcq ∗ owns (c : Thread nD τ) arg17 fullShare (start (prow i) s).dk ∗ owns (c : Thread nD τ) arg18 fullShare (start (prow i) s).dv ∗ owns (c : Thread nD τ) arg19 fullShare (start (prow i) s).dck ∗ owns (c : Thread nD τ) arg20 fullShare (start (prow i) s).dq ∗ owes (c : Thread nD τ) 0 W) -∗ K ⟨⟩)) : sProp 𝕄)
    ⊢ wp frame (wpE (defs₀ (F := F)) Variants.none c none) Set.univ (blk1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) K := by
  by_cases h : (prow i).val = 0
  · iintro ⟨H16, H17, H18, H19, H20, HW, HK⟩
    iapply (run1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 ((cond1_iff i).mpr h) s.dcq s.dq W K)
    isplitl [H16]; · iexact H16
    isplitl [H20]; · iexact H20
    isplitl [HW]; · iexact HW
    iintro ⟨H16, H20, HW⟩
    iapply HK
    unfold start
    simp only [if_pos h]
    isplitl [H16]; · iexact H16
    isplitl [H17]; · iexact H17
    isplitl [H18]; · iexact H18
    isplitl [H19]; · iexact H19
    isplitl [H20]; · iexact H20
    iexact HW
  · unfold blk1 start
    rw [dif_neg (fun h' => h ((cond1_iff i).mp h'))]
    simp only [if_neg h]
    iintro ⟨H16, H17, H18, H19, H20, HW, HK⟩
    rw [wp_pure]; imodintro
    iapply HK
    isplitl [H16]; · iexact H16
    isplitl [H17]; · iexact H17
    isplitl [H18]; · iexact H18
    isplitl [H19]; · iexact H19
    isplitl [H20]; · iexact H20
    iexact HW

theorem do2 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (h1 : k0_chk1 (BitVec.ofNat 32 (iq (prow i)).val)) (h2 : k0_chk2 (BitVec.ofNat 32 (iq (prow i)).val) (BitVec.ofNat 32 (ik (prow i)).val)) (v5 : BitVec 32)
    (x : Win F) (s : Sums F) (W : Waits sig Unit) (K : PUnit → sProp 𝕄) :
    (iprop(owns (c : Thread nD τ) arg4 fullShare x.q ∗ owns (c : Thread nD τ) arg5 fullShare x.k ∗ owns (c : Thread nD τ) arg6 fullShare x.v ∗ owns (c : Thread nD τ) arg7 fullShare x.ct ∗ owns (c : Thread nD τ) arg8 fullShare x.cq ∗ owns (c : Thread nD τ) arg9 fullShare x.ck ∗ owns (c : Thread nD τ) arg10 fullShare x.lse ∗ owns (c : Thread nD τ) arg11 fullShare x.delta ∗ owns (c : Thread nD τ) arg16 fullShare s.dcq ∗ owns (c : Thread nD τ) arg17 fullShare s.dk ∗ owns (c : Thread nD τ) arg18 fullShare s.dv ∗ owns (c : Thread nD τ) arg19 fullShare s.dck ∗ owns (c : Thread nD τ) arg20 fullShare s.dq ∗ owes (c : Thread nD τ) 0 W ∗ ((owns (c : Thread nD τ) arg4 fullShare x.q ∗ owns (c : Thread nD τ) arg5 fullShare x.k ∗ owns (c : Thread nD τ) arg6 fullShare x.v ∗ owns (c : Thread nD τ) arg7 fullShare x.ct ∗ owns (c : Thread nD τ) arg8 fullShare x.cq ∗ owns (c : Thread nD τ) arg9 fullShare x.ck ∗ owns (c : Thread nD τ) arg10 fullShare x.lse ∗ owns (c : Thread nD τ) arg11 fullShare x.delta ∗ owns (c : Thread nD τ) arg16 fullShare (onDiag (prow i) x s).dcq ∗ owns (c : Thread nD τ) arg17 fullShare (onDiag (prow i) x s).dk ∗ owns (c : Thread nD τ) arg18 fullShare (onDiag (prow i) x s).dv ∗ owns (c : Thread nD τ) arg19 fullShare (onDiag (prow i) x s).dck ∗ owns (c : Thread nD τ) arg20 fullShare (onDiag (prow i) x s).dq ∗ owes (c : Thread nD τ) 0 W) -∗ K ⟨⟩)) : sProp 𝕄)
    ⊢ wp frame (wpE (defs₀ (F := F)) Variants.none c none) Set.univ (blk2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (iq (prow i)).val) (BitVec.ofNat 32 (ik (prow i)).val) h1 h2 v5) K := by
  by_cases h : iq (prow i) = ik (prow i)
  · unfold onDiag
    simp only [if_pos h]
    iintro ⟨H4, H5, H6, H7, H8, H9, H10, H11, H16, H17, H18, H19, H20, HW, HK⟩
    iapply (run2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (iq (prow i)) (BitVec.ofNat 32 (ik (prow i)).val) h1 h2 ((cond2_iff _ _).mpr h) v5 x s W K)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H16]; · iexact H16
    isplitl [H17]; · iexact H17
    isplitl [H18]; · iexact H18
    isplitl [H19]; · iexact H19
    isplitl [H20]; · iexact H20
    isplitl [HW]; · iexact HW
    iexact HK
  · unfold blk2 onDiag
    rw [dif_neg (fun h' => h ((cond2_iff _ _).mp h'))]
    simp only [if_neg h]
    iintro ⟨H4, H5, H6, H7, H8, H9, H10, H11, H16, H17, H18, H19, H20, HW, HK⟩
    rw [wp_pure]; imodintro
    iapply HK
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H16]; · iexact H16
    isplitl [H17]; · iexact H17
    isplitl [H18]; · iexact H18
    isplitl [H19]; · iexact H19
    isplitl [H20]; · iexact H20
    iexact HW

theorem do3 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (h1 : k0_chk1 (BitVec.ofNat 32 (iq (prow i)).val)) (h2 : k0_chk2 (BitVec.ofNat 32 (iq (prow i)).val) (BitVec.ofNat 32 (ik (prow i)).val)) (v5 : BitVec 32)
    (x : Win F) (s : Sums F) (W : Waits sig Unit) (K : PUnit → sProp 𝕄) :
    (iprop(owns (c : Thread nD τ) arg4 fullShare x.q ∗ owns (c : Thread nD τ) arg5 fullShare x.k ∗ owns (c : Thread nD τ) arg6 fullShare x.v ∗ owns (c : Thread nD τ) arg7 fullShare x.ct ∗ owns (c : Thread nD τ) arg8 fullShare x.cq ∗ owns (c : Thread nD τ) arg9 fullShare x.ck ∗ owns (c : Thread nD τ) arg10 fullShare x.lse ∗ owns (c : Thread nD τ) arg11 fullShare x.delta ∗ owns (c : Thread nD τ) arg16 fullShare s.dcq ∗ owns (c : Thread nD τ) arg17 fullShare s.dk ∗ owns (c : Thread nD τ) arg18 fullShare s.dv ∗ owns (c : Thread nD τ) arg19 fullShare s.dck ∗ owns (c : Thread nD τ) arg20 fullShare s.dq ∗ owes (c : Thread nD τ) 0 W ∗ ((owns (c : Thread nD τ) arg4 fullShare x.q ∗ owns (c : Thread nD τ) arg5 fullShare x.k ∗ owns (c : Thread nD τ) arg6 fullShare x.v ∗ owns (c : Thread nD τ) arg7 fullShare x.ct ∗ owns (c : Thread nD τ) arg8 fullShare x.cq ∗ owns (c : Thread nD τ) arg9 fullShare x.ck ∗ owns (c : Thread nD τ) arg10 fullShare x.lse ∗ owns (c : Thread nD τ) arg11 fullShare x.delta ∗ owns (c : Thread nD τ) arg16 fullShare (offDiag (prow i) x s).dcq ∗ owns (c : Thread nD τ) arg17 fullShare (offDiag (prow i) x s).dk ∗ owns (c : Thread nD τ) arg18 fullShare (offDiag (prow i) x s).dv ∗ owns (c : Thread nD τ) arg19 fullShare (offDiag (prow i) x s).dck ∗ owns (c : Thread nD τ) arg20 fullShare (offDiag (prow i) x s).dq ∗ owes (c : Thread nD τ) 0 W) -∗ K ⟨⟩)) : sProp 𝕄)
    ⊢ wp frame (wpE (defs₀ (F := F)) Variants.none c none) Set.univ (blk3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (iq (prow i)).val) (BitVec.ofNat 32 (ik (prow i)).val) h1 h2 v5) K := by
  by_cases h : (ik (prow i)).val < (iq (prow i)).val
  · unfold offDiag
    simp only [if_pos h]
    iintro ⟨H4, H5, H6, H7, H8, H9, H10, H11, H16, H17, H18, H19, H20, HW, HK⟩
    iapply (run3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (iq (prow i)) (BitVec.ofNat 32 (ik (prow i)).val) h1 h2 ((cond3_iff _ _).mpr h) v5 x s W K)
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H16]; · iexact H16
    isplitl [H17]; · iexact H17
    isplitl [H18]; · iexact H18
    isplitl [H19]; · iexact H19
    isplitl [H20]; · iexact H20
    isplitl [HW]; · iexact HW
    iexact HK
  · unfold blk3 offDiag
    rw [dif_neg (fun h' => h ((cond3_iff _ _).mp h'))]
    simp only [if_neg h]
    iintro ⟨H4, H5, H6, H7, H8, H9, H10, H11, H16, H17, H18, H19, H20, HW, HK⟩
    rw [wp_pure]; imodintro
    iapply HK
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H16]; · iexact H16
    isplitl [H17]; · iexact H17
    isplitl [H18]; · iexact H18
    isplitl [H19]; · iexact H19
    isplitl [H20]; · iexact H20
    iexact HW

/-- The result blocks of a column, left as found but at its last pair. -/
def outW {s : Shape} {e : EltTy} (p : Fin 136) (Z X : Vec F s e) : Vec F s e := if (iq p).val = 15 then X else Z

theorem do4 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (s : Sums F) (Z12 : Vec F S512x512 .bf16) (Z13 : Vec F S512x512 .bf16) (Z14 : Vec F S4x1x512 .f32) (W : Waits sig Unit) (K : PUnit → sProp 𝕄) :
    (iprop(owns (c : Thread nD τ) arg12 fullShare Z12 ∗ owns (c : Thread nD τ) arg13 fullShare Z13 ∗ owns (c : Thread nD τ) arg14 fullShare Z14 ∗ owns (c : Thread nD τ) arg17 fullShare s.dk ∗ owns (c : Thread nD τ) arg18 fullShare s.dv ∗ owns (c : Thread nD τ) arg19 fullShare s.dck ∗ owes (c : Thread nD τ) 0 W
      ∗ ((owns (c : Thread nD τ) arg12 fullShare (outW (prow i) Z12 (outDk s.dk)) ∗ owns (c : Thread nD τ) arg13 fullShare (outW (prow i) Z13 (outDv s.dv)) ∗ owns (c : Thread nD τ) arg14 fullShare (outW (prow i) Z14 (outDck s.dck)) ∗ owns (c : Thread nD τ) arg17 fullShare s.dk ∗ owns (c : Thread nD τ) arg18 fullShare s.dv ∗ owns (c : Thread nD τ) arg19 fullShare s.dck ∗ owes (c : Thread nD τ) 0 W) -∗ K ⟨⟩)) : sProp 𝕄)
    ⊢ wp frame (wpE (defs₀ (F := F)) Variants.none c none) Set.univ (blk4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (iq (prow i)).val)) K := by
  by_cases h : (iq (prow i)).val = 15
  · unfold outW
    simp only [if_pos h]
    iintro ⟨H12, H13, H14, H17, H18, H19, HW, HK⟩
    iapply (run4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (iq (prow i)).val) ((cond4_iff _).mpr h) s.dk s.dv s.dck W K)
    isplitl [H12]; · iexists _; iexact H12
    isplitl [H13]; · iexists _; iexact H13
    isplitl [H14]; · iexists _; iexact H14
    isplitl [H17]; · iexact H17
    isplitl [H18]; · iexact H18
    isplitl [H19]; · iexact H19
    isplitl [HW]; · iexact HW
    iexact HK
  · unfold blk4 outW
    rw [dif_neg (fun h' => h ((cond4_iff _).mp h'))]
    simp only [if_neg h]
    iintro ⟨H12, H13, H14, H17, H18, H19, HW, HK⟩
    rw [wp_pure]; imodintro
    iapply HK
    isplitl [H12]; · iexact H12
    isplitl [H13]; · iexact H13
    isplitl [H14]; · iexact H14
    isplitl [H17]; · iexact H17
    isplitl [H18]; · iexact H18
    isplitl [H19]; · iexact H19
    iexact HW

/-- The query gradient's rows as a point leaves them: a sweep's, after its last pair. -/
def outQ (i : grid0.Coords) (dq : Vec F S4x8192x128 .f32) (Y : Vec F S8x8192x128 .bf16) : Vec F S8x8192x128 .bf16 :=
  if (prow i).val = 135 then sent (sweep i).val (sweep i).isLt dq Y else Y

theorem do5 (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (dq : Vec F S4x8192x128 .f32) (Y : Vec F S8x8192x128 .bf16) (K : PUnit → sProp 𝕄) :
    (iprop(owns (c : Thread nD τ) arg20 fullShare dq ∗ (∃ f, arg21.view.loc (c : Thread nD τ) ↦[arg21.view.set]{fullShare} f) ∗ (∃ f, ⌜arg15.view.read (Elt F) f = Y⌝ ∗ (arg15.view.loc (c : Thread nD τ) ↦{fullShare} f)) ∗ (semVal ((c : Thread nD τ), SemLoc.dma arg22.sem) 0) ∗ (∃ W, owes (c : Thread nD τ) 0 W)
      ∗ ((owns (c : Thread nD τ) arg20 fullShare dq ∗ (∃ f, arg21.view.loc (c : Thread nD τ) ↦[arg21.view.set]{fullShare} f) ∗ (∃ f, ⌜arg15.view.read (Elt F) f = outQ i dq Y⌝ ∗ (arg15.view.loc (c : Thread nD τ) ↦{fullShare} f)) ∗ (semVal ((c : Thread nD τ), SemLoc.dma arg22.sem) 0) ∗ (∃ W, owes (c : Thread nD τ) 0 W)) -∗ K ⟨⟩)) : sProp 𝕄)
    ⊢ wp frame (wpE (defs₀ (F := F)) Variants.none c none) Set.univ (blk5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) K := by
  by_cases h : (prow i).val = 135
  · unfold blk5 outQ owns
    rw [dif_pos ((cond5_iff i).mpr h)]
    simp only [if_pos h]
    iintro ⟨⟨%f20, %e20, H20⟩, H21, H15, HC, HW, HK⟩
    subst e20
    rw [wp_bind]
    iapply (send1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 ((cond5_iff i).mpr h) f20 _ _)
    isplitl [H20]; · iexact H20
    isplitl [H21]; · iexact H21
    isplitl [H15]; · iexact H15
    isplitl [HC]; · iexact HC
    isplitl [HW]; · iexact HW
    iintro ⟨H20, H21, H15, HC, HW⟩
    rw [wp_bind]
    iapply (send2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 ((cond5_iff i).mpr h) f20 _ _)
    isplitl [H20]; · iexact H20
    isplitl [H21]; · iexact H21
    isplitl [H15]; · iexact H15
    isplitl [HC]; · iexact HC
    isplitl [HW]; · iexact HW
    iintro ⟨H20, H21, H15, HC, HW⟩
    rw [wp_bind]
    iapply (send3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 ((cond5_iff i).mpr h) f20 _ _)
    isplitl [H20]; · iexact H20
    isplitl [H21]; · iexact H21
    isplitl [H15]; · iexact H15
    isplitl [HC]; · iexact HC
    isplitl [HW]; · iexact HW
    iintro ⟨H20, H21, H15, HC, HW⟩
    rw [wp_bind]
    iapply (send4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 ((cond5_iff i).mpr h) f20 _ _)
    isplitl [H20]; · iexact H20
    isplitl [H21]; · iexact H21
    isplitl [H15]; · iexact H15
    isplitl [HC]; · iexact HC
    isplitl [HW]; · iexact HW
    iintro ⟨H20, H21, H15, HC, HW⟩
    rw [wp_pure]; imodintro
    iapply HK
    isplitl [H20]
    · iexists f20; isplitr; · ipureintro; rfl
      iexact H20
    isplitl [H21]; · iexact H21
    isplitl [H15]; · iexact H15
    isplitl [HC]; · iexact HC
    iexact HW
  · unfold blk5 outQ
    rw [dif_neg (fun h' => h ((cond5_iff i).mp h'))]
    simp only [if_neg h]
    iintro ⟨H20, H21, H15, HC, HW, HK⟩
    rw [wp_pure]; imodintro
    iapply HK
    isplitl [H20]; · iexact H20
    isplitl [H21]; · iexact H21
    isplitl [H15]; · iexact H15
    isplitl [HC]; · iexact HC
    iexact HW

set_option maxHeartbeats 1000000 in
/-- The body at a point. -/
theorem body (c : Dev nD) (i : grid0.Coords)
    (arg2 : Memref sig .tc .smem S136 .i32) (harg2 : arg2.IsWhole)
    (arg3 : Memref sig .tc .smem S136 .i32) (harg3 : arg3.IsWhole)
    (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .bf16) (harg7 : arg7.IsWhole)
    (arg8 : Memref sig .tc .vmem S4x1x512 .f32) (harg8 : arg8.IsWhole)
    (arg9 : Memref sig .tc .vmem S4x512x128 .f32) (harg9 : arg9.IsWhole)
    (arg10 : Memref sig .tc .vmem S4x1x512 .f32) (harg10 : arg10.IsWhole)
    (arg11 : Memref sig .tc .vmem S4x1x512 .f32) (harg11 : arg11.IsWhole)
    (arg12 : Memref sig .tc .vmem S512x512 .bf16) (harg12 : arg12.IsWhole)
    (arg13 : Memref sig .tc .vmem S512x512 .bf16) (harg13 : arg13.IsWhole)
    (arg14 : Memref sig .tc .vmem S4x1x512 .f32) (harg14 : arg14.IsWhole)
    (arg15 : Memref sig .tc .hbm S8x8192x128 .bf16) (harg15 : arg15.IsWhole)
    (arg16 : Memref sig .tc .vmem S4x16x1x512 .f32) (harg16 : arg16.IsWhole)
    (arg17 : Memref sig .tc .vmem S4x512x128 .f32) (harg17 : arg17.IsWhole)
    (arg18 : Memref sig .tc .vmem S4x512x128 .f32) (harg18 : arg18.IsWhole)
    (arg19 : Memref sig .tc .vmem S4x512x1 .f32) (harg19 : arg19.IsWhole)
    (arg20 : Memref sig .tc .vmem S4x8192x128 .f32) (harg20 : arg20.IsWhole)
    (arg21 : Memref sig .tc .vmem S512x128 .bf16) (harg21 : arg21.IsWhole)
    (arg22 : DmaSems sig S_)
    (q2 q3 : PosShare TreeShare) (f2 : BufTy.Contents (Elt F) arg2.view.ty) (f3 : BufTy.Contents (Elt F) arg3.view.ty)
    (hw2 : (arg2.access (Rect.unit (s := S136) (k0_off1 i) S1.size (k0_off1_inb i))).read (Elt F) f2 (Shape.Idx.first (numel1_S1.symm ▸ Nat.one_pos)) = BitVec.ofNat 32 (iq (prow i)).val)
    (hw3 : (arg3.access (Rect.unit (s := S136) (k0_off1 i) S1.size (k0_off1_inb i))).read (Elt F) f3 (Shape.Idx.first (numel1_S1.symm ▸ Nat.one_pos)) = BitVec.ofNat 32 (ik (prow i)).val)
    (x : Win F) (s : Sums F) (Z12 : Vec F S512x512 .bf16) (Z13 : Vec F S512x512 .bf16) (Z14 : Vec F S4x1x512 .f32) (Y : Vec F S8x8192x128 .bf16) (W : Waits sig Unit) (K : PUnit → sProp 𝕄) :
    (iprop((arg2.view.loc (c : Thread nD τ) ↦{q2} f2) ∗ (arg3.view.loc (c : Thread nD τ) ↦{q3} f3) ∗ owns (c : Thread nD τ) arg4 fullShare x.q ∗ owns (c : Thread nD τ) arg5 fullShare x.k ∗ owns (c : Thread nD τ) arg6 fullShare x.v ∗ owns (c : Thread nD τ) arg7 fullShare x.ct ∗ owns (c : Thread nD τ) arg8 fullShare x.cq ∗ owns (c : Thread nD τ) arg9 fullShare x.ck ∗ owns (c : Thread nD τ) arg10 fullShare x.lse ∗ owns (c : Thread nD τ) arg11 fullShare x.delta ∗ owns (c : Thread nD τ) arg16 fullShare s.dcq ∗ owns (c : Thread nD τ) arg17 fullShare s.dk ∗ owns (c : Thread nD τ) arg18 fullShare s.dv ∗ owns (c : Thread nD τ) arg19 fullShare s.dck ∗ owns (c : Thread nD τ) arg20 fullShare s.dq ∗ owns (c : Thread nD τ) arg12 fullShare Z12 ∗ owns (c : Thread nD τ) arg13 fullShare Z13 ∗ owns (c : Thread nD τ) arg14 fullShare Z14 ∗ (∃ f, arg21.view.loc (c : Thread nD τ) ↦[arg21.view.set]{fullShare} f) ∗ (∃ f, ⌜arg15.view.read (Elt F) f = Y⌝ ∗ (arg15.view.loc (c : Thread nD τ) ↦{fullShare} f)) ∗ (semVal ((c : Thread nD τ), SemLoc.dma arg22.sem) 0) ∗ owes (c : Thread nD τ) 0 W
      ∗ (((arg2.view.loc (c : Thread nD τ) ↦{q2} f2) ∗ (arg3.view.loc (c : Thread nD τ) ↦{q3} f3) ∗ owns (c : Thread nD τ) arg4 fullShare x.q ∗ owns (c : Thread nD τ) arg5 fullShare x.k ∗ owns (c : Thread nD τ) arg6 fullShare x.v ∗ owns (c : Thread nD τ) arg7 fullShare x.ct ∗ owns (c : Thread nD τ) arg8 fullShare x.cq ∗ owns (c : Thread nD τ) arg9 fullShare x.ck ∗ owns (c : Thread nD τ) arg10 fullShare x.lse ∗ owns (c : Thread nD τ) arg11 fullShare x.delta ∗ owns (c : Thread nD τ) arg16 fullShare (step (prow i) x s).dcq ∗ owns (c : Thread nD τ) arg17 fullShare (step (prow i) x s).dk ∗ owns (c : Thread nD τ) arg18 fullShare (step (prow i) x s).dv ∗ owns (c : Thread nD τ) arg19 fullShare (step (prow i) x s).dck ∗ owns (c : Thread nD τ) arg20 fullShare (step (prow i) x s).dq ∗ owns (c : Thread nD τ) arg12 fullShare (outW (prow i) Z12 (outDk (step (prow i) x s).dk)) ∗ owns (c : Thread nD τ) arg13 fullShare (outW (prow i) Z13 (outDv (step (prow i) x s).dv)) ∗ owns (c : Thread nD τ) arg14 fullShare (outW (prow i) Z14 (outDck (step (prow i) x s).dck)) ∗ (∃ f, arg21.view.loc (c : Thread nD τ) ↦[arg21.view.set]{fullShare} f) ∗ (∃ f, ⌜arg15.view.read (Elt F) f = outQ i (step (prow i) x s).dq Y⌝ ∗ (arg15.view.loc (c : Thread nD τ) ↦{fullShare} f)) ∗ (semVal ((c : Thread nD τ), SemLoc.dma arg22.sem) 0) ∗ (∃ W, owes (c : Thread nD τ) 0 W)) -∗ K ⟨⟩)) : sProp 𝕄)
    ⊢ wp frame (wpE (defs₀ (F := F)) Variants.none c none) Set.univ (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) K := by
  rw [body_eq]
  unfold smemLoad smemLoadElt
  iintro ⟨H2, H3, H4, H5, H6, H7, H8, H9, H10, H11, H16, H17, H18, H19, H20, H12, H13, H14, H21, H15, HC, HW, HK⟩
  simp only [Prog.bind_op, Prog.bind_ret, bind_assoc, Prog.lift]
  iapply (wp_load_rect Variants.none (c : Thread nD τ) none Set.univ (m := arg2) (r := Rect.unit (s := S136) (k0_off1 i) S1.size (k0_off1_inb i)) (Finset.subset_univ _)) $$ H2
  iintro H2
  rw [hw2]
  rw [wp_assume_of Variants.none (c : Thread nD τ) none Set.univ (chk1 (iq (prow i)))]
  iapply (wp_load_rect Variants.none (c : Thread nD τ) none Set.univ (m := arg3) (r := Rect.unit (s := S136) (k0_off1 i) S1.size (k0_off1_inb i)) (Finset.subset_univ _)) $$ H3
  iintro H3
  rw [hw3]
  rw [wp_assume_of Variants.none (c : Thread nD τ) none Set.univ (chk2 (iq (prow i)) (ik (prow i)))]
  rw [wp_bind]
  iapply (do1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 s W _)
  isplitl [H16]; · iexact H16
  isplitl [H17]; · iexact H17
  isplitl [H18]; · iexact H18
  isplitl [H19]; · iexact H19
  isplitl [H20]; · iexact H20
  isplitl [HW]; · iexact HW
  iintro ⟨H16, H17, H18, H19, H20, HW⟩
  rw [wp_bind]
  iapply (do2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 _ _ _ x _ W _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H16]; · iexact H16
  isplitl [H17]; · iexact H17
  isplitl [H18]; · iexact H18
  isplitl [H19]; · iexact H19
  isplitl [H20]; · iexact H20
  isplitl [HW]; · iexact HW
  iintro ⟨H4, H5, H6, H7, H8, H9, H10, H11, H16, H17, H18, H19, H20, HW⟩
  rw [wp_bind]
  iapply (do3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 _ _ _ x _ W _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H16]; · iexact H16
  isplitl [H17]; · iexact H17
  isplitl [H18]; · iexact H18
  isplitl [H19]; · iexact H19
  isplitl [H20]; · iexact H20
  isplitl [HW]; · iexact HW
  iintro ⟨H4, H5, H6, H7, H8, H9, H10, H11, H16, H17, H18, H19, H20, HW⟩
  rw [wp_bind]
  iapply (do4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (step (prow i) x s) Z12 Z13 Z14 W _)
  isplitl [H12]; · iexact H12
  isplitl [H13]; · iexact H13
  isplitl [H14]; · iexact H14
  isplitl [H17]; · iexact H17
  isplitl [H18]; · iexact H18
  isplitl [H19]; · iexact H19
  isplitl [HW]; · iexact HW
  iintro ⟨H12, H13, H14, H17, H18, H19, HW⟩
  iapply (do5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (step (prow i) x s).dq Y K)
  isplitl [H20]; · iexact H20
  isplitl [H21]; · iexact H21
  isplitl [H15]; · iexact H15
  isplitl [HC]; · iexact HC
  isplitl [HW]; · iexists W; iexact HW
  iintro ⟨H20, H21, H15, HC, HW⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H16]; · iexact H16
  isplitl [H17]; · iexact H17
  isplitl [H18]; · iexact H18
  isplitl [H19]; · iexact H19
  isplitl [H20]; · iexact H20
  isplitl [H12]; · iexact H12
  isplitl [H13]; · iexact H13
  isplitl [H14]; · iexact H14
  isplitl [H21]; · iexact H21
  isplitl [H15]; · iexact H15
  isplitl [HC]; · iexact HC
  iexact HW

end Cert.Fox
-- ==== Proof.Dats.lean ====
/-
  What every point finds and leaves: the arrays the host's operations hand over, the input blocks a point is given, the
  scratch after each point, and the blocks written back.
-/
module

public import proofs.«01_k».proof.Proof.Body
public import Idealize.ShloMosaic.Lib.StableHlo.RunRead

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (Pipeline.UD sig nD τ) ℕ

abbrev hostLists : List (List (HloOp τ sig (Elt F))) := [hostOps0, hostOps0_1, hostOps0_2]

/-- The arrays once the host's operations have run. -/
abbrev V (c : Dev nD) (b : Ref sig .tc) : Buf (Elt F) ((c : Thread nD τ).loc b) :=
  StableHlo.after (hostLists (F := F)).flatten (fun b => m (c, b)) b

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main hostLists ⟨hostOps0_sub, hostOps0_1_sub, hostOps0_2_sub⟩
    (by refine ⟨?_, ?_, ?_⟩ <;> exact StableHlo.forall_fresh_of_map rfl) (fun c => main_chain c)

abbrev adm : (p : Fin 1) → (pcfgs (F := F) p).Adm := fun _ => ⟨pf, ok⟩
abbrev cfgA : Cfg sig Λ₀ := Pipeline.pin (pcfgs (F := F)) adm 0

theorem V_table (c : Dev nD) : ∀ k, V m c ((pcfgs (F := F) 0).pre.ref k) = ((adm (F := F)) 0).1 k := by
  intro k
  refine match k with
  | 0 => ?_
  | 1 => ?_
  | ⟨_ + 2, h⟩ => absurd h (Nat.not_lt.2 (Nat.le_add_left _ _))
  · show StableHlo.after (hostLists (F := F)).flatten (fun b => m (c, b)) (Proc.devRef .tc main_c) = _
    simp only [List.flatten_cons, List.flatten_nil]
    after_reads_simp
    rfl
  · show StableHlo.after (hostLists (F := F)).flatten (fun b => m (c, b)) (Proc.devRef .tc main_c_0) = _
    simp only [List.flatten_cons, List.flatten_nil]
    after_reads_simp
    rfl

/-- Window `w`'s block at a point, as the arrays hold it. -/
def blkIn (c : Dev nD) (w : Fin 12) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-- The input blocks of a point. -/
def winAt (c : Dev nD) (t : Fin (cfgA (F := F)).N) : Win F where
  q := blkIn m c 0 t
  k := blkIn m c 1 t
  v := blkIn m c 2 t
  ct := blkIn m c 3 t
  cq := blkIn m c 4 t
  ck := blkIn m c 5 t
  lse := blkIn m c 6 t
  delta := blkIn m c 7 t

/-- The scratch after the first `n` points. -/
def sums (c : Dev nD) : ℕ → Sums F
  | 0 => ⟨k0_pay11, k0_pay12, k0_pay13, k0_pay1, k0_pay2⟩
  | n + 1 => if h : n < grid0.N then step (prow (grid0.coords ⟨n, h⟩)) (winAt m c ⟨n, h⟩) (sums c n) else sums c n

/-- The query gradient's array after the first `n` points. -/
def dqArr (c : Dev nD) : ℕ → Vec F S8x8192x128 .bf16
  | 0 => V m c main_v53_3
  | n + 1 => if h : n < grid0.N then outQ (grid0.coords ⟨n, h⟩) (sums m c (n + 1)).dq (dqArr c n) else dqArr c n

abbrev osem0 : Fin 1 → SemLoc sig := fun _ => SemLoc.dma (cc0_scratch5).sem
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma (cc0_scratch5).sem) 0 := by
  rw [Pipeline.ownSems0_eq_of_list c osem0 [0] (by decide) (by decide)]; rfl

def H0 : Finset (Ref sig .tc) := ∅
def R0 : Finset (Ref sig .tc) := {main_v53_3}
theorem H0_sub : H0 ⊆ Pipeline.restRefsP sig pre0 spec0 := by decide
theorem R0_sub : R0 ⊆ Pipeline.restRefsP sig pre0 spec0 \ H0 := by decide

/-- What the body holds besides its windows, before point `n`. -/
def phi (c : Dev nD) (n : ℕ) : sProp 𝕄 :=
  iprop((∃ s : Sums F, ⌜n ≠ 0 → s = sums m c n⌝ ∗ owns (c : Thread nD τ) (Memref.whole cc0_scratch0) fullShare s.dk ∗ owns (c : Thread nD τ) (Memref.whole cc0_scratch1) fullShare s.dv
      ∗ owns (c : Thread nD τ) (Memref.whole cc0_scratch2) fullShare s.dck ∗ owns (c : Thread nD τ) (Memref.whole cc0_scratch3) fullShare s.dq)
    ∗ (∃ f : Buf (Elt F) ((c : Thread nD τ).loc cc0_scratch4), ((c : Thread nD τ).loc cc0_scratch4) ↦{fullShare} f)
    ∗ (∃ r, prngReg c r)
    ∗ semVal ((c : Thread nD τ), SemLoc.dma (cc0_scratch5).sem) 0
    ∗ (((c : Thread nD τ).loc main_v53_3) ↦{fullShare} dqArr m c n)
    ∗ (((c : Thread nD τ).loc main_c) ↦{fullShare.right} pf (F := F) 0) ∗ (((c : Thread nD τ).loc main_c_0) ↦{fullShare.right} pf (F := F) 1))

def dats (_ : Fin 1) (c : Dev nD) : Dat τ (Elt F) Unit ℕ (Pipeline.UD sig nD τ) ℕ (cfgA (F := F)) c where
  A w := V m c (Pipeline.arrRef spec0 w)
  after w t := match w with
    | 0 => blkIn m c 0 t
    | 1 => blkIn m c 1 t
    | 2 => blkIn m c 2 t
    | 3 => blkIn m c 3 t
    | 4 => blkIn m c 4 t
    | 5 => blkIn m c 5 t
    | 6 => blkIn m c 6 t
    | 7 => blkIn m c 7 t
    | 8 => outDk (sums m c (t.val + 1)).dk
    | 9 => outDv (sums m c (t.val + 1)).dv
    | 10 => outDck (sums m c (t.val + 1)).dck
    | 11 => (sums m c (t.val + 1)).dcq
    | ⟨_ + 12, h⟩ => absurd h (Nat.not_lt.2 (Nat.le_add_left _ _))
  Φ n := phi m c n.val
  q w := Pipeline.shareOf spec0 w
  owed _ := 0

end Cert.Fox
-- ==== Proof.Visits.lean ====
/-
  What the windows hold when the body meets them, and which of them a point writes
  back.
-/
module

public import proofs.«01_k».proof.Proof.Dats

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (Pipeline.UD sig nD τ) ℕ

theorem coords_prow (t : Fin grid0.N) : (prow (grid0.coords t)).val = t.val % 136 := by
  have h := Pipeline.Grid.coords_val (G := grid0) t 1 (S := 1) (B := 136) (by decide) (by decide)
  exact h.trans (by rw [Nat.div_one])
theorem coords_sweep (t : Fin grid0.N) : (sweep (grid0.coords t)).val = t.val / 136 % 2 :=
  Pipeline.Grid.coords_val (G := grid0) t 0 (S := 136) (B := 2) (by decide) (by decide)

/-- A pair that is not a column's last is followed by one of the same column. -/
theorem same_column : ∀ p : Fin 136, (iq p).val ≠ 15 → ∃ h : p.val + 1 < 136, ik ⟨p.val + 1, h⟩ = ik p := by decide +kernel

theorem next_column (t : Fin grid0.N) (h15 : (iq (prow (grid0.coords t))).val ≠ 15) :
    ∃ h : t.val + 1 < grid0.N, ik (prow (grid0.coords ⟨t.val + 1, h⟩)) = ik (prow (grid0.coords t)) ∧ sweep (grid0.coords ⟨t.val + 1, h⟩) = sweep (grid0.coords t) := by
  obtain ⟨h, e⟩ := same_column _ h15
  have hp := coords_prow t
  have hN : grid0.N = 272 := N_0
  have ht : t.val < grid0.N := t.isLt
  have h' : t.val + 1 < grid0.N := by omega
  refine ⟨h', ?_, ?_⟩
  · rw [← e]
    congr 1
    apply Fin.ext
    rw [coords_prow]
    show (t.val + 1) % 136 = (prow (grid0.coords t)).val + 1
    omega
  · apply Fin.ext
    rw [coords_sweep, coords_sweep]
    show (t.val + 1) / 136 % 2 = t.val / 136 % 2
    omega

theorem live11 (i : grid0.Coords) : idle0 (F := F) pf 11 i = false := by
  show (!(k0_cond1 i == 1#1) && !(k0_cond2 ((pf (F := F)).atD 0 (k0_off1 i)) ((pf (F := F)).atD 1 (k0_off1 i)) == 1#1) && !(k0_cond3 ((pf (F := F)).atD 0 (k0_off1 i)) ((pf (F := F)).atD 1 (k0_off1 i)) == 1#1)) = false
  rw [atD0, atD1]
  have h := ik_le_iq (prow i)
  by_cases hd : iq (prow i) = ik (prow i)
  · rw [(cond2_iff _ _).mpr hd]; simp
  · rw [(cond3_iff (iq (prow i)) (ik (prow i))).mpr (by have : (iq (prow i)).val ≠ (ik (prow i)).val := fun e => hd (Fin.ext e); omega)]; simp

theorem live_col (i : grid0.Coords) (h : (iq (prow i)).val = 15) : (!(k0_cond4 ((pf (F := F)).atD 0 (k0_off1 i)) == 1#1)) = false := by
  rw [atD0, (cond4_iff _).mpr h]; rfl
theorem idle_col (i : grid0.Coords) (h : (iq (prow i)).val ≠ 15) : (!(k0_cond4 ((pf (F := F)).atD 0 (k0_off1 i)) == 1#1)) = true := by
  rw [atD0]
  have : ¬ k0_cond4 (BitVec.ofNat 32 (iq (prow i)).val) = 1#1 := fun h' => h ((cond4_iff _).mp h')
  simp [this]

theorem before0 (c : Dev nD) (t : Fin (cfgA (F := F)).N) (d) : (dats m 0 c).before 0 t d = blkIn m c 0 t :=
  (Dat.before_in_eq_fetched (dats m 0 c) 0 rfl (fun _ => rfl) (fun _ _ _ => rfl) (fun _ => rfl) t d).trans rfl
theorem before1 (c : Dev nD) (t : Fin (cfgA (F := F)).N) (d) : (dats m 0 c).before 1 t d = blkIn m c 1 t :=
  (Dat.before_in_eq_fetched (dats m 0 c) 1 rfl (fun _ => rfl) (fun _ _ _ => rfl) (fun _ => rfl) t d).trans rfl
theorem before2 (c : Dev nD) (t : Fin (cfgA (F := F)).N) (d) : (dats m 0 c).before 2 t d = blkIn m c 2 t :=
  (Dat.before_in_eq_fetched (dats m 0 c) 2 rfl (fun _ => rfl) (fun _ _ _ => rfl) (fun _ => rfl) t d).trans rfl
theorem before3 (c : Dev nD) (t : Fin (cfgA (F := F)).N) (d) : (dats m 0 c).before 3 t d = blkIn m c 3 t :=
  (Dat.before_in_eq_fetched (dats m 0 c) 3 rfl (fun _ => rfl) (fun _ _ _ => rfl) (fun _ => rfl) t d).trans rfl
theorem before4 (c : Dev nD) (t : Fin (cfgA (F := F)).N) (d) : (dats m 0 c).before 4 t d = blkIn m c 4 t :=
  (Dat.before_in_eq_fetched (dats m 0 c) 4 rfl (fun _ => rfl) (fun _ _ _ => rfl) (fun _ => rfl) t d).trans rfl
theorem before5 (c : Dev nD) (t : Fin (cfgA (F := F)).N) (d) : (dats m 0 c).before 5 t d = blkIn m c 5 t :=
  (Dat.before_in_eq_fetched (dats m 0 c) 5 rfl (fun _ => rfl) (fun _ _ _ => rfl) (fun _ => rfl) t d).trans rfl
theorem before6 (c : Dev nD) (t : Fin (cfgA (F := F)).N) (d) : (dats m 0 c).before 6 t d = blkIn m c 6 t :=
  (Dat.before_in_eq_fetched (dats m 0 c) 6 rfl (fun _ => rfl) (fun _ _ _ => rfl) (fun _ => rfl) t d).trans rfl
theorem before7 (c : Dev nD) (t : Fin (cfgA (F := F)).N) (d) : (dats m 0 c).before 7 t d = blkIn m c 7 t :=
  (Dat.before_in_eq_fetched (dats m 0 c) 7 rfl (fun _ => rfl) (fun _ _ _ => rfl) (fun _ => rfl) t d).trans rfl

theorem before11 (c : Dev nD) (t : Fin (cfgA (F := F)).N) (hp : (prow (grid0.coords t)).val ≠ 0) (d) : (dats m 0 c).before 11 t d = (sums m c t.val).dcq := by
  have ht : t.val ≠ 0 := fun h => hp (by rw [coords_prow, h])
  have hN : grid0.N = 272 := N_0
  have htN : t.val < grid0.N := t.isLt
  have hp' := coords_prow t
  refine (Dat.before_out_kept (dats m 0 c) 11 rfl t ht ?_ (live11 (F := F)) (fun _ _ => rfl) d).trans ?_
  · unfold Pipeline.Window.flush
    have h1 : ¬(t.val - 1 + 1 = grid0.N) := by omega
    have h2 : ¬(∃ h : t.val - 1 + 1 < grid0.N, cc0_transform_12 (grid0.coords ⟨t.val - 1 + 1, h⟩) ≠ cc0_transform_12 (grid0.coords ⟨t.val - 1, by omega⟩)) := by
      rintro ⟨h, hne⟩
      apply hne
      rw [tr11, tr11, coords_sweep, coords_sweep]
      have : (t.val - 1 + 1) / 136 % 2 = (t.val - 1) / 136 % 2 := by omega
      exact congrArg (fun n => (![n, 0, 0, 0] : Fin 4 → ℕ)) this
    have e1 : decide (t.val - 1 + 1 = grid0.N) = false := decide_eq_false h1
    exact (congrArg₂ (fun a b => true && (a || b)) e1 (decide_eq_false h2)).trans rfl
  · show (sums m c (t.val - 1 + 1)).dcq = _
    rw [Nat.sub_add_cancel (Nat.pos_of_ne_zero ht)]

theorem flush8 (t : Fin (cfgA (F := F)).N) (h15 : (iq (prow (grid0.coords t))).val ≠ 15) : ((cfgA (F := F)).win 8).flush t = false := by
  obtain ⟨h, e, e'⟩ := next_column t h15
  have h1 : ¬(t.val + 1 = grid0.N) := by omega
  have h2 : ¬(∃ h : t.val + 1 < grid0.N, cc0_transform_8 (F := F) k0_off1_inb numel1_S1 pf (grid0.coords ⟨t.val + 1, h⟩) ≠ cc0_transform_8 (F := F) k0_off1_inb numel1_S1 pf (grid0.coords t)) := by
    rintro ⟨h, hne⟩
    apply hne
    rw [tr8, tr8, e, e']
  exact (congrArg₂ (fun a b => true && (a || b)) (decide_eq_false h1) (decide_eq_false h2)).trans rfl
theorem flush9 (t : Fin (cfgA (F := F)).N) (h15 : (iq (prow (grid0.coords t))).val ≠ 15) : ((cfgA (F := F)).win 9).flush t = false := by
  obtain ⟨h, e, e'⟩ := next_column t h15
  have h1 : ¬(t.val + 1 = grid0.N) := by omega
  have h2 : ¬(∃ h : t.val + 1 < grid0.N, cc0_transform_9 (F := F) k0_off1_inb numel1_S1 pf (grid0.coords ⟨t.val + 1, h⟩) ≠ cc0_transform_9 (F := F) k0_off1_inb numel1_S1 pf (grid0.coords t)) := by
    rintro ⟨h, hne⟩
    apply hne
    rw [tr9, tr9, e, e']
  exact (congrArg₂ (fun a b => true && (a || b)) (decide_eq_false h1) (decide_eq_false h2)).trans rfl
theorem flush10 (t : Fin (cfgA (F := F)).N) (h15 : (iq (prow (grid0.coords t))).val ≠ 15) : ((cfgA (F := F)).win 10).flush t = false := by
  obtain ⟨h, e, e'⟩ := next_column t h15
  have h1 : ¬(t.val + 1 = grid0.N) := by omega
  have h2 : ¬(∃ h : t.val + 1 < grid0.N, cc0_transform_10 (F := F) k0_off1_inb numel1_S1 pf (grid0.coords ⟨t.val + 1, h⟩) ≠ cc0_transform_10 (F := F) k0_off1_inb numel1_S1 pf (grid0.coords t)) := by
    rintro ⟨h, hne⟩
    apply hne
    rw [tr10, tr10, e, e']
  exact (congrArg₂ (fun a b => true && (a || b)) (decide_eq_false h1) (decide_eq_false h2)).trans rfl

end Cert.Fox
-- ==== Proof.Gives.lean ====
/-
  The sums after a point, and each window's buffer as the body leaves it.
-/
module

public import proofs.«01_k».proof.Proof.Visits

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (Pipeline.UD sig nD τ) ℕ

theorem sums_succ (c : Dev nD) (t : Fin grid0.N) : sums m c (t.val + 1) = step (prow (grid0.coords t)) (winAt m c t) (sums m c t.val) := by
  show (if h : t.val < grid0.N then _ else _) = _
  rw [dif_pos t.isLt]
theorem dqArr_succ (c : Dev nD) (t : Fin grid0.N) : dqArr m c (t.val + 1) = outQ (grid0.coords t) (sums m c (t.val + 1)).dq (dqArr m c t.val) := by
  show (if h : t.val < grid0.N then _ else _) = _
  rw [dif_pos t.isLt]

/-- Whatever the scratch held before the first point, the sums after a point are these. -/
theorem step_found (c : Dev nD) (t : Fin grid0.N) (s : Sums F) (d : Vec F S4x16x1x512 .f32) (hs : t.val ≠ 0 → s = sums m c t.val)
    (hd : (prow (grid0.coords t)).val ≠ 0 → d = (sums m c t.val).dcq) :
    step (prow (grid0.coords t)) (winAt m c t) { s with dcq := d } = sums m c (t.val + 1) := by
  rw [sums_succ]
  by_cases hp : (prow (grid0.coords t)).val = 0
  · exact step_first _ hp _ _ _
  · have ht : t.val ≠ 0 := fun h => hp (by rw [coords_prow, h])
    rw [hs ht, hd hp]

def bodyAt (t : Fin (cfgA (F := F)).N) : Prog (TpuEff nD τ sig (Elt F) Λ₀ .tc) PUnit :=
  cc0_fox_bwd (F := F) (grid0.coords t) (Memref.whole main_c) (Memref.isWhole_whole _) (Memref.whole main_c_0) (Memref.isWhole_whole _) (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1)) (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3)) (spec0_4.stage ((cfgA (F := F)).slots t 4)) (hstage0_4 (((cfgA (F := F)).slots t 4).cast nbuf0_4)) (spec0_5.stage ((cfgA (F := F)).slots t 5)) (hstage0_5 (((cfgA (F := F)).slots t 5).cast nbuf0_5)) (spec0_6.stage ((cfgA (F := F)).slots t 6)) (hstage0_6 (((cfgA (F := F)).slots t 6).cast nbuf0_6)) (spec0_7.stage ((cfgA (F := F)).slots t 7)) (hstage0_7 (((cfgA (F := F)).slots t 7).cast nbuf0_7)) (spec0_8.stage ((cfgA (F := F)).slots t 8)) (hstage0_8 (((cfgA (F := F)).slots t 8).cast nbuf0_8)) (spec0_9.stage ((cfgA (F := F)).slots t 9)) (hstage0_9 (((cfgA (F := F)).slots t 9).cast nbuf0_9)) (spec0_10.stage ((cfgA (F := F)).slots t 10)) (hstage0_10 (((cfgA (F := F)).slots t 10).cast nbuf0_10)) (Memref.whole main_v53_3) (Memref.isWhole_whole _) (spec0_11.stage ((cfgA (F := F)).slots t 11)) (hstage0_11 (((cfgA (F := F)).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5

theorem owns_last (c : Dev nD) (p : Fin 136) (h : (iq p).val = 15) {S : Shape} {e : EltTy} (M : Memref sig .tc .vmem S e) (Z X : Vec F S e) :
    (owns (c : Thread nD τ) M fullShare (outW p Z X) : sProp 𝕄) ⊢ owns (c : Thread nD τ) M fullShare X := by
  unfold outW; rw [if_pos h]
theorem owns_other (c : Dev nD) (p : Fin 136) (h : (iq p).val ≠ 15) {S : Shape} {e : EltTy} (M : Memref sig .tc .vmem S e) (Z X : Vec F S e) :
    (owns (c : Thread nD τ) M fullShare (outW p Z X) : sProp 𝕄) ⊢ owns (c : Thread nD τ) M fullShare Z := by
  unfold outW; rw [if_neg h]

theorem Φ_before (c : Dev nD) (t : Fin (cfgA (F := F)).N) : (dats m 0 c).Φ t.castSucc = phi m c t.val := congrArg (phi m c) (Fin.val_castSucc t)
theorem Φ_after (c : Dev nD) (t : Fin (cfgA (F := F)).N) : (dats m 0 c).Φ t.succ = phi m c (t.val + 1) := congrArg (phi m c) (Fin.val_succ t)

theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]; rfl

theorem give8 (c : Dev nD) (t : Fin (cfgA (F := F)).N) (d) :
    (owns (c : Thread nD τ) (((cfgA (F := F)).win 8).stage ((cfgA (F := F)).slots t 8)) fullShare (outW (prow (grid0.coords t)) ((dats m 0 c).before 8 t d) (outDk (sums m c (t.val + 1)).dk)) : sProp 𝕄) ⊢ (dats m 0 c).leavesExact 8 t := by
  by_cases h : (iq (prow (grid0.coords t))).val = 15
  · have hi : (cfgA (F := F)).idle 8 ((cfgA (F := F)).grid.coords t) = false := live_col _ h
    unfold Dat.leavesExact
    rw [hi]
    exact owns_last c _ h _ _ _
  · have hi : (cfgA (F := F)).idle 8 ((cfgA (F := F)).grid.coords t) = true := idle_col _ h
    rw [Dat.leavesExact_idle (dats m 0 c) 8 t hi (flush8 t h)]
    iintro H
    iexists d
    iapply (owns_other c _ h _ _ _)
    iexact H
theorem give9 (c : Dev nD) (t : Fin (cfgA (F := F)).N) (d) :
    (owns (c : Thread nD τ) (((cfgA (F := F)).win 9).stage ((cfgA (F := F)).slots t 9)) fullShare (outW (prow (grid0.coords t)) ((dats m 0 c).before 9 t d) (outDv (sums m c (t.val + 1)).dv)) : sProp 𝕄) ⊢ (dats m 0 c).leavesExact 9 t := by
  by_cases h : (iq (prow (grid0.coords t))).val = 15
  · have hi : (cfgA (F := F)).idle 9 ((cfgA (F := F)).grid.coords t) = false := live_col _ h
    unfold Dat.leavesExact
    rw [hi]
    exact owns_last c _ h _ _ _
  · have hi : (cfgA (F := F)).idle 9 ((cfgA (F := F)).grid.coords t) = true := idle_col _ h
    rw [Dat.leavesExact_idle (dats m 0 c) 9 t hi (flush9 t h)]
    iintro H
    iexists d
    iapply (owns_other c _ h _ _ _)
    iexact H
theorem give10 (c : Dev nD) (t : Fin (cfgA (F := F)).N) (d) :
    (owns (c : Thread nD τ) (((cfgA (F := F)).win 10).stage ((cfgA (F := F)).slots t 10)) fullShare (outW (prow (grid0.coords t)) ((dats m 0 c).before 10 t d) (outDck (sums m c (t.val + 1)).dck)) : sProp 𝕄) ⊢ (dats m 0 c).leavesExact 10 t := by
  by_cases h : (iq (prow (grid0.coords t))).val = 15
  · have hi : (cfgA (F := F)).idle 10 ((cfgA (F := F)).grid.coords t) = false := live_col _ h
    unfold Dat.leavesExact
    rw [hi]
    exact owns_last c _ h _ _ _
  · have hi : (cfgA (F := F)).idle 10 ((cfgA (F := F)).grid.coords t) = true := idle_col _ h
    rw [Dat.leavesExact_idle (dats m 0 c) 10 t hi (flush10 t h)]
    iintro H
    iexists d
    iapply (owns_other c _ h _ _ _)
    iexact H
theorem give11 (c : Dev nD) (t : Fin (cfgA (F := F)).N) :
    (owns (c : Thread nD τ) (((cfgA (F := F)).win 11).stage ((cfgA (F := F)).slots t 11)) fullShare (sums m c (t.val + 1)).dcq : sProp 𝕄) ⊢ (dats m 0 c).leavesExact 11 t := by
  have hi : (cfgA (F := F)).idle 11 ((cfgA (F := F)).grid.coords t) = false := live11 _
  unfold Dat.leavesExact
  rw [hi]
  exact .rfl
theorem give0 (c : Dev nD) (t : Fin (cfgA (F := F)).N) :
    (owns (c : Thread nD τ) (((cfgA (F := F)).win 0).stage ((cfgA (F := F)).slots t 0)) fullShare (blkIn m c 0 t) : sProp 𝕄) ⊢ (dats m 0 c).leavesExact 0 t := .rfl
theorem give1 (c : Dev nD) (t : Fin (cfgA (F := F)).N) :
    (owns (c : Thread nD τ) (((cfgA (F := F)).win 1).stage ((cfgA (F := F)).slots t 1)) fullShare (blkIn m c 1 t) : sProp 𝕄) ⊢ (dats m 0 c).leavesExact 1 t := .rfl
theorem give2 (c : Dev nD) (t : Fin (cfgA (F := F)).N) :
    (owns (c : Thread nD τ) (((cfgA (F := F)).win 2).stage ((cfgA (F := F)).slots t 2)) fullShare (blkIn m c 2 t) : sProp 𝕄) ⊢ (dats m 0 c).leavesExact 2 t := .rfl
theorem give3 (c : Dev nD) (t : Fin (cfgA (F := F)).N) :
    (owns (c : Thread nD τ) (((cfgA (F := F)).win 3).stage ((cfgA (F := F)).slots t 3)) fullShare (blkIn m c 3 t) : sProp 𝕄) ⊢ (dats m 0 c).leavesExact 3 t := .rfl
theorem give4 (c : Dev nD) (t : Fin (cfgA (F := F)).N) :
    (owns (c : Thread nD τ) (((cfgA (F := F)).win 4).stage ((cfgA (F := F)).slots t 4)) fullShare (blkIn m c 4 t) : sProp 𝕄) ⊢ (dats m 0 c).leavesExact 4 t := .rfl
theorem give5 (c : Dev nD) (t : Fin (cfgA (F := F)).N) :
    (owns (c : Thread nD τ) (((cfgA (F := F)).win 5).stage ((cfgA (F := F)).slots t 5)) fullShare (blkIn m c 5 t) : sProp 𝕄) ⊢ (dats m 0 c).leavesExact 5 t := .rfl
theorem give6 (c : Dev nD) (t : Fin (cfgA (F := F)).N) :
    (owns (c : Thread nD τ) (((cfgA (F := F)).win 6).stage ((cfgA (F := F)).slots t 6)) fullShare (blkIn m c 6 t) : sProp 𝕄) ⊢ (dats m 0 c).leavesExact 6 t := .rfl
theorem give7 (c : Dev nD) (t : Fin (cfgA (F := F)).N) :
    (owns (c : Thread nD τ) (((cfgA (F := F)).win 7).stage ((cfgA (F := F)).slots t 7)) fullShare (blkIn m c 7 t) : sProp 𝕄) ⊢ (dats m 0 c).leavesExact 7 t := .rfl

end Cert.Fox
-- ==== Proof.Frame.lean ====
/-
  The body's obligation at every point, and the kernel's run: it ends with its arguments as they were and its results
  as the points left them.
-/
module

public import proofs.«01_k».proof.Proof.Gives

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (Pipeline.UD sig nD τ) ℕ

def bodyPre (c : Dev nD) (t : Fin (cfgA (F := F)).N) : sProp 𝕄 :=
  iprop((dats m 0 c).Φ t.castSucc ∗ (dats m 0 c).owesAt () t.castSucc ∗ (∃ d, owns (c : Thread nD τ) (((cfgA (F := F)).win 0).stage ((cfgA (F := F)).slots t 0)) fullShare ((dats m 0 c).before 0 t d)) ∗ (∃ d, owns (c : Thread nD τ) (((cfgA (F := F)).win 1).stage ((cfgA (F := F)).slots t 1)) fullShare ((dats m 0 c).before 1 t d)) ∗ (∃ d, owns (c : Thread nD τ) (((cfgA (F := F)).win 2).stage ((cfgA (F := F)).slots t 2)) fullShare ((dats m 0 c).before 2 t d)) ∗ (∃ d, owns (c : Thread nD τ) (((cfgA (F := F)).win 3).stage ((cfgA (F := F)).slots t 3)) fullShare ((dats m 0 c).before 3 t d)) ∗ (∃ d, owns (c : Thread nD τ) (((cfgA (F := F)).win 4).stage ((cfgA (F := F)).slots t 4)) fullShare ((dats m 0 c).before 4 t d)) ∗ (∃ d, owns (c : Thread nD τ) (((cfgA (F := F)).win 5).stage ((cfgA (F := F)).slots t 5)) fullShare ((dats m 0 c).before 5 t d)) ∗ (∃ d, owns (c : Thread nD τ) (((cfgA (F := F)).win 6).stage ((cfgA (F := F)).slots t 6)) fullShare ((dats m 0 c).before 6 t d)) ∗ (∃ d, owns (c : Thread nD τ) (((cfgA (F := F)).win 7).stage ((cfgA (F := F)).slots t 7)) fullShare ((dats m 0 c).before 7 t d)) ∗ (∃ d, owns (c : Thread nD τ) (((cfgA (F := F)).win 8).stage ((cfgA (F := F)).slots t 8)) fullShare ((dats m 0 c).before 8 t d)) ∗ (∃ d, owns (c : Thread nD τ) (((cfgA (F := F)).win 9).stage ((cfgA (F := F)).slots t 9)) fullShare ((dats m 0 c).before 9 t d)) ∗ (∃ d, owns (c : Thread nD τ) (((cfgA (F := F)).win 10).stage ((cfgA (F := F)).slots t 10)) fullShare ((dats m 0 c).before 10 t d)) ∗ (∃ d, owns (c : Thread nD τ) (((cfgA (F := F)).win 11).stage ((cfgA (F := F)).slots t 11)) fullShare ((dats m 0 c).before 11 t d)))
def bodyPost (c : Dev nD) (t : Fin (cfgA (F := F)).N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

set_option maxHeartbeats 2000000 in
theorem sound_body (c : Dev nD) (t : Fin (cfgA (F := F)).N) :
    bodyPre m c t ⊢ wp frame (wpE (defs₀ (F := F)) Variants.none c none) Set.univ (bodyAt t) (fun _ => bodyPost m c t) := by
  unfold bodyPre bodyPost bodyAt
  rw [Φ_before, Φ_after]
  unfold Dat.owesAt Pipeline.owesWithin
  rw [show (dats m 0 c).owed t.castSucc = 0 from rfl, show (dats m 0 c).owed t.succ = 0 from rfl]
  simp only [before0, before1, before2, before3, before4, before5, before6, before7]
  unfold phi
  iintro ⟨⟨⟨%s, %hs, HS0, HS1, HS2, HS3⟩, ⟨%f21, HS4⟩, Hg, Hsem, HY, Ht2, Ht3⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hst := step_found m c t s ((dats m 0 c).before 11 t d11) hs (fun hp => before11 m c t hp d11)
  have hb := body (F := F) c (grid0.coords t) (Memref.whole main_c) (Memref.isWhole_whole _) (Memref.whole main_c_0) (Memref.isWhole_whole _) (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1)) (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3)) (spec0_4.stage ((cfgA (F := F)).slots t 4)) (hstage0_4 (((cfgA (F := F)).slots t 4).cast nbuf0_4)) (spec0_5.stage ((cfgA (F := F)).slots t 5)) (hstage0_5 (((cfgA (F := F)).slots t 5).cast nbuf0_5)) (spec0_6.stage ((cfgA (F := F)).slots t 6)) (hstage0_6 (((cfgA (F := F)).slots t 6).cast nbuf0_6)) (spec0_7.stage ((cfgA (F := F)).slots t 7)) (hstage0_7 (((cfgA (F := F)).slots t 7).cast nbuf0_7)) (spec0_8.stage ((cfgA (F := F)).slots t 8)) (hstage0_8 (((cfgA (F := F)).slots t 8).cast nbuf0_8)) (spec0_9.stage ((cfgA (F := F)).slots t 9)) (hstage0_9 (((cfgA (F := F)).slots t 9).cast nbuf0_9)) (spec0_10.stage ((cfgA (F := F)).slots t 10)) (hstage0_10 (((cfgA (F := F)).slots t 10).cast nbuf0_10)) (Memref.whole main_v53_3) (Memref.isWhole_whole _) (spec0_11.stage ((cfgA (F := F)).slots t 11)) (hstage0_11 (((cfgA (F := F)).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5
    fullShare.right fullShare.right (pf (F := F) 0) (pf (F := F) 1) (at0 _) (at1 _) (winAt m c t) { s with dcq := (dats m 0 c).before 11 t d11 } ((dats m 0 c).before 8 t d8) ((dats m 0 c).before 9 t d9) ((dats m 0 c).before 10 t d10) (dqArr m c t.val) W
      (fun _ => bodyPost m c t)
  rw [hst] at hb
  unfold bodyPost at hb
  rw [Φ_after] at hb
  unfold Dat.owesAt Pipeline.owesWithin at hb
  rw [show (dats m 0 c).owed t.succ = 0 from rfl] at hb
  unfold phi at hb
  iapply hb
  isplitl [Ht2]; · iexact Ht2
  isplitl [Ht3]; · iexact Ht3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [HS0]; · iexact HS0
  isplitl [HS1]; · iexact HS1
  isplitl [HS2]; · iexact HS2
  isplitl [HS3]; · iexact HS3
  isplitl [H8]; · iexact H8
  isplitl [H9]; · iexact H9
  isplitl [H10]; · iexact H10
  isplitl [HS4]
  · iexists f21
    simp only [Memref.view_whole, View.set_whole]
    iexact HS4
  isplitl [HY]
  · iexists (dqArr m c t.val)
    isplitr
    · ipureintro; rfl
    iexact HY
  isplitl [Hsem]; · iexact Hsem
  isplitl [HW]; · iexact HW
  iintro ⟨Ht2, Ht3, H0, H1, H2, H3, H4, H5, H6, H7, H11, HS0, HS1, HS2, HS3, H8, H9, H10, ⟨%g21, HS4⟩, ⟨%Y, %hY, HY⟩, Hsem, ⟨%W', HW⟩⟩
  have hY' : Y = dqArr m c (t.val + 1) := Eq.trans hY (dqArr_succ m c t).symm
  subst hY'
  isplitl [HS0 HS1 HS2 HS3 HS4 Hg Hsem HY Ht2 Ht3]
  · isplitl [HS0 HS1 HS2 HS3]
    · iexists (sums m c (t.val + 1))
      isplitr
      · ipureintro; exact fun _ => rfl
      isplitl [HS0]; · iexact HS0
      isplitl [HS1]; · iexact HS1
      isplitl [HS2]; · iexact HS2
      iexact HS3
    isplitl [HS4]
    · iexists g21
      simp only [Memref.view_whole, View.set_whole]
      iexact HS4
    isplitl [Hg]; · iexact Hg
    isplitl [Hsem]; · iexact Hsem
    isplitl [HY]; · iexact HY
    isplitl [Ht2]; · iexact Ht2
    iexact Ht3
  isplitl [HW]
  · iexists W'
    isplitr
    · ipureintro; exact fun _ _ => Or.inl trivial
    iexact HW
  isplitl [H0]
  · iapply (give0 m c t); iexact H0
  isplitl [H1]
  · iapply (give1 m c t); iexact H1
  isplitl [H2]
  · iapply (give2 m c t); iexact H2
  isplitl [H3]
  · iapply (give3 m c t); iexact H3
  isplitl [H4]
  · iapply (give4 m c t); iexact H4
  isplitl [H5]
  · iapply (give5 m c t); iexact H5
  isplitl [H6]
  · iapply (give6 m c t); iexact H6
  isplitl [H7]
  · iapply (give7 m c t); iexact H7
  isplitl [H8]
  · iapply (give8 m c t d8); iexact H8
  isplitl [H9]
  · iapply (give9 m c t d9); iexact H9
  isplitl [H10]
  · iapply (give10 m c t d10); iexact H10
  iapply (give11 m c t); iexact H11

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The arrays at the region's end: the query gradient's as the transfers left it. -/
def G (c : Dev nD) (b : Ref sig .tc) : Buf (Elt F) ((c : Thread nD τ).loc b) :=
  Function.update (β := fun b => Buf (Elt F) ((c : Thread nD τ).loc b)) (V m c) main_v53_3 (dqArr m c grid0.N) b

theorem tables_eq (c : Dev nD) : (Pipeline.prefHeld pre0 c (fun _ => fullShare.right) (pf (F := F)) : sProp 𝕄)
    = iprop((((c : Thread nD τ).loc main_c) ↦{fullShare.right} pf (F := F) 0) ∗ (((c : Thread nD τ).loc main_c_0) ↦{fullShare.right} pf (F := F) 1)) := by
  unfold Pipeline.prefHeld
  rw [bigSep_univ_eq_bigSepL [(0 : Fin 2), (1 : Fin 2)] (by decide) (by decide)]
  rfl

theorem phi_in (c : Dev nD) : iprop(Pipeline.ΦDRG osem0 spec0 H0 R0 (V m) (V m) c ∗ Pipeline.ΦT pre0 (pf (F := F)) c) ⊢ (phi m c 0 : sProp 𝕄) := by
  rw [Pipeline.ΦDRG_eq, scopedRest0_eq, ownSems0_eq]
  unfold Pipeline.routed R0 phi
  rw [bigSep_singleton, show Pipeline.ΦT pre0 (pf (F := F)) c = Pipeline.prefHeld pre0 c (fun _ => fullShare.right) (pf (F := F)) from rfl, tables_eq]
  simp only [owns_whole]
  iintro ⟨⟨⟨⟨%f0, HS0⟩, ⟨%f1, HS1⟩, ⟨%f2, HS2⟩, ⟨%f3, HS3⟩, HS4⟩, Hg, Hsem, -, HY⟩, ⟨Ht2, Ht3⟩⟩
  isplitl [HS0 HS1 HS2 HS3]
  · iexists (⟨f0, f1, f2, f3, k0_pay2⟩ : Sums F)
    isplitr
    · ipureintro; exact fun h => absurd rfl h
    isplitl [HS0]; · iexact HS0
    isplitl [HS1]; · iexact HS1
    isplitl [HS2]; · iexact HS2
    iexact HS3
  isplitl [HS4]; · iexact HS4
  isplitl [Hg]; · iexact Hg
  isplitl [Hsem]; · iexact Hsem
  isplitl [HY]; · iexact HY
  isplitl [Ht2]; · iexact Ht2
  iexact Ht3

theorem phi_out (c : Dev nD) : (phi m c grid0.N : sProp 𝕄) ⊢ Pipeline.ΦDRG osem0 spec0 H0 R0 (V m) (G m) c := by
  rw [Pipeline.ΦDRG_eq, scopedRest0_eq, ownSems0_eq]
  unfold Pipeline.routed R0 H0 phi
  rw [bigSep_singleton, bigSep_empty]
  simp only [owns_whole]
  have hG : G m c main_v53_3 = dqArr m c grid0.N := Function.update_self _ _ _
  rw [hG]
  iintro ⟨⟨%s, -, HS0, HS1, HS2, HS3⟩, HS4, Hg, Hsem, HY, -, -⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexact HS4
  isplitl [Hg]; · iexact Hg
  isplitl [Hsem]; · iexact Hsem
  isplitr
  · iempintro
  iexact HY

set_option backward.isDefEq.respectTransparency.types false in
theorem run_main : θ_run defs (onTc (τ := τ) (main (F := F))) (s₀ m ρ) (fun r => Pipeline.FramePostRG (Pipeline.pin (pcfgs (F := F)) adm) (dats m) 0 R0 (V m) (G m) r ∧ r.2.sem = fun _ => 0) :=
  Pipeline.θ_run_frameP_dmaRG_shared (Q' := _) (pcfgs (F := F)) adm (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := fun _ _ => rfl) (hpf := V_table m) (G := G m)
    (hin := phi_in m) (hout := phi_out m)

end Cert.Fox
-- ==== Proof.Args.lean ====
/-
  What the kernel's run leaves of its arguments.
-/
module

public import proofs.«01_k».proof.Proof.Frame

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (Pipeline.UD sig nD τ) ℕ

theorem V_arg0 (c : Dev nD) : V m c main_arg0 = m ((c : Thread nD τ).loc main_arg0) := by
  show StableHlo.after (hostLists (F := F)).flatten (fun b => m (c, b)) (Proc.devRef .tc main_arg0) = _
  simp only [List.flatten_cons, List.flatten_nil]
  after_reads_simp
theorem V_arg1 (c : Dev nD) : V m c main_arg1 = m ((c : Thread nD τ).loc main_arg1) := by
  show StableHlo.after (hostLists (F := F)).flatten (fun b => m (c, b)) (Proc.devRef .tc main_arg1) = _
  simp only [List.flatten_cons, List.flatten_nil]
  after_reads_simp
theorem V_arg2 (c : Dev nD) : V m c main_arg2 = m ((c : Thread nD τ).loc main_arg2) := by
  show StableHlo.after (hostLists (F := F)).flatten (fun b => m (c, b)) (Proc.devRef .tc main_arg2) = _
  simp only [List.flatten_cons, List.flatten_nil]
  after_reads_simp

theorem arg1_rest : main_arg1 ∈ Pipeline.restRefs sig spec0 \ R0 :=
  Finset.mem_sdiff.mpr ⟨Pipeline.mem_restRefs_of main_arg1 (by decide) (by decide), by decide⟩

/-- What the run leaves of the arguments and of the counters. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  refine (θ_run defs _ _).mono (fun r h => ⟨fun c => ⟨?_, ?_, ?_⟩, h.2⟩) (run_main m ρ)
  · exact ((h.1.1 c).1 0).trans ((Dat.arrAt_in (dats m 0 c) 0 rfl _).trans (V_arg0 m c))
  · exact ((h.1.1 c).2 main_arg1 arg1_rest).trans (V_arg1 m c)
  · exact ((h.1.1 c).1 3).trans ((Dat.arrAt_in (dats m 0 c) 3 rfl _).trans (V_arg2 m c))

end Cert.Fox
-- ==== Proof.Same.lean ====
/-
  The backward call of the attention and its idealization are one text at machine words, where a named constant is its word.
-/
module

public import proofs.«01_k».proof.Defs
public import proofs.«01_k».proof.Proof.Gen.Kernel
public import proofs.«01_k».proof.Proof.Gen.KernelIdeal

@[expose] public section

set_option maxHeartbeats 4000000

noncomputable section

namespace Cert.Fox

open Idealize.ShloMosaic Idealize.SL.Sem

/-- At machine words a named constant is its word. -/
@[reducible] def namedBits : Named Bits where
  named _ _ φ bits := Scalar.ofBits φ bits

attribute [local instance] namedBits

theorem same_body : Cert.Kernel.cc0_fox_bwd (F := Bits) = Cert.KernelIdeal.cc0_fox_bwd (F := Bits) := rfl

theorem same_defs₀ : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) =>
    dsimp only
    rw [same_body]
    rfl

theorem same_defs : Cert.Kernel.defs (F := Bits) = Cert.KernelIdeal.defs (F := Bits) := congrArg (Pipeline.defs Cert.KernelIdeal.pcfgs) same_defs₀

theorem same_main : Cert.Kernel.main (F := Bits) = Cert.KernelIdeal.main (F := Bits) := by
  unfold Cert.Kernel.main Cert.KernelIdeal.main
  rfl

end Cert.Fox
-- ==== Proof.RefRun.lean ====
/-
  The reference as one list of operations, and its run: each array ends as the operations leave it.
-/
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

noncomputable section

namespace Cert.FoxRef

open Cert.ReferenceIdeal Cert.ReferenceIdeal.Gen
open Idealize.ShloMosaic Idealize.ShloMosaic.TcCoe Idealize.SL.Sem

variable {F : FTy → Type} [FloatOps F]

def ops0 : List (HloOp τ sig (Elt F)) :=
  [ StableHlo.unary main_arg0 main_v0 ((extractStridedSlice S8192x1024 ![0, 0] · slices_S8192x7680_S8192x1024_0_0) : (⟨S8192x7680, .f32⟩ : BufTy).Contents (Elt F) → (⟨S8192x1024, .f32⟩ : BufTy).Contents (Elt F)),
    StableHlo.unary main_arg0 main_v1 ((extractStridedSlice S8192x1024 ![0, 1024] · slices_S8192x7680_S8192x1024_0_1024) : (⟨S8192x7680, .f32⟩ : BufTy).Contents (Elt F) → (⟨S8192x1024, .f32⟩ : BufTy).Contents (Elt F)),
    StableHlo.unary main_arg0 main_v2 ((extractStridedSlice S8192x1024 ![0, 2048] · slices_S8192x7680_S8192x1024_0_2048) : (⟨S8192x7680, .f32⟩ : BufTy).Contents (Elt F) → (⟨S8192x1024, .f32⟩ : BufTy).Contents (Elt F)),
    StableHlo.unary main_arg0 main_v3 ((extractStridedSlice S8192x4608 ![0, 3072] · slices_S8192x7680_S8192x4608_0_3072) : (⟨S8192x7680, .f32⟩ : BufTy).Contents (Elt F) → (⟨S8192x4608, .f32⟩ : BufTy).Contents (Elt F)),
    StableHlo.unary main_arg2 main_v4 ((extf .f32 · bitsLt_bf16_f32) : (⟨S8192x1024, .bf16⟩ : BufTy).Contents (Elt F) → (⟨S8192x1024, .f32⟩ : BufTy).Contents (Elt F)),
    StableHlo.reshape main_v4 main_v5 (rfl : (.f32 : EltTy) = .f32) shapeCasts_S8192x1024_S8192x8x128,
    StableHlo.unary main_v5 main_v6 ((transpose S8x8192x128 [1, 0, 2] · transposes_S8192x8x128_S8x8192x128_1_0_2) : (⟨S8192x8x128, .f32⟩ : BufTy).Contents (Elt F) → (⟨S8x8192x128, .f32⟩ : BufTy).Contents (Elt F)),
    StableHlo.reshape main_v0 main_v7 (rfl : (.f32 : EltTy) = .f32) shapeCasts_S8192x1024_S8192x8x128,
    StableHlo.unary main_v7 main_v8 ((transpose S8x8192x128 [1, 0, 2] · transposes_S8192x8x128_S8x8192x128_1_0_2) : (⟨S8192x8x128, .f32⟩ : BufTy).Contents (Elt F) → (⟨S8x8192x128, .f32⟩ : BufTy).Contents (Elt F)),
    StableHlo.reshape main_v1 main_v9 (rfl : (.f32 : EltTy) = .f32) shapeCasts_S8192x1024_S8192x8x128,
    StableHlo.unary main_v9 main_v10 ((transpose S8x8192x128 [1, 0, 2] · transposes_S8192x8x128_S8x8192x128_1_0_2) : (⟨S8192x8x128, .f32⟩ : BufTy).Contents (Elt F) → (⟨S8x8192x128, .f32⟩ : BufTy).Contents (Elt F)),
    StableHlo.reshape main_v2 main_v11 (rfl : (.f32 : EltTy) = .f32) shapeCasts_S8192x1024_S8192x8x128,
    StableHlo.unary main_v11 main_v12 ((transpose S8x8192x128 [1, 0, 2] · transposes_S8192x8x128_S8x8192x128_1_0_2) : (⟨S8192x8x128, .f32⟩ : BufTy).Contents (Elt F) → (⟨S8x8192x128, .f32⟩ : BufTy).Contents (Elt F)),
    StableHlo.binary main_v8 main_v10 main_v13 ((fun l r => Host.dotGeneral dot_S8x8192x128_S8x8192x128_S8x8192x8192_2_2_1_1_0_0 none l r) : (⟨S8x8192x128, .f32⟩ : BufTy).Contents (Elt F) → (⟨S8x8192x128, .f32⟩ : BufTy).Contents (Elt F) → (⟨S8x8192x8192, .f32⟩ : BufTy).Contents (Elt F)),
    StableHlo.nullary main_cst (constant S_ .f32 0x43000000#32),
    StableHlo.unary main_cst main_v14 (Host.sqrt : (⟨S_, .f32⟩ : BufTy).Contents (Elt F) → (⟨S_, .f32⟩ : BufTy).Contents (Elt F)),
    StableHlo.unary main_v14 main_v15 (broadcastInDim S8x8192x8192 ![] bcast_S_S8x8192x8192 : (⟨S_, .f32⟩ : BufTy).Contents (Elt F) → (⟨S8x8192x8192, .f32⟩ : BufTy).Contents (Elt F)),
    StableHlo.binary main_v13 main_v15 main_v16 (Host.divf : (⟨S8x8192x8192, .f32⟩ : BufTy).Contents (Elt F) → (⟨S8x8192x8192, .f32⟩ : BufTy).Contents (Elt F) → (⟨S8x8192x8192, .f32⟩ : BufTy).Contents (Elt F)),
    StableHlo.unary main_arg1 main_v17 (broadcastInDim S8x8192x1 ![0, 1] bcast_S8x8192_S8x8192x1_0_1 : (⟨S8x8192, .f32⟩ : BufTy).Contents (Elt F) → (⟨S8x8192x1, .f32⟩ : BufTy).Contents (Elt F)),
    StableHlo.unary main_v17 main_v18 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)) ]
def bufs0 : List (Ref sig .tc) := [main_v0, main_v1, main_v2, main_v3, main_v4, main_v5, main_v6, main_v7, main_v8, main_v9, main_v10, main_v11, main_v12, main_v13, main_cst, main_v14, main_v15, main_v16, main_v17, main_v18]
theorem ops0_sub : (ops0 (F := F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub ..⟩
theorem ops0_fresh : (ops0 (F := F)).Forall fun op => op.fresh = ∅ := StableHlo.forall_fresh_of_map rfl
theorem ops0_writes : (ops0 (F := F)).Forall fun op => op.writes ⊆ ((bufs0).map (Proc.devRef (τ := τ) .tc)).toFinset := StableHlo.forall_writes_sub_of_map rfl

def ops1 : List (HloOp τ sig (Elt F)) :=
  [ StableHlo.binary main_v16 main_v18 main_v19 (addf : (⟨S8x8192x8192, .f32⟩ : BufTy).Contents (Elt F) → (⟨S8x8192x8192, .f32⟩ : BufTy).Contents (Elt F) → (⟨S8x8192x8192, .f32⟩ : BufTy).Contents (Elt F)),
    StableHlo.unary main_arg1 main_v20 (broadcastInDim S8x1x8192 ![0, 2] bcast_S8x8192_S8x1x8192_0_2 : (⟨S8x8192, .f32⟩ : BufTy).Contents (Elt F) → (⟨S8x1x8192, .f32⟩ : BufTy).Contents (Elt F)),
    StableHlo.unary main_v20 main_v21 (broadcastInDim S8x8192x8192 ![0, 1, 2] bcast_S8x1x8192_S8x8192x8192_0_1_2 : (⟨S8x1x8192, .f32⟩ : BufTy).Contents (Elt F) → (⟨S8x8192x8192, .f32⟩ : BufTy).Contents (Elt F)),
    StableHlo.binary main_v19 main_v21 main_v22 (subf : (⟨S8x8192x8192, .f32⟩ : BufTy).Contents (Elt F) → (⟨S8x8192x8192, .f32⟩ : BufTy).Contents (Elt F) → (⟨S8x8192x8192, .f32⟩ : BufTy).Contents (Elt F)),
    StableHlo.nullary main_v23 (iotaInDim S8192 32 0),
    StableHlo.unary main_v23 main_v24 (broadcastInDim S1x8192 ![1] bcast_S8192_S1x8192_1 : (⟨S8192, .i32⟩ : BufTy).Contents (Elt F) → (⟨S1x8192, .i32⟩ : BufTy).Contents (Elt F)),
    StableHlo.nullary main_v25 (iotaInDim S8192 32 0),
    StableHlo.unary main_v25 main_v26 (broadcastInDim S8192x1 ![0] bcast_S8192_S8192x1_0 : (⟨S8192, .i32⟩ : BufTy).Contents (Elt F) → (⟨S8192x1, .i32⟩ : BufTy).Contents (Elt F)),
    StableHlo.unary main_v24 main_v27 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v26 main_v28 (broadcastInDim S8192x8192 ![0, 1] bcast_S8192x1_S8192x8192_0_1 : (⟨S8192x1, .i32⟩ : BufTy).Contents (Elt F) → (⟨S8192x8192, .i32⟩ : BufTy).Contents (Elt F)),
    StableHlo.binary main_v27 main_v28 main_v29 (cmpi .sle : (⟨S8192x8192, .i32⟩ : BufTy).Contents (Elt F) → (⟨S8192x8192, .i32⟩ : BufTy).Contents (Elt F) → (⟨S8192x8192, .i1⟩ : BufTy).Contents (Elt F)),
    StableHlo.nullary main_cst_0 (constant S_ .f32 0xFF800000#32),
    StableHlo.TRef.unary (.of main_cst_0 : StableHlo.TRef sig ⟨S_, .f32⟩) (.of main_call0_v0 : StableHlo.TRef sig ⟨S_, .f32⟩) id,
    StableHlo.TRef.unary (.of main_v29 : StableHlo.TRef sig ⟨S8192x8192, .i1⟩) (.of main_v30_1 : StableHlo.TRef sig ⟨S8x8192x8192, .i1⟩) (broadcastInDim S8x8192x8192 ![1, 2] bcast_S8192x8192_S8x8192x8192_1_2),
    StableHlo.TRef.unary (.of main_call0_v0 : StableHlo.TRef sig ⟨S_, .f32⟩) (.of main_call0_v2 : StableHlo.TRef sig ⟨S8x8192x8192, .f32⟩) (broadcastInDim S8x8192x8192 ![] bcast_S_S8x8192x8192),
    StableHlo.TRef.ternary (.of main_v30_1 : StableHlo.TRef sig ⟨S8x8192x8192, .i1⟩) (.of main_v22 : StableHlo.TRef sig ⟨S8x8192x8192, .f32⟩) (.of main_call0_v2 : StableHlo.TRef sig ⟨S8x8192x8192, .f32⟩) (.of main_v30_0 : StableHlo.TRef sig ⟨S8x8192x8192, .f32⟩) select,
    StableHlo.TRef.nullary (.of main_call0_cst : StableHlo.TRef sig ⟨S_, .f32⟩) (constant S_ .f32 0x00000000#32),
    StableHlo.TRef.unary (.of main_call0_cst : StableHlo.TRef sig ⟨S_, .f32⟩) (.of main_v30_2 : StableHlo.TRef sig ⟨S8x8192x8192, .f32⟩) (broadcastInDim S8x8192x8192 ![] bcast_S_S8x8192x8192),
    StableHlo.nullary main_cst_1 (constant S_ .f32 0xFF800000#32),
    StableHlo.binary main_v30_0 main_cst_1 main_v31 ((fun x v => Host.reduce FloatOps.maximumf x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)) ]
def bufs1 : List (Ref sig .tc) := [main_v19, main_v20, main_v21, main_v22, main_v23, main_v24, main_v25, main_v26, main_v27, main_v28, main_v29, main_cst_0, main_call0_v0, main_v30_1, main_call0_v2, main_v30_0, main_call0_cst, main_v30_2, main_cst_1, main_v31]
theorem ops1_sub : (ops1 (F := F)).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.nullary_bufs_sub .., StableHlo.binary_bufs_sub ..⟩
theorem ops1_fresh : (ops1 (F := F)).Forall fun op => op.fresh = ∅ := StableHlo.forall_fresh_of_map rfl
theorem ops1_writes : (ops1 (F := F)).Forall fun op => op.writes ⊆ ((bufs1).map (Proc.devRef (τ := τ) .tc)).toFinset := StableHlo.forall_writes_sub_of_map rfl

def ops2 : List (HloOp τ sig (Elt F)) :=
  [ StableHlo.reshape main_v31 main_v32 (rfl : (.f32 : EltTy) = .f32) shapeCasts_S8x8192_S8x8192x1,
    StableHlo.unary main_v32 main_v33 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    StableHlo.binary main_v30_0 main_v33 main_v34 (cmpf .oeq : (⟨S8x8192x8192, .f32⟩ : BufTy).Contents (Elt F) → (⟨S8x8192x8192, .f32⟩ : BufTy).Contents (Elt F) → (⟨S8x8192x8192, .i1⟩ : BufTy).Contents (Elt F)),
    StableHlo.unary main_v34 main_v35 (uitofp .f32 : (⟨S8x8192x8192, .i1⟩ : BufTy).Contents (Elt F) → (⟨S8x8192x8192, .f32⟩ : BufTy).Contents (Elt F)),
    StableHlo.nullary main_cst_2 (constant S_ .f32 0x00000000#32),
    StableHlo.binary main_v35 main_cst_2 main_v36 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    StableHlo.nullary main_cst_3 (constant S_ .f32 0xFF800000#32),
    StableHlo.unary main_cst_3 main_v37 (broadcastInDim S8x8192 ![] bcast_S_S8x8192 : (⟨S_, .f32⟩ : BufTy).Contents (Elt F) → (⟨S8x8192, .f32⟩ : BufTy).Contents (Elt F)),
    StableHlo.binary main_v37 main_v31 main_v38 (maximumf : (⟨S8x8192, .f32⟩ : BufTy).Contents (Elt F) → (⟨S8x8192, .f32⟩ : BufTy).Contents (Elt F) → (⟨S8x8192, .f32⟩ : BufTy).Contents (Elt F)),
    StableHlo.nullary main_cst_4 (constant S_ .f32 0xFF800000#32),
    StableHlo.unary main_cst_4 main_v39 (broadcastInDim S8x8192 ![] bcast_S_S8x8192 : (⟨S_, .f32⟩ : BufTy).Contents (Elt F) → (⟨S8x8192, .f32⟩ : BufTy).Contents (Elt F)),
    StableHlo.binary main_v31 main_v39 main_v40 (cmpf .ogt : (⟨S8x8192, .f32⟩ : BufTy).Contents (Elt F) → (⟨S8x8192, .f32⟩ : BufTy).Contents (Elt F) → (⟨S8x8192, .i1⟩ : BufTy).Contents (Elt F)),
    StableHlo.nullary main_cst_5 (constant S_ .f32 0xFF800000#32),
    StableHlo.unary main_cst_5 main_v41 (broadcastInDim S8x8192 ![] bcast_S_S8x8192 : (⟨S_, .f32⟩ : BufTy).Contents (Elt F) → (⟨S8x8192, .f32⟩ : BufTy).Contents (Elt F)),
    StableHlo.binary main_v31 main_v41 main_v42 (cmpf .oeq : (⟨S8x8192, .f32⟩ : BufTy).Contents (Elt F) → (⟨S8x8192, .f32⟩ : BufTy).Contents (Elt F) → (⟨S8x8192, .i1⟩ : BufTy).Contents (Elt F)),
    StableHlo.nullary main_cst_6 (constant S_ .f32 0x3F800000#32),
    StableHlo.unary main_cst_6 main_v43 (broadcastInDim S8x8192 ![] bcast_S_S8x8192 : (⟨S_, .f32⟩ : BufTy).Contents (Elt F) → (⟨S8x8192, .f32⟩ : BufTy).Contents (Elt F)),
    StableHlo.nullary main_cst_7 (constant S_ .f32 0x00000000#32),
    StableHlo.unary main_cst_7 main_v44 (broadcastInDim S8x8192 ![] bcast_S_S8x8192 : (⟨S_, .f32⟩ : BufTy).Contents (Elt F) → (⟨S8x8192, .f32⟩ : BufTy).Contents (Elt F)),
    StableHlo.nullary main_cst_8 (constant S_ .f32 0x3F000000#32) ]
def bufs2 : List (Ref sig .tc) := [main_v32, main_v33, main_v34, main_v35, main_cst_2, main_v36, main_cst_3, main_v37, main_v38, main_cst_4, main_v39, main_v40, main_cst_5, main_v41, main_v42, main_cst_6, main_v43, main_cst_7, main_v44, main_cst_8]
theorem ops2_sub : (ops2 (F := F)).Forall fun op => op.bufs ⊆ StableHlo.tcRefs τ sig :=
  ⟨StableHlo.reshape_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub ..⟩
theorem ops2_fresh : (ops2 (F := F)).Forall fun op => op.fresh = ∅ := StableHlo.forall_fresh_of_map rfl
theorem ops2_writes : (ops2 (F := F)).Forall fun op => op.writes ⊆ ((bufs2).map (Proc.devRef (τ := τ) .tc)).toFinset := StableHlo.forall_writes_sub_of_map rfl

def ops3 : List (HloOp τ sig (Elt F)) :=
  [ StableHlo.unary main_cst_8 main_v45 (broadcastInDim S8x8192 ![] bcast_S_S8x8192 : (⟨S_, .f32⟩ : BufTy).Contents (Elt F) → (⟨S8x8192, .f32⟩ : BufTy).Contents (Elt F)),
    StableHlo.ternary main_v42 main_v45 main_v44 main_v46 (select : (⟨S8x8192, .i1⟩ : BufTy).Contents (Elt F) → (⟨S8x8192, .f32⟩ : BufTy).Contents (Elt F) → (⟨S8x8192, .f32⟩ : BufTy).Contents (Elt F) → (⟨S8x8192, .f32⟩ : BufTy).Contents (Elt F)),
    StableHlo.ternary main_v40 main_v43 main_v46 main_v47 (select : (⟨S8x8192, .i1⟩ : BufTy).Contents (Elt F) → (⟨S8x8192, .f32⟩ : BufTy).Contents (Elt F) → (⟨S8x8192, .f32⟩ : BufTy).Contents (Elt F) → (⟨S8x8192, .f32⟩ : BufTy).Contents (Elt F)),
    StableHlo.unary main_v38 main_v48 (broadcastInDim S8x8192x1 ![0, 1] bcast_S8x8192_S8x8192x1_0_1 : (⟨S8x8192, .f32⟩ : BufTy).Contents (Elt F) → (⟨S8x8192x1, .f32⟩ : BufTy).Contents (Elt F)),
    StableHlo.unary main_v48 main_v49 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    StableHlo.binary main_v30_0 main_v49 main_v50 (subf : (⟨S8x8192x8192, .f32⟩ : BufTy).Contents (Elt F) → (⟨S8x8192x8192, .f32⟩ : BufTy).Contents (Elt F) → (⟨S8x8192x8192, .f32⟩ : BufTy).Contents (Elt F)),
    StableHlo.unary main_v50 main_v51 (Host.exp : (⟨S8x8192x8192, .f32⟩ : BufTy).Contents (Elt F) → (⟨S8x8192x8192, .f32⟩ : BufTy).Contents (Elt F)),
    StableHlo.nullary main_cst_9 (constant S_ .f32 0x00000000#32),
    StableHlo.binary main_v51 main_cst_9 main_v52 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    StableHlo.unary main_v52 main_v53 (broadcastInDim S8x8192x1 ![0, 1] bcast_S8x8192_S8x8192x1_0_1 : (⟨S8x8192, .f32⟩ : BufTy).Contents (Elt F) → (⟨S8x8192x1, .f32⟩ : BufTy).Contents (Elt F)),
    StableHlo.unary main_v53 main_v54 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    StableHlo.binary main_v51 main_v54 main_v55 (Host.divf : (⟨S8x8192x8192, .f32⟩ : BufTy).Contents (Elt F) → (⟨S8x8192x8192, .f32⟩ : BufTy).Contents (Elt F) → (⟨S8x8192x8192, .f32⟩ : BufTy).Contents (Elt F)),
    StableHlo.binary main_v53 main_v53 main_v56 (mulf : (⟨S8x8192x1, .f32⟩ : BufTy).Contents (Elt F) → (⟨S8x8192x1, .f32⟩ : BufTy).Contents (Elt F) → (⟨S8x8192x1, .f32⟩ : BufTy).Contents (Elt F)),
    StableHlo.nullary main_cst_10 (constant S_ .f32 0x3F800000#32),
    StableHlo.unary main_cst_10 main_v57 (broadcastInDim S8x8192x1 ![] bcast_S_S8x8192x1 : (⟨S_, .f32⟩ : BufTy).Contents (Elt F) → (⟨S8x8192x1, .f32⟩ : BufTy).Contents (Elt F)),
    StableHlo.binary main_v57 main_v56 main_v58 (Host.divf : (⟨S8x8192x1, .f32⟩ : BufTy).Contents (Elt F) → (⟨S8x8192x1, .f32⟩ : BufTy).Contents (Elt F) → (⟨S8x8192x1, .f32⟩ : BufTy).Contents (Elt F)),
    StableHlo.binary main_v55 main_v12 main_v59 ((fun l r => Host.dotGeneral dot_S8x8192x8192_S8x8192x128_S8x8192x128_2_1_1_2_0_0 none l r) : (⟨S8x8192x8192, .f32⟩ : BufTy).Contents (Elt F) → (⟨S8x8192x128, .f32⟩ : BufTy).Contents (Elt F) → (⟨S8x8192x128, .f32⟩ : BufTy).Contents (Elt F)),
    StableHlo.binary main_v6 main_v55 main_v60 ((fun l r => Host.dotGeneral dot_S8x8192x128_S8x8192x8192_S8x128x8192_1_1_2_2_0_0 none l r) : (⟨S8x8192x128, .f32⟩ : BufTy).Contents (Elt F) → (⟨S8x8192x8192, .f32⟩ : BufTy).Contents (Elt F) → (⟨S8x128x8192, .f32⟩ : BufTy).Contents (Elt F)),
    StableHlo.unary main_v60 main_v61 ((transpose S8x8192x128 [0, 2, 1] · transposes_S8x128x8192_S8x8192x128_0_2_1) : (⟨S8x128x8192, .f32⟩ : BufTy).Contents (Elt F) → (⟨S8x8192x128, .f32⟩ : BufTy).Contents (Elt F)),
    StableHlo.binary main_v6 main_v12 main_v62 ((fun l r => Host.dotGeneral dot_S8x8192x128_S8x8192x128_S8x8192x8192_2_2_1_1_0_0 none l r) : (⟨S8x8192x128, .f32⟩ : BufTy).Contents (Elt F) → (⟨S8x8192x128, .f32⟩ : BufTy).Contents (Elt F) → (⟨S8x8192x8192, .f32⟩ : BufTy).Contents (Elt F)) ]
def bufs3 : List (Ref sig .tc) := [main_v45, main_v46, main_v47, main_v48, main_v49, main_v50, main_v51, main_cst_9, main_v52, main_v53, main_v54, main_v55, main_v56, main_cst_10, main_v57, main_v58, main_v59, main_v60, main_v61, main_v62]
theorem ops3_sub : (ops3 (F := F)).Forall fun op => op.bufs ⊆ StableHlo.tcRefs τ sig :=
  ⟨StableHlo.unary_bufs_sub .., StableHlo.ternary_bufs_sub .., StableHlo.ternary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub ..⟩
theorem ops3_fresh : (ops3 (F := F)).Forall fun op => op.fresh = ∅ := StableHlo.forall_fresh_of_map rfl
theorem ops3_writes : (ops3 (F := F)).Forall fun op => op.writes ⊆ ((bufs3).map (Proc.devRef (τ := τ) .tc)).toFinset := StableHlo.forall_writes_sub_of_map rfl

def ops4 : List (HloOp τ sig (Elt F)) :=
  [ StableHlo.unary main_v58 main_v63 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    StableHlo.binary main_v62 main_v63 main_v64 (mulf : (⟨S8x8192x8192, .f32⟩ : BufTy).Contents (Elt F) → (⟨S8x8192x8192, .f32⟩ : BufTy).Contents (Elt F) → (⟨S8x8192x8192, .f32⟩ : BufTy).Contents (Elt F)),
    StableHlo.binary main_v64 main_v51 main_v65 (mulf : (⟨S8x8192x8192, .f32⟩ : BufTy).Contents (Elt F) → (⟨S8x8192x8192, .f32⟩ : BufTy).Contents (Elt F) → (⟨S8x8192x8192, .f32⟩ : BufTy).Contents (Elt F)),
    StableHlo.nullary main_cst_11 (constant S_ .f32 0x00000000#32),
    StableHlo.binary main_v65 main_cst_11 main_v66 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    StableHlo.reshape main_v66 main_v67 (rfl : (.f32 : EltTy) = .f32) shapeCasts_S8x8192_S8x8192x1,
    StableHlo.unary main_v67 main_v68 (Host.negf : (⟨S8x8192x1, .f32⟩ : BufTy).Contents (Elt F) → (⟨S8x8192x1, .f32⟩ : BufTy).Contents (Elt F)),
    StableHlo.unary main_v53 main_v69 (broadcastInDim S8x8192x8192 ![0, 1, 2] bcast_S8x8192x1_S8x8192x8192_0_1_2 : (⟨S8x8192x1, .f32⟩ : BufTy).Contents (Elt F) → (⟨S8x8192x8192, .f32⟩ : BufTy).Contents (Elt F)),
    StableHlo.binary main_v62 main_v69 main_v70 (Host.divf : (⟨S8x8192x8192, .f32⟩ : BufTy).Contents (Elt F) → (⟨S8x8192x8192, .f32⟩ : BufTy).Contents (Elt F) → (⟨S8x8192x8192, .f32⟩ : BufTy).Contents (Elt F)),
    StableHlo.nullary main_cst_12 (constant S_ .f32 0x00000000#32),
    StableHlo.binary main_v68 main_cst_12 main_v71 ((fun x v => Host.reduceAdd x v reducesTo_S8x8192x1_S8x8192_d2 h_S_) : (⟨S8x8192x1, .f32⟩ : BufTy).Contents (Elt F) → (⟨S_, .f32⟩ : BufTy).Contents (Elt F) → (⟨S8x8192, .f32⟩ : BufTy).Contents (Elt F)),
    StableHlo.unary main_v71 main_v72 (broadcastInDim S8x8192x8192 ![0, 1] bcast_S8x8192_S8x8192x8192_0_1 : (⟨S8x8192, .f32⟩ : BufTy).Contents (Elt F) → (⟨S8x8192x8192, .f32⟩ : BufTy).Contents (Elt F)),
    StableHlo.binary main_v70 main_v72 main_v73 (addf : (⟨S8x8192x8192, .f32⟩ : BufTy).Contents (Elt F) → (⟨S8x8192x8192, .f32⟩ : BufTy).Contents (Elt F) → (⟨S8x8192x8192, .f32⟩ : BufTy).Contents (Elt F)),
    StableHlo.binary main_v73 main_v51 main_v74 (mulf : (⟨S8x8192x8192, .f32⟩ : BufTy).Contents (Elt F) → (⟨S8x8192x8192, .f32⟩ : BufTy).Contents (Elt F) → (⟨S8x8192x8192, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8x8192x8192, .f32⟩) (broadcastInDim S8x8192x8192 ![] bcast_S_S8x8192x8192),
    StableHlo.TRef.ternary (.of main_v30_1 : StableHlo.TRef sig ⟨S8x8192x8192, .i1⟩) (.of main_v74 : StableHlo.TRef sig ⟨S8x8192x8192, .f32⟩) (.of main_call1_v0 : StableHlo.TRef sig ⟨S8x8192x8192, .f32⟩) (.of main_v75 : StableHlo.TRef sig ⟨S8x8192x8192, .f32⟩) select,
    StableHlo.unary main_v75 main_v76 (Host.negf : (⟨S8x8192x8192, .f32⟩ : BufTy).Contents (Elt F) → (⟨S8x8192x8192, .f32⟩ : BufTy).Contents (Elt F)),
    StableHlo.nullary main_cst_13 (constant S_ .f32 0x00000000#32),
    StableHlo.binary main_v76 main_cst_13 main_v77 ((fun x v => Host.reduceAdd x v reducesTo_S8x8192x8192_S8x8192_d1 h_S_) : (⟨S8x8192x8192, .f32⟩ : BufTy).Contents (Elt F) → (⟨S_, .f32⟩ : BufTy).Contents (Elt F) → (⟨S8x8192, .f32⟩ : BufTy).Contents (Elt F)) ]
def bufs4 : List (Ref sig .tc) := [main_v63, main_v64, main_v65, main_cst_11, main_v66, main_v67, main_v68, main_v69, main_v70, main_cst_12, main_v71, main_v72, main_v73, main_v74, main_call1_cst, main_call1_v0, main_v75, main_v76, main_cst_13, main_v77]
theorem ops4_sub : (ops4 (F := F)).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.reshape_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.nullary_bufs_sub .., StableHlo.unary_bufs_sub .., StableHlo.ternary_bufs_sub .., StableHlo.unary_bufs_sub .., StableHlo.nullary_bufs_sub .., StableHlo.binary_bufs_sub ..⟩
theorem ops4_fresh : (ops4 (F := F)).Forall fun op => op.fresh = ∅ := StableHlo.forall_fresh_of_map rfl
theorem ops4_writes : (ops4 (F := F)).Forall fun op => op.writes ⊆ ((bufs4).map (Proc.devRef (τ := τ) .tc)).toFinset := StableHlo.forall_writes_sub_of_map rfl

def ops5 : List (HloOp τ sig (Elt F)) :=
  [ StableHlo.reshape main_v77 main_v78 (rfl : (.f32 : EltTy) = .f32) shapeCasts_S8x8192_S8x1x8192,
    StableHlo.nullary main_cst_14 (constant S_ .f32 0x00000000#32),
    StableHlo.binary main_v78 main_cst_14 main_v79 ((fun x v => Host.reduceAdd x v reducesTo_S8x1x8192_S8x8192_d1 h_S_) : (⟨S8x1x8192, .f32⟩ : BufTy).Contents (Elt F) → (⟨S_, .f32⟩ : BufTy).Contents (Elt F) → (⟨S8x8192, .f32⟩ : BufTy).Contents (Elt F)),
    StableHlo.nullary main_cst_15 (constant S_ .f32 0x00000000#32),
    StableHlo.binary main_v75 main_cst_15 main_v80 ((fun x v => Host.reduceAdd x v reducesTo_S8x8192x8192_S8x8192_d2 h_S_) : (⟨S8x8192x8192, .f32⟩ : BufTy).Contents (Elt F) → (⟨S_, .f32⟩ : BufTy).Contents (Elt F) → (⟨S8x8192, .f32⟩ : BufTy).Contents (Elt F)),
    StableHlo.reshape main_v80 main_v81 (rfl : (.f32 : EltTy) = .f32) shapeCasts_S8x8192_S8x8192x1,
    StableHlo.nullary main_cst_16 (constant S_ .f32 0x00000000#32),
    StableHlo.binary main_v81 main_cst_16 main_v82 ((fun x v => Host.reduceAdd x v reducesTo_S8x8192x1_S8x8192_d2 h_S_) : (⟨S8x8192x1, .f32⟩ : BufTy).Contents (Elt F) → (⟨S_, .f32⟩ : BufTy).Contents (Elt F) → (⟨S8x8192, .f32⟩ : BufTy).Contents (Elt F)),
    StableHlo.unary main_v14 main_v83 (broadcastInDim S8x8192x8192 ![] bcast_S_S8x8192x8192 : (⟨S_, .f32⟩ : BufTy).Contents (Elt F) → (⟨S8x8192x8192, .f32⟩ : BufTy).Contents (Elt F)),
    StableHlo.binary main_v75 main_v83 main_v84 (Host.divf : (⟨S8x8192x8192, .f32⟩ : BufTy).Contents (Elt F) → (⟨S8x8192x8192, .f32⟩ : BufTy).Contents (Elt F) → (⟨S8x8192x8192, .f32⟩ : BufTy).Contents (Elt F)),
    StableHlo.binary main_v84 main_v8 main_v85 ((fun l r => Host.dotGeneral dot_S8x8192x8192_S8x8192x128_S8x8192x128_1_1_2_2_0_0 none l r) : (⟨S8x8192x8192, .f32⟩ : BufTy).Contents (Elt F) → (⟨S8x8192x128, .f32⟩ : BufTy).Contents (Elt F) → (⟨S8x8192x128, .f32⟩ : BufTy).Contents (Elt F)),
    StableHlo.binary main_v84 main_v10 main_v86 ((fun l r => Host.dotGeneral dot_S8x8192x8192_S8x8192x128_S8x8192x128_2_1_1_2_0_0 none l r) : (⟨S8x8192x8192, .f32⟩ : BufTy).Contents (Elt F) → (⟨S8x8192x128, .f32⟩ : BufTy).Contents (Elt F) → (⟨S8x8192x128, .f32⟩ : BufTy).Contents (Elt F)),
    StableHlo.unary main_v85 main_v87 ((transpose S8192x8x128 [1, 0, 2] · transposes_S8x8192x128_S8192x8x128_1_0_2) : (⟨S8x8192x128, .f32⟩ : BufTy).Contents (Elt F) → (⟨S8192x8x128, .f32⟩ : BufTy).Contents (Elt F)),
    StableHlo.reshape main_v87 main_v88 (rfl : (.f32 : EltTy) = .f32) shapeCasts_S8192x8x128_S8192x1024,
    StableHlo.unary main_v88 main_v89 ((truncf .bf16 · bitsLt_bf16_f32) : (⟨S8192x1024, .f32⟩ : BufTy).Contents (Elt F) → (⟨S8192x1024, .bf16⟩ : BufTy).Contents (Elt F)),
    StableHlo.unary main_v61 main_v90 ((transpose S8192x8x128 [1, 0, 2] · transposes_S8x8192x128_S8192x8x128_1_0_2) : (⟨S8x8192x128, .f32⟩ : BufTy).Contents (Elt F) → (⟨S8192x8x128, .f32⟩ : BufTy).Contents (Elt F)),
    StableHlo.reshape main_v90 main_v91 (rfl : (.f32 : EltTy) = .f32) shapeCasts_S8192x8x128_S8192x1024,
    StableHlo.unary main_v91 main_v92 ((truncf .bf16 · bitsLt_bf16_f32) : (⟨S8192x1024, .f32⟩ : BufTy).Contents (Elt F) → (⟨S8192x1024, .bf16⟩ : BufTy).Contents (Elt F)),
    StableHlo.unary main_v79 main_v93 (broadcastInDim S8x1x8192 ![0, 2] bcast_S8x8192_S8x1x8192_0_2 : (⟨S8x8192, .f32⟩ : BufTy).Contents (Elt F) → (⟨S8x1x8192, .f32⟩ : BufTy).Contents (Elt F)),
    StableHlo.unary main_v86 main_v94 ((truncf .bf16 · bitsLt_bf16_f32) : (⟨S8x8192x128, .f32⟩ : BufTy).Contents (Elt F) → (⟨S8x8192x128, .bf16⟩ : BufTy).Contents (Elt F)),
    StableHlo.reshape main_v82 main_v95 (rfl : (.f32 : EltTy) = .f32) shapeCasts_S8x8192_S8x16x1x512 ]
def bufs5 : List (Ref sig .tc) := [main_v78, main_cst_14, main_v79, main_cst_15, main_v80, main_v81, main_cst_16, main_v82, main_v83, main_v84, main_v85, main_v86, main_v87, main_v88, main_v89, main_v90, main_v91, main_v92, main_v93, main_v94, main_v95]
theorem ops5_sub : (ops5 (F := F)).Forall fun op => op.bufs ⊆ StableHlo.tcRefs τ sig :=
  ⟨StableHlo.reshape_bufs_sub .., StableHlo.nullary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.unary_bufs_sub .., StableHlo.reshape_bufs_sub ..⟩
theorem ops5_fresh : (ops5 (F := F)).Forall fun op => op.fresh = ∅ := StableHlo.forall_fresh_of_map rfl
theorem ops5_writes : (ops5 (F := F)).Forall fun op => op.writes ⊆ ((bufs5).map (Proc.devRef (τ := τ) .tc)).toFinset := StableHlo.forall_writes_sub_of_map rfl

def ops : List (HloOp τ sig (Elt F)) := ops0 ++ (ops1 ++ (ops2 ++ (ops3 ++ (ops4 ++ ops5))))

set_option maxHeartbeats 4000000 in
set_option maxRecDepth 4000 in
theorem main_ops (d : Dev nD) : main (F := F) d = StableHlo.seq ops := by
  show StableHlo.IsSeq _ _
  simp only [main, main_part0, main_part1, fn_where.body, fn_where_0.body, bind_assoc, pure_bind]
  simp only [ops, ops0, ops1, ops2, ops3, ops4, ops5, List.cons_append, List.nil_append]
  repeat' (first | exact StableHlo.IsSeq.nil | apply StableHlo.IsSeq.cons)

theorem forall_append {α : Type} {p : α → Prop} {l l' : List α} (h : l.Forall p) (h' : l'.Forall p) : (l ++ l').Forall p :=
  List.forall_append.mpr ⟨h, h'⟩

theorem ops_sub : (ops (F := F)).Forall fun op => op.bufs ⊆ StableHlo.tcRefs τ sig :=
  forall_append ops0_sub (forall_append ops1_sub (forall_append ops2_sub (forall_append ops3_sub (forall_append ops4_sub ops5_sub))))
theorem ops_fresh : (ops (F := F)).Forall fun op => op.fresh = ∅ :=
  forall_append ops0_fresh (forall_append ops1_fresh (forall_append ops2_fresh (forall_append ops3_fresh (forall_append ops4_fresh ops5_fresh))))

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  StableHlo.run_hlo defs main main_ops (by decide) (by decide) ops_sub (List.forall_iff_forall_mem.mp ops_fresh) m ρ

theorem after_app : ∀ (l l' : List (HloOp τ sig (Elt F))) (V : Valuation τ sig (Elt F)), StableHlo.after (l ++ l') V = StableHlo.after l' (StableHlo.after l V)
  | [], _, _ => rfl
  | _ :: l, l', _ => after_app l l' _

/-- An array that no operation writes is as it was. -/
theorem after_kept (V : Valuation τ sig (Elt F)) (r : Ref sig .tc)
    (h : r ∉ bufs0 ∧ r ∉ bufs1 ∧ r ∉ bufs2 ∧ r ∉ bufs3 ∧ r ∉ bufs4 ∧ r ∉ bufs5) :
    StableHlo.after ops V (Proc.devRef .tc r) = V (Proc.devRef .tc r) := by
  obtain ⟨h0, h1, h2, h3, h4, h5⟩ := h
  unfold ops
  rw [after_app, after_app, after_app, after_app, after_app,
    StableHlo.after_of_writes_sub _ _ ops5_writes h5, StableHlo.after_of_writes_sub _ _ ops4_writes h4, StableHlo.after_of_writes_sub _ _ ops3_writes h3,
    StableHlo.after_of_writes_sub _ _ ops2_writes h2, StableHlo.after_of_writes_sub _ _ ops1_writes h1, StableHlo.after_of_writes_sub _ _ ops0_writes h0]

theorem kept0 (V : Valuation τ sig (Elt F)) : StableHlo.after ops V (Proc.devRef .tc main_arg0) = V (Proc.devRef .tc main_arg0) := after_kept V _ (by decide)
theorem kept1 (V : Valuation τ sig (Elt F)) : StableHlo.after ops V (Proc.devRef .tc main_arg1) = V (Proc.devRef .tc main_arg1) := after_kept V _ (by decide)
theorem kept2 (V : Valuation τ sig (Elt F)) : StableHlo.after ops V (Proc.devRef .tc main_arg2) = V (Proc.devRef .tc main_arg2) := after_kept V _ (by decide)

/-- The reference runs and leaves its arguments as they were. -/
theorem frame (m : (ℓ : Loc nD τ sig) → Buf (Elt F) ℓ) (ρ : Dev nD → PrngReg) :
    θ_run defs (onTc (τ := τ) (main (F := F))) ⟨m, fun _ => 0, ρ⟩ fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) ∧ r.2.sem = fun _ => 0 :=
  (θ_run defs _ _).mono (fun r h => ⟨fun d => ⟨(h d main_arg0).trans (kept0 _), (h d main_arg1).trans (kept1 _), (h d main_arg2).trans (kept2 _)⟩,
    sem_eq_zero_of_no_sems (by decide) r.2⟩) (run m ρ)

end Cert.FoxRef
-- ==== Proof.Claims.lean ====
/-
  The frames of the kernel, of its idealization and of the reference, and that the idealization's named constants are
  what their bits round.
-/
module

public import proofs.«01_k».proof.Defs
public import proofs.«01_k».proof.Proof.Args
public import proofs.«01_k».proof.Proof.Same
public import proofs.«01_k».proof.Proof.RefRun
public import proofs.«01_k».proof.Proof.Gen.Kernel

@[expose] public section

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (Pipeline.UD sig nD τ) ℕ

set_option maxHeartbeats 4000000 in
attribute [local instance] namedBits in
theorem frame_kernel : Cert.quiescent_Kernel := fun m ρ _ => by
  rw [same_defs, same_main]
  exact (θ_run Cert.KernelIdeal.defs _ _).mono (fun _ h => h) (frame (F := Bits) m ρ)
theorem frame_ideal : Cert.quiescent_KernelIdeal := fun m ρ _ => frame (F := Ideal) m ρ
theorem frame_reference : Cert.quiescent_ReferenceIdeal := fun m ρ _ => Cert.FoxRef.frame (F := Ideal) m ρ

theorem preserves : Cert.preserves_Kernel_KernelIdeal :=
  ⟨IdealRules.named_const.statement Cert.KernelIdeal.κ "q_scale" .f32 0x3E0293EE#32 (((Real.log 2)⁻¹ * (Real.sqrt 128)⁻¹ : ℝ) : EReal) rfl,
    IdealRules.named_const.statement Cert.KernelIdeal.κ "neg_log2e" .f32 0xBFB8AA3B#32 ((-((Real.log 2)⁻¹) : ℝ) : EReal) rfl,
    IdealRules.named_const.statement Cert.KernelIdeal.κ "log2e" .f32 0x3FB8AA3B#32 (((Real.log 2)⁻¹ : ℝ) : EReal) rfl,
    IdealRules.named_const.statement Cert.KernelIdeal.κ "masked" .f32 0xF149F2CA#32 ⊥ rfl,
    IdealRules.named_const.statement Cert.KernelIdeal.κ "ln2" .f32 0x3F317218#32 ((Real.log 2 : ℝ) : EReal) rfl,
    IdealRules.named_const.statement Cert.KernelIdeal.κ "scale" .f32 0x3DB504F3#32 (((Real.sqrt 128)⁻¹ : ℝ) : EReal) rfl⟩

end Cert.Fox
-- ==== Proof.Real.lean ====
/-
  One head of the forgetting attention over the real numbers: the probabilities, the gradient of the scores and the five
  gradients, and the two ways the kernel and the reference reach the probabilities and the gradient of the scores.
-/
module

public import Mathlib.Analysis.SpecialFunctions.Pow.Real
public import Mathlib.Data.EReal.Operations

@[expose] public section

noncomputable section

namespace Cert.Fox

open Finset

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

/-- One head's queries, keys, values, cotangent of the output, and cumulative gates. -/
structure Head where
  q : Fin 8192 → Fin 128 → ℝ
  k : Fin 8192 → Fin 128 → ℝ
  v : Fin 8192 → Fin 128 → ℝ
  o : Fin 8192 → Fin 128 → ℝ
  c : Fin 8192 → ℝ

namespace Head

variable (H : Head)

/-- The score of query `i` on key `j`. -/
def score (i j : Fin 8192) : ℝ := (∑ d, H.q i d * H.k j d) * (1 / Real.sqrt 128) + H.c i - H.c j

/-- What query `i`'s keys weigh together. -/
def mass (i : Fin 8192) : ℝ := ∑ j : Fin 8192, if j ≤ i then Real.exp (H.score i j) else 0

/-- The probability of key `j` for query `i`. -/
def prob (i j : Fin 8192) : ℝ := if j ≤ i then Real.exp (H.score i j) / H.mass i else 0

/-- The gradient of the probabilities. -/
def dp (i j : Fin 8192) : ℝ := ∑ d, H.o i d * H.v j d

/-- A row's sum of the cotangent times the output. -/
def del (i : Fin 8192) : ℝ := ∑ j, H.prob i j * H.dp i j

/-- The gradient of the scores. -/
def ds (i j : Fin 8192) : ℝ := H.prob i j * (H.dp i j - H.del i)

/-- The gradients of the values, keys, queries, key gates and query gates. -/
def dv (j : Fin 8192) (d : Fin 128) : ℝ := ∑ i, H.prob i j * H.o i d
def dk (j : Fin 8192) (d : Fin 128) : ℝ := ∑ i, H.ds i j * (1 / Real.sqrt 128) * H.q i d
def dq (i : Fin 8192) (d : Fin 128) : ℝ := ∑ j, H.ds i j * (1 / Real.sqrt 128) * H.k j d
def dck (j : Fin 8192) : ℝ := ∑ i, -H.ds i j
def dcq (i : Fin 8192) : ℝ := ∑ j, H.ds i j

theorem mass_pos (i : Fin 8192) : 0 < H.mass i := by
  have h : ∀ j ∈ (univ : Finset (Fin 8192)), (0 : ℝ) ≤ if j ≤ i then Real.exp (H.score i j) else 0 := by
    intro j _
    split
    · exact (Real.exp_pos _).le
    · exact le_refl _
  have h' := single_le_sum h (mem_univ i)
  rw [if_pos (le_refl i)] at h'
  exact lt_of_lt_of_le (Real.exp_pos _) h'

theorem prob_off {i j : Fin 8192} (h : i < j) : H.prob i j = 0 := if_neg (not_le.mpr h)
theorem ds_off {i j : Fin 8192} (h : i < j) : H.ds i j = 0 := by rw [ds, H.prob_off h, zero_mul]

/-! ### From weights shifted by any number -/

/-- The weights of a row, its scores lowered by `M`. -/
def wt (M : ℝ) (i j : Fin 8192) : ℝ := if j ≤ i then Real.exp (H.score i j - M) else 0

/-- Their sum. -/
def tot (M : ℝ) (i : Fin 8192) : ℝ := ∑ j, H.wt M i j

theorem wt_eq (M : ℝ) (i j : Fin 8192) : H.wt M i j = (if j ≤ i then Real.exp (H.score i j) else 0) * Real.exp (-M) := by
  unfold wt
  split
  · rw [sub_eq_add_neg, Real.exp_add]
  · rw [zero_mul]

theorem tot_eq (M : ℝ) (i : Fin 8192) : H.tot M i = H.mass i * Real.exp (-M) := by
  unfold tot mass
  rw [sum_mul]
  exact sum_congr rfl fun j _ => H.wt_eq M i j

theorem tot_pos (M : ℝ) (i : Fin 8192) : 0 < H.tot M i := by
  rw [tot_eq]
  exact mul_pos (H.mass_pos i) (Real.exp_pos _)

theorem wt_div (M : ℝ) (i j : Fin 8192) : H.wt M i j * (1 / H.tot M i) = H.prob i j := by
  have hm := (H.mass_pos i).ne'
  have he := (Real.exp_pos (-M)).ne'
  rw [wt_eq, tot_eq, prob]
  split
  · field_simp
  · simp

/-- The reference's gradient of the scores. -/
theorem ref_ds (M : ℝ) (i j : Fin 8192) :
    (-(∑ j', H.dp i j' * (1 / (H.tot M i * H.tot M i)) * H.wt M i j') + H.dp i j * (1 / H.tot M i)) * H.wt M i j = H.ds i j := by
  have ht := (H.tot_pos M i).ne'
  have hsum : ∑ j', H.dp i j' * (1 / (H.tot M i * H.tot M i)) * H.wt M i j' = H.del i * (1 / H.tot M i) := by
    unfold del
    rw [sum_mul]
    refine sum_congr rfl fun j' _ => ?_
    rw [← H.wt_div M i j']
    field_simp
  rw [hsum, ds, ← H.wt_div M i j]
  ring

/-- The row's log-sum, from the shifted weights. -/
theorem log_mass (M : ℝ) (i : Fin 8192) : M + Real.log (H.tot M i) = Real.log (H.mass i) := by
  rw [tot_eq, Real.log_mul (H.mass_pos i).ne' (Real.exp_pos _).ne', Real.log_exp]
  ring

/-- The row's sum of cotangent times output, from the output. -/
theorem del_of_out (M : ℝ) (i : Fin 8192) :
    ∑ d, H.o i d * ∑ j, H.wt M i j * (1 / H.tot M i) * H.v j d = H.del i := by
  unfold del dp
  simp only [H.wt_div, mul_sum]
  rw [sum_comm]
  exact sum_congr rfl fun j _ => sum_congr rfl fun d _ => by ring

/-! ### The kernel's powers of two -/

/-- The kernel's exponent: the product of key and scaled query, and the gates, and the row's log-sum in base 2. -/
def expo (i j : Fin 8192) : ℝ :=
  (∑ d, H.k j d * (H.q i d * ((Real.log 2)⁻¹ * (Real.sqrt 128)⁻¹)))
    + (H.c j * (-(Real.log 2)⁻¹) + (H.c i * (Real.log 2)⁻¹ - Real.log (H.mass i) * (1 / Real.log 2)))

theorem expo_eq (i j : Fin 8192) : H.expo i j = (H.score i j - Real.log (H.mass i)) * (Real.log 2)⁻¹ := by
  have hs : ∑ d, H.k j d * (H.q i d * ((Real.log 2)⁻¹ * (Real.sqrt 128)⁻¹))
      = (∑ d, H.q i d * H.k j d) * ((Real.log 2)⁻¹ * (Real.sqrt 128)⁻¹) := by
    rw [sum_mul]
    exact sum_congr rfl fun d _ => by ring
  unfold expo score
  rw [hs]
  ring

theorem rpow_expo (i j : Fin 8192) (h : j ≤ i) : Real.rpow 2 (H.expo i j) = H.prob i j := by
  have hl : Real.log 2 ≠ 0 := (Real.log_pos one_lt_two).ne'
  have h2 : ∀ x, Real.rpow 2 x = Real.exp (Real.log 2 * x) := fun x => Real.rpow_def_of_pos two_pos x
  rw [expo_eq, prob, if_pos h, h2, show Real.log 2 * ((H.score i j - Real.log (H.mass i)) * (Real.log 2)⁻¹)
      = H.score i j - Real.log (H.mass i) by field_simp, Real.exp_sub, Real.exp_log (H.mass_pos i)]

end Head

/-! ### Sums over rows in blocks of 512 -/

/-- The sum of the terms before `n`. -/
def upto (n : ℕ) (f : Fin 8192 → ℝ) : ℝ := ∑ i : Fin 8192, if i.val < n then f i else 0

theorem upto_all (f : Fin 8192 → ℝ) : upto 8192 f = ∑ i, f i :=
  sum_congr rfl fun i _ => if_pos i.isLt

theorem upto_zero (f : Fin 8192 → ℝ) : upto 0 f = 0 :=
  sum_eq_zero fun i _ => if_neg (Nat.not_lt_zero _)

/-- Terms that are zero may be left out. -/
theorem upto_more {n n' : ℕ} (h : n ≤ n') (f : Fin 8192 → ℝ) (hf : ∀ i : Fin 8192, n ≤ i.val → i.val < n' → f i = 0) :
    upto n' f = upto n f := by
  refine sum_congr rfl fun i _ => ?_
  by_cases h1 : i.val < n
  · rw [if_pos h1, if_pos (lt_of_lt_of_le h1 h)]
  · rw [if_neg h1]
    by_cases h2 : i.val < n'
    · rw [if_pos h2, hf i (not_lt.mp h1) h2]
    · rw [if_neg h2]

/-- One block more. -/
theorem upto_block (b : ℕ) (hb : b < 16) (f : Fin 8192 → ℝ) :
    upto (512 * (b + 1)) f = upto (512 * b) f + ∑ r : Fin 512, f ⟨512 * b + r.val, by omega⟩ := by
  have hblock : ∑ r : Fin 512, f ⟨512 * b + r.val, by omega⟩
      = ∑ i : Fin 8192, if 512 * b ≤ i.val ∧ i.val < 512 * (b + 1) then f i else 0 := by
    rw [← sum_filter]
    refine (sum_bij' (fun (r : Fin 512) _ => (⟨512 * b + r.val, by omega⟩ : Fin 8192))
      (fun (i : Fin 8192) hi => (⟨i.val - 512 * b, by have := (mem_filter.mp hi).2; omega⟩ : Fin 512)) ?_ ?_ ?_ ?_ ?_)
    · intro r _
      exact mem_filter.mpr ⟨mem_univ _, by dsimp only; omega, by dsimp only; omega⟩
    · intro i _
      exact mem_univ _
    · intro r _
      exact Fin.ext (by dsimp only; omega)
    · intro i hi
      have := (mem_filter.mp hi).2
      exact Fin.ext (by dsimp only; omega)
    · intro r _
      rfl
  rw [hblock]
  unfold upto
  rw [← sum_add_distrib]
  refine sum_congr rfl fun i _ => ?_
  by_cases h1 : i.val < 512 * b
  · rw [if_pos h1, if_pos (by omega), if_neg (by omega), add_zero]
  · by_cases h2 : i.val < 512 * (b + 1)
    · rw [if_neg h1, if_pos h2, if_pos (by omega), zero_add]
    · rw [if_neg h1, if_neg h2, if_neg (by omega), add_zero]

end Cert.Fox
-- ==== Proof.Heads.lean ====
/-
  The heads that the arguments hold and the gradients that the results hold, and sums and maxima of extended real numbers
  that are numbers.
-/
module

public import proofs.«01_k».proof.Proof.Real
public import Idealize.ShloMosaic.Lib.Pointwise
public import Idealize.ShloMosaic.Lib.WordCmp

@[expose] public section

noncomputable section

namespace Cert.Fox

open Idealize.ShloMosaic

theorem bits_bot : Ideal.ofBits .f32 0xFF800000#32 = ⊥ := by simp [Ideal.ofBits, Ideal.ieee]
theorem bits_128 : Ideal.ofBits .f32 0x43000000#32 = ((128 : ℝ) : EReal) := by
  have h : BitVec.extractLsb' 31 1 1124073472#32 ≠ 1#1 := by decide
  have e : 1124073472 >>> 23 % 256 = 134 := by decide
  simp only [Ideal.ofBits, Ideal.ieee]
  norm_num [h, e]

/-- The greatest of numbers and `⊥`s, not all of them `⊥`, is a number. -/
theorem max_real {n : ℕ} (f : Fin n → EReal) (h : ∀ k, f k = ⊥ ∨ ∃ r : ℝ, f k = r) (k : Fin n) (hk : ∃ r : ℝ, f k = r) :
    ∃ M : ℝ, Finset.univ.fold max ⊥ f = (M : EReal) := by
  have hb : Finset.univ.fold max ⊥ f ≠ ⊥ := by
    obtain ⟨r, hr⟩ := hk
    have : f k ≤ Finset.univ.fold max ⊥ f := (Finset.le_fold_max _).mpr (Or.inr ⟨k, Finset.mem_univ k, le_refl _⟩)
    intro he
    rw [he, hr] at this
    exact absurd this (not_le.mpr (EReal.bot_lt_coe r))
  have ht : Finset.univ.fold max ⊥ f < ⊤ := (Finset.fold_max_lt _).mpr ⟨bot_lt_top, fun x _ => by
    rcases h x with e | ⟨r, e⟩ <;> rw [e]
    · exact bot_lt_top
    · exact EReal.coe_lt_top r⟩
  exact ⟨_, (EReal.coe_toReal ht.ne hb).symm⟩

/-- A sum of numbers. -/
theorem sum_real {n : ℕ} {f : Fin n → EReal} {g : Fin n → ℝ} (h : ∀ k, f k = (g k : EReal)) : ∑ k, f k = ((∑ k, g k : ℝ) : EReal) := by
  rw [coe_sum]
  exact Finset.sum_congr rfl fun k _ => h k

/-- The mask compares a key's index with a query's. -/
theorem mask_word (i j : Fin 8192) : IntOp.cmpi CmpIPredicate.sle (BitVec.ofNat 32 j.1) (BitVec.ofNat 32 i.1) = if j ≤ i then 1#1 else 0#1 := by
  rw [WordCmp.cmpi_sle_ofNat (by have := j.2; omega) (by have := i.2; omega)]
  by_cases h : j ≤ i
  · rw [if_pos h, decide_eq_true (show j.1 ≤ i.1 from h)]
    rfl
  · rw [if_neg h, decide_eq_false (show ¬ j.1 ≤ i.1 from h)]
    rfl

/-- The arguments hold the heads: the columns of the projections, the gates, and the cotangent of the output. -/
structure Given (H : Fin 8 → Head) (A : Fin 8192 → Fin 7680 → EReal) (C : Fin 8 → Fin 8192 → EReal) (O : Fin 8192 → Fin 1024 → EReal) : Prop where
  q : ∀ h i d, A i ⟨h.1 * 128 + d.1, by omega⟩ = (((H h).q i d : ℝ) : EReal)
  k : ∀ h i d, A i ⟨1024 + (h.1 * 128 + d.1), by omega⟩ = (((H h).k i d : ℝ) : EReal)
  v : ∀ h i d, A i ⟨2048 + (h.1 * 128 + d.1), by omega⟩ = (((H h).v i d : ℝ) : EReal)
  c : ∀ h i, C h i = (((H h).c i : ℝ) : EReal)
  o : ∀ h i d, O i ⟨h.1 * 128 + d.1, by omega⟩ = (((H h).o i d : ℝ) : EReal)

theorem sqrt_pos' : Real.sqrt 128 ≠ 0 := (Real.sqrt_pos.mpr (by norm_num)).ne'

variable {H : Fin 8 → Head}

/-- One weight. -/
theorem exp_masked (h : Fin 8) (i j : Fin 8192) (M : ℝ) :
    Ideal.exp ((if j ≤ i then (((H h).score i j : ℝ) : EReal) else ⊥) - ((M : ℝ) : EReal)) = (((H h).wt M i j : ℝ) : EReal) := by
  unfold Head.wt
  split
  · rw [← EReal.coe_sub, Ideal.exp_coe]
  · rw [EReal.bot_sub, Ideal.exp_bot, EReal.coe_zero]

/-- A row's weights together. -/
theorem tot_sum {h : Fin 8} {i : Fin 8192} {M : ℝ} {f : Fin 8192 → EReal} {m : EReal}
    (hf : ∀ j, f j = if j ≤ i then (((H h).score i j : ℝ) : EReal) else ⊥) (hm : m = ((M : ℝ) : EReal)) :
    ∑ j, Ideal.exp (f j - m) = (((H h).tot M i : ℝ) : EReal) :=
  sum_real fun j => by rw [hf, hm, exp_masked]

/-- The reference's gradient of one score. -/
theorem ds_sum {h : Fin 8} {i j : Fin 8192} {M : ℝ} {p w : Fin 8192 → EReal} {t v : EReal}
    (hp : ∀ j, p j = (((H h).dp i j : ℝ) : EReal)) (hw : ∀ j, w j = (((H h).wt M i j : ℝ) : EReal))
    (ht : t = (((H h).tot M i : ℝ) : EReal)) (hv : v = ((1 / ((H h).tot M i * (H h).tot M i) : ℝ) : EReal)) :
    (Ideal.div (p j) t + ∑ _x : Fin 1, -∑ j', p j' * v * w j') * w j = (((H h).ds i j : ℝ) : EReal) := by
  have hs : ∑ j', p j' * v * w j' = ((∑ j', (H h).dp i j' * (1 / ((H h).tot M i * (H h).tot M i)) * (H h).wt M i j' : ℝ) : EReal) :=
    sum_real fun j' => by rw [hp, hv, hw, EReal.coe_mul, EReal.coe_mul]
  rw [hs, hp, hw, ht, Ideal.div_coe ((H h).tot_pos M i).ne', ← (H h).ref_ds M i j]
  simp only [Finset.univ_unique, Finset.sum_singleton]
  rw [add_comm, EReal.coe_mul, EReal.coe_add, EReal.coe_neg, EReal.coe_mul ((H h).dp i j)]

/-- The head of a column of the flat gradients, and the column's place in it. -/
def hd (c : Fin 1024) : Fin 8 := ⟨c.1 / 128, by omega⟩
def pl (c : Fin 1024) : Fin 128 := ⟨c.1 % 128, by omega⟩

/-- The five gradients, as an array of results holds them. -/
structure Grads (H : Fin 8 → Head) (dk dv : Fin 8192 → Fin 1024 → EReal) (dck : Fin 8 → Fin 8192 → EReal)
    (dq : Fin 8 → Fin 8192 → Fin 128 → EReal) (dcq : Fin 8 → Fin 8192 → EReal) : Prop where
  dk : ∀ j c, dk j c = (((H (hd c)).dk j (pl c) : ℝ) : EReal)
  dv : ∀ j c, dv j c = (((H (hd c)).dv j (pl c) : ℝ) : EReal)
  dck : ∀ h j, dck h j = (((H h).dck j : ℝ) : EReal)
  dq : ∀ h i d, dq h i d = (((H h).dq i d : ℝ) : EReal)
  dcq : ∀ h i, dcq h i = (((H h).dcq i : ℝ) : EReal)

end Cert.Fox
-- ==== Proof.Finite.lean ====
/-
  The precondition: where the comparisons with infinity all hold, the projections' first columns, the gates and the
  cotangent are numbers, and these numbers are eight heads.
-/
module

public import proofs.«01_k».proof.Defs
public import proofs.«01_k».proof.Proof.Heads

@[expose] public section

noncomputable section

namespace Cert.Fox

open Idealize.ShloMosaic
open Cert.Pre_finite (S8192x7680 S8x8192 S8192x1024 S8192x3072 S_)

theorem finite_facts : Cert.Pre_finite.Facts where
  slices_S8192x7680_S8192x3072_0_0 := by decide
  bcast_S_S8192x3072 := by decide
  reducesTo_S8192x3072_S_d0_1 := by decide
  h_S_ := by decide
  bcast_S_S8x8192 := by decide
  reducesTo_S8x8192_S_d0_1 := by decide
  bcast_S_S8192x1024 := by decide
  reducesTo_S8192x1024_S_d0_1 := by decide

theorem bits_top : Ideal.ofBits .f32 0x7F800000#32 = ⊤ := by simp [Ideal.ofBits, Ideal.ieee]
theorem bits_top16 : Ideal.ofBits .bf16 0x7F80#16 = ⊤ := by simp [Ideal.ofBits, Ideal.ieee]

theorem and_one {a b : BitVec 1} (h : IntOp.andi a b = 1#1) : a = 1#1 ∧ b = 1#1 := by
  rcases BitVec.eq_zero_or_eq_one a with rfl | rfl <;> rcases BitVec.eq_zero_or_eq_one b with rfl | rfl
  all_goals first
    | exact ⟨rfl, rfl⟩
    | exact absurd h (by decide)

/-- A conjunction over a list holds only where each of its bits does. -/
theorem fold_and {ι : Type} (f : ι → BitVec 1) (l : List ι) (a : BitVec 1)
    (h : l.foldl (fun r n => IntOp.andi r (f n)) a = 1#1) : a = 1#1 ∧ ∀ n ∈ l, f n = 1#1 := by
  induction l generalizing a with
  | nil => exact ⟨h, fun n hn => absurd hn (List.not_mem_nil)⟩
  | cons b l ih =>
    obtain ⟨h1, h2⟩ := ih _ h
    obtain ⟨h3, h4⟩ := and_one h1
    refine ⟨h3, fun n hn => ?_⟩
    rcases List.mem_cons.mp hn with rfl | hn
    · exact h4
    · exact h2 n hn

/-- The conjunction of every bit of an array. -/
theorem all_of_reduce {s : Shape} {axes : List (Fin s.rank)} (x : IVec s 1) (v : IVec S_ 1) (h : s.ReducesTo axes S_) (hu : 0 < S_.numel)
    (j : S_.Idx) (e : Host.reduce IntOp.andi x v h hu j = 1#1) (i : s.Idx) : x i = 1#1 := by
  have h1 := (fold_and (fun n => x (s.rowMajor.symm n)) _ _ e).2 (s.rowMajor i)
    (List.mem_filter.mpr ⟨List.mem_finRange _, decide_eq_true (funext fun k => k.elim0)⟩)
  simpa using h1

/-- What lies below infinity in absolute value is a number. -/
theorem real_of_cmp {a : EReal} (h : Ideal.cmp .olt (max a (-a)) ⊤ = 1#1) : a = ((a.toReal : ℝ) : EReal) := by
  have h' : max a (-a) < ⊤ := by
    by_contra hn
    have : Ideal.cmp .olt (max a (-a)) ⊤ = 0#1 := by simp [Ideal.cmp, hn]
    exact absurd (this.symm.trans h) (by decide)
  obtain ⟨h1, h2⟩ := max_lt_iff.mp h'
  refine (EReal.coe_toReal h1.ne fun hb => ?_).symm
  rw [hb] at h2
  exact absurd h2 (by simp)

attribute [local instance] finite_facts

theorem finite_entries (A : FVec Ideal S8192x7680 .f32) (C : FVec Ideal S8x8192 .f32) (O : FVec Ideal S8192x1024 .bf16)
    (h : Cert.Pre_finite.fn (F := Ideal) A C O = fun _ => 1#1) :
    (∀ (i : Fin 8192) (c : Fin 3072), A (ix2 i ⟨c.1, by omega⟩) = (((A (ix2 i ⟨c.1, by omega⟩)).toReal : ℝ) : EReal))
    ∧ (∀ (g : Fin 8) (i : Fin 8192), C (ix2 g i) = (((C (ix2 g i)).toReal : ℝ) : EReal))
    ∧ ∀ (i : Fin 8192) (c : Fin 1024), O (ix2 i c) = (((O (ix2 i c)).toReal : ℝ) : EReal) := by
  have h0 := congrFun h (Shape.Idx.first Cert.Pre_finite.Facts.h_S_)
  obtain ⟨h1, hO⟩ := and_one h0
  obtain ⟨hA, hC⟩ := and_one h1
  refine ⟨fun i c => real_of_cmp ?_, fun g i => real_of_cmp ?_, fun i c => real_of_cmp ?_⟩
  · have := all_of_reduce _ _ _ _ _ hA (ix2 i c)
    pointwise at this
    rw [← bits_top]
    exact this
  · have := all_of_reduce _ _ _ _ _ hC (ix2 g i)
    pointwise at this
    rw [← bits_top]
    exact this
  · have := all_of_reduce _ _ _ _ _ hO (ix2 i c)
    pointwise at this
    rw [← bits_top16]
    exact this

/-- The heads that three arrays hold. -/
def headsOf (A : FVec Ideal S8192x7680 .f32) (C : FVec Ideal S8x8192 .f32) (O : FVec Ideal S8192x1024 .bf16) (h : Fin 8) : Head where
  q i d := (A (ix2 i ⟨h.1 * 128 + d.1, by omega⟩) : EReal).toReal
  k i d := (A (ix2 i ⟨1024 + (h.1 * 128 + d.1), by omega⟩) : EReal).toReal
  v i d := (A (ix2 i ⟨2048 + (h.1 * 128 + d.1), by omega⟩) : EReal).toReal
  o i d := (O (ix2 i ⟨h.1 * 128 + d.1, by omega⟩) : EReal).toReal
  c i := (C (ix2 h i) : EReal).toReal

theorem given_of_finite (A : FVec Ideal S8192x7680 .f32) (C : FVec Ideal S8x8192 .f32) (O : FVec Ideal S8192x1024 .bf16)
    (h : Cert.Pre_finite.fn (F := Ideal) A C O = fun _ => 1#1) :
    Given (headsOf A C O) (fun i c => A (ix2 i c)) (fun g i => C (ix2 g i)) (fun i c => O (ix2 i c)) := by
  obtain ⟨hA, hC, hO⟩ := finite_entries A C O h
  exact ⟨fun g i d => hA i ⟨g.1 * 128 + d.1, by omega⟩, fun g i d => hA i ⟨1024 + (g.1 * 128 + d.1), by omega⟩,
    fun g i d => hA i ⟨2048 + (g.1 * 128 + d.1), by omega⟩, fun g i => hC g i, fun g i d => hO i ⟨g.1 * 128 + d.1, by omega⟩⟩

end Cert.Fox
-- ==== Proof.PairVal.lean ====
/-
  One pair of blocks over the real numbers: when the blocks hold a query block and a key block of four heads, the kernel's
  probabilities and gradients of the scores are the heads', and a pair adds to each sum the pair's terms.
-/
module

public import proofs.«01_k».proof.Proof.Step
public import proofs.«01_k».proof.Proof.Heads

@[expose] public section

noncomputable section

namespace Cert.Fox

open Cert.KernelIdeal Cert.KernelIdeal.Gen
open Idealize.ShloMosaic Idealize.SL.Sem
open Facts

theorem named_q : Named.named (F := Ideal) (φ := .f32) κ "q_scale" 0x3E0293EE#32 = (((Real.log 2)⁻¹ * (Real.sqrt 128)⁻¹ : ℝ) : EReal) := IdealRules.named_const.ideal_named_scalar _ _ _ _ rfl
theorem named_neg : Named.named (F := Ideal) (φ := .f32) κ "neg_log2e" 0xBFB8AA3B#32 = ((-((Real.log 2)⁻¹) : ℝ) : EReal) := IdealRules.named_const.ideal_named_scalar _ _ _ _ rfl
theorem named_log : Named.named (F := Ideal) (φ := .f32) κ "log2e" 0x3FB8AA3B#32 = (((Real.log 2)⁻¹ : ℝ) : EReal) := IdealRules.named_const.ideal_named_scalar _ _ _ _ rfl
theorem named_bot : Named.named (F := Ideal) (φ := .f32) κ "masked" 0xF149F2CA#32 = (⊥ : EReal) := IdealRules.named_const.ideal_named_scalar _ _ _ _ rfl

/-- Row `r` of block `n`. -/
def at512 (n : Fin 16) (r : Fin 512) : Fin 8192 := ⟨512 * n.1 + r.1, by omega⟩

/-- Column `d` of head `g` among four heads side by side. -/
def col (g : Fin 4) (d : Fin 128) : Fin 512 := ⟨128 * g.1 + d.1, by omega⟩

/-- The blocks of a pair hold query block `n` and key block `b` of the heads `K`. -/
structure Holds (K : Fin 4 → Head) (n b : Fin 16) (x : Win Ideal) : Prop where
  q : ∀ g r d, x.q (ix2 r (col g d)) = (((K g).q (at512 n r) d : ℝ) : EReal)
  k : ∀ g r d, x.k (ix2 r (col g d)) = (((K g).k (at512 b r) d : ℝ) : EReal)
  v : ∀ g r d, x.v (ix2 r (col g d)) = (((K g).v (at512 b r) d : ℝ) : EReal)
  ct : ∀ g r d, x.ct (ix2 r (col g d)) = (((K g).o (at512 n r) d : ℝ) : EReal)
  cq : ∀ g r, x.cq (ix3 g 0 r) = (((K g).c (at512 n r) : ℝ) : EReal)
  ck : ∀ g r d, x.ck (ix3 g r d) = (((K g).c (at512 b r) : ℝ) : EReal)
  lse : ∀ g r, x.lse (ix3 g 0 r) = ((Real.log ((K g).mass (at512 n r)) * (1 / Real.log 2) : ℝ) : EReal)
  delta : ∀ g r, x.delta (ix3 g 0 r) = (((K g).del (at512 n r) : ℝ) : EReal)

theorem cols_at {e : EltTy} (x : Vec Ideal S512x512 e) (g : Fin 4) (r : Fin 512) (d : Fin 128) : cols x g (ix2 r d) = x (ix2 r (col g d)) := by
  unfold cols VecWindow.window
  refine congrArg x (funext fun a => Fin.ext ?_)
  fin_cases a
  · show 0 + 1 * r.1 = r.1; omega
  · show 128 * g.1 + 1 * d.1 = 128 * g.1 + d.1; omega

theorem rowOf_at (x : Vec Ideal S4x1x512 .f32) (g : Fin 4) (r : Fin 512) : rowOf x g (ix3 0 0 r) = x (ix3 g 0 r) := by
  unfold rowOf VecWindow.window
  refine congrArg x (funext fun a => Fin.ext ?_)
  fin_cases a
  · show g.1 + 1 * 0 = g.1; omega
  · rfl
  · show 0 + 1 * r.1 = r.1; omega

theorem colOf_at (x : Vec Ideal S4x512x128 .f32) (g : Fin 4) (r : Fin 512) : colOf x g (ix3 0 r 0) = x (ix3 g r 0) := by
  unfold colOf VecWindow.window
  refine congrArg x (funext fun a => Fin.ext ?_)
  fin_cases a
  · show g.1 + 1 * 0 = g.1; omega
  · show 0 + 1 * r.1 = r.1; omega
  · rfl

theorem mul_sub_real {p s t : EReal} {p' s' t' : ℝ} (hp : p = (p' : EReal)) (hs : s = (s' : EReal)) (ht : t = (t' : EReal)) :
    p * (s - t) = ((p' * (s' - t') : ℝ) : EReal) := by
  rw [hp, hs, ht, EReal.coe_mul, EReal.coe_sub]

/-- A pair is on the diagonal, or its keys come before its queries. -/
def Ok (d : Bool) (n b : Fin 16) : Prop := (d = true ∧ n = b) ∨ (d = false ∧ b.1 < n.1)

section

variable {K : Fin 4 → Head} {n b : Fin 16} {x : Win Ideal} (hx : Holds K n b x)
include hx

theorem qs_at (g : Fin 4) (r : Fin 512) (d : Fin 128) :
    qs x g (ix2 r d) = (((K g).q (at512 n r) d * ((Real.log 2)⁻¹ * (Real.sqrt 128)⁻¹) : ℝ) : EReal) := by
  unfold qs
  pointwise
  rw [cols_at, named_q, hx.q]
  exact (EReal.coe_mul _ _).symm

theorem sc_at (g : Fin 4) (r c : Fin 512) : sc x g (ix2 r c) = (((K g).expo (at512 n c) (at512 b r) : ℝ) : EReal) := by
  unfold sc
  pointwise
  rw [named_neg, named_log, rowOf_at, rowOf_at, colOf_at, hx.ck, hx.cq, hx.lse, Head.expo, EReal.coe_add, EReal.coe_add, EReal.coe_sub, EReal.coe_mul ((K g).c _), EReal.coe_mul ((K g).c _)]
  refine congrArg (· + _) (sum_real fun d => ?_)
  rw [cols_at, qs_at hx, hx.k]
  exact (EReal.coe_mul _ _).symm

theorem pt_at {d : Bool} (hd : Ok d n b) (g : Fin 4) (r c : Fin 512) : pt d x g (ix2 r c) = (((K g).prob (at512 n c) (at512 b r) : ℝ) : EReal) := by
  rcases hd with ⟨rfl, rfl⟩ | ⟨rfl, hlt⟩
  · unfold pt
    pointwise
    rw [named_bot, sc_at hx]
    have e := mask_word ⟨c.1, by omega⟩ ⟨r.1, by omega⟩
    rw [show IntOp.cmpi CmpIPredicate.sle (BitVec.ofNat 32 r.1) (BitVec.ofNat 32 c.1) = _ from e]
    by_cases h : r.1 ≤ c.1
    · rw [if_pos (show (⟨r.1, by omega⟩ : Fin 8192) ≤ ⟨c.1, by omega⟩ from h)]
      show Ideal.exp2 (((K g).expo (at512 n c) (at512 n r) : ℝ) : EReal) = _
      rw [Ideal.exp2_coe, Head.rpow_expo]
      show 512 * n.1 + r.1 ≤ 512 * n.1 + c.1
      omega
    · rw [if_neg (show ¬(⟨r.1, by omega⟩ : Fin 8192) ≤ ⟨c.1, by omega⟩ from h), (K g).prob_off (show 512 * n.1 + c.1 < 512 * n.1 + r.1 by omega)]
      show Ideal.exp2 ⊥ = _
      rw [Ideal.exp2_bot, EReal.coe_zero]
  · unfold pt
    pointwise
    rw [sc_at hx]
    show Ideal.exp2 (((K g).expo (at512 n c) (at512 b r) : ℝ) : EReal) = _
    rw [Ideal.exp2_coe, Head.rpow_expo]
    show 512 * b.1 + r.1 ≤ 512 * n.1 + c.1
    omega

theorem dst_at {d : Bool} (hd : Ok d n b) (g : Fin 4) (r c : Fin 512) : dst d x g (ix2 r c) = (((K g).ds (at512 n c) (at512 b r) : ℝ) : EReal) := by
  unfold dst
  pointwise
  refine mul_sub_real (pt_at hx hd g r c) (sum_real fun e => ?_) ((rowOf_at _ _ _).trans (hx.delta g c))
  rw [cols_at, cols_at, hx.v, hx.ct, mul_comm ((K g).o _ _)]
  exact (EReal.coe_mul _ _).symm

theorem addDv_at {d : Bool} (hd : Ok d n b) (g : Fin 4) (a : Vec Ideal S1x512x128 .f32) (r : Fin 512) (l : Fin 128) {y : ℝ} (ha : a (ix3 0 r l) = (y : EReal)) :
    addDv d x g a (ix3 0 r l) = ((y + ∑ c, (K g).prob (at512 n c) (at512 b r) * (K g).o (at512 n c) l : ℝ) : EReal) := by
  unfold addDv
  pointwise
  rw [ha, EReal.coe_add]
  refine congrArg (_ + ·) (sum_real fun c => ?_)
  rw [pt_at hx hd, cols_at, hx.ct]
  exact (EReal.coe_mul _ _).symm

theorem addDk_at {d : Bool} (hd : Ok d n b) (g : Fin 4) (a : Vec Ideal S1x512x128 .f32) (r : Fin 512) (l : Fin 128) {y : ℝ} (ha : a (ix3 0 r l) = (y : EReal)) :
    addDk d x g a (ix3 0 r l) = ((y + ∑ c, (K g).ds (at512 n c) (at512 b r) * ((K g).q (at512 n c) l * ((Real.log 2)⁻¹ * (Real.sqrt 128)⁻¹)) : ℝ) : EReal) := by
  unfold addDk
  pointwise
  rw [ha, EReal.coe_add]
  refine congrArg (_ + ·) (sum_real fun c => ?_)
  rw [dst_at hx hd, qs_at hx]
  exact (EReal.coe_mul _ _).symm

theorem addDq_at {d : Bool} (hd : Ok d n b) (g : Fin 4) (a : Vec Ideal S1x512x128 .f32) (r : Fin 512) (l : Fin 128) {y : ℝ} (ha : a (ix3 0 r l) = (y : EReal)) :
    addDq d x g a (ix3 0 r l) = ((y + ∑ c, (K g).ds (at512 n r) (at512 b c) * (K g).k (at512 b c) l : ℝ) : EReal) := by
  unfold addDq
  pointwise
  rw [ha, EReal.coe_add]
  refine congrArg (_ + ·) (sum_real fun c => ?_)
  rw [dst_at hx hd, cols_at, hx.k]
  exact (EReal.coe_mul _ _).symm

theorem addDck_at {d : Bool} (hd : Ok d n b) (g : Fin 4) (a : Vec Ideal S1x512x1 .f32) (r : Fin 512) {y : ℝ} (ha : a (ix3 0 r 0) = (y : EReal)) :
    addDck d x g a (ix3 0 r 0) = ((y + ∑ c, (K g).ds (at512 n c) (at512 b r) : ℝ) : EReal) := by
  unfold addDck
  pointwise
  rw [ha, EReal.coe_add]
  exact congrArg (_ + ·) (sum_real fun c => dst_at hx hd g r c)

theorem addDcq_at {d : Bool} (hd : Ok d n b) (g : Fin 4) (a : Vec Ideal S1x1x1x512 .f32) (r : Fin 512) {y : ℝ} (ha : a (ix4 0 0 0 r) = (y : EReal)) :
    addDcq d x g a (ix4 0 0 0 r) = ((y + ∑ c, (K g).ds (at512 n r) (at512 b c) : ℝ) : EReal) := by
  unfold addDcq
  pointwise
  rw [ha, EReal.coe_add]
  exact congrArg (_ + ·) (sum_real fun c => dst_at hx hd g c r)

end

end Cert.Fox
-- ==== Proof.PairSum.lean ====
/-
  The five sums in closed form: after each pair of a sweep, every sum is its terms' sum up to the pair, and after the last
  pair of a row or column of blocks it is the whole sum.
-/
module

public import proofs.«01_k».proof.Proof.PairVal
public import proofs.«01_k».proof.Proof.Body
public import Idealize.ShloMosaic.Lib.Pipeline.ValueKit

@[expose] public section

noncomputable section

namespace Cert.Fox

open Cert.KernelIdeal Cert.KernelIdeal.Gen
open Idealize.ShloMosaic Idealize.SL.Sem
open Facts

/-! ### What a rewriting of four windows leaves at a place -/

section

variable {α : Type} {s : Shape} (off : Fin 4 → Fin s.rank → ℕ) (size : Fin s.rank → ℕ) (inb : ∀ g a, off g a + size a ≤ s.size a)
  (f : Fin 4 → (((a : Fin s.rank) → Fin (size a)) → α) → ((a : Fin s.rank) → Fin (size a)) → α) (x : s.Idx → α) (y : s.Idx)

theorem upd_in (g : Fin 4) (u : (a : Fin s.rank) → Fin (size a)) (hu : ∀ a, (y a).val = off g a + (u a).val)
    (ho : ∀ g', g' ≠ g → ∃ a, (y a).val < off g' a ∨ off g' a + size a ≤ (y a).val) :
    ∃ w, w u = x y ∧ upd off size inb f x y = f g w u := by
  have h : ∀ a, off g a ≤ (y a).val ∧ (y a).val < off g a + size a := fun a => by
    have := hu a
    have := (u a).isLt
    omega
  have ho' : ∀ g', g' ≠ g → ¬∀ a, off g' a ≤ (y a).val ∧ (y a).val < off g' a + size a := fun g' hg hall => by
    obtain ⟨a, ha⟩ := ho g' hg
    have := hall a
    omega
  have hl : Rect.unitLocal (s := s) (off := off g) (size := size) y h = u := funext fun a => Fin.ext (by
    show (y a).val - off g a = (u a).val
    have := hu a
    omega)
  refine ⟨VecWindow.window x (off g) size (inb g), ?_, ?_⟩
  · refine congrArg x (funext fun a => Fin.ext ?_)
    have e : ((Rect.unit (off g) size (inb g)).emb u a).val = off g a + 1 * (u a).val := rfl
    rw [e, hu a, Nat.one_mul]
  · unfold upd
    match g with
    | 0 => rw [VecWindow.put, dif_neg (ho' 3 (by decide)), VecWindow.put, dif_neg (ho' 2 (by decide)), VecWindow.put, dif_neg (ho' 1 (by decide)), VecWindow.put, dif_pos h, hl]
    | 1 => rw [VecWindow.put, dif_neg (ho' 3 (by decide)), VecWindow.put, dif_neg (ho' 2 (by decide)), VecWindow.put, dif_pos h, hl]
    | 2 => rw [VecWindow.put, dif_neg (ho' 3 (by decide)), VecWindow.put, dif_pos h, hl]
    | 3 => rw [VecWindow.put, dif_pos h, hl]

theorem upd_out (ho : ∀ g, ∃ a, (y a).val < off g a ∨ off g a + size a ≤ (y a).val) : upd off size inb f x y = x y := by
  have ho' : ∀ g', ¬∀ a, off g' a ≤ (y a).val ∧ (y a).val < off g' a + size a := fun g' hall => by
    obtain ⟨a, ha⟩ := ho g'
    have := hall a
    omega
  unfold upd
  rw [VecWindow.put, dif_neg (ho' 3), VecWindow.put, dif_neg (ho' 2), VecWindow.put, dif_neg (ho' 1), VecWindow.put, dif_neg (ho' 0)]

end

/-! ### One pair's five rewritings at a place -/

section

variable (d : Bool) (x : Win Ideal)

theorem apart {g g' : Fin 4} (h : g' ≠ g) : g.val < g'.val ∨ g'.val + 1 ≤ g.val := by
  have : g'.val ≠ g.val := fun e => h (Fin.ext e)
  omega

theorem stepDk_at (a : Vec Ideal S4x512x128 .f32) (g : Fin 4) (r : Fin 512) (l : Fin 128) :
    ∃ w : Vec Ideal S1x512x128 .f32, w (ix3 0 r l) = a (ix3 g r l) ∧ stepDk d x a (ix3 g r l) = addDk d x g w (ix3 0 r l) := by
  refine upd_in (s := S4x512x128) offG S1x512x128.size _ (fun g => addDk d x g) a (ix3 g r l) g (ix3 0 r l : S1x512x128.Idx) (fun b => ?_) (fun g' hg => ⟨0, apart hg⟩)
  fin_cases b
  · rfl
  · exact (Nat.zero_add _).symm
  · exact (Nat.zero_add _).symm

theorem stepDv_at (a : Vec Ideal S4x512x128 .f32) (g : Fin 4) (r : Fin 512) (l : Fin 128) :
    ∃ w : Vec Ideal S1x512x128 .f32, w (ix3 0 r l) = a (ix3 g r l) ∧ stepDv d x a (ix3 g r l) = addDv d x g w (ix3 0 r l) := by
  refine upd_in (s := S4x512x128) offG S1x512x128.size _ (fun g => addDv d x g) a (ix3 g r l) g (ix3 0 r l : S1x512x128.Idx) (fun b => ?_) (fun g' hg => ⟨0, apart hg⟩)
  fin_cases b
  · rfl
  · exact (Nat.zero_add _).symm
  · exact (Nat.zero_add _).symm

theorem stepDck_at (a : Vec Ideal S4x512x1 .f32) (g : Fin 4) (r : Fin 512) :
    ∃ w : Vec Ideal S1x512x1 .f32, w (ix3 0 r 0) = a (ix3 g r 0) ∧ stepDck d x a (ix3 g r 0) = addDck d x g w (ix3 0 r 0) := by
  refine upd_in (s := S4x512x1) offG S1x512x1.size _ (fun g => addDck d x g) a (ix3 g r 0) g (ix3 0 r 0 : S1x512x1.Idx) (fun b => ?_) (fun g' hg => ⟨0, apart hg⟩)
  fin_cases b
  · rfl
  · exact (Nat.zero_add _).symm
  · rfl

theorem stepDq_in (n : Fin 16) (a : Vec Ideal S4x8192x128 .f32) (g : Fin 4) (r : Fin 512) (l : Fin 128) :
    ∃ w : Vec Ideal S1x512x128 .f32, w (ix3 0 r l) = a (ix3 g (at512 n r) l) ∧ stepDq n d x a (ix3 g (at512 n r) l) = addDq d x g w (ix3 0 r l) := by
  refine upd_in (s := S4x8192x128) (offQ n) S1x512x128.size _ (fun g => addDq d x g) a (ix3 g (at512 n r) l) g (ix3 0 r l : S1x512x128.Idx) (fun b => ?_) (fun g' hg => ⟨0, apart hg⟩)
  fin_cases b
  · rfl
  · rfl
  · exact (Nat.zero_add _).symm

theorem stepDq_out (n n' : Fin 16) (hn : n' ≠ n) (a : Vec Ideal S4x8192x128 .f32) (g : Fin 4) (r : Fin 512) (l : Fin 128) :
    stepDq n d x a (ix3 g (at512 n' r) l) = a (ix3 g (at512 n' r) l) := by
  refine upd_out _ _ _ _ _ _ fun g' => ⟨1, ?_⟩
  show 512 * n'.val + r.val < 512 * n.val ∨ 512 * n.val + 512 ≤ 512 * n'.val + r.val
  have : n'.val ≠ n.val := fun e => hn (Fin.ext e)
  omega

theorem stepDcq_in (n : Fin 16) (a : Vec Ideal S4x16x1x512 .f32) (g : Fin 4) (r : Fin 512) :
    ∃ w : Vec Ideal S1x1x1x512 .f32, w (ix4 0 0 0 r) = a (ix4 g n 0 r) ∧ stepDcq n d x a (ix4 g n 0 r) = addDcq d x g w (ix4 0 0 0 r) := by
  refine upd_in (s := S4x16x1x512) (offR n) S1x1x1x512.size _ (fun g => addDcq d x g) a (ix4 g n 0 r) g (ix4 0 0 0 r : S1x1x1x512.Idx) (fun b => ?_) (fun g' hg => ⟨0, apart hg⟩)
  fin_cases b
  · rfl
  · rfl
  · rfl
  · exact (Nat.zero_add _).symm

theorem stepDcq_out (n n' : Fin 16) (hn : n' ≠ n) (a : Vec Ideal S4x16x1x512 .f32) (g : Fin 4) (r : Fin 512) :
    stepDcq n d x a (ix4 g n' 0 r) = a (ix4 g n' 0 r) := by
  refine upd_out _ _ _ _ _ _ fun g' => ⟨1, ?_⟩
  show n'.val < n.val ∨ n.val + 1 ≤ n'.val
  have : n'.val ≠ n.val := fun e => hn (Fin.ext e)
  omega

end

/-! ### The sums after each pair -/

/-- How many key blocks query block `n` has met before pair `p`, and after it. -/
def cntB (p : Fin 136) (n : Fin 16) : ℕ := min (if n.val < (iq p).val then (ik p).val + 1 else (ik p).val) (n.val + 1)
def cntA (p : Fin 136) (n : Fin 16) : ℕ := min (if n.val ≤ (iq p).val then (ik p).val + 1 else (ik p).val) (n.val + 1)

theorem cntB_first (p : Fin 136) (hp : p.val = 0) (n : Fin 16) : cntB p n = 0 := by revert p n; decide +kernel
theorem cntB_succ (p : Fin 136) (hp : p.val ≠ 0) (n : Fin 16) : cntB p n = cntA ⟨p.val - 1, by omega⟩ n := by revert p n; decide +kernel
theorem cntB_at (p : Fin 136) : cntB p (iq p) = (ik p).val := by revert p; decide +kernel
theorem cntA_at (p : Fin 136) : cntA p (iq p) = (ik p).val + 1 := by revert p; decide +kernel
theorem cnt_other (p : Fin 136) (n : Fin 16) (hn : n ≠ iq p) : cntA p n = cntB p n := by revert p n; decide +kernel
theorem cnt_last (n : Fin 16) : cntA 135 n = n.val + 1 := by revert n; decide +kernel
theorem column (p : Fin 136) (h : (ik p).val < (iq p).val) :
    ∃ hp : p.val ≠ 0, ik ⟨p.val - 1, by omega⟩ = ik p ∧ (iq ⟨p.val - 1, by omega⟩).val + 1 = (iq p).val := by revert p; decide +kernel

/-- What the sums hold after pair `p`. -/
structure Upto (K : Fin 4 → Head) (p : Fin 136) (s : Sums Ideal) : Prop where
  dk : ∀ g r l, s.dk (ix3 g r l) = ((upto (512 * ((iq p).val + 1)) fun i => (K g).ds i (at512 (ik p) r) * ((K g).q i l * ((Real.log 2)⁻¹ * (Real.sqrt 128)⁻¹)) : ℝ) : EReal)
  dv : ∀ g r l, s.dv (ix3 g r l) = ((upto (512 * ((iq p).val + 1)) fun i => (K g).prob i (at512 (ik p) r) * (K g).o i l : ℝ) : EReal)
  dck : ∀ g r, s.dck (ix3 g r 0) = ((upto (512 * ((iq p).val + 1)) fun i => (K g).ds i (at512 (ik p) r) : ℝ) : EReal)
  dq : ∀ g n r l, s.dq (ix3 g (at512 n r) l) = ((upto (512 * cntA p n) fun j => (K g).ds (at512 n r) j * (K g).k j l : ℝ) : EReal)
  dcq : ∀ g n r, s.dcq (ix4 g n 0 r) = ((upto (512 * cntA p n) fun j => (K g).ds (at512 n r) j : ℝ) : EReal)

theorem upto_none (n : ℕ) (f : Fin 8192 → ℝ) (hf : ∀ i : Fin 8192, i.val < n → f i = 0) : upto n f = 0 :=
  (upto_more (Nat.zero_le n) f fun i _ h => hf i h).trans (upto_zero f)

section

variable {K : Fin 4 → Head} {p : Fin 136} {x : Win Ideal} (hx : Holds K (iq p) (ik p) x) {d : Bool} (hd : Ok d (iq p) (ik p))
include hx hd

theorem dk_after (a : Vec Ideal S4x512x128 .f32) (g : Fin 4) (r : Fin 512) (l : Fin 128)
    (ha : a (ix3 g r l) = ((upto (512 * (iq p).val) fun i => (K g).ds i (at512 (ik p) r) * ((K g).q i l * ((Real.log 2)⁻¹ * (Real.sqrt 128)⁻¹)) : ℝ) : EReal)) :
    stepDk d x a (ix3 g r l) = ((upto (512 * ((iq p).val + 1)) fun i => (K g).ds i (at512 (ik p) r) * ((K g).q i l * ((Real.log 2)⁻¹ * (Real.sqrt 128)⁻¹)) : ℝ) : EReal) := by
  obtain ⟨w, hw, he⟩ := stepDk_at d x a g r l
  rw [he, addDk_at hx hd g w r l (hw.trans ha), upto_block _ (iq p).isLt]
  rfl

theorem dv_after (a : Vec Ideal S4x512x128 .f32) (g : Fin 4) (r : Fin 512) (l : Fin 128)
    (ha : a (ix3 g r l) = ((upto (512 * (iq p).val) fun i => (K g).prob i (at512 (ik p) r) * (K g).o i l : ℝ) : EReal)) :
    stepDv d x a (ix3 g r l) = ((upto (512 * ((iq p).val + 1)) fun i => (K g).prob i (at512 (ik p) r) * (K g).o i l : ℝ) : EReal) := by
  obtain ⟨w, hw, he⟩ := stepDv_at d x a g r l
  rw [he, addDv_at hx hd g w r l (hw.trans ha), upto_block _ (iq p).isLt]
  rfl

theorem dck_after (a : Vec Ideal S4x512x1 .f32) (g : Fin 4) (r : Fin 512)
    (ha : a (ix3 g r 0) = ((upto (512 * (iq p).val) fun i => (K g).ds i (at512 (ik p) r) : ℝ) : EReal)) :
    stepDck d x a (ix3 g r 0) = ((upto (512 * ((iq p).val + 1)) fun i => (K g).ds i (at512 (ik p) r) : ℝ) : EReal) := by
  obtain ⟨w, hw, he⟩ := stepDck_at d x a g r
  rw [he, addDck_at hx hd g w r (hw.trans ha), upto_block _ (iq p).isLt]
  rfl

theorem dq_after (a : Vec Ideal S4x8192x128 .f32) (g : Fin 4) (n : Fin 16) (r : Fin 512) (l : Fin 128)
    (ha : a (ix3 g (at512 n r) l) = ((upto (512 * cntB p n) fun j => (K g).ds (at512 n r) j * (K g).k j l : ℝ) : EReal)) :
    stepDq (iq p) d x a (ix3 g (at512 n r) l) = ((upto (512 * cntA p n) fun j => (K g).ds (at512 n r) j * (K g).k j l : ℝ) : EReal) := by
  by_cases hn : n = iq p
  · subst hn
    obtain ⟨w, hw, he⟩ := stepDq_in d x (iq p) a g r l
    rw [cntB_at] at ha
    rw [he, addDq_at hx hd g w r l (hw.trans ha), cntA_at, upto_block _ (ik p).isLt]
    rfl
  · rw [stepDq_out d x (iq p) n hn, ha, cnt_other p n hn]

theorem dcq_after (a : Vec Ideal S4x16x1x512 .f32) (g : Fin 4) (n : Fin 16) (r : Fin 512)
    (ha : a (ix4 g n 0 r) = ((upto (512 * cntB p n) fun j => (K g).ds (at512 n r) j : ℝ) : EReal)) :
    stepDcq (iq p) d x a (ix4 g n 0 r) = ((upto (512 * cntA p n) fun j => (K g).ds (at512 n r) j : ℝ) : EReal) := by
  by_cases hn : n = iq p
  · subst hn
    obtain ⟨w, hw, he⟩ := stepDcq_in d x (iq p) a g r
    rw [cntB_at] at ha
    rw [he, addDcq_at hx hd g w r (hw.trans ha), cntA_at, upto_block _ (ik p).isLt]
    rfl
  · rw [stepDcq_out d x (iq p) n hn, ha, cnt_other p n hn]

end

theorem pay1_at (y) : k0_pay1 (F := Ideal) y = 0 := by unfold k0_pay1; pointwise
theorem pay2_at (y) : k0_pay2 (F := Ideal) y = 0 := by unfold k0_pay2; pointwise
theorem pay11_at (y) : k0_pay11 (F := Ideal) y = 0 := by unfold k0_pay11; pointwise
theorem pay12_at (y) : k0_pay12 (F := Ideal) y = 0 := by unfold k0_pay12; pointwise
theorem pay13_at (y) : k0_pay13 (F := Ideal) y = 0 := by unfold k0_pay13; pointwise

/-- One pair more. -/
theorem step_upto {K : Fin 4 → Head} {p : Fin 136} {x : Win Ideal} (hx : Holds K (iq p) (ik p) x) (s : Sums Ideal)
    (hs : ∀ hp : p.val ≠ 0, Upto K ⟨p.val - 1, by omega⟩ s) : Upto K p (step p x s) := by
  have hdq : ∀ g n r l, (start p s).dq (ix3 g (at512 n r) l) = ((upto (512 * cntB p n) fun j => (K g).ds (at512 n r) j * (K g).k j l : ℝ) : EReal) := by
    intro g n r l
    by_cases hp : p.val = 0
    · rw [start, if_pos hp, cntB_first p hp, upto_zero, EReal.coe_zero]
      exact pay1_at (ix3 g (at512 n r) l)
    · rw [start, if_neg hp, cntB_succ p hp]
      exact (hs hp).dq g n r l
  have hdcq : ∀ g n r, (start p s).dcq (ix4 g n 0 r) = ((upto (512 * cntB p n) fun j => (K g).ds (at512 n r) j : ℝ) : EReal) := by
    intro g n r
    by_cases hp : p.val = 0
    · rw [start, if_pos hp, cntB_first p hp, upto_zero, EReal.coe_zero]
      exact pay2_at (ix4 g n 0 r)
    · rw [start, if_neg hp, cntB_succ p hp]
      exact (hs hp).dcq g n r
  rcases Nat.lt_or_ge (ik p).val (iq p).val with hlt | hge
  · have hne : iq p ≠ ik p := fun e => by rw [e] at hlt; exact Nat.lt_irrefl _ hlt
    have hd : Ok false (iq p) (ik p) := .inr ⟨rfl, hlt⟩
    obtain ⟨hp, hk, hq⟩ := column p hlt
    have hst : start p s = s := by rw [start, if_neg hp]
    have h := hs hp
    have e : step p x s = ⟨stepDk false x s.dk, stepDv false x s.dv, stepDck false x s.dck, stepDq (iq p) false x s.dq, stepDcq (iq p) false x s.dcq⟩ := by
      rw [step, offDiag, if_pos hlt, onDiag, if_neg hne, hst]
    rw [hst] at hdq hdcq
    rw [e]
    refine ⟨fun g r l => dk_after hx hd _ g r l ?_, fun g r l => dv_after hx hd _ g r l ?_, fun g r => dck_after hx hd _ g r ?_,
      fun g n r l => dq_after hx hd _ g n r l (hdq g n r l), fun g n r => dcq_after hx hd _ g n r (hdcq g n r)⟩
    · have := h.dk g r l
      rwa [hk, hq] at this
    · have := h.dv g r l
      rwa [hk, hq] at this
    · have := h.dck g r
      rwa [hk, hq] at this
  · have heq : iq p = ik p := Fin.ext (Nat.le_antisymm hge (ik_le_iq p))
    have hd : Ok true (iq p) (ik p) := .inl ⟨rfl, heq⟩
    have e : step p x s = ⟨stepDk true x (k0_pay11 (F := Ideal)), stepDv true x (k0_pay12 (F := Ideal)), stepDck true x (k0_pay13 (F := Ideal)), stepDq (iq p) true x (start p s).dq, stepDcq (iq p) true x (start p s).dcq⟩ := by
      rw [step, offDiag, if_neg (not_lt.mpr hge), onDiag, if_pos heq]
    have hbefore : ∀ (r : Fin 512) (i : Fin 8192), i.val < 512 * (iq p).val → i < at512 (ik p) r := fun r i hi => by
      show i.val < 512 * (ik p).val + r.val
      rw [← heq]
      omega
    rw [e]
    refine ⟨fun g r l => dk_after hx hd _ g r l ?_, fun g r l => dv_after hx hd _ g r l ?_, fun g r => dck_after hx hd _ g r ?_,
      fun g n r l => dq_after hx hd _ g n r l (hdq g n r l), fun g n r => dcq_after hx hd _ g n r (hdcq g n r)⟩
    · rw [upto_none _ _ fun i hi => by rw [(K g).ds_off (hbefore r i hi), zero_mul]]
      exact pay11_at _
    · rw [upto_none _ _ fun i hi => by rw [(K g).prob_off (hbefore r i hi), zero_mul]]
      exact pay12_at _
    · rw [upto_none _ _ fun i hi => (K g).ds_off (hbefore r i hi)]
      exact pay13_at _

end Cert.Fox
-- ==== Proof.HostVal.lean ====
/-
  What the host hands the kernel, read at an index: the gates, the rows' log-sums in base 2 and the rows' sums of cotangent
  times output, over the real numbers.
-/
module

public import proofs.«01_k».proof.Proof.Dats
public import proofs.«01_k».proof.Proof.Heads

@[expose] public section

noncomputable section

namespace Cert.Fox

open Cert.KernelIdeal Cert.KernelIdeal.Gen
open Idealize.ShloMosaic Idealize.ShloMosaic.TcCoe Idealize.ShloMosaic.Tactic Idealize.SL.Sem

theorem bits_two : Ideal.ofBits .f32 0x40000000#32 = ((2 : ℝ) : EReal) := by
  have h : BitVec.extractLsb' 31 1 1073741824#32 ≠ 1#1 := by decide
  have e : 1073741824 >>> 23 % 256 = 128 := by decide
  simp only [Ideal.ofBits, Ideal.ieee]
  norm_num [h, e]

variable (L : Valuation τ sig (Elt Ideal))
variable {H : Fin 8 → Head}

/-- The product of queries and keys over `√128`, with the gates. -/
theorem h0_score (hA : Given H (fun i c => L main_arg0 (ix2 i c)) (fun h i => L main_arg1 (ix2 h i)) (fun i c => L main_arg2 (ix2 i c)))
    (h : Fin 8) (i j : Fin 8192) : StableHlo.after (hostOps0 (F := Ideal)) L main_v18 (ix3 h i j) = (((H h).score i j : ℝ) : EReal) := by
  after_reads_simp
  pointwise
  rw [bits_128, Ideal.sqrt_coe, if_neg (by norm_num), Ideal.div_coe sqrt_pos', Head.score, EReal.coe_sub, EReal.coe_add, EReal.coe_mul]
  refine congrArg₂ (· - ·) (congrArg₂ (· + ·) (congrArg (· * (((1 / Real.sqrt 128 : ℝ)) : EReal)) (sum_real fun d => ?_)) (hA.c h i)) (hA.c h j)
  exact (congrArg₂ (· * ·) (hA.q h i d) (hA.k h j d)).trans (EReal.coe_mul _ _).symm

theorem h0_v (hA : Given H (fun i c => L main_arg0 (ix2 i c)) (fun h i => L main_arg1 (ix2 h i)) (fun i c => L main_arg2 (ix2 i c)))
    (h : Fin 8) (i : Fin 8192) (d : Fin 128) : StableHlo.after (hostOps0 (F := Ideal)) L main_v8 (ix3 h i d) = (((H h).v i d : ℝ) : EReal) := by
  after_reads_simp
  pointwise
  exact hA.v h i d

theorem h0_mask (i j : Fin 8192) : StableHlo.after (hostOps0 (F := Ideal)) L main_v25 (ix2 i j) = if j ≤ i then 1#1 else 0#1 := by
  after_reads_simp
  pointwise
  exact mask_word i j

theorem h0_bot : StableHlo.after (hostOps0 (F := Ideal)) L main_cst_1 = constant (F := Ideal) S_ .f32 0xFF800000#32 := by
  after_reads_simp

theorem read1 : StableHlo.after (hostOps0_1 (F := Ideal)) L main_v26 = select (broadcastInDim S8x8192x8192 ![1, 2] bcast_S8192x8192_S8x8192x8192_1_2 (L main_v25)) (L main_v18)
    (broadcastInDim S8x8192x8192 ![] bcast_S_S8x8192x8192 (L main_cst_1)) := by
  after_reads_simp
  rfl

theorem h1_val (hs : ∀ h i j, L main_v18 (ix3 h i j) = (((H h).score i j : ℝ) : EReal)) (hm : ∀ i j, L main_v25 (ix2 i j) = if j ≤ i then 1#1 else 0#1)
    (hb : L main_cst_1 = constant (F := Ideal) S_ .f32 0xFF800000#32) (h : Fin 8) (i j : Fin 8192) :
    StableHlo.after (hostOps0_1 (F := Ideal)) L main_v26 (ix3 h i j) = if j ≤ i then (((H h).score i j : ℝ) : EReal) else ⊥ := by
  rw [read1, hb]
  pointwise
  rw [hm, hs, bits_bot]
  split <;> rfl

/-- The greatest masked score of a row is a number. -/
theorem row_max {h : Fin 8} {i : Fin 8192} {f : Fin 8192 → EReal} (hf : ∀ j, f j = if j ≤ i then (((H h).score i j : ℝ) : EReal) else ⊥) :
    ∃ M : ℝ, Finset.univ.fold max (Ideal.ofBits .f32 0xFF800000#32) f = ((M : ℝ) : EReal) := by
  rw [bits_bot]
  refine max_real _ (fun k => ?_) i ⟨(H h).score i i, ?_⟩
  · rw [hf]
    split
    · exact Or.inr ⟨_, rfl⟩
    · exact Or.inl rfl
  · exact (hf i).trans (if_pos (le_refl _))

/-- A row's log-sum, in base 2. -/
theorem lse_real {h : Fin 8} {i : Fin 8192} {f : Fin 8192 → EReal} (hf : ∀ j, f j = if j ≤ i then (((H h).score i j : ℝ) : EReal) else ⊥) :
    Finset.univ.fold max (Ideal.ofBits .f32 0xFF800000#32) f + Ideal.log (∑ j, Ideal.exp (f j - Finset.univ.fold max (Ideal.ofBits .f32 0xFF800000#32) f))
      = ((Real.log ((H h).mass i) : ℝ) : EReal) := by
  obtain ⟨M, hM⟩ := row_max hf
  rw [hM, tot_sum hf rfl, Ideal.log_coe, if_neg (not_le.mpr ((H h).tot_pos M i)), ← EReal.coe_add, (H h).log_mass]

/-- A row's sum of cotangent times output. -/
theorem delta_real {h : Fin 8} {i : Fin 8192} {f : Fin 8192 → EReal} {o : Fin 128 → EReal} {v : Fin 8192 → Fin 128 → EReal}
    (hf : ∀ j, f j = if j ≤ i then (((H h).score i j : ℝ) : EReal) else ⊥) (ho : ∀ d, o d = (((H h).o i d : ℝ) : EReal))
    (hv : ∀ j d, v j d = (((H h).v j d : ℝ) : EReal)) :
    ∑ d, o d * ∑ j, Ideal.div (Ideal.exp (f j - Finset.univ.fold max (Ideal.ofBits .f32 0xFF800000#32) f))
        (∑ j', Ideal.exp (f j' - Finset.univ.fold max (Ideal.ofBits .f32 0xFF800000#32) f)) * v j d
      = (((H h).del i : ℝ) : EReal) := by
  obtain ⟨M, hM⟩ := row_max hf
  rw [← (H h).del_of_out M i]
  refine sum_real fun d => ?_
  rw [hM, tot_sum hf rfl, EReal.coe_mul, ho]
  refine congrArg _ (sum_real fun j => ?_)
  rw [hf, exp_masked, hv, Ideal.div_coe ((H h).tot_pos M i).ne', EReal.coe_mul, EReal.coe_mul]

theorem read2_max : StableHlo.after (hostOps0_2 (F := Ideal)) L main_v28 = broadcastInDim S8x8192x1 ![0, 1] bcast_S8x8192_S8x8192x1_0_1
    (Host.reduce FloatOps.maximumf (L main_v26) (constant (F := Ideal) S_ .f32 0xFF800000#32) reducesTo_S8x8192x8192_S8x8192_d2 h_S_) := by
  after_reads_simp

theorem read2_exp : StableHlo.after (hostOps0_2 (F := Ideal)) L main_v31 = Host.exp (F := Ideal) (φ := .f32) (subf (φ := .f32) (L main_v26)
    (broadcastInDim S8x8192x8192 ![0, 1, 2] bcast_S8x8192x1_S8x8192x8192_0_1_2 (StableHlo.after (hostOps0_2 (F := Ideal)) L main_v28))) := by
  after_reads_simp

theorem read2_tot : StableHlo.after (hostOps0_2 (F := Ideal)) L main_v33 = broadcastInDim S8x8192x1 ![0, 1] bcast_S8x8192_S8x8192x1_0_1
    (Host.reduceAdd (F := Ideal) (StableHlo.after (hostOps0_2 (F := Ideal)) L main_v31) (constant (F := Ideal) S_ .f32 0x00000000#32) reducesTo_S8x8192x8192_S8x8192_d2 h_S_) := by
  after_reads_simp

theorem read2_sum : StableHlo.after (hostOps0_2 (F := Ideal)) L main_v38 = addf (F := Ideal) (φ := .f32) (StableHlo.after (hostOps0_2 (F := Ideal)) L main_v28)
    (Host.log (F := Ideal) (φ := .f32) (StableHlo.after (hostOps0_2 (F := Ideal)) L main_v33)) := by
  after_reads_simp

/-- One row of the masked scores. -/
def row (h : Fin 8) (i : Fin 8192) : Fin 8192 → EReal := fun j => L main_v26 (ix3 h i j)

theorem h2_max (h : Fin 8) (i : Fin 8192) : StableHlo.after (hostOps0_2 (F := Ideal)) L main_v28 (ix3 h i 0)
    = Finset.univ.fold (max : EReal → EReal → EReal) (Ideal.ofBits .f32 0xFF800000#32) (row L h i) := by
  rw [read2_max]
  pointwise
  rfl

theorem h2_exp (h : Fin 8) (i j : Fin 8192) : StableHlo.after (hostOps0_2 (F := Ideal)) L main_v31 (ix3 h i j)
    = Ideal.exp (row L h i j - Finset.univ.fold (max : EReal → EReal → EReal) (Ideal.ofBits .f32 0xFF800000#32) (row L h i)) := by
  rw [read2_exp]
  pointwise
  rw [h2_max]
  rfl

theorem h2_tot (h : Fin 8) (i : Fin 8192) : StableHlo.after (hostOps0_2 (F := Ideal)) L main_v33 (ix3 h i 0)
    = ∑ j : Fin 8192, Ideal.exp (row L h i j - Finset.univ.fold (max : EReal → EReal → EReal) (Ideal.ofBits .f32 0xFF800000#32) (row L h i)) := by
  rw [read2_tot]
  pointwise
  exact congrArg (fun f : Fin 8192 → EReal => ∑ j, f j) (funext fun j => h2_exp L h i j)

theorem sum_at (A B : (⟨S8x8192x1, .f32⟩ : BufTy).Contents (Elt Ideal)) (x : S8x8192x1.Idx) :
    (addf (F := Ideal) (φ := .f32) A (Host.log (F := Ideal) (φ := .f32) B)) x = ((A x : EReal) + Ideal.log (B x) : EReal) := rfl

theorem h2_sum (hv : ∀ h i j, L main_v26 (ix3 h i j) = if j ≤ i then (((H h).score i j : ℝ) : EReal) else ⊥) (h : Fin 8) (i : Fin 8192) :
    StableHlo.after (hostOps0_2 (F := Ideal)) L main_v38 (ix3 h i 0) = ((Real.log ((H h).mass i) : ℝ) : EReal) := by
  have e := lse_real (f := row L h i) (hv h i)
  rw [← h2_tot, ← h2_max] at e
  rw [read2_sum]
  exact (sum_at _ _ _).trans e

theorem read2_lse : StableHlo.after (hostOps0_2 (F := Ideal)) L main_v51 = broadcastInDim S8x1x8192 ![0, 2] bcast_S8x8192_S8x1x8192_0_2
    (Host.divf (F := Ideal) (shapeCast S8x8192 (StableHlo.after (hostOps0_2 (F := Ideal)) L main_v38) shapeCasts_S8x8192x1_S8x8192)
      (broadcastInDim S8x8192 ![] bcast_S_S8x8192 (Host.log (F := Ideal) (constant (F := Ideal) S_ .f32 0x40000000#32)))) := by
  after_reads_simp
  rfl

theorem lse_at {X : (⟨S8x8192x1, .f32⟩ : BufTy).Contents (Elt Ideal)} (hX : ∀ h i, X (ix3 h i 0) = ((Real.log ((H h).mass i) : ℝ) : EReal)) (h : Fin 8) (i : Fin 8192) :
    (broadcastInDim S8x1x8192 ![0, 2] bcast_S8x8192_S8x1x8192_0_2
    (Host.divf (F := Ideal) (shapeCast S8x8192 X shapeCasts_S8x8192x1_S8x8192)
      (broadcastInDim S8x8192 ![] bcast_S_S8x8192 (Host.log (F := Ideal) (constant (F := Ideal) S_ .f32 0x40000000#32))))) (ix3 h 0 i)
      = ((Real.log ((H h).mass i) * (1 / Real.log 2) : ℝ) : EReal) := by
  pointwise
  rw [hX, bits_two, Ideal.log_coe, if_neg (by norm_num), Ideal.div_coe (Real.log_pos one_lt_two).ne', EReal.coe_mul]

theorem h2_delta (hv : ∀ h i j, L main_v26 (ix3 h i j) = if j ≤ i then (((H h).score i j : ℝ) : EReal) else ⊥)
    (ho : ∀ h i d, L main_arg2 (ix2 i ⟨(h : Fin 8).1 * 128 + (d : Fin 128).1, by omega⟩) = (((H h).o i d : ℝ) : EReal))
    (hw : ∀ h i d, L main_v8 (ix3 h i d) = (((H h).v i d : ℝ) : EReal)) (h : Fin 8) (i : Fin 8192) :
    StableHlo.after (hostOps0_2 (F := Ideal)) L main_v52 (ix3 h 0 i) = (((H h).del i : ℝ) : EReal) := by
  after_reads_simp
  pointwise
  exact delta_real (hv h i) (ho h i) (hw h)

theorem h2_gate (hc : ∀ h i, L main_arg1 (ix2 h i) = (((H h).c i : ℝ) : EReal)) (h : Fin 8) (i : Fin 8192) :
    StableHlo.after (hostOps0_2 (F := Ideal)) L main_v48 (ix3 h 0 i) = (((H h).c i : ℝ) : EReal) := by
  after_reads_simp
  pointwise
  exact hc h i

theorem h2_gates (hc : ∀ h i, L main_arg1 (ix2 h i) = (((H h).c i : ℝ) : EReal)) (h : Fin 8) (i : Fin 8192) (d : Fin 128) :
    StableHlo.after (hostOps0_2 (F := Ideal)) L main_v50 (ix3 h i d) = (((H h).c i : ℝ) : EReal) := by
  after_reads_simp
  pointwise
  exact hc h i

theorem after_app : ∀ (l l' : List (HloOp τ sig (Elt Ideal))) (V : Valuation τ sig (Elt Ideal)), StableHlo.after (l ++ l') V = StableHlo.after l' (StableHlo.after l V)
  | [], _, _ => rfl
  | _ :: l, l', _ => after_app l l' _

/-- What the kernel is handed: the arguments, the gates, the log-sums and the sums of cotangent times output. -/
structure Handed (H : Fin 8 → Head) : Prop where
  gate : ∀ h i, L main_v48 (ix3 h 0 i) = (((H h).c i : ℝ) : EReal)
  gates : ∀ h i d, L main_v50 (ix3 h i d) = (((H h).c i : ℝ) : EReal)
  lse : ∀ h i, L main_v51 (ix3 h 0 i) = ((Real.log ((H h).mass i) * (1 / Real.log 2) : ℝ) : EReal)
  delta : ∀ h i, L main_v52 (ix3 h 0 i) = (((H h).del i : ℝ) : EReal)

theorem handed (hA : Given H (fun i c => L main_arg0 (ix2 i c)) (fun h i => L main_arg1 (ix2 h i)) (fun i c => L main_arg2 (ix2 i c))) :
    Handed (StableHlo.after (hostLists (F := Ideal)).flatten L) H := by
  have s0 := h0_score L hA
  have v0 := h0_v L hA
  have k0 := h0_mask L
  have b0 := h0_bot L
  have e1 : StableHlo.after (hostOps0 (F := Ideal)) L main_arg1 = L main_arg1 := by after_reads_simp
  have e2 : StableHlo.after (hostOps0 (F := Ideal)) L main_arg2 = L main_arg2 := by after_reads_simp
  have c0 := fun h i => (congrFun e1 (ix2 h i)).trans (hA.c h i)
  have o0 := fun h i d => (congrFun e2 _).trans (hA.o h i d)
  simp only [List.flatten_cons, List.flatten_nil, List.append_nil]
  rw [after_app, after_app]
  generalize StableHlo.after (hostOps0 (F := Ideal)) L = L0 at *
  have v1 := h1_val L0 s0 k0 b0
  have e3 : StableHlo.after (hostOps0_1 (F := Ideal)) L0 main_arg1 = L0 main_arg1 := by after_reads_simp
  have e4 : StableHlo.after (hostOps0_1 (F := Ideal)) L0 main_arg2 = L0 main_arg2 := by after_reads_simp
  have e5 : StableHlo.after (hostOps0_1 (F := Ideal)) L0 main_v8 = L0 main_v8 := by after_reads_simp
  have c1 := fun h i => (congrFun e3 (ix2 h i)).trans (c0 h i)
  have o1 := fun h i d => (congrFun e4 _).trans (o0 h i d)
  have w1 := fun h i d => (congrFun e5 (ix3 h i d)).trans (v0 h i d)
  generalize StableHlo.after (hostOps0_1 (F := Ideal)) L0 = L1 at *
  exact {
    gate := h2_gate L1 c1
    gates := h2_gates L1 c1
    lse := fun h i => by
      rw [read2_lse]
      exact lse_at (h2_sum L1 v1) h i
    delta := h2_delta L1 v1 o1 w1 }

end Cert.Fox
-- ==== Proof.PairRun.lean ====
/-
  The sums over the whole run: the blocks of every point hold blocks of four heads, so after every point the sums are in
  closed form.
-/
module

public import proofs.«01_k».proof.Proof.PairSum
public import proofs.«01_k».proof.Proof.HostVal
public import proofs.«01_k».proof.Proof.Args
public import proofs.«01_k».proof.Proof.Gives

@[expose] public section

noncomputable section

namespace Cert.Fox

open Cert.KernelIdeal Cert.KernelIdeal.Gen
open Idealize.ShloMosaic Idealize.SL.Sem Idealize.ShloMosaic.TcCoe
open Facts

/-- Head `g` of sweep `z`. -/
def hz (z : Fin 2) (g : Fin 4) : Fin 8 := ⟨4 * z.1 + g.1, by omega⟩

variable (m : (ℓ : Loc nD τ sig) → Buf (Elt Ideal) ℓ) (c : Dev nD) (t : Fin (cfgA (F := Ideal)).N)

/-- The sweep, the query block and the key block of a point. -/
abbrev sw (t : Fin (cfgA (F := Ideal)).N) : Fin 2 := sweep (grid0.coords t)
abbrev nq (t : Fin (cfgA (F := Ideal)).N) : Fin 16 := iq (prow (grid0.coords t))
abbrev nk (t : Fin (cfgA (F := Ideal)).N) : Fin 16 := ik (prow (grid0.coords t))

theorem q_blk (g : Fin 4) (r : Fin 512) (d : Fin 128) : (winAt m c t).q (ix2 r (col g d))
    = V m c main_arg0 (ix2 (at512 (nq t) r) ⟨(hz (sw t) g).1 * 128 + d.1, by have := (hz (sw t) g).2; omega⟩) := by
  refine congrArg (V m c main_arg0) (funext fun a => Fin.ext ?_)
  refine (Pipeline.Window.rect_emb_val ((cfgA (F := Ideal)).win 0) t _ a).trans ?_
  fin_cases a
  · show cc0_transform_0 (F := Ideal) k0_off1_inb numel1_S1 pf (grid0.coords t) 0 * 512 + r.1 = 512 * (nq t).1 + r.1
    rw [tr0]
    exact congrArg (· + _) (Nat.mul_comm _ _)
  · show cc0_transform_0 (F := Ideal) k0_off1_inb numel1_S1 pf (grid0.coords t) 1 * 512 + (128 * g.1 + d.1) = (4 * (sw t).1 + g.1) * 128 + d.1
    rw [tr0]
    show ((sw t).1) * 512 + _ = _
    omega

theorem k_blk (g : Fin 4) (r : Fin 512) (d : Fin 128) : (winAt m c t).k (ix2 r (col g d))
    = V m c main_arg0 (ix2 (at512 (nk t) r) ⟨1024 + ((hz (sw t) g).1 * 128 + d.1), by have := (hz (sw t) g).2; omega⟩) := by
  refine congrArg (V m c main_arg0) (funext fun a => Fin.ext ?_)
  refine (Pipeline.Window.rect_emb_val ((cfgA (F := Ideal)).win 1) t _ a).trans ?_
  fin_cases a
  · show cc0_transform_1 (F := Ideal) k0_off1_inb numel1_S1 pf (grid0.coords t) 0 * 512 + r.1 = 512 * (nk t).1 + r.1
    rw [tr1]
    exact congrArg (· + _) (Nat.mul_comm _ _)
  · show cc0_transform_1 (F := Ideal) k0_off1_inb numel1_S1 pf (grid0.coords t) 1 * 512 + (128 * g.1 + d.1) = 1024 + ((4 * (sw t).1 + g.1) * 128 + d.1)
    rw [tr1]
    show (2 + (sw t).1) * 512 + _ = _
    omega

theorem v_blk (g : Fin 4) (r : Fin 512) (d : Fin 128) : (winAt m c t).v (ix2 r (col g d))
    = V m c main_arg0 (ix2 (at512 (nk t) r) ⟨2048 + ((hz (sw t) g).1 * 128 + d.1), by have := (hz (sw t) g).2; omega⟩) := by
  refine congrArg (V m c main_arg0) (funext fun a => Fin.ext ?_)
  refine (Pipeline.Window.rect_emb_val ((cfgA (F := Ideal)).win 2) t _ a).trans ?_
  fin_cases a
  · show cc0_transform_2 (F := Ideal) k0_off1_inb numel1_S1 pf (grid0.coords t) 0 * 512 + r.1 = 512 * (nk t).1 + r.1
    rw [tr2]
    exact congrArg (· + _) (Nat.mul_comm _ _)
  · show cc0_transform_2 (F := Ideal) k0_off1_inb numel1_S1 pf (grid0.coords t) 1 * 512 + (128 * g.1 + d.1) = 2048 + ((4 * (sw t).1 + g.1) * 128 + d.1)
    rw [tr2]
    show (4 + (sw t).1) * 512 + _ = _
    omega

theorem ct_blk (g : Fin 4) (r : Fin 512) (d : Fin 128) : (winAt m c t).ct (ix2 r (col g d))
    = V m c main_arg2 (ix2 (at512 (nq t) r) ⟨(hz (sw t) g).1 * 128 + d.1, by have := (hz (sw t) g).2; omega⟩) := by
  refine congrArg (V m c main_arg2) (funext fun a => Fin.ext ?_)
  refine (Pipeline.Window.rect_emb_val ((cfgA (F := Ideal)).win 3) t _ a).trans ?_
  fin_cases a
  · show cc0_transform_3 (F := Ideal) k0_off1_inb numel1_S1 pf (grid0.coords t) 0 * 512 + r.1 = 512 * (nq t).1 + r.1
    rw [tr3]
    exact congrArg (· + _) (Nat.mul_comm _ _)
  · show cc0_transform_3 (F := Ideal) k0_off1_inb numel1_S1 pf (grid0.coords t) 1 * 512 + (128 * g.1 + d.1) = (4 * (sw t).1 + g.1) * 128 + d.1
    rw [tr3]
    show ((sw t).1) * 512 + _ = _
    omega

theorem cq_blk (g : Fin 4) (r : Fin 512) : (winAt m c t).cq (ix3 g 0 r) = V m c main_v48 (ix3 (hz (sw t) g) 0 (at512 (nq t) r)) := by
  refine congrArg (V m c main_v48) (funext fun a => Fin.ext ?_)
  refine (Pipeline.Window.rect_emb_val ((cfgA (F := Ideal)).win 4) t _ a).trans ?_
  fin_cases a
  · show cc0_transform_4 (F := Ideal) k0_off1_inb numel1_S1 pf (grid0.coords t) 0 * 4 + g.1 = 4 * (sw t).1 + g.1
    rw [tr4]
    exact congrArg (· + _) (Nat.mul_comm _ _)
  · show cc0_transform_4 (F := Ideal) k0_off1_inb numel1_S1 pf (grid0.coords t) 1 * 1 + 0 = 0
    rw [tr4]
    rfl
  · show cc0_transform_4 (F := Ideal) k0_off1_inb numel1_S1 pf (grid0.coords t) 2 * 512 + r.1 = 512 * (nq t).1 + r.1
    rw [tr4]
    exact congrArg (· + _) (Nat.mul_comm _ _)

theorem ck_blk (g : Fin 4) (r : Fin 512) (d : Fin 128) : (winAt m c t).ck (ix3 g r d) = V m c main_v50 (ix3 (hz (sw t) g) (at512 (nk t) r) d) := by
  refine congrArg (V m c main_v50) (funext fun a => Fin.ext ?_)
  refine (Pipeline.Window.rect_emb_val ((cfgA (F := Ideal)).win 5) t _ a).trans ?_
  fin_cases a
  · show cc0_transform_5 (F := Ideal) k0_off1_inb numel1_S1 pf (grid0.coords t) 0 * 4 + g.1 = 4 * (sw t).1 + g.1
    rw [tr5]
    exact congrArg (· + _) (Nat.mul_comm _ _)
  · show cc0_transform_5 (F := Ideal) k0_off1_inb numel1_S1 pf (grid0.coords t) 1 * 512 + r.1 = 512 * (nk t).1 + r.1
    rw [tr5]
    exact congrArg (· + _) (Nat.mul_comm _ _)
  · show cc0_transform_5 (F := Ideal) k0_off1_inb numel1_S1 pf (grid0.coords t) 2 * 128 + d.1 = d.1
    rw [tr5]
    exact Nat.zero_add _

theorem lse_blk (g : Fin 4) (r : Fin 512) : (winAt m c t).lse (ix3 g 0 r) = V m c main_v51 (ix3 (hz (sw t) g) 0 (at512 (nq t) r)) := by
  refine congrArg (V m c main_v51) (funext fun a => Fin.ext ?_)
  refine (Pipeline.Window.rect_emb_val ((cfgA (F := Ideal)).win 6) t _ a).trans ?_
  fin_cases a
  · show cc0_transform_6 (F := Ideal) k0_off1_inb numel1_S1 pf (grid0.coords t) 0 * 4 + g.1 = 4 * (sw t).1 + g.1
    rw [tr6]
    exact congrArg (· + _) (Nat.mul_comm _ _)
  · show cc0_transform_6 (F := Ideal) k0_off1_inb numel1_S1 pf (grid0.coords t) 1 * 1 + 0 = 0
    rw [tr6]
    rfl
  · show cc0_transform_6 (F := Ideal) k0_off1_inb numel1_S1 pf (grid0.coords t) 2 * 512 + r.1 = 512 * (nq t).1 + r.1
    rw [tr6]
    exact congrArg (· + _) (Nat.mul_comm _ _)

theorem delta_blk (g : Fin 4) (r : Fin 512) : (winAt m c t).delta (ix3 g 0 r) = V m c main_v52 (ix3 (hz (sw t) g) 0 (at512 (nq t) r)) := by
  refine congrArg (V m c main_v52) (funext fun a => Fin.ext ?_)
  refine (Pipeline.Window.rect_emb_val ((cfgA (F := Ideal)).win 7) t _ a).trans ?_
  fin_cases a
  · show cc0_transform_7 (F := Ideal) k0_off1_inb numel1_S1 pf (grid0.coords t) 0 * 4 + g.1 = 4 * (sw t).1 + g.1
    rw [tr7]
    exact congrArg (· + _) (Nat.mul_comm _ _)
  · show cc0_transform_7 (F := Ideal) k0_off1_inb numel1_S1 pf (grid0.coords t) 1 * 1 + 0 = 0
    rw [tr7]
    rfl
  · show cc0_transform_7 (F := Ideal) k0_off1_inb numel1_S1 pf (grid0.coords t) 2 * 512 + r.1 = 512 * (nq t).1 + r.1
    rw [tr7]
    exact congrArg (· + _) (Nat.mul_comm _ _)

/-- The arrays the kernel is handed, of the heads `H`. -/
structure Hands (H : Fin 8 → Head) : Prop where
  given : Given H (fun i j => V m c main_arg0 (ix2 i j)) (fun h i => V m c main_arg1 (ix2 h i)) (fun i j => V m c main_arg2 (ix2 i j))
  handed : Handed (StableHlo.after (hostLists (F := Ideal)).flatten (fun b => m (c, b))) H

variable {m c}
variable {H : Fin 8 → Head} (hH : Hands m c H)
include hH

theorem hold_q (g : Fin 4) (r : Fin 512) (d : Fin 128) : (winAt m c t).q (ix2 r (col g d)) = (((H (hz (sw t) g)).q (at512 (nq t) r) d : ℝ) : EReal) := by
  rw [q_blk m c t g r d]
  exact hH.given.q _ _ _
theorem hold_k (g : Fin 4) (r : Fin 512) (d : Fin 128) : (winAt m c t).k (ix2 r (col g d)) = (((H (hz (sw t) g)).k (at512 (nk t) r) d : ℝ) : EReal) := by
  rw [k_blk m c t g r d]
  exact hH.given.k _ _ _
theorem hold_v (g : Fin 4) (r : Fin 512) (d : Fin 128) : (winAt m c t).v (ix2 r (col g d)) = (((H (hz (sw t) g)).v (at512 (nk t) r) d : ℝ) : EReal) := by
  rw [v_blk m c t g r d]
  exact hH.given.v _ _ _
theorem hold_ct (g : Fin 4) (r : Fin 512) (d : Fin 128) : (winAt m c t).ct (ix2 r (col g d)) = (((H (hz (sw t) g)).o (at512 (nq t) r) d : ℝ) : EReal) := by
  rw [ct_blk m c t g r d]
  exact hH.given.o _ _ _
theorem hold_cq (g : Fin 4) (r : Fin 512) : (winAt m c t).cq (ix3 g 0 r) = (((H (hz (sw t) g)).c (at512 (nq t) r) : ℝ) : EReal) := by
  rw [cq_blk m c t g r]
  exact hH.handed.gate _ _
theorem hold_ck (g : Fin 4) (r : Fin 512) (d : Fin 128) : (winAt m c t).ck (ix3 g r d) = (((H (hz (sw t) g)).c (at512 (nk t) r) : ℝ) : EReal) := by
  rw [ck_blk m c t g r d]
  exact hH.handed.gates _ _ _
theorem hold_lse (g : Fin 4) (r : Fin 512) :
    (winAt m c t).lse (ix3 g 0 r) = ((Real.log ((H (hz (sw t) g)).mass (at512 (nq t) r)) * (1 / Real.log 2) : ℝ) : EReal) := by
  rw [lse_blk m c t g r]
  exact hH.handed.lse _ _
theorem hold_delta (g : Fin 4) (r : Fin 512) : (winAt m c t).delta (ix3 g 0 r) = (((H (hz (sw t) g)).del (at512 (nq t) r) : ℝ) : EReal) := by
  rw [delta_blk m c t g r]
  exact hH.handed.delta _ _

theorem holds_at : Holds (fun g => H (hz (sw t) g)) (nq t) (nk t) (winAt m c t) :=
  ⟨hold_q t hH, hold_k t hH, hold_v t hH, hold_ct t hH, hold_cq t hH, hold_ck t hH, hold_lse t hH, hold_delta t hH⟩

/-- After every point the sums are in closed form. -/
theorem sums_at : ∀ (n : ℕ) (h : n < grid0.N), Upto (fun g => H (hz (sw ⟨n, h⟩) g)) (prow (grid0.coords ⟨n, h⟩)) (sums m c (n + 1))
  | n, h => by
    rw [sums_succ m c ⟨n, h⟩]
    refine step_upto (holds_at ⟨n, h⟩ hH) _ fun hp => ?_
    have hN : grid0.N = 272 := N_0
    have e := coords_prow ⟨n, h⟩
    have hn : n ≠ 0 := fun e0 => hp (e.trans (by subst e0; rfl))
    obtain ⟨k, rfl⟩ := Nat.exists_eq_succ_of_ne_zero hn
    have hk : k < grid0.N := Nat.lt_of_succ_lt h
    have ih := sums_at k hk
    have e' := coords_prow ⟨k, hk⟩
    have hs : sw ⟨k, hk⟩ = sw ⟨k + 1, h⟩ := Fin.ext (by
      rw [sw, sw, coords_sweep, coords_sweep]
      show k / 136 % 2 = (k + 1) / 136 % 2
      rw [e] at hp
      dsimp only at hp
      omega)
    have hpr : prow (grid0.coords ⟨k, hk⟩) = ⟨(prow (grid0.coords ⟨k + 1, h⟩)).val - 1, by omega⟩ := Fin.ext (by
      rw [e']
      show k % 136 = (prow (grid0.coords ⟨k + 1, h⟩)).val - 1
      rw [e] at hp ⊢
      dsimp only at hp ⊢
      omega)
    rw [hs, hpr] at ih
    exact ih

end Cert.Fox
-- ==== Proof.Outs.lean ====
/-
  What goes out: of sums in closed form, the blocks written back are the gradients' blocks.
-/
module

public import proofs.«01_k».proof.Proof.PairRun

@[expose] public section

noncomputable section

namespace Cert.Fox

open Cert.KernelIdeal Cert.KernelIdeal.Gen
open Idealize.ShloMosaic Idealize.SL.Sem Idealize.ShloMosaic.TcCoe
open Facts

theorem named_ln2 : Named.named (F := Ideal) (φ := .f32) κ "ln2" 0x3F317218#32 = ((Real.log 2 : ℝ) : EReal) := IdealRules.named_const.ideal_named_scalar _ _ _ _ rfl
theorem named_scale : Named.named (F := Ideal) (φ := .f32) κ "scale" 0x3DB504F3#32 = (((Real.sqrt 128)⁻¹ : ℝ) : EReal) := IdealRules.named_const.ideal_named_scalar _ _ _ _ rfl

theorem beside_at (a : Vec Ideal S4x512x128 .f32) (r : Fin 512) (g : Fin 4) (d : Fin 128) : beside a (ix2 r (col g d)) = a (ix3 g r d) := by
  refine congrArg a (funext fun b => Fin.ext ?_)
  fin_cases b
  · show (128 * g.1 + d.1) / 128 = g.1; omega
  · rfl
  · show (128 * g.1 + d.1) % 128 = d.1; omega

theorem outDk_at (a : Vec Ideal S4x512x128 .f32) (r : Fin 512) (g : Fin 4) (d : Fin 128) : outDk a (ix2 r (col g d)) = a (ix3 g r d) * ((Real.log 2 : ℝ) : EReal) := by
  rw [← beside_at a r g d, ← named_ln2]
  unfold outDk
  pointwise

theorem outDv_at (a : Vec Ideal S4x512x128 .f32) (r : Fin 512) (g : Fin 4) (d : Fin 128) : outDv a (ix2 r (col g d)) = a (ix3 g r d) := by
  rw [← beside_at a r g d]
  unfold outDv
  pointwise

theorem dqOut_at (X : Vec Ideal S4x8192x128 .f32) (g : Fin 4) (i : Fin 8192) (d : Fin 128) : dqOut X (ix3 g i d) = X (ix3 g i d) * (((Real.sqrt 128)⁻¹ : ℝ) : EReal) := by
  rw [← named_scale]
  unfold dqOut
  pointwise

/-- A sum over one place of a row. -/
theorem diag_sum (f : Fin 512 → EReal) (l : Fin 512) :
    ∑ x : Fin 512, Scalar.select (IntOp.cmpi CmpIPredicate.eq (BitVec.ofNat 32 x.1) (BitVec.ofNat 32 l.1)) (f x) 0 = f l := by
  refine (Finset.sum_eq_single l (fun x _ hx => ?_) fun h => absurd (Finset.mem_univ l) h).trans ?_
  · rw [WordCmp.cmpi_eq_ofNat (by have := x.2; omega) (by have := l.2; omega), decide_eq_false (fun e => hx (Fin.ext e))]
    rfl
  · rw [WordCmp.cmpi_eq_ofNat (by have := l.2; omega) (by have := l.2; omega), decide_eq_true rfl]
    rfl

theorem rowDck_at (a : Vec Ideal S1x512x1 .f32) (l : Fin 512) : rowDck a (ix3 0 0 l) = 0 - a (ix3 0 l 0) := by
  unfold rowDck
  pointwise
  exact diag_sum (fun x => 0 - a (ix3 0 x 0)) l

theorem outDck_at (a : Vec Ideal S4x512x1 .f32) (g : Fin 4) (l : Fin 512) : outDck a (ix3 g 0 l) = 0 - a (ix3 g l 0) := by
  unfold outDck dckAt
  refine (rowDck_at _ _).trans (congrArg (0 - ·) (congrArg a (funext fun b => Fin.ext ?_)))
  fin_cases b
  · show g.1 + 1 * 0 = g.1; omega
  · show 0 + 1 * l.1 = l.1; omega
  · rfl

theorem rows_in (z g : ℕ) (hg : g + 1 ≤ 4) (hK : 8192 ≤ 8192) (D : Vec Ideal S4x8192x128 .bf16) (Y : Vec Ideal S8x8192x128 .bf16)
    (h : Fin 8) (i : Fin 8192) (d : Fin 128) (e : h.1 = 4 * z + g) : rows z g 8192 hg hK D Y (ix3 h i d) = D (ix3 ⟨g, by omega⟩ i d) := by
  have hin : ∀ a, (![4 * z + g, 0, 0] : Fin 3 → ℕ) a ≤ ((ix3 h i d : S8x8192x128.Idx) a).val ∧ ((ix3 h i d : S8x8192x128.Idx) a).val < (![4 * z + g, 0, 0] : Fin 3 → ℕ) a + (![1, 8192, 128] : Fin 3 → ℕ) a := by
    intro a
    fin_cases a
    · show 4 * z + g ≤ h.1 ∧ h.1 < 4 * z + g + 1; omega
    · show 0 ≤ i.1 ∧ i.1 < 0 + 8192; omega
    · show 0 ≤ d.1 ∧ d.1 < 0 + 128; omega
  unfold rows
  rw [VecWindow.put, dif_pos hin]
  refine congrArg D (funext fun a => Fin.ext ?_)
  fin_cases a
  · show g + 1 * (h.1 - (4 * z + g)) = g; omega
  · show 0 + 1 * (i.1 - 0) = i.1; omega
  · show 0 + 1 * (d.1 - 0) = d.1; omega

theorem rows_out (z g : ℕ) (hg : g + 1 ≤ 4) (hK : 8192 ≤ 8192) (D : Vec Ideal S4x8192x128 .bf16) (Y : Vec Ideal S8x8192x128 .bf16)
    (h : Fin 8) (i : Fin 8192) (d : Fin 128) (e : h.1 ≠ 4 * z + g) : rows z g 8192 hg hK D Y (ix3 h i d) = Y (ix3 h i d) := by
  have hout : ¬∀ a, (![4 * z + g, 0, 0] : Fin 3 → ℕ) a ≤ ((ix3 h i d : S8x8192x128.Idx) a).val ∧ ((ix3 h i d : S8x8192x128.Idx) a).val < (![4 * z + g, 0, 0] : Fin 3 → ℕ) a + (![1, 8192, 128] : Fin 3 → ℕ) a := by
    intro hall
    have h0 : 4 * z + g ≤ h.1 ∧ h.1 < 4 * z + g + 1 := hall 0
    omega
  unfold rows
  rw [VecWindow.put, dif_neg hout]

theorem sent_at (z z' : Fin 2) (g : Fin 4) (D : Vec Ideal S4x8192x128 .f32) (Y : Vec Ideal S8x8192x128 .bf16) (i : Fin 8192) (d : Fin 128) :
    sent z.1 z.2 D Y (ix3 (hz z' g) i d) = if z' = z then dqOut D (ix3 g i d) else Y (ix3 (hz z' g) i d) := by
  have hh : (hz z' g).1 = 4 * z'.1 + g.1 := rfl
  unfold sent
  by_cases hzz : z' = z
  · subst hzz
    rw [if_pos rfl]
    match g, hh with
    | 0, hh => rw [rows_out _ _ _ _ _ _ _ _ _ (by rw [hh]; show 4 * z'.1 + 0 ≠ _; omega), rows_out _ _ _ _ _ _ _ _ _ (by rw [hh]; show 4 * z'.1 + 0 ≠ _; omega), rows_out _ _ _ _ _ _ _ _ _ (by rw [hh]; show 4 * z'.1 + 0 ≠ _; omega), rows_in z'.1 0 _ _ _ _ _ _ _ hh]
               rfl
    | 1, hh => rw [rows_out _ _ _ _ _ _ _ _ _ (by rw [hh]; show 4 * z'.1 + 1 ≠ _; omega), rows_out _ _ _ _ _ _ _ _ _ (by rw [hh]; show 4 * z'.1 + 1 ≠ _; omega), rows_in z'.1 1 _ _ _ _ _ _ _ hh]
               rfl
    | 2, hh => rw [rows_out _ _ _ _ _ _ _ _ _ (by rw [hh]; show 4 * z'.1 + 2 ≠ _; omega), rows_in z'.1 2 _ _ _ _ _ _ _ hh]
               rfl
    | 3, hh => rw [rows_in z'.1 3 _ _ _ _ _ _ _ hh]
               rfl
  · rw [if_neg hzz]
    have hne : z'.1 ≠ z.1 := fun e => hzz (Fin.ext e)
    rw [rows_out _ _ _ _ _ _ _ _ _ (by rw [hh]; omega), rows_out _ _ _ _ _ _ _ _ _ (by rw [hh]; omega), rows_out _ _ _ _ _ _ _ _ _ (by rw [hh]; omega), rows_out _ _ _ _ _ _ _ _ _ (by rw [hh]; omega)]

/-! ### The whole sums -/

variable (H : Head)

theorem dk_whole (j : Fin 8192) (d : Fin 128) :
    ((upto 8192 fun i => H.ds i j * (H.q i d * ((Real.log 2)⁻¹ * (Real.sqrt 128)⁻¹)) : ℝ) : EReal) * ((Real.log 2 : ℝ) : EReal) = ((H.dk j d : ℝ) : EReal) := by
  have hl : Real.log 2 ≠ 0 := (Real.log_pos one_lt_two).ne'
  rw [← EReal.coe_mul, upto_all, Finset.sum_mul, Head.dk]
  refine congrArg _ (Finset.sum_congr rfl fun i _ => ?_)
  field_simp

theorem dq_whole (n : Fin 16) (r : Fin 512) (d : Fin 128) :
    ((upto (512 * (n.1 + 1)) fun j => H.ds (at512 n r) j * H.k j d : ℝ) : EReal) * (((Real.sqrt 128)⁻¹ : ℝ) : EReal) = ((H.dq (at512 n r) d : ℝ) : EReal) := by
  rw [← upto_more (n' := 8192) (by omega) _ fun j hj _ => by rw [H.ds_off (show 512 * n.1 + r.1 < j.1 by omega), zero_mul]]
  rw [← EReal.coe_mul, upto_all, Finset.sum_mul, Head.dq]
  refine congrArg _ (Finset.sum_congr rfl fun i _ => ?_)
  field_simp

theorem dcq_whole (n : Fin 16) (r : Fin 512) : (upto (512 * (n.1 + 1)) fun j => H.ds (at512 n r) j) = H.dcq (at512 n r) := by
  rw [← upto_more (n' := 8192) (by omega) _ fun j hj _ => H.ds_off (show 512 * n.1 + r.1 < j.1 by omega)]
  exact upto_all _

theorem dck_whole (j : Fin 8192) : (0 : EReal) - ((upto 8192 fun i => H.ds i j : ℝ) : EReal) = ((H.dck j : ℝ) : EReal) := by
  rw [zero_sub, ← EReal.coe_neg, upto_all, Head.dck, Finset.sum_neg_distrib]

end Cert.Fox
-- ==== Proof.Arrays.lean ====
/-
  The result arrays after the run: the five gradients of the eight heads.
-/
module

public import proofs.«01_k».proof.Proof.Outs

@[expose] public section

noncomputable section

namespace Cert.Fox

open Cert.KernelIdeal Cert.KernelIdeal.Gen
open Idealize.ShloMosaic Idealize.SL.Sem Idealize.ShloMosaic.TcCoe
open Facts

variable (m : (ℓ : Loc nD τ sig) → Buf (Elt Ideal) ℓ) (c : Dev nD) (t : Fin (cfgA (F := Ideal)).N)

/-! ### The points that write back -/

theorem col_of (l : Fin 512) : ∃ g d, l = col g d :=
  ⟨⟨l.1 / 128, by omega⟩, ⟨l.1 % 128, by omega⟩, Fin.ext (by show l.1 = 128 * (l.1 / 128) + l.1 % 128; omega)⟩

theorem next_other : ∀ p : Fin 136, (iq p).val = 15 → (p.val = 135 ∧ (ik p).val = 15) ∨ ∃ h : p.val + 1 < 136, ik ⟨p.val + 1, h⟩ ≠ ik p := by decide +kernel
theorem ik_first : ∀ p : Fin 136, p.val = 0 → (ik p).val = 0 := by decide +kernel
theorem iq_last : ∀ p : Fin 136, p.val = 135 → (iq p).val = 15 := by decide +kernel

/-- After a column's last pair comes another key block, or the end. -/
theorem last_moves (h15 : (nq t).val = 15) : t.val + 1 = grid0.N ∨ ∃ h : t.val + 1 < grid0.N, nk ⟨t.val + 1, h⟩ ≠ nk t := by
  have hN : grid0.N = 272 := N_0
  have ht : t.val < grid0.N := t.isLt
  have e := coords_prow t
  by_cases hend : t.val + 1 = grid0.N
  · exact .inl hend
  have h : t.val + 1 < grid0.N := by omega
  refine .inr ⟨h, ?_⟩
  have e' : (prow (grid0.coords ⟨t.val + 1, h⟩)).val = (t.val + 1) % 136 := coords_prow ⟨t.val + 1, h⟩
  rcases next_other _ h15 with ⟨hp, hk⟩ | ⟨hlt, hne⟩
  · intro eq
    have h0 := ik_first (prow (grid0.coords ⟨t.val + 1, h⟩)) (by omega)
    have : (nk ⟨t.val + 1, h⟩).val = (nk t).val := congrArg _ eq
    rw [nk, nk] at this
    omega
  · have : prow (grid0.coords ⟨t.val + 1, h⟩) = ⟨(prow (grid0.coords t)).val + 1, hlt⟩ := Fin.ext (by rw [e']; show _ = (prow (grid0.coords t)).val + 1; omega)
    rw [nk, this]
    exact hne

theorem flush8' (h15 : (nq t).val = 15) : ((cfgA (F := Ideal)).win 8).flush t = true := by
  rcases last_moves t h15 with he | ⟨h, hne⟩
  · exact (congrArg (fun a => true && (a || _)) (decide_eq_true he)).trans rfl
  · have h2 : ∃ h : t.val + 1 < grid0.N, cc0_transform_8 (F := Ideal) k0_off1_inb numel1_S1 pf (grid0.coords ⟨t.val + 1, h⟩) ≠ cc0_transform_8 (F := Ideal) k0_off1_inb numel1_S1 pf (grid0.coords t) :=
      ⟨h, fun eq => hne (by rw [tr8, tr8] at eq; exact Fin.ext (congrFun eq 0))⟩
    exact (congrArg (fun b => true && (_ || b)) (decide_eq_true h2)).trans (by simp)

theorem flush9' (h15 : (nq t).val = 15) : ((cfgA (F := Ideal)).win 9).flush t = true := by
  rcases last_moves t h15 with he | ⟨h, hne⟩
  · exact (congrArg (fun a => true && (a || _)) (decide_eq_true he)).trans rfl
  · have h2 : ∃ h : t.val + 1 < grid0.N, cc0_transform_9 (F := Ideal) k0_off1_inb numel1_S1 pf (grid0.coords ⟨t.val + 1, h⟩) ≠ cc0_transform_9 (F := Ideal) k0_off1_inb numel1_S1 pf (grid0.coords t) :=
      ⟨h, fun eq => hne (by rw [tr9, tr9] at eq; exact Fin.ext (congrFun eq 0))⟩
    exact (congrArg (fun b => true && (_ || b)) (decide_eq_true h2)).trans (by simp)

theorem flush10' (h15 : (nq t).val = 15) : ((cfgA (F := Ideal)).win 10).flush t = true := by
  rcases last_moves t h15 with he | ⟨h, hne⟩
  · exact (congrArg (fun a => true && (a || _)) (decide_eq_true he)).trans rfl
  · have h2 : ∃ h : t.val + 1 < grid0.N, cc0_transform_10 (F := Ideal) k0_off1_inb numel1_S1 pf (grid0.coords ⟨t.val + 1, h⟩) ≠ cc0_transform_10 (F := Ideal) k0_off1_inb numel1_S1 pf (grid0.coords t) :=
      ⟨h, fun eq => hne (by rw [tr10, tr10] at eq; exact Fin.ext (congrFun eq 2))⟩
    exact (congrArg (fun b => true && (_ || b)) (decide_eq_true h2)).trans (by simp)

/-- Every key block of every sweep has a last pair. -/
theorem last_pair : ∀ b : Fin 16, ∃ p : Fin 136, (iq p).val = 15 ∧ ik p = b := by decide +kernel
theorem last_point (b : Fin 16) (z : Fin 2) : ∃ t : Fin (cfgA (F := Ideal)).N, (nq t).val = 15 ∧ nk t = b ∧ sw t = z := by
  have hN : grid0.N = 272 := N_0
  obtain ⟨p, h15, hb⟩ := last_pair b
  have hlt : 136 * z.val + p.val < grid0.N := by omega
  have hp : prow (grid0.coords ⟨136 * z.val + p.val, hlt⟩) = p := Fin.ext (by
    rw [coords_prow]
    show (136 * z.val + p.val) % 136 = p.val
    omega)
  refine ⟨⟨136 * z.val + p.val, hlt⟩, ?_, ?_, Fin.ext ?_⟩
  · rw [nq, hp, h15]
  · rw [nk, hp, hb]
  · rw [sw, coords_sweep]
    show (136 * z.val + p.val) / 136 % 2 = z.val
    omega

/-! ### Where a block's elements sit -/

/-- The column of head `h`'s place `d`. -/
def flatC (h : Fin 8) (d : Fin 128) : Fin 1024 := ⟨h.1 * 128 + d.1, by omega⟩
theorem hd_flat (h : Fin 8) (d : Fin 128) : hd (flatC h d) = h := Fin.ext (by show (h.1 * 128 + d.1) / 128 = h.1; omega)
theorem pl_flat (h : Fin 8) (d : Fin 128) : pl (flatC h d) = d := Fin.ext (by show (h.1 * 128 + d.1) % 128 = d.1; omega)
theorem split_flat (l : Fin 1024) : ∃ h d, l = flatC h d :=
  ⟨hd l, pl l, Fin.ext (by show l.1 = l.1 / 128 * 128 + l.1 % 128; omega)⟩

theorem emb8 (r : Fin 512) (g : Fin 4) (d : Fin 128) : (((cfgA (F := Ideal)).win 8).blk t).view.emb (ix2 r (col g d))
    = ix2 (at512 (nk t) r) (flatC (hz (sw t) g) d) := by
  funext a
  apply Fin.ext
  refine (Pipeline.Window.rect_emb_val ((cfgA (F := Ideal)).win 8) t _ a).trans ?_
  fin_cases a
  · show cc0_transform_8 (F := Ideal) k0_off1_inb numel1_S1 pf (grid0.coords t) 0 * 512 + r.1 = 512 * (nk t).1 + r.1
    rw [tr8]
    exact congrArg (· + _) (Nat.mul_comm _ _)
  · show cc0_transform_8 (F := Ideal) k0_off1_inb numel1_S1 pf (grid0.coords t) 1 * 512 + (128 * g.1 + d.1) = (4 * (sw t).1 + g.1) * 128 + d.1
    rw [tr8]
    show (sw t).1 * 512 + _ = _
    omega

theorem emb9 (r : Fin 512) (g : Fin 4) (d : Fin 128) : (((cfgA (F := Ideal)).win 9).blk t).view.emb (ix2 r (col g d))
    = ix2 (at512 (nk t) r) (flatC (hz (sw t) g) d) := by
  funext a
  apply Fin.ext
  refine (Pipeline.Window.rect_emb_val ((cfgA (F := Ideal)).win 9) t _ a).trans ?_
  fin_cases a
  · show cc0_transform_9 (F := Ideal) k0_off1_inb numel1_S1 pf (grid0.coords t) 0 * 512 + r.1 = 512 * (nk t).1 + r.1
    rw [tr9]
    exact congrArg (· + _) (Nat.mul_comm _ _)
  · show cc0_transform_9 (F := Ideal) k0_off1_inb numel1_S1 pf (grid0.coords t) 1 * 512 + (128 * g.1 + d.1) = (4 * (sw t).1 + g.1) * 128 + d.1
    rw [tr9]
    show (sw t).1 * 512 + _ = _
    omega

theorem emb10 (g : Fin 4) (r : Fin 512) : (((cfgA (F := Ideal)).win 10).blk t).view.emb (ix3 g 0 r) = ix3 (hz (sw t) g) 0 (at512 (nk t) r) := by
  funext a
  apply Fin.ext
  refine (Pipeline.Window.rect_emb_val ((cfgA (F := Ideal)).win 10) t _ a).trans ?_
  fin_cases a
  · show cc0_transform_10 (F := Ideal) k0_off1_inb numel1_S1 pf (grid0.coords t) 0 * 4 + g.1 = 4 * (sw t).1 + g.1
    rw [tr10]
    exact congrArg (· + _) (Nat.mul_comm _ _)
  · show cc0_transform_10 (F := Ideal) k0_off1_inb numel1_S1 pf (grid0.coords t) 1 * 1 + 0 = 0
    rw [tr10]
    rfl
  · show cc0_transform_10 (F := Ideal) k0_off1_inb numel1_S1 pf (grid0.coords t) 2 * 512 + r.1 = 512 * (nk t).1 + r.1
    rw [tr10]
    exact congrArg (· + _) (Nat.mul_comm _ _)

theorem emb11 (g : Fin 4) (n : Fin 16) (r : Fin 512) : (((cfgA (F := Ideal)).win 11).blk t).view.emb (ix4 g n 0 r) = ix4 (hz (sw t) g) n 0 r := by
  funext a
  apply Fin.ext
  refine (Pipeline.Window.rect_emb_val ((cfgA (F := Ideal)).win 11) t _ a).trans ?_
  fin_cases a
  · show cc0_transform_12 (grid0.coords t) 0 * 4 + g.1 = 4 * (sw t).1 + g.1
    rw [tr11]
    exact congrArg (· + _) (Nat.mul_comm _ _)
  · show cc0_transform_12 (grid0.coords t) 1 * 16 + n.1 = n.1
    rw [tr11]
    exact Nat.zero_add _
  · show cc0_transform_12 (grid0.coords t) 2 * 1 + 0 = 0
    rw [tr11]
    rfl
  · show cc0_transform_12 (grid0.coords t) 3 * 512 + r.1 = r.1
    rw [tr11]
    exact Nat.zero_add _

theorem flush11 (hp : (prow (grid0.coords t)).val ≠ 135) : ((cfgA (F := Ideal)).win 11).flush t = false := by
  have hN : grid0.N = 272 := N_0
  have ht : t.val < grid0.N := t.isLt
  have e := coords_prow t
  have h1 : ¬(t.val + 1 = grid0.N) := by omega
  have h2 : ¬(∃ h : t.val + 1 < grid0.N, cc0_transform_12 (grid0.coords ⟨t.val + 1, h⟩) ≠ cc0_transform_12 (grid0.coords t)) := by
    rintro ⟨h, hne⟩
    apply hne
    rw [tr11, tr11, coords_sweep, coords_sweep]
    have : (t.val + 1) / 136 % 2 = t.val / 136 % 2 := by omega
    exact congrArg (fun n => (![n, 0, 0, 0] : Fin 4 → ℕ)) this
  exact (congrArg₂ (fun a b => true && (a || b)) (decide_eq_false h1) (decide_eq_false h2)).trans rfl

theorem flush11' (hp : (prow (grid0.coords t)).val = 135) : ((cfgA (F := Ideal)).win 11).flush t = true := by
  have hN : grid0.N = 272 := N_0
  have ht : t.val < grid0.N := t.isLt
  have e := coords_prow t
  by_cases he : t.val + 1 = grid0.N
  · exact (congrArg (fun a => true && (a || _)) (decide_eq_true he)).trans rfl
  · have h2 : ∃ h : t.val + 1 < grid0.N, cc0_transform_12 (grid0.coords ⟨t.val + 1, h⟩) ≠ cc0_transform_12 (grid0.coords t) := by
      refine ⟨by omega, fun eq => ?_⟩
      rw [tr11, tr11] at eq
      have h0 := congrFun eq 0
      rw [coords_sweep, coords_sweep] at h0
      have h0' : (t.val + 1) / 136 % 2 = t.val / 136 % 2 := h0
      omega
    exact (congrArg (fun b => true && (_ || b)) (decide_eq_true h2)).trans (by simp)

/-! ### Every place is written -/

theorem split512 (i : Fin 8192) : ∃ n r, i = at512 n r :=
  ⟨⟨i.1 / 512, by omega⟩, ⟨i.1 % 512, by omega⟩, Fin.ext (by show i.1 = 512 * (i.1 / 512) + i.1 % 512; omega)⟩
theorem split4 (h : Fin 8) : ∃ z g, h = hz z g :=
  ⟨⟨h.1 / 4, by omega⟩, ⟨h.1 % 4, by omega⟩, Fin.ext (by show h.1 = 4 * (h.1 / 4) + h.1 % 4; omega)⟩

theorem cover8 (i : S8192x1024.Idx) : ∃ t : Fin (cfgA (F := Ideal)).N, ((cfgA (F := Ideal)).win 8).flush t = true ∧ i ∈ (((cfgA (F := Ideal)).win 8).blk t).view.set := by
  obtain ⟨n, r, h0⟩ := split512 (i 0)
  obtain ⟨h, d, h1⟩ := split_flat (i 1)
  obtain ⟨z, g, rfl⟩ := split4 h
  obtain ⟨t, h15, hk, hs⟩ := last_point n z
  refine ⟨t, flush8' t h15, ?_⟩
  have hm := (((cfgA (F := Ideal)).win 8).blk t).view.emb_mem_set (ix2 r (col g d))
  rw [emb8 t r g d] at hm
  have e : i = ix2 (at512 (nk t) r) (flatC (hz (sw t) g) d) := by
    rw [hk, hs]
    funext a
    fin_cases a
    · exact h0
    · exact h1
  rw [e]
  exact hm

theorem cover9 (i : S8192x1024.Idx) : ∃ t : Fin (cfgA (F := Ideal)).N, ((cfgA (F := Ideal)).win 9).flush t = true ∧ i ∈ (((cfgA (F := Ideal)).win 9).blk t).view.set := by
  obtain ⟨n, r, h0⟩ := split512 (i 0)
  obtain ⟨h, d, h1⟩ := split_flat (i 1)
  obtain ⟨z, g, rfl⟩ := split4 h
  obtain ⟨t, h15, hk, hs⟩ := last_point n z
  refine ⟨t, flush9' t h15, ?_⟩
  have hm := (((cfgA (F := Ideal)).win 9).blk t).view.emb_mem_set (ix2 r (col g d))
  rw [emb9 t r g d] at hm
  have e : i = ix2 (at512 (nk t) r) (flatC (hz (sw t) g) d) := by
    rw [hk, hs]
    funext a
    fin_cases a
    · exact h0
    · exact h1
  rw [e]
  exact hm

theorem cover10 (i : S8x1x8192.Idx) : ∃ t : Fin (cfgA (F := Ideal)).N, ((cfgA (F := Ideal)).win 10).flush t = true ∧ i ∈ (((cfgA (F := Ideal)).win 10).blk t).view.set := by
  obtain ⟨z, g, h0⟩ := split4 (i 0)
  obtain ⟨n, r, h2⟩ := split512 (i 2)
  obtain ⟨t, h15, hk, hs⟩ := last_point n z
  refine ⟨t, flush10' t h15, ?_⟩
  have hm := (((cfgA (F := Ideal)).win 10).blk t).view.emb_mem_set (ix3 g 0 r)
  rw [emb10 t g r] at hm
  have e : i = ix3 (hz (sw t) g) 0 (at512 (nk t) r) := by
    rw [hk, hs]
    funext a
    fin_cases a
    · exact h0
    · exact Subsingleton.elim (α := Fin 1) _ _
    · exact h2
  rw [e]
  exact hm

theorem cover11 (i : S8x16x1x512.Idx) : ∃ t : Fin (cfgA (F := Ideal)).N, ((cfgA (F := Ideal)).win 11).flush t = true ∧ i ∈ (((cfgA (F := Ideal)).win 11).blk t).view.set := by
  have hN : grid0.N = 272 := N_0
  obtain ⟨z, g, h0⟩ := split4 (i 0)
  have hlt : 136 * z.val + 135 < grid0.N := by omega
  have hp : (prow (grid0.coords ⟨136 * z.val + 135, hlt⟩)).val = 135 := by
    rw [coords_prow]
    show (136 * z.val + 135) % 136 = 135
    omega
  have hs : sw ⟨136 * z.val + 135, hlt⟩ = z := Fin.ext (by
    rw [sw, coords_sweep]
    show (136 * z.val + 135) / 136 % 2 = z.val
    omega)
  refine ⟨⟨136 * z.val + 135, hlt⟩, flush11' _ hp, ?_⟩
  have hm := (((cfgA (F := Ideal)).win 11).blk ⟨136 * z.val + 135, hlt⟩).view.emb_mem_set (ix4 g (i 1) 0 (i 3))
  rw [emb11 _ g (i 1) (i 3), hs] at hm
  have e : i = ix4 (hz z g) (i 1) 0 (i 3) := by
    funext a
    fin_cases a
    · exact h0
    · rfl
    · exact Subsingleton.elim (α := Fin 1) _ _
    · rfl
  rw [e]
  exact hm

/-! ### The arrays -/

variable {m c}
variable {H : Fin 8 → Head} (hH : Hands m c H)
include hH

theorem dk_block (h15 : (nq t).val = 15) (r : Fin 512) (g : Fin 4) (d : Fin 128) :
    outDk (sums m c (t.val + 1)).dk (ix2 r (col g d)) = (((H (hz (sw t) g)).dk (at512 (nk t) r) d : ℝ) : EReal) := by
  have hU := (sums_at hH t.val t.isLt).dk g r d
  rw [show (iq (prow (grid0.coords ⟨t.val, t.isLt⟩))).val = 15 from h15] at hU
  rw [outDk_at, hU]
  exact dk_whole (H (hz (sw t) g)) (at512 (nk t) r) d

theorem dv_block (h15 : (nq t).val = 15) (r : Fin 512) (g : Fin 4) (d : Fin 128) :
    outDv (sums m c (t.val + 1)).dv (ix2 r (col g d)) = (((H (hz (sw t) g)).dv (at512 (nk t) r) d : ℝ) : EReal) := by
  have hU := (sums_at hH t.val t.isLt).dv g r d
  rw [show (iq (prow (grid0.coords ⟨t.val, t.isLt⟩))).val = 15 from h15] at hU
  rw [outDv_at, hU]
  exact congrArg _ (upto_all _)

theorem dck_block (h15 : (nq t).val = 15) (r : Fin 512) (g : Fin 4) :
    outDck (sums m c (t.val + 1)).dck (ix3 g 0 r) = (((H (hz (sw t) g)).dck (at512 (nk t) r) : ℝ) : EReal) := by
  have hU := (sums_at hH t.val t.isLt).dck g r
  rw [show (iq (prow (grid0.coords ⟨t.val, t.isLt⟩))).val = 15 from h15] at hU
  rw [outDck_at, hU]
  exact dck_whole (H (hz (sw t) g)) (at512 (nk t) r)

theorem dq_block (hp : (prow (grid0.coords t)).val = 135) (g : Fin 4) (n : Fin 16) (r : Fin 512) (d : Fin 128) :
    dqOut (sums m c (t.val + 1)).dq (ix3 g (at512 n r) d) = (((H (hz (sw t) g)).dq (at512 n r) d : ℝ) : EReal) := by
  have hU := (sums_at hH t.val t.isLt).dq g n r d
  rw [show prow (grid0.coords ⟨t.val, t.isLt⟩) = 135 from Fin.ext hp, cnt_last] at hU
  rw [dqOut_at, hU]
  exact dq_whole (H (hz (sw t) g)) n r d

theorem dcq_block (hp : (prow (grid0.coords t)).val = 135) (g : Fin 4) (n : Fin 16) (r : Fin 512) :
    (sums m c (t.val + 1)).dcq (ix4 g n 0 r) = (((H (hz (sw t) g)).dcq (at512 n r) : ℝ) : EReal) := by
  have hU := (sums_at hH t.val t.isLt).dcq g n r
  rw [show prow (grid0.coords ⟨t.val, t.isLt⟩) = 135 from Fin.ext hp, cnt_last] at hU
  rw [hU]
  exact congrArg _ (dcq_whole (H (hz (sw t) g)) n r)

theorem dk_arr (i : S8192x1024.Idx) : (dats m 0 c).arrAt 8 (cfgA (F := Ideal)).N i = (((H (hd (i 1))).dk (i 0) (pl (i 1)) : ℝ) : EReal) := by
  refine (dats m 0 c).arrAt_forall_of_cover 8 (fun (i : S8192x1024.Idx) (v : EReal) => v = (((H (hd (i 1))).dk (i 0) (pl (i 1)) : ℝ) : EReal)) ?_ cover8 i
  intro t hf y
  have h15 : (nq t).val = 15 := by
    by_contra h
    rw [flush8 t h] at hf
    exact Bool.noConfusion hf
  obtain ⟨r, l, rfl⟩ : ∃ (r : Fin 512) (l : Fin 512), y = (ix2 r l : S512x512.Idx) := ⟨y 0, y 1, funext fun a => by fin_cases a <;> rfl⟩
  obtain ⟨g, d, rfl⟩ := col_of l
  rw [emb8 t r g d]
  show outDk (sums m c (t.val + 1)).dk (ix2 r (col g d)) = (((H (hd (flatC (hz (sw t) g) d))).dk (at512 (nk t) r) (pl (flatC (hz (sw t) g) d)) : ℝ) : EReal)
  rw [hd_flat, pl_flat]
  exact dk_block t hH h15 r g d

theorem dv_arr (i : S8192x1024.Idx) : (dats m 0 c).arrAt 9 (cfgA (F := Ideal)).N i = (((H (hd (i 1))).dv (i 0) (pl (i 1)) : ℝ) : EReal) := by
  refine (dats m 0 c).arrAt_forall_of_cover 9 (fun (i : S8192x1024.Idx) (v : EReal) => v = (((H (hd (i 1))).dv (i 0) (pl (i 1)) : ℝ) : EReal)) ?_ cover9 i
  intro t hf y
  have h15 : (nq t).val = 15 := by
    by_contra h
    rw [flush9 t h] at hf
    exact Bool.noConfusion hf
  obtain ⟨r, l, rfl⟩ : ∃ (r : Fin 512) (l : Fin 512), y = (ix2 r l : S512x512.Idx) := ⟨y 0, y 1, funext fun a => by fin_cases a <;> rfl⟩
  obtain ⟨g, d, rfl⟩ := col_of l
  rw [emb9 t r g d]
  show outDv (sums m c (t.val + 1)).dv (ix2 r (col g d)) = (((H (hd (flatC (hz (sw t) g) d))).dv (at512 (nk t) r) (pl (flatC (hz (sw t) g) d)) : ℝ) : EReal)
  rw [hd_flat, pl_flat]
  exact dv_block t hH h15 r g d

theorem dck_arr (i : S8x1x8192.Idx) : (dats m 0 c).arrAt 10 (cfgA (F := Ideal)).N i = (((H (i 0)).dck (i 2) : ℝ) : EReal) := by
  refine (dats m 0 c).arrAt_forall_of_cover 10 (fun (i : S8x1x8192.Idx) (v : EReal) => v = (((H (i 0)).dck (i 2) : ℝ) : EReal)) ?_ cover10 i
  intro t hf y
  have h15 : (nq t).val = 15 := by
    by_contra h
    rw [flush10 t h] at hf
    exact Bool.noConfusion hf
  obtain ⟨g, r, rfl⟩ : ∃ (g : Fin 4) (r : Fin 512), y = (ix3 g 0 r : S4x1x512.Idx) :=
    ⟨y 0, y 2, funext fun a => by
      fin_cases a
      · rfl
      · exact Subsingleton.elim (α := Fin 1) _ _
      · rfl⟩
  rw [emb10 t g r]
  exact dck_block t hH h15 r g

theorem dcq_arr (i : S8x16x1x512.Idx) : (dats m 0 c).arrAt 11 (cfgA (F := Ideal)).N i = (((H (i 0)).dcq (at512 (i 1) (i 3)) : ℝ) : EReal) := by
  refine (dats m 0 c).arrAt_forall_of_cover 11 (fun (i : S8x16x1x512.Idx) (v : EReal) => v = (((H (i 0)).dcq (at512 (i 1) (i 3)) : ℝ) : EReal)) ?_ cover11 i
  intro t hf y
  have hp : (prow (grid0.coords t)).val = 135 := by
    by_contra h
    rw [flush11 t h] at hf
    exact Bool.noConfusion hf
  obtain ⟨g, n, r, rfl⟩ : ∃ (g : Fin 4) (n : Fin 16) (r : Fin 512), y = (ix4 g n 0 r : S4x16x1x512.Idx) :=
    ⟨y 0, y 1, y 3, funext fun a => by
      fin_cases a
      · rfl
      · rfl
      · exact Subsingleton.elim (α := Fin 1) _ _
      · rfl⟩
  rw [emb11 t g n r]
  exact dcq_block t hH hp g n r

/-- A sweep's queries' gradient is in place once the sweep has ended. -/
theorem dq_upto : ∀ (n : ℕ), n ≤ grid0.N → ∀ (z : Fin 2) (g : Fin 4) (i : Fin 8192) (d : Fin 128), 136 * (z.val + 1) ≤ n →
    dqArr m c n (ix3 (hz z g) i d) = (((H (hz z g)).dq i d : ℝ) : EReal)
  | 0, _ => fun z g i d h => absurd h (by omega)
  | n + 1, hn => fun z g i d h => by
    have hlt : n < grid0.N := hn
    have hN : grid0.N = 272 := N_0
    have e : (prow (grid0.coords ⟨n, hlt⟩)).val = n % 136 := coords_prow ⟨n, hlt⟩
    have es : (sw ⟨n, hlt⟩).val = n / 136 % 2 := coords_sweep ⟨n, hlt⟩
    have hs : dqArr m c (n + 1) = outQ (grid0.coords ⟨n, hlt⟩) (sums m c (n + 1)).dq (dqArr m c n) := dqArr_succ m c ⟨n, hlt⟩
    rw [hs, outQ]
    by_cases hp : (prow (grid0.coords ⟨n, hlt⟩)).val = 135
    · rw [if_pos hp, sent_at]
      by_cases hzz : z = sweep (grid0.coords ⟨n, hlt⟩)
      · rw [if_pos hzz, hzz]
        obtain ⟨b, r, rfl⟩ := split512 i
        exact dq_block ⟨n, hlt⟩ hH hp g b r d
      · rw [if_neg hzz]
        have hne : z.val ≠ (sw ⟨n, hlt⟩).val := fun e => hzz (Fin.ext e)
        exact dq_upto n hlt.le z g i d (by omega)
    · rw [if_neg hp]
      exact dq_upto n hlt.le z g i d (by omega)

theorem dq_arr (i : S8x8192x128.Idx) : dqArr m c grid0.N i = (((H (i 0)).dq (i 1) (i 2) : ℝ) : EReal) := by
  obtain ⟨z, g, h0⟩ := split4 (i 0)
  have e : i = ix3 (hz z g) (i 1) (i 2) := by
    funext a
    fin_cases a
    · exact h0
    · rfl
    · rfl
  rw [h0]
  refine (congrArg (dqArr m c grid0.N) e).trans (dq_upto hH grid0.N le_rfl z g (i 1) (i 2) ?_)
  have hN : grid0.N = 272 := N_0
  omega

end Cert.Fox
-- ==== Proof.RefVal.lean ====
/-
  What the reference's operations leave, read at an index: the five gradients of each head over the real numbers.
-/
module

public import proofs.«01_k».proof.Proof.RefRun
public import proofs.«01_k».proof.Proof.Heads

@[expose] public section

noncomputable section

namespace Cert.FoxRef

open Cert.ReferenceIdeal Cert.ReferenceIdeal.Gen
open Idealize.ShloMosaic Idealize.ShloMosaic.TcCoe Idealize.ShloMosaic.Tactic Idealize.SL.Sem
open Cert.Fox

variable (L : Valuation τ sig (Elt Ideal))

theorem read1_mask : StableHlo.after (ops1 (F := Ideal)) L main_v30_1 = broadcastInDim S8x8192x8192 ![1, 2] bcast_S8192x8192_S8x8192x8192_1_2
    (cmpi CmpIPredicate.sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))) := by
  unfold ops1
  after_reads_simp
  rfl

theorem read1_val : StableHlo.after (ops1 (F := Ideal)) L main_v30_0 = select (StableHlo.after (ops1 (F := Ideal)) L main_v30_1) (StableHlo.after (ops1 (F := Ideal)) L main_v22)
    (broadcastInDim S8x8192x8192 ![] bcast_S_S8x8192x8192 (constant (F := Ideal) S_ .f32 0xFF800000#32)) := by
  unfold ops1
  after_reads_simp
  rfl

theorem read1_max : StableHlo.after (ops1 (F := Ideal)) L main_v31 = Host.reduce FloatOps.maximumf (StableHlo.after (ops1 (F := Ideal)) L main_v30_0) (constant (F := Ideal) S_ .f32 0xFF800000#32) reducesTo_S8x8192x8192_S8x8192_d2 h_S_ := by
  unfold ops1
  after_reads_simp

theorem read4_val : StableHlo.after (ops4 (F := Ideal)) L main_v75 = select (L main_v30_1) (StableHlo.after (ops4 (F := Ideal)) L main_v74)
    (broadcastInDim S8x8192x8192 ![] bcast_S_S8x8192x8192 (constant (F := Ideal) S_ .f32 0#32)) := by
  unfold ops4
  after_reads_simp
  rfl

theorem read4_sum : StableHlo.after (ops4 (F := Ideal)) L main_v77 = Host.reduceAdd (Host.negf (F := Ideal) (StableHlo.after (ops4 (F := Ideal)) L main_v75)) (constant (F := Ideal) S_ .f32 0#32) reducesTo_S8x8192x8192_S8x8192_d1 h_S_ := by
  unfold ops4
  after_reads_simp

theorem mask_at (h : Fin 8) (i j : Fin 8192) : StableHlo.after (ops1 (F := Ideal)) L main_v30_1 (ix3 h i j) = if j ≤ i then 1#1 else 0#1 := by
  rw [read1_mask]
  pointwise
  exact mask_word i j

/-- What the rest reads of the first operations. -/
structure Base (H : Fin 8 → Head) : Prop where
  o : ∀ h i d, L main_v6 (ix3 h i d) = (((H h).o i d : ℝ) : EReal)
  q : ∀ h i d, L main_v8 (ix3 h i d) = (((H h).q i d : ℝ) : EReal)
  k : ∀ h i d, L main_v10 (ix3 h i d) = (((H h).k i d : ℝ) : EReal)
  v : ∀ h i d, L main_v12 (ix3 h i d) = (((H h).v i d : ℝ) : EReal)
  r : L main_v14 ix0 = ((Real.sqrt 128 : ℝ) : EReal)

variable {L} in
/-- It stays over operations that write none of it. -/
theorem Base.keep {H : Fin 8 → Head} (hL : Base L H) (o : List (HloOp τ sig (Elt Ideal)))
    (e : ∀ b ∈ ([main_v6, main_v8, main_v10, main_v12, main_v14] : List (Ref sig .tc)), StableHlo.after o L (Proc.devRef .tc b) = L (Proc.devRef .tc b)) :
    Base (StableHlo.after o L) H where
  o h i d := (congrFun (e main_v6 (by simp)) _).trans (hL.o h i d)
  q h i d := (congrFun (e main_v8 (by simp)) _).trans (hL.q h i d)
  k h i d := (congrFun (e main_v10 (by simp)) _).trans (hL.k h i d)
  v h i d := (congrFun (e main_v12 (by simp)) _).trans (hL.v h i d)
  r := (congrFun (e main_v14 (by simp)) _).trans hL.r

variable {H : Fin 8 → Head}

theorem base0 (hA : Given H (fun i c => L main_arg0 (ix2 i c)) (fun h i => L main_arg1 (ix2 h i)) (fun i c => L main_arg2 (ix2 i c))) :
    Base (StableHlo.after (ops0 (F := Ideal)) L) H where
  o h i d := by
    unfold ops0
    after_reads_simp
    pointwise
    exact hA.o h i d
  q h i d := by
    unfold ops0
    after_reads_simp
    pointwise
    exact hA.q h i d
  k h i d := by
    unfold ops0
    after_reads_simp
    pointwise
    exact hA.k h i d
  v h i d := by
    unfold ops0
    after_reads_simp
    pointwise
    exact hA.v h i d
  r := by
    unfold ops0
    after_reads_simp
    pointwise
    rw [bits_128, Ideal.sqrt_coe, if_neg (by norm_num)]

theorem prod_at (hA : Given H (fun i c => L main_arg0 (ix2 i c)) (fun h i => L main_arg1 (ix2 h i)) (fun i c => L main_arg2 (ix2 i c)))
    (h : Fin 8) (i j : Fin 8192) : StableHlo.after (ops0 (F := Ideal)) L main_v16 (ix3 h i j) = (((∑ d, (H h).q i d * (H h).k j d) * (1 / Real.sqrt 128) : ℝ) : EReal) := by
  unfold ops0
  after_reads_simp
  pointwise
  rw [bits_128, Ideal.sqrt_coe, if_neg (by norm_num), Ideal.div_coe sqrt_pos', EReal.coe_mul]
  refine congrArg (· * (((1 / Real.sqrt 128 : ℝ)) : EReal)) (sum_real fun d => ?_)
  exact (congrArg₂ (· * ·) (hA.q h i d) (hA.k h j d)).trans (EReal.coe_mul _ _).symm

theorem gate_at (hA : Given H (fun i c => L main_arg0 (ix2 i c)) (fun h i => L main_arg1 (ix2 h i)) (fun i c => L main_arg2 (ix2 i c)))
    (h : Fin 8) (i j : Fin 8192) : StableHlo.after (ops0 (F := Ideal)) L main_v18 (ix3 h i j) = (((H h).c i : ℝ) : EReal) := by
  unfold ops0
  after_reads_simp
  pointwise
  exact hA.c h i

/-- The masked scores. -/
theorem val_at (hs : ∀ h i j, L main_v16 (ix3 h i j) = (((∑ d, (H h).q i d * (H h).k j d) * (1 / Real.sqrt 128) : ℝ) : EReal))
    (hc : ∀ h i j, L main_v18 (ix3 h i j) = (((H h).c i : ℝ) : EReal)) (ha : ∀ h i, L main_arg1 (ix2 h i) = (((H h).c i : ℝ) : EReal))
    (h : Fin 8) (i j : Fin 8192) : StableHlo.after (ops1 (F := Ideal)) L main_v30_0 (ix3 h i j) = if j ≤ i then (((H h).score i j : ℝ) : EReal) else ⊥ := by
  have hv : StableHlo.after (ops1 (F := Ideal)) L main_v22 (ix3 h i j) = (((H h).score i j : ℝ) : EReal) := by
    unfold ops1
    after_reads_simp
    pointwise
    rw [hs, hc, ha, Head.score, EReal.coe_sub, EReal.coe_add]
  rw [read1_val]
  pointwise
  rw [mask_at, hv, bits_bot]
  split <;> rfl

/-- The scores' row maximum is a number. -/
theorem max_at (hv : ∀ h i j, StableHlo.after (ops1 (F := Ideal)) L main_v30_0 (ix3 h i j) = if j ≤ i then (((H h).score i j : ℝ) : EReal) else ⊥)
    (h : Fin 8) (i : Fin 8192) : ∃ M : ℝ, StableHlo.after (ops1 (F := Ideal)) L main_v31 (ix2 h i) = ((M : ℝ) : EReal) := by
  rw [read1_max]
  pointwise
  rw [bits_bot]
  refine max_real _ (fun k => ?_) i ⟨(H h).score i i, ?_⟩
  · rw [hv]
    split
    · exact Or.inr ⟨_, rfl⟩
    · exact Or.inl rfl
  · exact (hv h i i).trans (if_pos (le_refl _))

theorem max2_at (h : Fin 8) (i : Fin 8192) (M : ℝ) (hm : L main_v31 (ix2 h i) = ((M : ℝ) : EReal)) :
    StableHlo.after (ops2 (F := Ideal)) L main_v38 (ix2 h i) = ((M : ℝ) : EReal) := by
  unfold ops2
  after_reads_simp
  pointwise
  rw [bits_bot, hm]
  exact max_eq_right (bot_le (α := EReal))

section chunk3

variable {L} {M : Fin 8 → Fin 8192 → ℝ}
  (hb : Base L H)
  (hv : ∀ h i j, L main_v30_0 (ix3 h i j) = if j ≤ i then (((H h).score i j : ℝ) : EReal) else ⊥)
  (hm : ∀ h i, L main_v38 (ix2 h i) = ((M h i : ℝ) : EReal))
include hb hv hm

theorem wt_at (h : Fin 8) (i j : Fin 8192) : StableHlo.after (ops3 (F := Ideal)) L main_v51 (ix3 h i j) = (((H h).wt (M h i) i j : ℝ) : EReal) := by
  unfold ops3
  after_reads_simp
  pointwise
  rw [hv, hm, exp_masked]

theorem tot_at (h : Fin 8) (i : Fin 8192) : StableHlo.after (ops3 (F := Ideal)) L main_v53 (ix3 h i 0) = (((H h).tot (M h i) i : ℝ) : EReal) := by
  unfold ops3
  after_reads_simp
  pointwise
  exact tot_sum (hv h i) (hm h i)

theorem inv_at (h : Fin 8) (i : Fin 8192) : StableHlo.after (ops3 (F := Ideal)) L main_v58 (ix3 h i 0) = ((1 / ((H h).tot (M h i) i * (H h).tot (M h i) i) : ℝ) : EReal) := by
  have ht := tot_sum (hv h i) (hm h i)
  have h0 := ((H h).tot_pos (M h i) i).ne'
  unfold ops3
  after_reads_simp
  pointwise
  rw [show _ = _ from ht, ← EReal.coe_mul, Ideal.div_coe (mul_ne_zero h0 h0), one_mul]

theorem dv_at (h : Fin 8) (j : Fin 8192) (d : Fin 128) : StableHlo.after (ops3 (F := Ideal)) L main_v61 (ix3 h j d) = (((H h).dv j d : ℝ) : EReal) := by
  have ht := fun i => tot_sum (hv h i) (hm h i)
  unfold ops3
  after_reads_simp
  pointwise
  refine sum_real fun i => ?_
  rw [show _ = _ from ht i, hv, hm, exp_masked, hb.o, Ideal.div_coe ((H h).tot_pos (M h i) i).ne', ← EReal.coe_mul, ← EReal.coe_mul, Head.wt_div, mul_comm]

theorem dp_at (h : Fin 8) (i j : Fin 8192) : StableHlo.after (ops3 (F := Ideal)) L main_v62 (ix3 h i j) = (((H h).dp i j : ℝ) : EReal) := by
  unfold ops3
  after_reads_simp
  pointwise
  refine sum_real fun d => ?_
  rw [hb.o, hb.v, EReal.coe_mul]

end chunk3

section chunk4

variable {L} {M : Fin 8 → Fin 8192 → ℝ}
  (hw : ∀ h i j, L main_v51 (ix3 h i j) = (((H h).wt (M h i) i j : ℝ) : EReal))
  (ht : ∀ h i, L main_v53 (ix3 h i 0) = (((H h).tot (M h i) i : ℝ) : EReal))
  (hi : ∀ h i, L main_v58 (ix3 h i 0) = ((1 / ((H h).tot (M h i) i * (H h).tot (M h i) i) : ℝ) : EReal))
  (hp : ∀ h i j, L main_v62 (ix3 h i j) = (((H h).dp i j : ℝ) : EReal))
  (hk : ∀ h i j, L main_v30_1 (ix3 h i j) = if j ≤ i then 1#1 else 0#1)
include hw ht hi hp hk

theorem ds_at (h : Fin 8) (i j : Fin 8192) : StableHlo.after (ops4 (F := Ideal)) L main_v75 (ix3 h i j) = (((H h).ds i j : ℝ) : EReal) := by
  have hv : StableHlo.after (ops4 (F := Ideal)) L main_v74 (ix3 h i j) = (((H h).ds i j : ℝ) : EReal) := by
    unfold ops4
    after_reads_simp
    pointwise
    exact ds_sum (hp h i) (hw h i) (ht h i) (hi h i)
  rw [read4_val]
  pointwise
  rw [hk, hv]
  split
  · rfl
  · rename_i hn
    rw [(H h).ds_off (not_le.mp hn)]
    rfl

theorem dck_at (h : Fin 8) (j : Fin 8192) : StableHlo.after (ops4 (F := Ideal)) L main_v77 (ix2 h j) = (((H h).dck j : ℝ) : EReal) := by
  rw [read4_sum]
  pointwise
  refine sum_real fun i => ?_
  rw [ds_at hw ht hi hp hk, EReal.coe_neg]

end chunk4

section chunk5

variable {L}
  (hb : Base L H)
  (hs : ∀ h i j, L main_v75 (ix3 h i j) = (((H h).ds i j : ℝ) : EReal))
include hb hs

theorem out_dk (j : Fin 8192) (c : Fin 1024) : StableHlo.after (ops5 (F := Ideal)) L main_v89 (ix2 j c) = (((H (hd c)).dk j (pl c) : ℝ) : EReal) := by
  unfold ops5
  after_reads_simp
  pointwise
  refine sum_real fun i => ?_
  rw [hb.r, hb.q, hs, Ideal.div_coe sqrt_pos', EReal.coe_mul, EReal.coe_mul]
  rfl

theorem out_dq (h : Fin 8) (i : Fin 8192) (d : Fin 128) : StableHlo.after (ops5 (F := Ideal)) L main_v94 (ix3 h i d) = (((H h).dq i d : ℝ) : EReal) := by
  unfold ops5
  after_reads_simp
  pointwise
  refine sum_real fun j => ?_
  rw [hb.r, hb.k, hs, Ideal.div_coe sqrt_pos', EReal.coe_mul, EReal.coe_mul]

theorem out_dcq (h : Fin 8) (n : Fin 16) (r : Fin 512) : StableHlo.after (ops5 (F := Ideal)) L main_v95 (ix4 h n 0 r) = (((H h).dcq ⟨n.1 * 512 + r.1, by omega⟩ : ℝ) : EReal) := by
  unfold ops5
  after_reads_simp
  pointwise
  simp only [Finset.univ_unique, Finset.sum_singleton]
  refine sum_real fun j => ?_
  exact hs _ _ _

end chunk5

theorem out_dv (hv : ∀ h j d, L main_v61 (ix3 h j d) = (((H h).dv j d : ℝ) : EReal)) (j : Fin 8192) (c : Fin 1024) :
    StableHlo.after (ops5 (F := Ideal)) L main_v92 (ix2 j c) = (((H (hd c)).dv j (pl c) : ℝ) : EReal) := by
  unfold ops5
  after_reads_simp
  pointwise
  exact hv _ _ _

theorem out_dck (hv : ∀ h j, L main_v77 (ix2 h j) = (((H h).dck j : ℝ) : EReal)) (h : Fin 8) (j : Fin 8192) :
    StableHlo.after (ops5 (F := Ideal)) L main_v93 (ix3 h 0 j) = (((H h).dck j : ℝ) : EReal) := by
  unfold ops5
  after_reads_simp
  pointwise
  simp only [Finset.univ_unique, Finset.sum_singleton]
  exact hv _ _

theorem keep1 (b : Ref sig .tc) (h : b ∉ bufs1) : StableHlo.after (ops1 (F := Ideal)) L (Proc.devRef .tc b) = L (Proc.devRef .tc b) := StableHlo.after_of_writes_sub _ _ ops1_writes h
theorem keep2 (b : Ref sig .tc) (h : b ∉ bufs2) : StableHlo.after (ops2 (F := Ideal)) L (Proc.devRef .tc b) = L (Proc.devRef .tc b) := StableHlo.after_of_writes_sub _ _ ops2_writes h
theorem keep3 (b : Ref sig .tc) (h : b ∉ bufs3) : StableHlo.after (ops3 (F := Ideal)) L (Proc.devRef .tc b) = L (Proc.devRef .tc b) := StableHlo.after_of_writes_sub _ _ ops3_writes h
theorem keep4 (b : Ref sig .tc) (h : b ∉ bufs4) : StableHlo.after (ops4 (F := Ideal)) L (Proc.devRef .tc b) = L (Proc.devRef .tc b) := StableHlo.after_of_writes_sub _ _ ops4_writes h

/-- The reference's results are the five gradients of its heads. -/
theorem grads (hA : Given H (fun i c => L main_arg0 (ix2 i c)) (fun h i => L main_arg1 (ix2 h i)) (fun i c => L main_arg2 (ix2 i c))) :
    Grads H (fun j c => StableHlo.after (ops (F := Ideal)) L main_v89 (ix2 j c)) (fun j c => StableHlo.after (ops (F := Ideal)) L main_v92 (ix2 j c))
      (fun h j => StableHlo.after (ops (F := Ideal)) L main_v93 (ix3 h 0 j)) (fun h i d => StableHlo.after (ops (F := Ideal)) L main_v94 (ix3 h i d))
      (fun h i => StableHlo.after (ops (F := Ideal)) L main_v95 (ix4 h ⟨i.1 / 512, by omega⟩ 0 ⟨i.1 % 512, by omega⟩)) := by
  have b0 := base0 L hA
  have s0 := prod_at L hA
  have c0 := gate_at L hA
  have a0 : ∀ h i, StableHlo.after (ops0 (F := Ideal)) L main_arg1 (ix2 h i) = (((H h).c i : ℝ) : EReal) := fun h i =>
    (congrFun (StableHlo.after_of_writes_sub (r := main_arg1) _ _ ops0_writes (by decide)) _).trans (hA.c h i)
  unfold ops
  simp only [after_app]
  generalize StableHlo.after ops0 L = L0 at *
  have b1 := b0.keep ops1 (fun b hb => keep1 L0 b (by revert hb b; decide))
  have v1 := val_at L0 s0 c0 a0
  have m1 := max_at L0 v1
  have k1 := mask_at L0
  generalize StableHlo.after ops1 L0 = L1 at *
  choose M hM using m1
  have b2 := b1.keep ops2 (fun b hb => keep2 L1 b (by revert hb b; decide))
  have m2 := fun h i => max2_at L1 h i (M h i) (hM h i)
  have v2 := fun h i j => (congrFun (keep2 L1 main_v30_0 (by decide)) (ix3 h i j)).trans (v1 h i j)
  have k2 := fun h i j => (congrFun (keep2 L1 main_v30_1 (by decide)) (ix3 h i j)).trans (k1 h i j)
  generalize StableHlo.after ops2 L1 = L2 at *
  have b3 := b2.keep ops3 (fun b hb => keep3 L2 b (by revert hb b; decide))
  have w3 := wt_at b2 v2 m2
  have t3 := tot_at b2 v2 m2
  have i3 := inv_at b2 v2 m2
  have d3 := dv_at b2 v2 m2
  have p3 := dp_at b2 v2 m2
  have k3 := fun h i j => (congrFun (keep3 L2 main_v30_1 (by decide)) (ix3 h i j)).trans (k2 h i j)
  generalize StableHlo.after ops3 L2 = L3 at *
  have b4 := b3.keep ops4 (fun b hb => keep4 L3 b (by revert hb b; decide))
  have s4 := ds_at w3 t3 i3 p3 k3
  have c4 := dck_at w3 t3 i3 p3 k3
  have d4 := fun h i j => (congrFun (keep4 L3 main_v61 (by decide)) (ix3 h i j)).trans (d3 h i j)
  generalize StableHlo.after ops4 L3 = L4 at *
  exact {
    dk := out_dk b4 s4
    dv := out_dv L4 d4
    dck := out_dck L4 c4
    dq := out_dq b4 s4
    dcq := fun h i => (out_dcq b4 s4 h _ _).trans (by
      have e : (⟨i.1 / 512 * 512 + i.1 % 512, by omega⟩ : Fin 8192) = i := Fin.ext (by show i.1 / 512 * 512 + i.1 % 512 = i.1; omega)
      exact congrArg (fun x => (((H h).dcq x : ℝ) : EReal)) e) }

end Cert.FoxRef
-- ==== Proof.Values.lean ====
/-
  The kernel's results and the reference's results are the same five gradients of the heads that the arguments hold.
-/
module

public import proofs.«01_k».proof.Proof.Claims
public import proofs.«01_k».proof.Proof.Finite
public import proofs.«01_k».proof.Proof.Arrays
public import proofs.«01_k».proof.Proof.RefVal

@[expose] public section

noncomputable section

namespace Cert.Fox

open Cert.KernelIdeal Cert.KernelIdeal.Gen
open Idealize.ShloMosaic Idealize.SL.Sem Idealize.ShloMosaic.TcCoe
open Idealize.ShloMosaic.Rounds
open Idealize.ShloMosaic.Pipeline (Dat Cfg Window)

variable (m : (ℓ : Loc nD τ sig) → Buf (Elt Ideal) ℓ) (ρ : Dev nD → PrngReg)

/-- The arguments of one device hold the heads. -/
def HeadsIn (c : Dev nD) (H : Fin 8 → Head) : Prop :=
  Given H (fun i j => m ((c : Thread nD τ).loc main_arg0) (ix2 i j)) (fun h i => m ((c : Thread nD τ).loc main_arg1) (ix2 h i))
    (fun i j => m ((c : Thread nD τ).loc main_arg2) (ix2 i j))

theorem hands_of {c : Dev nD} {H : Fin 8 → Head} (h : HeadsIn m c H) : Hands m c H where
  given := by
    rw [V_arg0, V_arg1, V_arg2]
    exact h
  handed := handed (fun b => m (c, b)) h

/-- What the run leaves in the five results and the three arguments. -/
theorem results : θ_run defs (onTc (τ := τ) (main (F := Ideal))) ⟨m, fun _ => 0, ρ⟩ (fun r => ∀ c : Dev nD,
      r.2.mem ((c : Thread nD τ).loc main_v53_0) = (dats m 0 c).arrAt 8 (cfgA (F := Ideal)).N
      ∧ r.2.mem ((c : Thread nD τ).loc main_v53_1) = (dats m 0 c).arrAt 9 (cfgA (F := Ideal)).N
      ∧ r.2.mem ((c : Thread nD τ).loc main_v53_2) = (dats m 0 c).arrAt 10 (cfgA (F := Ideal)).N
      ∧ r.2.mem ((c : Thread nD τ).loc main_v53_3) = dqArr m c grid0.N
      ∧ r.2.mem ((c : Thread nD τ).loc main_v53_4) = (dats m 0 c).arrAt 11 (cfgA (F := Ideal)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run defs _ _).mono (fun r h c => ⟨(h.1.1 c).1 8, (h.1.1 c).1 9, (h.1.1 c).1 10, ?_, (h.1.1 c).1 11, ?_, ?_, ?_⟩) (run_main m ρ)
  · exact (h.1.2 c main_v53_3 (Finset.mem_singleton_self _)).trans (Function.update_self _ _ _)
  · exact ((h.1.1 c).1 0).trans ((Dat.arrAt_in (dats m 0 c) 0 rfl _).trans (V_arg0 m c))
  · exact ((h.1.1 c).2 main_arg1 arg1_rest).trans (V_arg1 m c)
  · exact ((h.1.1 c).1 3).trans ((Dat.arrAt_in (dats m 0 c) 3 rfl _).trans (V_arg2 m c))

section Same

variable {m}
variable {c : Dev nD} {H : Fin 8 → Head} (hm : HeadsIn m c H)
variable {dk dv : S8192x1024.Idx → EReal} {dck : S8x1x8192.Idx → EReal} {dq : S8x8192x128.Idx → EReal} {dcq : S8x16x1x512.Idx → EReal}
variable (hg : Grads H (fun j l => dk (ix2 j l)) (fun j l => dv (ix2 j l)) (fun h j => dck (ix3 h 0 j)) (fun h i d => dq (ix3 h i d))
  (fun h i => dcq (ix4 h ⟨i.1 / 512, by omega⟩ 0 ⟨i.1 % 512, by omega⟩)))
include hm hg

theorem same_dk : dk = (dats m 0 c).arrAt 8 (cfgA (F := Ideal)).N := by
  funext i
  rw [dk_arr (hands_of m hm) i]
  have e : i = ix2 (i 0) (i 1) := by funext a; match a with | 0 => rfl | 1 => rfl
  exact (congrArg dk e).trans (hg.dk (i 0) (i 1))

theorem same_dv : dv = (dats m 0 c).arrAt 9 (cfgA (F := Ideal)).N := by
  funext i
  rw [dv_arr (hands_of m hm) i]
  have e : i = ix2 (i 0) (i 1) := by funext a; match a with | 0 => rfl | 1 => rfl
  exact (congrArg dv e).trans (hg.dv (i 0) (i 1))

theorem same_dck : dck = (dats m 0 c).arrAt 10 (cfgA (F := Ideal)).N := by
  funext i
  rw [dck_arr (hands_of m hm) i]
  have e : i = ix3 (i 0) 0 (i 2) := by funext a; match a with | 0 => rfl | 1 => exact Subsingleton.elim (α := Fin 1) _ _ | 2 => rfl
  exact (congrArg dck e).trans (hg.dck (i 0) (i 2))

theorem same_dq : dq = dqArr m c grid0.N := by
  funext i
  rw [dq_arr (hands_of m hm) i]
  have e : i = ix3 (i 0) (i 1) (i 2) := by funext a; match a with | 0 => rfl | 1 => rfl | 2 => rfl
  exact (congrArg dq e).trans (hg.dq (i 0) (i 1) (i 2))

theorem same_dcq : dcq = (dats m 0 c).arrAt 11 (cfgA (F := Ideal)).N := by
  funext i
  rw [dcq_arr (hands_of m hm) i]
  have h1 : (i 1).val < 16 := (i 1).isLt
  have h3 : (i 3).val < 512 := (i 3).isLt
  have e : i = ix4 (i 0) ⟨(at512 (i 1) (i 3)).1 / 512, by omega⟩ 0 ⟨(at512 (i 1) (i 3)).1 % 512, by omega⟩ := by
    funext a
    match a with
    | 0 => rfl
    | 1 => exact Fin.ext (show (i 1).val = (512 * (i 1).val + (i 3).val) / 512 by omega)
    | 2 => exact Subsingleton.elim (α := Fin 1) _ _
    | 3 => exact Fin.ext (show (i 3).val = (512 * (i 1).val + (i 3).val) % 512 by omega)
  exact (congrArg dcq e).trans (hg.dcq (i 0) (at512 (i 1) (i 3)))

end Same

attribute [local instance] finite_facts

/-- The kernel's idealization and the reference leave the same five gradients. -/
theorem algebraic : Cert.algebraic_KernelIdeal_ReferenceIdeal_pre_finite := by
  intro m g m' g' hp he
  have hm : ∀ c : Dev nD, HeadsIn m c (headsOf (m ((c : Thread nD τ).loc main_arg0)) (m ((c : Thread nD τ).loc main_arg1)) (m ((c : Thread nD τ).loc main_arg2))) :=
    fun c => given_of_finite _ _ _ (hp c)
  have hg := fun c : Dev nD => Cert.FoxRef.grads (StableHlo.launchContents m' c)
    (H := headsOf (m ((c : Thread nD τ).loc main_arg0)) (m ((c : Thread nD τ).loc main_arg1)) (m ((c : Thread nD τ).loc main_arg2))) (by
      have h := hm c
      unfold HeadsIn at h
      obtain ⟨e0, e1, e2⟩ := he c
      rw [← e0, ← e1, ← e2] at h
      rw [← e0, ← e1, ← e2]
      exact h)
  refine ⟨_, _, _, _, _, results m g, ?_⟩
  refine (θ_run _ _ _).mono (fun r h c => ⟨(h c _).trans (same_dk (hm c) (hg c)), (h c _).trans (same_dv (hm c) (hg c)), (h c _).trans (same_dck (hm c) (hg c)),
    (h c _).trans (same_dq (hm c) (hg c)), (h c _).trans (same_dcq (hm c) (hg c)), (h c _).trans (Cert.FoxRef.kept0 _), (h c _).trans (Cert.FoxRef.kept1 _),
    (h c _).trans (Cert.FoxRef.kept2 _)⟩) (Cert.FoxRef.run m' g')

theorem frame_ideal_finite : Cert.quiescent_KernelIdeal_pre_finite := fun m ρ _ => frame (F := Ideal) m ρ
theorem frame_reference_finite : Cert.quiescent_ReferenceIdeal_pre_finite := fun m ρ _ => Cert.FoxRef.frame (F := Ideal) m ρ

end Cert.Fox
-- ==== Proof.Shards.lean ====
/-
  Sums taken block by block: a sum over eight blocks of equal length is one sum, and a running sum is the sum of its terms.
-/
module

public import proofs.«01_k».proof.Defs
public import Idealize.ShloMosaic.Lib.Pointwise
public import Idealize.ShloMosaic.Lib.Pointwise.Reshape
public import Idealize.ShloMosaic.Lib.Pointwise.Elementwise
public import Idealize.ShloMosaic.Lib.Pointwise.ShapeOps
public import Idealize.ShloMosaic.Lib.StableHlo.RunRead

@[expose] public section

noncomputable section

namespace Cert.Ffn

open Idealize.ShloMosaic

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Column `c` of shard `j`. -/
def colAt (j : Fin 8) (c : Fin 704) : Fin 5632 := ⟨j.1 * 704 + c.1, by omega⟩
/-- Row `r` of tile `j`. -/
def rowAt (j : Fin 8) (r : Fin 1024) : Fin 8192 := ⟨j.1 * 1024 + r.1, by omega⟩

theorem sum_blocks {p b : ℕ} (f : Fin (p * b) → EReal) (g : Fin p → Fin b → Fin (p * b)) (hg : ∀ j c, (g j c).1 = j.1 * b + c.1) :
    ∑ j : Fin p, ∑ c : Fin b, f (g j c) = ∑ k, f k := by
  rw [← Fintype.sum_prod_type' (f := fun j c => f (g j c)), ← Equiv.sum_comp (finProdFinEquiv (m := p) (n := b)) f]
  refine Finset.sum_congr rfl fun p _ => congrArg f (Fin.ext ?_)
  rw [hg, finProdFinEquiv_apply_val, Nat.add_comm, Nat.mul_comm]

theorem sum_cols (f : Fin 5632 → EReal) : ∑ j : Fin 8, ∑ c : Fin 704, f (colAt j c) = ∑ k, f k := sum_blocks (p := 8) (b := 704) f colAt fun _ _ => rfl
theorem sum_rows (f : Fin 8192 → EReal) : ∑ j : Fin 8, ∑ r : Fin 1024, f (rowAt j r) = ∑ k, f k := sum_blocks (p := 8) (b := 1024) f rowAt fun _ _ => rfl

/-- What is reset to a term at every `p`th point and grows by a term at each other point is the sum of the terms since. -/
theorem running (p N : ℕ) (T : ℕ → EReal) (S : (n : ℕ) → n < N → EReal) (h0 : ∀ n h, n % p = 0 → S n h = T n)
    (h1 : ∀ n h h', ¬(n + 1) % p = 0 → S (n + 1) h = S n h' + T (n + 1)) (q k : ℕ) (hk : k < p) (h : p * q + k < N) :
    S (p * q + k) h = ∑ j ∈ Finset.range (k + 1), T (p * q + j) := by
  induction k with
  | zero => rw [h0 _ h (Nat.mul_mod_right p q), Finset.sum_range_one]
  | succ k ih =>
    have hm : ¬(p * q + k + 1) % p = 0 := by
      rw [Nat.add_assoc, Nat.mul_add_mod, Nat.mod_eq_of_lt hk]
      omega
    rw [Finset.sum_range_succ, ← ih (by omega) (by omega)]
    exact h1 (p * q + k) h (by omega) hm

theorem running_last (p N : ℕ) (T : ℕ → EReal) (S : (n : ℕ) → n < N → EReal) (h0 : ∀ n h, n % p = 0 → S n h = T n)
    (h1 : ∀ n h h', ¬(n + 1) % p = 0 → S (n + 1) h = S n h' + T (n + 1)) (q k : ℕ) (hk : p = k + 1) (h : p * q + k < N) :
    S (p * q + k) h = ∑ j : Fin p, T (p * q + j.1) := by
  rw [running p N T S h0 h1 q k (by omega) h, ← hk]
  exact Finset.sum_range fun j => T (p * q + j)

theorem running_end (N : ℕ) (T : ℕ → EReal) (S : (n : ℕ) → n < N → EReal) (h0 : ∀ n h, n % 8 = 0 → S n h = T n)
    (h1 : ∀ n h h', ¬(n + 1) % 8 = 0 → S (n + 1) h = S n h' + T (n + 1)) (q : ℕ) (h : 8 * q + 7 < N) :
    S (8 * q + 7) h = ∑ j : Fin 8, T (8 * q + j.1) := running_last 8 N T S h0 h1 q 7 rfl h

end Cert.Ffn
-- ==== Proof.Ffn2.lean ====
/-
  The feed-forward's backward call for its two weights: eight row tiles, each adding its product to a running sum, are the
  product over all rows, and the eight shards lie side by side.
-/
module

public import proofs.«01_k».proof.Proof.Gen.Kernel2Ideal.Value
public import proofs.«01_k».proof.Proof.Gen.Kernel2
public import proofs.«01_k».proof.Proof.Gen.Reference2Ideal.Run
public import proofs.«01_k».proof.Proof.Shards

@[expose] public section

noncomputable section

namespace Cert.Ffn2

open Cert.Kernel2Ideal Cert.Kernel2Ideal.Gen Cert.Ffn
open Idealize.ShloMosaic Idealize.ShloMosaic.TcCoe Idealize.ShloMosaic.Tactic Idealize.SL.Sem

section Payloads

variable {F : FTy → Type} [FloatOps F]
variable (c : Dev nD) (i : grid0.Coords) (a2 : Memref sig .tc .vmem S1024x2048 .bf16) (h2 : a2.IsWhole) (a3 : Memref sig .tc .vmem S1x1024x704 .bf16) (h3 : a3.IsWhole)
  (a4 : Memref sig .tc .vmem S1x1024x704 .bf16) (h4 : a4.IsWhole) (a5 : Memref sig .tc .vmem S1x2048x704 .bf16) (h5 : a5.IsWhole)
  (a6 : Memref sig .tc .vmem S1x2048x704 .bf16) (h6 : a6.IsWhole) (a7 : Memref sig .tc .vmem S2048x704 .f32) (h7 : a7.IsWhole) (a8 : Memref sig .tc .vmem S2048x704 .f32) (h8 : a8.IsWhole)
  (x0 : Vec F S1024x2048 .bf16) (x1 x2 : Vec F S1x1024x704 .bf16) (xs ys : Vec F S2048x704 .f32)

theorem first_g (hc0 : cond0_0 i) (hc1 : ¬cond0_1 i) :
    sout0_A_0 c i a2 h2 a3 h3 a4 h4 a5 h5 a6 h6 a7 h7 a8 h8 hc0 hc1 x0 x1 x2 = k0_pay3 x0 k0_pay1 x1 := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S2048x704) zeros2, View.readCov_unit_zero (S := S2048x704) _ zeros2]
  simp only [View.readAt_eq_ld, h2.read_unread, h3.read_unread, h4.read_unread, h7.read_unread, h8.read_unread, View.ld_unit_zero (S := S1x1024x704) zeros3,
    View.ld_unit_zero (S := S1024x2048) zeros2, View.ld_unit_zero (S := S2048x704) zeros2]

theorem first_u (hc0 : cond0_0 i) (hc1 : ¬cond0_1 i) :
    sout0_A_1 c i a2 h2 a3 h3 a4 h4 a5 h5 a6 h6 a7 h7 a8 h8 hc0 hc1 x0 x1 x2 = k0_pay4 x0 k0_pay2 x2 := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S2048x704) zeros2, View.readCov_unit_zero (S := S2048x704) _ zeros2]
  simp only [View.readAt_eq_ld, h2.read_unread, h3.read_unread, h4.read_unread, h7.read_unread, h8.read_unread, View.ld_unit_zero (S := S1x1024x704) zeros3,
    View.ld_unit_zero (S := S1024x2048) zeros2, View.ld_unit_zero (S := S2048x704) zeros2]

theorem between_g (hc0 : ¬cond0_0 i) (hc1 : ¬cond0_1 i) :
    sout0_B_0 c i a2 h2 a3 h3 a4 h4 a5 h5 a6 h6 a7 h7 a8 h8 hc0 hc1 x0 x1 x2 xs ys = k0_pay3 x0 xs x1 := by
  unfold sout0_B_0
  rw [View.read_writes_eq_canon _ _ _ (scover0_B_0 c i a2 h2 a3 h3 a4 h4 a5 h5 a6 h6 a7 h7 a8 h8 hc0 hc1 x0 x1 x2 xs ys)]
  unfold kernelRun0_B
  dsimp only
  sl_unfold_words
  rw [View.canon_unit_zero zeros2]
  simp only [View.readAt_eq_ld, h2.read_unread, h3.read_unread, h4.read_unread, h7.read_unread, h8.read_unread, View.ld_unit_zero (S := S1x1024x704) zeros3,
    View.ld_unit_zero (S := S1024x2048) zeros2, View.ld_unit_zero (S := S2048x704) zeros2]

theorem between_u (hc0 : ¬cond0_0 i) (hc1 : ¬cond0_1 i) :
    sout0_B_1 c i a2 h2 a3 h3 a4 h4 a5 h5 a6 h6 a7 h7 a8 h8 hc0 hc1 x0 x1 x2 xs ys = k0_pay4 x0 ys x2 := by
  unfold sout0_B_1
  rw [View.read_writes_eq_canon _ _ _ (scover0_B_1 c i a2 h2 a3 h3 a4 h4 a5 h5 a6 h6 a7 h7 a8 h8 hc0 hc1 x0 x1 x2 xs ys)]
  unfold kernelRun0_B
  dsimp only
  sl_unfold_words
  rw [View.canon_unit_zero zeros2]
  simp only [View.readAt_eq_ld, h2.read_unread, h3.read_unread, h4.read_unread, h7.read_unread, h8.read_unread, View.ld_unit_zero (S := S1x1024x704) zeros3,
    View.ld_unit_zero (S := S1024x2048) zeros2, View.ld_unit_zero (S := S2048x704) zeros2]

theorem last_g (hc0 : ¬cond0_0 i) (hc1 : cond0_1 i) :
    sout0_C_0 c i a2 h2 a3 h3 a4 h4 a5 h5 a6 h6 a7 h7 a8 h8 hc0 hc1 x0 x1 x2 xs ys = k0_pay3 x0 xs x1 := by
  unfold sout0_C_0
  rw [View.read_writes_eq_canon _ _ _ (scover0_C_0 c i a2 h2 a3 h3 a4 h4 a5 h5 a6 h6 a7 h7 a8 h8 hc0 hc1 x0 x1 x2 xs ys)]
  unfold kernelRun0_C
  dsimp only
  sl_unfold_words
  rw [View.canon_unit_zero zeros2]
  simp only [View.readAt_eq_ld, h2.read_unread, h3.read_unread, h4.read_unread, h7.read_unread, h8.read_unread, View.ld_unit_zero (S := S1x1024x704) zeros3,
    View.ld_unit_zero (S := S1024x2048) zeros2, View.ld_unit_zero (S := S2048x704) zeros2]

theorem last_u (hc0 : ¬cond0_0 i) (hc1 : cond0_1 i) :
    sout0_C_1 c i a2 h2 a3 h3 a4 h4 a5 h5 a6 h6 a7 h7 a8 h8 hc0 hc1 x0 x1 x2 xs ys = k0_pay4 x0 ys x2 := by
  unfold sout0_C_1
  rw [View.read_writes_eq_canon _ _ _ (scover0_C_1 c i a2 h2 a3 h3 a4 h4 a5 h5 a6 h6 a7 h7 a8 h8 hc0 hc1 x0 x1 x2 xs ys)]
  unfold kernelRun0_C
  dsimp only
  sl_unfold_words
  rw [View.canon_unit_zero zeros2]
  simp only [View.readAt_eq_ld, h2.read_unread, h3.read_unread, h4.read_unread, h7.read_unread, h8.read_unread, View.ld_unit_zero (S := S1x1024x704) zeros3,
    View.ld_unit_zero (S := S1024x2048) zeros2, View.ld_unit_zero (S := S2048x704) zeros2]

theorem stored_g (hc0 : ¬cond0_0 i) (hc1 : cond0_1 i) :
    out0_C_3 c i a2 h2 a3 h3 a4 h4 a5 h5 a6 h6 a7 h7 a8 h8 hc0 hc1 x0 x1 x2 xs ys = k0_pay5 (k0_pay3 x0 xs x1) := by
  unfold out0_C_3
  rw [View.read_writes_eq_canon _ _ _ (cover0_C_3 c i a2 h2 a3 h3 a4 h4 a5 h5 a6 h6 a7 h7 a8 h8 hc0 hc1 x0 x1 x2 xs ys)]
  unfold kernelRun0_C
  dsimp only
  sl_unfold_words
  rw [View.canon_unit_zero zeros3, View.readCov_unit_zero (S := S2048x704) _ zeros2]
  simp only [View.readAt_eq_ld, h2.read_unread, h3.read_unread, h4.read_unread, h7.read_unread, h8.read_unread, View.ld_unit_zero (S := S1x1024x704) zeros3,
    View.ld_unit_zero (S := S1024x2048) zeros2, View.ld_unit_zero (S := S2048x704) zeros2]

theorem stored_u (hc0 : ¬cond0_0 i) (hc1 : cond0_1 i) :
    out0_C_4 c i a2 h2 a3 h3 a4 h4 a5 h5 a6 h6 a7 h7 a8 h8 hc0 hc1 x0 x1 x2 xs ys = k0_pay6 (k0_pay4 x0 ys x2) := by
  unfold out0_C_4
  rw [View.read_writes_eq_canon _ _ _ (cover0_C_4 c i a2 h2 a3 h3 a4 h4 a5 h5 a6 h6 a7 h7 a8 h8 hc0 hc1 x0 x1 x2 xs ys)]
  unfold kernelRun0_C
  dsimp only
  sl_unfold_words
  rw [View.canon_unit_zero zeros3, View.readCov_unit_zero (S := S2048x704) _ zeros2]
  simp only [View.readAt_eq_ld, h2.read_unread, h3.read_unread, h4.read_unread, h7.read_unread, h8.read_unread, View.ld_unit_zero (S := S1x1024x704) zeros3,
    View.ld_unit_zero (S := S1024x2048) zeros2, View.ld_unit_zero (S := S2048x704) zeros2]

end Payloads

/-- A row tile's product: column `k` of the inputs with column `e` of the shard. -/
def term (k : Fin 2048) (e : Fin 704) (x0 : Vec Ideal S1024x2048 .bf16) (x : Vec Ideal S1x1024x704 .bf16) : EReal :=
  ∑ r : Fin 1024, (x0 (ix2 r k) : EReal) * x (ix3 0 r e)

section Read

variable (k : Fin 2048) (e : Fin 704) (x0 : Vec Ideal S1024x2048 .bf16) (x : Vec Ideal S1x1024x704 .bf16) (xs : Vec Ideal S2048x704 .f32)

theorem reset_g : (k0_pay1 (F := Ideal)) (ix2 k e) = (0 : EReal) := by
  unfold k0_pay1
  pointwise
theorem reset_u : (k0_pay2 (F := Ideal)) (ix2 k e) = (0 : EReal) := by
  unfold k0_pay2
  pointwise
theorem add_g : k0_pay3 x0 xs x (ix2 k e) = ((xs (ix2 k e) : EReal) + term k e x0 x : EReal) := by
  unfold k0_pay3 term
  pointwise
theorem add_u : k0_pay4 x0 xs x (ix2 k e) = ((xs (ix2 k e) : EReal) + term k e x0 x : EReal) := by
  unfold k0_pay4 term
  pointwise
theorem store_g : k0_pay5 xs (ix3 0 k e) = (xs (ix2 k e) : EReal) := by
  unfold k0_pay5
  pointwise
theorem store_u : k0_pay6 xs (ix3 0 k e) = (xs (ix2 k e) : EReal) := by
  unfold k0_pay6
  pointwise

end Read

variable (m : (ℓ : Loc nD τ sig) → Buf (Elt Ideal) ℓ) (ρ : Dev nD → PrngReg) (c : Dev nD)

def termG (k : Fin 2048) (e : Fin 704) (n : ℕ) : EReal := if h : n < cfg0.N then term k e (iblk m c 0 ⟨n, h⟩) (iblk m c 1 ⟨n, h⟩) else 0
def termU (k : Fin 2048) (e : Fin 704) (n : ℕ) : EReal := if h : n < cfg0.N then term k e (iblk m c 0 ⟨n, h⟩) (iblk m c 2 ⟨n, h⟩) else 0

theorem scratch_first_g (k : Fin 2048) (e : Fin 704) (n : ℕ) (h : n < cfg0.N) (h0 : n % 8 = 0) :
    ((outsAt0 m c n h).2.2.1 (ix2 k e) : EReal) = termG m c k e n := by
  rw [outsAt0_A m c ⟨n, h⟩ h0 (by show ¬n % 8 = 7; omega)]
  dsimp only
  rw [first_g, add_g, reset_g, zero_add]
  unfold termG
  rw [dif_pos h]

theorem scratch_next_g (k : Fin 2048) (e : Fin 704) (n : ℕ) (h : n + 1 < cfg0.N) (h' : n < cfg0.N) (h0 : ¬(n + 1) % 8 = 0) :
    ((outsAt0 m c (n + 1) h).2.2.1 (ix2 k e) : EReal) = (outsAt0 m c n h').2.2.1 (ix2 k e) + termG m c k e (n + 1) := by
  unfold termG
  rw [dif_pos h]
  by_cases h1 : (n + 1) % 8 = 7
  · rw [outsAt0_C m c ⟨n + 1, h⟩ h0 h1]
    dsimp only
    rw [last_g, add_g]
    rfl
  · rw [outsAt0_B m c ⟨n + 1, h⟩ h0 h1]
    dsimp only
    rw [between_g, add_g]
    rfl

theorem scratch_first_u (k : Fin 2048) (e : Fin 704) (n : ℕ) (h : n < cfg0.N) (h0 : n % 8 = 0) :
    ((outsAt0 m c n h).2.2.2 (ix2 k e) : EReal) = termU m c k e n := by
  rw [outsAt0_A m c ⟨n, h⟩ h0 (by show ¬n % 8 = 7; omega)]
  dsimp only
  rw [first_u, add_u, reset_u, zero_add]
  unfold termU
  rw [dif_pos h]

theorem scratch_next_u (k : Fin 2048) (e : Fin 704) (n : ℕ) (h : n + 1 < cfg0.N) (h' : n < cfg0.N) (h0 : ¬(n + 1) % 8 = 0) :
    ((outsAt0 m c (n + 1) h).2.2.2 (ix2 k e) : EReal) = (outsAt0 m c n h').2.2.2 (ix2 k e) + termU m c k e (n + 1) := by
  unfold termU
  rw [dif_pos h]
  by_cases h1 : (n + 1) % 8 = 7
  · rw [outsAt0_C m c ⟨n + 1, h⟩ h0 h1]
    dsimp only
    rw [last_u, add_u]
    rfl
  · rw [outsAt0_B m c ⟨n + 1, h⟩ h0 h1]
    dsimp only
    rw [between_u, add_u]
    rfl

theorem out_last_g (k : Fin 2048) (e : Fin 704) (n : ℕ) (h : n < cfg0.N) (h1 : n % 8 = 7) :
    ((outsAt0 m c n h).1 (ix3 0 k e) : EReal) = (outsAt0 m c n h).2.2.1 (ix2 k e) := by
  rw [outsAt0_C m c ⟨n, h⟩ (by show ¬n % 8 = 0; omega) h1]
  dsimp only
  rw [stored_g, last_g, store_g]

theorem out_last_u (k : Fin 2048) (e : Fin 704) (n : ℕ) (h : n < cfg0.N) (h1 : n % 8 = 7) :
    ((outsAt0 m c n h).2.1 (ix3 0 k e) : EReal) = (outsAt0 m c n h).2.2.2 (ix2 k e) := by
  rw [outsAt0_C m c ⟨n, h⟩ (by show ¬n % 8 = 0; omega) h1]
  dsimp only
  rw [stored_u, last_u, store_u]

theorem idx : ∀ t : Fin cfg0.N, win0_0.index t = ![t.val % 8, 0] ∧ win0_1.index t = ![t.val / 8, t.val % 8, 0] ∧ win0_2.index t = ![t.val / 8, t.val % 8, 0] :=
  (by decide +kernel : ∀ t : Fin grid0.N, _)

theorem host_v1 (j : Fin 8) (i : Fin 8192) (e : Fin 704) : V m c main_v1 (ix3 j i e) = m ((c : Thread nD τ).loc main_arg1) (ix2 i (colAt j e)) := by
  after_reads_simp
  pointwise
  rfl
theorem host_v3 (j : Fin 8) (i : Fin 8192) (e : Fin 704) : V m c main_v3 (ix3 j i e) = m ((c : Thread nD τ).loc main_arg2) (ix2 i (colAt j e)) := by
  after_reads_simp
  pointwise
  rfl

section Blocks

variable (j q : Fin 8) (t : Fin cfg0.N) (ht : t.val = 8 * j.1 + q.1) (r : Fin 1024) (k : Fin 2048) (e : Fin 704)
include ht

theorem block0 : iblk m c 0 t (ix2 r k) = m ((c : Thread nD τ).loc main_arg0) (ix2 (rowAt q r) k) := by
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 1024 + r.1 = q.1 * 1024 + r.1; rw [h]; show t.val % 8 * 1024 + r.1 = q.1 * 1024 + r.1; omega
  | 1 => show win0_0.index t 1 * 2048 + k.1 = k.1; rw [h]; show 0 * 2048 + k.1 = k.1; omega

theorem block1 : iblk m c 1 t (ix3 0 r e) = m ((c : Thread nD τ).loc main_arg1) (ix2 (rowAt q r) (colAt j e)) := by
  rw [← host_v1 m c j (rowAt q r) e]
  refine congrArg (V m c main_v1) (funext fun a => Fin.ext ?_)
  obtain ⟨-, h, -⟩ := idx t
  refine (Pipeline.Window.rect_emb_val (cfg0.win 1) t _ a).trans ?_
  match a with
  | 0 => show win0_1.index t 0 * 1 + 0 = j.1; rw [h]; show t.val / 8 * 1 + 0 = j.1; omega
  | 1 => show win0_1.index t 1 * 1024 + r.1 = q.1 * 1024 + r.1; rw [h]; show t.val % 8 * 1024 + r.1 = q.1 * 1024 + r.1; omega
  | 2 => show win0_1.index t 2 * 704 + e.1 = e.1; rw [h]; show 0 * 704 + e.1 = e.1; omega

theorem block2 : iblk m c 2 t (ix3 0 r e) = m ((c : Thread nD τ).loc main_arg2) (ix2 (rowAt q r) (colAt j e)) := by
  rw [← host_v3 m c j (rowAt q r) e]
  refine congrArg (V m c main_v3) (funext fun a => Fin.ext ?_)
  obtain ⟨-, -, h⟩ := idx t
  refine (Pipeline.Window.rect_emb_val (cfg0.win 2) t _ a).trans ?_
  match a with
  | 0 => show win0_2.index t 0 * 1 + 0 = j.1; rw [h]; show t.val / 8 * 1 + 0 = j.1; omega
  | 1 => show win0_2.index t 1 * 1024 + r.1 = q.1 * 1024 + r.1; rw [h]; show t.val % 8 * 1024 + r.1 = q.1 * 1024 + r.1; omega
  | 2 => show win0_2.index t 2 * 704 + e.1 = e.1; rw [h]; show 0 * 704 + e.1 = e.1; omega

end Blocks

/-- The gradient of a weight at shard `j`, row `k`, column `e` of the shard. -/
def dw (h : S8192x2048.Idx → EReal) (d : S8192x5632.Idx → EReal) (j : Fin 8) (k : Fin 2048) (e : Fin 704) : EReal :=
  ∑ i : Fin 8192, h (ix2 i k) * d (ix2 i (colAt j e))

/-- One row tile's part of it. -/
def part (h : S8192x2048.Idx → EReal) (d : S8192x5632.Idx → EReal) (j : Fin 8) (k : Fin 2048) (e : Fin 704) (q : Fin 8) : EReal :=
  ∑ r : Fin 1024, h (ix2 (rowAt q r) k) * d (ix2 (rowAt q r) (colAt j e))

theorem sum_parts (h : S8192x2048.Idx → EReal) (d : S8192x5632.Idx → EReal) (j : Fin 8) (k : Fin 2048) (e : Fin 704) :
    ∑ q, part h d j k e q = dw h d j k e := by
  unfold part dw
  rw [sum_rows fun i => h (ix2 i k) * d (ix2 i (colAt j e))]

theorem termG_eq (j q : Fin 8) (k : Fin 2048) (e : Fin 704) : termG m c k e (8 * j.1 + q.1)
    = part (m ((c : Thread nD τ).loc main_arg0)) (m ((c : Thread nD τ).loc main_arg1)) j k e q := by
  have h : 8 * j.1 + q.1 < cfg0.N := by rw [show cfg0.N = 64 from N_0]; omega
  unfold termG
  rw [dif_pos h]
  unfold term part
  exact Finset.sum_congr rfl fun r _ => congrArg₂ (fun x y : EReal => x * y) (block0 m c j q ⟨_, h⟩ rfl r k) (block1 m c j q ⟨_, h⟩ rfl r e)

theorem dg_at (j : Fin 8) (k : Fin 2048) (e : Fin 704) (h : 8 * j.1 + 7 < cfg0.N) : ((outsAt0 m c (8 * j.1 + 7) h).1 (ix3 0 k e) : EReal)
    = dw (m ((c : Thread nD τ).loc main_arg0)) (m ((c : Thread nD τ).loc main_arg1)) j k e := by
  rw [out_last_g m c k e _ h (by omega)]
  refine (running_end cfg0.N (termG m c k e) (fun n h => (outsAt0 m c n h).2.2.1 (ix2 k e)) (scratch_first_g m c k e) (scratch_next_g m c k e) j.1 h).trans ?_
  exact (Finset.sum_congr rfl fun q _ => termG_eq m c j q k e).trans (sum_parts _ _ _ _ _)

theorem result_g (i : S8x2048x704.Idx) : (Value.G3 m c i : EReal)
    = dw (m ((c : Thread nD τ).loc main_arg0)) (m ((c : Thread nD τ).loc main_arg1)) (i 0) (i 1) (i 2) := by
  have h0 : (i 0).val < 8 := (i 0).isLt
  have h1 : (i 1).val < 2048 := (i 1).isLt
  have h2 : (i 2).val < 704 := (i 2).isLt
  have hp : Value.pt3Of i = 8 * (i 0).val + 7 := by
    show 8 * (1 * ((i 0).val / 1 - 0) + 1 * ((i 1).val / 2048 - 0) + 1 * ((i 2).val / 704 - 0)) + 7 = _
    omega
  have hN : 8 * (i 0).val + 7 < cfg0.N := by rw [show cfg0.N = 64 from N_0]; omega
  unfold Value.G3
  rw [dif_pos (by rw [hp]; exact hN), Value.fold0_congr m c _ _ _ (by rw [Nat.zero_add]; exact hN) hp, ← Value.outsAt0_sweep m c _ hN]
  have hl : Value.loc3Of i = ix3 0 (i 1) (i 2) := by
    funext a
    match a with
    | 0 => exact Subsingleton.elim (α := Fin 1) _ _
    | 1 => exact Fin.ext (Nat.mod_eq_of_lt h1)
    | 2 => exact Fin.ext (Nat.mod_eq_of_lt h2)
  rw [hl]
  exact dg_at m c (i 0) (i 1) (i 2) hN

theorem termU_eq (j q : Fin 8) (k : Fin 2048) (e : Fin 704) : termU m c k e (8 * j.1 + q.1)
    = part (m ((c : Thread nD τ).loc main_arg0)) (m ((c : Thread nD τ).loc main_arg2)) j k e q := by
  have h : 8 * j.1 + q.1 < cfg0.N := by rw [show cfg0.N = 64 from N_0]; omega
  unfold termU
  rw [dif_pos h]
  unfold term part
  exact Finset.sum_congr rfl fun r _ => congrArg₂ (fun x y : EReal => x * y) (block0 m c j q ⟨_, h⟩ rfl r k) (block2 m c j q ⟨_, h⟩ rfl r e)

theorem du_at (j : Fin 8) (k : Fin 2048) (e : Fin 704) (h : 8 * j.1 + 7 < cfg0.N) : ((outsAt0 m c (8 * j.1 + 7) h).2.1 (ix3 0 k e) : EReal)
    = dw (m ((c : Thread nD τ).loc main_arg0)) (m ((c : Thread nD τ).loc main_arg2)) j k e := by
  rw [out_last_u m c k e _ h (by omega)]
  refine (running_end cfg0.N (termU m c k e) (fun n h => (outsAt0 m c n h).2.2.2 (ix2 k e)) (scratch_first_u m c k e) (scratch_next_u m c k e) j.1 h).trans ?_
  exact (Finset.sum_congr rfl fun q _ => termU_eq m c j q k e).trans (sum_parts _ _ _ _ _)

theorem result_u (i : S8x2048x704.Idx) : (Value.G4 m c i : EReal)
    = dw (m ((c : Thread nD τ).loc main_arg0)) (m ((c : Thread nD τ).loc main_arg2)) (i 0) (i 1) (i 2) := by
  have h0 : (i 0).val < 8 := (i 0).isLt
  have h1 : (i 1).val < 2048 := (i 1).isLt
  have h2 : (i 2).val < 704 := (i 2).isLt
  have hp : Value.pt4Of i = 8 * (i 0).val + 7 := by
    show 8 * (1 * ((i 0).val / 1 - 0) + 1 * ((i 1).val / 2048 - 0) + 1 * ((i 2).val / 704 - 0)) + 7 = _
    omega
  have hN : 8 * (i 0).val + 7 < cfg0.N := by rw [show cfg0.N = 64 from N_0]; omega
  unfold Value.G4
  rw [dif_pos (by rw [hp]; exact hN), Value.fold0_congr m c _ _ _ (by rw [Nat.zero_add]; exact hN) hp, ← Value.outsAt0_sweep m c _ hN]
  have hl : Value.loc4Of i = ix3 0 (i 1) (i 2) := by
    funext a
    match a with
    | 0 => exact Subsingleton.elim (α := Fin 1) _ _
    | 1 => exact Fin.ext (Nat.mod_eq_of_lt h1)
    | 2 => exact Fin.ext (Nat.mod_eq_of_lt h2)
  rw [hl]
  exact du_at m c (i 0) (i 1) (i 2) hN

theorem reference (h : FVec Ideal S8192x2048 .bf16) (d : FVec Ideal S8192x5632 .bf16) (j : Fin 8) (k : Fin 2048) (e : Fin 704) :
    truncf .bf16 (transpose Cert.Reference2Ideal.S8x2048x704 [1, 0, 2] (shapeCast Cert.Reference2Ideal.S2048x8x704 (transpose Cert.Reference2Ideal.S2048x5632 [1, 0]
      (Host.dotGeneral (F := Ideal) Cert.Reference2Ideal.dot_S8192x5632_S8192x2048_S5632x2048_0_0_1_1_n_n none
        (extf .f32 d Cert.Reference2Ideal.Facts₀.bitsLt_bf16_f32) (extf .f32 h Cert.Reference2Ideal.Facts₀.bitsLt_bf16_f32))
      Cert.Reference2Ideal.Facts₀.transposes_S5632x2048_S2048x5632_1_0) Cert.Reference2Ideal.Facts₀.shapeCasts_S2048x5632_S2048x8x704)
      Cert.Reference2Ideal.Facts₀.transposes_S2048x8x704_S8x2048x704_1_0_2) Cert.Reference2Ideal.Facts₀.bitsLt_bf16_f32 (ix3 j k e) = dw h d j k e := by
  unfold dw
  pointwise
  exact Finset.sum_congr rfl fun i _ => mul_comm _ _

theorem algebraic : Cert.algebraic_Kernel2Ideal_Reference2Ideal := by
  intro m g m' g' hp he
  refine ⟨_, _, Value.run m g, (θ_run _ _ _).mono (fun r h c => ⟨(h c).1.trans ?_, (h c).2.1.trans ?_, (h c).2.2⟩) (Cert.Reference2Ideal.Value.run m' g')⟩
  all_goals
    obtain ⟨e0, e1, e2⟩ := he c
    funext i
    have e : i = ix3 (i 0) (i 1) (i 2) := by funext a; match a with | 0 => rfl | 1 => rfl | 2 => rfl
  · rw [e0, e1, result_g m c i]
    exact (congrArg _ e).trans (reference _ _ (i 0) (i 1) (i 2))
  · rw [e0, e2, result_u m c i]
    exact (congrArg _ e).trans (reference _ _ (i 0) (i 1) (i 2))

/-- The call and its idealization are one text. -/
theorem same₀ {F : FTy → Type} [FloatOps F] : Cert.Kernel2.defs₀ (F := F) = Cert.Kernel2Ideal.defs₀ (F := F) := by
  unfold Cert.Kernel2.defs₀ Cert.Kernel2Ideal.defs₀
  refine congrArg Defs.onTc (funext fun l => funext fun x => ?_)
  match l, x with
  | 0, (t, s) => rfl
theorem same {F : FTy → Type} [FloatOps F] : Cert.Kernel2.defs (F := F) = Cert.Kernel2Ideal.defs (F := F) :=
  congrArg (Pipeline.defs Cert.Kernel2Ideal.pcfgs) same₀

theorem frame_kernel : Cert.quiescent_Kernel2 := fun m ρ _ => by
  rw [same]
  exact (θ_run Cert.Kernel2Ideal.defs _ _).mono (fun _ h => h) (Gen.frame (F := Bits) m ρ)
theorem frame_ideal : Cert.quiescent_Kernel2Ideal := fun m ρ _ => Gen.frame (F := Ideal) m ρ
theorem frame_reference : Cert.quiescent_Reference2Ideal := fun m ρ _ =>
  (θ_run _ _ _).mono (fun r h => ⟨fun c => (h c).2.2, sem_eq_zero_of_no_sems (by decide) r.2⟩) (Cert.Reference2Ideal.Value.run (F := Ideal) m ρ)
theorem preserves : Cert.preserves_Kernel2_Kernel2Ideal := trivial

end Cert.Ffn2
-- ==== Proof.Ffn3.lean ====
/-
  The feed-forward's backward call for its input: eight shards of columns, each adding its two products to the running sum,
  are the two products over all columns.
-/
module

public import proofs.«01_k».proof.Proof.Gen.Kernel3Ideal.Value
public import proofs.«01_k».proof.Proof.Gen.Kernel3
public import proofs.«01_k».proof.Proof.Gen.Reference3Ideal.Run
public import proofs.«01_k».proof.Proof.Shards

@[expose] public section

noncomputable section

namespace Cert.Ffn3

open Cert.Kernel3Ideal Cert.Kernel3Ideal.Gen Cert.Ffn
open Idealize.ShloMosaic Idealize.ShloMosaic.TcCoe Idealize.ShloMosaic.Tactic Idealize.SL.Sem

section Payloads

variable {F : FTy → Type} [FloatOps F]
variable (c : Dev nD) (i : grid0.Coords) (a2 : Memref sig .tc .vmem S1x1024x704 .bf16) (h2 : a2.IsWhole) (a3 : Memref sig .tc .vmem S1x1024x704 .bf16) (h3 : a3.IsWhole)
  (a4 : Memref sig .tc .vmem S1x1x2048x704 .bf16) (h4 : a4.IsWhole) (a5 : Memref sig .tc .vmem S1x1x2048x704 .bf16) (h5 : a5.IsWhole)
  (a6 : Memref sig .tc .vmem S1024x2048 .f32) (h6 : a6.IsWhole) (a7 : Memref sig .tc .vmem S1024x2048 .f32) (h7 : a7.IsWhole)
  (x0 x1 : Vec F S1x1024x704 .bf16) (x2 x3 : Vec F S1x1x2048x704 .bf16) (xs : Vec F S1024x2048 .f32)

theorem first (hc0 : cond0_0 i) (hc1 : ¬cond0_1 i) :
    sout0_A_0 c i a2 h2 a3 h3 a4 h4 a5 h5 a6 h6 a7 h7 hc0 hc1 x0 x1 x2 x3 = k0_pay2 k0_pay1 x0 x2 x1 x3 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x2048) zeros2, View.readCov_unit_zero (S := S1024x2048) _ zeros2]
  simp only [View.readAt_eq_ld, h2.read_unread, h3.read_unread, h4.read_unread, h5.read_unread, View.ld_unit_zero (S := S1x1024x704) zeros3,
    View.ld_unit_zero (S := S1x1x2048x704) zeros4]

theorem between (hc0 : ¬cond0_0 i) (hc1 : ¬cond0_1 i) :
    sout0_B_0 c i a2 h2 a3 h3 a4 h4 a5 h5 a6 h6 a7 h7 hc0 hc1 x0 x1 x2 x3 xs = k0_pay2 xs x0 x2 x1 x3 := by
  unfold sout0_B_0
  rw [View.read_writes_eq_canon _ _ _ (scover0_B_0 c i a2 h2 a3 h3 a4 h4 a5 h5 a6 h6 a7 h7 hc0 hc1 x0 x1 x2 x3 xs)]
  unfold kernelRun0_B
  dsimp only
  sl_unfold_words
  rw [View.canon_unit_zero zeros2]
  simp only [View.readAt_eq_ld, h2.read_unread, h3.read_unread, h4.read_unread, h5.read_unread, h7.read_unread, View.ld_unit_zero (S := S1x1024x704) zeros3,
    View.ld_unit_zero (S := S1x1x2048x704) zeros4, View.ld_unit_zero (S := S1024x2048) zeros2]

theorem last (hc0 : ¬cond0_0 i) (hc1 : cond0_1 i) :
    sout0_C_0 c i a2 h2 a3 h3 a4 h4 a5 h5 a6 h6 a7 h7 hc0 hc1 x0 x1 x2 x3 xs = k0_pay2 xs x0 x2 x1 x3 := by
  unfold sout0_C_0
  rw [View.read_writes_eq_canon _ _ _ (scover0_C_0 c i a2 h2 a3 h3 a4 h4 a5 h5 a6 h6 a7 h7 hc0 hc1 x0 x1 x2 x3 xs)]
  unfold kernelRun0_C
  dsimp only
  sl_unfold_words
  rw [View.canon_unit_zero zeros2]
  simp only [View.readAt_eq_ld, h2.read_unread, h3.read_unread, h4.read_unread, h5.read_unread, h7.read_unread, View.ld_unit_zero (S := S1x1024x704) zeros3,
    View.ld_unit_zero (S := S1x1x2048x704) zeros4, View.ld_unit_zero (S := S1024x2048) zeros2]

theorem stored (hc0 : ¬cond0_0 i) (hc1 : cond0_1 i) :
    out0_C_4 c i a2 h2 a3 h3 a4 h4 a5 h5 a6 h6 a7 h7 hc0 hc1 x0 x1 x2 x3 xs = k0_pay2 xs x0 x2 x1 x3 := by
  unfold out0_C_4
  rw [View.read_writes_eq_canon _ _ _ (cover0_C_4 c i a2 h2 a3 h3 a4 h4 a5 h5 a6 h6 a7 h7 hc0 hc1 x0 x1 x2 x3 xs)]
  unfold kernelRun0_C
  dsimp only
  sl_unfold_words
  rw [View.canon_unit_zero zeros2, View.readCov_unit_zero (S := S1024x2048) _ zeros2]
  simp only [View.readAt_eq_ld, h2.read_unread, h3.read_unread, h4.read_unread, h5.read_unread, h7.read_unread, View.ld_unit_zero (S := S1x1024x704) zeros3,
    View.ld_unit_zero (S := S1x1x2048x704) zeros4, View.ld_unit_zero (S := S1024x2048) zeros2]

end Payloads

theorem reset_at (r : Fin 1024) (k : Fin 2048) : (k0_pay1 (F := Ideal)) (ix2 r k) = (0 : EReal) := by
  unfold k0_pay1
  pointwise

theorem pay_at (xs : Vec Ideal S1024x2048 .f32) (x0 x1 : Vec Ideal S1x1024x704 .bf16) (x2 x3 : Vec Ideal S1x1x2048x704 .bf16) (r : Fin 1024) (k : Fin 2048) :
    k0_pay2 xs x0 x2 x1 x3 (ix2 r k)
      = ((xs (ix2 r k) : EReal) + ((∑ e : Fin 704, (x0 (ix3 0 r e) : EReal) * x2 (ix4 0 0 k e)) + ∑ e : Fin 704, (x1 (ix3 0 r e) : EReal) * x3 (ix4 0 0 k e)) : EReal) := by
  unfold k0_pay2
  pointwise

variable (m : (ℓ : Loc nD τ sig) → Buf (Elt Ideal) ℓ) (ρ : Dev nD → PrngReg) (c : Dev nD)

/-- The two products of point `t`, over the blocks. -/
def term (r : Fin 1024) (k : Fin 2048) (x0 x1 : Vec Ideal S1x1024x704 .bf16) (x2 x3 : Vec Ideal S1x1x2048x704 .bf16) : EReal :=
  (∑ e : Fin 704, (x0 (ix3 0 r e) : EReal) * x2 (ix4 0 0 k e)) + ∑ e : Fin 704, (x1 (ix3 0 r e) : EReal) * x3 (ix4 0 0 k e)

def termAt (r : Fin 1024) (k : Fin 2048) (n : ℕ) : EReal :=
  if h : n < cfg0.N then term r k (iblk m c 0 ⟨n, h⟩) (iblk m c 1 ⟨n, h⟩) (iblk m c 2 ⟨n, h⟩) (iblk m c 3 ⟨n, h⟩) else 0

theorem scratch_first (r : Fin 1024) (k : Fin 2048) (n : ℕ) (h : n < cfg0.N) (h0 : n % 8 = 0) :
    ((outsAt0 m c n h).2 (ix2 r k) : EReal) = termAt m c r k n := by
  rw [outsAt0_A m c ⟨n, h⟩ h0 (by show ¬n % 8 = 7; omega)]
  dsimp only
  rw [first, pay_at, reset_at, zero_add]
  unfold termAt
  rw [dif_pos h]
  rfl

theorem scratch_next (r : Fin 1024) (k : Fin 2048) (n : ℕ) (h : n + 1 < cfg0.N) (h' : n < cfg0.N) (h0 : ¬(n + 1) % 8 = 0) :
    ((outsAt0 m c (n + 1) h).2 (ix2 r k) : EReal) = (outsAt0 m c n h').2 (ix2 r k) + termAt m c r k (n + 1) := by
  unfold termAt
  rw [dif_pos h]
  by_cases h1 : (n + 1) % 8 = 7
  · rw [outsAt0_C m c ⟨n + 1, h⟩ h0 h1]
    dsimp only
    rw [last, pay_at]
    rfl
  · rw [outsAt0_B m c ⟨n + 1, h⟩ h0 h1]
    dsimp only
    rw [between, pay_at]
    rfl

theorem out_last (n : ℕ) (h : n < cfg0.N) (h1 : n % 8 = 7) : (outsAt0 m c n h).1 = (outsAt0 m c n h).2 := by
  rw [outsAt0_C m c ⟨n, h⟩ (by show ¬n % 8 = 0; omega) h1]
  dsimp only
  rw [stored, last]

theorem idx : ∀ t : Fin cfg0.N, win0_0.index t = ![t.val % 8, t.val / 8, 0] ∧ win0_1.index t = ![t.val % 8, t.val / 8, 0]
    ∧ win0_2.index t = ![t.val % 8, 0, 0, 0] ∧ win0_3.index t = ![t.val % 8, 0, 0, 0] :=
  (by decide +kernel : ∀ t : Fin grid0.N, _)

theorem host_v1 (j : Fin 8) (i : Fin 8192) (e : Fin 704) : V m c main_v1 (ix3 j i e) = m ((c : Thread nD τ).loc main_arg0) (ix2 i (colAt j e)) := by
  after_reads_simp
  pointwise
  rfl
theorem host_v3 (j : Fin 8) (i : Fin 8192) (e : Fin 704) : V m c main_v3 (ix3 j i e) = m ((c : Thread nD τ).loc main_arg1) (ix2 i (colAt j e)) := by
  after_reads_simp
  pointwise
  rfl
theorem host_v6 (j : Fin 8) (k : Fin 2048) (e : Fin 704) : V m c main_v6 (ix4 j 0 k e) = m ((c : Thread nD τ).loc main_arg2) (ix2 k (colAt j e)) := by
  after_reads_simp
  pointwise
  rfl
theorem host_v9 (j : Fin 8) (k : Fin 2048) (e : Fin 704) : V m c main_v9 (ix4 j 0 k e) = m ((c : Thread nD τ).loc main_arg3) (ix2 k (colAt j e)) := by
  after_reads_simp
  pointwise
  rfl

section Blocks

variable (q j : Fin 8) (t : Fin cfg0.N) (ht : t.val = 8 * q.1 + j.1) (r : Fin 1024) (k : Fin 2048) (e : Fin 704)
include ht

theorem block0 : iblk m c 0 t (ix3 0 r e) = m ((c : Thread nD τ).loc main_arg0) (ix2 (rowAt q r) (colAt j e)) := by
  rw [← host_v1 m c j (rowAt q r) e]
  refine congrArg (V m c main_v1) (funext fun a => Fin.ext ?_)
  obtain ⟨h, -⟩ := idx t
  refine (Pipeline.Window.rect_emb_val (cfg0.win 0) t _ a).trans ?_
  match a with
  | 0 => show win0_0.index t 0 * 1 + 0 = j.1; rw [h]; show t.val % 8 * 1 + 0 = j.1; omega
  | 1 => show win0_0.index t 1 * 1024 + r.1 = q.1 * 1024 + r.1; rw [h]; show t.val / 8 * 1024 + r.1 = q.1 * 1024 + r.1; omega
  | 2 => show win0_0.index t 2 * 704 + e.1 = e.1; rw [h]; show 0 * 704 + e.1 = e.1; omega

theorem block1 : iblk m c 1 t (ix3 0 r e) = m ((c : Thread nD τ).loc main_arg1) (ix2 (rowAt q r) (colAt j e)) := by
  rw [← host_v3 m c j (rowAt q r) e]
  refine congrArg (V m c main_v3) (funext fun a => Fin.ext ?_)
  obtain ⟨-, h, -⟩ := idx t
  refine (Pipeline.Window.rect_emb_val (cfg0.win 1) t _ a).trans ?_
  match a with
  | 0 => show win0_1.index t 0 * 1 + 0 = j.1; rw [h]; show t.val % 8 * 1 + 0 = j.1; omega
  | 1 => show win0_1.index t 1 * 1024 + r.1 = q.1 * 1024 + r.1; rw [h]; show t.val / 8 * 1024 + r.1 = q.1 * 1024 + r.1; omega
  | 2 => show win0_1.index t 2 * 704 + e.1 = e.1; rw [h]; show 0 * 704 + e.1 = e.1; omega

theorem block2 : iblk m c 2 t (ix4 0 0 k e) = m ((c : Thread nD τ).loc main_arg2) (ix2 k (colAt j e)) := by
  rw [← host_v6 m c j k e]
  refine congrArg (V m c main_v6) (funext fun a => Fin.ext ?_)
  obtain ⟨-, -, h, -⟩ := idx t
  refine (Pipeline.Window.rect_emb_val (cfg0.win 2) t _ a).trans ?_
  match a with
  | 0 => show win0_2.index t 0 * 1 + 0 = j.1; rw [h]; show t.val % 8 * 1 + 0 = j.1; omega
  | 1 => show win0_2.index t 1 * 1 + 0 = 0; rw [h]; rfl
  | 2 => show win0_2.index t 2 * 2048 + k.1 = k.1; rw [h]; show 0 * 2048 + k.1 = k.1; omega
  | 3 => show win0_2.index t 3 * 704 + e.1 = e.1; rw [h]; show 0 * 704 + e.1 = e.1; omega

theorem block3 : iblk m c 3 t (ix4 0 0 k e) = m ((c : Thread nD τ).loc main_arg3) (ix2 k (colAt j e)) := by
  rw [← host_v9 m c j k e]
  refine congrArg (V m c main_v9) (funext fun a => Fin.ext ?_)
  obtain ⟨-, -, -, h⟩ := idx t
  refine (Pipeline.Window.rect_emb_val (cfg0.win 3) t _ a).trans ?_
  match a with
  | 0 => show win0_3.index t 0 * 1 + 0 = j.1; rw [h]; show t.val % 8 * 1 + 0 = j.1; omega
  | 1 => show win0_3.index t 1 * 1 + 0 = 0; rw [h]; rfl
  | 2 => show win0_3.index t 2 * 2048 + k.1 = k.1; rw [h]; show 0 * 2048 + k.1 = k.1; omega
  | 3 => show win0_3.index t 3 * 704 + e.1 = e.1; rw [h]; show 0 * 704 + e.1 = e.1; omega

end Blocks

/-- The gradient of the feed-forward's input at row `i`, column `k`. -/
def dh (da db : S8192x5632.Idx → EReal) (wg wu : S2048x5632.Idx → EReal) (i : Fin 8192) (k : Fin 2048) : EReal :=
  (∑ n, da (ix2 i n) * wg (ix2 k n)) + ∑ n, db (ix2 i n) * wu (ix2 k n)

/-- One shard's two products. -/
def part (da db : S8192x5632.Idx → EReal) (wg wu : S2048x5632.Idx → EReal) (i : Fin 8192) (k : Fin 2048) (j : Fin 8) : EReal :=
  (∑ e : Fin 704, da (ix2 i (colAt j e)) * wg (ix2 k (colAt j e))) + ∑ e : Fin 704, db (ix2 i (colAt j e)) * wu (ix2 k (colAt j e))

theorem sum_parts (da db : S8192x5632.Idx → EReal) (wg wu : S2048x5632.Idx → EReal) (i : Fin 8192) (k : Fin 2048) :
    ∑ j, part da db wg wu i k j = dh da db wg wu i k := by
  unfold part dh
  rw [Finset.sum_add_distrib, sum_cols fun n => da (ix2 i n) * wg (ix2 k n), sum_cols fun n => db (ix2 i n) * wu (ix2 k n)]

theorem termAt_eq (q j : Fin 8) (r : Fin 1024) (k : Fin 2048) : termAt m c r k (8 * q.1 + j.1)
    = part (m ((c : Thread nD τ).loc main_arg0)) (m ((c : Thread nD τ).loc main_arg1)) (m ((c : Thread nD τ).loc main_arg2)) (m ((c : Thread nD τ).loc main_arg3)) (rowAt q r) k j := by
  have h : 8 * q.1 + j.1 < cfg0.N := by rw [show cfg0.N = 64 from N_0]; omega
  unfold termAt
  rw [dif_pos h]
  unfold term part
  exact congrArg₂ (fun x y : EReal => x + y)
    (Finset.sum_congr rfl fun e _ => congrArg₂ (fun x y : EReal => x * y) (block0 m c q j ⟨_, h⟩ rfl r e) (block2 m c q j ⟨_, h⟩ rfl k e))
    (Finset.sum_congr rfl fun e _ => congrArg₂ (fun x y : EReal => x * y) (block1 m c q j ⟨_, h⟩ rfl r e) (block3 m c q j ⟨_, h⟩ rfl k e))

theorem dh_at (q : Fin 8) (r : Fin 1024) (k : Fin 2048) (h : 8 * q.1 + 7 < cfg0.N) : ((outsAt0 m c (8 * q.1 + 7) h).1 (ix2 r k) : EReal)
    = dh (m ((c : Thread nD τ).loc main_arg0)) (m ((c : Thread nD τ).loc main_arg1)) (m ((c : Thread nD τ).loc main_arg2)) (m ((c : Thread nD τ).loc main_arg3)) (rowAt q r) k := by
  rw [out_last m c _ h (by omega)]
  refine (running_end cfg0.N (termAt m c r k) (fun n h => (outsAt0 m c n h).2 (ix2 r k)) (scratch_first m c r k) (scratch_next m c r k) q.1 h).trans ?_
  exact (Finset.sum_congr rfl fun j _ => termAt_eq m c q j r k).trans (sum_parts _ _ _ _ _ _)

theorem result (i : S8192x2048.Idx) : (Value.G4 m c i : EReal)
    = dh (m ((c : Thread nD τ).loc main_arg0)) (m ((c : Thread nD τ).loc main_arg1)) (m ((c : Thread nD τ).loc main_arg2)) (m ((c : Thread nD τ).loc main_arg3)) (i 0) (i 1) := by
  have h0 : (i 0).val < 8192 := (i 0).isLt
  have h1 : (i 1).val < 2048 := (i 1).isLt
  have hp : Value.pt4Of i = 8 * ((i 0).val / 1024) + 7 := by
    show 8 * (1 * ((i 0).val / 1024 - 0) + 1 * ((i 1).val / 2048 - 0)) + 7 = _
    omega
  have hN : 8 * ((i 0).val / 1024) + 7 < cfg0.N := by rw [show cfg0.N = 64 from N_0]; omega
  have e := dh_at m c ⟨(i 0).val / 1024, by omega⟩ ⟨(i 0).val % 1024, by omega⟩ (i 1) hN
  unfold Value.G4
  rw [dif_pos (by rw [hp]; exact hN), Value.fold0_congr m c _ _ _ (by rw [Nat.zero_add]; exact hN) hp, ← Value.outsAt0_sweep m c _ hN]
  have hl : Value.loc4Of i = ix2 ⟨(i 0).val % 1024, by omega⟩ (i 1) := by
    funext a
    match a with
    | 0 => rfl
    | 1 => exact Fin.ext (Nat.mod_eq_of_lt h1)
  rw [hl]
  refine e.trans (congrArg (fun x => dh _ _ _ _ x (i 1)) (Fin.ext ?_))
  show (i 0).val / 1024 * 1024 + (i 0).val % 1024 = (i 0).val
  omega

theorem reference (da db : FVec Ideal S8192x5632 .bf16) (wg wu : FVec Ideal S2048x5632 .bf16) (i : Fin 8192) (k : Fin 2048) :
    addf (Host.dotGeneral Cert.Reference3Ideal.dot_S8192x5632_S2048x5632_S8192x2048_1_1_0_0_n_n none (extf .f32 db Cert.Reference3Ideal.Facts₀.bitsLt_bf16_f32) (extf .f32 wu Cert.Reference3Ideal.Facts₀.bitsLt_bf16_f32))
      (Host.dotGeneral Cert.Reference3Ideal.dot_S8192x5632_S2048x5632_S8192x2048_1_1_0_0_n_n none (extf .f32 da Cert.Reference3Ideal.Facts₀.bitsLt_bf16_f32) (extf .f32 wg Cert.Reference3Ideal.Facts₀.bitsLt_bf16_f32)) (ix2 i k)
      = dh da db wg wu i k := by
  unfold dh
  pointwise
  exact add_comm _ _

theorem algebraic : Cert.algebraic_Kernel3Ideal_Reference3Ideal := by
  intro m g m' g' hp he
  refine ⟨_, Value.run m g, (θ_run _ _ _).mono (fun r h c => ⟨(h c).1.trans ?_, (h c).2⟩) (Cert.Reference3Ideal.Value.run m' g')⟩
  obtain ⟨e0, e1, e2, e3⟩ := he c
  funext i
  have e : i = ix2 (i 0) (i 1) := by funext a; match a with | 0 => rfl | 1 => rfl
  rw [e0, e1, e2, e3, result m c i]
  exact (congrArg _ e).trans (reference _ _ _ _ (i 0) (i 1))

/-- The call and its idealization are one text. -/
theorem same₀ {F : FTy → Type} [FloatOps F] : Cert.Kernel3.defs₀ (F := F) = Cert.Kernel3Ideal.defs₀ (F := F) := by
  unfold Cert.Kernel3.defs₀ Cert.Kernel3Ideal.defs₀
  refine congrArg Defs.onTc (funext fun l => funext fun x => ?_)
  match l, x with
  | 0, (t, s) => rfl
theorem same {F : FTy → Type} [FloatOps F] : Cert.Kernel3.defs (F := F) = Cert.Kernel3Ideal.defs (F := F) :=
  congrArg (Pipeline.defs Cert.Kernel3Ideal.pcfgs) same₀

theorem frame_kernel : Cert.quiescent_Kernel3 := fun m ρ _ => by
  rw [same]
  exact (θ_run Cert.Kernel3Ideal.defs _ _).mono (fun _ h => h) (Gen.frame (F := Bits) m ρ)
theorem frame_ideal : Cert.quiescent_Kernel3Ideal := fun m ρ _ => Gen.frame (F := Ideal) m ρ
theorem frame_reference : Cert.quiescent_Reference3Ideal := fun m ρ _ =>
  (θ_run _ _ _).mono (fun r h => ⟨fun c => (h c).2, sem_eq_zero_of_no_sems (by decide) r.2⟩) (Cert.Reference3Ideal.Value.run (F := Ideal) m ρ)
theorem preserves : Cert.preserves_Kernel3_Kernel3Ideal := trivial

end Cert.Ffn3
-- ==== Proof.Ffn4.lean ====
/-
  The feed-forward's backward call through its gate: the cotangents of the two pre-activations, entry by entry, and the
  gradient of the last weight, a running sum over eight row tiles, the eight shards side by side.
-/
module

public import proofs.«01_k».proof.Proof.Gen.Kernel4Ideal.Value
public import proofs.«01_k».proof.Proof.Gen.Kernel4
public import proofs.«01_k».proof.Proof.Gen.Reference4Ideal.Run
public import proofs.«01_k».proof.Proof.Shards
public import proofs.«01_k».proof.Proof.Finite

@[expose] public section

noncomputable section

namespace Cert.Ffn4

open Cert.Kernel4Ideal Cert.Kernel4Ideal.Gen Cert.Ffn
open Idealize.ShloMosaic Idealize.ShloMosaic.TcCoe Idealize.ShloMosaic.Tactic Idealize.SL.Sem

section Payloads

variable {F : FTy → Type} [FloatOps F]
variable (c : Dev nD) (i : grid0.Coords) (a2 : Memref sig .tc .vmem S1024x2048 .bf16) (h2 : a2.IsWhole) (a3 : Memref sig .tc .vmem S1x1x704x2048 .bf16) (h3 : a3.IsWhole)
  (a4 : Memref sig .tc .vmem S1x1024x704 .bf16) (h4 : a4.IsWhole) (a5 : Memref sig .tc .vmem S1x1024x704 .bf16) (h5 : a5.IsWhole)
  (a6 : Memref sig .tc .vmem S1x1024x704 .bf16) (h6 : a6.IsWhole) (a7 : Memref sig .tc .vmem S1x1024x704 .bf16) (h7 : a7.IsWhole)
  (a8 : Memref sig .tc .vmem S1x1024x704 .bf16) (h8 : a8.IsWhole) (a9 : Memref sig .tc .vmem S1x704x2048 .bf16) (h9 : a9.IsWhole)
  (a10 : Memref sig .tc .vmem S704x2048 .f32) (h10 : a10.IsWhole)
  (x0 : Vec F S1024x2048 .bf16) (x1 : Vec F S1x1x704x2048 .bf16) (x2 x3 x4 : Vec F S1x1024x704 .bf16) (xs : Vec F S704x2048 .f32)

theorem first_a (hc0 : cond0_0 i) (hc1 : ¬cond0_1 i) :
    out0_A_5 c i a2 h2 a3 h3 a4 h4 a5 h5 a6 h6 a7 h7 a8 h8 a9 h9 a10 h10 hc0 hc1 x0 x1 x2 x3 x4 = k0_pay8 x0 x1 x2 x3 := by
  unfold out0_A_5
  rw [View.read_writes_eq_canon _ _ _ (cover0_A_5 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero zeros3]
  simp only [View.readAt_eq_ld, h2.read_unread, h3.read_unread, h4.read_unread, h5.read_unread, h6.read_unread, h10.read_unread, View.ld_unit_zero (S := S1x1024x704) zeros3,
    View.ld_unit_zero (S := S1x1x704x2048) zeros4, View.ld_unit_zero (S := S1024x2048) zeros2, View.ld_unit_zero (S := S704x2048) zeros2]

theorem first_b (hc0 : cond0_0 i) (hc1 : ¬cond0_1 i) :
    out0_A_6 c i a2 h2 a3 h3 a4 h4 a5 h5 a6 h6 a7 h7 a8 h8 a9 h9 a10 h10 hc0 hc1 x0 x1 x2 x3 x4 = k0_pay1 (k0_pay5 x0 x1) (k0_pay9 x2) := by
  unfold out0_A_6
  rw [View.read_writes_eq_canon _ _ _ (cover0_A_6 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero zeros3]
  simp only [View.readAt_eq_ld, h2.read_unread, h3.read_unread, h4.read_unread, h5.read_unread, h6.read_unread, h10.read_unread, View.ld_unit_zero (S := S1x1024x704) zeros3,
    View.ld_unit_zero (S := S1x1x704x2048) zeros4, View.ld_unit_zero (S := S1024x2048) zeros2, View.ld_unit_zero (S := S704x2048) zeros2]

theorem first_w (hc0 : cond0_0 i) (hc1 : ¬cond0_1 i) :
    sout0_A_0 c i a2 h2 a3 h3 a4 h4 a5 h5 a6 h6 a7 h7 a8 h8 a9 h9 a10 h10 hc0 hc1 x0 x1 x2 x3 x4 = k0_pay2 x0 k0_pay4 x4 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S704x2048) zeros2, View.readCov_unit_zero (S := S704x2048) _ zeros2]
  simp only [View.readAt_eq_ld, h2.read_unread, h3.read_unread, h4.read_unread, h5.read_unread, h6.read_unread, h10.read_unread, View.ld_unit_zero (S := S1x1024x704) zeros3,
    View.ld_unit_zero (S := S1x1x704x2048) zeros4, View.ld_unit_zero (S := S1024x2048) zeros2, View.ld_unit_zero (S := S704x2048) zeros2]

theorem between_a (hc0 : ¬cond0_0 i) (hc1 : ¬cond0_1 i) :
    out0_B_5 c i a2 h2 a3 h3 a4 h4 a5 h5 a6 h6 a7 h7 a8 h8 a9 h9 a10 h10 hc0 hc1 x0 x1 x2 x3 x4 xs = k0_pay8 x0 x1 x2 x3 := by
  unfold out0_B_5
  rw [View.read_writes_eq_canon _ _ _ (cover0_B_5 c i a2 h2 a3 h3 a4 h4 a5 h5 a6 h6 a7 h7 a8 h8 a9 h9 a10 h10 hc0 hc1 x0 x1 x2 x3 x4 xs)]
  unfold kernelRun0_B
  dsimp only
  sl_unfold_words
  rw [View.canon_unit_zero zeros3]
  simp only [View.readAt_eq_ld, h2.read_unread, h3.read_unread, h4.read_unread, h5.read_unread, h6.read_unread, h10.read_unread, View.ld_unit_zero (S := S1x1024x704) zeros3,
    View.ld_unit_zero (S := S1x1x704x2048) zeros4, View.ld_unit_zero (S := S1024x2048) zeros2, View.ld_unit_zero (S := S704x2048) zeros2]

theorem between_b (hc0 : ¬cond0_0 i) (hc1 : ¬cond0_1 i) :
    out0_B_6 c i a2 h2 a3 h3 a4 h4 a5 h5 a6 h6 a7 h7 a8 h8 a9 h9 a10 h10 hc0 hc1 x0 x1 x2 x3 x4 xs = k0_pay1 (k0_pay5 x0 x1) (k0_pay9 x2) := by
  unfold out0_B_6
  rw [View.read_writes_eq_canon _ _ _ (cover0_B_6 c i a2 h2 a3 h3 a4 h4 a5 h5 a6 h6 a7 h7 a8 h8 a9 h9 a10 h10 hc0 hc1 x0 x1 x2 x3 x4 xs)]
  unfold kernelRun0_B
  dsimp only
  sl_unfold_words
  rw [View.canon_unit_zero zeros3]
  simp only [View.readAt_eq_ld, h2.read_unread, h3.read_unread, h4.read_unread, h5.read_unread, h6.read_unread, h10.read_unread, View.ld_unit_zero (S := S1x1024x704) zeros3,
    View.ld_unit_zero (S := S1x1x704x2048) zeros4, View.ld_unit_zero (S := S1024x2048) zeros2, View.ld_unit_zero (S := S704x2048) zeros2]

theorem between_w (hc0 : ¬cond0_0 i) (hc1 : ¬cond0_1 i) :
    sout0_B_0 c i a2 h2 a3 h3 a4 h4 a5 h5 a6 h6 a7 h7 a8 h8 a9 h9 a10 h10 hc0 hc1 x0 x1 x2 x3 x4 xs = k0_pay2 x0 xs x4 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 xs)]
  unfold kernelRun0_B
  dsimp only
  sl_unfold_words
  rw [View.canon_unit_zero zeros2]
  simp only [View.readAt_eq_ld, h2.read_unread, h3.read_unread, h4.read_unread, h5.read_unread, h6.read_unread, h10.read_unread, View.ld_unit_zero (S := S1x1024x704) zeros3,
    View.ld_unit_zero (S := S1x1x704x2048) zeros4, View.ld_unit_zero (S := S1024x2048) zeros2, View.ld_unit_zero (S := S704x2048) zeros2]

theorem last_a (hc0 : ¬cond0_0 i) (hc1 : cond0_1 i) :
    out0_C_5 c i a2 h2 a3 h3 a4 h4 a5 h5 a6 h6 a7 h7 a8 h8 a9 h9 a10 h10 hc0 hc1 x0 x1 x2 x3 x4 xs = k0_pay8 x0 x1 x2 x3 := by
  unfold out0_C_5
  rw [View.read_writes_eq_canon _ _ _ (cover0_C_5 c i a2 h2 a3 h3 a4 h4 a5 h5 a6 h6 a7 h7 a8 h8 a9 h9 a10 h10 hc0 hc1 x0 x1 x2 x3 x4 xs)]
  unfold kernelRun0_C
  dsimp only
  sl_unfold_words
  rw [View.canon_unit_zero zeros3]
  simp only [View.readAt_eq_ld, h2.read_unread, h3.read_unread, h4.read_unread, h5.read_unread, h6.read_unread, h10.read_unread, View.ld_unit_zero (S := S1x1024x704) zeros3,
    View.ld_unit_zero (S := S1x1x704x2048) zeros4, View.ld_unit_zero (S := S1024x2048) zeros2, View.ld_unit_zero (S := S704x2048) zeros2]

theorem last_b (hc0 : ¬cond0_0 i) (hc1 : cond0_1 i) :
    out0_C_6 c i a2 h2 a3 h3 a4 h4 a5 h5 a6 h6 a7 h7 a8 h8 a9 h9 a10 h10 hc0 hc1 x0 x1 x2 x3 x4 xs = k0_pay1 (k0_pay5 x0 x1) (k0_pay9 x2) := by
  unfold out0_C_6
  rw [View.read_writes_eq_canon _ _ _ (cover0_C_6 c i a2 h2 a3 h3 a4 h4 a5 h5 a6 h6 a7 h7 a8 h8 a9 h9 a10 h10 hc0 hc1 x0 x1 x2 x3 x4 xs)]
  unfold kernelRun0_C
  dsimp only
  sl_unfold_words
  rw [View.canon_unit_zero zeros3]
  simp only [View.readAt_eq_ld, h2.read_unread, h3.read_unread, h4.read_unread, h5.read_unread, h6.read_unread, h10.read_unread, View.ld_unit_zero (S := S1x1024x704) zeros3,
    View.ld_unit_zero (S := S1x1x704x2048) zeros4, View.ld_unit_zero (S := S1024x2048) zeros2, View.ld_unit_zero (S := S704x2048) zeros2]

theorem last_w (hc0 : ¬cond0_0 i) (hc1 : cond0_1 i) :
    sout0_C_0 c i a2 h2 a3 h3 a4 h4 a5 h5 a6 h6 a7 h7 a8 h8 a9 h9 a10 h10 hc0 hc1 x0 x1 x2 x3 x4 xs = k0_pay2 x0 xs x4 := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 xs)]
  unfold kernelRun0_C
  dsimp only
  sl_unfold_words
  rw [View.canon_unit_zero zeros2]
  simp only [View.readAt_eq_ld, h2.read_unread, h3.read_unread, h4.read_unread, h5.read_unread, h6.read_unread, h10.read_unread, View.ld_unit_zero (S := S1x1024x704) zeros3,
    View.ld_unit_zero (S := S1x1x704x2048) zeros4, View.ld_unit_zero (S := S1024x2048) zeros2, View.ld_unit_zero (S := S704x2048) zeros2]

theorem stored_w (hc0 : ¬cond0_0 i) (hc1 : cond0_1 i) :
    out0_C_7 c i a2 h2 a3 h3 a4 h4 a5 h5 a6 h6 a7 h7 a8 h8 a9 h9 a10 h10 hc0 hc1 x0 x1 x2 x3 x4 xs = k0_pay3 (k0_pay2 x0 xs x4) := by
  unfold out0_C_7
  rw [View.read_writes_eq_canon _ _ _ (cover0_C_7 c i a2 h2 a3 h3 a4 h4 a5 h5 a6 h6 a7 h7 a8 h8 a9 h9 a10 h10 hc0 hc1 x0 x1 x2 x3 x4 xs)]
  unfold kernelRun0_C
  dsimp only
  sl_unfold_words
  rw [View.canon_unit_zero zeros3, View.readCov_unit_zero (S := S704x2048) _ zeros2]
  simp only [View.readAt_eq_ld, h2.read_unread, h3.read_unread, h4.read_unread, h5.read_unread, h6.read_unread, h10.read_unread, View.ld_unit_zero (S := S1x1024x704) zeros3,
    View.ld_unit_zero (S := S1x1x704x2048) zeros4, View.ld_unit_zero (S := S1024x2048) zeros2, View.ld_unit_zero (S := S704x2048) zeros2]

end Payloads

/-- The logistic function. -/
def sg (a : EReal) : EReal := Ideal.div 1 (1 + Ideal.exp (-a))

/-- One entry of the cotangent that the last weight gives back. -/
def back (df wd : Fin 2048 → EReal) : EReal := ∑ k, df k * wd k

/-- The cotangent of the first pre-activation as the call computes it. -/
def gateA (s a b : EReal) : EReal := s * b * (sg a * (1 + a * (1 - sg a)))

/-- A row tile's product: column `e` of the shard with column `k` of the cotangent. -/
def term (e : Fin 704) (k : Fin 2048) (x0 : Vec Ideal S1024x2048 .bf16) (x : Vec Ideal S1x1024x704 .bf16) : EReal :=
  ∑ r : Fin 1024, (x (ix3 0 r e) : EReal) * x0 (ix2 r k)

/-- The cotangent of the first pre-activation as the product rule gives it. -/
def ruleA (s a b : EReal) : EReal := s * b * sg a + a * (s * b) * (sg a * (1 - sg a))

theorem sg_top : sg ⊤ = 1 := by
  rw [sg, EReal.neg_top, Ideal.exp_bot, add_zero, ← EReal.coe_one, Ideal.div_coe one_ne_zero, ← EReal.coe_mul]
  norm_num
theorem sg_bot : sg ⊥ = 0 := by
  rw [sg, EReal.neg_bot, Ideal.exp_top, Ideal.div, ← EReal.coe_one, EReal.coe_add_top, if_neg EReal.top_ne_zero, EReal.inv_top, mul_zero]
theorem sg_real (a : ℝ) : sg (a : EReal) = ((1 / (1 + Real.exp (-a)) : ℝ) : EReal) := by
  have h : (1 + Real.exp (-a)) ≠ 0 := (add_pos one_pos (Real.exp_pos _)).ne'
  rw [sg, ← EReal.coe_neg, Ideal.exp_coe, ← EReal.coe_one, ← EReal.coe_add, Ideal.div_coe h, ← EReal.coe_mul, one_mul]

theorem gate_rule (s b : ℝ) (a : EReal) : gateA s a b = ruleA s a b := by
  unfold gateA ruleA
  induction a with
  | bot => simp [sg_bot]
  | top =>
    rw [sg_top, show (1 : EReal) - 1 = 0 by rw [← EReal.coe_one, ← EReal.coe_sub, sub_self, EReal.coe_zero]]
    simp
  | coe a =>
    rw [sg_real, ← EReal.coe_one]
    simp only [← EReal.coe_mul, ← EReal.coe_sub, ← EReal.coe_add]
    exact congrArg _ (by ring)

theorem back_real (f w : Fin 2048 → ℝ) : back (fun k => (f k : EReal)) (fun k => (w k : EReal)) = ((∑ k, f k * w k : ℝ) : EReal) := by
  unfold back
  rw [Cert.Fox.coe_sum]
  exact Finset.sum_congr rfl fun k _ => (EReal.coe_mul _ _).symm

section Read

variable (r : Fin 1024) (e : Fin 704) (k : Fin 2048) (x0 : Vec Ideal S1024x2048 .bf16) (x1 : Vec Ideal S1x1x704x2048 .bf16) (x2 x3 x : Vec Ideal S1x1024x704 .bf16)
  (xs : Vec Ideal S704x2048 .f32)

theorem back_at : (k0_pay5 x0 x1 (ix2 r e) : EReal) = back (fun k => x0 (ix2 r k)) (fun k => x1 (ix4 0 0 e k)) := by
  unfold k0_pay5 back
  pointwise
theorem arg_at : (k0_pay6 x2 (ix2 r e) : EReal) = x2 (ix3 0 r e) := by
  unfold k0_pay6
  pointwise
theorem sg_at : (k0_pay7 x2 (ix2 r e) : EReal) = sg (x2 (ix3 0 r e)) := by
  rw [← arg_at r e x2]
  unfold k0_pay7 sg
  pointwise
  rw [zero_sub]
theorem gate_at : (k0_pay8 x0 x1 x2 x3 (ix3 0 r e) : EReal) = gateA (back (fun k => x0 (ix2 r k)) (fun k => x1 (ix4 0 0 e k))) (x2 (ix3 0 r e)) (x3 (ix3 0 r e)) := by
  rw [← back_at, gateA, ← sg_at, ← arg_at r e x2]
  unfold k0_pay8
  pointwise
theorem up_at : (k0_pay1 (k0_pay5 x0 x1) (k0_pay9 x2) (ix3 0 r e) : EReal)
    = back (fun k => x0 (ix2 r k)) (fun k => x1 (ix4 0 0 e k)) * (x2 (ix3 0 r e) * sg (x2 (ix3 0 r e))) := by
  rw [← back_at, ← sg_at, ← arg_at r e x2]
  unfold k0_pay1 k0_pay9
  pointwise
theorem reset_at : (k0_pay4 (F := Ideal)) (ix2 e k) = (0 : EReal) := by
  unfold k0_pay4
  pointwise
theorem add_at : k0_pay2 x0 xs x (ix2 e k) = ((xs (ix2 e k) : EReal) + term e k x0 x : EReal) := by
  unfold k0_pay2 term
  pointwise
theorem store_at : k0_pay3 xs (ix3 0 e k) = (xs (ix2 e k) : EReal) := by
  unfold k0_pay3
  pointwise

end Read

variable (m : (ℓ : Loc nD τ sig) → Buf (Elt Ideal) ℓ) (ρ : Dev nD → PrngReg) (c : Dev nD)

theorem out_a (n : ℕ) (h : n < cfg0.N) : (outsAt0 m c n h).1 = k0_pay8 (iblk m c 0 ⟨n, h⟩) (iblk m c 1 ⟨n, h⟩) (iblk m c 2 ⟨n, h⟩) (iblk m c 3 ⟨n, h⟩) := by
  by_cases h0 : n % 8 = 0
  · rw [outsAt0_A m c ⟨n, h⟩ h0 (by show ¬n % 8 = 7; omega)]
    dsimp only
    rw [first_a]
  · by_cases h1 : n % 8 = 7
    · rw [outsAt0_C m c ⟨n, h⟩ h0 h1]
      dsimp only
      rw [last_a]
    · rw [outsAt0_B m c ⟨n, h⟩ h0 h1]
      dsimp only
      rw [between_a]

theorem out_b (n : ℕ) (h : n < cfg0.N) : (outsAt0 m c n h).2.1 = k0_pay1 (k0_pay5 (iblk m c 0 ⟨n, h⟩) (iblk m c 1 ⟨n, h⟩)) (k0_pay9 (iblk m c 2 ⟨n, h⟩)) := by
  by_cases h0 : n % 8 = 0
  · rw [outsAt0_A m c ⟨n, h⟩ h0 (by show ¬n % 8 = 7; omega)]
    dsimp only
    rw [first_b]
  · by_cases h1 : n % 8 = 7
    · rw [outsAt0_C m c ⟨n, h⟩ h0 h1]
      dsimp only
      rw [last_b]
    · rw [outsAt0_B m c ⟨n, h⟩ h0 h1]
      dsimp only
      rw [between_b]

def termAt (e : Fin 704) (k : Fin 2048) (n : ℕ) : EReal := if h : n < cfg0.N then term e k (iblk m c 0 ⟨n, h⟩) (iblk m c 4 ⟨n, h⟩) else 0

theorem scratch_first (e : Fin 704) (k : Fin 2048) (n : ℕ) (h : n < cfg0.N) (h0 : n % 8 = 0) :
    ((outsAt0 m c n h).2.2.2 (ix2 e k) : EReal) = termAt m c e k n := by
  rw [outsAt0_A m c ⟨n, h⟩ h0 (by show ¬n % 8 = 7; omega)]
  dsimp only
  rw [first_w, add_at, reset_at, zero_add]
  unfold termAt
  rw [dif_pos h]

theorem scratch_next (e : Fin 704) (k : Fin 2048) (n : ℕ) (h : n + 1 < cfg0.N) (h' : n < cfg0.N) (h0 : ¬(n + 1) % 8 = 0) :
    ((outsAt0 m c (n + 1) h).2.2.2 (ix2 e k) : EReal) = (outsAt0 m c n h').2.2.2 (ix2 e k) + termAt m c e k (n + 1) := by
  unfold termAt
  rw [dif_pos h]
  by_cases h1 : (n + 1) % 8 = 7
  · rw [outsAt0_C m c ⟨n + 1, h⟩ h0 h1]
    dsimp only
    rw [last_w, add_at]
    rfl
  · rw [outsAt0_B m c ⟨n + 1, h⟩ h0 h1]
    dsimp only
    rw [between_w, add_at]
    rfl

theorem out_w (e : Fin 704) (k : Fin 2048) (n : ℕ) (h : n < cfg0.N) (h1 : n % 8 = 7) :
    ((outsAt0 m c n h).2.2.1 (ix3 0 e k) : EReal) = (outsAt0 m c n h).2.2.2 (ix2 e k) := by
  rw [outsAt0_C m c ⟨n, h⟩ (by show ¬n % 8 = 0; omega) h1]
  dsimp only
  rw [stored_w, last_w, store_at]

theorem idx : ∀ t : Fin cfg0.N, win0_0.index t = ![t.val % 8, 0] ∧ win0_1.index t = ![t.val / 8, 0, 0, 0] ∧ win0_2.index t = ![t.val / 8, t.val % 8, 0]
    ∧ win0_3.index t = ![t.val / 8, t.val % 8, 0] ∧ win0_4.index t = ![t.val / 8, t.val % 8, 0] :=
  (by decide +kernel : ∀ t : Fin grid0.N, _)

/-- The gated product that the forward call left. -/
def gated (a b : S8192x5632.Idx → EReal) (i : S8192x5632.Idx) : EReal := a i * sg (a i) * b i

theorem host_v5 (j : Fin 8) (e : Fin 704) (k : Fin 2048) : V m c main_v5 (ix4 j 0 e k) = m ((c : Thread nD τ).loc main_arg1) (ix2 (colAt j e) k) := by
  after_reads_simp
  pointwise
  rfl
theorem host_v7 (j : Fin 8) (i : Fin 8192) (e : Fin 704) : V m c main_v7 (ix3 j i e) = m ((c : Thread nD τ).loc main_arg2) (ix2 i (colAt j e)) := by
  after_reads_simp
  pointwise
  rfl
theorem host_v9 (j : Fin 8) (i : Fin 8192) (e : Fin 704) : V m c main_v9 (ix3 j i e) = m ((c : Thread nD τ).loc main_arg3) (ix2 i (colAt j e)) := by
  after_reads_simp
  pointwise
  rfl
theorem host_v11 (j : Fin 8) (i : Fin 8192) (e : Fin 704) : V m c main_v11 (ix3 j i e)
    = gated (m ((c : Thread nD τ).loc main_arg2)) (m ((c : Thread nD τ).loc main_arg3)) (ix2 i (colAt j e)) := by
  unfold gated sg
  after_reads_simp
  simp only [StableHlo.TRef.toBuf, StableHlo.TRef.ofBuf, cast_eq]
  pointwise
  rfl

section Blocks

variable (j q : Fin 8) (t : Fin cfg0.N) (ht : t.val = 8 * j.1 + q.1) (r : Fin 1024) (k : Fin 2048) (e : Fin 704)
include ht

theorem block0 : iblk m c 0 t (ix2 r k) = m ((c : Thread nD τ).loc main_arg0) (ix2 (rowAt q r) k) := by
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 1024 + r.1 = q.1 * 1024 + r.1; rw [h]; show t.val % 8 * 1024 + r.1 = q.1 * 1024 + r.1; omega
  | 1 => show win0_0.index t 1 * 2048 + k.1 = k.1; rw [h]; show 0 * 2048 + k.1 = k.1; omega

theorem block1 : iblk m c 1 t (ix4 0 0 e k) = m ((c : Thread nD τ).loc main_arg1) (ix2 (colAt j e) k) := by
  rw [← host_v5 m c j e k]
  refine congrArg (V m c main_v5) (funext fun a => Fin.ext ?_)
  obtain ⟨-, h, -⟩ := idx t
  refine (Pipeline.Window.rect_emb_val (cfg0.win 1) t _ a).trans ?_
  match a with
  | 0 => show win0_1.index t 0 * 1 + 0 = j.1; rw [h]; show t.val / 8 * 1 + 0 = j.1; omega
  | 1 => show win0_1.index t 1 * 1 + 0 = 0; rw [h]; rfl
  | 2 => show win0_1.index t 2 * 704 + e.1 = e.1; rw [h]; show 0 * 704 + e.1 = e.1; omega
  | 3 => show win0_1.index t 3 * 2048 + k.1 = k.1; rw [h]; show 0 * 2048 + k.1 = k.1; omega

theorem block2 : iblk m c 2 t (ix3 0 r e) = m ((c : Thread nD τ).loc main_arg2) (ix2 (rowAt q r) (colAt j e)) := by
  rw [← host_v7 m c j (rowAt q r) e]
  refine congrArg (V m c main_v7) (funext fun a => Fin.ext ?_)
  obtain ⟨-, -, h, -⟩ := idx t
  refine (Pipeline.Window.rect_emb_val (cfg0.win 2) t _ a).trans ?_
  match a with
  | 0 => show win0_2.index t 0 * 1 + 0 = j.1; rw [h]; show t.val / 8 * 1 + 0 = j.1; omega
  | 1 => show win0_2.index t 1 * 1024 + r.1 = q.1 * 1024 + r.1; rw [h]; show t.val % 8 * 1024 + r.1 = q.1 * 1024 + r.1; omega
  | 2 => show win0_2.index t 2 * 704 + e.1 = e.1; rw [h]; show 0 * 704 + e.1 = e.1; omega

theorem block3 : iblk m c 3 t (ix3 0 r e) = m ((c : Thread nD τ).loc main_arg3) (ix2 (rowAt q r) (colAt j e)) := by
  rw [← host_v9 m c j (rowAt q r) e]
  refine congrArg (V m c main_v9) (funext fun a => Fin.ext ?_)
  obtain ⟨-, -, -, h, -⟩ := idx t
  refine (Pipeline.Window.rect_emb_val (cfg0.win 3) t _ a).trans ?_
  match a with
  | 0 => show win0_3.index t 0 * 1 + 0 = j.1; rw [h]; show t.val / 8 * 1 + 0 = j.1; omega
  | 1 => show win0_3.index t 1 * 1024 + r.1 = q.1 * 1024 + r.1; rw [h]; show t.val % 8 * 1024 + r.1 = q.1 * 1024 + r.1; omega
  | 2 => show win0_3.index t 2 * 704 + e.1 = e.1; rw [h]; show 0 * 704 + e.1 = e.1; omega

theorem block4 : iblk m c 4 t (ix3 0 r e) = gated (m ((c : Thread nD τ).loc main_arg2)) (m ((c : Thread nD τ).loc main_arg3)) (ix2 (rowAt q r) (colAt j e)) := by
  rw [← host_v11 m c j (rowAt q r) e]
  refine congrArg (V m c main_v11) (funext fun a => Fin.ext ?_)
  obtain ⟨-, -, -, -, h⟩ := idx t
  refine (Pipeline.Window.rect_emb_val (cfg0.win 4) t _ a).trans ?_
  match a with
  | 0 => show win0_4.index t 0 * 1 + 0 = j.1; rw [h]; show t.val / 8 * 1 + 0 = j.1; omega
  | 1 => show win0_4.index t 1 * 1024 + r.1 = q.1 * 1024 + r.1; rw [h]; show t.val % 8 * 1024 + r.1 = q.1 * 1024 + r.1; omega
  | 2 => show win0_4.index t 2 * 704 + e.1 = e.1; rw [h]; show 0 * 704 + e.1 = e.1; omega

end Blocks

/-- The cotangent that the last weight gives back, at row `i` and column `f`. -/
def ds (df : S8192x2048.Idx → EReal) (wd : S5632x2048.Idx → EReal) (i : Fin 8192) (f : Fin 5632) : EReal :=
  back (fun k => df (ix2 i k)) (fun k => wd (ix2 f k))

/-- The gradient of the last weight at its row `f` and column `k`. -/
def dw (df : S8192x2048.Idx → EReal) (g : S8192x5632.Idx → EReal) (f : Fin 5632) (k : Fin 2048) : EReal :=
  ∑ i : Fin 8192, g (ix2 i f) * df (ix2 i k)

/-- One row tile's part of it. -/
def part (df : S8192x2048.Idx → EReal) (g : S8192x5632.Idx → EReal) (f : Fin 5632) (k : Fin 2048) (q : Fin 8) : EReal :=
  ∑ r : Fin 1024, g (ix2 (rowAt q r) f) * df (ix2 (rowAt q r) k)

theorem sum_parts (df : S8192x2048.Idx → EReal) (g : S8192x5632.Idx → EReal) (f : Fin 5632) (k : Fin 2048) :
    ∑ q, part df g f k q = dw df g f k := by
  unfold part dw
  rw [sum_rows fun i => g (ix2 i f) * df (ix2 i k)]

theorem termAt_eq (j q : Fin 8) (e : Fin 704) (k : Fin 2048) : termAt m c e k (8 * j.1 + q.1)
    = part (m ((c : Thread nD τ).loc main_arg0)) (gated (m ((c : Thread nD τ).loc main_arg2)) (m ((c : Thread nD τ).loc main_arg3))) (colAt j e) k q := by
  have h : 8 * j.1 + q.1 < cfg0.N := by rw [show cfg0.N = 64 from N_0]; omega
  unfold termAt
  rw [dif_pos h]
  unfold term part
  exact Finset.sum_congr rfl fun r _ => congrArg₂ (fun x y : EReal => x * y) (block4 m c j q ⟨_, h⟩ rfl r e) (block0 m c j q ⟨_, h⟩ rfl r k)

theorem dw_at (j : Fin 8) (e : Fin 704) (k : Fin 2048) (h : 8 * j.1 + 7 < cfg0.N) : ((outsAt0 m c (8 * j.1 + 7) h).2.2.1 (ix3 0 e k) : EReal)
    = dw (m ((c : Thread nD τ).loc main_arg0)) (gated (m ((c : Thread nD τ).loc main_arg2)) (m ((c : Thread nD τ).loc main_arg3))) (colAt j e) k := by
  rw [out_w m c e k _ h (by omega)]
  refine (running_end cfg0.N (termAt m c e k) (fun n h => (outsAt0 m c n h).2.2.2 (ix2 e k)) (scratch_first m c e k) (scratch_next m c e k) j.1 h).trans ?_
  exact (Finset.sum_congr rfl fun q _ => termAt_eq m c j q e k).trans (sum_parts _ _ _ _)

theorem result_w (i : S8x704x2048.Idx) : (Value.G7 m c i : EReal)
    = dw (m ((c : Thread nD τ).loc main_arg0)) (gated (m ((c : Thread nD τ).loc main_arg2)) (m ((c : Thread nD τ).loc main_arg3))) (colAt (i 0) (i 1)) (i 2) := by
  have h0 : (i 0).val < 8 := (i 0).isLt
  have h1 : (i 1).val < 704 := (i 1).isLt
  have h2 : (i 2).val < 2048 := (i 2).isLt
  have hp : Value.pt7Of i = 8 * (i 0).val + 7 := by
    show 8 * (1 * ((i 0).val / 1 - 0) + 1 * ((i 1).val / 704 - 0) + 1 * ((i 2).val / 2048 - 0)) + 7 = _
    omega
  have hN : 8 * (i 0).val + 7 < cfg0.N := by rw [show cfg0.N = 64 from N_0]; omega
  unfold Value.G7
  rw [dif_pos (by rw [hp]; exact hN), Value.fold0_congr m c _ _ _ (by rw [Nat.zero_add]; exact hN) hp, ← Value.outsAt0_sweep m c _ hN]
  have hl : Value.loc7Of i = ix3 0 (i 1) (i 2) := by
    funext a
    match a with
    | 0 => exact Subsingleton.elim (α := Fin 1) _ _
    | 1 => exact Fin.ext (Nat.mod_eq_of_lt h1)
    | 2 => exact Fin.ext (Nat.mod_eq_of_lt h2)
  rw [hl]
  exact dw_at m c (i 0) (i 1) (i 2) hN

theorem entries (j q : Fin 8) (t : Fin cfg0.N) (ht : t.val = 8 * j.1 + q.1) (r : Fin 1024) (e : Fin 704) :
    back (fun k => iblk m c 0 t (ix2 r k)) (fun k => iblk m c 1 t (ix4 0 0 e k))
      = ds (m ((c : Thread nD τ).loc main_arg0)) (m ((c : Thread nD τ).loc main_arg1)) (rowAt q r) (colAt j e) :=
  congrArg₂ back (funext fun k => block0 m c j q t ht r k) (funext fun k => block1 m c j q t ht k e)

/-- The cotangents of the two pre-activations at row `i` and column `f`. -/
def da (df : S8192x2048.Idx → EReal) (wd : S5632x2048.Idx → EReal) (a b : S8192x5632.Idx → EReal) (i : Fin 8192) (f : Fin 5632) : EReal :=
  gateA (ds df wd i f) (a (ix2 i f)) (b (ix2 i f))
def db (df : S8192x2048.Idx → EReal) (wd : S5632x2048.Idx → EReal) (a : S8192x5632.Idx → EReal) (i : Fin 8192) (f : Fin 5632) : EReal :=
  ds df wd i f * (a (ix2 i f) * sg (a (ix2 i f)))

theorem da_at (j q : Fin 8) (r : Fin 1024) (e : Fin 704) (h : 8 * j.1 + q.1 < cfg0.N) : ((outsAt0 m c (8 * j.1 + q.1) h).1 (ix3 0 r e) : EReal)
    = da (m ((c : Thread nD τ).loc main_arg0)) (m ((c : Thread nD τ).loc main_arg1)) (m ((c : Thread nD τ).loc main_arg2)) (m ((c : Thread nD τ).loc main_arg3)) (rowAt q r) (colAt j e) := by
  rw [out_a, gate_at, entries m c j q ⟨_, h⟩ rfl r e]
  exact congrArg₂ (gateA _) (block2 m c j q ⟨_, h⟩ rfl r e) (block3 m c j q ⟨_, h⟩ rfl r e)

theorem db_at (j q : Fin 8) (r : Fin 1024) (e : Fin 704) (h : 8 * j.1 + q.1 < cfg0.N) : ((outsAt0 m c (8 * j.1 + q.1) h).2.1 (ix3 0 r e) : EReal)
    = db (m ((c : Thread nD τ).loc main_arg0)) (m ((c : Thread nD τ).loc main_arg1)) (m ((c : Thread nD τ).loc main_arg2)) (rowAt q r) (colAt j e) := by
  rw [out_b, up_at, entries m c j q ⟨_, h⟩ rfl r e]
  exact congrArg (fun x : EReal => _ * (x * sg x)) (block2 m c j q ⟨_, h⟩ rfl r e)

theorem result_a (i : S8x8192x704.Idx) : (Value.G5 m c i : EReal)
    = da (m ((c : Thread nD τ).loc main_arg0)) (m ((c : Thread nD τ).loc main_arg1)) (m ((c : Thread nD τ).loc main_arg2)) (m ((c : Thread nD τ).loc main_arg3)) (i 1) (colAt (i 0) (i 2)) := by
  have h0 : (i 0).val < 8 := (i 0).isLt
  have h1 : (i 1).val < 8192 := (i 1).isLt
  have h2 : (i 2).val < 704 := (i 2).isLt
  have hp : Value.pt5Of i = 8 * (i 0).val + (i 1).val / 1024 := by
    show 8 * ((i 0).val / 1 - 0) + 1 * ((i 1).val / 1024 - 0) + 1 * ((i 2).val / 704 - 0) = _
    omega
  have hN : 8 * (i 0).val + (i 1).val / 1024 < cfg0.N := by rw [show cfg0.N = 64 from N_0]; omega
  unfold Value.G5
  rw [dif_pos (by rw [hp]; exact hN), Value.fold0_congr m c _ _ _ (by rw [Nat.zero_add]; exact hN) hp, ← Value.outsAt0_sweep m c _ hN]
  have hl : Value.loc5Of i = ix3 0 ⟨(i 1).val % 1024, Nat.mod_lt _ (by decide)⟩ (i 2) := by
    funext a
    match a with
    | 0 => exact Subsingleton.elim (α := Fin 1) _ _
    | 1 => rfl
    | 2 => exact Fin.ext (Nat.mod_eq_of_lt h2)
  have hr : rowAt ⟨(i 1).val / 1024, by omega⟩ ⟨(i 1).val % 1024, Nat.mod_lt _ (by decide)⟩ = i 1 :=
    Fin.ext (show (i 1).val / 1024 * 1024 + (i 1).val % 1024 = (i 1).val by omega)
  rw [hl]
  refine (da_at m c (i 0) ⟨(i 1).val / 1024, by omega⟩ _ (i 2) hN).trans ?_
  rw [hr]

theorem result_b (i : S8x8192x704.Idx) : (Value.G6 m c i : EReal)
    = db (m ((c : Thread nD τ).loc main_arg0)) (m ((c : Thread nD τ).loc main_arg1)) (m ((c : Thread nD τ).loc main_arg2)) (i 1) (colAt (i 0) (i 2)) := by
  have h0 : (i 0).val < 8 := (i 0).isLt
  have h1 : (i 1).val < 8192 := (i 1).isLt
  have h2 : (i 2).val < 704 := (i 2).isLt
  have hp : Value.pt6Of i = 8 * (i 0).val + (i 1).val / 1024 := by
    show 8 * ((i 0).val / 1 - 0) + 1 * ((i 1).val / 1024 - 0) + 1 * ((i 2).val / 704 - 0) = _
    omega
  have hN : 8 * (i 0).val + (i 1).val / 1024 < cfg0.N := by rw [show cfg0.N = 64 from N_0]; omega
  unfold Value.G6
  rw [dif_pos (by rw [hp]; exact hN), Value.fold0_congr m c _ _ _ (by rw [Nat.zero_add]; exact hN) hp, ← Value.outsAt0_sweep m c _ hN]
  have hl : Value.loc6Of i = ix3 0 ⟨(i 1).val % 1024, Nat.mod_lt _ (by decide)⟩ (i 2) := by
    funext a
    match a with
    | 0 => exact Subsingleton.elim (α := Fin 1) _ _
    | 1 => rfl
    | 2 => exact Fin.ext (Nat.mod_eq_of_lt h2)
  have hr : rowAt ⟨(i 1).val / 1024, by omega⟩ ⟨(i 1).val % 1024, Nat.mod_lt _ (by decide)⟩ = i 1 :=
    Fin.ext (show (i 1).val / 1024 * 1024 + (i 1).val % 1024 = (i 1).val by omega)
  rw [hl]
  refine (db_at m c (i 0) ⟨(i 1).val / 1024, by omega⟩ _ (i 2) hN).trans ?_
  rw [hr]

end Cert.Ffn4

namespace Cert.Ffn4Ref

open Cert.Reference4Ideal Cert.Ffn Cert.Ffn4
open Cert.Reference4Ideal.Facts₀
open Idealize.ShloMosaic Idealize.ShloMosaic.TcCoe Idealize.ShloMosaic.Tactic

variable (df : FVec Ideal S8192x2048 .bf16) (wd : FVec Ideal S5632x2048 .bf16) (a b : FVec Ideal S8192x5632 .bf16)

/-- The reference's logistic function. -/
def logistic : FVec Ideal S8192x5632 .f32 :=
  Host.divf (broadcastInDim S8192x5632 ![] bcast_S_S8192x5632 (constant S_ .f32 0x3F800000#32))
    (addf (broadcastInDim S8192x5632 ![] bcast_S_S8192x5632 (constant S_ .f32 0x3F800000#32)) (Host.exp (Host.negf (extf .f32 a bitsLt_bf16_f32))))

/-- The reference's cotangent of the gated product. -/
def given : FVec Ideal S8192x5632 .f32 :=
  Host.dotGeneral dot_S8192x2048_S5632x2048_S8192x5632_1_1_0_0_n_n none (extf .f32 df bitsLt_bf16_f32) (extf .f32 wd bitsLt_bf16_f32)

theorem logistic_at (i : Fin 8192) (f : Fin 5632) : (logistic a (ix2 i f) : EReal) = sg (a (ix2 i f)) := by
  unfold logistic sg
  pointwise
theorem given_at (i : Fin 8192) (f : Fin 5632) : (given df wd (ix2 i f) : EReal) = ds df wd i f := by
  unfold given ds back
  pointwise

theorem ref_a (j : Fin 8) (i : Fin 8192) (e : Fin 704) :
    (truncf .bf16 (transpose S8x8192x704 [1, 0, 2] (shapeCast S8192x8x704 (addf (mulf (mulf (given df wd) (extf .f32 b bitsLt_bf16_f32)) (logistic a))
      (mulf (mulf (extf .f32 a bitsLt_bf16_f32) (mulf (given df wd) (extf .f32 b bitsLt_bf16_f32)))
        (mulf (logistic a) (subf (broadcastInDim S8192x5632 ![] bcast_S_S8192x5632 (constant S_ .f32 0x3F800000#32)) (logistic a))))) shapeCasts_S8192x5632_S8192x8x704)
      transposes_S8192x8x704_S8x8192x704_1_0_2) bitsLt_bf16_f32 (ix3 j i e) : EReal)
    = ruleA (ds df wd i (colAt j e)) (a (ix2 i (colAt j e))) (b (ix2 i (colAt j e))) := by
  unfold ruleA
  rw [← logistic_at, ← given_at]
  pointwise
  rfl
theorem ref_b (j : Fin 8) (i : Fin 8192) (e : Fin 704) :
    (truncf .bf16 (transpose S8x8192x704 [1, 0, 2] (shapeCast S8192x8x704 (mulf (mulf (extf .f32 a bitsLt_bf16_f32) (logistic a)) (given df wd))
      shapeCasts_S8192x5632_S8192x8x704) transposes_S8192x8x704_S8x8192x704_1_0_2) bitsLt_bf16_f32 (ix3 j i e) : EReal)
    = db df wd a i (colAt j e) := by
  unfold db
  rw [← logistic_at, ← given_at, mul_comm]
  pointwise
  rfl
theorem ref_w (j : Fin 8) (e : Fin 704) (k : Fin 2048) :
    (truncf .bf16 (shapeCast S8x704x2048 (transpose S5632x2048 [1, 0] (Host.dotGeneral dot_S8192x2048_S8192x5632_S2048x5632_0_0_1_1_n_n none (extf .f32 df bitsLt_bf16_f32)
      (mulf (mulf (extf .f32 a bitsLt_bf16_f32) (logistic a)) (extf .f32 b bitsLt_bf16_f32))) transposes_S2048x5632_S5632x2048_1_0) shapeCasts_S5632x2048_S8x704x2048)
      bitsLt_bf16_f32 (ix3 j e k) : EReal)
    = dw df (gated a b) (colAt j e) k := by
  unfold dw gated
  pointwise
  refine Finset.sum_congr rfl fun i _ => ?_
  rw [mul_comm, ← logistic_at]
  rfl

end Cert.Ffn4Ref

namespace Cert.Ffn4

open Cert.Kernel4Ideal Cert.Kernel4Ideal.Gen Cert.Ffn
open Idealize.ShloMosaic Idealize.ShloMosaic.TcCoe Idealize.ShloMosaic.Tactic Idealize.SL.Sem

theorem finite_facts : Cert.Pre_finite4.Facts where
  bcast_S_S8192x2048 := by decide
  reducesTo_S8192x2048_S_d0_1 := by decide
  h_S_ := by decide
  bcast_S_S5632x2048 := by decide
  reducesTo_S5632x2048_S_d0_1 := by decide
  bcast_S_S8192x5632 := by decide
  reducesTo_S8192x5632_S_d0_1 := by decide

attribute [local instance] finite_facts

theorem finite_entries (df : FVec Ideal S8192x2048 .bf16) (wd : FVec Ideal S5632x2048 .bf16) (a b : FVec Ideal S8192x5632 .bf16)
    (h : Cert.Pre_finite4.fn (F := Ideal) df wd a b = fun _ => 1#1) :
    (∀ i k, df (ix2 i k) = (((df (ix2 i k)).toReal : ℝ) : EReal)) ∧ (∀ f k, wd (ix2 f k) = (((wd (ix2 f k)).toReal : ℝ) : EReal))
    ∧ ∀ i f, b (ix2 i f) = (((b (ix2 i f)).toReal : ℝ) : EReal) := by
  have h0 := congrFun h (Shape.Idx.first Cert.Pre_finite4.Facts.h_S_)
  obtain ⟨h1, hb⟩ := Cert.Fox.and_one h0
  obtain ⟨hd, hw⟩ := Cert.Fox.and_one h1
  refine ⟨fun i k => Cert.Fox.real_of_cmp ?_, fun f k => Cert.Fox.real_of_cmp ?_, fun i f => Cert.Fox.real_of_cmp ?_⟩
  · have := Cert.Fox.all_of_reduce _ _ _ _ _ hd (ix2 i k)
    pointwise at this
    rw [← Cert.Fox.bits_top16]
    exact this
  · have := Cert.Fox.all_of_reduce _ _ _ _ _ hw (ix2 f k)
    pointwise at this
    rw [← Cert.Fox.bits_top16]
    exact this
  · have := Cert.Fox.all_of_reduce _ _ _ _ _ hb (ix2 i f)
    pointwise at this
    rw [← Cert.Fox.bits_top16]
    exact this

theorem da_rule (df : FVec Ideal S8192x2048 .bf16) (wd : FVec Ideal S5632x2048 .bf16) (a b : FVec Ideal S8192x5632 .bf16)
    (h : Cert.Pre_finite4.fn (F := Ideal) df wd a b = fun _ => 1#1) (i : Fin 8192) (f : Fin 5632) :
    da df wd a b i f = ruleA (ds df wd i f) (a (ix2 i f)) (b (ix2 i f)) := by
  obtain ⟨hd, hw, hb⟩ := finite_entries df wd a b h
  have hs : ds df wd i f = ((∑ k, (df (ix2 i k)).toReal * (wd (ix2 f k)).toReal : ℝ) : EReal) :=
    (congrArg₂ back (funext fun k => hd i k) (funext fun k => hw f k)).trans (back_real _ _)
  unfold da
  rw [hs, hb i f]
  exact gate_rule _ _ _

theorem algebraic : Cert.algebraic_Kernel4Ideal_Reference4Ideal_pre_finite4 := by
  intro m g m' g' hp he
  refine ⟨_, _, _, Value.run m g, (θ_run _ _ _).mono (fun r h c => ⟨(h c).1.trans ?_, (h c).2.1.trans ?_, (h c).2.2.1.trans ?_, (h c).2.2.2⟩) (Cert.Reference4Ideal.Value.run m' g')⟩
  all_goals
    obtain ⟨e0, e1, e2, e3⟩ := he c
    funext i
    have e : i = ix3 (i 0) (i 1) (i 2) := by funext a; match a with | 0 => rfl | 1 => rfl | 2 => rfl
  · rw [e0, e1, e2, e3, result_a m c i]
    exact ((congrArg _ e).trans (Cert.Ffn4Ref.ref_a _ _ _ _ (i 0) (i 1) (i 2))).trans (da_rule _ _ _ _ (hp c) (i 1) (colAt (i 0) (i 2))).symm
  · rw [e0, e1, e2, result_b m c i]
    exact (congrArg _ e).trans (Cert.Ffn4Ref.ref_b _ _ _ (i 0) (i 1) (i 2))
  · rw [e0, e2, e3, result_w m c i]
    exact (congrArg _ e).trans (Cert.Ffn4Ref.ref_w _ _ _ (i 0) (i 1) (i 2))

/-- The call and its idealization are one text. -/
theorem same₀ {F : FTy → Type} [FloatOps F] : Cert.Kernel4.defs₀ (F := F) = Cert.Kernel4Ideal.defs₀ (F := F) := by
  unfold Cert.Kernel4.defs₀ Cert.Kernel4Ideal.defs₀
  refine congrArg Defs.onTc (funext fun l => funext fun x => ?_)
  match l, x with
  | 0, (t, s) => rfl
theorem same {F : FTy → Type} [FloatOps F] : Cert.Kernel4.defs (F := F) = Cert.Kernel4Ideal.defs (F := F) :=
  congrArg (Pipeline.defs Cert.Kernel4Ideal.pcfgs) same₀

theorem frame_kernel : Cert.quiescent_Kernel4 := fun m ρ _ => by
  rw [same]
  exact (θ_run Cert.Kernel4Ideal.defs _ _).mono (fun _ h => h) (Gen.frame (F := Bits) m ρ)
theorem frame_ideal : Cert.quiescent_Kernel4Ideal := fun m ρ _ => Gen.frame (F := Ideal) m ρ
theorem frame_ideal_finite : Cert.quiescent_Kernel4Ideal_pre_finite4 := fun m ρ _ => Gen.frame (F := Ideal) m ρ
theorem frame_reference : Cert.quiescent_Reference4Ideal := fun m ρ _ =>
  (θ_run _ _ _).mono (fun r h => ⟨fun c => (h c).2.2.2, sem_eq_zero_of_no_sems (by decide) r.2⟩) (Cert.Reference4Ideal.Value.run (F := Ideal) m ρ)
theorem frame_reference_finite : Cert.quiescent_Reference4Ideal_pre_finite4 := fun m ρ _ => frame_reference m ρ trivial
theorem preserves : Cert.preserves_Kernel4_Kernel4Ideal := trivial

end Cert.Ffn4
-- ==== Proof.InX.lean ====
/-
  The backward call of the first projection for its input: five blocks of columns, each adding its product to a running sum,
  are the product over all columns.
-/
module

public import proofs.«01_k».proof.Proof.Gen.Kernel5Ideal.Value
public import proofs.«01_k».proof.Proof.Gen.Kernel5
public import proofs.«01_k».proof.Proof.Gen.Reference5Ideal.Run
public import proofs.«01_k».proof.Proof.Shards

@[expose] public section

noncomputable section

namespace Cert.InX

open Cert.Kernel5Ideal Cert.Kernel5Ideal.Gen Cert.Ffn
open Idealize.ShloMosaic Idealize.ShloMosaic.TcCoe Idealize.ShloMosaic.Tactic Idealize.SL.Sem

section Payloads

variable {F : FTy → Type} [FloatOps F]
variable (c : Dev nD) (i : grid0.Coords) (a3 : Memref sig .tc .vmem S1024x1536 .bf16) (h3 : a3.IsWhole) (a4 : Memref sig .tc .vmem S1024x1536 .bf16) (h4 : a4.IsWhole)
  (a5 : Memref sig .tc .vmem S1024x1024 .f32) (h5 : a5.IsWhole) (a6 : Memref sig .tc .vmem S1024x1024 .f32) (h6 : a6.IsWhole)
  (x0 x1 : Vec F S1024x1536 .bf16) (xs : Vec F S1024x1024 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S1024x1536) zeros2]

theorem between (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero zeros2]
  simp only [View.readAt_eq_ld, h3.read_unread, h4.read_unread, h6.read_unread, View.ld_unit_zero (S := S1024x1536) zeros2, View.ld_unit_zero (S := S1024x1024) zeros2]

theorem last (hc0 : ¬cond0_0 i) (hc1 : cond0_1 i) : sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero zeros2]
  simp only [View.readAt_eq_ld, h3.read_unread, h4.read_unread, h6.read_unread, View.ld_unit_zero (S := S1024x1536) zeros2, View.ld_unit_zero (S := S1024x1024) zeros2]

theorem stored (hc0 : ¬cond0_0 i) (hc1 : cond0_1 i) : out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S1024x1536) zeros2, View.ld_unit_zero (S := S1024x1024) zeros2]

end Payloads

/-- One block's product. -/
def term (r k : Fin 1024) (x0 x1 : Vec Ideal S1024x1536 .bf16) : EReal := ∑ e : Fin 1536, (x0 (ix2 r e) : EReal) * x1 (ix2 k e)

theorem reset_at (r k : Fin 1024) : (k0_pay1 (F := Ideal)) (ix2 r k) = (0 : EReal) := by
  unfold k0_pay1
  pointwise

theorem pay_at (xs : Vec Ideal S1024x1024 .f32) (x0 x1 : Vec Ideal S1024x1536 .bf16) (r k : Fin 1024) :
    k0_pay2 xs x0 x1 (ix2 r k) = ((xs (ix2 r k) : EReal) + term r k x0 x1 : EReal) := by
  unfold k0_pay2 term
  pointwise

variable (m : (ℓ : Loc nD τ sig) → Buf (Elt Ideal) ℓ) (ρ : Dev nD → PrngReg) (c : Dev nD)

def termAt (r k : Fin 1024) (n : ℕ) : EReal := if h : n < cfg0.N then term r k (iblk m c 0 ⟨n, h⟩) (iblk m c 1 ⟨n, h⟩) else 0

theorem scratch_first (r k : Fin 1024) (n : ℕ) (h : n < cfg0.N) (h0 : n % 5 = 0) : ((outsAt0 m c n h).2 (ix2 r k) : EReal) = termAt m c r k n := by
  rw [outsAt0_A m c ⟨n, h⟩ h0 (by show ¬n % 5 = 4; omega)]
  dsimp only
  rw [first, pay_at, reset_at, zero_add]
  unfold termAt
  rw [dif_pos h]

theorem scratch_next (r k : Fin 1024) (n : ℕ) (h : n + 1 < cfg0.N) (h' : n < cfg0.N) (h0 : ¬(n + 1) % 5 = 0) :
    ((outsAt0 m c (n + 1) h).2 (ix2 r k) : EReal) = (outsAt0 m c n h').2 (ix2 r k) + termAt m c r k (n + 1) := by
  unfold termAt
  rw [dif_pos h]
  by_cases h1 : (n + 1) % 5 = 4
  · rw [outsAt0_C m c ⟨n + 1, h⟩ h0 h1]
    dsimp only
    rw [last, pay_at]
    rfl
  · rw [outsAt0_B m c ⟨n + 1, h⟩ h0 h1]
    dsimp only
    rw [between, pay_at]
    rfl

theorem out_last (n : ℕ) (h : n < cfg0.N) (h1 : n % 5 = 4) : (outsAt0 m c n h).1 = (outsAt0 m c n h).2 := by
  rw [outsAt0_C m c ⟨n, h⟩ (by show ¬n % 5 = 0; omega) h1]
  dsimp only
  rw [stored, last]

theorem idx : ∀ t : Fin cfg0.N, win0_0.index t = ![t.val / 10, t.val % 5] ∧ win0_1.index t = ![t.val / 5 % 2, t.val % 5] :=
  (by decide +kernel : ∀ t : Fin grid0.N, _)

/-- Row `r` of output block `q`, column `k` of output block `q`, and entry `e` of block `j` of the summed columns. -/
def rowOf (q : Fin 16) (r : Fin 1024) : Fin 8192 := ⟨q.1 / 2 * 1024 + r.1, by omega⟩
def colOf (q : Fin 16) (k : Fin 1024) : Fin 2048 := ⟨q.1 % 2 * 1024 + k.1, by omega⟩
def sumAt (j : Fin 5) (e : Fin 1536) : Fin 7680 := ⟨j.1 * 1536 + e.1, by omega⟩

section Blocks

variable (q : Fin 16) (j : Fin 5) (t : Fin cfg0.N) (ht : t.val = 5 * q.1 + j.1) (r : Fin 1024) (e : Fin 1536)
include ht

theorem block0 : iblk m c 0 t (ix2 r e) = m ((c : Thread nD τ).loc main_arg0) (ix2 (rowOf q r) (sumAt j e)) := by
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 1024 + r.1 = q.1 / 2 * 1024 + r.1; rw [h]; show t.val / 10 * 1024 + r.1 = q.1 / 2 * 1024 + r.1; omega
  | 1 => show win0_0.index t 1 * 1536 + e.1 = j.1 * 1536 + e.1; rw [h]; show t.val % 5 * 1536 + e.1 = j.1 * 1536 + e.1; omega

theorem block1 : iblk m c 1 t (ix2 r e) = m ((c : Thread nD τ).loc main_arg1) (ix2 (colOf q r) (sumAt j e)) := by
  rw [← V_main_arg1 m c]
  refine congrArg (V m c main_arg1) (funext fun a => Fin.ext ?_)
  obtain ⟨-, h⟩ := idx t
  refine (Pipeline.Window.rect_emb_val (cfg0.win 1) t _ a).trans ?_
  match a with
  | 0 => show win0_1.index t 0 * 1024 + r.1 = q.1 % 2 * 1024 + r.1; rw [h]; show t.val / 5 % 2 * 1024 + r.1 = q.1 % 2 * 1024 + r.1; omega
  | 1 => show win0_1.index t 1 * 1536 + e.1 = j.1 * 1536 + e.1; rw [h]; show t.val % 5 * 1536 + e.1 = j.1 * 1536 + e.1; omega

end Blocks

/-- The gradient of the projection's input at row `i`, column `k`. -/
def dh (d : S8192x7680.Idx → EReal) (w : S2048x7680.Idx → EReal) (i : Fin 8192) (k : Fin 2048) : EReal := ∑ n, d (ix2 i n) * w (ix2 k n)

/-- One block's part of it. -/
def part (d : S8192x7680.Idx → EReal) (w : S2048x7680.Idx → EReal) (i : Fin 8192) (k : Fin 2048) (j : Fin 5) : EReal :=
  ∑ e : Fin 1536, d (ix2 i (sumAt j e)) * w (ix2 k (sumAt j e))

theorem sum_parts (d : S8192x7680.Idx → EReal) (w : S2048x7680.Idx → EReal) (i : Fin 8192) (k : Fin 2048) : ∑ j, part d w i k j = dh d w i k :=
  sum_blocks (p := 5) (b := 1536) (fun n => d (ix2 i n) * w (ix2 k n)) sumAt fun _ _ => rfl

theorem termAt_eq (q : Fin 16) (j : Fin 5) (r k : Fin 1024) : termAt m c r k (5 * q.1 + j.1)
    = part (m ((c : Thread nD τ).loc main_arg0)) (m ((c : Thread nD τ).loc main_arg1)) (rowOf q r) (colOf q k) j := by
  have h : 5 * q.1 + j.1 < cfg0.N := by rw [show cfg0.N = 80 from N_0]; omega
  unfold termAt
  rw [dif_pos h]
  unfold term part
  exact Finset.sum_congr rfl fun e _ => congrArg₂ (fun x y : EReal => x * y) (block0 m c q j ⟨_, h⟩ rfl r e) (block1 m c q j ⟨_, h⟩ rfl k e)

theorem dh_at (q : Fin 16) (r k : Fin 1024) (h : 5 * q.1 + 4 < cfg0.N) : ((outsAt0 m c (5 * q.1 + 4) h).1 (ix2 r k) : EReal)
    = dh (m ((c : Thread nD τ).loc main_arg0)) (m ((c : Thread nD τ).loc main_arg1)) (rowOf q r) (colOf q k) := by
  rw [out_last m c _ h (by omega)]
  refine (running_last 5 cfg0.N (termAt m c r k) (fun n h => (outsAt0 m c n h).2 (ix2 r k)) (scratch_first m c r k) (scratch_next m c r k) q.1 4 rfl h).trans ?_
  exact (Finset.sum_congr rfl fun j _ => termAt_eq m c q j r k).trans (sum_parts _ _ _ _)

theorem result (i : S8192x2048.Idx) : (Value.G2 m c i : EReal)
    = dh (m ((c : Thread nD τ).loc main_arg0)) (m ((c : Thread nD τ).loc main_arg1)) (i 0) (i 1) := by
  have h0 : (i 0).val < 8192 := (i 0).isLt
  have h1 : (i 1).val < 2048 := (i 1).isLt
  have hp : Value.pt2Of i = 5 * (2 * ((i 0).val / 1024) + (i 1).val / 1024) + 4 := by
    show 5 * (2 * ((i 0).val / 1024 - 0) + 1 * ((i 1).val / 1024 - 0)) + 4 = _
    omega
  have hN : 5 * (2 * ((i 0).val / 1024) + (i 1).val / 1024) + 4 < cfg0.N := by rw [show cfg0.N = 80 from N_0]; omega
  have e := dh_at m c ⟨2 * ((i 0).val / 1024) + (i 1).val / 1024, by omega⟩ ⟨(i 0).val % 1024, by omega⟩ ⟨(i 1).val % 1024, by omega⟩ hN
  unfold Value.G2
  rw [dif_pos (by rw [hp]; exact hN), Value.fold0_congr m c _ _ _ (by rw [Nat.zero_add]; exact hN) hp, ← Value.outsAt0_sweep m c _ hN]
  have hl : Value.loc2Of i = ix2 ⟨(i 0).val % 1024, by omega⟩ ⟨(i 1).val % 1024, by omega⟩ := by
    funext a
    match a with
    | 0 => rfl
    | 1 => rfl
  rw [hl]
  refine e.trans (congrArg₂ (fun x y => dh _ _ x y) (Fin.ext ?_) (Fin.ext ?_))
  · show (2 * ((i 0).val / 1024) + (i 1).val / 1024) / 2 * 1024 + (i 0).val % 1024 = (i 0).val
    omega
  · show (2 * ((i 0).val / 1024) + (i 1).val / 1024) % 2 * 1024 + (i 1).val % 1024 = (i 1).val
    omega

theorem reference (d : FVec Ideal S8192x7680 .bf16) (w : FVec Ideal S2048x7680 .bf16) (i : Fin 8192) (k : Fin 2048) :
    Host.dotGeneral Cert.Reference5Ideal.dot_S8192x7680_S2048x7680_S8192x2048_1_1_0_0_n_n none (extf .f32 d Cert.Reference5Ideal.Facts₀.bitsLt_bf16_f32)
      (extf .f32 w Cert.Reference5Ideal.Facts₀.bitsLt_bf16_f32) (ix2 i k) = dh d w i k := by
  unfold dh
  pointwise

theorem algebraic : Cert.algebraic_Kernel5Ideal_Reference5Ideal := by
  intro m g m' g' hp he
  refine ⟨_, Value.run m g, (θ_run _ _ _).mono (fun r h c => ⟨(h c).1.trans ?_, (h c).2⟩) (Cert.Reference5Ideal.Value.run m' g')⟩
  obtain ⟨e0, e1⟩ := he c
  funext i
  have e : i = ix2 (i 0) (i 1) := by funext a; match a with | 0 => rfl | 1 => rfl
  rw [e0, e1, result m c i]
  exact (congrArg _ e).trans (reference _ _ (i 0) (i 1))

/-- The call and its idealization are one text. -/
theorem same₀ {F : FTy → Type} [FloatOps F] : Cert.Kernel5.defs₀ (F := F) = Cert.Kernel5Ideal.defs₀ (F := F) := by
  unfold Cert.Kernel5.defs₀ Cert.Kernel5Ideal.defs₀
  refine congrArg Defs.onTc (funext fun l => funext fun x => ?_)
  match l, x with
  | 0, (t, s) => rfl
theorem same {F : FTy → Type} [FloatOps F] : Cert.Kernel5.defs (F := F) = Cert.Kernel5Ideal.defs (F := F) :=
  congrArg (Pipeline.defs Cert.Kernel5Ideal.pcfgs) same₀

theorem frame_kernel : Cert.quiescent_Kernel5 := fun m ρ _ => by
  rw [same]
  exact (θ_run Cert.Kernel5Ideal.defs _ _).mono (fun _ h => h) (Gen.frame (F := Bits) m ρ)
theorem frame_ideal : Cert.quiescent_Kernel5Ideal := fun m ρ _ => Gen.frame (F := Ideal) m ρ
theorem frame_reference : Cert.quiescent_Reference5Ideal := fun m ρ _ =>
  (θ_run _ _ _).mono (fun r h => ⟨fun c => (h c).2, sem_eq_zero_of_no_sems (by decide) r.2⟩) (Cert.Reference5Ideal.Value.run (F := Ideal) m ρ)
theorem preserves : Cert.preserves_Kernel5_Kernel5Ideal := trivial

end Cert.InX
-- ==== Proof.InW.lean ====
/-
  The backward call of the first projection for its weight: eight row tiles, each adding its product to a running sum, are the
  product over all rows, and the last tile stores it.
-/
module

public import proofs.«01_k».proof.Proof.Gen.Kernel6Ideal.Value
public import proofs.«01_k».proof.Proof.Gen.Kernel6
public import proofs.«01_k».proof.Proof.Gen.Reference6Ideal.Run
public import proofs.«01_k».proof.Proof.Shards

@[expose] public section

noncomputable section

namespace Cert.InW

open Cert.Kernel6Ideal Cert.Kernel6Ideal.Gen Cert.Ffn
open Idealize.ShloMosaic Idealize.ShloMosaic.TcCoe Idealize.ShloMosaic.Tactic Idealize.SL.Sem

section Payloads

variable {F : FTy → Type} [FloatOps F]
variable (c : Dev nD) (i : grid0.Coords) (a3 : Memref sig .tc .vmem S1024x2048 .bf16) (h3 : a3.IsWhole) (a4 : Memref sig .tc .vmem S1024x1536 .bf16) (h4 : a4.IsWhole)
  (a5 : Memref sig .tc .vmem S2048x1536 .bf16) (h5 : a5.IsWhole) (a6 : Memref sig .tc .vmem S2048x1536 .f32) (h6 : a6.IsWhole)
  (x0 : Vec F S1024x2048 .bf16) (x1 : Vec F S1024x1536 .bf16) (xs : Vec F S2048x1536 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048x1536) zeros2, View.readCov_unit_zero (S := S2048x1536) _ zeros2]
  simp only [View.readAt_eq_ld, h3.read_unread, h4.read_unread, View.ld_unit_zero (S := S1024x2048) zeros2, View.ld_unit_zero (S := S1024x1536) zeros2]

theorem between (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero zeros2]
  simp only [View.readAt_eq_ld, h3.read_unread, h4.read_unread, h6.read_unread, View.ld_unit_zero (S := S1024x2048) zeros2,
    View.ld_unit_zero (S := S1024x1536) zeros2, View.ld_unit_zero (S := S2048x1536) zeros2]

theorem last (hc0 : ¬cond0_0 i) (hc1 : cond0_1 i) : sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero zeros2]
  simp only [View.readAt_eq_ld, h3.read_unread, h4.read_unread, h6.read_unread, View.ld_unit_zero (S := S1024x2048) zeros2,
    View.ld_unit_zero (S := S1024x1536) zeros2, View.ld_unit_zero (S := S2048x1536) zeros2]

theorem stored (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero zeros2, View.readCov_unit_zero (S := S2048x1536) _ zeros2]
  simp only [View.readAt_eq_ld, h3.read_unread, h4.read_unread, h6.read_unread, View.ld_unit_zero (S := S1024x2048) zeros2,
    View.ld_unit_zero (S := S1024x1536) zeros2, View.ld_unit_zero (S := S2048x1536) zeros2]

end Payloads

/-- One tile's product. -/
def term (k : Fin 2048) (e : Fin 1536) (x0 : Vec Ideal S1024x2048 .bf16) (x1 : Vec Ideal S1024x1536 .bf16) : EReal :=
  ∑ r : Fin 1024, (x0 (ix2 r k) : EReal) * x1 (ix2 r e)

section Read

variable (k : Fin 2048) (e : Fin 1536) (x0 : Vec Ideal S1024x2048 .bf16) (x1 : Vec Ideal S1024x1536 .bf16) (xs : Vec Ideal S2048x1536 .f32)

theorem reset_at : (k0_pay1 (F := Ideal)) (ix2 k e) = (0 : EReal) := by
  unfold k0_pay1
  pointwise
theorem pay_at : k0_pay2 xs x0 x1 (ix2 k e) = ((xs (ix2 k e) : EReal) + term k e x0 x1 : EReal) := by
  unfold k0_pay2 term
  pointwise
theorem cast_at : (k0_pay3 xs (ix2 k e) : EReal) = xs (ix2 k e) := by
  unfold k0_pay3
  pointwise

end Read

variable (m : (ℓ : Loc nD τ sig) → Buf (Elt Ideal) ℓ) (ρ : Dev nD → PrngReg) (c : Dev nD)

def termAt (k : Fin 2048) (e : Fin 1536) (n : ℕ) : EReal := if h : n < cfg0.N then term k e (iblk m c 0 ⟨n, h⟩) (iblk m c 1 ⟨n, h⟩) else 0

theorem scratch_first (k : Fin 2048) (e : Fin 1536) (n : ℕ) (h : n < cfg0.N) (h0 : n % 8 = 0) : ((outsAt0 m c n h).2 (ix2 k e) : EReal) = termAt m c k e n := by
  rw [outsAt0_A m c ⟨n, h⟩ h0 (by show ¬n % 8 = 7; omega)]
  dsimp only
  rw [first, pay_at, reset_at, zero_add]
  unfold termAt
  rw [dif_pos h]

theorem scratch_next (k : Fin 2048) (e : Fin 1536) (n : ℕ) (h : n + 1 < cfg0.N) (h' : n < cfg0.N) (h0 : ¬(n + 1) % 8 = 0) :
    ((outsAt0 m c (n + 1) h).2 (ix2 k e) : EReal) = (outsAt0 m c n h').2 (ix2 k e) + termAt m c k e (n + 1) := by
  unfold termAt
  rw [dif_pos h]
  by_cases h1 : (n + 1) % 8 = 7
  · rw [outsAt0_C m c ⟨n + 1, h⟩ h0 h1]
    dsimp only
    rw [last, pay_at]
    rfl
  · rw [outsAt0_B m c ⟨n + 1, h⟩ h0 h1]
    dsimp only
    rw [between, pay_at]
    rfl

theorem out_last (n : ℕ) (h : n < cfg0.N) (h1 : n % 8 = 7) : (outsAt0 m c n h).1 = k0_pay3 (outsAt0 m c n h).2 := by
  rw [outsAt0_C m c ⟨n, h⟩ (by show ¬n % 8 = 0; omega) h1]
  dsimp only
  rw [stored, last]

theorem idx : ∀ t : Fin cfg0.N, win0_0.index t = ![t.val % 8, 0] ∧ win0_1.index t = ![t.val % 8, t.val / 8] :=
  (by decide +kernel : ∀ t : Fin grid0.N, _)

/-- Column `e` of output block `q`. -/
def outCol (q : Fin 5) (e : Fin 1536) : Fin 7680 := ⟨q.1 * 1536 + e.1, by omega⟩

section Blocks

variable (q : Fin 5) (j : Fin 8) (t : Fin cfg0.N) (ht : t.val = 8 * q.1 + j.1) (r : Fin 1024) (k : Fin 2048) (e : Fin 1536)
include ht

theorem block0 : iblk m c 0 t (ix2 r k) = m ((c : Thread nD τ).loc main_arg0) (ix2 (rowAt j r) k) := by
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 1024 + r.1 = j.1 * 1024 + r.1; rw [h]; show t.val % 8 * 1024 + r.1 = j.1 * 1024 + r.1; omega
  | 1 => show win0_0.index t 1 * 2048 + k.1 = k.1; rw [h]; show 0 * 2048 + k.1 = k.1; omega

theorem block1 : iblk m c 1 t (ix2 r e) = m ((c : Thread nD τ).loc main_arg1) (ix2 (rowAt j r) (outCol q e)) := by
  rw [← V_main_arg1 m c]
  refine congrArg (V m c main_arg1) (funext fun a => Fin.ext ?_)
  obtain ⟨-, h⟩ := idx t
  refine (Pipeline.Window.rect_emb_val (cfg0.win 1) t _ a).trans ?_
  match a with
  | 0 => show win0_1.index t 0 * 1024 + r.1 = j.1 * 1024 + r.1; rw [h]; show t.val % 8 * 1024 + r.1 = j.1 * 1024 + r.1; omega
  | 1 => show win0_1.index t 1 * 1536 + e.1 = q.1 * 1536 + e.1; rw [h]; show t.val / 8 * 1536 + e.1 = q.1 * 1536 + e.1; omega

end Blocks

/-- The weight's gradient at row `k`, column `n`. -/
def dw (h : S8192x2048.Idx → EReal) (d : S8192x7680.Idx → EReal) (k : Fin 2048) (n : Fin 7680) : EReal := ∑ i, h (ix2 i k) * d (ix2 i n)

/-- One tile's part of it. -/
def part (h : S8192x2048.Idx → EReal) (d : S8192x7680.Idx → EReal) (k : Fin 2048) (n : Fin 7680) (j : Fin 8) : EReal :=
  ∑ r : Fin 1024, h (ix2 (rowAt j r) k) * d (ix2 (rowAt j r) n)

theorem sum_parts (h : S8192x2048.Idx → EReal) (d : S8192x7680.Idx → EReal) (k : Fin 2048) (n : Fin 7680) : ∑ j, part h d k n j = dw h d k n :=
  sum_rows fun i => h (ix2 i k) * d (ix2 i n)

theorem termAt_eq (q : Fin 5) (j : Fin 8) (k : Fin 2048) (e : Fin 1536) : termAt m c k e (8 * q.1 + j.1)
    = part (m ((c : Thread nD τ).loc main_arg0)) (m ((c : Thread nD τ).loc main_arg1)) k (outCol q e) j := by
  have h : 8 * q.1 + j.1 < cfg0.N := by rw [show cfg0.N = 40 from N_0]; omega
  unfold termAt
  rw [dif_pos h]
  unfold term part
  exact Finset.sum_congr rfl fun r _ => congrArg₂ (fun x y : EReal => x * y) (block0 m c q j ⟨_, h⟩ rfl r k) (block1 m c q j ⟨_, h⟩ rfl r e)

theorem dw_at (q : Fin 5) (k : Fin 2048) (e : Fin 1536) (h : 8 * q.1 + 7 < cfg0.N) : ((outsAt0 m c (8 * q.1 + 7) h).1 (ix2 k e) : EReal)
    = dw (m ((c : Thread nD τ).loc main_arg0)) (m ((c : Thread nD τ).loc main_arg1)) k (outCol q e) := by
  rw [out_last m c _ h (by omega), cast_at]
  refine (running_end cfg0.N (termAt m c k e) (fun n h => (outsAt0 m c n h).2 (ix2 k e)) (scratch_first m c k e) (scratch_next m c k e) q.1 h).trans ?_
  exact (Finset.sum_congr rfl fun j _ => termAt_eq m c q j k e).trans (sum_parts _ _ _ _)

theorem result (i : S2048x7680.Idx) : (Value.G2 m c i : EReal)
    = dw (m ((c : Thread nD τ).loc main_arg0)) (m ((c : Thread nD τ).loc main_arg1)) (i 0) (i 1) := by
  have h0 : (i 0).val < 2048 := (i 0).isLt
  have h1 : (i 1).val < 7680 := (i 1).isLt
  have hp : Value.pt2Of i = 8 * ((i 1).val / 1536) + 7 := by
    show 8 * (5 * ((i 0).val / 2048 - 0) + 1 * ((i 1).val / 1536 - 0)) + 7 = _
    omega
  have hN : 8 * ((i 1).val / 1536) + 7 < cfg0.N := by rw [show cfg0.N = 40 from N_0]; omega
  have e := dw_at m c ⟨(i 1).val / 1536, by omega⟩ (i 0) ⟨(i 1).val % 1536, by omega⟩ hN
  unfold Value.G2
  rw [dif_pos (by rw [hp]; exact hN), Value.fold0_congr m c _ _ _ (by rw [Nat.zero_add]; exact hN) hp, ← Value.outsAt0_sweep m c _ hN]
  have hl : Value.loc2Of i = ix2 (i 0) ⟨(i 1).val % 1536, by omega⟩ := by
    funext a
    match a with
    | 0 => exact Fin.ext (Nat.mod_eq_of_lt h0)
    | 1 => rfl
  rw [hl]
  refine e.trans (congrArg (fun x => dw _ _ (i 0) x) (Fin.ext ?_))
  show (i 1).val / 1536 * 1536 + (i 1).val % 1536 = (i 1).val
  omega

end Cert.InW

namespace Cert.InWRef

open Cert.Reference6Ideal Cert.InW
open Cert.Reference6Ideal.Facts₀
open Idealize.ShloMosaic Idealize.ShloMosaic.TcCoe Idealize.ShloMosaic.Tactic

theorem ref_dw (h : FVec Ideal S8192x2048 .bf16) (d : FVec Ideal S8192x7680 .bf16) (k : Fin 2048) (n : Fin 7680) :
    (truncf .bf16 (transpose S2048x7680 [1, 0] (Host.dotGeneral dot_S8192x7680_S8192x2048_S7680x2048_0_0_1_1_n_n none (extf .f32 d bitsLt_bf16_f32)
      (extf .f32 h bitsLt_bf16_f32)) transposes_S7680x2048_S2048x7680_1_0) bitsLt_bf16_f32 (ix2 k n) : EReal) = dw h d k n := by
  unfold dw
  pointwise
  exact Finset.sum_congr rfl fun i _ => mul_comm _ _

end Cert.InWRef

namespace Cert.InW

open Cert.Kernel6Ideal Cert.Kernel6Ideal.Gen Cert.Ffn
open Idealize.ShloMosaic Idealize.ShloMosaic.TcCoe Idealize.ShloMosaic.Tactic Idealize.SL.Sem

theorem algebraic : Cert.algebraic_Kernel6Ideal_Reference6Ideal := by
  intro m g m' g' hp he
  refine ⟨_, Value.run m g, (θ_run _ _ _).mono (fun r h c => ⟨(h c).1.trans ?_, (h c).2⟩) (Cert.Reference6Ideal.Value.run m' g')⟩
  obtain ⟨e0, e1⟩ := he c
  funext i
  have e : i = ix2 (i 0) (i 1) := by funext a; match a with | 0 => rfl | 1 => rfl
  rw [e0, e1, result m c i]
  exact (congrArg _ e).trans (Cert.InWRef.ref_dw _ _ (i 0) (i 1))

/-- The call and its idealization are one text. -/
theorem same₀ {F : FTy → Type} [FloatOps F] : Cert.Kernel6.defs₀ (F := F) = Cert.Kernel6Ideal.defs₀ (F := F) := by
  unfold Cert.Kernel6.defs₀ Cert.Kernel6Ideal.defs₀
  refine congrArg Defs.onTc (funext fun l => funext fun x => ?_)
  match l, x with
  | 0, (t, s) => rfl
theorem same {F : FTy → Type} [FloatOps F] : Cert.Kernel6.defs (F := F) = Cert.Kernel6Ideal.defs (F := F) :=
  congrArg (Pipeline.defs Cert.Kernel6Ideal.pcfgs) same₀

theorem frame_kernel : Cert.quiescent_Kernel6 := fun m ρ _ => by
  rw [same]
  exact (θ_run Cert.Kernel6Ideal.defs _ _).mono (fun _ h => h) (Gen.frame (F := Bits) m ρ)
theorem frame_ideal : Cert.quiescent_Kernel6Ideal := fun m ρ _ => Gen.frame (F := Ideal) m ρ
theorem frame_reference : Cert.quiescent_Reference6Ideal := fun m ρ _ =>
  (θ_run _ _ _).mono (fun r h => ⟨fun c => (h c).2, sem_eq_zero_of_no_sems (by decide) r.2⟩) (Cert.Reference6Ideal.Value.run (F := Ideal) m ρ)
theorem preserves : Cert.preserves_Kernel6_Kernel6Ideal := trivial

end Cert.InW
-- ==== Proof.OutX.lean ====
/-
  The backward call of the second projection for its input: each block is one product over all columns of the cotangent.
-/
module

public import proofs.«01_k».proof.Proof.Gen.Kernel7Ideal.Value
public import proofs.«01_k».proof.Proof.Gen.Kernel7
public import proofs.«01_k».proof.Proof.Gen.Reference7Ideal.Run
public import proofs.«01_k».proof.Proof.Shards
public import Idealize.ShloMosaic.Lib.Pipeline.ValueKit.Acc

@[expose] public section

noncomputable section

namespace Cert.OutX

open Cert.Kernel7Ideal Cert.Kernel7Ideal.Gen Cert.Ffn
open Idealize.ShloMosaic Idealize.ShloMosaic.TcCoe Idealize.ShloMosaic.Tactic Idealize.SL.Sem

theorem stored {F : FTy → Type} [FloatOps F] (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : cond0_1 i) (x0 x1 : Vec F S1024x2048 .bf16) :
    out0_A_2 c i a3 h3 a4 h4 a5 h5 a6 h6 hc0 hc1 x0 x1 = k0_pay2 k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero zeros2, View.readCov_cons_unit_lit' (S := S1024x1024) _ _ _ _ _ (congrFun zeros2) (congrFun zeros2), View.readCov_unit_zero (S := S1024x1024) _ zeros2]
  simp only [View.readAt_eq_ld, h3.read_unread, h4.read_unread, View.ld_unit_zero (S := S1024x2048) zeros2]

/-- A block's product. -/
def term (r k : Fin 1024) (x0 x1 : Vec Ideal S1024x2048 .bf16) : EReal := ∑ n : Fin 2048, (x0 (ix2 r n) : EReal) * x1 (ix2 k n)

theorem read_at (r k : Fin 1024) (x0 x1 : Vec Ideal S1024x2048 .bf16) : (k0_pay2 k0_pay1 x0 x1 (ix2 r k) : EReal) = term r k x0 x1 := by
  unfold k0_pay2 k0_pay1 term
  pointwise

variable (m : (ℓ : Loc nD τ sig) → Buf (Elt Ideal) ℓ) (ρ : Dev nD → PrngReg) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- Column `k` of half `p` of the output. -/
def half (p : Fin 2) (k : Fin 1024) : Fin 2048 := ⟨p.1 * 1024 + k.1, by omega⟩

/-- The gradient of the projection's input at row `i`, column `k`. -/
def dout (d : S8192x2048.Idx → EReal) (w : S2048x2048.Idx → EReal) (i : Fin 8192) (k : Fin 2048) : EReal := ∑ n, d (ix2 i n) * w (ix2 k n)

section Blocks

variable (q : Fin 8) (p : Fin 2) (t : Fin cfg0.N) (ht : t.val = 2 * q.1 + p.1) (r k : Fin 1024) (n : Fin 2048)
include ht

theorem block0 : iblk m c 0 t (ix2 r n) = m ((c : Thread nD τ).loc main_arg0) (ix2 (rowAt q r) n) := by
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 1024 + r.1 = q.1 * 1024 + r.1; rw [h]; show t.val / 2 * 1024 + r.1 = q.1 * 1024 + r.1; omega
  | 1 => show win0_0.index t 1 * 2048 + n.1 = n.1; rw [h]; show 0 * 2048 + n.1 = n.1; omega

theorem block1 : iblk m c 1 t (ix2 k n) = m ((c : Thread nD τ).loc main_arg1) (ix2 (half p k) n) := by
  rw [← V_main_arg1 m c]
  refine congrArg (V m c main_arg1) (funext fun a => Fin.ext ?_)
  obtain ⟨-, h, -⟩ := idx t
  refine (Pipeline.Window.rect_emb_val (cfg0.win 1) t _ a).trans ?_
  match a with
  | 0 => show win0_1.index t 0 * 1024 + k.1 = p.1 * 1024 + k.1; rw [h]; show t.val % 2 * 1024 + k.1 = p.1 * 1024 + k.1; omega
  | 1 => show win0_1.index t 1 * 2048 + n.1 = n.1; rw [h]; show 0 * 2048 + n.1 = n.1; omega

theorem cell : (((dats m 0 c).arrAt 2 cfg0.N : S8192x2048.Idx → EReal) (ix2 (rowAt q r) (half p k)) : EReal)
    = dout (m ((c : Thread nD τ).loc main_arg0)) (m ((c : Thread nD τ).loc main_arg1)) (rowAt q r) (half p k) := by
  have e : term r k (iblk m c 0 t) (iblk m c 1 t) = dout (m ((c : Thread nD τ).loc main_arg0)) (m ((c : Thread nD τ).loc main_arg1)) (rowAt q r) (half p k) :=
    Finset.sum_congr rfl fun n _ => congrArg₂ (fun x y : EReal => x * y) (block0 m c q p t ht r n) (block1 m c q p t ht k n)
  rw [← e, ← read_at, ← stored c (grid0.coords t) (ms0_0 t) (hs0_0 t) (ms0_1 t) (hs0_1 t) (ms0_2 t) (hs0_2 t) scM0_0 (Memref.isWhole_whole _) (hcond0_0 t) (hcond0_1 t)]
  refine Eq.trans (congrArg _ (funext fun a => Fin.ext ?_)) ((congrFun (Value.blocks2 m c t (flush0_2 t)) (ix2 r k)).trans (congrFun (Value.flushed2_A m c t) (ix2 r k)))
  obtain ⟨-, -, h⟩ := idx t
  refine Eq.trans ?_ (Pipeline.Window.rect_emb_val (cfg0.win 2) t _ a).symm
  match a with
  | 0 => show q.1 * 1024 + r.1 = win0_2.index t 0 * 1024 + r.1; rw [h]; show q.1 * 1024 + r.1 = t.val / 2 * 1024 + r.1; omega
  | 1 => show p.1 * 1024 + k.1 = win0_2.index t 1 * 1024 + k.1; rw [h]; show p.1 * 1024 + k.1 = t.val % 2 * 1024 + k.1; omega

end Blocks

theorem result (i : S8192x2048.Idx) : (((dats m 0 c).arrAt 2 cfg0.N : S8192x2048.Idx → EReal) i : EReal)
    = dout (m ((c : Thread nD τ).loc main_arg0)) (m ((c : Thread nD τ).loc main_arg1)) (i 0) (i 1) := by
  have h0 : (i 0).val < 8192 := (i 0).isLt
  have h1 : (i 1).val < 2048 := (i 1).isLt
  have e := cell m c ⟨(i 0).val / 1024, by omega⟩ ⟨(i 1).val / 1024, by omega⟩
    ⟨2 * ((i 0).val / 1024) + (i 1).val / 1024, by rw [show cfg0.N = 16 from N_0]; omega⟩ rfl ⟨(i 0).val % 1024, by omega⟩ ⟨(i 1).val % 1024, by omega⟩
  have e0 : rowAt ⟨(i 0).val / 1024, by omega⟩ ⟨(i 0).val % 1024, by omega⟩ = i 0 := Fin.ext (show (i 0).val / 1024 * 1024 + (i 0).val % 1024 = (i 0).val by omega)
  have e1 : half ⟨(i 1).val / 1024, by omega⟩ ⟨(i 1).val % 1024, by omega⟩ = i 1 := Fin.ext (show (i 1).val / 1024 * 1024 + (i 1).val % 1024 = (i 1).val by omega)
  rw [e0, e1] at e
  refine Eq.trans (congrArg _ ?_) e
  funext a
  match a with
  | 0 => rfl
  | 1 => rfl

theorem reference (d : FVec Ideal S8192x2048 .bf16) (w : FVec Ideal S2048x2048 .bf16) (i : Fin 8192) (k : Fin 2048) :
    Host.dotGeneral Cert.Reference7Ideal.dot_S8192x2048_S2048x2048_S8192x2048_1_1_0_0_n_n none (extf .f32 d Cert.Reference7Ideal.Facts₀.bitsLt_bf16_f32)
      (extf .f32 w Cert.Reference7Ideal.Facts₀.bitsLt_bf16_f32) (ix2 i k) = dout d w i k := by
  unfold dout
  pointwise

theorem algebraic : Cert.algebraic_Kernel7Ideal_Reference7Ideal := by
  intro m g m' g' hp he
  refine ⟨_, Value.run_blocks m g, (θ_run _ _ _).mono (fun r h c => ⟨(h c).1.trans ?_, (h c).2⟩) (Cert.Reference7Ideal.Value.run m' g')⟩
  obtain ⟨e0, e1⟩ := he c
  funext i
  have e : i = ix2 (i 0) (i 1) := by funext a; match a with | 0 => rfl | 1 => rfl
  rw [e0, e1]
  exact (congrArg _ e).trans ((reference _ _ (i 0) (i 1)).trans (result m c i).symm)

/-- The call and its idealization are one text. -/
theorem same₀ {F : FTy → Type} [FloatOps F] : Cert.Kernel7.defs₀ (F := F) = Cert.Kernel7Ideal.defs₀ (F := F) := by
  unfold Cert.Kernel7.defs₀ Cert.Kernel7Ideal.defs₀
  refine congrArg Defs.onTc (funext fun l => funext fun x => ?_)
  match l, x with
  | 0, (t, s) => rfl
theorem same {F : FTy → Type} [FloatOps F] : Cert.Kernel7.defs (F := F) = Cert.Kernel7Ideal.defs (F := F) :=
  congrArg (Pipeline.defs Cert.Kernel7Ideal.pcfgs) same₀

theorem frame_kernel : Cert.quiescent_Kernel7 := fun m ρ _ => by
  rw [same]
  exact (θ_run Cert.Kernel7Ideal.defs _ _).mono (fun _ h => h) (Gen.frame (F := Bits) m ρ)
theorem frame_ideal : Cert.quiescent_Kernel7Ideal := fun m ρ _ => Gen.frame (F := Ideal) m ρ
theorem frame_reference : Cert.quiescent_Reference7Ideal := fun m ρ _ =>
  (θ_run _ _ _).mono (fun r h => ⟨fun c => (h c).2, sem_eq_zero_of_no_sems (by decide) r.2⟩) (Cert.Reference7Ideal.Value.run (F := Ideal) m ρ)
theorem preserves : Cert.preserves_Kernel7_Kernel7Ideal := trivial

end Cert.OutX
-- ==== Proof.OutW.lean ====
/-
  The backward call of the second projection for its weight: sixteen row tiles, each adding its product to a running sum, are the
  product over all rows, and the last tile stores it.
-/
module

public import proofs.«01_k».proof.Proof.Gen.Kernel8Ideal.Value
public import proofs.«01_k».proof.Proof.Gen.Kernel8
public import proofs.«01_k».proof.Proof.Gen.Reference8Ideal.Run
public import proofs.«01_k».proof.Proof.Shards

@[expose] public section

noncomputable section

namespace Cert.OutW

open Cert.Kernel8Ideal Cert.Kernel8Ideal.Gen Cert.Ffn
open Idealize.ShloMosaic Idealize.ShloMosaic.TcCoe Idealize.ShloMosaic.Tactic Idealize.SL.Sem

section Payloads

variable {F : FTy → Type} [FloatOps F]
variable (c : Dev nD) (i : grid0.Coords) (a3 : Memref sig .tc .vmem S512x1024 .bf16) (h3 : a3.IsWhole) (a4 : Memref sig .tc .vmem S512x1024 .bf16) (h4 : a4.IsWhole)
  (a5 : Memref sig .tc .vmem S1024x1024 .bf16) (h5 : a5.IsWhole) (a6 : Memref sig .tc .vmem S1024x1024 .f32) (h6 : a6.IsWhole)
  (x0 x1 : Vec F S512x1024 .bf16) (xs : Vec F S1024x1024 .f32)

theorem first (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S512x1024) zeros2]

theorem between (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero zeros2]
  simp only [View.readAt_eq_ld, h3.read_unread, h4.read_unread, h6.read_unread, View.ld_unit_zero (S := S512x1024) zeros2, View.ld_unit_zero (S := S1024x1024) zeros2]

theorem last (hc0 : ¬cond0_0 i) (hc1 : cond0_1 i) : sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero zeros2]
  simp only [View.readAt_eq_ld, h3.read_unread, h4.read_unread, h6.read_unread, View.ld_unit_zero (S := S512x1024) zeros2, View.ld_unit_zero (S := S1024x1024) zeros2]

theorem stored (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S512x1024) zeros2, View.ld_unit_zero (S := S1024x1024) zeros2]

end Payloads

/-- One tile's product. -/
def term (k e : Fin 1024) (x0 x1 : Vec Ideal S512x1024 .bf16) : EReal := ∑ r : Fin 512, (x0 (ix2 r k) : EReal) * x1 (ix2 r e)

section Read

variable (k e : Fin 1024) (x0 x1 : Vec Ideal S512x1024 .bf16) (xs : Vec Ideal S1024x1024 .f32)

theorem reset_at : (k0_pay1 (F := Ideal)) (ix2 k e) = (0 : EReal) := by
  unfold k0_pay1
  pointwise
theorem pay_at : k0_pay2 xs x0 x1 (ix2 k e) = ((xs (ix2 k e) : EReal) + term k e x0 x1 : EReal) := by
  unfold k0_pay2 term
  pointwise
theorem cast_at : (k0_pay3 xs (ix2 k e) : EReal) = xs (ix2 k e) := by
  unfold k0_pay3
  pointwise

end Read

variable (m : (ℓ : Loc nD τ sig) → Buf (Elt Ideal) ℓ) (ρ : Dev nD → PrngReg) (c : Dev nD)

def termAt (k e : Fin 1024) (n : ℕ) : EReal := if h : n < cfg0.N then term k e (iblk m c 0 ⟨n, h⟩) (iblk m c 1 ⟨n, h⟩) else 0

theorem scratch_first (k e : Fin 1024) (n : ℕ) (h : n < cfg0.N) (h0 : n % 16 = 0) : ((outsAt0 m c n h).2 (ix2 k e) : EReal) = termAt m c k e n := by
  rw [outsAt0_A m c ⟨n, h⟩ h0 (by show ¬n % 16 = 15; omega)]
  dsimp only
  rw [first, pay_at, reset_at, zero_add]
  unfold termAt
  rw [dif_pos h]

theorem scratch_next (k e : Fin 1024) (n : ℕ) (h : n + 1 < cfg0.N) (h' : n < cfg0.N) (h0 : ¬(n + 1) % 16 = 0) :
    ((outsAt0 m c (n + 1) h).2 (ix2 k e) : EReal) = (outsAt0 m c n h').2 (ix2 k e) + termAt m c k e (n + 1) := by
  unfold termAt
  rw [dif_pos h]
  by_cases h1 : (n + 1) % 16 = 15
  · rw [outsAt0_C m c ⟨n + 1, h⟩ h0 h1]
    dsimp only
    rw [last, pay_at]
    rfl
  · rw [outsAt0_B m c ⟨n + 1, h⟩ h0 h1]
    dsimp only
    rw [between, pay_at]
    rfl

theorem out_last (n : ℕ) (h : n < cfg0.N) (h1 : n % 16 = 15) : (outsAt0 m c n h).1 = k0_pay3 (outsAt0 m c n h).2 := by
  rw [outsAt0_C m c ⟨n, h⟩ (by show ¬n % 16 = 0; omega) h1]
  dsimp only
  rw [stored, last]

theorem idx : ∀ t : Fin cfg0.N, win0_0.index t = ![t.val % 16, t.val / 32] ∧ win0_1.index t = ![t.val % 16, t.val / 16 % 2] :=
  (by decide +kernel : ∀ t : Fin grid0.N, _)

/-- Row `r` of tile `j`; row and column of output block `q`. -/
def tileRow (j : Fin 16) (r : Fin 512) : Fin 8192 := ⟨j.1 * 512 + r.1, by omega⟩
def outRow (q : Fin 4) (k : Fin 1024) : Fin 2048 := ⟨q.1 / 2 * 1024 + k.1, by omega⟩
def outCol (q : Fin 4) (e : Fin 1024) : Fin 2048 := ⟨q.1 % 2 * 1024 + e.1, by omega⟩

section Blocks

variable (q : Fin 4) (j : Fin 16) (t : Fin cfg0.N) (ht : t.val = 16 * q.1 + j.1) (r : Fin 512) (k : Fin 1024)
include ht

theorem block0 : iblk m c 0 t (ix2 r k) = m ((c : Thread nD τ).loc main_arg0) (ix2 (tileRow j r) (outRow q k)) := by
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 512 + r.1 = j.1 * 512 + r.1; rw [h]; show t.val % 16 * 512 + r.1 = j.1 * 512 + r.1; omega
  | 1 => show win0_0.index t 1 * 1024 + k.1 = q.1 / 2 * 1024 + k.1; rw [h]; show t.val / 32 * 1024 + k.1 = q.1 / 2 * 1024 + k.1; omega

theorem block1 : iblk m c 1 t (ix2 r k) = m ((c : Thread nD τ).loc main_arg1) (ix2 (tileRow j r) (outCol q k)) := by
  rw [← V_main_arg1 m c]
  refine congrArg (V m c main_arg1) (funext fun a => Fin.ext ?_)
  obtain ⟨-, h⟩ := idx t
  refine (Pipeline.Window.rect_emb_val (cfg0.win 1) t _ a).trans ?_
  match a with
  | 0 => show win0_1.index t 0 * 512 + r.1 = j.1 * 512 + r.1; rw [h]; show t.val % 16 * 512 + r.1 = j.1 * 512 + r.1; omega
  | 1 => show win0_1.index t 1 * 1024 + k.1 = q.1 % 2 * 1024 + k.1; rw [h]; show t.val / 16 % 2 * 1024 + k.1 = q.1 % 2 * 1024 + k.1; omega

end Blocks

/-- The weight's gradient at row `k`, column `n`. -/
def dw (o d : S8192x2048.Idx → EReal) (k n : Fin 2048) : EReal := ∑ i, o (ix2 i k) * d (ix2 i n)

/-- One tile's part of it. -/
def part (o d : S8192x2048.Idx → EReal) (k n : Fin 2048) (j : Fin 16) : EReal := ∑ r : Fin 512, o (ix2 (tileRow j r) k) * d (ix2 (tileRow j r) n)

theorem sum_parts (o d : S8192x2048.Idx → EReal) (k n : Fin 2048) : ∑ j, part o d k n j = dw o d k n :=
  sum_blocks (p := 16) (b := 512) (fun i => o (ix2 i k) * d (ix2 i n)) tileRow fun _ _ => rfl

theorem termAt_eq (q : Fin 4) (j : Fin 16) (k e : Fin 1024) : termAt m c k e (16 * q.1 + j.1)
    = part (m ((c : Thread nD τ).loc main_arg0)) (m ((c : Thread nD τ).loc main_arg1)) (outRow q k) (outCol q e) j := by
  have h : 16 * q.1 + j.1 < cfg0.N := by rw [show cfg0.N = 64 from N_0]; omega
  unfold termAt
  rw [dif_pos h]
  unfold term part
  exact Finset.sum_congr rfl fun r _ => congrArg₂ (fun x y : EReal => x * y) (block0 m c q j ⟨_, h⟩ rfl r k) (block1 m c q j ⟨_, h⟩ rfl r e)

theorem dw_at (q : Fin 4) (k e : Fin 1024) (h : 16 * q.1 + 15 < cfg0.N) : ((outsAt0 m c (16 * q.1 + 15) h).1 (ix2 k e) : EReal)
    = dw (m ((c : Thread nD τ).loc main_arg0)) (m ((c : Thread nD τ).loc main_arg1)) (outRow q k) (outCol q e) := by
  rw [out_last m c _ h (by omega), cast_at]
  refine (running_last 16 cfg0.N (termAt m c k e) (fun n h => (outsAt0 m c n h).2 (ix2 k e)) (scratch_first m c k e) (scratch_next m c k e) q.1 15 rfl h).trans ?_
  exact (Finset.sum_congr rfl fun j _ => termAt_eq m c q j k e).trans (sum_parts _ _ _ _)

theorem result (i : S2048x2048.Idx) : (Value.G2 m c i : EReal)
    = dw (m ((c : Thread nD τ).loc main_arg0)) (m ((c : Thread nD τ).loc main_arg1)) (i 0) (i 1) := by
  have h0 : (i 0).val < 2048 := (i 0).isLt
  have h1 : (i 1).val < 2048 := (i 1).isLt
  have hp : Value.pt2Of i = 16 * (2 * ((i 0).val / 1024) + (i 1).val / 1024) + 15 := by
    show 16 * (2 * ((i 0).val / 1024 - 0) + 1 * ((i 1).val / 1024 - 0)) + 15 = _
    omega
  have hN : 16 * (2 * ((i 0).val / 1024) + (i 1).val / 1024) + 15 < cfg0.N := by rw [show cfg0.N = 64 from N_0]; omega
  have e := dw_at m c ⟨2 * ((i 0).val / 1024) + (i 1).val / 1024, by omega⟩ ⟨(i 0).val % 1024, by omega⟩ ⟨(i 1).val % 1024, by omega⟩ hN
  unfold Value.G2
  rw [dif_pos (by rw [hp]; exact hN), Value.fold0_congr m c _ _ _ (by rw [Nat.zero_add]; exact hN) hp, ← Value.outsAt0_sweep m c _ hN]
  have hl : Value.loc2Of i = ix2 ⟨(i 0).val % 1024, by omega⟩ ⟨(i 1).val % 1024, by omega⟩ := by
    funext a
    match a with
    | 0 => rfl
    | 1 => rfl
  rw [hl]
  refine e.trans (congrArg₂ (fun x y => dw _ _ x y) (Fin.ext ?_) (Fin.ext ?_))
  · show (2 * ((i 0).val / 1024) + (i 1).val / 1024) / 2 * 1024 + (i 0).val % 1024 = (i 0).val
    omega
  · show (2 * ((i 0).val / 1024) + (i 1).val / 1024) % 2 * 1024 + (i 1).val % 1024 = (i 1).val
    omega

end Cert.OutW

namespace Cert.OutWRef

open Cert.Reference8Ideal Cert.OutW
open Cert.Reference8Ideal.Facts₀
open Idealize.ShloMosaic Idealize.ShloMosaic.TcCoe Idealize.ShloMosaic.Tactic

theorem ref_dw (o d : FVec Ideal S8192x2048 .bf16) (k n : Fin 2048) :
    (truncf .bf16 (transpose S2048x2048 [1, 0] (Host.dotGeneral dot_S8192x2048_S8192x2048_S2048x2048_0_0_1_1_n_n none (extf .f32 d bitsLt_bf16_f32)
      (extf .f32 o bitsLt_bf16_f32)) transposes_S2048x2048_S2048x2048_1_0) bitsLt_bf16_f32 (ix2 k n) : EReal) = dw o d k n := by
  unfold dw
  pointwise
  exact Finset.sum_congr rfl fun i _ => mul_comm _ _

end Cert.OutWRef

namespace Cert.OutW

open Cert.Kernel8Ideal Cert.Kernel8Ideal.Gen Cert.Ffn
open Idealize.ShloMosaic Idealize.ShloMosaic.TcCoe Idealize.ShloMosaic.Tactic Idealize.SL.Sem

theorem algebraic : Cert.algebraic_Kernel8Ideal_Reference8Ideal := by
  intro m g m' g' hp he
  refine ⟨_, Value.run m g, (θ_run _ _ _).mono (fun r h c => ⟨(h c).1.trans ?_, (h c).2⟩) (Cert.Reference8Ideal.Value.run m' g')⟩
  obtain ⟨e0, e1⟩ := he c
  funext i
  have e : i = ix2 (i 0) (i 1) := by funext a; match a with | 0 => rfl | 1 => rfl
  rw [e0, e1, result m c i]
  exact (congrArg _ e).trans (Cert.OutWRef.ref_dw _ _ (i 0) (i 1))

/-- The call and its idealization are one text. -/
theorem same₀ {F : FTy → Type} [FloatOps F] : Cert.Kernel8.defs₀ (F := F) = Cert.Kernel8Ideal.defs₀ (F := F) := by
  unfold Cert.Kernel8.defs₀ Cert.Kernel8Ideal.defs₀
  refine congrArg Defs.onTc (funext fun l => funext fun x => ?_)
  match l, x with
  | 0, (t, s) => rfl
theorem same {F : FTy → Type} [FloatOps F] : Cert.Kernel8.defs (F := F) = Cert.Kernel8Ideal.defs (F := F) :=
  congrArg (Pipeline.defs Cert.Kernel8Ideal.pcfgs) same₀

theorem frame_kernel : Cert.quiescent_Kernel8 := fun m ρ _ => by
  rw [same]
  exact (θ_run Cert.Kernel8Ideal.defs _ _).mono (fun _ h => h) (Gen.frame (F := Bits) m ρ)
theorem frame_ideal : Cert.quiescent_Kernel8Ideal := fun m ρ _ => Gen.frame (F := Ideal) m ρ
theorem frame_reference : Cert.quiescent_Reference8Ideal := fun m ρ _ =>
  (θ_run _ _ _).mono (fun r h => ⟨fun c => (h c).2, sem_eq_zero_of_no_sems (by decide) r.2⟩) (Cert.Reference8Ideal.Value.run (F := Ideal) m ρ)
theorem preserves : Cert.preserves_Kernel8_Kernel8Ideal := trivial

end Cert.OutW
-- ==== Proof.Up.lean ====
/-
  The feed-forward's forward call for its two pre-activations and their gated product: each block is one product over all
  columns of the input, and the eight shards lie side by side.
-/
module

public import proofs.«01_k».proof.Proof.Gen.Kernel9Ideal.Value
public import proofs.«01_k».proof.Proof.Gen.Kernel9
public import proofs.«01_k».proof.Proof.Gen.Reference9Ideal.Run
public import proofs.«01_k».proof.Proof.Shards

@[expose] public section

noncomputable section

namespace Cert.Up

open Cert.Kernel9Ideal Cert.Kernel9Ideal.Gen Cert.Ffn
open Idealize.ShloMosaic Idealize.ShloMosaic.TcCoe Idealize.ShloMosaic.Tactic Idealize.SL.Sem

section Payloads

variable {F : FTy → Type} [FloatOps F] (x0 : Vec F S1024x2048 .bf16) (x1 x2 : Vec F S1x1x2048x704 .bf16)

theorem stored_a : out0_3 x0 x1 x2 = k0_pay3 x0 x1 := by
  unfold out0_3 r0_0 r0_1 r0_2
  rw [View.canon_unit_zero zeros3, View.ld_unit_zero (S := S1024x2048) zeros2, View.ld_unit_zero (S := S1x1x2048x704) zeros4]
theorem stored_b : out0_4 x0 x1 x2 = k0_pay4 x0 x2 := by
  unfold out0_4 r0_0 r0_1 r0_2
  rw [View.canon_unit_zero zeros3, View.ld_unit_zero (S := S1024x2048) zeros2, View.ld_unit_zero (S := S1x1x2048x704) zeros4]
theorem stored_s : out0_5 x0 x1 x2 = k0_pay5 x0 x1 x2 := by
  unfold out0_5 r0_0 r0_1 r0_2
  rw [View.canon_unit_zero zeros3, View.ld_unit_zero (S := S1024x2048) zeros2, View.ld_unit_zero (S := S1x1x2048x704) zeros4,
    View.ld_unit_zero (S := S1x1x2048x704) zeros4]

end Payloads

/-- A block's product: row `r` of the inputs with column `e` of the shard. -/
def term (r : Fin 1024) (e : Fin 704) (x0 : Vec Ideal S1024x2048 .bf16) (x : Vec Ideal S1x1x2048x704 .bf16) : EReal :=
  ∑ k : Fin 2048, (x0 (ix2 r k) : EReal) * x (ix4 0 0 k e)

/-- The gated product of two pre-activations. -/
def gate (a b : EReal) : EReal := a * Ideal.div 1 (1 + Ideal.exp (-a)) * b

section Read

variable (r : Fin 1024) (e : Fin 704) (x0 : Vec Ideal S1024x2048 .bf16) (x1 x2 : Vec Ideal S1x1x2048x704 .bf16)

theorem prod_a : (k0_pay1 x0 x1 (ix2 r e) : EReal) = term r e x0 x1 := by
  unfold k0_pay1 term
  pointwise
theorem prod_b : (k0_pay2 x0 x2 (ix2 r e) : EReal) = term r e x0 x2 := by
  unfold k0_pay2 term
  pointwise
theorem read_a : (k0_pay3 x0 x1 (ix3 0 r e) : EReal) = term r e x0 x1 := by
  rw [← prod_a]
  unfold k0_pay3
  pointwise
theorem read_b : (k0_pay4 x0 x2 (ix3 0 r e) : EReal) = term r e x0 x2 := by
  rw [← prod_b]
  unfold k0_pay4
  pointwise
theorem read_s : (k0_pay5 x0 x1 x2 (ix3 0 r e) : EReal) = gate (term r e x0 x1) (term r e x0 x2) := by
  rw [← prod_a, ← prod_b]
  unfold k0_pay5 gate
  pointwise
  rw [zero_sub]

end Read

variable (m : (ℓ : Loc nD τ sig) → Buf (Elt Ideal) ℓ) (ρ : Dev nD → PrngReg) (c : Dev nD)

theorem idx : ∀ t : Fin cfg0.N, win0_0.index t = ![t.val % 8, 0] ∧ win0_1.index t = ![t.val / 8, 0, 0, 0] ∧ win0_2.index t = ![t.val / 8, 0, 0, 0]
    ∧ win0_3.index t = ![t.val / 8, t.val % 8, 0] ∧ win0_4.index t = ![t.val / 8, t.val % 8, 0] ∧ win0_5.index t = ![t.val / 8, t.val % 8, 0] :=
  (by decide +kernel : ∀ t : Fin grid0.N, _)

theorem host_v2 (j : Fin 8) (k : Fin 2048) (e : Fin 704) : V m c main_v2 (ix4 j 0 k e) = m ((c : Thread nD τ).loc main_arg1) (ix2 k (colAt j e)) := by
  after_reads_simp
  pointwise
  rfl
theorem host_v5 (j : Fin 8) (k : Fin 2048) (e : Fin 704) : V m c main_v5 (ix4 j 0 k e) = m ((c : Thread nD τ).loc main_arg2) (ix2 k (colAt j e)) := by
  after_reads_simp
  pointwise
  rfl

section Blocks

variable (j q : Fin 8) (t : Fin cfg0.N) (ht : t.val = 8 * j.1 + q.1) (r : Fin 1024) (k : Fin 2048) (e : Fin 704)
include ht

theorem block0 : iblk m c 0 t (ix2 r k) = m ((c : Thread nD τ).loc main_arg0) (ix2 (rowAt q r) k) := by
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 1024 + r.1 = q.1 * 1024 + r.1; rw [h]; show t.val % 8 * 1024 + r.1 = q.1 * 1024 + r.1; omega
  | 1 => show win0_0.index t 1 * 2048 + k.1 = k.1; rw [h]; show 0 * 2048 + k.1 = k.1; omega

theorem block1 : iblk m c 1 t (ix4 0 0 k e) = m ((c : Thread nD τ).loc main_arg1) (ix2 k (colAt j e)) := by
  rw [← host_v2 m c j k e]
  refine congrArg (V m c main_v2) (funext fun a => Fin.ext ?_)
  obtain ⟨-, h, -⟩ := idx t
  refine (Pipeline.Window.rect_emb_val (cfg0.win 1) t _ a).trans ?_
  match a with
  | 0 => show win0_1.index t 0 * 1 + 0 = j.1; rw [h]; show t.val / 8 * 1 + 0 = j.1; omega
  | 1 => show win0_1.index t 1 * 1 + 0 = 0; rw [h]; rfl
  | 2 => show win0_1.index t 2 * 2048 + k.1 = k.1; rw [h]; show 0 * 2048 + k.1 = k.1; omega
  | 3 => show win0_1.index t 3 * 704 + e.1 = e.1; rw [h]; show 0 * 704 + e.1 = e.1; omega

theorem block2 : iblk m c 2 t (ix4 0 0 k e) = m ((c : Thread nD τ).loc main_arg2) (ix2 k (colAt j e)) := by
  rw [← host_v5 m c j k e]
  refine congrArg (V m c main_v5) (funext fun a => Fin.ext ?_)
  obtain ⟨-, -, h, -⟩ := idx t
  refine (Pipeline.Window.rect_emb_val (cfg0.win 2) t _ a).trans ?_
  match a with
  | 0 => show win0_2.index t 0 * 1 + 0 = j.1; rw [h]; show t.val / 8 * 1 + 0 = j.1; omega
  | 1 => show win0_2.index t 1 * 1 + 0 = 0; rw [h]; rfl
  | 2 => show win0_2.index t 2 * 2048 + k.1 = k.1; rw [h]; show 0 * 2048 + k.1 = k.1; omega
  | 3 => show win0_2.index t 3 * 704 + e.1 = e.1; rw [h]; show 0 * 704 + e.1 = e.1; omega

end Blocks

/-- A pre-activation at row `i`, hidden column `n`. -/
def pre (h : S8192x2048.Idx → EReal) (w : S2048x5632.Idx → EReal) (i : Fin 8192) (n : Fin 5632) : EReal := ∑ k, h (ix2 i k) * w (ix2 k n)

section Results

variable (j q : Fin 8) (t : Fin cfg0.N) (ht : t.val = 8 * j.1 + q.1) (r : Fin 1024) (e : Fin 704)
include ht

theorem term1 : term r e (iblk m c 0 t) (iblk m c 1 t) = pre (m ((c : Thread nD τ).loc main_arg0)) (m ((c : Thread nD τ).loc main_arg1)) (rowAt q r) (colAt j e) :=
  Finset.sum_congr rfl fun k _ => congrArg₂ (fun x y : EReal => x * y) (block0 m c j q t ht r k) (block1 m c j q t ht k e)
theorem term2 : term r e (iblk m c 0 t) (iblk m c 2 t) = pre (m ((c : Thread nD τ).loc main_arg0)) (m ((c : Thread nD τ).loc main_arg2)) (rowAt q r) (colAt j e) :=
  Finset.sum_congr rfl fun k _ => congrArg₂ (fun x y : EReal => x * y) (block0 m c j q t ht r k) (block2 m c j q t ht k e)

theorem cell_a : (((dats m 0 c).arrAt 3 cfg0.N : S8x8192x704.Idx → EReal) (ix3 j (rowAt q r) e) : EReal)
    = pre (m ((c : Thread nD τ).loc main_arg0)) (m ((c : Thread nD τ).loc main_arg1)) (rowAt q r) (colAt j e) := by
  rw [← term1 m c j q t ht r e, ← read_a, ← stored_a (iblk m c 0 t) (iblk m c 1 t) (iblk m c 2 t)]
  refine Eq.trans (congrArg _ (funext fun a => Fin.ext ?_)) ((congrFun (Value.blocks3 m c t (flush0_3 t)) (ix3 0 r e)).trans (congrFun (Value.flushed3 m c t) (ix3 0 r e)))
  obtain ⟨-, -, -, h, -⟩ := idx t
  refine Eq.trans ?_ (Pipeline.Window.rect_emb_val (cfg0.win 3) t _ a).symm
  match a with
  | 0 => show j.1 = win0_3.index t 0 * 1 + 0; rw [h]; show j.1 = t.val / 8 * 1 + 0; omega
  | 1 => show q.1 * 1024 + r.1 = win0_3.index t 1 * 1024 + r.1; rw [h]; show q.1 * 1024 + r.1 = t.val % 8 * 1024 + r.1; omega
  | 2 => show e.1 = win0_3.index t 2 * 704 + e.1; rw [h]; show e.1 = 0 * 704 + e.1; omega

theorem cell_b : (((dats m 0 c).arrAt 4 cfg0.N : S8x8192x704.Idx → EReal) (ix3 j (rowAt q r) e) : EReal)
    = pre (m ((c : Thread nD τ).loc main_arg0)) (m ((c : Thread nD τ).loc main_arg2)) (rowAt q r) (colAt j e) := by
  rw [← term2 m c j q t ht r e, ← read_b, ← stored_b (iblk m c 0 t) (iblk m c 1 t) (iblk m c 2 t)]
  refine Eq.trans (congrArg _ (funext fun a => Fin.ext ?_)) ((congrFun (Value.blocks4 m c t (flush0_4 t)) (ix3 0 r e)).trans (congrFun (Value.flushed4 m c t) (ix3 0 r e)))
  obtain ⟨-, -, -, -, h, -⟩ := idx t
  refine Eq.trans ?_ (Pipeline.Window.rect_emb_val (cfg0.win 4) t _ a).symm
  match a with
  | 0 => show j.1 = win0_4.index t 0 * 1 + 0; rw [h]; show j.1 = t.val / 8 * 1 + 0; omega
  | 1 => show q.1 * 1024 + r.1 = win0_4.index t 1 * 1024 + r.1; rw [h]; show q.1 * 1024 + r.1 = t.val % 8 * 1024 + r.1; omega
  | 2 => show e.1 = win0_4.index t 2 * 704 + e.1; rw [h]; show e.1 = 0 * 704 + e.1; omega

theorem cell_s : (((dats m 0 c).arrAt 5 cfg0.N : S8x8192x704.Idx → EReal) (ix3 j (rowAt q r) e) : EReal)
    = gate (pre (m ((c : Thread nD τ).loc main_arg0)) (m ((c : Thread nD τ).loc main_arg1)) (rowAt q r) (colAt j e))
        (pre (m ((c : Thread nD τ).loc main_arg0)) (m ((c : Thread nD τ).loc main_arg2)) (rowAt q r) (colAt j e)) := by
  rw [← term1 m c j q t ht r e, ← term2 m c j q t ht r e, ← read_s, ← stored_s (iblk m c 0 t) (iblk m c 1 t) (iblk m c 2 t)]
  refine Eq.trans (congrArg _ (funext fun a => Fin.ext ?_)) ((congrFun (Value.blocks5 m c t (flush0_5 t)) (ix3 0 r e)).trans (congrFun (Value.flushed5 m c t) (ix3 0 r e)))
  obtain ⟨-, -, -, -, -, h⟩ := idx t
  refine Eq.trans ?_ (Pipeline.Window.rect_emb_val (cfg0.win 5) t _ a).symm
  match a with
  | 0 => show j.1 = win0_5.index t 0 * 1 + 0; rw [h]; show j.1 = t.val / 8 * 1 + 0; omega
  | 1 => show q.1 * 1024 + r.1 = win0_5.index t 1 * 1024 + r.1; rw [h]; show q.1 * 1024 + r.1 = t.val % 8 * 1024 + r.1; omega
  | 2 => show e.1 = win0_5.index t 2 * 704 + e.1; rw [h]; show e.1 = 0 * 704 + e.1; omega

end Results

/-- Every index lies in a block. -/
theorem at_block (i : S8x8192x704.Idx) : ∃ (j q : Fin 8) (t : Fin cfg0.N) (r : Fin 1024) (e : Fin 704), t.val = 8 * j.1 + q.1 ∧ i = ix3 j (rowAt q r) e := by
  have h0 : (i 0).val < 8 := (i 0).isLt
  have h1 : (i 1).val < 8192 := (i 1).isLt
  refine ⟨i 0, ⟨(i 1).val / 1024, by omega⟩, ⟨8 * (i 0).val + (i 1).val / 1024, by rw [show cfg0.N = 64 from N_0]; omega⟩, ⟨(i 1).val % 1024, by omega⟩, i 2, rfl, ?_⟩
  funext a
  match a with
  | 0 => rfl
  | 1 => exact Fin.ext (show (i 1).val = (i 1).val / 1024 * 1024 + (i 1).val % 1024 by omega)
  | 2 => rfl

end Cert.Up

namespace Cert.UpRef

open Cert.Reference9Ideal Cert.Ffn Cert.Up
open Cert.Reference9Ideal.Facts₀
open Idealize.ShloMosaic Idealize.ShloMosaic.TcCoe Idealize.ShloMosaic.Tactic

variable (h : FVec Ideal S8192x2048 .bf16) (w u : FVec Ideal S2048x5632 .bf16) (j : Fin 8) (i : Fin 8192) (e : Fin 704)

/-- The reference's product. -/
def prod : FVec Ideal S8192x5632 .f32 :=
  Host.dotGeneral dot_S8192x2048_S2048x5632_S8192x5632_1_0_0_1_n_n none (extf .f32 h bitsLt_bf16_f32) (extf .f32 w bitsLt_bf16_f32)

theorem prod_at (n : Fin 5632) : (prod h w (ix2 i n) : EReal) = pre h w i n := by
  unfold prod pre
  pointwise

theorem ref_pre : (truncf .bf16 (transpose S8x8192x704 [1, 0, 2] (shapeCast S8192x8x704 (prod h w) shapeCasts_S8192x5632_S8192x8x704)
    transposes_S8192x8x704_S8x8192x704_1_0_2) bitsLt_bf16_f32 (ix3 j i e) : EReal) = pre h w i (colAt j e) := by
  rw [← prod_at]
  pointwise
  rfl

theorem ref_gate : (truncf .bf16 (transpose S8x8192x704 [1, 0, 2] (shapeCast S8192x8x704 (mulf (mulf (prod h w)
    (Host.divf (broadcastInDim S8192x5632 ![] bcast_S_S8192x5632 (constant S_ .f32 0x3F800000#32))
      (addf (broadcastInDim S8192x5632 ![] bcast_S_S8192x5632 (constant S_ .f32 0x3F800000#32)) (Host.exp (Host.negf (prod h w)))))) (prod h u))
    shapeCasts_S8192x5632_S8192x8x704) transposes_S8192x8x704_S8x8192x704_1_0_2) bitsLt_bf16_f32 (ix3 j i e) : EReal)
    = gate (pre h w i (colAt j e)) (pre h u i (colAt j e)) := by
  rw [← prod_at, ← prod_at]
  unfold gate
  pointwise
  rfl

end Cert.UpRef

namespace Cert.Up

open Cert.Kernel9Ideal Cert.Kernel9Ideal.Gen Cert.Ffn
open Idealize.ShloMosaic Idealize.ShloMosaic.TcCoe Idealize.ShloMosaic.Tactic Idealize.SL.Sem

theorem algebraic : Cert.algebraic_Kernel9Ideal_Reference9Ideal := by
  intro m g m' g' hp he
  refine ⟨_, _, _, Value.run_blocks m g, (θ_run _ _ _).mono (fun r h c => ⟨(h c).1.trans ?_, (h c).2.1.trans ?_, (h c).2.2.1.trans ?_, (h c).2.2.2⟩) (Cert.Reference9Ideal.Value.run m' g')⟩
  all_goals
    obtain ⟨e0, e1, e2⟩ := he c
    funext i
    obtain ⟨j, q, t, r, e, ht, rfl⟩ := at_block i
    rw [e0]
  · rw [e1]
    exact (Cert.UpRef.ref_pre _ _ _ _ _).trans (cell_a m c j q t ht r e).symm
  · rw [e2]
    exact (Cert.UpRef.ref_pre _ _ _ _ _).trans (cell_b m c j q t ht r e).symm
  · rw [e1, e2]
    exact (Cert.UpRef.ref_gate _ _ _ _ _ _).trans (cell_s m c j q t ht r e).symm

/-- The call and its idealization are one text. -/
theorem same₀ {F : FTy → Type} [FloatOps F] : Cert.Kernel9.defs₀ (F := F) = Cert.Kernel9Ideal.defs₀ (F := F) := by
  unfold Cert.Kernel9.defs₀ Cert.Kernel9Ideal.defs₀
  refine congrArg Defs.onTc (funext fun l => funext fun x => ?_)
  match l, x with
  | 0, (t, s) => rfl
theorem same {F : FTy → Type} [FloatOps F] : Cert.Kernel9.defs (F := F) = Cert.Kernel9Ideal.defs (F := F) :=
  congrArg (Pipeline.defs Cert.Kernel9Ideal.pcfgs) same₀

theorem frame_kernel : Cert.quiescent_Kernel9 := fun m ρ _ => by
  rw [same]
  exact (θ_run Cert.Kernel9Ideal.defs _ _).mono (fun _ h => h) (Gen.frame (F := Bits) m ρ)
theorem frame_ideal : Cert.quiescent_Kernel9Ideal := fun m ρ _ => Gen.frame (F := Ideal) m ρ
theorem frame_reference : Cert.quiescent_Reference9Ideal := fun m ρ _ =>
  (θ_run _ _ _).mono (fun r h => ⟨fun c => (h c).2.2.2, sem_eq_zero_of_no_sems (by decide) r.2⟩) (Cert.Reference9Ideal.Value.run (F := Ideal) m ρ)
theorem preserves : Cert.preserves_Kernel9_Kernel9Ideal := trivial

end Cert.Up
-- ==== Proof.Down.lean ====
/-
  The feed-forward's forward call for its second product: eight shards, each adding its product to a running sum, are the
  product over all hidden columns; the last point stores it and the residual stream with half of it, scaled by the gate, added.
-/
module

public import proofs.«01_k».proof.Proof.Gen.Kernel10Ideal.Value
public import proofs.«01_k».proof.Proof.Gen.Kernel10
public import proofs.«01_k».proof.Proof.Gen.Reference10Ideal.Run
public import proofs.«01_k».proof.Proof.Shards

@[expose] public section

noncomputable section

namespace Cert.Down

open Cert.Kernel10Ideal Cert.Kernel10Ideal.Gen Cert.Ffn
open Idealize.ShloMosaic Idealize.ShloMosaic.TcCoe Idealize.ShloMosaic.Tactic Idealize.SL.Sem

section Payloads

variable {F : FTy → Type} [FloatOps F]
variable (c : Dev nD) (i : grid0.Coords) (a2 : Memref sig .tc .vmem S1x1024x704 .bf16) (h2 : a2.IsWhole) (a3 : Memref sig .tc .vmem S1x1x704x2048 .bf16) (h3 : a3.IsWhole)
  (a4 : Memref sig .tc .vmem S1024x2048 .f32) (h4 : a4.IsWhole) (a5 : Memref sig .tc .vmem S1x2048 .f32) (h5 : a5.IsWhole)
  (a6 : Memref sig .tc .vmem S1024x2048 .bf16) (h6 : a6.IsWhole) (a7 : Memref sig .tc .vmem S1024x2048 .f32) (h7 : a7.IsWhole)
  (a8 : Memref sig .tc .vmem S1024x2048 .f32) (h8 : a8.IsWhole)
  (x0 : Vec F S1x1024x704 .bf16) (x1 : Vec F S1x1x704x2048 .bf16) (x2 : Vec F S1024x2048 .f32) (x3 : Vec F S1x2048 .f32) (xs : Vec F S1024x2048 .f32)

theorem first (hc0 : cond0_0 i) (hc1 : ¬cond0_1 i) :
    sout0_A_0 c i a2 h2 a3 h3 a4 h4 a5 h5 a6 h6 a7 h7 a8 h8 hc0 hc1 x0 x1 x2 x3 = k0_pay2 k0_pay1 x0 x1 := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  rw [View.canon_cons_unit_zero (S := S1024x2048) zeros2, View.readCov_unit_zero (S := S1024x2048) _ zeros2]
  simp only [View.readAt_eq_ld, h2.read_unread, h3.read_unread, View.ld_unit_zero (S := S1x1024x704) zeros3, View.ld_unit_zero (S := S1x1x704x2048) zeros4]

theorem between (hc0 : ¬cond0_0 i) (hc1 : ¬cond0_1 i) :
    sout0_B_0 c i a2 h2 a3 h3 a4 h4 a5 h5 a6 h6 a7 h7 a8 h8 hc0 hc1 x0 x1 x2 x3 xs = k0_pay2 xs x0 x1 := by
  unfold sout0_B_0
  rw [View.read_writes_eq_canon _ _ _ (scover0_B_0 c i a2 h2 a3 h3 a4 h4 a5 h5 a6 h6 a7 h7 a8 h8 hc0 hc1 x0 x1 x2 x3 xs)]
  unfold kernelRun0_B
  dsimp only
  sl_unfold_words
  rw [View.canon_unit_zero zeros2]
  simp only [View.readAt_eq_ld, h2.read_unread, h3.read_unread, h8.read_unread, View.ld_unit_zero (S := S1x1024x704) zeros3,
    View.ld_unit_zero (S := S1x1x704x2048) zeros4, View.ld_unit_zero (S := S1024x2048) zeros2]

theorem last (hc0 : ¬cond0_0 i) (hc1 : cond0_1 i) :
    sout0_C_0 c i a2 h2 a3 h3 a4 h4 a5 h5 a6 h6 a7 h7 a8 h8 hc0 hc1 x0 x1 x2 x3 xs = k0_pay2 xs x0 x1 := by
  unfold sout0_C_0
  rw [View.read_writes_eq_canon _ _ _ (scover0_C_0 c i a2 h2 a3 h3 a4 h4 a5 h5 a6 h6 a7 h7 a8 h8 hc0 hc1 x0 x1 x2 x3 xs)]
  unfold kernelRun0_C
  dsimp only
  sl_unfold_words
  rw [View.canon_unit_zero zeros2]
  simp only [View.readAt_eq_ld, h2.read_unread, h3.read_unread, h8.read_unread, View.ld_unit_zero (S := S1x1024x704) zeros3,
    View.ld_unit_zero (S := S1x1x704x2048) zeros4, View.ld_unit_zero (S := S1024x2048) zeros2]

theorem stored_f (hc0 : ¬cond0_0 i) (hc1 : cond0_1 i) :
    out0_C_4 c i a2 h2 a3 h3 a4 h4 a5 h5 a6 h6 a7 h7 a8 h8 hc0 hc1 x0 x1 x2 x3 xs = k0_pay3 (k0_pay2 xs x0 x1) := by
  unfold out0_C_4
  rw [View.read_writes_eq_canon _ _ _ (cover0_C_4 c i a2 h2 a3 h3 a4 h4 a5 h5 a6 h6 a7 h7 a8 h8 hc0 hc1 x0 x1 x2 x3 xs)]
  unfold kernelRun0_C
  dsimp only
  sl_unfold_words
  rw [View.canon_unit_zero zeros2, View.readCov_unit_zero (S := S1024x2048) _ zeros2]
  simp only [View.readAt_eq_ld, h2.read_unread, h3.read_unread, h8.read_unread, View.ld_unit_zero (S := S1x1024x704) zeros3,
    View.ld_unit_zero (S := S1x1x704x2048) zeros4, View.ld_unit_zero (S := S1024x2048) zeros2]

theorem stored_y (hc0 : ¬cond0_0 i) (hc1 : cond0_1 i) :
    out0_C_5 c i a2 h2 a3 h3 a4 h4 a5 h5 a6 h6 a7 h7 a8 h8 hc0 hc1 x0 x1 x2 x3 xs = k0_pay4 (k0_pay2 xs x0 x1) x2 x3 := by
  unfold out0_C_5
  rw [View.read_writes_eq_canon _ _ _ (cover0_C_5 c i a2 h2 a3 h3 a4 h4 a5 h5 a6 h6 a7 h7 a8 h8 hc0 hc1 x0 x1 x2 x3 xs)]
  unfold kernelRun0_C
  dsimp only
  sl_unfold_words
  rw [View.canon_unit_zero zeros2, View.readCov_unit_zero (S := S1024x2048) _ zeros2]
  simp only [View.readAt_eq_ld, h2.read_unread, h3.read_unread, h4.read_unread, h5.read_unread, h8.read_unread, View.ld_unit_zero (S := S1x1024x704) zeros3,
    View.ld_unit_zero (S := S1x1x704x2048) zeros4, View.ld_unit_zero (S := S1024x2048) zeros2, View.ld_unit_zero (S := S1x2048) zeros2]

end Payloads

/-- One shard's product. -/
def term (r : Fin 1024) (k : Fin 2048) (x0 : Vec Ideal S1x1024x704 .bf16) (x1 : Vec Ideal S1x1x704x2048 .bf16) : EReal :=
  ∑ e : Fin 704, (x0 (ix3 0 r e) : EReal) * x1 (ix4 0 0 e k)

/-- The residual stream with half a branch, scaled by its gate, added. -/
def add (x gt f : EReal) : EReal := x + Ideal.ofBits .f32 0x3F000000#32 * gt * f

section Read

variable (r : Fin 1024) (k : Fin 2048) (x0 : Vec Ideal S1x1024x704 .bf16) (x1 : Vec Ideal S1x1x704x2048 .bf16) (xs x2 : Vec Ideal S1024x2048 .f32) (x3 : Vec Ideal S1x2048 .f32)

theorem reset_at : (k0_pay1 (F := Ideal)) (ix2 r k) = (0 : EReal) := by
  unfold k0_pay1
  pointwise
theorem pay_at : k0_pay2 xs x0 x1 (ix2 r k) = ((xs (ix2 r k) : EReal) + term r k x0 x1 : EReal) := by
  unfold k0_pay2 term
  pointwise
theorem cast_at : (k0_pay3 xs (ix2 r k) : EReal) = xs (ix2 r k) := by
  unfold k0_pay3
  pointwise
theorem add_at : (k0_pay4 xs x2 x3 (ix2 r k) : EReal) = add (x2 (ix2 r k)) (x3 (ix2 0 k)) (xs (ix2 r k)) := by
  unfold k0_pay4 add
  pointwise

end Read

variable (m : (ℓ : Loc nD τ sig) → Buf (Elt Ideal) ℓ) (ρ : Dev nD → PrngReg) (c : Dev nD)

def termAt (r : Fin 1024) (k : Fin 2048) (n : ℕ) : EReal := if h : n < cfg0.N then term r k (iblk m c 0 ⟨n, h⟩) (iblk m c 1 ⟨n, h⟩) else 0

theorem scratch_first (r : Fin 1024) (k : Fin 2048) (n : ℕ) (h : n < cfg0.N) (h0 : n % 8 = 0) : ((outsAt0 m c n h).2.2 (ix2 r k) : EReal) = termAt m c r k n := by
  rw [outsAt0_A m c ⟨n, h⟩ h0 (by show ¬n % 8 = 7; omega)]
  dsimp only
  rw [first, pay_at, reset_at, zero_add]
  unfold termAt
  rw [dif_pos h]

theorem scratch_next (r : Fin 1024) (k : Fin 2048) (n : ℕ) (h : n + 1 < cfg0.N) (h' : n < cfg0.N) (h0 : ¬(n + 1) % 8 = 0) :
    ((outsAt0 m c (n + 1) h).2.2 (ix2 r k) : EReal) = (outsAt0 m c n h').2.2 (ix2 r k) + termAt m c r k (n + 1) := by
  unfold termAt
  rw [dif_pos h]
  by_cases h1 : (n + 1) % 8 = 7
  · rw [outsAt0_C m c ⟨n + 1, h⟩ h0 h1]
    dsimp only
    rw [last, pay_at]
    rfl
  · rw [outsAt0_B m c ⟨n + 1, h⟩ h0 h1]
    dsimp only
    rw [between, pay_at]
    rfl

theorem out_last (n : ℕ) (h : n < cfg0.N) (h1 : n % 8 = 7) : (outsAt0 m c n h).1 = k0_pay3 (outsAt0 m c n h).2.2
    ∧ (outsAt0 m c n h).2.1 = k0_pay4 (outsAt0 m c n h).2.2 (iblk m c 2 ⟨n, h⟩) (iblk m c 3 ⟨n, h⟩) := by
  rw [outsAt0_C m c ⟨n, h⟩ (by show ¬n % 8 = 0; omega) h1]
  dsimp only
  rw [stored_f, stored_y, last]
  exact ⟨rfl, rfl⟩

theorem idx : ∀ t : Fin cfg0.N, win0_0.index t = ![t.val % 8, t.val / 8, 0] ∧ win0_1.index t = ![t.val % 8, 0, 0, 0]
    ∧ win0_2.index t = ![t.val / 8, 0] ∧ win0_3.index t = ![0, 0] := (by decide +kernel : ∀ t : Fin grid0.N, _)

theorem host_v1 (j : Fin 8) (i : Fin 8192) (e : Fin 704) : V m c main_v1 (ix3 j i e) = m ((c : Thread nD τ).loc main_arg0) (ix2 i (colAt j e)) := by
  after_reads_simp
  pointwise
  rfl
theorem host_v2 (j : Fin 8) (e : Fin 704) (k : Fin 2048) : V m c main_v2 (ix4 j 0 e k) = m ((c : Thread nD τ).loc main_arg1) (ix2 (colAt j e) k) := by
  after_reads_simp
  pointwise
  rfl

section Blocks

variable (q j : Fin 8) (t : Fin cfg0.N) (ht : t.val = 8 * q.1 + j.1) (r : Fin 1024) (e : Fin 704) (k : Fin 2048)
include ht

theorem block0 : iblk m c 0 t (ix3 0 r e) = m ((c : Thread nD τ).loc main_arg0) (ix2 (rowAt q r) (colAt j e)) := by
  rw [← host_v1 m c j (rowAt q r) e]
  refine congrArg (V m c main_v1) (funext fun a => Fin.ext ?_)
  obtain ⟨h, -⟩ := idx t
  refine (Pipeline.Window.rect_emb_val (cfg0.win 0) t _ a).trans ?_
  match a with
  | 0 => show win0_0.index t 0 * 1 + 0 = j.1; rw [h]; show t.val % 8 * 1 + 0 = j.1; omega
  | 1 => show win0_0.index t 1 * 1024 + r.1 = q.1 * 1024 + r.1; rw [h]; show t.val / 8 * 1024 + r.1 = q.1 * 1024 + r.1; omega
  | 2 => show win0_0.index t 2 * 704 + e.1 = e.1; rw [h]; show 0 * 704 + e.1 = e.1; omega

theorem block1 : iblk m c 1 t (ix4 0 0 e k) = m ((c : Thread nD τ).loc main_arg1) (ix2 (colAt j e) k) := by
  rw [← host_v2 m c j e k]
  refine congrArg (V m c main_v2) (funext fun a => Fin.ext ?_)
  obtain ⟨-, h, -⟩ := idx t
  refine (Pipeline.Window.rect_emb_val (cfg0.win 1) t _ a).trans ?_
  match a with
  | 0 => show win0_1.index t 0 * 1 + 0 = j.1; rw [h]; show t.val % 8 * 1 + 0 = j.1; omega
  | 1 => show win0_1.index t 1 * 1 + 0 = 0; rw [h]; rfl
  | 2 => show win0_1.index t 2 * 704 + e.1 = e.1; rw [h]; show 0 * 704 + e.1 = e.1; omega
  | 3 => show win0_1.index t 3 * 2048 + k.1 = k.1; rw [h]; show 0 * 2048 + k.1 = k.1; omega

theorem block2 : iblk m c 2 t (ix2 r k) = m ((c : Thread nD τ).loc main_arg2) (ix2 (rowAt q r) k) := by
  rw [← V_main_arg2 m c]
  refine congrArg (V m c main_arg2) (funext fun a => Fin.ext ?_)
  obtain ⟨-, -, h, -⟩ := idx t
  refine (Pipeline.Window.rect_emb_val (cfg0.win 2) t _ a).trans ?_
  match a with
  | 0 => show win0_2.index t 0 * 1024 + r.1 = q.1 * 1024 + r.1; rw [h]; show t.val / 8 * 1024 + r.1 = q.1 * 1024 + r.1; omega
  | 1 => show win0_2.index t 1 * 2048 + k.1 = k.1; rw [h]; show 0 * 2048 + k.1 = k.1; omega

theorem block3 : iblk m c 3 t (ix2 0 k) = m ((c : Thread nD τ).loc main_arg3) (ix2 0 k) := by
  rw [← V_main_arg3 m c]
  refine congrArg (V m c main_arg3) (funext fun a => Fin.ext ?_)
  obtain ⟨-, -, -, h⟩ := idx t
  refine (Pipeline.Window.rect_emb_val (cfg0.win 3) t _ a).trans ?_
  match a with
  | 0 => show win0_3.index t 0 * 1 + 0 = 0; rw [h]; rfl
  | 1 => show win0_3.index t 1 * 2048 + k.1 = k.1; rw [h]; show 0 * 2048 + k.1 = k.1; omega

end Blocks

/-- The branch at row `i`, column `k`. -/
def branch (s : S8192x5632.Idx → EReal) (w : S5632x2048.Idx → EReal) (i : Fin 8192) (k : Fin 2048) : EReal := ∑ n, s (ix2 i n) * w (ix2 n k)

/-- One shard's part of it. -/
def part (s : S8192x5632.Idx → EReal) (w : S5632x2048.Idx → EReal) (i : Fin 8192) (k : Fin 2048) (j : Fin 8) : EReal :=
  ∑ e : Fin 704, s (ix2 i (colAt j e)) * w (ix2 (colAt j e) k)

theorem sum_parts (s : S8192x5632.Idx → EReal) (w : S5632x2048.Idx → EReal) (i : Fin 8192) (k : Fin 2048) : ∑ j, part s w i k j = branch s w i k :=
  sum_cols fun n => s (ix2 i n) * w (ix2 n k)

theorem termAt_eq (q j : Fin 8) (r : Fin 1024) (k : Fin 2048) : termAt m c r k (8 * q.1 + j.1)
    = part (m ((c : Thread nD τ).loc main_arg0)) (m ((c : Thread nD τ).loc main_arg1)) (rowAt q r) k j := by
  have h : 8 * q.1 + j.1 < cfg0.N := by rw [show cfg0.N = 64 from N_0]; omega
  unfold termAt
  rw [dif_pos h]
  unfold term part
  exact Finset.sum_congr rfl fun e _ => congrArg₂ (fun x y : EReal => x * y) (block0 m c q j ⟨_, h⟩ rfl r e) (block1 m c q j ⟨_, h⟩ rfl e k)

theorem scratch_end (q : Fin 8) (r : Fin 1024) (k : Fin 2048) (h : 8 * q.1 + 7 < cfg0.N) : ((outsAt0 m c (8 * q.1 + 7) h).2.2 (ix2 r k) : EReal)
    = branch (m ((c : Thread nD τ).loc main_arg0)) (m ((c : Thread nD τ).loc main_arg1)) (rowAt q r) k := by
  refine (running_end cfg0.N (termAt m c r k) (fun n h => (outsAt0 m c n h).2.2 (ix2 r k)) (scratch_first m c r k) (scratch_next m c r k) q.1 h).trans ?_
  exact (Finset.sum_congr rfl fun j _ => termAt_eq m c q j r k).trans (sum_parts _ _ _ _)

theorem row_eq (i : Fin 8192) : rowAt ⟨i.1 / 1024, by omega⟩ ⟨i.1 % 1024, by omega⟩ = i := Fin.ext (by
  show i.1 / 1024 * 1024 + i.1 % 1024 = i.1
  omega)

section Result

variable (i : Fin 8192) (k : Fin 2048)

theorem point_lt : 8 * (i.1 / 1024) + 7 < cfg0.N := by rw [show cfg0.N = 64 from N_0]; omega

theorem branch_at : ((outsAt0 m c _ (point_lt i)).1 (ix2 ⟨i.1 % 1024, by omega⟩ k) : EReal)
    = branch (m ((c : Thread nD τ).loc main_arg0)) (m ((c : Thread nD τ).loc main_arg1)) i k := by
  rw [(out_last m c _ (point_lt i) (by omega)).1, cast_at]
  exact (scratch_end m c ⟨i.1 / 1024, by omega⟩ ⟨i.1 % 1024, by omega⟩ k (point_lt i)).trans (congrArg (fun x => branch _ _ x k) (row_eq i))

theorem added_at : ((outsAt0 m c _ (point_lt i)).2.1 (ix2 ⟨i.1 % 1024, by omega⟩ k) : EReal)
    = add (m ((c : Thread nD τ).loc main_arg2) (ix2 i k)) (m ((c : Thread nD τ).loc main_arg3) (ix2 0 k))
      (branch (m ((c : Thread nD τ).loc main_arg0)) (m ((c : Thread nD τ).loc main_arg1)) i k) := by
  rw [(out_last m c _ (point_lt i) (by omega)).2, add_at]
  have e0 := block2 m c ⟨i.1 / 1024, by omega⟩ 7 ⟨_, point_lt i⟩ rfl ⟨i.1 % 1024, by omega⟩ k
  have e1 := block3 m c ⟨i.1 / 1024, by omega⟩ 7 ⟨_, point_lt i⟩ rfl k
  have e2 := scratch_end m c ⟨i.1 / 1024, by omega⟩ ⟨i.1 % 1024, by omega⟩ k (point_lt i)
  rw [row_eq] at e0 e2
  rw [e0, e1]
  exact congrArg _ e2

end Result

theorem result_f (i : S8192x2048.Idx) : (Value.G4 m c i : EReal)
    = branch (m ((c : Thread nD τ).loc main_arg0)) (m ((c : Thread nD τ).loc main_arg1)) (i 0) (i 1) := by
  have h0 : (i 0).val < 8192 := (i 0).isLt
  have h1 : (i 1).val < 2048 := (i 1).isLt
  have hp : Value.pt4Of i = 8 * ((i 0).val / 1024) + 7 := by
    show 8 * (1 * ((i 0).val / 1024 - 0) + 1 * ((i 1).val / 2048 - 0)) + 7 = _
    omega
  unfold Value.G4
  rw [dif_pos (by rw [hp]; exact point_lt (i 0)), Value.fold0_congr m c _ _ _ (by rw [Nat.zero_add]; exact point_lt (i 0)) hp, ← Value.outsAt0_sweep m c _ (point_lt (i 0))]
  refine Eq.trans (congrArg _ ?_) (branch_at m c (i 0) (i 1))
  funext a
  match a with
  | 0 => rfl
  | 1 => exact Fin.ext (Nat.mod_eq_of_lt h1)

theorem result_y (i : S8192x2048.Idx) : (Value.G5 m c i : EReal)
    = add (m ((c : Thread nD τ).loc main_arg2) (ix2 (i 0) (i 1))) (m ((c : Thread nD τ).loc main_arg3) (ix2 0 (i 1)))
      (branch (m ((c : Thread nD τ).loc main_arg0)) (m ((c : Thread nD τ).loc main_arg1)) (i 0) (i 1)) := by
  have h0 : (i 0).val < 8192 := (i 0).isLt
  have h1 : (i 1).val < 2048 := (i 1).isLt
  have hp : Value.pt5Of i = 8 * ((i 0).val / 1024) + 7 := by
    show 8 * (1 * ((i 0).val / 1024 - 0) + 1 * ((i 1).val / 2048 - 0)) + 7 = _
    omega
  unfold Value.G5
  rw [dif_pos (by rw [hp]; exact point_lt (i 0)), Value.fold0_congr m c _ _ _ (by rw [Nat.zero_add]; exact point_lt (i 0)) hp, ← Value.outsAt0_sweep m c _ (point_lt (i 0))]
  refine Eq.trans (congrArg _ ?_) (added_at m c (i 0) (i 1))
  funext a
  match a with
  | 0 => rfl
  | 1 => exact Fin.ext (Nat.mod_eq_of_lt h1)

end Cert.Down

namespace Cert.DownRef

open Cert.Reference10Ideal Cert.Ffn Cert.Down
open Cert.Reference10Ideal.Facts₀
open Idealize.ShloMosaic Idealize.ShloMosaic.TcCoe Idealize.ShloMosaic.Tactic

variable (s : FVec Ideal S8192x5632 .bf16) (w : FVec Ideal S5632x2048 .bf16) (x : FVec Ideal S8192x2048 .f32) (gt : FVec Ideal S1x2048 .f32) (i : Fin 8192) (k : Fin 2048)

/-- The reference's product. -/
def prod : FVec Ideal S8192x2048 .f32 :=
  Host.dotGeneral dot_S8192x5632_S5632x2048_S8192x2048_1_0_0_1_n_n none (extf .f32 s bitsLt_bf16_f32) (extf .f32 w bitsLt_bf16_f32)

theorem prod_at : (prod s w (ix2 i k) : EReal) = branch s w i k := by
  unfold prod branch
  pointwise

theorem ref_f : (truncf .bf16 (prod s w) bitsLt_bf16_f32 (ix2 i k) : EReal) = branch s w i k := by
  rw [← prod_at]
  pointwise

theorem ref_y : (addf x (mulf (broadcastInDim S8192x2048 ![0, 1] bcast_S1x2048_S8192x2048_0_1
    (mulf (broadcastInDim S1x2048 ![] bcast_S_S1x2048 (constant S_ .f32 0x3F000000#32)) gt)) (prod s w)) (ix2 i k) : EReal)
    = add (x (ix2 i k)) (gt (ix2 0 k)) (branch s w i k) := by
  rw [← prod_at]
  unfold add
  pointwise

end Cert.DownRef

namespace Cert.Down

open Cert.Kernel10Ideal Cert.Kernel10Ideal.Gen Cert.Ffn
open Idealize.ShloMosaic Idealize.ShloMosaic.TcCoe Idealize.ShloMosaic.Tactic Idealize.SL.Sem

theorem algebraic : Cert.algebraic_Kernel10Ideal_Reference10Ideal := by
  intro m g m' g' hp he
  refine ⟨_, _, Value.run m g, (θ_run _ _ _).mono (fun r h c => ⟨(h c).1.trans ?_, (h c).2.1.trans ?_, (h c).2.2⟩) (Cert.Reference10Ideal.Value.run m' g')⟩
  all_goals
    obtain ⟨e0, e1, e2, e3⟩ := he c
    funext i
    have e : i = ix2 (i 0) (i 1) := by funext a; match a with | 0 => rfl | 1 => rfl
    rw [e0, e1]
  · rw [result_f m c i]
    exact (congrArg _ e).trans (Cert.DownRef.ref_f _ _ (i 0) (i 1))
  · rw [e2, e3, result_y m c i]
    exact (congrArg _ e).trans (Cert.DownRef.ref_y _ _ _ _ (i 0) (i 1))

/-- The call and its idealization are one text. -/
theorem same₀ {F : FTy → Type} [FloatOps F] : Cert.Kernel10.defs₀ (F := F) = Cert.Kernel10Ideal.defs₀ (F := F) := by
  unfold Cert.Kernel10.defs₀ Cert.Kernel10Ideal.defs₀
  refine congrArg Defs.onTc (funext fun l => funext fun x => ?_)
  match l, x with
  | 0, (t, s) => rfl
theorem same {F : FTy → Type} [FloatOps F] : Cert.Kernel10.defs (F := F) = Cert.Kernel10Ideal.defs (F := F) :=
  congrArg (Pipeline.defs Cert.Kernel10Ideal.pcfgs) same₀

theorem frame_kernel : Cert.quiescent_Kernel10 := fun m ρ _ => by
  rw [same]
  exact (θ_run Cert.Kernel10Ideal.defs _ _).mono (fun _ h => h) (Gen.frame (F := Bits) m ρ)
theorem frame_ideal : Cert.quiescent_Kernel10Ideal := fun m ρ _ => Gen.frame (F := Ideal) m ρ
theorem frame_reference : Cert.quiescent_Reference10Ideal := fun m ρ _ =>
  (θ_run _ _ _).mono (fun r h => ⟨fun c => (h c).2.2, sem_eq_zero_of_no_sems (by decide) r.2⟩) (Cert.Reference10Ideal.Value.run (F := Ideal) m ρ)
theorem preserves : Cert.preserves_Kernel10_Kernel10Ideal := trivial

end Cert.Down
-- ==== Proof.In.lean ====
/-
  The forward call of the first projection: each block is one product over all columns of the input.
-/
module

public import proofs.«01_k».proof.Proof.Gen.Kernel11Ideal.Value
public import proofs.«01_k».proof.Proof.Gen.Kernel11
public import proofs.«01_k».proof.Proof.Gen.Reference11Ideal.Run
public import proofs.«01_k».proof.Proof.Shards
public import Idealize.ShloMosaic.Lib.Pipeline.ValueKit.Acc

@[expose] public section

noncomputable section

namespace Cert.In

open Cert.Kernel11Ideal Cert.Kernel11Ideal.Gen Cert.Ffn
open Idealize.ShloMosaic Idealize.ShloMosaic.TcCoe Idealize.ShloMosaic.Tactic Idealize.SL.Sem

theorem stored {F : FTy → Type} [FloatOps F] (c : Dev nD) (i : grid0.Coords) (a3 : Memref sig .tc .vmem S1024x2048 .bf16) (h3 : a3.IsWhole)
    (a4 : Memref sig .tc .vmem S2048x1536 .bf16) (h4 : a4.IsWhole) (a5 : Memref sig .tc .vmem S1024x1536 .f32) (h5 : a5.IsWhole)
    (a6 : Memref sig .tc .vmem S1024x1536 .f32) (h6 : a6.IsWhole) (hc0 : cond0_0 i) (hc1 : cond0_1 i) (x0 : Vec F S1024x2048 .bf16) (x1 : Vec F S2048x1536 .bf16) :
    out0_A_2 c i a3 h3 a4 h4 a5 h5 a6 h6 hc0 hc1 x0 x1 = k0_pay2 k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero zeros2, View.readCov_cons_unit_lit' (S := S1024x1536) _ _ _ _ _ (congrFun zeros2) (congrFun zeros2),
    View.readCov_unit_zero (S := S1024x1536) _ zeros2]
  simp only [View.readAt_eq_ld, h3.read_unread, h4.read_unread, View.ld_unit_zero (S := S1024x2048) zeros2, View.ld_unit_zero (S := S2048x1536) zeros2]

/-- A block's product. -/
def term (r : Fin 1024) (e : Fin 1536) (x0 : Vec Ideal S1024x2048 .bf16) (x1 : Vec Ideal S2048x1536 .bf16) : EReal :=
  ∑ k : Fin 2048, (x0 (ix2 r k) : EReal) * x1 (ix2 k e)

theorem read_at (r : Fin 1024) (e : Fin 1536) (x0 : Vec Ideal S1024x2048 .bf16) (x1 : Vec Ideal S2048x1536 .bf16) :
    (k0_pay2 k0_pay1 x0 x1 (ix2 r e) : EReal) = term r e x0 x1 := by
  unfold k0_pay2 k0_pay1 term
  pointwise

variable (m : (ℓ : Loc nD τ sig) → Buf (Elt Ideal) ℓ) (ρ : Dev nD → PrngReg) (c : Dev nD)

theorem idx : ∀ t : Fin cfg0.N, win0_0.index t = ![t.val / 5, 0] ∧ win0_1.index t = ![0, t.val % 5] ∧ win0_2.index t = ![t.val / 5, t.val % 5] :=
  (by decide +kernel : ∀ t : Fin grid0.N, _)

/-- Column `e` of block `p` of the output. -/
def outCol (p : Fin 5) (e : Fin 1536) : Fin 7680 := ⟨p.1 * 1536 + e.1, by omega⟩

/-- The projection at row `i`, column `n`. -/
def proj (h : S8192x2048.Idx → EReal) (w : S2048x7680.Idx → EReal) (i : Fin 8192) (n : Fin 7680) : EReal := ∑ k, h (ix2 i k) * w (ix2 k n)

section Blocks

variable (q : Fin 8) (p : Fin 5) (t : Fin cfg0.N) (ht : t.val = 5 * q.1 + p.1) (r : Fin 1024) (e : Fin 1536) (k : Fin 2048)
include ht

theorem block0 : iblk m c 0 t (ix2 r k) = m ((c : Thread nD τ).loc main_arg0) (ix2 (rowAt q r) k) := by
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 1024 + r.1 = q.1 * 1024 + r.1; rw [h]; show t.val / 5 * 1024 + r.1 = q.1 * 1024 + r.1; omega
  | 1 => show win0_0.index t 1 * 2048 + k.1 = k.1; rw [h]; show 0 * 2048 + k.1 = k.1; omega

theorem block1 : iblk m c 1 t (ix2 k e) = m ((c : Thread nD τ).loc main_arg1) (ix2 k (outCol p e)) := by
  rw [← V_main_arg1 m c]
  refine congrArg (V m c main_arg1) (funext fun a => Fin.ext ?_)
  obtain ⟨-, h, -⟩ := idx t
  refine (Pipeline.Window.rect_emb_val (cfg0.win 1) t _ a).trans ?_
  match a with
  | 0 => show win0_1.index t 0 * 2048 + k.1 = k.1; rw [h]; show 0 * 2048 + k.1 = k.1; omega
  | 1 => show win0_1.index t 1 * 1536 + e.1 = p.1 * 1536 + e.1; rw [h]; show t.val % 5 * 1536 + e.1 = p.1 * 1536 + e.1; omega

theorem cell : (((dats m 0 c).arrAt 2 cfg0.N : S8192x7680.Idx → EReal) (ix2 (rowAt q r) (outCol p e)) : EReal)
    = proj (m ((c : Thread nD τ).loc main_arg0)) (m ((c : Thread nD τ).loc main_arg1)) (rowAt q r) (outCol p e) := by
  have s : term r e (iblk m c 0 t) (iblk m c 1 t) = proj (m ((c : Thread nD τ).loc main_arg0)) (m ((c : Thread nD τ).loc main_arg1)) (rowAt q r) (outCol p e) :=
    Finset.sum_congr rfl fun k _ => congrArg₂ (fun x y : EReal => x * y) (block0 m c q p t ht r k) (block1 m c q p t ht e k)
  rw [← s, ← read_at, ← stored c (grid0.coords t) (ms0_0 t) (hs0_0 t) (ms0_1 t) (hs0_1 t) (ms0_2 t) (hs0_2 t) scM0_0 (Memref.isWhole_whole _) (hcond0_0 t) (hcond0_1 t)]
  refine Eq.trans (congrArg _ (funext fun a => Fin.ext ?_)) ((congrFun (Value.blocks2 m c t (flush0_2 t)) (ix2 r e)).trans (congrFun (Value.flushed2_A m c t) (ix2 r e)))
  obtain ⟨-, -, h⟩ := idx t
  refine Eq.trans ?_ (Pipeline.Window.rect_emb_val (cfg0.win 2) t _ a).symm
  match a with
  | 0 => show q.1 * 1024 + r.1 = win0_2.index t 0 * 1024 + r.1; rw [h]; show q.1 * 1024 + r.1 = t.val / 5 * 1024 + r.1; omega
  | 1 => show p.1 * 1536 + e.1 = win0_2.index t 1 * 1536 + e.1; rw [h]; show p.1 * 1536 + e.1 = t.val % 5 * 1536 + e.1; omega

end Blocks

theorem result (i : S8192x7680.Idx) : (((dats m 0 c).arrAt 2 cfg0.N : S8192x7680.Idx → EReal) i : EReal)
    = proj (m ((c : Thread nD τ).loc main_arg0)) (m ((c : Thread nD τ).loc main_arg1)) (i 0) (i 1) := by
  have h0 : (i 0).val < 8192 := (i 0).isLt
  have h1 : (i 1).val < 7680 := (i 1).isLt
  have e := cell m c ⟨(i 0).val / 1024, by omega⟩ ⟨(i 1).val / 1536, by omega⟩
    ⟨5 * ((i 0).val / 1024) + (i 1).val / 1536, by rw [show cfg0.N = 40 from N_0]; omega⟩ rfl ⟨(i 0).val % 1024, by omega⟩ ⟨(i 1).val % 1536, by omega⟩
  have e0 : rowAt ⟨(i 0).val / 1024, by omega⟩ ⟨(i 0).val % 1024, by omega⟩ = i 0 := Fin.ext (show (i 0).val / 1024 * 1024 + (i 0).val % 1024 = (i 0).val by omega)
  have e1 : outCol ⟨(i 1).val / 1536, by omega⟩ ⟨(i 1).val % 1536, by omega⟩ = i 1 := Fin.ext (show (i 1).val / 1536 * 1536 + (i 1).val % 1536 = (i 1).val by omega)
  rw [e0, e1] at e
  refine Eq.trans (congrArg _ ?_) e
  funext a
  match a with
  | 0 => rfl
  | 1 => rfl

theorem reference (h : FVec Ideal S8192x2048 .bf16) (w : FVec Ideal S2048x7680 .bf16) (i : Fin 8192) (n : Fin 7680) :
    Host.dotGeneral Cert.Reference11Ideal.dot_S8192x2048_S2048x7680_S8192x7680_1_0_0_1_n_n none (extf .f32 h Cert.Reference11Ideal.Facts₀.bitsLt_bf16_f32)
      (extf .f32 w Cert.Reference11Ideal.Facts₀.bitsLt_bf16_f32) (ix2 i n) = proj h w i n := by
  unfold proj
  pointwise

theorem algebraic : Cert.algebraic_Kernel11Ideal_Reference11Ideal := by
  intro m g m' g' hp he
  refine ⟨_, Value.run_blocks m g, (θ_run _ _ _).mono (fun r h c => ⟨(h c).1.trans ?_, (h c).2⟩) (Cert.Reference11Ideal.Value.run m' g')⟩
  obtain ⟨e0, e1⟩ := he c
  funext i
  have e : i = ix2 (i 0) (i 1) := by funext a; match a with | 0 => rfl | 1 => rfl
  rw [e0, e1]
  exact (congrArg _ e).trans ((reference _ _ (i 0) (i 1)).trans (result m c i).symm)

/-- The call and its idealization are one text. -/
theorem same₀ {F : FTy → Type} [FloatOps F] : Cert.Kernel11.defs₀ (F := F) = Cert.Kernel11Ideal.defs₀ (F := F) := by
  unfold Cert.Kernel11.defs₀ Cert.Kernel11Ideal.defs₀
  refine congrArg Defs.onTc (funext fun l => funext fun x => ?_)
  match l, x with
  | 0, (t, s) => rfl
theorem same {F : FTy → Type} [FloatOps F] : Cert.Kernel11.defs (F := F) = Cert.Kernel11Ideal.defs (F := F) :=
  congrArg (Pipeline.defs Cert.Kernel11Ideal.pcfgs) same₀

theorem frame_kernel : Cert.quiescent_Kernel11 := fun m ρ _ => by
  rw [same]
  exact (θ_run Cert.Kernel11Ideal.defs _ _).mono (fun _ h => h) (Gen.frame (F := Bits) m ρ)
theorem frame_ideal : Cert.quiescent_Kernel11Ideal := fun m ρ _ => Gen.frame (F := Ideal) m ρ
theorem frame_reference : Cert.quiescent_Reference11Ideal := fun m ρ _ =>
  (θ_run _ _ _).mono (fun r h => ⟨fun c => (h c).2, sem_eq_zero_of_no_sems (by decide) r.2⟩) (Cert.Reference11Ideal.Value.run (F := Ideal) m ρ)
theorem preserves : Cert.preserves_Kernel11_Kernel11Ideal := trivial

end Cert.In
-- ==== Proof.Out.lean ====
/-
  The forward call of the second projection: each block is one product over all columns of the mixer's output, stored beside the
  residual stream with that product, scaled by the gate, added.
-/
module

public import proofs.«01_k».proof.Proof.Gen.Kernel12Ideal.Value
public import proofs.«01_k».proof.Proof.Gen.Kernel12
public import proofs.«01_k».proof.Proof.Gen.Reference12Ideal.Run
public import proofs.«01_k».proof.Proof.Shards
public import Idealize.ShloMosaic.Lib.Pipeline.ValueKit.Acc

@[expose] public section

noncomputable section

namespace Cert.Out

open Cert.Kernel12Ideal Cert.Kernel12Ideal.Gen Cert.Ffn
open Idealize.ShloMosaic Idealize.ShloMosaic.TcCoe Idealize.ShloMosaic.Tactic Idealize.SL.Sem

section Payloads

variable {F : FTy → Type} [FloatOps F]
variable (c : Dev nD) (i : grid0.Coords) (a3 : Memref sig .tc .vmem S1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1x1024 .f32) (h6 : a6.IsWhole)
  (a7 : Memref sig .tc .vmem S1024x1024 .f32) (h7 : a7.IsWhole) (a8 : Memref sig .tc .vmem S1024x1024 .f32) (h8 : a8.IsWhole)
  (a9 : Memref sig .tc .vmem S1024x1024 .f32) (h9 : a9.IsWhole) (hc0 : cond0_0 i) (hc1 : cond0_1 i)
  (x0 : Vec F S1024x2048 .bf16) (x1 : Vec F S2048x1024 .bf16) (x2 : Vec F S1024x1024 .f32) (x3 : Vec F S1x1024 .f32)

theorem stored : out0_A_4 c i a3 h3 a4 h4 a5 h5 a6 h6 a7 h7 a8 h8 a9 h9 hc0 hc1 x0 x1 x2 x3 = k0_pay2 k0_pay1 x0 x1 := by
  unfold out0_A_4
  rw [View.read_writes_eq_canon _ _ _ (cover0_A_4 c i a3 h3 a4 h4 a5 h5 a6 h6 a7 h7 a8 h8 a9 h9 hc0 hc1 x0 x1 x2 x3)]
  unfold kernelRun0_A
  dsimp only
  sl_unfold_words
  rw [View.canon_unit_zero zeros2, View.readCov_cons_unit_lit' (S := S1024x1024) _ _ _ _ _ (congrFun zeros2) (congrFun zeros2),
    View.readCov_unit_zero (S := S1024x1024) _ zeros2]
  simp only [View.readAt_eq_ld, h3.read_unread, h4.read_unread, View.ld_unit_zero (S := S1024x2048) zeros2, View.ld_unit_zero (S := S2048x1024) zeros2]

theorem stored_y : out0_A_5 c i a3 h3 a4 h4 a5 h5 a6 h6 a7 h7 a8 h8 a9 h9 hc0 hc1 x0 x1 x2 x3 = k0_pay3 (k0_pay2 k0_pay1 x0 x1) x2 x3 := by
  unfold out0_A_5
  rw [View.read_writes_eq_canon _ _ _ (cover0_A_5 c i a3 h3 a4 h4 a5 h5 a6 h6 a7 h7 a8 h8 a9 h9 hc0 hc1 x0 x1 x2 x3)]
  unfold kernelRun0_A
  dsimp only
  sl_unfold_words
  rw [View.canon_unit_zero zeros2, View.readCov_cons_unit_lit' (S := S1024x1024) _ _ _ _ _ (congrFun zeros2) (congrFun zeros2),
    View.readCov_unit_zero (S := S1024x1024) _ zeros2]
  simp only [View.readAt_eq_ld, h3.read_unread, h4.read_unread, h5.read_unread, h6.read_unread, View.ld_unit_zero (S := S1024x2048) zeros2,
    View.ld_unit_zero (S := S2048x1024) zeros2, View.ld_unit_zero (S := S1024x1024) zeros2, View.ld_unit_zero (S := S1x1024) zeros2]

end Payloads

/-- A block's product. -/
def term (r k : Fin 1024) (x0 : Vec Ideal S1024x2048 .bf16) (x1 : Vec Ideal S2048x1024 .bf16) : EReal := ∑ n : Fin 2048, (x0 (ix2 r n) : EReal) * x1 (ix2 n k)

section Read

variable (r k : Fin 1024) (x0 : Vec Ideal S1024x2048 .bf16) (x1 : Vec Ideal S2048x1024 .bf16) (y x2 : Vec Ideal S1024x1024 .f32) (x3 : Vec Ideal S1x1024 .f32)

theorem read_at : (k0_pay2 k0_pay1 x0 x1 (ix2 r k) : EReal) = term r k x0 x1 := by
  unfold k0_pay2 k0_pay1 term
  pointwise
theorem add_at : (k0_pay3 y x2 x3 (ix2 r k) : EReal) = ((x2 (ix2 r k) : EReal) + x3 (ix2 0 k) * y (ix2 r k) : EReal) := by
  unfold k0_pay3
  pointwise

end Read

variable (m : (ℓ : Loc nD τ sig) → Buf (Elt Ideal) ℓ) (ρ : Dev nD → PrngReg) (c : Dev nD)

theorem idx : ∀ t : Fin cfg0.N, win0_0.index t = ![t.val / 2, 0] ∧ win0_1.index t = ![0, t.val % 2] ∧ win0_2.index t = ![t.val / 2, t.val % 2]
    ∧ win0_3.index t = ![0, t.val % 2] ∧ win0_4.index t = ![t.val / 2, t.val % 2] ∧ win0_5.index t = ![t.val / 2, t.val % 2] :=
  (by decide +kernel : ∀ t : Fin grid0.N, _)

/-- Column `k` of half `p` of the output. -/
def half (p : Fin 2) (k : Fin 1024) : Fin 2048 := ⟨p.1 * 1024 + k.1, by omega⟩

/-- The projection at row `i`, column `k`, and the residual stream with it added. -/
def mix (o : S8192x2048.Idx → EReal) (w : S2048x2048.Idx → EReal) (i : Fin 8192) (k : Fin 2048) : EReal := ∑ n, o (ix2 i n) * w (ix2 n k)
def added (o : S8192x2048.Idx → EReal) (w : S2048x2048.Idx → EReal) (x : S8192x2048.Idx → EReal) (gt : S1x2048.Idx → EReal) (i : Fin 8192) (k : Fin 2048) : EReal :=
  x (ix2 i k) + gt (ix2 0 k) * mix o w i k

section Blocks

variable (q : Fin 8) (p : Fin 2) (t : Fin cfg0.N) (ht : t.val = 2 * q.1 + p.1) (r k : Fin 1024) (n : Fin 2048)
include ht

theorem block0 : iblk m c 0 t (ix2 r n) = m ((c : Thread nD τ).loc main_arg0) (ix2 (rowAt q r) n) := by
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 1024 + r.1 = q.1 * 1024 + r.1; rw [h]; show t.val / 2 * 1024 + r.1 = q.1 * 1024 + r.1; omega
  | 1 => show win0_0.index t 1 * 2048 + n.1 = n.1; rw [h]; show 0 * 2048 + n.1 = n.1; omega

theorem block1 : iblk m c 1 t (ix2 n k) = m ((c : Thread nD τ).loc main_arg1) (ix2 n (half p k)) := by
  rw [← V_main_arg1 m c]
  refine congrArg (V m c main_arg1) (funext fun a => Fin.ext ?_)
  obtain ⟨-, h, -⟩ := idx t
  refine (Pipeline.Window.rect_emb_val (cfg0.win 1) t _ a).trans ?_
  match a with
  | 0 => show win0_1.index t 0 * 2048 + n.1 = n.1; rw [h]; show 0 * 2048 + n.1 = n.1; omega
  | 1 => show win0_1.index t 1 * 1024 + k.1 = p.1 * 1024 + k.1; rw [h]; show t.val % 2 * 1024 + k.1 = p.1 * 1024 + k.1; omega

theorem block2 : iblk m c 2 t (ix2 r k) = m ((c : Thread nD τ).loc main_arg2) (ix2 (rowAt q r) (half p k)) := by
  rw [← V_main_arg2 m c]
  refine congrArg (V m c main_arg2) (funext fun a => Fin.ext ?_)
  obtain ⟨-, -, h, -⟩ := idx t
  refine (Pipeline.Window.rect_emb_val (cfg0.win 2) t _ a).trans ?_
  match a with
  | 0 => show win0_2.index t 0 * 1024 + r.1 = q.1 * 1024 + r.1; rw [h]; show t.val / 2 * 1024 + r.1 = q.1 * 1024 + r.1; omega
  | 1 => show win0_2.index t 1 * 1024 + k.1 = p.1 * 1024 + k.1; rw [h]; show t.val % 2 * 1024 + k.1 = p.1 * 1024 + k.1; omega

theorem block3 : iblk m c 3 t (ix2 0 k) = m ((c : Thread nD τ).loc main_arg3) (ix2 0 (half p k)) := by
  rw [← V_main_arg3 m c]
  refine congrArg (V m c main_arg3) (funext fun a => Fin.ext ?_)
  obtain ⟨-, -, -, h, -⟩ := idx t
  refine (Pipeline.Window.rect_emb_val (cfg0.win 3) t _ a).trans ?_
  match a with
  | 0 => show win0_3.index t 0 * 1 + 0 = 0; rw [h]; rfl
  | 1 => show win0_3.index t 1 * 1024 + k.1 = p.1 * 1024 + k.1; rw [h]; show t.val % 2 * 1024 + k.1 = p.1 * 1024 + k.1; omega

theorem term_eq : term r k (iblk m c 0 t) (iblk m c 1 t) = mix (m ((c : Thread nD τ).loc main_arg0)) (m ((c : Thread nD τ).loc main_arg1)) (rowAt q r) (half p k) :=
  Finset.sum_congr rfl fun n _ => congrArg₂ (fun x y : EReal => x * y) (block0 m c q p t ht r n) (block1 m c q p t ht k n)

theorem cell : (((dats m 0 c).arrAt 4 cfg0.N : S8192x2048.Idx → EReal) (ix2 (rowAt q r) (half p k)) : EReal)
    = mix (m ((c : Thread nD τ).loc main_arg0)) (m ((c : Thread nD τ).loc main_arg1)) (rowAt q r) (half p k) := by
  rw [← term_eq m c q p t ht r k, ← read_at, ← stored c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (hcond0_0 t) (hcond0_1 t) _ _ (iblk m c 2 t) (iblk m c 3 t)]
  refine Eq.trans (congrArg _ (funext fun a => Fin.ext ?_)) ((congrFun (Value.blocks4 m c t (flush0_4 t)) (ix2 r k)).trans (congrFun (Value.flushed4_A m c t) (ix2 r k)))
  obtain ⟨-, -, -, -, h, -⟩ := idx t
  refine Eq.trans ?_ (Pipeline.Window.rect_emb_val (cfg0.win 4) t _ a).symm
  match a with
  | 0 => show q.1 * 1024 + r.1 = win0_4.index t 0 * 1024 + r.1; rw [h]; show q.1 * 1024 + r.1 = t.val / 2 * 1024 + r.1; omega
  | 1 => show p.1 * 1024 + k.1 = win0_4.index t 1 * 1024 + k.1; rw [h]; show p.1 * 1024 + k.1 = t.val % 2 * 1024 + k.1; omega

theorem cell_y : (((dats m 0 c).arrAt 5 cfg0.N : S8192x2048.Idx → EReal) (ix2 (rowAt q r) (half p k)) : EReal)
    = added (m ((c : Thread nD τ).loc main_arg0)) (m ((c : Thread nD τ).loc main_arg1)) (m ((c : Thread nD τ).loc main_arg2)) (m ((c : Thread nD τ).loc main_arg3)) (rowAt q r) (half p k) := by
  unfold added
  rw [← term_eq m c q p t ht r k, ← read_at, ← block2 m c q p t ht r k, ← block3 m c q p t ht k, ← add_at,
    ← stored_y c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _) (hcond0_0 t) (hcond0_1 t)]
  refine Eq.trans (congrArg _ (funext fun a => Fin.ext ?_)) ((congrFun (Value.blocks5 m c t (flush0_5 t)) (ix2 r k)).trans (congrFun (Value.flushed5_A m c t) (ix2 r k)))
  obtain ⟨-, -, -, -, -, h⟩ := idx t
  refine Eq.trans ?_ (Pipeline.Window.rect_emb_val (cfg0.win 5) t _ a).symm
  match a with
  | 0 => show q.1 * 1024 + r.1 = win0_5.index t 0 * 1024 + r.1; rw [h]; show q.1 * 1024 + r.1 = t.val / 2 * 1024 + r.1; omega
  | 1 => show p.1 * 1024 + k.1 = win0_5.index t 1 * 1024 + k.1; rw [h]; show p.1 * 1024 + k.1 = t.val % 2 * 1024 + k.1; omega

end Blocks

/-- Every index lies in a block. -/
theorem at_block (i : S8192x2048.Idx) : ∃ (q : Fin 8) (p : Fin 2) (t : Fin cfg0.N) (r k : Fin 1024), t.val = 2 * q.1 + p.1 ∧ i = ix2 (rowAt q r) (half p k) := by
  have h0 : (i 0).val < 8192 := (i 0).isLt
  have h1 : (i 1).val < 2048 := (i 1).isLt
  refine ⟨⟨(i 0).val / 1024, by omega⟩, ⟨(i 1).val / 1024, by omega⟩, ⟨2 * ((i 0).val / 1024) + (i 1).val / 1024, by rw [show cfg0.N = 16 from N_0]; omega⟩,
    ⟨(i 0).val % 1024, by omega⟩, ⟨(i 1).val % 1024, by omega⟩, rfl, ?_⟩
  funext a
  match a with
  | 0 => exact Fin.ext (show (i 0).val = (i 0).val / 1024 * 1024 + (i 0).val % 1024 by omega)
  | 1 => exact Fin.ext (show (i 1).val = (i 1).val / 1024 * 1024 + (i 1).val % 1024 by omega)

end Cert.Out

namespace Cert.OutRef

open Cert.Reference12Ideal Cert.Out
open Cert.Reference12Ideal.Facts₀
open Idealize.ShloMosaic Idealize.ShloMosaic.TcCoe Idealize.ShloMosaic.Tactic

variable (o : FVec Ideal S8192x2048 .bf16) (w : FVec Ideal S2048x2048 .bf16) (x : FVec Ideal S8192x2048 .f32) (gt : FVec Ideal S1x2048 .f32) (i : Fin 8192) (k : Fin 2048)

/-- The reference's product. -/
def prod : FVec Ideal S8192x2048 .f32 :=
  Host.dotGeneral dot_S8192x2048_S2048x2048_S8192x2048_1_0_0_1_n_n none (extf .f32 o bitsLt_bf16_f32) (extf .f32 w bitsLt_bf16_f32)

theorem prod_at : (prod o w (ix2 i k) : EReal) = mix o w i k := by
  unfold prod mix
  pointwise

theorem ref_y : (addf x (mulf (broadcastInDim S8192x2048 ![0, 1] bcast_S1x2048_S8192x2048_0_1 gt) (prod o w)) (ix2 i k) : EReal) = added o w x gt i k := by
  unfold added
  rw [← prod_at]
  pointwise

end Cert.OutRef

namespace Cert.Out

open Cert.Kernel12Ideal Cert.Kernel12Ideal.Gen Cert.Ffn
open Idealize.ShloMosaic Idealize.ShloMosaic.TcCoe Idealize.ShloMosaic.Tactic Idealize.SL.Sem

theorem algebraic : Cert.algebraic_Kernel12Ideal_Reference12Ideal := by
  intro m g m' g' hp he
  refine ⟨_, _, Value.run_blocks m g, (θ_run _ _ _).mono (fun r h c => ⟨(h c).1.trans ?_, (h c).2.1.trans ?_, (h c).2.2⟩) (Cert.Reference12Ideal.Value.run m' g')⟩
  all_goals
    obtain ⟨e0, e1, e2, e3⟩ := he c
    funext i
    obtain ⟨q, p, t, r, k, ht, rfl⟩ := at_block i
    rw [e0, e1]
  · exact (Cert.OutRef.prod_at _ _ _ _).trans (cell m c q p t ht r k).symm
  · rw [e2, e3]
    exact (Cert.OutRef.ref_y _ _ _ _ _ _).trans (cell_y m c q p t ht r k).symm

/-- The call and its idealization are one text. -/
theorem same₀ {F : FTy → Type} [FloatOps F] : Cert.Kernel12.defs₀ (F := F) = Cert.Kernel12Ideal.defs₀ (F := F) := by
  unfold Cert.Kernel12.defs₀ Cert.Kernel12Ideal.defs₀
  refine congrArg Defs.onTc (funext fun l => funext fun x => ?_)
  match l, x with
  | 0, (t, s) => rfl
theorem same {F : FTy → Type} [FloatOps F] : Cert.Kernel12.defs (F := F) = Cert.Kernel12Ideal.defs (F := F) :=
  congrArg (Pipeline.defs Cert.Kernel12Ideal.pcfgs) same₀

theorem frame_kernel : Cert.quiescent_Kernel12 := fun m ρ _ => by
  rw [same]
  exact (θ_run Cert.Kernel12Ideal.defs _ _).mono (fun _ h => h) (Gen.frame (F := Bits) m ρ)
theorem frame_ideal : Cert.quiescent_Kernel12Ideal := fun m ρ _ => Gen.frame (F := Ideal) m ρ
theorem frame_reference : Cert.quiescent_Reference12Ideal := fun m ρ _ =>
  (θ_run _ _ _).mono (fun r h => ⟨fun c => (h c).2.2, sem_eq_zero_of_no_sems (by decide) r.2⟩) (Cert.Reference12Ideal.Value.run (F := Ideal) m ρ)
theorem preserves : Cert.preserves_Kernel12_Kernel12Ideal := trivial

end Cert.Out
-- ==== Proof.Tiles.lean ====
/-
  What the calls over sixteen tiles of 512 rows share: the sums over tiles, a factor taken out of a sum, and the gradient of the
  root mean square norm along one row.
-/
module

public import proofs.«01_k».proof.Proof.Shards

@[expose] public section

noncomputable section

namespace Cert.Tiles

open Idealize.ShloMosaic Cert.Ffn

/-- Row `r` of tile `j`. -/
def tileAt (j : Fin 16) (r : Fin 512) : Fin 8192 := ⟨j.1 * 512 + r.1, by omega⟩

theorem sum_tiles (f : Fin 8192 → EReal) : ∑ j : Fin 16, ∑ r : Fin 512, f (tileAt j r) = ∑ k, f k := sum_blocks (p := 16) (b := 512) f tileAt fun _ _ => rfl

theorem tile_eq (i : Fin 8192) : tileAt ⟨i.1 / 512, by omega⟩ ⟨i.1 % 512, by omega⟩ = i := Fin.ext (by
  show i.1 / 512 * 512 + i.1 % 512 = i.1
  omega)

/-- What is reset to its first tile's term and grows by each later tile's is the sum over all rows. -/
theorem over_tiles (N : ℕ) (hN : N = 16) (T : Fin 16 → EReal) (S : (n : ℕ) → n < N → EReal) (h0 : ∀ h, S 0 h = T 0)
    (h1 : ∀ n h h' h'', S (n + 1) h = S n h' + T ⟨n + 1, h''⟩) (h : 15 < N) : S 15 h = ∑ j, T j := by
  subst hN
  refine (running_last 16 16 (fun n => if h : n < 16 then T ⟨n, h⟩ else 0) S (fun n h hn => ?_) (fun n h h' _ => ?_) 0 15 rfl h).trans
    (Finset.sum_congr rfl fun j _ => ?_)
  · obtain rfl : n = 0 := by omega
    exact h0 h
  · show _ = _ + dite _ _ _
    rw [dif_pos h]
    exact h1 n h h' h
  · show dite _ _ _ = _
    rw [dif_pos (show 16 * 0 + j.1 < 16 by omega)]
    exact congrArg T (Fin.ext (by show 16 * 0 + j.1 = j.1; omega))

/-- A row of an array. -/
def row {p : ℕ} (x : (⟨2, ![p, 2048]⟩ : Shape).Idx → EReal) (i : Fin p) (n : Fin 2048) : EReal := x (ix2 i n)

theorem rows2 {a b : ℕ} (i : (⟨2, ![a, b]⟩ : Shape).Idx) : i = ix2 (i 0) (i 1) := by funext d; match d with | 0 => rfl | 1 => rfl
theorem row1 {b : ℕ} (i : (⟨2, ![1, b]⟩ : Shape).Idx) : i = ix2 0 (i 1) := by
  funext d
  match d with
  | 0 => exact Fin.ext (Nat.lt_one_iff.mp (i 0).isLt)
  | 1 => rfl

/-- Where a block's element lies along each axis, when the blocks follow one another down the array. -/
theorem ax0 {f : Fin 2 → ℕ} {t q : ℕ} (h : f = ![t, 0]) (ht : t = q) (b r : ℕ) : f 0 * b + r = q * b + r := by subst h ht; rfl
theorem ax1 {f : Fin 2 → ℕ} {t : ℕ} (h : f = ![t, 0]) (b k : ℕ) : f 1 * b + k = k := by
  subst h
  show 0 * b + k = k
  omega

theorem mul_sum {n : ℕ} (a : ℝ) (ha : 0 ≤ a) (f : Fin n → EReal) : ∑ j, (a : EReal) * f j = (a : EReal) * ∑ j, f j := by
  classical
  refine Finset.induction_on (Finset.univ : Finset (Fin n)) (by simp) fun x s hx ih => ?_
  rw [Finset.sum_insert hx, Finset.sum_insert hx, ih, EReal.left_distrib_of_nonneg_of_ne_top (EReal.coe_nonneg.mpr ha) (EReal.coe_ne_top a)]

/-- The constants' values. -/
theorem half_val : Ideal.ofBits .f32 0x3F000000#32 = ((1 / 2 : ℝ) : EReal) := by
  simp [Ideal.ofBits, Ideal.ieee, -EReal.coe_mul]; norm_num
theorem neg_half_val : Ideal.ofBits .f32 0xBF000000#32 = ((-(1 / 2) : ℝ) : EReal) := by
  simp [Ideal.ofBits, Ideal.ieee, -EReal.coe_mul, -EReal.coe_neg]; norm_num
theorem width_val : Ideal.ofBits .f32 0x45000000#32 = ((2048 : ℝ) : EReal) := by
  simp [Ideal.ofBits, Ideal.ieee, -EReal.coe_mul]; norm_num
theorem eps_pos : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- Division by the width. -/
theorem div_width (x : EReal) : Ideal.div x (Ideal.ofBits .f32 0x45000000#32) = x * ((1 / 2048 : ℝ) : EReal) := by
  rw [width_val, Ideal.div, if_neg (by norm_cast), ← EReal.coe_inv, one_div]

section Row

variable (x D : Fin 2048 → EReal) (i : Fin 2048)

/-- A row's mean square, kept away from zero; the factor that norms the row; and the norm's gradient at entry `i`, for the
cotangent `D` of the normed row. -/
def meanSq : EReal := Ideal.div (∑ n, x n * x n) (Ideal.ofBits .f32 0x45000000#32) + Ideal.ofBits .f32 0x358637BD#32
def factor : EReal := Ideal.rsqrt (meanSq x)
def back : EReal := factor x * (D i - x i * factor x * Ideal.div (∑ n, D n * (x n * factor x)) (Ideal.ofBits .f32 0x45000000#32))

/-- The gradient's part through the factor, as differentiation writes it. -/
def through : EReal := Ideal.div ((∑ n, x n * D n) * (Ideal.ofBits .f32 0xBF000000#32 * Ideal.div (factor x) (meanSq x))) (Ideal.ofBits .f32 0x45000000#32)

theorem sq_nonneg (a : EReal) : 0 ≤ a * a := by
  rcases le_total 0 a with h | h
  · exact mul_nonneg h h
  · rw [← neg_mul_neg]
    exact mul_nonneg (EReal.neg_nonneg.mpr h) (EReal.neg_nonneg.mpr h)

/-- The factor is a real, and over the mean square it is its own cube. -/
theorem factor_real : ∃ ρ : ℝ, 0 ≤ ρ ∧ factor x = (ρ : EReal) ∧ Ideal.div (factor x) (meanSq x) = ((ρ * ρ * ρ : ℝ) : EReal) := by
  obtain ⟨e, he, h⟩ := eps_pos
  have hs : 0 ≤ ∑ n, x n * x n := Finset.sum_nonneg fun n _ => sq_nonneg (x n)
  unfold factor meanSq
  rw [div_width, h]
  generalize (∑ n, x n * x n) = S at hs ⊢
  induction S with
  | bot => simp at hs
  | top =>
    refine ⟨0, le_refl _, ?_, ?_⟩
    · rw [EReal.top_mul_coe_of_pos (by norm_num), EReal.top_add_coe, Ideal.rsqrt_top, EReal.coe_zero]
    · rw [EReal.top_mul_coe_of_pos (by norm_num), EReal.top_add_coe, Ideal.rsqrt_top, Ideal.div, if_neg (by simp)]
      simp
  | coe s =>
    have hv : 0 < s * (1 / 2048) + e := add_pos_of_nonneg_of_pos (mul_nonneg (EReal.coe_nonneg.mp hs) (by norm_num)) he
    rw [← EReal.coe_mul, ← EReal.coe_add]
    generalize s * (1 / 2048) + e = v at hv ⊢
    refine ⟨(Real.sqrt v)⁻¹, inv_nonneg.mpr (Real.sqrt_nonneg v), ?_, ?_⟩
    · rw [Ideal.rsqrt_coe, if_neg (not_lt.mpr hv.le), if_neg hv.ne']
    · rw [Ideal.rsqrt_coe, if_neg (not_lt.mpr hv.le), if_neg hv.ne', Ideal.div, if_neg (by exact_mod_cast hv.ne'), ← EReal.coe_inv, ← EReal.coe_mul]
      congr 1
      rw [mul_assoc]
      congr 1
      rw [← mul_inv, Real.mul_self_sqrt hv.le]

theorem twice (a : EReal) : a + a = ((2 : ℝ) : EReal) * a := by
  induction a with
  | bot => rw [EReal.coe_mul_bot_of_pos (by norm_num)]; rfl
  | top => rw [EReal.coe_mul_top_of_pos (by norm_num)]; rfl
  | coe a => rw [← EReal.coe_add, ← EReal.coe_mul, two_mul]

/-- Both ways of writing the norm's gradient agree, whatever the row and the cotangent hold. -/
theorem back_eq : D i * factor x + x i * through x D + through x D * x i = back x D i := by
  obtain ⟨ρ, h0, h1, h2⟩ := factor_real x
  unfold through back
  rw [h2, h1, div_width, div_width, neg_half_val]
  have e : ∑ n, D n * (x n * (ρ : EReal)) = (ρ : EReal) * ∑ n, x n * D n := by
    rw [← mul_sum ρ h0]
    exact Finset.sum_congr rfl fun n _ => by rw [mul_comm (x n) (ρ : EReal), mul_left_comm, mul_comm (D n)]
  rw [e]
  generalize (∑ n, x n * D n) = S
  rw [add_assoc, mul_comm _ (x i), twice, sub_eq_add_neg, EReal.left_distrib_of_nonneg_of_ne_top (EReal.coe_nonneg.mpr h0) (EReal.coe_ne_top ρ), mul_comm (D i)]
  congr 1
  have g : ∀ a b : ℝ, S * ((a : EReal) * b) = ((a * b : ℝ) : EReal) * S := fun a b => by rw [← EReal.coe_mul, mul_comm]
  have k : (ρ : EReal) * -(x i * (ρ : EReal) * ((ρ : EReal) * S * ((1 / 2048 : ℝ) : EReal)))
      = ((-(ρ * ρ * ρ * (1 / 2048)) : ℝ) : EReal) * (x i * S) := by
    rw [mul_neg, EReal.coe_neg, neg_mul, EReal.coe_mul, EReal.coe_mul, EReal.coe_mul]
    congr 1
    ac_rfl
  rw [k, g, show -(ρ * ρ * ρ * (1 / 2048)) = 2 * (-(1 / 2) * (ρ * ρ * ρ)) * (1 / 2048) by ring]
  generalize -(1 / 2) * (ρ * ρ * ρ) = a
  rw [EReal.coe_mul, EReal.coe_mul]
  ac_rfl

end Row

end Cert.Tiles
-- ==== Proof.GateBwd.lean ====
/-
  The gate's backward call of a half-weighted branch: each tile of rows scales its cotangents by half the gate, and adds its rows'
  products with the branch, halved, to the gate's gradient.
-/
module

public import proofs.«01_k».proof.Proof.Gen.Kernel13Ideal.Value
public import proofs.«01_k».proof.Proof.Gen.Kernel13
public import proofs.«01_k».proof.Proof.Gen.Reference13Ideal.Run
public import proofs.«01_k».proof.Proof.Tiles
public import Idealize.ShloMosaic.Lib.Pipeline.ValueKit.Acc

@[expose] public section

noncomputable section

namespace Cert.GateBwd

open Cert.Kernel13Ideal Cert.Kernel13Ideal.Gen Cert.Ffn Cert.Tiles
open Idealize.ShloMosaic Idealize.ShloMosaic.TcCoe Idealize.ShloMosaic.Tactic Idealize.SL.Sem

section Payloads

variable {F : FTy → Type} [FloatOps F]
variable (c : Dev nD) (i : grid0.Coords) (a1 : Memref sig .tc .vmem S512x2048 .f32) (h1 : a1.IsWhole) (a2 : Memref sig .tc .vmem S512x2048 .bf16) (h2 : a2.IsWhole)
  (a3 : Memref sig .tc .vmem S1x2048 .f32) (h3 : a3.IsWhole) (a4 : Memref sig .tc .vmem S512x2048 .bf16) (h4 : a4.IsWhole)
  (a5 : Memref sig .tc .vmem S1x2048 .f32) (h5 : a5.IsWhole)
  (x0 : Vec F S512x2048 .f32) (x1 : Vec F S512x2048 .bf16) (x2 xo : Vec F S1x2048 .f32)

theorem stored_first (hc0 : cond0_0 i) : out0_A_3 c i a1 h1 a2 h2 a3 h3 a4 h4 a5 h5 hc0 x0 x1 x2 = k0_pay2 x0 x2
    ∧ out0_A_4 c i a1 h1 a2 h2 a3 h3 a4 h4 a5 h5 hc0 x0 x1 x2 = k0_pay3 x0 k0_pay1 x1 := by
  unfold out0_A_3 out0_A_4
  rw [View.read_writes_eq_canon _ _ _ (cover0_A_3 c i a1 h1 a2 h2 a3 h3 a4 h4 a5 h5 hc0 x0 x1 x2),
    View.read_writes_eq_canon _ _ _ (cover0_A_4 c i a1 h1 a2 h2 a3 h3 a4 h4 a5 h5 hc0 x0 x1 x2)]
  unfold kernelRun0_A
  dsimp only
  sl_unfold_words
  rw [View.canon_unit_zero zeros2, View.canon_cons_unit_zero (S := S1x2048) zeros2, View.readCov_unit_zero (S := S1x2048) _ zeros2]
  simp only [View.readAt_eq_ld, h1.read_unread, h2.read_unread, h3.read_unread, View.ld_unit_zero (S := S512x2048) zeros2, View.ld_unit_zero (S := S1x2048) zeros2, and_self]

theorem stored_next (hc0 : ¬cond0_0 i) : out0_B_3 c i a1 h1 a2 h2 a3 h3 a4 h4 a5 h5 hc0 x0 x1 x2 xo = k0_pay2 x0 x2
    ∧ out0_B_4 c i a1 h1 a2 h2 a3 h3 a4 h4 a5 h5 hc0 x0 x1 x2 xo = k0_pay3 x0 xo x1 := by
  unfold out0_B_3 out0_B_4
  rw [View.read_writes_eq_canon _ _ _ (cover0_B_3 c i a1 h1 a2 h2 a3 h3 a4 h4 a5 h5 hc0 x0 x1 x2 xo),
    View.read_writes_eq_canon _ _ _ (cover0_B_4 c i a1 h1 a2 h2 a3 h3 a4 h4 a5 h5 hc0 x0 x1 x2 xo)]
  unfold kernelRun0_B
  dsimp only
  sl_unfold_words
  rw [View.canon_unit_zero zeros2, View.canon_unit_zero zeros2]
  simp only [View.readAt_eq_ld, h1.read_unread, h2.read_unread, h3.read_unread, h5.read_unread, View.ld_unit_zero (S := S512x2048) zeros2,
    View.ld_unit_zero (S := S1x2048) zeros2, and_self]

end Payloads

/-- A tile's part of the gate's gradient. -/
def term (k : Fin 2048) (x0 : Vec Ideal S512x2048 .f32) (x1 : Vec Ideal S512x2048 .bf16) : EReal :=
  Ideal.ofBits .f32 0x3F000000#32 * ∑ r : Fin 512, (x1 (ix2 r k) : EReal) * x0 (ix2 r k)

section Read

variable (r : Fin 512) (k : Fin 2048) (x0 : Vec Ideal S512x2048 .f32) (x1 : Vec Ideal S512x2048 .bf16) (x2 xo : Vec Ideal S1x2048 .f32)

theorem reset_at : (k0_pay1 (F := Ideal)) (ix2 0 k) = (0 : EReal) := by
  unfold k0_pay1
  pointwise
theorem scale_at : (k0_pay2 x0 x2 (ix2 r k) : EReal) = (Ideal.ofBits .f32 0x3F000000#32 * x2 (ix2 0 k) * x0 (ix2 r k) : EReal) := by
  unfold k0_pay2
  pointwise
theorem add_at : (k0_pay3 x0 xo x1 (ix2 0 k) : EReal)
    = ((xo (ix2 0 k) : EReal) + term k x0 x1 : EReal) := by
  unfold k0_pay3 term
  pointwise

end Read

variable (m : (ℓ : Loc nD τ sig) → Buf (Elt Ideal) ℓ) (ρ : Dev nD → PrngReg) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![0, 0] := (by decide +kernel : ∀ t : Fin grid0.N, _)

/-- The cotangents' half of the gate, and the gate's gradient. -/
def scaled (dx : S8192x2048.Idx → EReal) (gt : S1x2048.Idx → EReal) (i : Fin 8192) (k : Fin 2048) : EReal :=
  Ideal.ofBits .f32 0x3F000000#32 * gt (ix2 0 k) * dx (ix2 i k)
def grad (dx f : S8192x2048.Idx → EReal) (k : Fin 2048) : EReal := Ideal.ofBits .f32 0x3F000000#32 * ∑ i : Fin 8192, f (ix2 i k) * dx (ix2 i k)

/-- A tile's part of it. -/
def part (dx f : S8192x2048.Idx → EReal) (k : Fin 2048) (q : Fin 16) : EReal :=
  Ideal.ofBits .f32 0x3F000000#32 * ∑ r : Fin 512, f (ix2 (tileAt q r) k) * dx (ix2 (tileAt q r) k)

theorem sum_parts (dx f : S8192x2048.Idx → EReal) (k : Fin 2048) : ∑ q, part dx f k q = grad dx f k := by
  unfold part grad
  rw [half_val, mul_sum _ (by norm_num)]
  exact congrArg _ (sum_tiles fun i => f (ix2 i k) * dx (ix2 i k))

section Blocks

variable (q : Fin 16) (t : Fin cfg0.N) (ht : t.val = q.1) (r : Fin 512) (k : Fin 2048)
include ht

theorem block0 : iblk m c 0 t (ix2 r k) = m ((c : Thread nD τ).loc main_arg0) (ix2 (tileAt q r) k) := by
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 512 + r.1 = q.1 * 512 + r.1; rw [h, ← ht]; rfl
  | 1 => show win0_0.index t 1 * 2048 + k.1 = k.1; rw [h]; show 0 * 2048 + k.1 = k.1; omega

theorem block1 : iblk m c 1 t (ix2 r k) = m ((c : Thread nD τ).loc main_arg1) (ix2 (tileAt q r) k) := by
  rw [← V_main_arg1 m c]
  refine congrArg (V m c main_arg1) (funext fun a => Fin.ext ?_)
  obtain ⟨-, h, -⟩ := idx t
  refine (Pipeline.Window.rect_emb_val (cfg0.win 1) t _ a).trans ?_
  match a with
  | 0 => show win0_1.index t 0 * 512 + r.1 = q.1 * 512 + r.1; rw [h, ← ht]; rfl
  | 1 => show win0_1.index t 1 * 2048 + k.1 = k.1; rw [h]; show 0 * 2048 + k.1 = k.1; omega

omit ht in
theorem block2 : iblk m c 2 t (ix2 0 k) = m ((c : Thread nD τ).loc main_arg2) (ix2 0 k) := by
  rw [← V_main_arg2 m c]
  refine congrArg (V m c main_arg2) (funext fun a => Fin.ext ?_)
  obtain ⟨-, -, h, -⟩ := idx t
  refine (Pipeline.Window.rect_emb_val (cfg0.win 2) t _ a).trans ?_
  match a with
  | 0 => show win0_2.index t 0 * 1 + 0 = 0; rw [h]; rfl
  | 1 => show win0_2.index t 1 * 2048 + k.1 = k.1; rw [h]; show 0 * 2048 + k.1 = k.1; omega

theorem part_eq : term k (iblk m c 0 t) (iblk m c 1 t) = part (m ((c : Thread nD τ).loc main_arg0)) (m ((c : Thread nD τ).loc main_arg1)) k q :=
  congrArg _ (Finset.sum_congr rfl fun r _ => congrArg₂ (fun x y : EReal => x * y) (block1 m c q t ht r k) (block0 m c q t ht r k))

omit ht in
theorem tile : (outsAt0 m c t.val t.isLt).1 = k0_pay2 (iblk m c 0 t) (iblk m c 2 t) := by
  by_cases h0 : t.val % 16 = 0
  · rw [outsAt0_A m c t h0]
    dsimp only
    rw [(stored_first ..).1]
  · rw [outsAt0_B m c t h0]
    dsimp only
    rw [(stored_next ..).1]

theorem cell : (((dats m 0 c).arrAt 3 cfg0.N : S8192x2048.Idx → EReal) (ix2 (tileAt q r) k) : EReal)
    = scaled (m ((c : Thread nD τ).loc main_arg0)) (m ((c : Thread nD τ).loc main_arg2)) (tileAt q r) k := by
  unfold scaled
  rw [← block0 m c q t ht r k, ← block2 m c t k, ← scale_at, ← tile]
  refine Eq.trans (congrArg _ (funext fun a => Fin.ext ?_)) ((congrFun (Value.blocks3 m c t (flush0_3 t)) (ix2 r k)).trans (congrFun (Value.flushed3 m c t) (ix2 r k)))
  obtain ⟨-, -, -, h, -⟩ := idx t
  refine Eq.trans ?_ (Pipeline.Window.rect_emb_val (cfg0.win 3) t _ a).symm
  match a with
  | 0 => show q.1 * 512 + r.1 = win0_3.index t 0 * 512 + r.1; rw [h, ← ht]; rfl
  | 1 => show k.1 = win0_3.index t 1 * 2048 + k.1; rw [h]; show k.1 = 0 * 2048 + k.1; omega

end Blocks

theorem sum_first (k : Fin 2048) (h : 0 < cfg0.N) : ((outsAt0 m c 0 h).2 (ix2 0 k) : EReal)
    = part (m ((c : Thread nD τ).loc main_arg0)) (m ((c : Thread nD τ).loc main_arg1)) k 0 := by
  rw [outsAt0_A m c ⟨0, h⟩ rfl]
  dsimp only
  rw [(stored_first ..).2, add_at, reset_at, zero_add]
  exact part_eq m c 0 ⟨0, h⟩ rfl k

theorem sum_next (k : Fin 2048) (n : ℕ) (h : n + 1 < cfg0.N) (h' : n < cfg0.N) (h'' : n + 1 < 16) : ((outsAt0 m c (n + 1) h).2 (ix2 0 k) : EReal)
    = (outsAt0 m c n h').2 (ix2 0 k) + part (m ((c : Thread nD τ).loc main_arg0)) (m ((c : Thread nD τ).loc main_arg1)) k ⟨n + 1, h''⟩ := by
  rw [outsAt0_B m c ⟨n + 1, h⟩ (by show ¬(n + 1) % 16 = 0; omega)]
  dsimp only
  rw [(stored_next ..).2, add_at]
  exact congrArg _ (part_eq m c ⟨n + 1, h''⟩ ⟨n + 1, h⟩ rfl k)

theorem point_lt (i : Fin 8192) : i.1 / 512 < cfg0.N := by rw [show cfg0.N = 16 from N_0]; omega
theorem last_lt : 15 < cfg0.N := by rw [show cfg0.N = 16 from N_0]; omega

/-- Only the last point writes the gate's gradient back. -/
theorem disjoint4 : ∀ t t' : Fin cfg0.N, (cfg0.win 4).flush t = true → (cfg0.win 4).flush t' = true → t ≠ t' →
    Disjoint ((cfg0.win 4).blk t).view.set ((cfg0.win 4).blk t').view.set := fun t t' hf hf' hne => absurd (Fin.ext (by
  have h := (flush0_4 t).mp hf
  have h' := (flush0_4 t').mp hf'
  have l : t.val < 16 := Nat.lt_of_lt_of_eq t.isLt N_0
  have l' : t'.val < 16 := Nat.lt_of_lt_of_eq t'.isLt N_0
  omega)) hne

theorem cell_sum (k : Fin 2048) : (((dats m 0 c).arrAt 4 cfg0.N : S1x2048.Idx → EReal) (ix2 0 k) : EReal)
    = grad (m ((c : Thread nD τ).loc main_arg0)) (m ((c : Thread nD τ).loc main_arg1)) k := by
  rw [← sum_parts, ← over_tiles cfg0.N N_0 _ (fun n h => (outsAt0 m c n h).2 (ix2 0 k)) (sum_first m c k) (sum_next m c k) last_lt]
  refine Eq.trans (congrArg _ (funext fun a => Fin.ext ?_)) ((congrFun ((dats m 0 c).read_blk_arrAt_eq_flushed 4 disjoint4 cfg0.N ⟨15, last_lt⟩ last_lt
    ((flush0_4 ⟨15, last_lt⟩).mpr rfl)) (ix2 0 k)).trans (congrFun (Value.flushed4 m c ⟨15, last_lt⟩) (ix2 0 k)))
  obtain ⟨-, -, -, -, h⟩ := idx ⟨15, last_lt⟩
  refine Eq.trans ?_ (Pipeline.Window.rect_emb_val (cfg0.win 4) ⟨15, last_lt⟩ _ a).symm
  match a with
  | 0 => show 0 = win0_4.index ⟨15, last_lt⟩ 0 * 1 + 0; rw [h]; rfl
  | 1 => show k.1 = win0_4.index ⟨15, last_lt⟩ 1 * 2048 + k.1; rw [h]; show k.1 = 0 * 2048 + k.1; omega

end Cert.GateBwd

namespace Cert.GateBwdRef

open Cert.Reference13Ideal Cert.GateBwd
open Cert.Reference13Ideal.Facts₀
open Idealize.ShloMosaic Idealize.ShloMosaic.TcCoe Idealize.ShloMosaic.Tactic

variable (dx : FVec Ideal S8192x2048 .f32) (f : FVec Ideal S8192x2048 .bf16) (gt : FVec Ideal S1x2048 .f32) (i : Fin 8192) (k : Fin 2048)

theorem ref_f : (truncf .bf16 (mulf (broadcastInDim S8192x2048 ![0, 1] bcast_S1x2048_S8192x2048_0_1
    (mulf (broadcastInDim S1x2048 ![] bcast_S_S1x2048 (constant S_ .f32 0x3F000000#32)) gt)) dx) bitsLt_bf16_f32 (ix2 i k) : EReal) = scaled dx gt i k := by
  unfold scaled
  pointwise

theorem ref_gt : (mulf (broadcastInDim S1x2048 ![] bcast_S_S1x2048 (constant S_ .f32 0x3F000000#32)) (shapeCast _
    (Host.reduceAdd (mulf dx (extf .f32 f bitsLt_bf16_f32)) (constant S_ .f32 0x00000000#32) reducesTo_S8192x2048_S2048_d0 h_S_) shapeCasts_S2048_S1x2048) (ix2 0 k) : EReal)
    = grad dx f k := by
  unfold grad
  rw [Finset.sum_congr rfl fun i _ => mul_comm (f (ix2 i k)) (dx (ix2 i k))]
  pointwise

end Cert.GateBwdRef

namespace Cert.GateBwd

open Cert.Kernel13Ideal Cert.Kernel13Ideal.Gen Cert.Ffn Cert.Tiles
open Idealize.ShloMosaic Idealize.ShloMosaic.TcCoe Idealize.ShloMosaic.Tactic Idealize.SL.Sem

theorem algebraic : Cert.algebraic_Kernel13Ideal_Reference13Ideal := by
  intro m g m' g' hp he
  refine ⟨_, _, Value.run_blocks m g, (θ_run _ _ _).mono (fun r h c => ⟨(h c).1.trans ?_, (h c).2.1.trans ?_, (h c).2.2⟩) (Cert.Reference13Ideal.Value.run m' g')⟩
  all_goals
    obtain ⟨e0, e1, e2⟩ := he c
    funext i
    rw [e0]
  · rw [e2, rows2 i, ← tile_eq (i 0)]
    exact (Cert.GateBwdRef.ref_f _ _ _ _).trans (cell m c _ ⟨(i 0).val / 512, point_lt (i 0)⟩ rfl _ _).symm
  · rw [e1, row1 i]
    exact (Cert.GateBwdRef.ref_gt _ _ _).trans (cell_sum m c _).symm

/-- The call and its idealization are one text. -/
theorem same₀ {F : FTy → Type} [FloatOps F] : Cert.Kernel13.defs₀ (F := F) = Cert.Kernel13Ideal.defs₀ (F := F) := by
  unfold Cert.Kernel13.defs₀ Cert.Kernel13Ideal.defs₀
  refine congrArg Defs.onTc (funext fun l => funext fun x => ?_)
  match l, x with
  | 0, (t, s) => rfl
theorem same {F : FTy → Type} [FloatOps F] : Cert.Kernel13.defs (F := F) = Cert.Kernel13Ideal.defs (F := F) :=
  congrArg (Pipeline.defs Cert.Kernel13Ideal.pcfgs) same₀

theorem frame_kernel : Cert.quiescent_Kernel13 := fun m ρ _ => by
  rw [same]
  exact (θ_run Cert.Kernel13Ideal.defs _ _).mono (fun _ h => h) (Gen.frame (F := Bits) m ρ)
theorem frame_ideal : Cert.quiescent_Kernel13Ideal := fun m ρ _ => Gen.frame (F := Ideal) m ρ
theorem frame_reference : Cert.quiescent_Reference13Ideal := fun m ρ _ =>
  (θ_run _ _ _).mono (fun r h => ⟨fun c => (h c).2.2, sem_eq_zero_of_no_sems (by decide) r.2⟩) (Cert.Reference13Ideal.Value.run (F := Ideal) m ρ)
theorem preserves : Cert.preserves_Kernel13_Kernel13Ideal := trivial

end Cert.GateBwd
-- ==== Proof.NormBwd.lean ====
/-
  The backward call of the modulated root mean square norm: each tile of rows adds its rows' gradients to the residual stream's,
  and its rows' terms to the gradients of the shift, the scale and the norm's weight.
-/
module

public import proofs.«01_k».proof.Proof.Gen.Kernel14Ideal.Value
public import proofs.«01_k».proof.Proof.Gen.Kernel14
public import proofs.«01_k».proof.Proof.Gen.Reference14Ideal.Run
public import proofs.«01_k».proof.Proof.Tiles
public import Idealize.ShloMosaic.Lib.Pipeline.ValueKit.Acc

@[expose] public section

noncomputable section

namespace Cert.NormBwd

open Cert.Kernel14Ideal Cert.Kernel14Ideal.Gen Cert.Ffn Cert.Tiles
open Idealize.ShloMosaic Idealize.ShloMosaic.TcCoe Idealize.ShloMosaic.Tactic Idealize.SL.Sem

section Payloads

variable {F : FTy → Type} [FloatOps F]
variable (c : Dev nD) (i : grid0.Coords) (a1 : Memref sig .tc .vmem S512x2048 .f32) (h1 : a1.IsWhole) (a2 : Memref sig .tc .vmem S512x2048 .f32) (h2 : a2.IsWhole)
  (a3 : Memref sig .tc .vmem S512x2048 .f32) (h3 : a3.IsWhole) (a4 : Memref sig .tc .vmem S1x2048 .f32) (h4 : a4.IsWhole)
  (a5 : Memref sig .tc .vmem S1x2048 .f32) (h5 : a5.IsWhole) (a6 : Memref sig .tc .vmem S512x2048 .f32) (h6 : a6.IsWhole)
  (a7 : Memref sig .tc .vmem S1x2048 .f32) (h7 : a7.IsWhole) (a8 : Memref sig .tc .vmem S1x2048 .f32) (h8 : a8.IsWhole)
  (a9 : Memref sig .tc .vmem S1x2048 .f32) (h9 : a9.IsWhole)
  (x0 x1 x2 : Vec F S512x2048 .f32) (x3 x4 y6 y7 y8 : Vec F S1x2048 .f32)

theorem stored_first (hc0 : cond0_0 i) : out0_A_5 c i a1 h1 a2 h2 a3 h3 a4 h4 a5 h5 a6 h6 a7 h7 a8 h8 a9 h9 hc0 x0 x1 x2 x3 x4 = k0_pay10 x0 x1 x3 x4 x2
    ∧ out0_A_6 c i a1 h1 a2 h2 a3 h3 a4 h4 a5 h5 a6 h6 a7 h7 a8 h8 a9 h9 hc0 x0 x1 x2 x3 x4 = k0_pay1 x1 k0_pay4
    ∧ out0_A_7 c i a1 h1 a2 h2 a3 h3 a4 h4 a5 h5 a6 h6 a7 h7 a8 h8 a9 h9 hc0 x0 x1 x2 x3 x4 = k0_pay2 x3 (k0_pay11 x0 x1) k0_pay5
    ∧ out0_A_8 c i a1 h1 a2 h2 a3 h3 a4 h4 a5 h5 a6 h6 a7 h7 a8 h8 a9 h9 hc0 x0 x1 x2 x3 x4 = k0_pay3 (k0_pay7 x4) (k0_pay11 x0 x1) k0_pay6 := by
  unfold out0_A_5 out0_A_6 out0_A_7 out0_A_8
  rw [View.read_writes_eq_canon _ _ _ (cover0_A_5 c i a1 h1 a2 h2 a3 h3 a4 h4 a5 h5 a6 h6 a7 h7 a8 h8 a9 h9 hc0 x0 x1 x2 x3 x4),
    View.read_writes_eq_canon _ _ _ (cover0_A_6 c i a1 h1 a2 h2 a3 h3 a4 h4 a5 h5 a6 h6 a7 h7 a8 h8 a9 h9 hc0 x0 x1 x2 x3 x4),
    View.read_writes_eq_canon _ _ _ (cover0_A_7 c i a1 h1 a2 h2 a3 h3 a4 h4 a5 h5 a6 h6 a7 h7 a8 h8 a9 h9 hc0 x0 x1 x2 x3 x4),
    View.read_writes_eq_canon _ _ _ (cover0_A_8 c i a1 h1 a2 h2 a3 h3 a4 h4 a5 h5 a6 h6 a7 h7 a8 h8 a9 h9 hc0 x0 x1 x2 x3 x4)]
  unfold kernelRun0_A
  dsimp only
  sl_unfold_words
  rw [View.canon_unit_zero zeros2]
  simp only [View.canon_cons_unit_zero (S := S1x2048) zeros2, View.readCov_unit_zero (S := S1x2048) _ zeros2, View.readAt_eq_ld, h1.read_unread, h2.read_unread,
    h3.read_unread, h4.read_unread, h5.read_unread, View.ld_unit_zero (S := S512x2048) zeros2, View.ld_unit_zero (S := S1x2048) zeros2, and_self]

theorem stored_next (hc0 : ¬cond0_0 i) : out0_B_5 c i a1 h1 a2 h2 a3 h3 a4 h4 a5 h5 a6 h6 a7 h7 a8 h8 a9 h9 hc0 x0 x1 x2 x3 x4 y6 y7 y8 = k0_pay10 x0 x1 x3 x4 x2
    ∧ out0_B_6 c i a1 h1 a2 h2 a3 h3 a4 h4 a5 h5 a6 h6 a7 h7 a8 h8 a9 h9 hc0 x0 x1 x2 x3 x4 y6 y7 y8 = k0_pay1 x1 y6
    ∧ out0_B_7 c i a1 h1 a2 h2 a3 h3 a4 h4 a5 h5 a6 h6 a7 h7 a8 h8 a9 h9 hc0 x0 x1 x2 x3 x4 y6 y7 y8 = k0_pay2 x3 (k0_pay11 x0 x1) y7
    ∧ out0_B_8 c i a1 h1 a2 h2 a3 h3 a4 h4 a5 h5 a6 h6 a7 h7 a8 h8 a9 h9 hc0 x0 x1 x2 x3 x4 y6 y7 y8 = k0_pay3 (k0_pay7 x4) (k0_pay11 x0 x1) y8 := by
  unfold out0_B_5 out0_B_6 out0_B_7 out0_B_8
  rw [View.read_writes_eq_canon _ _ _ (cover0_B_5 c i a1 h1 a2 h2 a3 h3 a4 h4 a5 h5 a6 h6 a7 h7 a8 h8 a9 h9 hc0 x0 x1 x2 x3 x4 y6 y7 y8),
    View.read_writes_eq_canon _ _ _ (cover0_B_6 c i a1 h1 a2 h2 a3 h3 a4 h4 a5 h5 a6 h6 a7 h7 a8 h8 a9 h9 hc0 x0 x1 x2 x3 x4 y6 y7 y8),
    View.read_writes_eq_canon _ _ _ (cover0_B_7 c i a1 h1 a2 h2 a3 h3 a4 h4 a5 h5 a6 h6 a7 h7 a8 h8 a9 h9 hc0 x0 x1 x2 x3 x4 y6 y7 y8),
    View.read_writes_eq_canon _ _ _ (cover0_B_8 c i a1 h1 a2 h2 a3 h3 a4 h4 a5 h5 a6 h6 a7 h7 a8 h8 a9 h9 hc0 x0 x1 x2 x3 x4 y6 y7 y8)]
  unfold kernelRun0_B
  dsimp only
  sl_unfold_words
  simp only [View.canon_unit_zero (S := S512x2048) zeros2, View.canon_unit_zero (S := S1x2048) zeros2, View.readAt_eq_ld, h1.read_unread, h2.read_unread,
    h3.read_unread, h4.read_unread, h5.read_unread, h7.read_unread, h8.read_unread, h9.read_unread, View.ld_unit_zero (S := S512x2048) zeros2,
    View.ld_unit_zero (S := S1x2048) zeros2, and_self]

end Payloads

/-- The cotangent of a normed row, and the terms one row adds to the gradients of the shift, the scale and the weight at a column. -/
def cot (dh g sc : Fin 2048 → EReal) (k : Fin 2048) : EReal := dh k * (g k * (1 + sc k))
def addend (j : Fin 3) (x dh g sc : Fin 2048 → EReal) (k : Fin 2048) : EReal :=
  match j with
  | 0 => dh k
  | 1 => dh k * (x k * factor x) * g k
  | 2 => dh k * (x k * factor x) * (1 + sc k)

section Read

variable (r : Fin 512) (k : Fin 2048) (x0 x1 x2 : Vec Ideal S512x2048 .f32) (x3 x4 y : Vec Ideal S1x2048 .f32)

theorem factor_at : (k0_pay8 x0 (ix2 r 0) : EReal) = factor (row x0 r) := by
  unfold k0_pay8 factor meanSq row
  pointwise
theorem normed_at : (k0_pay9 x0 (ix2 r k) : EReal) = row x0 r k * factor (row x0 r) := by
  unfold k0_pay9
  rw [← factor_at]
  pointwise
  rfl
theorem back_at : (k0_pay10 x0 x1 x3 x4 x2 (ix2 r k) : EReal) = x2 (ix2 r k) + back (row x0 r) (cot (row x1 r) (row x3 0) (row x4 0)) k := by
  unfold k0_pay10 k0_pay7 back cot
  simp only [← normed_at]
  rw [← factor_at]
  pointwise
  rfl
theorem reset_at : (k0_pay4 (F := Ideal)) (ix2 0 k) = (0 : EReal) ∧ (k0_pay5 (F := Ideal)) (ix2 0 k) = (0 : EReal) ∧ (k0_pay6 (F := Ideal)) (ix2 0 k) = (0 : EReal) := by
  unfold k0_pay4 k0_pay5 k0_pay6
  refine ⟨?_, ?_, ?_⟩ <;> pointwise
theorem add_at : (k0_pay1 x1 y (ix2 0 k) : EReal) = y (ix2 0 k) + ∑ r : Fin 512, addend 0 (row x0 r) (row x1 r) (row x3 0) (row x4 0) k
    ∧ (k0_pay2 x3 (k0_pay11 x0 x1) y (ix2 0 k) : EReal) = y (ix2 0 k) + ∑ r : Fin 512, addend 1 (row x0 r) (row x1 r) (row x3 0) (row x4 0) k
    ∧ (k0_pay3 (k0_pay7 x4) (k0_pay11 x0 x1) y (ix2 0 k) : EReal) = y (ix2 0 k) + ∑ r : Fin 512, addend 2 (row x0 r) (row x1 r) (row x3 0) (row x4 0) k := by
  unfold k0_pay1 k0_pay2 k0_pay3 k0_pay11 k0_pay7 addend
  simp only [← normed_at]
  refine ⟨?_, ?_, ?_⟩ <;> (pointwise; try rfl)

end Read

variable (m : (ℓ : Loc nD τ sig) → Buf (Elt Ideal) ℓ) (ρ : Dev nD → PrngReg) (c : Dev nD)

theorem idx : ∀ t : Fin cfg0.N, win0_0.index t = ![t.val, 0] ∧ win0_1.index t = ![t.val, 0] ∧ win0_2.index t = ![t.val, 0] ∧ win0_5.index t = ![t.val, 0]
    ∧ win0_3.index t = ![0, 0] ∧ win0_4.index t = ![0, 0] ∧ win0_6.index t = ![0, 0] ∧ win0_7.index t = ![0, 0] ∧ win0_8.index t = ![0, 0] :=
  (by decide +kernel : ∀ t : Fin grid0.N, _)

section Blocks

variable (q : Fin 16) (t : Fin cfg0.N) (ht : t.val = q.1) (r : Fin 512) (k : Fin 2048)

section Tall
include ht

theorem row0 : row (iblk m c 0 t : Vec Ideal S512x2048 .f32) r = row (m ((c : Thread nD τ).loc main_arg0) : S8192x2048.Idx → EReal) (tileAt q r) := by
  funext k
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 512 + r.1 = q.1 * 512 + r.1; rw [h, ← ht]; rfl
  | 1 => show win0_0.index t 1 * 2048 + k.1 = k.1; rw [h]; show 0 * 2048 + k.1 = k.1; omega

theorem row1 : row (iblk m c 1 t : Vec Ideal S512x2048 .f32) r = row (m ((c : Thread nD τ).loc main_arg1) : S8192x2048.Idx → EReal) (tileAt q r) := by
  funext k
  rw [← V_main_arg1 m c]
  refine congrArg (V m c main_arg1) (funext fun a => Fin.ext ?_)
  obtain ⟨-, h, -⟩ := idx t
  refine (Pipeline.Window.rect_emb_val (cfg0.win 1) t _ a).trans ?_
  match a with
  | 0 => show win0_1.index t 0 * 512 + r.1 = q.1 * 512 + r.1; rw [h, ← ht]; rfl
  | 1 => show win0_1.index t 1 * 2048 + k.1 = k.1; rw [h]; show 0 * 2048 + k.1 = k.1; omega

theorem row2 : row (iblk m c 2 t : Vec Ideal S512x2048 .f32) r = row (m ((c : Thread nD τ).loc main_arg2) : S8192x2048.Idx → EReal) (tileAt q r) := by
  funext k
  rw [← V_main_arg2 m c]
  refine congrArg (V m c main_arg2) (funext fun a => Fin.ext ?_)
  obtain ⟨-, -, h, -⟩ := idx t
  refine (Pipeline.Window.rect_emb_val (cfg0.win 2) t _ a).trans ?_
  match a with
  | 0 => show win0_2.index t 0 * 512 + r.1 = q.1 * 512 + r.1; rw [h, ← ht]; rfl
  | 1 => show win0_2.index t 1 * 2048 + k.1 = k.1; rw [h]; show 0 * 2048 + k.1 = k.1; omega

end Tall

theorem row3 : row (iblk m c 3 t : Vec Ideal S1x2048 .f32) 0 = row (m ((c : Thread nD τ).loc main_arg3) : S1x2048.Idx → EReal) 0 := by
  funext k
  rw [← V_main_arg3 m c]
  refine congrArg (V m c main_arg3) (funext fun a => Fin.ext ?_)
  obtain ⟨-, -, -, -, h, -⟩ := idx t
  refine (Pipeline.Window.rect_emb_val (cfg0.win 3) t _ a).trans ?_
  match a with
  | 0 => show win0_3.index t 0 * 1 + 0 = 0; rw [h]; rfl
  | 1 => show win0_3.index t 1 * 2048 + k.1 = k.1; rw [h]; show 0 * 2048 + k.1 = k.1; omega

theorem row4 : row (iblk m c 4 t : Vec Ideal S1x2048 .f32) 0 = row (m ((c : Thread nD τ).loc main_arg4) : S1x2048.Idx → EReal) 0 := by
  funext k
  rw [← V_main_arg4 m c]
  refine congrArg (V m c main_arg4) (funext fun a => Fin.ext ?_)
  obtain ⟨-, -, -, -, -, h, -⟩ := idx t
  refine (Pipeline.Window.rect_emb_val (cfg0.win 4) t _ a).trans ?_
  match a with
  | 0 => show win0_4.index t 0 * 1 + 0 = 0; rw [h]; rfl
  | 1 => show win0_4.index t 1 * 2048 + k.1 = k.1; rw [h]; show 0 * 2048 + k.1 = k.1; omega

end Blocks

/-- The residual stream's gradient, and a row's addends, from the call's arguments. -/
def streamGrad (x dh dxo : S8192x2048.Idx → EReal) (g sc : S1x2048.Idx → EReal) (i : Fin 8192) (k : Fin 2048) : EReal :=
  dxo (ix2 i k) + back (row x i) (cot (row dh i) (row g 0) (row sc 0)) k
def addendAt (j : Fin 3) (k : Fin 2048) (i : Fin 8192) : EReal :=
  addend j (row (m ((c : Thread nD τ).loc main_arg0) : S8192x2048.Idx → EReal) i) (row (m ((c : Thread nD τ).loc main_arg1) : S8192x2048.Idx → EReal) i)
    (row (m ((c : Thread nD τ).loc main_arg3) : S1x2048.Idx → EReal) 0) (row (m ((c : Thread nD τ).loc main_arg4) : S1x2048.Idx → EReal) 0) k

theorem tile (t : Fin cfg0.N) : (outsAt0 m c t.val t.isLt).1 = k0_pay10 (iblk m c 0 t) (iblk m c 1 t) (iblk m c 3 t) (iblk m c 4 t) (iblk m c 2 t) := by
  by_cases h0 : t.val % 16 = 0
  · rw [outsAt0_A m c t h0]
    dsimp only
    rw [(stored_first ..).1]
  · rw [outsAt0_B m c t h0]
    dsimp only
    rw [(stored_next ..).1]

theorem cell (q : Fin 16) (t : Fin cfg0.N) (ht : t.val = q.1) (r : Fin 512) (k : Fin 2048) :
    (((dats m 0 c).arrAt 5 cfg0.N : S8192x2048.Idx → EReal) (ix2 (tileAt q r) k) : EReal)
    = streamGrad (m ((c : Thread nD τ).loc main_arg0)) (m ((c : Thread nD τ).loc main_arg1)) (m ((c : Thread nD τ).loc main_arg2))
      (m ((c : Thread nD τ).loc main_arg3)) (m ((c : Thread nD τ).loc main_arg4)) (tileAt q r) k := by
  unfold streamGrad
  rw [← row0 m c q t ht r, ← row1 m c q t ht r, ← row3 m c t, ← row4 m c t]
  refine Eq.trans ?_ (congrArg (fun z : EReal => z + _) (congrFun (row2 m c q t ht r) k))
  refine Eq.trans ?_ (back_at r k (iblk m c 0 t) (iblk m c 1 t) (iblk m c 2 t) (iblk m c 3 t) (iblk m c 4 t))
  rw [← tile]
  refine Eq.trans (congrArg _ (funext fun a => Fin.ext ?_)) ((congrFun (Value.blocks5 m c t (flush0_5 t)) (ix2 r k)).trans (congrFun (Value.flushed5 m c t) (ix2 r k)))
  obtain ⟨-, -, -, h, -⟩ := idx t
  refine Eq.trans ?_ (Pipeline.Window.rect_emb_val (cfg0.win 5) t _ a).symm
  match a with
  | 0 => show q.1 * 512 + r.1 = win0_5.index t 0 * 512 + r.1; rw [h, ← ht]; rfl
  | 1 => show k.1 = win0_5.index t 1 * 2048 + k.1; rw [h]; show k.1 = 0 * 2048 + k.1; omega

/-- What the point's three running sums hold at a column. -/
def kept (o : Vec Ideal S512x2048 .f32 × Vec Ideal S1x2048 .f32 × Vec Ideal S1x2048 .f32 × Vec Ideal S1x2048 .f32) (k : Fin 2048) (j : Fin 3) : EReal :=
  match j with
  | 0 => o.2.1 (ix2 0 k)
  | 1 => o.2.2.1 (ix2 0 k)
  | 2 => o.2.2.2 (ix2 0 k)

theorem part_eq (j : Fin 3) (k : Fin 2048) (q : Fin 16) (t : Fin cfg0.N) (ht : t.val = q.1) :
    ∑ r : Fin 512, addend j (row (iblk m c 0 t : Vec Ideal S512x2048 .f32) r) (row (iblk m c 1 t : Vec Ideal S512x2048 .f32) r)
      (row (iblk m c 3 t : Vec Ideal S1x2048 .f32) 0) (row (iblk m c 4 t : Vec Ideal S1x2048 .f32) 0) k = ∑ r : Fin 512, addendAt m c j k (tileAt q r) :=
  Finset.sum_congr rfl fun r _ => by rw [row0 m c q t ht r, row1 m c q t ht r, row3 m c t, row4 m c t]; rfl

theorem sum_first (j : Fin 3) (k : Fin 2048) (h : 0 < cfg0.N) : kept (outsAt0 m c 0 h) k j = ∑ r : Fin 512, addendAt m c j k (tileAt 0 r) := by
  rw [outsAt0_A m c ⟨0, h⟩ rfl, ← part_eq m c j k 0 ⟨0, h⟩ rfl]
  unfold kept
  dsimp only
  rw [(stored_first ..).2.1, (stored_first ..).2.2.1, (stored_first ..).2.2.2, (add_at k (iblk m c 0 ⟨0, h⟩) _ (iblk m c 3 ⟨0, h⟩) (iblk m c 4 ⟨0, h⟩) _).1,
    (add_at k _ _ _ (iblk m c 4 ⟨0, h⟩) _).2.1, (add_at k _ _ (iblk m c 3 ⟨0, h⟩) _ _).2.2, (reset_at k).1, (reset_at k).2.1, (reset_at k).2.2]
  simp only [zero_add]
  fin_cases j <;> rfl

theorem sum_next (j : Fin 3) (k : Fin 2048) (n : ℕ) (h : n + 1 < cfg0.N) (h' : n < cfg0.N) (h'' : n + 1 < 16) :
    kept (outsAt0 m c (n + 1) h) k j = kept (outsAt0 m c n h') k j + ∑ r : Fin 512, addendAt m c j k (tileAt ⟨n + 1, h''⟩ r) := by
  rw [outsAt0_B m c ⟨n + 1, h⟩ (by show ¬(n + 1) % 16 = 0; omega), ← part_eq m c j k ⟨n + 1, h''⟩ ⟨n + 1, h⟩ rfl]
  unfold kept
  dsimp only
  rw [(stored_next ..).2.1, (stored_next ..).2.2.1, (stored_next ..).2.2.2, (add_at k (iblk m c 0 ⟨n + 1, h⟩) _ (iblk m c 3 ⟨n + 1, h⟩) (iblk m c 4 ⟨n + 1, h⟩) _).1,
    (add_at k _ _ _ (iblk m c 4 ⟨n + 1, h⟩) _).2.1, (add_at k _ _ (iblk m c 3 ⟨n + 1, h⟩) _ _).2.2]
  fin_cases j <;> rfl

theorem point_lt (i : Fin 8192) : i.1 / 512 < cfg0.N := by rw [show cfg0.N = 16 from N_0]; omega
theorem last_lt : 15 < cfg0.N := by rw [show cfg0.N = 16 from N_0]; omega

theorem sum_all (j : Fin 3) (k : Fin 2048) : kept (outsAt0 m c 15 last_lt) k j = ∑ i : Fin 8192, addendAt m c j k i :=
  (over_tiles cfg0.N N_0 _ (fun n h => kept (outsAt0 m c n h) k j) (sum_first m c j k) (sum_next m c j k) last_lt).trans (sum_tiles (addendAt m c j k))

/-- Only the last point writes the sums back. -/
theorem only_last (t t' : Fin cfg0.N) (h : t.val % 16 = 15) (h' : t'.val % 16 = 15) : t = t' := Fin.ext (by
  have l : t.val < 16 := Nat.lt_of_lt_of_eq t.isLt N_0
  have l' : t'.val < 16 := Nat.lt_of_lt_of_eq t'.isLt N_0
  omega)

theorem cell6 (k : Fin 2048) : (((dats m 0 c).arrAt 6 cfg0.N : S1x2048.Idx → EReal) (ix2 0 k) : EReal) = ∑ i : Fin 8192, addendAt m c 0 k i := by
  rw [← sum_all]
  refine Eq.trans (congrArg _ (funext fun a => Fin.ext ?_)) ((congrFun ((dats m 0 c).read_blk_arrAt_eq_flushed 6
    (fun t t' h h' hne => absurd (only_last t t' ((flush0_6 t).mp h) ((flush0_6 t').mp h')) hne) cfg0.N ⟨15, last_lt⟩ last_lt
    ((flush0_6 ⟨15, last_lt⟩).mpr rfl)) (ix2 0 k)).trans (congrFun (Value.flushed6 m c ⟨15, last_lt⟩) (ix2 0 k)))
  obtain ⟨-, -, -, -, -, -, h, -⟩ := idx ⟨15, last_lt⟩
  refine Eq.trans ?_ (Pipeline.Window.rect_emb_val (cfg0.win 6) ⟨15, last_lt⟩ _ a).symm
  match a with
  | 0 => show 0 = win0_6.index ⟨15, last_lt⟩ 0 * 1 + 0; rw [h]; rfl
  | 1 => show k.1 = win0_6.index ⟨15, last_lt⟩ 1 * 2048 + k.1; rw [h]; show k.1 = 0 * 2048 + k.1; omega

theorem cell7 (k : Fin 2048) : (((dats m 0 c).arrAt 7 cfg0.N : S1x2048.Idx → EReal) (ix2 0 k) : EReal) = ∑ i : Fin 8192, addendAt m c 1 k i := by
  rw [← sum_all]
  refine Eq.trans (congrArg _ (funext fun a => Fin.ext ?_)) ((congrFun ((dats m 0 c).read_blk_arrAt_eq_flushed 7
    (fun t t' h h' hne => absurd (only_last t t' ((flush0_7 t).mp h) ((flush0_7 t').mp h')) hne) cfg0.N ⟨15, last_lt⟩ last_lt
    ((flush0_7 ⟨15, last_lt⟩).mpr rfl)) (ix2 0 k)).trans (congrFun (Value.flushed7 m c ⟨15, last_lt⟩) (ix2 0 k)))
  obtain ⟨-, -, -, -, -, -, -, h, -⟩ := idx ⟨15, last_lt⟩
  refine Eq.trans ?_ (Pipeline.Window.rect_emb_val (cfg0.win 7) ⟨15, last_lt⟩ _ a).symm
  match a with
  | 0 => show 0 = win0_7.index ⟨15, last_lt⟩ 0 * 1 + 0; rw [h]; rfl
  | 1 => show k.1 = win0_7.index ⟨15, last_lt⟩ 1 * 2048 + k.1; rw [h]; show k.1 = 0 * 2048 + k.1; omega

theorem cell8 (k : Fin 2048) : (((dats m 0 c).arrAt 8 cfg0.N : S1x2048.Idx → EReal) (ix2 0 k) : EReal) = ∑ i : Fin 8192, addendAt m c 2 k i := by
  rw [← sum_all]
  refine Eq.trans (congrArg _ (funext fun a => Fin.ext ?_)) ((congrFun ((dats m 0 c).read_blk_arrAt_eq_flushed 8
    (fun t t' h h' hne => absurd (only_last t t' ((flush0_8 t).mp h) ((flush0_8 t').mp h')) hne) cfg0.N ⟨15, last_lt⟩ last_lt
    ((flush0_8 ⟨15, last_lt⟩).mpr rfl)) (ix2 0 k)).trans (congrFun (Value.flushed8 m c ⟨15, last_lt⟩) (ix2 0 k)))
  obtain ⟨-, -, -, -, -, -, -, -, h⟩ := idx ⟨15, last_lt⟩
  refine Eq.trans ?_ (Pipeline.Window.rect_emb_val (cfg0.win 8) ⟨15, last_lt⟩ _ a).symm
  match a with
  | 0 => show 0 = win0_8.index ⟨15, last_lt⟩ 0 * 1 + 0; rw [h]; rfl
  | 1 => show k.1 = win0_8.index ⟨15, last_lt⟩ 1 * 2048 + k.1; rw [h]; show k.1 = 0 * 2048 + k.1; omega

end Cert.NormBwd

namespace Cert.NormBwdRef

open Cert.Reference14Ideal Cert.NormBwd Cert.Tiles
open Cert.Reference14Ideal.Facts₀
open Idealize.ShloMosaic Idealize.ShloMosaic.TcCoe Idealize.ShloMosaic.Tactic

variable (x dh dxo : FVec Ideal S8192x2048 .f32) (g sc : FVec Ideal S1x2048 .f32) (i : Fin 8192) (k : Fin 2048)

/-- The reference's mean squares, factors, cotangents and parts through the factors. -/
def ms : FVec Ideal S8192x1 .f32 := addf (Host.divf (broadcastInDim S8192x1 ![0] bcast_S8192_S8192x1_0 (Host.reduceAdd (mulf x x) (constant S_ .f32 0x00000000#32)
  reducesTo_S8192x2048_S8192_d1 h_S_)) (broadcastInDim S8192x1 ![] bcast_S_S8192x1 (constant S_ .f32 0x45000000#32)))
  (broadcastInDim S8192x1 ![] bcast_S_S8192x1 (constant S_ .f32 0x358637BD#32))
def scaleUp : FVec Ideal S8192x2048 .f32 := mulf (shapeCast _ dh shapeCasts_S8192x2048_S8192x2048)
  (broadcastInDim S8192x2048 ![0, 1] bcast_S1x2048_S8192x2048_0_1 (addf (broadcastInDim S1x2048 ![] bcast_S_S1x2048 (constant S_ .f32 0x3F800000#32)) sc))
def ct : FVec Ideal S8192x2048 .f32 := mulf (scaleUp dh sc) (broadcastInDim S8192x2048 ![0, 1] bcast_S1x2048_S8192x2048_0_1 g)
def normed : FVec Ideal S8192x2048 .f32 := mulf x (broadcastInDim S8192x2048 ![0, 1] bcast_S8192x1_S8192x2048_0_1 (Host.rsqrt (ms x)))
def thr (D : FVec Ideal S8192x2048 .f32) : FVec Ideal S8192 .f32 := Host.reduceAdd (Host.divf (mulf (shapeCast _ (Host.reduceAdd (mulf x D)
  (constant S_ .f32 0x00000000#32) reducesTo_S8192x2048_S8192_d1 h_S_) shapeCasts_S8192_S8192x1) (mulf (broadcastInDim S8192x1 ![] bcast_S_S8192x1 (constant S_ .f32 0xBF000000#32))
  (Host.divf (Host.rsqrt (ms x)) (ms x)))) (broadcastInDim S8192x1 ![] bcast_S_S8192x1 (constant S_ .f32 0x45000000#32))) (constant S_ .f32 0x00000000#32) reducesTo_S8192x1_S8192_d1 h_S_

theorem ms_at : (ms x (ix2 i 0) : EReal) = meanSq (row x i) := by
  unfold ms meanSq row
  pointwise
theorem fac_at : (Host.rsqrt (ms x) (ix2 i 0) : EReal) = factor (row x i) := by
  unfold factor
  rw [← ms_at]
  pointwise
theorem ct_at (n : Fin 2048) : (ct dh g sc (ix2 i n) : EReal) = cot (row dh i) (row g 0) (row sc 0) n := by
  unfold ct scaleUp cot row
  rw [mul_comm (g (ix2 0 n)), ← mul_assoc]
  pointwise
theorem thr_at (D : FVec Ideal S8192x2048 .f32) : (thr x D (ix1 i) : EReal) = through (row x i) (row D i) := by
  unfold thr through
  rw [← fac_at, ← ms_at]
  pointwise
  exact Fin.sum_univ_one _

theorem ref_dx : (addf dxo (addf (addf (mulf (ct dh g sc) (broadcastInDim S8192x2048 ![0, 1] bcast_S8192x1_S8192x2048_0_1 (Host.rsqrt (ms x))))
    (mulf x (broadcastInDim S8192x2048 ![0] bcast_S8192_S8192x2048_0 (thr x (ct dh g sc)))))
    (mulf (broadcastInDim S8192x2048 ![0] bcast_S8192_S8192x2048_0 (thr x (ct dh g sc))) x)) (ix2 i k) : EReal)
    = dxo (ix2 i k) + back (row x i) (cot (row dh i) (row g 0) (row sc 0)) k := by
  have e : row (ct dh g sc) i = cot (row dh i) (row g 0) (row sc 0) := funext fun n => ct_at dh g sc i n
  rw [← e, ← back_eq, ← thr_at, ← fac_at]
  pointwise
  rfl

theorem ref_sh : (shapeCast S1x2048 (Host.reduceAdd dh (constant S_ .f32 0x00000000#32) reducesTo_S8192x2048_S2048_d0 h_S_) shapeCasts_S2048_S1x2048 (ix2 0 k) : EReal)
    = ∑ i : Fin 8192, addend 0 (row x i) (row dh i) (row g 0) (row sc 0) k := by
  unfold addend row
  pointwise
theorem ref_sc : (shapeCast S1x2048 (Host.reduceAdd (mulf (mulf (normed x) (broadcastInDim S8192x2048 ![0, 1] bcast_S1x2048_S8192x2048_0_1 g))
    (shapeCast _ dh shapeCasts_S8192x2048_S8192x2048)) (constant S_ .f32 0x00000000#32) reducesTo_S8192x2048_S2048_d0 h_S_) shapeCasts_S2048_S1x2048 (ix2 0 k) : EReal)
    = ∑ i : Fin 8192, addend 1 (row x i) (row dh i) (row g 0) (row sc 0) k := by
  unfold addend normed
  simp only [← fac_at]
  pointwise
  unfold row
  refine Finset.sum_congr rfl fun i _ => ?_
  ac_rfl
theorem ref_g : (shapeCast S1x2048 (Host.reduceAdd (mulf (normed x) (scaleUp dh sc)) (constant S_ .f32 0x00000000#32) reducesTo_S8192x2048_S2048_d0 h_S_)
    shapeCasts_S2048_S1x2048 (ix2 0 k) : EReal) = ∑ i : Fin 8192, addend 2 (row x i) (row dh i) (row g 0) (row sc 0) k := by
  unfold addend normed scaleUp
  simp only [← fac_at]
  pointwise
  unfold row
  refine Finset.sum_congr rfl fun i _ => ?_
  ac_rfl

end Cert.NormBwdRef

namespace Cert.NormBwd

open Cert.Kernel14Ideal Cert.Kernel14Ideal.Gen Cert.Ffn Cert.Tiles
open Idealize.ShloMosaic Idealize.ShloMosaic.TcCoe Idealize.ShloMosaic.Tactic Idealize.SL.Sem

theorem algebraic : Cert.algebraic_Kernel14Ideal_Reference14Ideal := by
  intro m g m' g' hp he
  refine ⟨_, _, _, _, Value.run_blocks m g, (θ_run _ _ _).mono (fun r h c => ⟨(h c).1.trans ?_, (h c).2.1.trans ?_, (h c).2.2.1.trans ?_, (h c).2.2.2.1.trans ?_, (h c).2.2.2.2⟩)
    (Cert.Reference14Ideal.Value.run m' g')⟩
  all_goals
    obtain ⟨e0, e1, e2, e3, e4⟩ := he c
    funext i
  · unfold Cert.Reference14Ideal.Value.res_main_v49
    rw [e0, e1, e2, e3, e4, rows2 i, ← tile_eq (i 0)]
    exact (Cert.NormBwdRef.ref_dx _ _ _ _ _ _ _).trans (cell m c _ ⟨(i 0).val / 512, point_lt (i 0)⟩ rfl _ _).symm
  · rw [e1, Cert.Tiles.row1 i]
    exact (Cert.NormBwdRef.ref_sh _ _ _ _ _).trans (cell6 m c _).symm
  · rw [e0, e1, e3, Cert.Tiles.row1 i]
    exact (Cert.NormBwdRef.ref_sc _ _ _ _ _).trans (cell7 m c _).symm
  · rw [e0, e1, e4, Cert.Tiles.row1 i]
    exact (Cert.NormBwdRef.ref_g _ _ _ _ _).trans (cell8 m c _).symm

/-- The call and its idealization are one text. -/
theorem same₀ {F : FTy → Type} [FloatOps F] : Cert.Kernel14.defs₀ (F := F) = Cert.Kernel14Ideal.defs₀ (F := F) := by
  unfold Cert.Kernel14.defs₀ Cert.Kernel14Ideal.defs₀
  refine congrArg Defs.onTc (funext fun l => funext fun x => ?_)
  match l, x with
  | 0, (t, s) => rfl
theorem same {F : FTy → Type} [FloatOps F] : Cert.Kernel14.defs (F := F) = Cert.Kernel14Ideal.defs (F := F) :=
  congrArg (Pipeline.defs Cert.Kernel14Ideal.pcfgs) same₀

theorem frame_kernel : Cert.quiescent_Kernel14 := fun m ρ _ => by
  rw [same]
  exact (θ_run Cert.Kernel14Ideal.defs _ _).mono (fun _ h => h) (Gen.frame (F := Bits) m ρ)
theorem frame_ideal : Cert.quiescent_Kernel14Ideal := fun m ρ _ => Gen.frame (F := Ideal) m ρ
theorem frame_reference : Cert.quiescent_Reference14Ideal := fun m ρ _ =>
  (θ_run _ _ _).mono (fun r h => ⟨fun c => (h c).2.2.2.2, sem_eq_zero_of_no_sems (by decide) r.2⟩) (Cert.Reference14Ideal.Value.run (F := Ideal) m ρ)
theorem preserves : Cert.preserves_Kernel14_Kernel14Ideal := trivial

end Cert.NormBwd
-- ==== Proof.Norm.lean ====
/-
  The forward call of the modulated root mean square norm: each tile of rows is normed, scaled and shifted.
-/
module

public import proofs.«01_k».proof.Proof.Gen.Kernel15Ideal.Value
public import proofs.«01_k».proof.Proof.Gen.Kernel15
public import proofs.«01_k».proof.Proof.Gen.Reference15Ideal.Run
public import proofs.«01_k».proof.Proof.NormBwd
public import Idealize.ShloMosaic.Lib.Pipeline.ValueKit.Acc

@[expose] public section

noncomputable section

namespace Cert.Norm

open Cert.Kernel15Ideal Cert.Kernel15Ideal.Gen Cert.Ffn Cert.Tiles
open Idealize.ShloMosaic Idealize.ShloMosaic.TcCoe Idealize.ShloMosaic.Tactic Idealize.SL.Sem

theorem stored {F : FTy → Type} [FloatOps F] (x0 : Vec F S512x2048 .f32) (x1 x2 x3 : Vec F S1x2048 .f32) : out0_4 x0 x1 x2 x3 = k0_pay1 x0 x1 x2 x3 := by
  unfold out0_4 r0_0 r0_1
  rw [View.canon_unit_zero zeros2, View.ld_unit_zero (S := S512x2048) zeros2]
  simp only [View.ld_unit_zero (S := S1x2048) zeros2]

/-- A row's modulated norm at a column. -/
def modulated (x g sc sh : Fin 2048 → EReal) (k : Fin 2048) : EReal := x k * factor x * g k * (1 + sc k) + sh k

theorem mod_at (r : Fin 512) (k : Fin 2048) (x0 : Vec Ideal S512x2048 .f32) (x1 x2 x3 : Vec Ideal S1x2048 .f32) :
    (k0_pay1 x0 x1 x2 x3 (ix2 r k) : EReal) = modulated (row x0 r) (row x1 0) (row x2 0) (row x3 0) k := by
  unfold k0_pay1 modulated factor meanSq row
  pointwise

variable (m : (ℓ : Loc nD τ sig) → Buf (Elt Ideal) ℓ) (ρ : Dev nD → PrngReg) (c : Dev nD)

theorem idx : ∀ t : Fin cfg0.N, win0_0.index t = ![t.val, 0] ∧ win0_4.index t = ![t.val, 0] ∧ win0_1.index t = ![0, 0] ∧ win0_2.index t = ![0, 0]
    ∧ win0_3.index t = ![0, 0] := (by decide +kernel : ∀ t : Fin grid0.N, _)

section Blocks

variable (q : Fin 16) (t : Fin cfg0.N) (ht : t.val = q.1) (r : Fin 512) (k : Fin 2048)

include ht in
theorem row0 : row (iblk m c 0 t : Vec Ideal S512x2048 .f32) r = row (m ((c : Thread nD τ).loc main_arg0) : S8192x2048.Idx → EReal) (tileAt q r) := by
  funext k
  rw [← V_main_arg0 m c]
  refine congrArg (V m c main_arg0) (funext fun a => Fin.ext ?_)
  obtain ⟨h, -⟩ := idx t
  refine (Pipeline.Window.rect_emb_val (cfg0.win 0) t _ a).trans ?_
  match a with
  | 0 => show win0_0.index t 0 * 512 + r.1 = q.1 * 512 + r.1; rw [h, ← ht]; rfl
  | 1 => show win0_0.index t 1 * 2048 + k.1 = k.1; rw [h]; show 0 * 2048 + k.1 = k.1; omega

theorem row1 : row (iblk m c 1 t : Vec Ideal S1x2048 .f32) 0 = row (m ((c : Thread nD τ).loc main_arg1) : S1x2048.Idx → EReal) 0 := by
  funext k
  rw [← V_main_arg1 m c]
  refine congrArg (V m c main_arg1) (funext fun a => Fin.ext ?_)
  obtain ⟨-, -, h, -⟩ := idx t
  refine (Pipeline.Window.rect_emb_val (cfg0.win 1) t _ a).trans ?_
  match a with
  | 0 => show win0_1.index t 0 * 1 + 0 = 0; rw [h]; rfl
  | 1 => show win0_1.index t 1 * 2048 + k.1 = k.1; rw [h]; show 0 * 2048 + k.1 = k.1; omega

theorem row2 : row (iblk m c 2 t : Vec Ideal S1x2048 .f32) 0 = row (m ((c : Thread nD τ).loc main_arg2) : S1x2048.Idx → EReal) 0 := by
  funext k
  rw [← V_main_arg2 m c]
  refine congrArg (V m c main_arg2) (funext fun a => Fin.ext ?_)
  obtain ⟨-, -, -, h, -⟩ := idx t
  refine (Pipeline.Window.rect_emb_val (cfg0.win 2) t _ a).trans ?_
  match a with
  | 0 => show win0_2.index t 0 * 1 + 0 = 0; rw [h]; rfl
  | 1 => show win0_2.index t 1 * 2048 + k.1 = k.1; rw [h]; show 0 * 2048 + k.1 = k.1; omega

theorem row3 : row (iblk m c 3 t : Vec Ideal S1x2048 .f32) 0 = row (m ((c : Thread nD τ).loc main_arg3) : S1x2048.Idx → EReal) 0 := by
  funext k
  rw [← V_main_arg3 m c]
  refine congrArg (V m c main_arg3) (funext fun a => Fin.ext ?_)
  obtain ⟨-, -, -, -, h⟩ := idx t
  refine (Pipeline.Window.rect_emb_val (cfg0.win 3) t _ a).trans ?_
  match a with
  | 0 => show win0_3.index t 0 * 1 + 0 = 0; rw [h]; rfl
  | 1 => show win0_3.index t 1 * 2048 + k.1 = k.1; rw [h]; show 0 * 2048 + k.1 = k.1; omega

include ht in
theorem cell : (((dats m 0 c).arrAt 4 cfg0.N : S8192x2048.Idx → EReal) (ix2 (tileAt q r) k) : EReal)
    = modulated (row (m ((c : Thread nD τ).loc main_arg0) : S8192x2048.Idx → EReal) (tileAt q r)) (row (m ((c : Thread nD τ).loc main_arg1) : S1x2048.Idx → EReal) 0)
      (row (m ((c : Thread nD τ).loc main_arg2) : S1x2048.Idx → EReal) 0) (row (m ((c : Thread nD τ).loc main_arg3) : S1x2048.Idx → EReal) 0) k := by
  rw [← row0 m c q t ht r, ← row1 m c t, ← row2 m c t, ← row3 m c t]
  refine Eq.trans ?_ (mod_at r k (iblk m c 0 t) (iblk m c 1 t) (iblk m c 2 t) (iblk m c 3 t))
  rw [← stored]
  refine Eq.trans (congrArg _ (funext fun a => Fin.ext ?_)) ((congrFun (Value.blocks4 m c t (flush0_4 t)) (ix2 r k)).trans (congrFun (Value.flushed4 m c t) (ix2 r k)))
  obtain ⟨-, h, -⟩ := idx t
  refine Eq.trans ?_ (Pipeline.Window.rect_emb_val (cfg0.win 4) t _ a).symm
  match a with
  | 0 => show q.1 * 512 + r.1 = win0_4.index t 0 * 512 + r.1; rw [h, ← ht]; rfl
  | 1 => show k.1 = win0_4.index t 1 * 2048 + k.1; rw [h]; show k.1 = 0 * 2048 + k.1; omega

end Blocks

theorem point_lt (i : Fin 8192) : i.1 / 512 < cfg0.N := by rw [show cfg0.N = 16 from N_0]; omega

end Cert.Norm

namespace Cert.NormRef

open Cert.Reference15Ideal Cert.Norm Cert.Tiles
open Cert.Reference15Ideal.Facts₀
open Idealize.ShloMosaic Idealize.ShloMosaic.TcCoe Idealize.ShloMosaic.Tactic

theorem ref_h (x : FVec Ideal S8192x2048 .f32) (g sc sh : FVec Ideal S1x2048 .f32) (i : Fin 8192) (k : Fin 2048) :
    (truncf .bf16 (addf (mulf (mulf (Cert.NormBwdRef.normed x) (broadcastInDim S8192x2048 ![0, 1] bcast_S1x2048_S8192x2048_0_1 g))
      (broadcastInDim S8192x2048 ![0, 1] bcast_S1x2048_S8192x2048_0_1 (addf (broadcastInDim S1x2048 ![] bcast_S_S1x2048 (constant S_ .f32 0x3F800000#32)) sc)))
      (broadcastInDim S8192x2048 ![0, 1] bcast_S1x2048_S8192x2048_0_1 sh)) bitsLt_bf16_f32 (ix2 i k) : EReal)
    = modulated (row x i) (row g 0) (row sc 0) (row sh 0) k := by
  unfold modulated Cert.NormBwdRef.normed
  rw [← Cert.NormBwdRef.fac_at]
  pointwise
  rfl

end Cert.NormRef

namespace Cert.Norm

open Cert.Kernel15Ideal Cert.Kernel15Ideal.Gen Cert.Ffn Cert.Tiles
open Idealize.ShloMosaic Idealize.ShloMosaic.TcCoe Idealize.ShloMosaic.Tactic Idealize.SL.Sem

theorem algebraic : Cert.algebraic_Kernel15Ideal_Reference15Ideal := by
  intro m g m' g' hp he
  refine ⟨_, Value.run_blocks m g, (θ_run _ _ _).mono (fun r h c => ⟨(h c).1.trans ?_, (h c).2⟩) (Cert.Reference15Ideal.Value.run m' g')⟩
  obtain ⟨e0, e1, e2, e3⟩ := he c
  funext i
  rw [e0, e1, e2, e3, rows2 i, ← tile_eq (i 0)]
  exact (Cert.NormRef.ref_h _ _ _ _ _ _).trans (cell m c _ ⟨(i 0).val / 512, point_lt (i 0)⟩ rfl _ _).symm

/-- The call and its idealization are one text. -/
theorem same₀ {F : FTy → Type} [FloatOps F] : Cert.Kernel15.defs₀ (F := F) = Cert.Kernel15Ideal.defs₀ (F := F) := by
  unfold Cert.Kernel15.defs₀ Cert.Kernel15Ideal.defs₀
  refine congrArg Defs.onTc (funext fun l => funext fun x => ?_)
  match l, x with
  | 0, (t, s) => rfl
theorem same {F : FTy → Type} [FloatOps F] : Cert.Kernel15.defs (F := F) = Cert.Kernel15Ideal.defs (F := F) :=
  congrArg (Pipeline.defs Cert.Kernel15Ideal.pcfgs) same₀

theorem frame_kernel : Cert.quiescent_Kernel15 := fun m ρ _ => by
  rw [same]
  exact (θ_run Cert.Kernel15Ideal.defs _ _).mono (fun _ h => h) (Gen.frame (F := Bits) m ρ)
theorem frame_ideal : Cert.quiescent_Kernel15Ideal := fun m ρ _ => Gen.frame (F := Ideal) m ρ
theorem frame_reference : Cert.quiescent_Reference15Ideal := fun m ρ _ =>
  (θ_run _ _ _).mono (fun r h => ⟨fun c => (h c).2, sem_eq_zero_of_no_sems (by decide) r.2⟩) (Cert.Reference15Ideal.Value.run (F := Ideal) m ρ)
theorem preserves : Cert.preserves_Kernel15_Kernel15Ideal := trivial

end Cert.Norm
-- ==== Proof.Final.lean ====
/-
  The loss call: each tile of rows norms its rows, adds their squared errors to the loss and their terms to the gradient of the
  final norm's weight, and leaves their gradients.
-/
module

public import proofs.«01_k».proof.Proof.Gen.Kernel16Ideal.Value
public import proofs.«01_k».proof.Proof.Gen.Kernel16
public import proofs.«01_k».proof.Proof.Gen.Reference16Ideal.Run
public import proofs.«01_k».proof.Proof.NormBwd
public import Idealize.ShloMosaic.Lib.Pipeline.ValueKit.Acc

@[expose] public section

noncomputable section

namespace Cert.Final

open Cert.Kernel16Ideal Cert.Kernel16Ideal.Gen Cert.Ffn Cert.Tiles
open Idealize.ShloMosaic Idealize.ShloMosaic.TcCoe Idealize.ShloMosaic.Tactic Idealize.SL.Sem

section Payloads

variable {F : FTy → Type} [FloatOps F]
variable (c : Dev nD) (i : grid0.Coords) (a1 : Memref sig .tc .vmem S512x2048 .f32) (h1 : a1.IsWhole) (a2 : Memref sig .tc .vmem S512x2048 .f32) (h2 : a2.IsWhole)
  (a3 : Memref sig .tc .vmem S1x2048 .f32) (h3 : a3.IsWhole) (a4 : Memref sig .tc .vmem S1x128 .f32) (h4 : a4.IsWhole)
  (a5 : Memref sig .tc .vmem S512x2048 .f32) (h5 : a5.IsWhole) (a6 : Memref sig .tc .vmem S1x2048 .f32) (h6 : a6.IsWhole)
  (x0 x1 : Vec F S512x2048 .f32) (x2 y5 : Vec F S1x2048 .f32) (y3 : Vec F S1x128 .f32)

theorem stored_first (hc0 : cond0_0 i) : out0_A_3 c i a1 h1 a2 h2 a3 h3 a4 h4 a5 h5 a6 h6 hc0 x0 x1 x2 = k0_pay8 x0 x2 x1 k0_pay3
    ∧ out0_A_4 c i a1 h1 a2 h2 a3 h3 a4 h4 a5 h5 a6 h6 hc0 x0 x1 x2 = k0_pay2 x2 (k0_pay5 x0) (k0_pay6 x0) (k0_pay9 x0 x2 x1)
    ∧ out0_A_5 c i a1 h1 a2 h2 a3 h3 a4 h4 a5 h5 a6 h6 hc0 x0 x1 x2 = k0_pay1 (k0_pay6 x0) (k0_pay9 x0 x2 x1) k0_pay4 := by
  unfold out0_A_3 out0_A_4 out0_A_5
  rw [View.read_writes_eq_canon _ _ _ (cover0_A_3 c i a1 h1 a2 h2 a3 h3 a4 h4 a5 h5 a6 h6 hc0 x0 x1 x2),
    View.read_writes_eq_canon _ _ _ (cover0_A_4 c i a1 h1 a2 h2 a3 h3 a4 h4 a5 h5 a6 h6 hc0 x0 x1 x2),
    View.read_writes_eq_canon _ _ _ (cover0_A_5 c i a1 h1 a2 h2 a3 h3 a4 h4 a5 h5 a6 h6 hc0 x0 x1 x2)]
  unfold kernelRun0_A
  dsimp only
  sl_unfold_words
  simp only [View.canon_unit_zero (S := S512x2048) zeros2, View.canon_cons_unit_zero (S := S1x2048) zeros2, View.readCov_unit_zero (S := S1x2048) _ zeros2,
    View.canon_cons_unit_zero (S := S1x128) zeros2, View.readCov_unit_zero (S := S1x128) _ zeros2, View.readAt_eq_ld, h1.read_unread, h2.read_unread,
    h3.read_unread, View.ld_unit_zero (S := S512x2048) zeros2, View.ld_unit_zero (S := S1x2048) zeros2, and_self]

theorem stored_next (hc0 : ¬cond0_0 i) : out0_B_3 c i a1 h1 a2 h2 a3 h3 a4 h4 a5 h5 a6 h6 hc0 x0 x1 x2 y3 y5 = k0_pay8 x0 x2 x1 y3
    ∧ out0_B_4 c i a1 h1 a2 h2 a3 h3 a4 h4 a5 h5 a6 h6 hc0 x0 x1 x2 y3 y5 = k0_pay2 x2 (k0_pay5 x0) (k0_pay6 x0) (k0_pay9 x0 x2 x1)
    ∧ out0_B_5 c i a1 h1 a2 h2 a3 h3 a4 h4 a5 h5 a6 h6 hc0 x0 x1 x2 y3 y5 = k0_pay1 (k0_pay6 x0) (k0_pay9 x0 x2 x1) y5 := by
  unfold out0_B_3 out0_B_4 out0_B_5
  rw [View.read_writes_eq_canon _ _ _ (cover0_B_3 c i a1 h1 a2 h2 a3 h3 a4 h4 a5 h5 a6 h6 hc0 x0 x1 x2 y3 y5),
    View.read_writes_eq_canon _ _ _ (cover0_B_4 c i a1 h1 a2 h2 a3 h3 a4 h4 a5 h5 a6 h6 hc0 x0 x1 x2 y3 y5),
    View.read_writes_eq_canon _ _ _ (cover0_B_5 c i a1 h1 a2 h2 a3 h3 a4 h4 a5 h5 a6 h6 hc0 x0 x1 x2 y3 y5)]
  unfold kernelRun0_B
  dsimp only
  sl_unfold_words
  simp only [View.canon_unit_zero (S := S512x2048) zeros2, View.canon_unit_zero (S := S1x2048) zeros2, View.canon_unit_zero (S := S1x128) zeros2,
    View.readAt_eq_ld, h1.read_unread, h2.read_unread, h3.read_unread, h4.read_unread, h6.read_unread, View.ld_unit_zero (S := S512x2048) zeros2,
    View.ld_unit_zero (S := S1x2048) zeros2, View.ld_unit_zero (S := S1x128) zeros2, and_self]

end Payloads

/-- A row's errors, its loss, the gradient of its output and the cotangent of its normed values. -/
def err (x y g : Fin 2048 → EReal) (k : Fin 2048) : EReal := x k * factor x * g k - y k
def lossOf (x y g : Fin 2048 → EReal) : EReal := Ideal.div (∑ k, err x y g k * err x y g k) (Ideal.ofBits .f32 0x45000000#32)
def outGrad (x y g : Fin 2048 → EReal) (k : Fin 2048) : EReal := err x y g k * Ideal.ofBits .f32 0x3A000000#32
def cot (x y g : Fin 2048 → EReal) (k : Fin 2048) : EReal := outGrad x y g k * g k
/-- What some rows add to the loss and to the gradient of the weight at a column. -/
def terms (j : Fin 2) {n : ℕ} (X Y : Fin n → Fin 2048 → EReal) (g : Fin 2048 → EReal) (k : Fin 2048) : EReal :=
  match j with
  | 0 => Ideal.ofBits .f32 0x3F000000#32 * ∑ r, lossOf (X r) (Y r) g
  | 1 => ∑ r, outGrad (X r) (Y r) g k * (X r k * factor (X r))

section Read

variable (r : Fin 512) (k : Fin 2048) (l : Fin 128) (x0 x1 : Vec Ideal S512x2048 .f32) (x2 y : Vec Ideal S1x2048 .f32) (z : Vec Ideal S1x128 .f32)

theorem factor_at : (k0_pay5 x0 (ix2 r 0) : EReal) = factor (row x0 r) := by
  unfold k0_pay5 factor meanSq row
  pointwise
theorem normed_at : (k0_pay6 x0 (ix2 r k) : EReal) = row x0 r k * factor (row x0 r) := by
  unfold k0_pay6
  rw [← factor_at]
  pointwise
  rfl
theorem err_at : (k0_pay7 x0 x2 x1 (ix2 r k) : EReal) = err (row x0 r) (row x1 r) (row x2 0) k := by
  unfold k0_pay7 err
  rw [← normed_at]
  pointwise
  rfl
theorem grad_at : (k0_pay9 x0 x2 x1 (ix2 r k) : EReal) = outGrad (row x0 r) (row x1 r) (row x2 0) k := by
  unfold k0_pay9 outGrad
  rw [← err_at]
  pointwise
theorem back_at : (k0_pay2 x2 (k0_pay5 x0) (k0_pay6 x0) (k0_pay9 x0 x2 x1) (ix2 r k) : EReal) = back (row x0 r) (cot (row x0 r) (row x1 r) (row x2 0)) k := by
  unfold k0_pay2 back cot
  simp only [← normed_at, ← grad_at]
  rw [← factor_at]
  pointwise
  rfl
theorem reset_at : (k0_pay3 (F := Ideal)) (ix2 0 l) = (0 : EReal) ∧ (k0_pay4 (F := Ideal)) (ix2 0 k) = (0 : EReal) := by
  unfold k0_pay3 k0_pay4
  refine ⟨?_, ?_⟩ <;> pointwise
theorem loss_at : (k0_pay8 x0 x2 x1 z (ix2 0 l) : EReal) = z (ix2 0 l) + terms 0 (row x0) (row x1) (row x2 0) k := by
  unfold k0_pay8 terms lossOf
  simp only [← err_at]
  pointwise
theorem wgrad_at : (k0_pay1 (k0_pay6 x0) (k0_pay9 x0 x2 x1) y (ix2 0 k) : EReal) = y (ix2 0 k) + terms 1 (row x0) (row x1) (row x2 0) k := by
  unfold k0_pay1 terms
  simp only [← normed_at, ← grad_at]
  pointwise

end Read

variable (m : (ℓ : Loc nD τ sig) → Buf (Elt Ideal) ℓ) (ρ : Dev nD → PrngReg) (c : Dev nD)

theorem idx : ∀ t : Fin cfg0.N, win0_0.index t = ![t.val, 0] ∧ win0_1.index t = ![t.val, 0] ∧ win0_4.index t = ![t.val, 0] ∧ win0_2.index t = ![0, 0]
    ∧ win0_3.index t = ![0, 0] ∧ win0_5.index t = ![0, 0] := (by decide +kernel : ∀ t : Fin grid0.N, _)

/-- The call's arguments by rows. -/
abbrev xs : Fin 8192 → Fin 2048 → EReal := row (m ((c : Thread nD τ).loc main_arg0) : S8192x2048.Idx → EReal)
abbrev ys : Fin 8192 → Fin 2048 → EReal := row (m ((c : Thread nD τ).loc main_arg1) : S8192x2048.Idx → EReal)
abbrev gs : Fin 2048 → EReal := row (m ((c : Thread nD τ).loc main_arg2) : S1x2048.Idx → EReal) 0

section Blocks

variable (q : Fin 16) (t : Fin cfg0.N) (ht : t.val = q.1)

section Tall
include ht

theorem row0 : row (iblk m c 0 t : Vec Ideal S512x2048 .f32) = fun r => xs m c (tileAt q r) := by
  funext r k
  unfold xs
  rw [← V_main_arg0 m c]
  refine congrArg (V m c main_arg0) (funext fun a => Fin.ext ((Pipeline.Window.rect_emb_val (cfg0.win 0) t _ a).trans ?_))
  match a with
  | 0 => exact ax0 (idx t).1 ht 512 r.1
  | 1 => exact ax1 (idx t).1 2048 k.1
theorem row1 : row (iblk m c 1 t : Vec Ideal S512x2048 .f32) = fun r => ys m c (tileAt q r) := by
  funext r k
  unfold ys
  rw [← V_main_arg1 m c]
  refine congrArg (V m c main_arg1) (funext fun a => Fin.ext ((Pipeline.Window.rect_emb_val (cfg0.win 1) t _ a).trans ?_))
  match a with
  | 0 => exact ax0 (idx t).2.1 ht 512 r.1
  | 1 => exact ax1 (idx t).2.1 2048 k.1

end Tall

theorem row2 : row (iblk m c 2 t : Vec Ideal S1x2048 .f32) 0 = gs m c := by
  funext k
  unfold gs
  rw [← V_main_arg2 m c]
  refine congrArg (V m c main_arg2) (funext fun a => Fin.ext ((Pipeline.Window.rect_emb_val (cfg0.win 2) t _ a).trans ?_))
  match a with
  | 0 => exact ax0 (idx t).2.2.2.1 rfl 1 0
  | 1 => exact ax1 (idx t).2.2.2.1 2048 k.1

end Blocks

theorem tile (t : Fin cfg0.N) : (outsAt0 m c t.val t.isLt).2.1
    = k0_pay2 (iblk m c 2 t) (k0_pay5 (iblk m c 0 t)) (k0_pay6 (iblk m c 0 t)) (k0_pay9 (iblk m c 0 t) (iblk m c 2 t) (iblk m c 1 t)) := by
  by_cases h0 : t.val % 16 = 0
  · rw [outsAt0_A m c t h0]
    dsimp only
    rw [(stored_first ..).2.1]
  · rw [outsAt0_B m c t h0]
    dsimp only
    rw [(stored_next ..).2.1]

theorem cell (q : Fin 16) (t : Fin cfg0.N) (ht : t.val = q.1) (r : Fin 512) (k : Fin 2048) :
    (((dats m 0 c).arrAt 4 cfg0.N : S8192x2048.Idx → EReal) (ix2 (tileAt q r) k) : EReal)
    = back (xs m c (tileAt q r)) (cot (xs m c (tileAt q r)) (ys m c (tileAt q r)) (gs m c)) k := by
  have e := back_at r k (iblk m c 0 t) (iblk m c 1 t) (iblk m c 2 t)
  rw [← tile, row0 m c q t ht, row1 m c q t ht, row2 m c t] at e
  refine Eq.trans (Eq.trans (congrArg _ (funext fun a => Fin.ext ?_)) ((congrFun (Value.blocks4 m c t (flush0_4 t)) (ix2 r k)).trans (congrFun (Value.flushed4 m c t) (ix2 r k)))) e
  refine Eq.trans ?_ (Pipeline.Window.rect_emb_val (cfg0.win 4) t _ a).symm
  match a with
  | 0 => exact (ax0 (idx t).2.2.1 ht 512 r.1).symm
  | 1 => exact (ax1 (idx t).2.2.1 2048 k.1).symm

/-- What the point's two running sums hold at a lane and at a column, and what a tile adds to them. -/
def kept (o : Vec Ideal S1x128 .f32 × Vec Ideal S512x2048 .f32 × Vec Ideal S1x2048 .f32) (l : Fin 128) (k : Fin 2048) (j : Fin 2) : EReal :=
  match j with
  | 0 => o.1 (ix2 0 l)
  | 1 => o.2.2 (ix2 0 k)
def part (j : Fin 2) (k : Fin 2048) (q : Fin 16) : EReal := terms j (fun r : Fin 512 => xs m c (tileAt q r)) (fun r => ys m c (tileAt q r)) (gs m c) k

theorem part_eq (j : Fin 2) (k : Fin 2048) (q : Fin 16) (t : Fin cfg0.N) (ht : t.val = q.1) :
    terms j (row (iblk m c 0 t : Vec Ideal S512x2048 .f32)) (row (iblk m c 1 t : Vec Ideal S512x2048 .f32)) (row (iblk m c 2 t : Vec Ideal S1x2048 .f32) 0) k
    = part m c j k q := by
  rw [row0 m c q t ht, row1 m c q t ht, row2 m c t]
  rfl

theorem sum_first (l : Fin 128) (j : Fin 2) (k : Fin 2048) (h : 0 < cfg0.N) : kept (outsAt0 m c 0 h) l k j = part m c j k 0 := by
  rw [outsAt0_A m c ⟨0, h⟩ rfl, ← part_eq m c j k 0 ⟨0, h⟩ rfl]
  unfold kept
  dsimp only
  rw [(stored_first ..).1, (stored_first ..).2.2, loss_at k l, wgrad_at, (reset_at k l).1, (reset_at k l).2]
  simp only [zero_add]
  fin_cases j <;> rfl

theorem sum_next (l : Fin 128) (j : Fin 2) (k : Fin 2048) (n : ℕ) (h : n + 1 < cfg0.N) (h' : n < cfg0.N) (h'' : n + 1 < 16) :
    kept (outsAt0 m c (n + 1) h) l k j = kept (outsAt0 m c n h') l k j + part m c j k ⟨n + 1, h''⟩ := by
  rw [outsAt0_B m c ⟨n + 1, h⟩ (by show ¬(n + 1) % 16 = 0; omega), ← part_eq m c j k ⟨n + 1, h''⟩ ⟨n + 1, h⟩ rfl]
  unfold kept
  dsimp only
  rw [(stored_next ..).1, (stored_next ..).2.2, loss_at k l, wgrad_at]
  fin_cases j <;> rfl

theorem point_lt (i : Fin 8192) : i.1 / 512 < cfg0.N := by rw [show cfg0.N = 16 from N_0]; omega
theorem last_lt : 15 < cfg0.N := by rw [show cfg0.N = 16 from N_0]; omega

theorem sum_all (l : Fin 128) (j : Fin 2) (k : Fin 2048) : kept (outsAt0 m c 15 last_lt) l k j = terms j (xs m c) (ys m c) (gs m c) k := by
  refine (over_tiles cfg0.N N_0 _ (fun n h => kept (outsAt0 m c n h) l k j) (sum_first m c l j k) (sum_next m c l j k) last_lt).trans ?_
  unfold part terms
  match j with
  | 0 => dsimp only; rw [half_val, mul_sum _ (by norm_num), sum_tiles fun i => lossOf (xs m c i) (ys m c i) (gs m c)]
  | 1 => exact sum_tiles fun i => outGrad (xs m c i) (ys m c i) (gs m c) k * (xs m c i k * factor (xs m c i))

/-- Only the last point writes the sums back. -/
theorem only_last (t t' : Fin cfg0.N) (h : t.val % 16 = 15) (h' : t'.val % 16 = 15) : t = t' := Fin.ext (by
  have l : t.val < 16 := Nat.lt_of_lt_of_eq t.isLt N_0
  have l' : t'.val < 16 := Nat.lt_of_lt_of_eq t'.isLt N_0
  omega)

theorem cell3 (l : Fin 128) (k : Fin 2048) : (((dats m 0 c).arrAt 3 cfg0.N : S1x128.Idx → EReal) (ix2 0 l) : EReal) = terms 0 (xs m c) (ys m c) (gs m c) k := by
  rw [← sum_all m c l]
  refine Eq.trans (congrArg _ (funext fun a => Fin.ext ?_)) ((congrFun ((dats m 0 c).read_blk_arrAt_eq_flushed 3
    (fun t t' h h' hne => absurd (only_last t t' ((flush0_3 t).mp h) ((flush0_3 t').mp h')) hne) cfg0.N ⟨15, last_lt⟩ last_lt
    ((flush0_3 ⟨15, last_lt⟩).mpr rfl)) (ix2 0 l)).trans (congrFun (Value.flushed3 m c ⟨15, last_lt⟩) (ix2 0 l)))
  refine Eq.trans ?_ (Pipeline.Window.rect_emb_val (cfg0.win 3) ⟨15, last_lt⟩ _ a).symm
  match a with
  | 0 => exact (ax0 (idx ⟨15, last_lt⟩).2.2.2.2.1 rfl 1 0).symm
  | 1 => exact (ax1 (idx ⟨15, last_lt⟩).2.2.2.2.1 128 l.1).symm

theorem cell5 (k : Fin 2048) : (((dats m 0 c).arrAt 5 cfg0.N : S1x2048.Idx → EReal) (ix2 0 k) : EReal) = terms 1 (xs m c) (ys m c) (gs m c) k := by
  rw [← sum_all m c 0]
  refine Eq.trans (congrArg _ (funext fun a => Fin.ext ?_)) ((congrFun ((dats m 0 c).read_blk_arrAt_eq_flushed 5
    (fun t t' h h' hne => absurd (only_last t t' ((flush0_5 t).mp h) ((flush0_5 t').mp h')) hne) cfg0.N ⟨15, last_lt⟩ last_lt
    ((flush0_5 ⟨15, last_lt⟩).mpr rfl)) (ix2 0 k)).trans (congrFun (Value.flushed5 m c ⟨15, last_lt⟩) (ix2 0 k)))
  refine Eq.trans ?_ (Pipeline.Window.rect_emb_val (cfg0.win 5) ⟨15, last_lt⟩ _ a).symm
  match a with
  | 0 => exact (ax0 (idx ⟨15, last_lt⟩).2.2.2.2.2 rfl 1 0).symm
  | 1 => exact (ax1 (idx ⟨15, last_lt⟩).2.2.2.2.2 2048 k.1).symm

end Cert.Final

namespace Cert.FinalRef

open Cert.Reference16Ideal Cert.Final Cert.Tiles Cert.NormBwdRef
open Cert.Reference16Ideal.Facts₀
open Idealize.ShloMosaic Idealize.ShloMosaic.TcCoe Idealize.ShloMosaic.Tactic

variable (x y : FVec Ideal S8192x2048 .f32) (g : FVec Ideal S1x2048 .f32) (i : Fin 8192) (k : Fin 2048) (l : Fin 128)

/-- The two halves of the error's factor come to the width's inverse. -/
theorem halves (e : EReal) : Ideal.div (Ideal.ofBits .f32 0x3F000000#32 * Ideal.ofBits .f32 0x3F800000#32) (Ideal.ofBits .f32 0x45000000#32) * (Ideal.ofBits .f32 0x40000000#32 * e)
    = e * Ideal.ofBits .f32 0x3A000000#32 := by
  have one : Ideal.ofBits .f32 0x3F800000#32 = ((1 : ℝ) : EReal) := by simp [Ideal.ofBits, Ideal.ieee, -EReal.coe_mul]; norm_num
  have two : Ideal.ofBits .f32 0x40000000#32 = ((2 : ℝ) : EReal) := by simp [Ideal.ofBits, Ideal.ieee, -EReal.coe_mul]; norm_num
  have inv : Ideal.ofBits .f32 0x3A000000#32 = ((1 / 2048 : ℝ) : EReal) := by simp [Ideal.ofBits, Ideal.ieee, -EReal.coe_mul]; norm_num
  rw [div_width, half_val, one, two, inv, ← mul_assoc, mul_comm e, ← EReal.coe_mul, ← EReal.coe_mul, ← EReal.coe_mul]
  norm_num

/-- The reference's errors, the gradients of its outputs and the cotangents of its normed values. -/
def errs : FVec Ideal S8192x2048 .f32 := subf (mulf (normed x) (broadcastInDim S8192x2048 ![0, 1] bcast_S1x2048_S8192x2048_0_1 g)) y
def outGrads : FVec Ideal S8192x2048 .f32 := mulf (broadcastInDim S8192x2048 ![0] bcast_S8192_S8192x2048_0 (Host.divf (broadcastInDim S8192 ![] bcast_S_S8192
  (mulf (constant S_ .f32 0x3F000000#32) (constant S_ .f32 0x3F800000#32))) (broadcastInDim S8192 ![] bcast_S_S8192 (constant S_ .f32 0x45000000#32))))
  (mulf (broadcastInDim S8192x2048 ![] bcast_S_S8192x2048 (constant S_ .f32 0x40000000#32)) (errs x y g))
def cots : FVec Ideal S8192x2048 .f32 := mulf (outGrads x y g) (broadcastInDim S8192x2048 ![0, 1] bcast_S1x2048_S8192x2048_0_1 g)

theorem errs_at : (errs x y g (ix2 i k) : EReal) = err (row x i) (row y i) (row g 0) k := by
  unfold errs err normed
  rw [← fac_at]
  pointwise
  rfl
theorem outGrads_at : (outGrads x y g (ix2 i k) : EReal) = outGrad (row x i) (row y i) (row g 0) k := by
  unfold outGrads outGrad
  rw [← errs_at, ← halves]
  pointwise
theorem cots_at : (cots x y g (ix2 i k) : EReal) = cot (row x i) (row y i) (row g 0) k := by
  unfold cots cot
  rw [← outGrads_at]
  pointwise
  rfl

theorem ref_dx : (addf (addf (mulf (cots x y g) (broadcastInDim S8192x2048 ![0, 1] bcast_S8192x1_S8192x2048_0_1 (Host.rsqrt (ms x))))
    (mulf x (broadcastInDim S8192x2048 ![0] bcast_S8192_S8192x2048_0 (thr x (cots x y g)))))
    (mulf (broadcastInDim S8192x2048 ![0] bcast_S8192_S8192x2048_0 (thr x (cots x y g))) x) (ix2 i k) : EReal)
    = back (row x i) (cot (row x i) (row y i) (row g 0)) k := by
  have e : row (cots x y g) i = cot (row x i) (row y i) (row g 0) := funext fun n => cots_at x y g i n
  rw [← e, ← back_eq, ← thr_at, ← fac_at]
  pointwise
  rfl

theorem ref_loss : (broadcastInDim S1x128 ![] bcast_S_S1x128 (mulf (constant S_ .f32 0x3F000000#32) (Host.reduceAdd (Host.divf (Host.reduceAdd (mulf (errs x y g) (errs x y g))
    (constant S_ .f32 0x00000000#32) reducesTo_S8192x2048_S8192_d1 h_S_) (broadcastInDim S8192 ![] bcast_S_S8192 (constant S_ .f32 0x45000000#32)))
    (constant S_ .f32 0x00000000#32) reducesTo_S8192_S_d0 h_S_)) (ix2 0 l) : EReal) = terms 0 (row x) (row y) (row g 0) k := by
  unfold terms lossOf
  simp only [← errs_at]
  pointwise

theorem ref_g : (shapeCast S1x2048 (Host.reduceAdd (mulf (normed x) (outGrads x y g)) (constant S_ .f32 0x00000000#32) reducesTo_S8192x2048_S2048_d0 h_S_)
    shapeCasts_S2048_S1x2048 (ix2 0 k) : EReal) = terms 1 (row x) (row y) (row g 0) k := by
  unfold terms normed
  simp only [← outGrads_at, ← fac_at]
  pointwise
  unfold row
  exact Finset.sum_congr rfl fun i _ => mul_comm _ _

end Cert.FinalRef

namespace Cert.Final

open Cert.Kernel16Ideal Cert.Kernel16Ideal.Gen Cert.Ffn Cert.Tiles
open Idealize.ShloMosaic Idealize.ShloMosaic.TcCoe Idealize.ShloMosaic.Tactic Idealize.SL.Sem

theorem algebraic : Cert.algebraic_Kernel16Ideal_Reference16Ideal := by
  intro m g m' g' hp he
  refine ⟨_, _, _, Value.run_blocks m g, (θ_run _ _ _).mono (fun r h c => ⟨(h c).1.trans ?_, (h c).2.1.trans ?_, (h c).2.2.1.trans ?_, (h c).2.2.2⟩)
    (Cert.Reference16Ideal.Value.run m' g')⟩
  all_goals
    obtain ⟨e0, e1, e2⟩ := he c
    funext i
  · rw [e0, e1, e2, Cert.Tiles.row1 i]
    exact (Cert.FinalRef.ref_loss _ _ _ 0 _).trans (cell3 m c _ 0).symm
  · unfold Cert.Reference16Ideal.Value.res_main_v48
    rw [e0, e1, e2, rows2 i, ← tile_eq (i 0)]
    exact (Cert.FinalRef.ref_dx _ _ _ _ _).trans (cell m c _ ⟨(i 0).val / 512, point_lt (i 0)⟩ rfl _ _).symm
  · rw [e0, e1, e2, Cert.Tiles.row1 i]
    exact (Cert.FinalRef.ref_g _ _ _ _).trans (cell5 m c _).symm

/-- The call and its idealization are one text. -/
theorem same₀ {F : FTy → Type} [FloatOps F] : Cert.Kernel16.defs₀ (F := F) = Cert.Kernel16Ideal.defs₀ (F := F) := by
  unfold Cert.Kernel16.defs₀ Cert.Kernel16Ideal.defs₀
  refine congrArg Defs.onTc (funext fun l => funext fun x => ?_)
  match l, x with
  | 0, (t, s) => rfl
theorem same {F : FTy → Type} [FloatOps F] : Cert.Kernel16.defs (F := F) = Cert.Kernel16Ideal.defs (F := F) :=
  congrArg (Pipeline.defs Cert.Kernel16Ideal.pcfgs) same₀

theorem frame_kernel : Cert.quiescent_Kernel16 := fun m ρ _ => by
  rw [same]
  exact (θ_run Cert.Kernel16Ideal.defs _ _).mono (fun _ h => h) (Gen.frame (F := Bits) m ρ)
theorem frame_ideal : Cert.quiescent_Kernel16Ideal := fun m ρ _ => Gen.frame (F := Ideal) m ρ
theorem frame_reference : Cert.quiescent_Reference16Ideal := fun m ρ _ =>
  (θ_run _ _ _).mono (fun r h => ⟨fun c => (h c).2.2.2, sem_eq_zero_of_no_sems (by decide) r.2⟩) (Cert.Reference16Ideal.Value.run (F := Ideal) m ρ)
theorem preserves : Cert.preserves_Kernel16_Kernel16Ideal := trivial

end Cert.Final
-- ==== Proof.Update.lean ====
/-
  The optimiser's step at one element: the decayed moments, the step they give, and the reference's arrays at an index.
-/
module

public import proofs.«01_k».proof.Proof.Tiles

@[expose] public section

noncomputable section

namespace Cert.Update

open Idealize.ShloMosaic

/-- A moment after its decay and its addend, and the step at one element from the gradient, the weight and the moments. -/
def first (g m : EReal) : EReal := Ideal.ofBits .f32 0x3F666666#32 * m + Ideal.ofBits .f32 0x3DCCCCCD#32 * g
def second (g v : EReal) : EReal := Ideal.ofBits .f32 0x3F7FBE77#32 * v + Ideal.ofBits .f32 0x3A83126F#32 * (g * g)
def step (g w m v : EReal) : EReal := Ideal.ofBits .f32 0xBA83126F#32 * (Ideal.div (Ideal.div (first g m) (Ideal.ofBits .f32 0x3F26BD02#32))
  (Ideal.sqrt (Ideal.div (second g v) (Ideal.ofBits .f32 0x3C231ACC#32)) + Ideal.ofBits .f32 0x322BCC77#32) + Ideal.ofBits .f32 0x3C23D70A#32 * w)

/-- The devices' parts of one element added up. -/
def parts {p n k : ℕ} (P : (⟨3, ![p, n, k]⟩ : Shape).Idx → EReal) (i : Fin n) (j : Fin k) : EReal := ∑ d : Fin p, P (ix3 d i j)

section Reference

variable {S : Shape} (z : (⟨0, ![]⟩ : Shape).BroadcastsInDim S (![] : Fin 0 → Fin S.rank)) (b : BitVec 32) (G w m v : FVec Ideal S .f32)

/-- One number at every index, and the reference's arrays. -/
abbrev all : FVec Ideal S .f32 := broadcastInDim S ![] z (constant (⟨0, ![]⟩ : Shape) .f32 b)
abbrev firsts : FVec Ideal S .f32 := addf (mulf (all z 0x3F666666#32) m) (mulf (all z 0x3DCCCCCD#32) G)
abbrev seconds : FVec Ideal S .f32 := addf (mulf (all z 0x3F7FBE77#32) v) (mulf (all z 0x3A83126F#32) (mulf G G))
abbrev steps : FVec Ideal S .f32 := mulf (all z 0xBA83126F#32) (addf (Host.divf (Host.divf (firsts z G m) (all z 0x3F26BD02#32))
  (addf (Host.sqrt (Host.divf (seconds z G v) (all z 0x3C231ACC#32))) (all z 0x322BCC77#32))) (mulf (all z 0x3C23D70A#32) w))

/-- Four arrays with the right elements are the reference's. -/
theorem close {g d mo vo : FVec Ideal S .f32} (h : ∀ i, (g i : EReal) = G i ∧ (d i : EReal) = step (G i) (w i) (m i) (v i) ∧ (mo i : EReal) = first (G i) (m i) ∧ (vo i : EReal) = second (G i) (v i)) :
    G = g ∧ steps z G w m v = d ∧ firsts z G m = mo ∧ seconds z G v = vo :=
  ⟨funext fun i => (h i).1.symm, funext fun i => (h i).2.1.symm, funext fun i => (h i).2.2.1.symm, funext fun i => (h i).2.2.2.symm⟩

end Reference

section Blocks

variable {b n k : ℕ}

/-- An index's place in its block, for blocks of `b` that follow one another. -/
def within (hb : 0 < b) (i : Fin n) : Fin b := ⟨i.1 % b, Nat.mod_lt _ hb⟩

theorem place {t : ℕ} (hb : 0 < b) (i : Fin n) (h : t = i.1 / b) : t * b + (within hb i).1 = i.1 := by
  subst h
  exact Nat.div_add_mod' i.1 b
theorem whole (x : ℕ) : 0 * k + x = x := by omega

/-- Where a block's element lies in the array. -/
theorem at2 {f : Fin 2 → ℕ} {t : ℕ} (h : f = ![t, 0]) (hb : 0 < b) (i : Fin n) (ht : t = i.1 / b) (j : Fin k) (a : Fin 2) :
    f a * (![b, k] : Fin 2 → ℕ) a + ((ix2 (within hb i) j : (⟨2, ![b, k]⟩ : Shape).Idx) a).val = ((ix2 i j : (⟨2, ![n, k]⟩ : Shape).Idx) a).val := by
  subst h
  match a with
  | 0 => exact place hb i ht
  | 1 => exact whole j.1
theorem at3 {f : Fin 3 → ℕ} {t p : ℕ} (h : f = ![0, t, 0]) (hb : 0 < b) (i : Fin n) (ht : t = i.1 / b) (d : Fin p) (j : Fin k) (a : Fin 3) :
    f a * (![p, b, k] : Fin 3 → ℕ) a + ((ix3 d (within hb i) j : (⟨3, ![p, b, k]⟩ : Shape).Idx) a).val = ((ix3 d i j : (⟨3, ![p, n, k]⟩ : Shape).Idx) a).val := by
  subst h
  match a with
  | 0 => exact whole d.1
  | 1 => exact place hb i ht
  | 2 => exact whole j.1
theorem at4 {f : Fin 4 → ℕ} {t : ℕ} (l : Fin 2) (h : f = ![0, l.1, t, 0]) (hb : 0 < b) (i : Fin n) (ht : t = i.1 / b) (j : Fin k) (a : Fin 4) :
    f a * (![1, 1, b, k] : Fin 4 → ℕ) a + ((ix4 0 0 (within hb i) j : (⟨4, ![1, 1, b, k]⟩ : Shape).Idx) a).val = ((ix4 0 l i j : (⟨4, ![1, 2, n, k]⟩ : Shape).Idx) a).val := by
  subst h
  match a with
  | 0 => rfl
  | 1 => exact mul_one l.1
  | 2 => exact place hb i ht
  | 3 => exact whole j.1

end Blocks

end Cert.Update
-- ==== Proof.Adam.lean ====
/-
  The optimiser's call of one weight: each tile of rows adds up the devices' parts of the gradient, moves both moments and
  leaves the weight's step.
-/
module

public import proofs.«01_k».proof.Proof.Gen.Kernel17Ideal.Value
public import proofs.«01_k».proof.Proof.Gen.Kernel17
public import proofs.«01_k».proof.Proof.Gen.Reference17Ideal.Run
public import proofs.«01_k».proof.Proof.Update
public import Idealize.ShloMosaic.Lib.Pipeline.ValueKit.Acc

@[expose] public section

noncomputable section

namespace Cert.Adam

open Cert.Kernel17Ideal Cert.Kernel17Ideal.Gen Cert.Ffn Cert.Tiles Cert.Update
open Idealize.ShloMosaic Idealize.ShloMosaic.TcCoe Idealize.ShloMosaic.Tactic Idealize.SL.Sem

/-- What a tile leaves, from the gradient's element `g`. -/
theorem stored (r : Fin 128) (k : Fin 899) (x0 : Vec Ideal S8x128x899 .bf16) (x1 x2 x3 : Vec Ideal S128x899 .f32) (g : EReal) (h : parts (x0 : S8x128x899.Idx → EReal) r k = g) :
    (out0_4 x0 x1 x2 x3 (ix2 r k) : EReal) = g ∧ (out0_5 x0 x1 x2 x3 (ix2 r k) : EReal) = step g (x1 (ix2 r k)) (x2 (ix2 r k)) (x3 (ix2 r k))
    ∧ (out0_6 x0 x1 x2 x3 (ix2 r k) : EReal) = first g (x2 (ix2 r k)) ∧ (out0_7 x0 x1 x2 x3 (ix2 r k) : EReal) = second g (x3 (ix2 r k)) := by
  have hg : (k0_pay5 x0 x1 x2 x3 (ix2 r k) : EReal) = g := by
    unfold k0_pay5 k0_pay4
    rw [← h, parts, Fin.sum_univ_eight]
    pointwise
  unfold out0_4 out0_5 out0_6 out0_7 r0_8
  simp only [View.canon_unit_zero (S := S128x899) zeros2, View.ld_unit_zero (S := S128x899) zeros2]
  rw [← hg]
  exact ⟨rfl, rfl, rfl, rfl⟩

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The four results at an index. -/
theorem cell (G : FVec Ideal S2048x899 .f32) (h : G = Host.reduceAdd (F := Ideal) (extf .f32 (m ((c : Thread nD τ).loc main_arg0) : FVec Ideal S8x2048x899 .bf16) Reference17Ideal.Facts₀.bitsLt_bf16_f32)
    (constant Reference17Ideal.S_ .f32 0x00000000#32) Reference17Ideal.Facts₀.reducesTo_S8x2048x899_S2048x899_d0 Reference17Ideal.Facts₀.h_S_) (i : S2048x899.Idx) :
    (((dats m 0 c).arrAt 4 cfg0.N : S2048x899.Idx → EReal) i : EReal) = G i
    ∧ (((dats m 0 c).arrAt 5 cfg0.N : S2048x899.Idx → EReal) i : EReal) = step (G i) ((m ((c : Thread nD τ).loc main_arg1) : S2048x899.Idx → EReal) i) ((m ((c : Thread nD τ).loc main_arg2) : S2048x899.Idx → EReal) i) ((m ((c : Thread nD τ).loc main_arg3) : S2048x899.Idx → EReal) i)
    ∧ (((dats m 0 c).arrAt 6 cfg0.N : S2048x899.Idx → EReal) i : EReal) = first (G i) ((m ((c : Thread nD τ).loc main_arg2) : S2048x899.Idx → EReal) i)
    ∧ (((dats m 0 c).arrAt 7 cfg0.N : S2048x899.Idx → EReal) i : EReal) = second (G i) ((m ((c : Thread nD τ).loc main_arg3) : S2048x899.Idx → EReal) i) := by
  obtain ⟨p, k, rfl⟩ : ∃ (p : Fin 2048) (k : Fin 899), i = ix2 p k := ⟨i 0, i 1, rows2 i⟩
  have hb : 0 < 128 := by decide
  obtain ⟨t, ht⟩ : ∃ t : Fin cfg0.N, t.val = p.1 / 128 := ⟨⟨p.1 / 128, by rw [show cfg0.N = 16 from N_0]; omega⟩, rfl⟩
  obtain ⟨i0, i1, i2, i3, i4, i5, i6, i7⟩ := idx t
  have hG : parts (iblk m c 0 t : S8x128x899.Idx → EReal) (within hb p) k = G (ix2 p k) := by
    refine Eq.trans (b := parts (m ((c : Thread nD τ).loc main_arg0) : S8x2048x899.Idx → EReal) p k) ?_ ?_
    · rw [← V_main_arg0 m c]
      exact Finset.sum_congr rfl fun d _ => congrArg (V m c main_arg0) (funext fun a => Fin.ext ((Pipeline.Window.rect_emb_val (cfg0.win 0) t _ a).trans (at3 i0 hb p ht d k a)))
    · rw [h]
      unfold parts
      pointwise
  have x1 : (iblk m c 1 t : Vec Ideal S128x899 .f32) (ix2 (within hb p) k) = (m ((c : Thread nD τ).loc main_arg1) : S2048x899.Idx → EReal) (ix2 p k) := by
    rw [← V_main_arg1 m c]
    exact congrArg (V m c main_arg1) (funext fun a => Fin.ext ((Pipeline.Window.rect_emb_val (cfg0.win 1) t _ a).trans (at2 i1 hb p ht k a)))
  have x2 : (iblk m c 2 t : Vec Ideal S128x899 .f32) (ix2 (within hb p) k) = (m ((c : Thread nD τ).loc main_arg2) : S2048x899.Idx → EReal) (ix2 p k) := by
    rw [← V_main_arg2 m c]
    exact congrArg (V m c main_arg2) (funext fun a => Fin.ext ((Pipeline.Window.rect_emb_val (cfg0.win 2) t _ a).trans (at2 i2 hb p ht k a)))
  have x3 : (iblk m c 3 t : Vec Ideal S128x899 .f32) (ix2 (within hb p) k) = (m ((c : Thread nD τ).loc main_arg3) : S2048x899.Idx → EReal) (ix2 p k) := by
    rw [← V_main_arg3 m c]
    exact congrArg (V m c main_arg3) (funext fun a => Fin.ext ((Pipeline.Window.rect_emb_val (cfg0.win 3) t _ a).trans (at2 i3 hb p ht k a)))
  obtain ⟨s4, s5, s6, s7⟩ := stored (within hb p) k (iblk m c 0 t) (iblk m c 1 t) (iblk m c 2 t) (iblk m c 3 t) _ hG
  rw [← x1, ← x2, ← x3]
  exact ⟨(congrArg _ (funext fun a => Fin.ext ((Pipeline.Window.rect_emb_val (cfg0.win 4) t _ a).trans (at2 i4 hb p ht k a)).symm)).trans ((congrFun (Value.blocks4 m c t (flush0_4 t)) _).trans ((congrFun (Value.flushed4 m c t) _).trans s4)),
    (congrArg _ (funext fun a => Fin.ext ((Pipeline.Window.rect_emb_val (cfg0.win 5) t _ a).trans (at2 i5 hb p ht k a)).symm)).trans ((congrFun (Value.blocks5 m c t (flush0_5 t)) _).trans ((congrFun (Value.flushed5 m c t) _).trans s5)),
    (congrArg _ (funext fun a => Fin.ext ((Pipeline.Window.rect_emb_val (cfg0.win 6) t _ a).trans (at2 i6 hb p ht k a)).symm)).trans ((congrFun (Value.blocks6 m c t (flush0_6 t)) _).trans ((congrFun (Value.flushed6 m c t) _).trans s6)),
    (congrArg _ (funext fun a => Fin.ext ((Pipeline.Window.rect_emb_val (cfg0.win 7) t _ a).trans (at2 i7 hb p ht k a)).symm)).trans ((congrFun (Value.blocks7 m c t (flush0_7 t)) _).trans ((congrFun (Value.flushed7 m c t) _).trans s7))⟩

theorem algebraic : Cert.algebraic_Kernel17Ideal_Reference17Ideal := by
  intro m g m' g' hp he
  refine ⟨_, _, _, _, Value.run_blocks m g, (θ_run _ _ _).mono (fun r h c => ?_) (Cert.Reference17Ideal.Value.run m' g')⟩
  obtain ⟨e0, e1, e2, e3⟩ := he c
  obtain ⟨h4, h5, h6, h7, hk⟩ := h c
  obtain ⟨r4, r5, r6, r7⟩ := close Reference17Ideal.Facts₀.bcast_S_S2048x899 _ _ _ _ (cell m c _ rfl)
  rw [← e0, ← e1, ← e2, ← e3] at *
  exact ⟨h4.trans r4, h5.trans r5, h6.trans r6, h7.trans r7, hk⟩

/-- The call and its idealization are one text. -/
theorem same₀ {F : FTy → Type} [FloatOps F] : Cert.Kernel17.defs₀ (F := F) = Cert.Kernel17Ideal.defs₀ (F := F) := by
  unfold Cert.Kernel17.defs₀ Cert.Kernel17Ideal.defs₀
  refine congrArg Defs.onTc (funext fun l => funext fun x => ?_)
  match l, x with
  | 0, (t, s) => rfl
theorem same {F : FTy → Type} [FloatOps F] : Cert.Kernel17.defs (F := F) = Cert.Kernel17Ideal.defs (F := F) :=
  congrArg (Pipeline.defs Cert.Kernel17Ideal.pcfgs) same₀

theorem frame_kernel : Cert.quiescent_Kernel17 := fun m ρ _ => by
  rw [same]
  exact (θ_run Cert.Kernel17Ideal.defs _ _).mono (fun _ h => h) (Gen.frame (F := Bits) m ρ)
theorem frame_ideal : Cert.quiescent_Kernel17Ideal := fun m ρ _ => Gen.frame (F := Ideal) m ρ
theorem frame_reference : Cert.quiescent_Reference17Ideal := fun m ρ _ =>
  (θ_run _ _ _).mono (fun r h => ⟨fun c => (h c).2.2.2.2, sem_eq_zero_of_no_sems (by decide) r.2⟩) (Cert.Reference17Ideal.Value.run (F := Ideal) m ρ)
theorem preserves : Cert.preserves_Kernel17_Kernel17Ideal := trivial

end Cert.Adam
-- ==== Proof.AdamOut.lean ====
/-
  The optimiser's call of the output projection: each tile of rows adds up the devices' parts and takes the step.
-/
module

public import proofs.«01_k».proof.Proof.Gen.Kernel18Ideal.Value
public import proofs.«01_k».proof.Proof.Gen.Kernel18
public import proofs.«01_k».proof.Proof.Gen.Reference18Ideal.Run
public import proofs.«01_k».proof.Proof.Update
public import Idealize.ShloMosaic.Lib.Pipeline.ValueKit.Acc

@[expose] public section

noncomputable section

namespace Cert.AdamOut

open Cert.Kernel18Ideal Cert.Kernel18Ideal.Gen Cert.Ffn Cert.Tiles Cert.Update
open Idealize.ShloMosaic Idealize.ShloMosaic.TcCoe Idealize.ShloMosaic.Tactic Idealize.SL.Sem

/-- What a tile leaves, from the gradient's element `g`. -/
theorem stored (r : Fin 64) (k : Fin 2048) (x0 : Vec Ideal S8x64x2048 .bf16) (x1 x2 x3 : Vec Ideal S64x2048 .f32) (g : EReal) (h : parts (x0 : S8x64x2048.Idx → EReal) r k = g) :
    (out0_4 x0 x1 x2 x3 (ix2 r k) : EReal) = g ∧ (out0_5 x0 x1 x2 x3 (ix2 r k) : EReal) = step g (x1 (ix2 r k)) (x2 (ix2 r k)) (x3 (ix2 r k))
    ∧ (out0_6 x0 x1 x2 x3 (ix2 r k) : EReal) = first g (x2 (ix2 r k)) ∧ (out0_7 x0 x1 x2 x3 (ix2 r k) : EReal) = second g (x3 (ix2 r k)) := by
  have hg : (k0_pay5 x0 x1 x2 x3 (ix2 r k) : EReal) = g := by
    unfold k0_pay5 k0_pay4
    rw [← h, parts, Fin.sum_univ_eight]
    pointwise
  unfold out0_4 out0_5 out0_6 out0_7 r0_8
  simp only [View.canon_unit_zero (S := S64x2048) zeros2, View.ld_unit_zero (S := S64x2048) zeros2]
  rw [← hg]
  exact ⟨rfl, rfl, rfl, rfl⟩

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The four results at an index. -/
theorem cell (G : FVec Ideal S256x2048 .f32) (h : G = Host.reduceAdd (F := Ideal) (extf .f32 (m ((c : Thread nD τ).loc main_arg0) : FVec Ideal S8x256x2048 .bf16) Reference18Ideal.Facts₀.bitsLt_bf16_f32)
    (constant Reference18Ideal.S_ .f32 0x00000000#32) Reference18Ideal.Facts₀.reducesTo_S8x256x2048_S256x2048_d0 Reference18Ideal.Facts₀.h_S_) (i : S256x2048.Idx) :
    (((dats m 0 c).arrAt 4 cfg0.N : S256x2048.Idx → EReal) i : EReal) = G i
    ∧ (((dats m 0 c).arrAt 5 cfg0.N : S256x2048.Idx → EReal) i : EReal) = step (G i) ((m ((c : Thread nD τ).loc main_arg1) : S256x2048.Idx → EReal) i) ((m ((c : Thread nD τ).loc main_arg2) : S256x2048.Idx → EReal) i) ((m ((c : Thread nD τ).loc main_arg3) : S256x2048.Idx → EReal) i)
    ∧ (((dats m 0 c).arrAt 6 cfg0.N : S256x2048.Idx → EReal) i : EReal) = first (G i) ((m ((c : Thread nD τ).loc main_arg2) : S256x2048.Idx → EReal) i)
    ∧ (((dats m 0 c).arrAt 7 cfg0.N : S256x2048.Idx → EReal) i : EReal) = second (G i) ((m ((c : Thread nD τ).loc main_arg3) : S256x2048.Idx → EReal) i) := by
  obtain ⟨p, k, rfl⟩ : ∃ (p : Fin 256) (k : Fin 2048), i = ix2 p k := ⟨i 0, i 1, rows2 i⟩
  have hb : 0 < 64 := by decide
  obtain ⟨t, ht⟩ : ∃ t : Fin cfg0.N, t.val = p.1 / 64 := ⟨⟨p.1 / 64, by rw [show cfg0.N = 4 from N_0]; omega⟩, rfl⟩
  obtain ⟨i0, i1, i2, i3, i4, i5, i6, i7⟩ := idx t
  have hG : parts (iblk m c 0 t : S8x64x2048.Idx → EReal) (within hb p) k = G (ix2 p k) := by
    refine Eq.trans (b := parts (m ((c : Thread nD τ).loc main_arg0) : S8x256x2048.Idx → EReal) p k) ?_ ?_
    · rw [← V_main_arg0 m c]
      exact Finset.sum_congr rfl fun d _ => congrArg (V m c main_arg0) (funext fun a => Fin.ext ((Pipeline.Window.rect_emb_val (cfg0.win 0) t _ a).trans (at3 i0 hb p ht d k a)))
    · rw [h]
      unfold parts
      pointwise
  have x1 : (iblk m c 1 t : Vec Ideal S64x2048 .f32) (ix2 (within hb p) k) = (m ((c : Thread nD τ).loc main_arg1) : S256x2048.Idx → EReal) (ix2 p k) := by
    rw [← V_main_arg1 m c]
    exact congrArg (V m c main_arg1) (funext fun a => Fin.ext ((Pipeline.Window.rect_emb_val (cfg0.win 1) t _ a).trans (at2 i1 hb p ht k a)))
  have x2 : (iblk m c 2 t : Vec Ideal S64x2048 .f32) (ix2 (within hb p) k) = (m ((c : Thread nD τ).loc main_arg2) : S256x2048.Idx → EReal) (ix2 p k) := by
    rw [← V_main_arg2 m c]
    exact congrArg (V m c main_arg2) (funext fun a => Fin.ext ((Pipeline.Window.rect_emb_val (cfg0.win 2) t _ a).trans (at2 i2 hb p ht k a)))
  have x3 : (iblk m c 3 t : Vec Ideal S64x2048 .f32) (ix2 (within hb p) k) = (m ((c : Thread nD τ).loc main_arg3) : S256x2048.Idx → EReal) (ix2 p k) := by
    rw [← V_main_arg3 m c]
    exact congrArg (V m c main_arg3) (funext fun a => Fin.ext ((Pipeline.Window.rect_emb_val (cfg0.win 3) t _ a).trans (at2 i3 hb p ht k a)))
  obtain ⟨s4, s5, s6, s7⟩ := stored (within hb p) k (iblk m c 0 t) (iblk m c 1 t) (iblk m c 2 t) (iblk m c 3 t) _ hG
  rw [← x1, ← x2, ← x3]
  exact ⟨(congrArg _ (funext fun a => Fin.ext ((Pipeline.Window.rect_emb_val (cfg0.win 4) t _ a).trans (at2 i4 hb p ht k a)).symm)).trans ((congrFun (Value.blocks4 m c t (flush0_4 t)) _).trans ((congrFun (Value.flushed4 m c t) _).trans s4)),
    (congrArg _ (funext fun a => Fin.ext ((Pipeline.Window.rect_emb_val (cfg0.win 5) t _ a).trans (at2 i5 hb p ht k a)).symm)).trans ((congrFun (Value.blocks5 m c t (flush0_5 t)) _).trans ((congrFun (Value.flushed5 m c t) _).trans s5)),
    (congrArg _ (funext fun a => Fin.ext ((Pipeline.Window.rect_emb_val (cfg0.win 6) t _ a).trans (at2 i6 hb p ht k a)).symm)).trans ((congrFun (Value.blocks6 m c t (flush0_6 t)) _).trans ((congrFun (Value.flushed6 m c t) _).trans s6)),
    (congrArg _ (funext fun a => Fin.ext ((Pipeline.Window.rect_emb_val (cfg0.win 7) t _ a).trans (at2 i7 hb p ht k a)).symm)).trans ((congrFun (Value.blocks7 m c t (flush0_7 t)) _).trans ((congrFun (Value.flushed7 m c t) _).trans s7))⟩

theorem algebraic : Cert.algebraic_Kernel18Ideal_Reference18Ideal := by
  intro m g m' g' hp he
  refine ⟨_, _, _, _, Value.run_blocks m g, (θ_run _ _ _).mono (fun r h c => ?_) (Cert.Reference18Ideal.Value.run m' g')⟩
  obtain ⟨e0, e1, e2, e3⟩ := he c
  obtain ⟨h4, h5, h6, h7, hk⟩ := h c
  obtain ⟨r4, r5, r6, r7⟩ := close Reference18Ideal.Facts₀.bcast_S_S256x2048 _ _ _ _ (cell m c _ rfl)
  rw [← e0, ← e1, ← e2, ← e3] at *
  exact ⟨h4.trans r4, h5.trans r5, h6.trans r6, h7.trans r7, hk⟩

/-- The call and its idealization are one text. -/
theorem same₀ {F : FTy → Type} [FloatOps F] : Cert.Kernel18.defs₀ (F := F) = Cert.Kernel18Ideal.defs₀ (F := F) := by
  unfold Cert.Kernel18.defs₀ Cert.Kernel18Ideal.defs₀
  refine congrArg Defs.onTc (funext fun l => funext fun x => ?_)
  match l, x with
  | 0, (t, s) => rfl
theorem same {F : FTy → Type} [FloatOps F] : Cert.Kernel18.defs (F := F) = Cert.Kernel18Ideal.defs (F := F) :=
  congrArg (Pipeline.defs Cert.Kernel18Ideal.pcfgs) same₀

theorem frame_kernel : Cert.quiescent_Kernel18 := fun m ρ _ => by
  rw [same]
  exact (θ_run Cert.Kernel18Ideal.defs _ _).mono (fun _ h => h) (Gen.frame (F := Bits) m ρ)
theorem frame_ideal : Cert.quiescent_Kernel18Ideal := fun m ρ _ => Gen.frame (F := Ideal) m ρ
theorem frame_reference : Cert.quiescent_Reference18Ideal := fun m ρ _ =>
  (θ_run _ _ _).mono (fun r h => ⟨fun c => (h c).2.2.2.2, sem_eq_zero_of_no_sems (by decide) r.2⟩) (Cert.Reference18Ideal.Value.run (F := Ideal) m ρ)
theorem preserves : Cert.preserves_Kernel18_Kernel18Ideal := trivial

end Cert.AdamOut
-- ==== Proof.AdamCond.lean ====
/-
  The optimiser's call of the modulation's weight, whose gradient comes in one part: each tile of rows takes the step.
-/
module

public import proofs.«01_k».proof.Proof.Gen.Kernel19Ideal.Value
public import proofs.«01_k».proof.Proof.Gen.Kernel19
public import proofs.«01_k».proof.Proof.Gen.Reference19Ideal.Run
public import proofs.«01_k».proof.Proof.Update
public import Idealize.ShloMosaic.Lib.Pipeline.ValueKit.Acc

@[expose] public section

noncomputable section

namespace Cert.AdamCond

open Cert.Kernel19Ideal Cert.Kernel19Ideal.Gen Cert.Ffn Cert.Tiles Cert.Update
open Idealize.ShloMosaic Idealize.ShloMosaic.TcCoe Idealize.ShloMosaic.Tactic Idealize.SL.Sem

/-- What a tile leaves, from the gradient's element `g`. -/
theorem stored (r : Fin 256) (k : Fin 2304) (x0 : Vec Ideal S1x256x2304 .f32) (x1 x2 x3 : Vec Ideal S256x2304 .f32) (g : EReal) (h : parts (x0 : S1x256x2304.Idx → EReal) r k = g) :
    (out0_4 x0 x1 x2 x3 (ix2 r k) : EReal) = g ∧ (out0_5 x0 x1 x2 x3 (ix2 r k) : EReal) = step g (x1 (ix2 r k)) (x2 (ix2 r k)) (x3 (ix2 r k))
    ∧ (out0_6 x0 x1 x2 x3 (ix2 r k) : EReal) = first g (x2 (ix2 r k)) ∧ (out0_7 x0 x1 x2 x3 (ix2 r k) : EReal) = second g (x3 (ix2 r k)) := by
  have hg : (k0_pay1 x0 (ix2 r k) : EReal) = g := by
    unfold k0_pay1
    rw [← h, parts, Fin.sum_univ_one]
    pointwise
  unfold out0_4 out0_5 out0_6 out0_7 r0_0 r0_1
  simp only [View.canon_unit_zero (S := S256x2304) zeros2, View.ld_unit_zero (S := S256x2304) zeros2, View.ld_unit_zero (S := S1x256x2304) zeros3]
  rw [← hg]
  exact ⟨rfl, rfl, rfl, rfl⟩

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The four results at an index. -/
theorem cell (G : FVec Ideal S2048x2304 .f32) (h : G = Host.reduceAdd (F := Ideal) (m ((c : Thread nD τ).loc main_arg0) : FVec Ideal S1x2048x2304 .f32) (constant Reference19Ideal.S_ .f32 0x00000000#32) Reference19Ideal.Facts₀.reducesTo_S1x2048x2304_S2048x2304_d0 Reference19Ideal.Facts₀.h_S_) (i : S2048x2304.Idx) :
    (((dats m 0 c).arrAt 4 cfg0.N : S2048x2304.Idx → EReal) i : EReal) = G i
    ∧ (((dats m 0 c).arrAt 5 cfg0.N : S2048x2304.Idx → EReal) i : EReal) = step (G i) ((m ((c : Thread nD τ).loc main_arg1) : S2048x2304.Idx → EReal) i) ((m ((c : Thread nD τ).loc main_arg2) : S2048x2304.Idx → EReal) i) ((m ((c : Thread nD τ).loc main_arg3) : S2048x2304.Idx → EReal) i)
    ∧ (((dats m 0 c).arrAt 6 cfg0.N : S2048x2304.Idx → EReal) i : EReal) = first (G i) ((m ((c : Thread nD τ).loc main_arg2) : S2048x2304.Idx → EReal) i)
    ∧ (((dats m 0 c).arrAt 7 cfg0.N : S2048x2304.Idx → EReal) i : EReal) = second (G i) ((m ((c : Thread nD τ).loc main_arg3) : S2048x2304.Idx → EReal) i) := by
  obtain ⟨p, k, rfl⟩ : ∃ (p : Fin 2048) (k : Fin 2304), i = ix2 p k := ⟨i 0, i 1, rows2 i⟩
  have hb : 0 < 256 := by decide
  obtain ⟨t, ht⟩ : ∃ t : Fin cfg0.N, t.val = p.1 / 256 := ⟨⟨p.1 / 256, by rw [show cfg0.N = 8 from N_0]; omega⟩, rfl⟩
  obtain ⟨i0, i1, i2, i3, i4, i5, i6, i7⟩ := idx t
  have hG : parts (iblk m c 0 t : S1x256x2304.Idx → EReal) (within hb p) k = G (ix2 p k) := by
    refine Eq.trans (b := parts (m ((c : Thread nD τ).loc main_arg0) : S1x2048x2304.Idx → EReal) p k) ?_ ?_
    · rw [← V_main_arg0 m c]
      exact Finset.sum_congr rfl fun d _ => congrArg (V m c main_arg0) (funext fun a => Fin.ext ((Pipeline.Window.rect_emb_val (cfg0.win 0) t _ a).trans (at3 i0 hb p ht d k a)))
    · rw [h]
      unfold parts
      pointwise
  have x1 : (iblk m c 1 t : Vec Ideal S256x2304 .f32) (ix2 (within hb p) k) = (m ((c : Thread nD τ).loc main_arg1) : S2048x2304.Idx → EReal) (ix2 p k) := by
    rw [← V_main_arg1 m c]
    exact congrArg (V m c main_arg1) (funext fun a => Fin.ext ((Pipeline.Window.rect_emb_val (cfg0.win 1) t _ a).trans (at2 i1 hb p ht k a)))
  have x2 : (iblk m c 2 t : Vec Ideal S256x2304 .f32) (ix2 (within hb p) k) = (m ((c : Thread nD τ).loc main_arg2) : S2048x2304.Idx → EReal) (ix2 p k) := by
    rw [← V_main_arg2 m c]
    exact congrArg (V m c main_arg2) (funext fun a => Fin.ext ((Pipeline.Window.rect_emb_val (cfg0.win 2) t _ a).trans (at2 i2 hb p ht k a)))
  have x3 : (iblk m c 3 t : Vec Ideal S256x2304 .f32) (ix2 (within hb p) k) = (m ((c : Thread nD τ).loc main_arg3) : S2048x2304.Idx → EReal) (ix2 p k) := by
    rw [← V_main_arg3 m c]
    exact congrArg (V m c main_arg3) (funext fun a => Fin.ext ((Pipeline.Window.rect_emb_val (cfg0.win 3) t _ a).trans (at2 i3 hb p ht k a)))
  obtain ⟨s4, s5, s6, s7⟩ := stored (within hb p) k (iblk m c 0 t) (iblk m c 1 t) (iblk m c 2 t) (iblk m c 3 t) _ hG
  rw [← x1, ← x2, ← x3]
  exact ⟨(congrArg _ (funext fun a => Fin.ext ((Pipeline.Window.rect_emb_val (cfg0.win 4) t _ a).trans (at2 i4 hb p ht k a)).symm)).trans ((congrFun (Value.blocks4 m c t (flush0_4 t)) _).trans ((congrFun (Value.flushed4 m c t) _).trans s4)),
    (congrArg _ (funext fun a => Fin.ext ((Pipeline.Window.rect_emb_val (cfg0.win 5) t _ a).trans (at2 i5 hb p ht k a)).symm)).trans ((congrFun (Value.blocks5 m c t (flush0_5 t)) _).trans ((congrFun (Value.flushed5 m c t) _).trans s5)),
    (congrArg _ (funext fun a => Fin.ext ((Pipeline.Window.rect_emb_val (cfg0.win 6) t _ a).trans (at2 i6 hb p ht k a)).symm)).trans ((congrFun (Value.blocks6 m c t (flush0_6 t)) _).trans ((congrFun (Value.flushed6 m c t) _).trans s6)),
    (congrArg _ (funext fun a => Fin.ext ((Pipeline.Window.rect_emb_val (cfg0.win 7) t _ a).trans (at2 i7 hb p ht k a)).symm)).trans ((congrFun (Value.blocks7 m c t (flush0_7 t)) _).trans ((congrFun (Value.flushed7 m c t) _).trans s7))⟩

theorem algebraic : Cert.algebraic_Kernel19Ideal_Reference19Ideal := by
  intro m g m' g' hp he
  refine ⟨_, _, _, _, Value.run_blocks m g, (θ_run _ _ _).mono (fun r h c => ?_) (Cert.Reference19Ideal.Value.run m' g')⟩
  obtain ⟨e0, e1, e2, e3⟩ := he c
  obtain ⟨h4, h5, h6, h7, hk⟩ := h c
  obtain ⟨r4, r5, r6, r7⟩ := close Reference19Ideal.Facts₀.bcast_S_S2048x2304 _ _ _ _ (cell m c _ rfl)
  rw [← e0, ← e1, ← e2, ← e3] at *
  exact ⟨h4.trans r4, h5.trans r5, h6.trans r6, h7.trans r7, hk⟩

/-- The call and its idealization are one text. -/
theorem same₀ {F : FTy → Type} [FloatOps F] : Cert.Kernel19.defs₀ (F := F) = Cert.Kernel19Ideal.defs₀ (F := F) := by
  unfold Cert.Kernel19.defs₀ Cert.Kernel19Ideal.defs₀
  refine congrArg Defs.onTc (funext fun l => funext fun x => ?_)
  match l, x with
  | 0, (t, s) => rfl
theorem same {F : FTy → Type} [FloatOps F] : Cert.Kernel19.defs (F := F) = Cert.Kernel19Ideal.defs (F := F) :=
  congrArg (Pipeline.defs Cert.Kernel19Ideal.pcfgs) same₀

theorem frame_kernel : Cert.quiescent_Kernel19 := fun m ρ _ => by
  rw [same]
  exact (θ_run Cert.Kernel19Ideal.defs _ _).mono (fun _ h => h) (Gen.frame (F := Bits) m ρ)
theorem frame_ideal : Cert.quiescent_Kernel19Ideal := fun m ρ _ => Gen.frame (F := Ideal) m ρ
theorem frame_reference : Cert.quiescent_Reference19Ideal := fun m ρ _ =>
  (θ_run _ _ _).mono (fun r h => ⟨fun c => (h c).2.2.2.2, sem_eq_zero_of_no_sems (by decide) r.2⟩) (Cert.Reference19Ideal.Value.run (F := Ideal) m ρ)
theorem preserves : Cert.preserves_Kernel19_Kernel19Ideal := trivial

end Cert.AdamCond
-- ==== Proof.AdamBias.lean ====
/-
  The optimiser's call of the modulation's bias: the devices' parts of the gradient added up, both moments moved and the weights' step.
-/
module

public import proofs.«01_k».proof.Proof.Gen.Kernel20Ideal.Value
public import proofs.«01_k».proof.Proof.Gen.Kernel20
public import proofs.«01_k».proof.Proof.Gen.Reference20Ideal.Run
public import proofs.«01_k».proof.Proof.Update
public import Idealize.ShloMosaic.Lib.Pipeline.ValueKit.Acc

@[expose] public section

noncomputable section

namespace Cert.AdamBias

open Cert.Kernel20Ideal Cert.Kernel20Ideal.Gen Cert.Ffn Cert.Tiles Cert.Update
open Idealize.ShloMosaic Idealize.ShloMosaic.TcCoe Idealize.ShloMosaic.Tactic Idealize.SL.Sem

/-- The four results at an index. -/
theorem cell (P : Vec Ideal S8x1x18432 .f32) (w m v : Vec Ideal S1x18432 .f32) (G : FVec Ideal S1x18432 .f32)
    (h : G = Host.reduceAdd (F := Ideal) P (constant Reference20Ideal.S_ .f32 0x00000000#32) Reference20Ideal.Facts₀.reducesTo_S8x1x18432_S1x18432_d0 Reference20Ideal.Facts₀.h_S_) (i : S1x18432.Idx) :
    (Value.G4 P w m v i : EReal) = G i ∧ (Value.G5 P w m v i : EReal) = step (G i) (w i) (m i) (v i)
    ∧ (Value.G6 P w m v i : EReal) = first (G i) (m i) ∧ (Value.G7 P w m v i : EReal) = second (G i) (v i) := by
  have hG : (k0_pay5 P w m v i : EReal) = G i := by
    rw [h, rows2 i]
    generalize i 0 = a
    generalize i 1 = b
    unfold k0_pay5 k0_pay3
    pointwise
    rw [Fin.sum_univ_eight]
  have e : (k0_pay6 P w m v i : EReal) = first (k0_pay5 P w m v i) (m i) := by
    unfold k0_pay6 k0_pay4
    rw [View.ld_unit_zero (S := S1x18432) zeros2]
    rfl
  rw [← hG]
  refine ⟨rfl, ?_, e, rfl⟩
  rw [step, ← e]
  rfl

theorem algebraic : Cert.algebraic_Kernel20Ideal_Reference20Ideal := by
  intro m g m' g' hp he
  refine ⟨_, _, _, _, Value.run m g, (θ_run _ _ _).mono (fun r h c => ?_) (Cert.Reference20Ideal.Value.run m' g')⟩
  obtain ⟨e0, e1, e2, e3⟩ := he c
  obtain ⟨h4, h5, h6, h7, hk⟩ := h c
  obtain ⟨r4, r5, r6, r7⟩ := close Reference20Ideal.Facts₀.bcast_S_S1x18432 _ _ _ _ (cell _ _ _ _ _ rfl)
  rw [← e0, ← e1, ← e2, ← e3]
  exact ⟨h4.trans r4, h5.trans r5, h6.trans r6, h7.trans r7, hk⟩

/-- The call and its idealization are one text. -/
theorem same₀ {F : FTy → Type} [FloatOps F] : Cert.Kernel20.defs₀ (F := F) = Cert.Kernel20Ideal.defs₀ (F := F) := by
  unfold Cert.Kernel20.defs₀ Cert.Kernel20Ideal.defs₀
  refine congrArg Defs.onTc (funext fun l => funext fun x => ?_)
  match l, x with
  | 0, (t, s) => rfl
theorem same {F : FTy → Type} [FloatOps F] : Cert.Kernel20.defs (F := F) = Cert.Kernel20Ideal.defs (F := F) :=
  congrArg (Pipeline.defs Cert.Kernel20Ideal.pcfgs) same₀

theorem frame_kernel : Cert.quiescent_Kernel20 := fun m ρ _ => by
  rw [same]
  exact (θ_run Cert.Kernel20Ideal.defs _ _).mono (fun _ h => h) (Gen.frame (F := Bits) m ρ)
theorem frame_ideal : Cert.quiescent_Kernel20Ideal := fun m ρ _ => Gen.frame (F := Ideal) m ρ
theorem frame_reference : Cert.quiescent_Reference20Ideal := fun m ρ _ =>
  (θ_run _ _ _).mono (fun r h => ⟨fun c => (h c).2.2.2.2, sem_eq_zero_of_no_sems (by decide) r.2⟩) (Cert.Reference20Ideal.Value.run (F := Ideal) m ρ)
theorem preserves : Cert.preserves_Kernel20_Kernel20Ideal := trivial

end Cert.AdamBias
-- ==== Proof.AdamNorm.lean ====
/-
  The optimiser's call of the norms' gains: the devices' parts of the gradient added up, both moments moved and the weights' step.
-/
module

public import proofs.«01_k».proof.Proof.Gen.Kernel21Ideal.Value
public import proofs.«01_k».proof.Proof.Gen.Kernel21
public import proofs.«01_k».proof.Proof.Gen.Reference21Ideal.Run
public import proofs.«01_k».proof.Proof.Update
public import Idealize.ShloMosaic.Lib.Pipeline.ValueKit.Acc

@[expose] public section

noncomputable section

namespace Cert.AdamNorm

open Cert.Kernel21Ideal Cert.Kernel21Ideal.Gen Cert.Ffn Cert.Tiles Cert.Update
open Idealize.ShloMosaic Idealize.ShloMosaic.TcCoe Idealize.ShloMosaic.Tactic Idealize.SL.Sem

/-- The four results at an index. -/
theorem cell (P : Vec Ideal S8x3x256 .f32) (w m v : Vec Ideal S3x256 .f32) (G : FVec Ideal S3x256 .f32)
    (h : G = Host.reduceAdd (F := Ideal) P (constant Reference21Ideal.S_ .f32 0x00000000#32) Reference21Ideal.Facts₀.reducesTo_S8x3x256_S3x256_d0 Reference21Ideal.Facts₀.h_S_) (i : S3x256.Idx) :
    (Value.G4 P w m v i : EReal) = G i ∧ (Value.G5 P w m v i : EReal) = step (G i) (w i) (m i) (v i)
    ∧ (Value.G6 P w m v i : EReal) = first (G i) (m i) ∧ (Value.G7 P w m v i : EReal) = second (G i) (v i) := by
  have hG : (k0_pay5 P w m v i : EReal) = G i := by
    rw [h, rows2 i]
    generalize i 0 = a
    generalize i 1 = b
    unfold k0_pay5 k0_pay3
    pointwise
    rw [Fin.sum_univ_eight]
  have e : (k0_pay6 P w m v i : EReal) = first (k0_pay5 P w m v i) (m i) := by
    unfold k0_pay6 k0_pay4
    rw [View.ld_unit_zero (S := S3x256) zeros2]
    rfl
  rw [← hG]
  refine ⟨rfl, ?_, e, rfl⟩
  rw [step, ← e]
  rfl

theorem algebraic : Cert.algebraic_Kernel21Ideal_Reference21Ideal := by
  intro m g m' g' hp he
  refine ⟨_, _, _, _, Value.run m g, (θ_run _ _ _).mono (fun r h c => ?_) (Cert.Reference21Ideal.Value.run m' g')⟩
  obtain ⟨e0, e1, e2, e3⟩ := he c
  obtain ⟨h4, h5, h6, h7, hk⟩ := h c
  obtain ⟨r4, r5, r6, r7⟩ := close Reference21Ideal.Facts₀.bcast_S_S3x256 _ _ _ _ (cell _ _ _ _ _ rfl)
  rw [← e0, ← e1, ← e2, ← e3]
  exact ⟨h4.trans r4, h5.trans r5, h6.trans r6, h7.trans r7, hk⟩

/-- The call and its idealization are one text. -/
theorem same₀ {F : FTy → Type} [FloatOps F] : Cert.Kernel21.defs₀ (F := F) = Cert.Kernel21Ideal.defs₀ (F := F) := by
  unfold Cert.Kernel21.defs₀ Cert.Kernel21Ideal.defs₀
  refine congrArg Defs.onTc (funext fun l => funext fun x => ?_)
  match l, x with
  | 0, (t, s) => rfl
theorem same {F : FTy → Type} [FloatOps F] : Cert.Kernel21.defs (F := F) = Cert.Kernel21Ideal.defs (F := F) :=
  congrArg (Pipeline.defs Cert.Kernel21Ideal.pcfgs) same₀

theorem frame_kernel : Cert.quiescent_Kernel21 := fun m ρ _ => by
  rw [same]
  exact (θ_run Cert.Kernel21Ideal.defs _ _).mono (fun _ h => h) (Gen.frame (F := Bits) m ρ)
theorem frame_ideal : Cert.quiescent_Kernel21Ideal := fun m ρ _ => Gen.frame (F := Ideal) m ρ
theorem frame_reference : Cert.quiescent_Reference21Ideal := fun m ρ _ =>
  (θ_run _ _ _).mono (fun r h => ⟨fun c => (h c).2.2.2.2, sem_eq_zero_of_no_sems (by decide) r.2⟩) (Cert.Reference21Ideal.Value.run (F := Ideal) m ρ)
theorem preserves : Cert.preserves_Kernel21_Kernel21Ideal := trivial

end Cert.AdamNorm
-- ==== Proof.AdamConv.lean ====
/-
  The optimiser's call of the short convolution's taps: the devices' parts of the gradient added up, both moments moved and the weights' step.
-/
module

public import proofs.«01_k».proof.Proof.Gen.Kernel22Ideal.Value
public import proofs.«01_k».proof.Proof.Gen.Kernel22
public import proofs.«01_k».proof.Proof.Gen.Reference22Ideal.Run
public import proofs.«01_k».proof.Proof.Update
public import Idealize.ShloMosaic.Lib.Pipeline.ValueKit.Acc

@[expose] public section

noncomputable section

namespace Cert.AdamConv

open Cert.Kernel22Ideal Cert.Kernel22Ideal.Gen Cert.Ffn Cert.Tiles Cert.Update
open Idealize.ShloMosaic Idealize.ShloMosaic.TcCoe Idealize.ShloMosaic.Tactic Idealize.SL.Sem

/-- The four results at an index. -/
theorem cell (P : Vec Ideal S8x4x384 .f32) (w m v : Vec Ideal S4x384 .f32) (G : FVec Ideal S4x384 .f32)
    (h : G = Host.reduceAdd (F := Ideal) P (constant Reference22Ideal.S_ .f32 0x00000000#32) Reference22Ideal.Facts₀.reducesTo_S8x4x384_S4x384_d0 Reference22Ideal.Facts₀.h_S_) (i : S4x384.Idx) :
    (Value.G4 P w m v i : EReal) = G i ∧ (Value.G5 P w m v i : EReal) = step (G i) (w i) (m i) (v i)
    ∧ (Value.G6 P w m v i : EReal) = first (G i) (m i) ∧ (Value.G7 P w m v i : EReal) = second (G i) (v i) := by
  have hG : (k0_pay5 P w m v i : EReal) = G i := by
    rw [h, rows2 i]
    generalize i 0 = a
    generalize i 1 = b
    unfold k0_pay5 k0_pay3
    pointwise
    rw [Fin.sum_univ_eight]
  have e : (k0_pay6 P w m v i : EReal) = first (k0_pay5 P w m v i) (m i) := by
    unfold k0_pay6 k0_pay4
    rw [View.ld_unit_zero (S := S4x384) zeros2]
    rfl
  rw [← hG]
  refine ⟨rfl, ?_, e, rfl⟩
  rw [step, ← e]
  rfl

theorem algebraic : Cert.algebraic_Kernel22Ideal_Reference22Ideal := by
  intro m g m' g' hp he
  refine ⟨_, _, _, _, Value.run m g, (θ_run _ _ _).mono (fun r h c => ?_) (Cert.Reference22Ideal.Value.run m' g')⟩
  obtain ⟨e0, e1, e2, e3⟩ := he c
  obtain ⟨h4, h5, h6, h7, hk⟩ := h c
  obtain ⟨r4, r5, r6, r7⟩ := close Reference22Ideal.Facts₀.bcast_S_S4x384 _ _ _ _ (cell _ _ _ _ _ rfl)
  rw [← e0, ← e1, ← e2, ← e3]
  exact ⟨h4.trans r4, h5.trans r5, h6.trans r6, h7.trans r7, hk⟩

/-- The call and its idealization are one text. -/
theorem same₀ {F : FTy → Type} [FloatOps F] : Cert.Kernel22.defs₀ (F := F) = Cert.Kernel22Ideal.defs₀ (F := F) := by
  unfold Cert.Kernel22.defs₀ Cert.Kernel22Ideal.defs₀
  refine congrArg Defs.onTc (funext fun l => funext fun x => ?_)
  match l, x with
  | 0, (t, s) => rfl
theorem same {F : FTy → Type} [FloatOps F] : Cert.Kernel22.defs (F := F) = Cert.Kernel22Ideal.defs (F := F) :=
  congrArg (Pipeline.defs Cert.Kernel22Ideal.pcfgs) same₀

theorem frame_kernel : Cert.quiescent_Kernel22 := fun m ρ _ => by
  rw [same]
  exact (θ_run Cert.Kernel22Ideal.defs _ _).mono (fun _ h => h) (Gen.frame (F := Bits) m ρ)
theorem frame_ideal : Cert.quiescent_Kernel22Ideal := fun m ρ _ => Gen.frame (F := Ideal) m ρ
theorem frame_reference : Cert.quiescent_Reference22Ideal := fun m ρ _ =>
  (θ_run _ _ _).mono (fun r h => ⟨fun c => (h c).2.2.2.2, sem_eq_zero_of_no_sems (by decide) r.2⟩) (Cert.Reference22Ideal.Value.run (F := Ideal) m ρ)
theorem preserves : Cert.preserves_Kernel22_Kernel22Ideal := trivial

end Cert.AdamConv
-- ==== Proof.AdamSmall.lean ====
/-
  The optimiser's call of the weights every device keeps whole: the devices' parts of the gradient added up, both moments moved
  and the weights' step.
-/
module

public import proofs.«01_k».proof.Proof.Gen.Kernel23Ideal.Value
public import proofs.«01_k».proof.Proof.Gen.Kernel23
public import proofs.«01_k».proof.Proof.Gen.Reference23Ideal.Run
public import proofs.«01_k».proof.Proof.Update
public import Idealize.ShloMosaic.Lib.Pipeline.ValueKit.Acc

@[expose] public section

noncomputable section

namespace Cert.AdamSmall

open Cert.Kernel23Ideal Cert.Kernel23Ideal.Gen Cert.Ffn Cert.Tiles Cert.Update
open Idealize.ShloMosaic Idealize.ShloMosaic.TcCoe Idealize.ShloMosaic.Tactic Idealize.SL.Sem

/-- The four results at an index. -/
theorem cell (P : Vec Ideal S8x1x2688 .f32) (w m v : Vec Ideal S1x2688 .f32) (G : FVec Ideal S1x2688 .f32)
    (h : G = Host.reduceAdd (F := Ideal) P (constant Reference23Ideal.S_ .f32 0x00000000#32) Reference23Ideal.Facts₀.reducesTo_S8x1x2688_S1x2688_d0 Reference23Ideal.Facts₀.h_S_) (i : S1x2688.Idx) :
    (Value.G4 P w m v i : EReal) = G i ∧ (Value.G5 P w m v i : EReal) = step (G i) (w i) (m i) (v i)
    ∧ (Value.G6 P w m v i : EReal) = first (G i) (m i) ∧ (Value.G7 P w m v i : EReal) = second (G i) (v i) := by
  have hG : (k0_pay5 P w m v i : EReal) = G i := by
    rw [h, rows2 i]
    generalize i 0 = a
    generalize i 1 = b
    unfold k0_pay5 k0_pay3
    pointwise
    rw [Fin.sum_univ_eight]
  have e : (k0_pay6 P w m v i : EReal) = first (k0_pay5 P w m v i) (m i) := by
    unfold k0_pay6 k0_pay4
    rw [View.ld_unit_zero (S := S1x2688) zeros2]
    rfl
  rw [← hG]
  refine ⟨rfl, ?_, e, rfl⟩
  rw [step, ← e]
  rfl

theorem algebraic : Cert.algebraic_Kernel23Ideal_Reference23Ideal := by
  intro m g m' g' hp he
  refine ⟨_, _, _, _, Value.run m g, (θ_run _ _ _).mono (fun r h c => ?_) (Cert.Reference23Ideal.Value.run m' g')⟩
  obtain ⟨e0, e1, e2, e3⟩ := he c
  obtain ⟨h4, h5, h6, h7, hk⟩ := h c
  obtain ⟨r4, r5, r6, r7⟩ := close Reference23Ideal.Facts₀.bcast_S_S1x2688 _ _ _ _ (cell _ _ _ _ _ rfl)
  rw [← e0, ← e1, ← e2, ← e3]
  exact ⟨h4.trans r4, h5.trans r5, h6.trans r6, h7.trans r7, hk⟩

/-- The call and its idealization are one text. -/
theorem same₀ {F : FTy → Type} [FloatOps F] : Cert.Kernel23.defs₀ (F := F) = Cert.Kernel23Ideal.defs₀ (F := F) := by
  unfold Cert.Kernel23.defs₀ Cert.Kernel23Ideal.defs₀
  refine congrArg Defs.onTc (funext fun l => funext fun x => ?_)
  match l, x with
  | 0, (t, s) => rfl
theorem same {F : FTy → Type} [FloatOps F] : Cert.Kernel23.defs (F := F) = Cert.Kernel23Ideal.defs (F := F) :=
  congrArg (Pipeline.defs Cert.Kernel23Ideal.pcfgs) same₀

theorem frame_kernel : Cert.quiescent_Kernel23 := fun m ρ _ => by
  rw [same]
  exact (θ_run Cert.Kernel23Ideal.defs _ _).mono (fun _ h => h) (Gen.frame (F := Bits) m ρ)
theorem frame_ideal : Cert.quiescent_Kernel23Ideal := fun m ρ _ => Gen.frame (F := Ideal) m ρ
theorem frame_reference : Cert.quiescent_Reference23Ideal := fun m ρ _ =>
  (θ_run _ _ _).mono (fun r h => ⟨fun c => (h c).2.2.2.2, sem_eq_zero_of_no_sems (by decide) r.2⟩) (Cert.Reference23Ideal.Value.run (F := Ideal) m ρ)
theorem preserves : Cert.preserves_Kernel23_Kernel23Ideal := trivial

end Cert.AdamSmall
-- ==== Proof.AdamUp.lean ====
/-
  The optimiser's call of a first-product weight of both feed-forward layers: the first sixteen tiles of rows are the first
  layer's, the other sixteen the second's, and each adds up the devices' parts and takes the step.
-/
module

public import proofs.«01_k».proof.Proof.Gen.Kernel24Ideal.Value
public import proofs.«01_k».proof.Proof.Gen.Kernel24
public import proofs.«01_k».proof.Proof.Gen.Reference24Ideal.Run
public import proofs.«01_k».proof.Proof.Update
public import Idealize.ShloMosaic.Lib.Pipeline.ValueKit.Acc

@[expose] public section

noncomputable section

namespace Cert.AdamUp

open Cert.Kernel24Ideal Cert.Kernel24Ideal.Gen Cert.Ffn Cert.Tiles Cert.Update
open Idealize.ShloMosaic Idealize.ShloMosaic.TcCoe Idealize.ShloMosaic.Tactic Idealize.SL.Sem

section Payloads

variable (c : Dev nD) (i : grid0.Coords) (a2 : Memref sig .tc .vmem S8x128x704 .bf16) (h2 : a2.IsWhole) (a3 : Memref sig .tc .vmem S8x128x704 .bf16) (h3 : a3.IsWhole)
  (a4 : Memref sig .tc .vmem S1x1x128x704 .f32) (h4 : a4.IsWhole) (a5 : Memref sig .tc .vmem S1x1x128x704 .f32) (h5 : a5.IsWhole) (a6 : Memref sig .tc .vmem S1x1x128x704 .f32) (h6 : a6.IsWhole)
  (a7 : Memref sig .tc .vmem S1x1x128x704 .f32) (h7 : a7.IsWhole) (a8 : Memref sig .tc .vmem S1x1x128x704 .f32) (h8 : a8.IsWhole)
  (a9 : Memref sig .tc .vmem S1x1x128x704 .f32) (h9 : a9.IsWhole) (a10 : Memref sig .tc .vmem S1x1x128x704 .f32) (h10 : a10.IsWhole)
  (x0 x1 : Vec Ideal S8x128x704 .bf16) (x2 x3 x4 : Vec Ideal S1x1x128x704 .f32) (r : Fin 128) (k : Fin 704) (g : EReal)

/-- The four stored values, from the added-up gradient. -/
theorem told {u : FVec Ideal S128x704 .f32} (h : (u (ix2 r k) : EReal) = g) :
    (k0_pay6 u (ix4 0 0 r k) : EReal) = g ∧ (k0_pay1 (k0_pay9 u x3 x4) x2 (ix4 0 0 r k) : EReal) = step g (x2 (ix4 0 0 r k)) (x3 (ix4 0 0 r k)) (x4 (ix4 0 0 r k))
    ∧ (k0_pay7 u x3 (ix4 0 0 r k) : EReal) = first g (x3 (ix4 0 0 r k)) ∧ (k0_pay8 u x4 (ix4 0 0 r k) : EReal) = second g (x4 (ix4 0 0 r k)) := by
  rw [← h]
  refine ⟨?_, ?_, ?_, ?_⟩
  · unfold k0_pay6
    pointwise
  · unfold step first second k0_pay1 k0_pay9 k0_pay4 k0_pay5
    pointwise
  · unfold first k0_pay7 k0_pay4
    pointwise
  · unfold second k0_pay8 k0_pay5
    pointwise

/-- What a tile leaves, from the gradient's element `g`: for the first layer, then for the second. -/
theorem stored_A (hc0 : cond0_0 i) (hc1 : ¬cond0_1 i) (h : parts (x0 : S8x128x704.Idx → EReal) r k = g) :
    (out0_A_5 c i a2 h2 a3 h3 a4 h4 a5 h5 a6 h6 a7 h7 a8 h8 a9 h9 a10 h10 hc0 hc1 x0 x1 x2 x3 x4 (ix4 0 0 r k) : EReal) = g
    ∧ (out0_A_6 c i a2 h2 a3 h3 a4 h4 a5 h5 a6 h6 a7 h7 a8 h8 a9 h9 a10 h10 hc0 hc1 x0 x1 x2 x3 x4 (ix4 0 0 r k) : EReal) = step g (x2 (ix4 0 0 r k)) (x3 (ix4 0 0 r k)) (x4 (ix4 0 0 r k))
    ∧ (out0_A_7 c i a2 h2 a3 h3 a4 h4 a5 h5 a6 h6 a7 h7 a8 h8 a9 h9 a10 h10 hc0 hc1 x0 x1 x2 x3 x4 (ix4 0 0 r k) : EReal) = first g (x3 (ix4 0 0 r k))
    ∧ (out0_A_8 c i a2 h2 a3 h3 a4 h4 a5 h5 a6 h6 a7 h7 a8 h8 a9 h9 a10 h10 hc0 hc1 x0 x1 x2 x3 x4 (ix4 0 0 r k) : EReal) = second g (x4 (ix4 0 0 r k)) := by
  unfold out0_A_5 out0_A_6 out0_A_7 out0_A_8
  rw [View.read_writes_eq_canon _ _ _ (fun _ => cover0_A_5 ..), View.read_writes_eq_canon _ _ _ (fun _ => cover0_A_6 ..), View.read_writes_eq_canon _ _ _ (fun _ => cover0_A_7 ..), View.read_writes_eq_canon _ _ _ (fun _ => cover0_A_8 ..)]
  unfold kernelRun0_A
  dsimp only
  sl_unfold_words
  simp only [View.canon_unit_zero (S := S1x1x128x704) zeros4, View.readAt_eq_ld, h2.read_unread, h3.read_unread, h4.read_unread, h5.read_unread, h6.read_unread, View.ld_unit_zero (S := S1x1x128x704) zeros4]
  refine told x2 x3 x4 r k g ?_
  unfold k0_pay3
  rw [← h, parts, Fin.sum_univ_eight]
  pointwise

theorem stored_B (hc0 : ¬cond0_0 i) (hc1 : cond0_1 i) (h : parts (x1 : S8x128x704.Idx → EReal) r k = g) :
    (out0_B_5 c i a2 h2 a3 h3 a4 h4 a5 h5 a6 h6 a7 h7 a8 h8 a9 h9 a10 h10 hc0 hc1 x0 x1 x2 x3 x4 (ix4 0 0 r k) : EReal) = g
    ∧ (out0_B_6 c i a2 h2 a3 h3 a4 h4 a5 h5 a6 h6 a7 h7 a8 h8 a9 h9 a10 h10 hc0 hc1 x0 x1 x2 x3 x4 (ix4 0 0 r k) : EReal) = step g (x2 (ix4 0 0 r k)) (x3 (ix4 0 0 r k)) (x4 (ix4 0 0 r k))
    ∧ (out0_B_7 c i a2 h2 a3 h3 a4 h4 a5 h5 a6 h6 a7 h7 a8 h8 a9 h9 a10 h10 hc0 hc1 x0 x1 x2 x3 x4 (ix4 0 0 r k) : EReal) = first g (x3 (ix4 0 0 r k))
    ∧ (out0_B_8 c i a2 h2 a3 h3 a4 h4 a5 h5 a6 h6 a7 h7 a8 h8 a9 h9 a10 h10 hc0 hc1 x0 x1 x2 x3 x4 (ix4 0 0 r k) : EReal) = second g (x4 (ix4 0 0 r k)) := by
  unfold out0_B_5 out0_B_6 out0_B_7 out0_B_8
  rw [View.read_writes_eq_canon _ _ _ (fun _ => cover0_B_5 ..), View.read_writes_eq_canon _ _ _ (fun _ => cover0_B_6 ..), View.read_writes_eq_canon _ _ _ (fun _ => cover0_B_7 ..), View.read_writes_eq_canon _ _ _ (fun _ => cover0_B_8 ..)]
  unfold kernelRun0_B
  dsimp only
  sl_unfold_words
  simp only [View.canon_unit_zero (S := S1x1x128x704) zeros4, View.readAt_eq_ld, h2.read_unread, h3.read_unread, h4.read_unread, h5.read_unread, h6.read_unread, View.ld_unit_zero (S := S1x1x128x704) zeros4]
  refine told x2 x3 x4 r k g ?_
  unfold k0_pay10
  rw [← h, parts, Fin.sum_univ_eight]
  pointwise

end Payloads

variable (m : (ℓ : Loc nD τ sig) → Buf (Elt Ideal) ℓ) (c : Dev nD)

theorem idx : ∀ t : Fin cfg0.N, win0_2.index t = ![0, t.val / 16, t.val % 16, 0] ∧ win0_3.index t = ![0, t.val / 16, t.val % 16, 0] ∧ win0_4.index t = ![0, t.val / 16, t.val % 16, 0]
    ∧ win0_5.index t = ![0, t.val / 16, t.val % 16, 0] ∧ win0_6.index t = ![0, t.val / 16, t.val % 16, 0] ∧ win0_7.index t = ![0, t.val / 16, t.val % 16, 0] ∧ win0_8.index t = ![0, t.val / 16, t.val % 16, 0] :=
  (by decide +kernel : ∀ t : Fin grid0.N, _)
theorem idx_parts : ∀ t : Fin cfg0.N, (t.val < 16 → win0_0.index t = ![0, t.val % 16, 0]) ∧ (16 ≤ t.val → win0_1.index t = ![0, t.val % 16, 0]) :=
  (by decide +kernel : ∀ t : Fin grid0.N, _)

/-- The reference's gradient of both layers: each layer's parts added up. -/
abbrev both (x y : FVec Ideal S8x2048x704 .bf16) : FVec Ideal S1x2x2048x704 .f32 := broadcastInDim Reference24Ideal.S1x2x2048x704 ![1, 2, 3] Reference24Ideal.Facts₀.bcast_S2x2048x704_S1x2x2048x704_1_2_3 (Host.reduceAdd (F := Ideal) (extf .f32 (concatenate Reference24Ideal.S2x8x2048x704 0 [⟨Reference24Ideal.S1x8x2048x704, broadcastInDim Reference24Ideal.S1x8x2048x704 ![1, 2, 3] Reference24Ideal.Facts₀.bcast_S8x2048x704_S1x8x2048x704_1_2_3 x⟩, ⟨Reference24Ideal.S1x8x2048x704, broadcastInDim Reference24Ideal.S1x8x2048x704 ![1, 2, 3] Reference24Ideal.Facts₀.bcast_S8x2048x704_S1x8x2048x704_1_2_3 y⟩] Reference24Ideal.Facts₀.concatenates_S1x8x2048x704_S1x8x2048x704_S2x8x2048x704_d0) Reference24Ideal.Facts₀.bitsLt_bf16_f32) (constant Reference24Ideal.S_ .f32 0x00000000#32) Reference24Ideal.Facts₀.reducesTo_S2x8x2048x704_S2x2048x704_d1 Reference24Ideal.Facts₀.h_S_)
theorem layers (x y : FVec Ideal S8x2048x704 .bf16) (l : Fin 2) (p : Fin 2048) (k : Fin 704) : (both x y (ix4 0 l p k) : EReal) = parts ((if l = 0 then x else y) : S8x2048x704.Idx → EReal) p k := by
  unfold parts
  match l with
  | 0 =>
    pointwise
  | 1 =>
    pointwise

/-- The four results at an index. -/
theorem cell (G : FVec Ideal S1x2x2048x704 .f32) (h : G = both (m ((c : Thread nD τ).loc main_arg0)) (m ((c : Thread nD τ).loc main_arg1))) (i : S1x2x2048x704.Idx) :
    (((dats m 0 c).arrAt 5 cfg0.N : S1x2x2048x704.Idx → EReal) i : EReal) = G i
    ∧ (((dats m 0 c).arrAt 6 cfg0.N : S1x2x2048x704.Idx → EReal) i : EReal) = step (G i) ((m ((c : Thread nD τ).loc main_arg2) : S1x2x2048x704.Idx → EReal) i) ((m ((c : Thread nD τ).loc main_arg3) : S1x2x2048x704.Idx → EReal) i) ((m ((c : Thread nD τ).loc main_arg4) : S1x2x2048x704.Idx → EReal) i)
    ∧ (((dats m 0 c).arrAt 7 cfg0.N : S1x2x2048x704.Idx → EReal) i : EReal) = first (G i) ((m ((c : Thread nD τ).loc main_arg3) : S1x2x2048x704.Idx → EReal) i)
    ∧ (((dats m 0 c).arrAt 8 cfg0.N : S1x2x2048x704.Idx → EReal) i : EReal) = second (G i) ((m ((c : Thread nD τ).loc main_arg4) : S1x2x2048x704.Idx → EReal) i) := by
  obtain ⟨l, p, k, rfl⟩ : ∃ (l : Fin 2) (p : Fin 2048) (k : Fin 704), i = ix4 0 l p k := ⟨i 1, i 2, i 3, funext fun a => match a with | 0 => Subsingleton.elim (α := Fin 1) _ _ | 1 => rfl | 2 => rfl | 3 => rfl⟩
  have hb : 0 < 128 := by decide
  obtain ⟨t, ht⟩ : ∃ t : Fin cfg0.N, t.val = l.1 * 16 + p.1 / 128 := ⟨⟨l.1 * 16 + p.1 / 128, by rw [show cfg0.N = 32 from N_0]; omega⟩, rfl⟩
  have hq : t.val % 16 = p.1 / 128 := by omega
  have hl : t.val / 16 = l.1 := by omega
  obtain ⟨p0, p1⟩ := idx_parts t
  obtain ⟨i2, i3, i4, i5, i6, i7, i8⟩ := idx t
  rw [hq, hl] at i2 i3 i4 i5 i6 i7 i8
  have x2 : (iblk m c 2 t : Vec Ideal S1x1x128x704 .f32) (ix4 0 0 (within hb p) k) = (m ((c : Thread nD τ).loc main_arg2) : S1x2x2048x704.Idx → EReal) (ix4 0 l p k) := by
    rw [← V_main_arg2 m c]
    exact congrArg (V m c main_arg2) (funext fun a => Fin.ext ((Pipeline.Window.rect_emb_val (cfg0.win 2) t _ a).trans (at4 l i2 hb p rfl k a)))
  have x3 : (iblk m c 3 t : Vec Ideal S1x1x128x704 .f32) (ix4 0 0 (within hb p) k) = (m ((c : Thread nD τ).loc main_arg3) : S1x2x2048x704.Idx → EReal) (ix4 0 l p k) := by
    rw [← V_main_arg3 m c]
    exact congrArg (V m c main_arg3) (funext fun a => Fin.ext ((Pipeline.Window.rect_emb_val (cfg0.win 3) t _ a).trans (at4 l i3 hb p rfl k a)))
  have x4 : (iblk m c 4 t : Vec Ideal S1x1x128x704 .f32) (ix4 0 0 (within hb p) k) = (m ((c : Thread nD τ).loc main_arg4) : S1x2x2048x704.Idx → EReal) (ix4 0 l p k) := by
    rw [← V_main_arg4 m c]
    exact congrArg (V m c main_arg4) (funext fun a => Fin.ext ((Pipeline.Window.rect_emb_val (cfg0.win 4) t _ a).trans (at4 l i4 hb p rfl k a)))
  rw [← x2, ← x3, ← x4]
  obtain ⟨s5, s6, s7, s8⟩ : ((dats m 0 c).flushed 5 t : S1x1x128x704.Idx → EReal) (ix4 0 0 (within hb p) k) = G (ix4 0 l p k)
    ∧ ((dats m 0 c).flushed 6 t : S1x1x128x704.Idx → EReal) (ix4 0 0 (within hb p) k) = step (G (ix4 0 l p k)) ((iblk m c 2 t : Vec Ideal S1x1x128x704 .f32) (ix4 0 0 (within hb p) k)) ((iblk m c 3 t : Vec Ideal S1x1x128x704 .f32) (ix4 0 0 (within hb p) k)) ((iblk m c 4 t : Vec Ideal S1x1x128x704 .f32) (ix4 0 0 (within hb p) k))
    ∧ ((dats m 0 c).flushed 7 t : S1x1x128x704.Idx → EReal) (ix4 0 0 (within hb p) k) = first (G (ix4 0 l p k)) ((iblk m c 3 t : Vec Ideal S1x1x128x704 .f32) (ix4 0 0 (within hb p) k))
    ∧ ((dats m 0 c).flushed 8 t : S1x1x128x704.Idx → EReal) (ix4 0 0 (within hb p) k) = second (G (ix4 0 l p k)) ((iblk m c 4 t : Vec Ideal S1x1x128x704 .f32) (ix4 0 0 (within hb p) k)) := by
    clear x2 x3 x4 i2 i3 i4 i5 i6 i7 i8 hl
    match l with
    | 0 =>
      have q : t.val < 16 := by omega
      have q' : ¬16 ≤ t.val := by omega
      have hg : parts (iblk m c 0 t : S8x128x704.Idx → EReal) (within hb p) k = G (ix4 0 0 p k) := by
        refine Eq.trans (b := parts (m ((c : Thread nD τ).loc main_arg0) : S8x2048x704.Idx → EReal) p k) ?_ ((congrFun h _).trans (layers _ _ 0 p k)).symm
        rw [← V_main_arg0 m c]
        exact Finset.sum_congr rfl fun d _ => congrArg (V m c main_arg0) (funext fun a => Fin.ext ((Pipeline.Window.rect_emb_val (cfg0.win 0) t _ a).trans (at3 (p0 q) hb p hq d k a)))
      have s := stored_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (within hb p) k _ ((hcond0_0 t).mpr q) (fun h => q' ((hcond0_1 t).mp h)) hg
      exact ⟨(congrFun (Value.flushed5_A m c t q q') _).trans s.1, (congrFun (Value.flushed6_A m c t q q') _).trans s.2.1,
        (congrFun (Value.flushed7_A m c t q q') _).trans s.2.2.1, (congrFun (Value.flushed8_A m c t q q') _).trans s.2.2.2⟩
    | 1 =>
      have q : 16 ≤ t.val := by change t.val = 1 * 16 + _ at ht; omega
      have q' : ¬t.val < 16 := by omega
      have hg : parts (iblk m c 1 t : S8x128x704.Idx → EReal) (within hb p) k = G (ix4 0 1 p k) := by
        refine Eq.trans (b := parts (m ((c : Thread nD τ).loc main_arg1) : S8x2048x704.Idx → EReal) p k) ?_ ((congrFun h _).trans (layers _ _ 1 p k)).symm
        rw [← V_main_arg1 m c]
        exact Finset.sum_congr rfl fun d _ => congrArg (V m c main_arg1) (funext fun a => Fin.ext ((Pipeline.Window.rect_emb_val (cfg0.win 1) t _ a).trans (at3 (p1 q) hb p hq d k a)))
      have s := stored_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (within hb p) k _ (fun h => q' ((hcond0_0 t).mp h)) ((hcond0_1 t).mpr q) hg
      exact ⟨(congrFun (Value.flushed5_B m c t q' q) _).trans s.1, (congrFun (Value.flushed6_B m c t q' q) _).trans s.2.1,
        (congrFun (Value.flushed7_B m c t q' q) _).trans s.2.2.1, (congrFun (Value.flushed8_B m c t q' q) _).trans s.2.2.2⟩
  exact ⟨(congrArg _ (funext fun a => Fin.ext ((Pipeline.Window.rect_emb_val (cfg0.win 5) t _ a).trans (at4 l i5 hb p rfl k a)).symm)).trans ((congrFun (Value.blocks5 m c t (flush0_5 t)) _).trans s5),
    (congrArg _ (funext fun a => Fin.ext ((Pipeline.Window.rect_emb_val (cfg0.win 6) t _ a).trans (at4 l i6 hb p rfl k a)).symm)).trans ((congrFun (Value.blocks6 m c t (flush0_6 t)) _).trans s6),
    (congrArg _ (funext fun a => Fin.ext ((Pipeline.Window.rect_emb_val (cfg0.win 7) t _ a).trans (at4 l i7 hb p rfl k a)).symm)).trans ((congrFun (Value.blocks7 m c t (flush0_7 t)) _).trans s7),
    (congrArg _ (funext fun a => Fin.ext ((Pipeline.Window.rect_emb_val (cfg0.win 8) t _ a).trans (at4 l i8 hb p rfl k a)).symm)).trans ((congrFun (Value.blocks8 m c t (flush0_8 t)) _).trans s8)⟩

theorem algebraic : Cert.algebraic_Kernel24Ideal_Reference24Ideal := by
  intro m g m' g' hp he
  refine ⟨_, _, _, _, Value.run_blocks m g, (θ_run _ _ _).mono (fun r h c => ?_) (Cert.Reference24Ideal.Value.run m' g')⟩
  obtain ⟨e0, e1, e2, e3, e4⟩ := he c
  obtain ⟨h5, h6, h7, h8, hk⟩ := h c
  obtain ⟨r5, r6, r7, r8⟩ := close Reference24Ideal.Facts₀.bcast_S_S1x2x2048x704 _ _ _ _ (cell m c _ rfl)
  rw [← e0, ← e1, ← e2, ← e3, ← e4] at *
  exact ⟨h5.trans r5, h6.trans r6, h7.trans r7, h8.trans r8, hk⟩

/-- The call and its idealization are one text. -/
theorem same₀ {F : FTy → Type} [FloatOps F] : Cert.Kernel24.defs₀ (F := F) = Cert.Kernel24Ideal.defs₀ (F := F) := by
  unfold Cert.Kernel24.defs₀ Cert.Kernel24Ideal.defs₀
  refine congrArg Defs.onTc (funext fun l => funext fun x => ?_)
  match l, x with
  | 0, (t, s) => rfl
theorem same {F : FTy → Type} [FloatOps F] : Cert.Kernel24.defs (F := F) = Cert.Kernel24Ideal.defs (F := F) :=
  congrArg (Pipeline.defs Cert.Kernel24Ideal.pcfgs) same₀

theorem frame_kernel : Cert.quiescent_Kernel24 := fun m ρ _ => by
  rw [same]
  exact (θ_run Cert.Kernel24Ideal.defs _ _).mono (fun _ h => h) (Gen.frame (F := Bits) m ρ)
theorem frame_ideal : Cert.quiescent_Kernel24Ideal := fun m ρ _ => Gen.frame (F := Ideal) m ρ
theorem frame_reference : Cert.quiescent_Reference24Ideal := fun m ρ _ =>
  (θ_run _ _ _).mono (fun r h => ⟨fun c => (h c).2.2.2.2, sem_eq_zero_of_no_sems (by decide) r.2⟩) (Cert.Reference24Ideal.Value.run (F := Ideal) m ρ)
theorem preserves : Cert.preserves_Kernel24_Kernel24Ideal := trivial

end Cert.AdamUp
-- ==== Proof.AdamDown.lean ====
/-
  The optimiser's call of the second-product weight of both feed-forward layers: the first eleven tiles of rows are the first
  layer's, the other eleven the second's.
-/
module

public import proofs.«01_k».proof.Proof.Gen.Kernel25Ideal.Value
public import proofs.«01_k».proof.Proof.Gen.Kernel25
public import proofs.«01_k».proof.Proof.Gen.Reference25Ideal.Run
public import proofs.«01_k».proof.Proof.Update
public import Idealize.ShloMosaic.Lib.Pipeline.ValueKit.Acc

@[expose] public section

noncomputable section

namespace Cert.AdamDown

open Cert.Kernel25Ideal Cert.Kernel25Ideal.Gen Cert.Ffn Cert.Tiles Cert.Update
open Idealize.ShloMosaic Idealize.ShloMosaic.TcCoe Idealize.ShloMosaic.Tactic Idealize.SL.Sem

section Payloads

variable (c : Dev nD) (i : grid0.Coords) (a2 : Memref sig .tc .vmem S8x64x2048 .bf16) (h2 : a2.IsWhole) (a3 : Memref sig .tc .vmem S8x64x2048 .bf16) (h3 : a3.IsWhole)
  (a4 : Memref sig .tc .vmem S1x1x64x2048 .f32) (h4 : a4.IsWhole) (a5 : Memref sig .tc .vmem S1x1x64x2048 .f32) (h5 : a5.IsWhole) (a6 : Memref sig .tc .vmem S1x1x64x2048 .f32) (h6 : a6.IsWhole)
  (a7 : Memref sig .tc .vmem S1x1x64x2048 .f32) (h7 : a7.IsWhole) (a8 : Memref sig .tc .vmem S1x1x64x2048 .f32) (h8 : a8.IsWhole)
  (a9 : Memref sig .tc .vmem S1x1x64x2048 .f32) (h9 : a9.IsWhole) (a10 : Memref sig .tc .vmem S1x1x64x2048 .f32) (h10 : a10.IsWhole)
  (x0 x1 : Vec Ideal S8x64x2048 .bf16) (x2 x3 x4 : Vec Ideal S1x1x64x2048 .f32) (r : Fin 64) (k : Fin 2048) (g : EReal)

/-- The four stored values, from the added-up gradient. -/
theorem told {u : FVec Ideal S64x2048 .f32} (h : (u (ix2 r k) : EReal) = g) :
    (k0_pay6 u (ix4 0 0 r k) : EReal) = g ∧ (k0_pay1 (k0_pay9 u x3 x4) x2 (ix4 0 0 r k) : EReal) = step g (x2 (ix4 0 0 r k)) (x3 (ix4 0 0 r k)) (x4 (ix4 0 0 r k))
    ∧ (k0_pay7 u x3 (ix4 0 0 r k) : EReal) = first g (x3 (ix4 0 0 r k)) ∧ (k0_pay8 u x4 (ix4 0 0 r k) : EReal) = second g (x4 (ix4 0 0 r k)) := by
  rw [← h]
  refine ⟨?_, ?_, ?_, ?_⟩
  · unfold k0_pay6
    pointwise
  · unfold step first second k0_pay1 k0_pay9 k0_pay4 k0_pay5
    pointwise
  · unfold first k0_pay7 k0_pay4
    pointwise
  · unfold second k0_pay8 k0_pay5
    pointwise

/-- What a tile leaves, from the gradient's element `g`: for the first layer, then for the second. -/
theorem stored_A (hc0 : cond0_0 i) (hc1 : ¬cond0_1 i) (h : parts (x0 : S8x64x2048.Idx → EReal) r k = g) :
    (out0_A_5 c i a2 h2 a3 h3 a4 h4 a5 h5 a6 h6 a7 h7 a8 h8 a9 h9 a10 h10 hc0 hc1 x0 x1 x2 x3 x4 (ix4 0 0 r k) : EReal) = g
    ∧ (out0_A_6 c i a2 h2 a3 h3 a4 h4 a5 h5 a6 h6 a7 h7 a8 h8 a9 h9 a10 h10 hc0 hc1 x0 x1 x2 x3 x4 (ix4 0 0 r k) : EReal) = step g (x2 (ix4 0 0 r k)) (x3 (ix4 0 0 r k)) (x4 (ix4 0 0 r k))
    ∧ (out0_A_7 c i a2 h2 a3 h3 a4 h4 a5 h5 a6 h6 a7 h7 a8 h8 a9 h9 a10 h10 hc0 hc1 x0 x1 x2 x3 x4 (ix4 0 0 r k) : EReal) = first g (x3 (ix4 0 0 r k))
    ∧ (out0_A_8 c i a2 h2 a3 h3 a4 h4 a5 h5 a6 h6 a7 h7 a8 h8 a9 h9 a10 h10 hc0 hc1 x0 x1 x2 x3 x4 (ix4 0 0 r k) : EReal) = second g (x4 (ix4 0 0 r k)) := by
  unfold out0_A_5 out0_A_6 out0_A_7 out0_A_8
  rw [View.read_writes_eq_canon _ _ _ (fun _ => cover0_A_5 ..), View.read_writes_eq_canon _ _ _ (fun _ => cover0_A_6 ..), View.read_writes_eq_canon _ _ _ (fun _ => cover0_A_7 ..), View.read_writes_eq_canon _ _ _ (fun _ => cover0_A_8 ..)]
  unfold kernelRun0_A
  dsimp only
  sl_unfold_words
  simp only [View.canon_unit_zero (S := S1x1x64x2048) zeros4, View.readAt_eq_ld, h2.read_unread, h3.read_unread, h4.read_unread, h5.read_unread, h6.read_unread, View.ld_unit_zero (S := S1x1x64x2048) zeros4]
  refine told x2 x3 x4 r k g ?_
  unfold k0_pay3
  rw [← h, parts, Fin.sum_univ_eight]
  pointwise

theorem stored_B (hc0 : ¬cond0_0 i) (hc1 : cond0_1 i) (h : parts (x1 : S8x64x2048.Idx → EReal) r k = g) :
    (out0_B_5 c i a2 h2 a3 h3 a4 h4 a5 h5 a6 h6 a7 h7 a8 h8 a9 h9 a10 h10 hc0 hc1 x0 x1 x2 x3 x4 (ix4 0 0 r k) : EReal) = g
    ∧ (out0_B_6 c i a2 h2 a3 h3 a4 h4 a5 h5 a6 h6 a7 h7 a8 h8 a9 h9 a10 h10 hc0 hc1 x0 x1 x2 x3 x4 (ix4 0 0 r k) : EReal) = step g (x2 (ix4 0 0 r k)) (x3 (ix4 0 0 r k)) (x4 (ix4 0 0 r k))
    ∧ (out0_B_7 c i a2 h2 a3 h3 a4 h4 a5 h5 a6 h6 a7 h7 a8 h8 a9 h9 a10 h10 hc0 hc1 x0 x1 x2 x3 x4 (ix4 0 0 r k) : EReal) = first g (x3 (ix4 0 0 r k))
    ∧ (out0_B_8 c i a2 h2 a3 h3 a4 h4 a5 h5 a6 h6 a7 h7 a8 h8 a9 h9 a10 h10 hc0 hc1 x0 x1 x2 x3 x4 (ix4 0 0 r k) : EReal) = second g (x4 (ix4 0 0 r k)) := by
  unfold out0_B_5 out0_B_6 out0_B_7 out0_B_8
  rw [View.read_writes_eq_canon _ _ _ (fun _ => cover0_B_5 ..), View.read_writes_eq_canon _ _ _ (fun _ => cover0_B_6 ..), View.read_writes_eq_canon _ _ _ (fun _ => cover0_B_7 ..), View.read_writes_eq_canon _ _ _ (fun _ => cover0_B_8 ..)]
  unfold kernelRun0_B
  dsimp only
  sl_unfold_words
  simp only [View.canon_unit_zero (S := S1x1x64x2048) zeros4, View.readAt_eq_ld, h2.read_unread, h3.read_unread, h4.read_unread, h5.read_unread, h6.read_unread, View.ld_unit_zero (S := S1x1x64x2048) zeros4]
  refine told x2 x3 x4 r k g ?_
  unfold k0_pay10
  rw [← h, parts, Fin.sum_univ_eight]
  pointwise

end Payloads

variable (m : (ℓ : Loc nD τ sig) → Buf (Elt Ideal) ℓ) (c : Dev nD)

theorem idx : ∀ t : Fin cfg0.N, win0_2.index t = ![0, t.val / 11, t.val % 11, 0] ∧ win0_3.index t = ![0, t.val / 11, t.val % 11, 0] ∧ win0_4.index t = ![0, t.val / 11, t.val % 11, 0]
    ∧ win0_5.index t = ![0, t.val / 11, t.val % 11, 0] ∧ win0_6.index t = ![0, t.val / 11, t.val % 11, 0] ∧ win0_7.index t = ![0, t.val / 11, t.val % 11, 0] ∧ win0_8.index t = ![0, t.val / 11, t.val % 11, 0] :=
  (by decide +kernel : ∀ t : Fin grid0.N, _)
theorem idx_parts : ∀ t : Fin cfg0.N, (t.val < 11 → win0_0.index t = ![0, t.val % 11, 0]) ∧ (11 ≤ t.val → win0_1.index t = ![0, t.val % 11, 0]) :=
  (by decide +kernel : ∀ t : Fin grid0.N, _)

/-- The reference's gradient of both layers: each layer's parts added up. -/
abbrev both (x y : FVec Ideal S8x704x2048 .bf16) : FVec Ideal S1x2x704x2048 .f32 := broadcastInDim Reference25Ideal.S1x2x704x2048 ![1, 2, 3] Reference25Ideal.Facts₀.bcast_S2x704x2048_S1x2x704x2048_1_2_3 (Host.reduceAdd (F := Ideal) (extf .f32 (concatenate Reference25Ideal.S2x8x704x2048 0 [⟨Reference25Ideal.S1x8x704x2048, broadcastInDim Reference25Ideal.S1x8x704x2048 ![1, 2, 3] Reference25Ideal.Facts₀.bcast_S8x704x2048_S1x8x704x2048_1_2_3 x⟩, ⟨Reference25Ideal.S1x8x704x2048, broadcastInDim Reference25Ideal.S1x8x704x2048 ![1, 2, 3] Reference25Ideal.Facts₀.bcast_S8x704x2048_S1x8x704x2048_1_2_3 y⟩] Reference25Ideal.Facts₀.concatenates_S1x8x704x2048_S1x8x704x2048_S2x8x704x2048_d0) Reference25Ideal.Facts₀.bitsLt_bf16_f32) (constant Reference25Ideal.S_ .f32 0x00000000#32) Reference25Ideal.Facts₀.reducesTo_S2x8x704x2048_S2x704x2048_d1 Reference25Ideal.Facts₀.h_S_)
theorem layers (x y : FVec Ideal S8x704x2048 .bf16) (l : Fin 2) (p : Fin 704) (k : Fin 2048) : (both x y (ix4 0 l p k) : EReal) = parts ((if l = 0 then x else y) : S8x704x2048.Idx → EReal) p k := by
  unfold parts
  match l with
  | 0 =>
    pointwise
  | 1 =>
    pointwise

/-- The four results at an index. -/
theorem cell (G : FVec Ideal S1x2x704x2048 .f32) (h : G = both (m ((c : Thread nD τ).loc main_arg0)) (m ((c : Thread nD τ).loc main_arg1))) (i : S1x2x704x2048.Idx) :
    (((dats m 0 c).arrAt 5 cfg0.N : S1x2x704x2048.Idx → EReal) i : EReal) = G i
    ∧ (((dats m 0 c).arrAt 6 cfg0.N : S1x2x704x2048.Idx → EReal) i : EReal) = step (G i) ((m ((c : Thread nD τ).loc main_arg2) : S1x2x704x2048.Idx → EReal) i) ((m ((c : Thread nD τ).loc main_arg3) : S1x2x704x2048.Idx → EReal) i) ((m ((c : Thread nD τ).loc main_arg4) : S1x2x704x2048.Idx → EReal) i)
    ∧ (((dats m 0 c).arrAt 7 cfg0.N : S1x2x704x2048.Idx → EReal) i : EReal) = first (G i) ((m ((c : Thread nD τ).loc main_arg3) : S1x2x704x2048.Idx → EReal) i)
    ∧ (((dats m 0 c).arrAt 8 cfg0.N : S1x2x704x2048.Idx → EReal) i : EReal) = second (G i) ((m ((c : Thread nD τ).loc main_arg4) : S1x2x704x2048.Idx → EReal) i) := by
  obtain ⟨l, p, k, rfl⟩ : ∃ (l : Fin 2) (p : Fin 704) (k : Fin 2048), i = ix4 0 l p k := ⟨i 1, i 2, i 3, funext fun a => match a with | 0 => Subsingleton.elim (α := Fin 1) _ _ | 1 => rfl | 2 => rfl | 3 => rfl⟩
  have hb : 0 < 64 := by decide
  obtain ⟨t, ht⟩ : ∃ t : Fin cfg0.N, t.val = l.1 * 11 + p.1 / 64 := ⟨⟨l.1 * 11 + p.1 / 64, by rw [show cfg0.N = 22 from N_0]; omega⟩, rfl⟩
  have hq : t.val % 11 = p.1 / 64 := by omega
  have hl : t.val / 11 = l.1 := by omega
  obtain ⟨p0, p1⟩ := idx_parts t
  obtain ⟨i2, i3, i4, i5, i6, i7, i8⟩ := idx t
  rw [hq, hl] at i2 i3 i4 i5 i6 i7 i8
  have x2 : (iblk m c 2 t : Vec Ideal S1x1x64x2048 .f32) (ix4 0 0 (within hb p) k) = (m ((c : Thread nD τ).loc main_arg2) : S1x2x704x2048.Idx → EReal) (ix4 0 l p k) := by
    rw [← V_main_arg2 m c]
    exact congrArg (V m c main_arg2) (funext fun a => Fin.ext ((Pipeline.Window.rect_emb_val (cfg0.win 2) t _ a).trans (at4 l i2 hb p rfl k a)))
  have x3 : (iblk m c 3 t : Vec Ideal S1x1x64x2048 .f32) (ix4 0 0 (within hb p) k) = (m ((c : Thread nD τ).loc main_arg3) : S1x2x704x2048.Idx → EReal) (ix4 0 l p k) := by
    rw [← V_main_arg3 m c]
    exact congrArg (V m c main_arg3) (funext fun a => Fin.ext ((Pipeline.Window.rect_emb_val (cfg0.win 3) t _ a).trans (at4 l i3 hb p rfl k a)))
  have x4 : (iblk m c 4 t : Vec Ideal S1x1x64x2048 .f32) (ix4 0 0 (within hb p) k) = (m ((c : Thread nD τ).loc main_arg4) : S1x2x704x2048.Idx → EReal) (ix4 0 l p k) := by
    rw [← V_main_arg4 m c]
    exact congrArg (V m c main_arg4) (funext fun a => Fin.ext ((Pipeline.Window.rect_emb_val (cfg0.win 4) t _ a).trans (at4 l i4 hb p rfl k a)))
  rw [← x2, ← x3, ← x4]
  obtain ⟨s5, s6, s7, s8⟩ : ((dats m 0 c).flushed 5 t : S1x1x64x2048.Idx → EReal) (ix4 0 0 (within hb p) k) = G (ix4 0 l p k)
    ∧ ((dats m 0 c).flushed 6 t : S1x1x64x2048.Idx → EReal) (ix4 0 0 (within hb p) k) = step (G (ix4 0 l p k)) ((iblk m c 2 t : Vec Ideal S1x1x64x2048 .f32) (ix4 0 0 (within hb p) k)) ((iblk m c 3 t : Vec Ideal S1x1x64x2048 .f32) (ix4 0 0 (within hb p) k)) ((iblk m c 4 t : Vec Ideal S1x1x64x2048 .f32) (ix4 0 0 (within hb p) k))
    ∧ ((dats m 0 c).flushed 7 t : S1x1x64x2048.Idx → EReal) (ix4 0 0 (within hb p) k) = first (G (ix4 0 l p k)) ((iblk m c 3 t : Vec Ideal S1x1x64x2048 .f32) (ix4 0 0 (within hb p) k))
    ∧ ((dats m 0 c).flushed 8 t : S1x1x64x2048.Idx → EReal) (ix4 0 0 (within hb p) k) = second (G (ix4 0 l p k)) ((iblk m c 4 t : Vec Ideal S1x1x64x2048 .f32) (ix4 0 0 (within hb p) k)) := by
    clear x2 x3 x4 i2 i3 i4 i5 i6 i7 i8 hl
    match l with
    | 0 =>
      have q : t.val < 11 := by omega
      have q' : ¬11 ≤ t.val := by omega
      have hg : parts (iblk m c 0 t : S8x64x2048.Idx → EReal) (within hb p) k = G (ix4 0 0 p k) := by
        refine Eq.trans (b := parts (m ((c : Thread nD τ).loc main_arg0) : S8x704x2048.Idx → EReal) p k) ?_ ((congrFun h _).trans (layers _ _ 0 p k)).symm
        rw [← V_main_arg0 m c]
        exact Finset.sum_congr rfl fun d _ => congrArg (V m c main_arg0) (funext fun a => Fin.ext ((Pipeline.Window.rect_emb_val (cfg0.win 0) t _ a).trans (at3 (p0 q) hb p hq d k a)))
      have s := stored_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (within hb p) k _ ((hcond0_0 t).mpr q) (fun h => q' ((hcond0_1 t).mp h)) hg
      exact ⟨(congrFun (Value.flushed5_A m c t q q') _).trans s.1, (congrFun (Value.flushed6_A m c t q q') _).trans s.2.1,
        (congrFun (Value.flushed7_A m c t q q') _).trans s.2.2.1, (congrFun (Value.flushed8_A m c t q q') _).trans s.2.2.2⟩
    | 1 =>
      have q : 11 ≤ t.val := by change t.val = 1 * 11 + _ at ht; omega
      have q' : ¬t.val < 11 := by omega
      have hg : parts (iblk m c 1 t : S8x64x2048.Idx → EReal) (within hb p) k = G (ix4 0 1 p k) := by
        refine Eq.trans (b := parts (m ((c : Thread nD τ).loc main_arg1) : S8x704x2048.Idx → EReal) p k) ?_ ((congrFun h _).trans (layers _ _ 1 p k)).symm
        rw [← V_main_arg1 m c]
        exact Finset.sum_congr rfl fun d _ => congrArg (V m c main_arg1) (funext fun a => Fin.ext ((Pipeline.Window.rect_emb_val (cfg0.win 1) t _ a).trans (at3 (p1 q) hb p hq d k a)))
      have s := stored_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (within hb p) k _ (fun h => q' ((hcond0_0 t).mp h)) ((hcond0_1 t).mpr q) hg
      exact ⟨(congrFun (Value.flushed5_B m c t q' q) _).trans s.1, (congrFun (Value.flushed6_B m c t q' q) _).trans s.2.1,
        (congrFun (Value.flushed7_B m c t q' q) _).trans s.2.2.1, (congrFun (Value.flushed8_B m c t q' q) _).trans s.2.2.2⟩
  exact ⟨(congrArg _ (funext fun a => Fin.ext ((Pipeline.Window.rect_emb_val (cfg0.win 5) t _ a).trans (at4 l i5 hb p rfl k a)).symm)).trans ((congrFun (Value.blocks5 m c t (flush0_5 t)) _).trans s5),
    (congrArg _ (funext fun a => Fin.ext ((Pipeline.Window.rect_emb_val (cfg0.win 6) t _ a).trans (at4 l i6 hb p rfl k a)).symm)).trans ((congrFun (Value.blocks6 m c t (flush0_6 t)) _).trans s6),
    (congrArg _ (funext fun a => Fin.ext ((Pipeline.Window.rect_emb_val (cfg0.win 7) t _ a).trans (at4 l i7 hb p rfl k a)).symm)).trans ((congrFun (Value.blocks7 m c t (flush0_7 t)) _).trans s7),
    (congrArg _ (funext fun a => Fin.ext ((Pipeline.Window.rect_emb_val (cfg0.win 8) t _ a).trans (at4 l i8 hb p rfl k a)).symm)).trans ((congrFun (Value.blocks8 m c t (flush0_8 t)) _).trans s8)⟩

theorem algebraic : Cert.algebraic_Kernel25Ideal_Reference25Ideal := by
  intro m g m' g' hp he
  refine ⟨_, _, _, _, Value.run_blocks m g, (θ_run _ _ _).mono (fun r h c => ?_) (Cert.Reference25Ideal.Value.run m' g')⟩
  obtain ⟨e0, e1, e2, e3, e4⟩ := he c
  obtain ⟨h5, h6, h7, h8, hk⟩ := h c
  obtain ⟨r5, r6, r7, r8⟩ := close Reference25Ideal.Facts₀.bcast_S_S1x2x704x2048 _ _ _ _ (cell m c _ rfl)
  rw [← e0, ← e1, ← e2, ← e3, ← e4] at *
  exact ⟨h5.trans r5, h6.trans r6, h7.trans r7, h8.trans r8, hk⟩

/-- The call and its idealization are one text. -/
theorem same₀ {F : FTy → Type} [FloatOps F] : Cert.Kernel25.defs₀ (F := F) = Cert.Kernel25Ideal.defs₀ (F := F) := by
  unfold Cert.Kernel25.defs₀ Cert.Kernel25Ideal.defs₀
  refine congrArg Defs.onTc (funext fun l => funext fun x => ?_)
  match l, x with
  | 0, (t, s) => rfl
theorem same {F : FTy → Type} [FloatOps F] : Cert.Kernel25.defs (F := F) = Cert.Kernel25Ideal.defs (F := F) :=
  congrArg (Pipeline.defs Cert.Kernel25Ideal.pcfgs) same₀

theorem frame_kernel : Cert.quiescent_Kernel25 := fun m ρ _ => by
  rw [same]
  exact (θ_run Cert.Kernel25Ideal.defs _ _).mono (fun _ h => h) (Gen.frame (F := Bits) m ρ)
theorem frame_ideal : Cert.quiescent_Kernel25Ideal := fun m ρ _ => Gen.frame (F := Ideal) m ρ
theorem frame_reference : Cert.quiescent_Reference25Ideal := fun m ρ _ =>
  (θ_run _ _ _).mono (fun r h => ⟨fun c => (h c).2.2.2.2, sem_eq_zero_of_no_sems (by decide) r.2⟩) (Cert.Reference25Ideal.Value.run (F := Ideal) m ρ)
theorem preserves : Cert.preserves_Kernel25_Kernel25Ideal := trivial

end Cert.AdamDown
-- ==== Proof.AdaBwd.lean ====
/-
  The gradient of the conditioning's weight: every device's condition times its modulation's cotangent, added up over the eight
  devices. The call splits each factor in two parts and pads the eight rows with zeros; the second parts and the padding add nothing.
-/
module

public import proofs.«01_k».proof.Proof.Gen.Kernel26Ideal.Value
public import proofs.«01_k».proof.Proof.Gen.Kernel26
public import proofs.«01_k».proof.Proof.Gen.Reference26Ideal.Run
public import proofs.«01_k».proof.Proof.Update
public import proofs.«01_k».proof.Proof.Ffn4
public import proofs.«01_k».proof.Proof.Heads
public import proofs.«01_k».proof.Proof.Finite
public import Idealize.ShloMosaic.Lib.KernelVsHost

@[expose] public section

noncomputable section

namespace Cert.AdaBwd

open Cert.Kernel26Ideal Cert.Kernel26Ideal.Gen Cert.Ffn Cert.Ffn4 Cert.Tiles Cert.Update
open Idealize.ShloMosaic Idealize.ShloMosaic.TcCoe Idealize.ShloMosaic.Tactic Idealize.SL.Sem

/-- The condition of one entry. -/
def cond (x : EReal) : EReal := x * sg x

/-- A product of factors in two parts, the second part what the first leaves. -/
def split {n : ℕ} (f g : Fin n → EReal) : EReal := ∑ d, f d * g d + (∑ d, f d * (g d - g d) + ∑ d, (f d - f d) * g d)

theorem cond_real (x : ℝ) : cond (x : EReal) = ((x * (1 / (1 + Real.exp (-x))) : ℝ) : EReal) := by
  rw [cond, sg_real, ← EReal.coe_mul]

theorem less_self (x : ℝ) : (x : EReal) - x = 0 := by rw [← EReal.coe_sub, sub_self, EReal.coe_zero]

theorem split_real {n : ℕ} {f g : Fin n → EReal} {x y : Fin n → ℝ} (hf : ∀ d, f d = (x d : EReal)) (hg : ∀ d, g d = (y d : EReal)) : split f g = ∑ d, f d * g d := by
  unfold split
  simp only [hf, hg, less_self, mul_zero, zero_mul, Finset.sum_const_zero, add_zero]

theorem stored (x0 : Vec Ideal S2048x128 .f32) (x1 : Vec Ideal S128x256 .f32) (i : Fin 2048) (k : Fin 256) :
    (out0_2 x0 x1 (ix2 i k) : EReal) = split (fun d : Fin 128 => cond (x0 (ix2 i d))) (fun d => x1 (ix2 d k)) := by
  unfold out0_2 r0_0 r0_1
  simp only [View.canon_unit_zero (S := S2048x256) zeros2, View.ld_unit_zero (S := S2048x128) zeros2, View.ld_unit_zero (S := S128x256) zeros2]
  unfold k0_pay1 split cond sg
  pointwise
  simp only [zero_sub]

/-- The eight rows among the padded ones. -/
theorem split_sum (f : Fin 128 → EReal) (h : ∀ e : Fin 120, f (Fin.natAdd 8 e) = 0) : ∑ d, f d = ∑ d : Fin 8, f (Fin.castAdd 120 d) := by
  rw [show (∑ d : Fin 128, f d) = ∑ d : Fin (8 + 120), f d from rfl, Fin.sum_univ_add, Finset.sum_congr rfl fun e _ => h e, Finset.sum_const_zero, add_zero]

variable (m : (ℓ : Loc nD τ sig) → Buf (Elt Ideal) ℓ) (c : Dev nD)

/-- The padded rows' arrays: the argument's rows first, zeros after them. -/
abbrev rows1 (x : FVec Ideal S8x2048 .f32) : FVec Ideal S2048x128 .f32 :=
  pad S2048x128 ![0, 0] ![0, 120] ![0, 0] (transpose S2048x8 [1, 0] x transposes_S8x2048_S2048x8_1_0) (sitofp .f32 (constantI S_ 32 0#32) : FVec Ideal S_ .f32) pads_S2048x8_S2048x128_000_01200 h_S_
abbrev rows2 (x : FVec Ideal S8x2304 .f32) : FVec Ideal S128x2304 .f32 :=
  pad S128x2304 ![0, 0] ![120, 0] ![0, 0] x (sitofp .f32 (constantI S_ 32 0#32) : FVec Ideal S_ .f32) pads_S8x2304_S128x2304_01200_000 h_S_

theorem host_v1 : (V m c main_v1 : S2048x128.Idx → EReal) = rows1 (m ((c : Thread nD τ).loc main_arg0)) := by
  after_reads_simp
  rfl
theorem host_v2 : (V m c main_v2 : S128x2304.Idx → EReal) = rows2 (m ((c : Thread nD τ).loc main_arg1)) := by
  after_reads_simp
  rfl

theorem rows1_in (x : FVec Ideal S8x2048 .f32) (i : Fin 2048) (d : Fin 8) : (rows1 x (ix2 i (Fin.castAdd 120 d)) : EReal) = x (ix2 d i) := by
  refine (pad_apply_of_inside _ _ _ _ _ _ _ _ (ix2 i d) fun a => ?_).trans ?_
  · match a with
    | 0 => exact (by omega : i.1 = 0 + i.1 * (0 + 1))
    | 1 => exact (by omega : d.1 = 0 + d.1 * (0 + 1))
  · pointwise
theorem rows2_in (x : FVec Ideal S8x2304 .f32) (d : Fin 8) (k : Fin 2304) : (rows2 x (ix2 (Fin.castAdd 120 d) k) : EReal) = x (ix2 d k) := by
  refine pad_apply_of_inside _ _ _ _ _ _ _ _ (ix2 d k) fun a => ?_
  match a with
  | 0 => exact (by omega : d.1 = 0 + d.1 * (0 + 1))
  | 1 => exact (by omega : k.1 = 0 + k.1 * (0 + 1))
theorem rows1_out (x : FVec Ideal S8x2048 .f32) (i : Fin 2048) (e : Fin 120) : (rows1 x (ix2 i (Fin.natAdd 8 e)) : EReal) = 0 := by
  refine (pad_apply_of_not_inside _ _ _ _ _ _ _ _ (1 : Fin 2) fun h => ?_).trans sitofp_zero
  have h3 : (8 + e.1 - 0) / (0 + 1) < 8 := h.2.2
  omega
theorem rows2_out (x : FVec Ideal S8x2304 .f32) (e : Fin 120) (k : Fin 2304) : (rows2 x (ix2 (Fin.natAdd 8 e) k) : EReal) = 0 := by
  refine (pad_apply_of_not_inside _ _ _ _ _ _ _ _ (0 : Fin 2) fun h => ?_).trans sitofp_zero
  have h3 : (8 + e.1 - 0) / (0 + 1) < 8 := h.2.2
  omega

/-- A padded row is a real number where the argument is. -/
theorem real_padded {f : Fin 128 → EReal} (h : ∀ d : Fin 8, ∃ x : ℝ, f (Fin.castAdd 120 d) = (x : EReal)) (h0 : ∀ e : Fin 120, f (Fin.natAdd 8 e) = 0) (d : Fin 128) :
    ∃ x : ℝ, f d = (x : EReal) := by
  refine Fin.addCases (m := 8) (n := 120) (motive := fun d : Fin (8 + 120) => ∃ x : ℝ, f d = (x : EReal)) h (fun e => ⟨0, h0 e⟩) d

theorem finite_facts : Cert.Pre_finite26.Facts where
  bcast_S_S8x2048 := by decide
  reducesTo_S8x2048_S_d0_1 := by decide
  h_S_ := by decide
  bcast_S_S8x2304 := by decide
  reducesTo_S8x2304_S_d0_1 := by decide

attribute [local instance] finite_facts

theorem finite_entries (x : FVec Ideal S8x2048 .f32) (y : FVec Ideal S8x2304 .f32) (h : Cert.Pre_finite26.fn (F := Ideal) x y = fun _ => 1#1) :
    (∀ d i, x (ix2 d i) = (((x (ix2 d i)).toReal : ℝ) : EReal)) ∧ ∀ d k, y (ix2 d k) = (((y (ix2 d k)).toReal : ℝ) : EReal) := by
  obtain ⟨hx, hy⟩ := Cert.Fox.and_one (congrFun h (Shape.Idx.first Cert.Pre_finite26.Facts.h_S_))
  refine ⟨fun d i => Cert.Fox.real_of_cmp ?_, fun d k => Cert.Fox.real_of_cmp ?_⟩
  · have := Cert.Fox.all_of_reduce _ _ _ _ _ hx (ix2 d i)
    pointwise at this
    rw [← Cert.Fox.bits_top]
    exact this
  · have := Cert.Fox.all_of_reduce _ _ _ _ _ hy (ix2 d k)
    pointwise at this
    rw [← Cert.Fox.bits_top]
    exact this

/-- The split product of the padded rows is the eight devices' sum. -/
theorem padded (x : FVec Ideal S8x2048 .f32) (y : FVec Ideal S8x2304 .f32) (h : Cert.Pre_finite26.fn (F := Ideal) x y = fun _ => 1#1) (i : Fin 2048) (k : Fin 2304) :
    split (fun d : Fin 128 => cond (rows1 x (ix2 i d))) (fun d => rows2 y (ix2 d k)) = ∑ d : Fin 8, cond (x (ix2 d i)) * y (ix2 d k) := by
  obtain ⟨hx, hy⟩ := finite_entries x y h
  have h1 := real_padded (f := fun d => rows1 x (ix2 i d)) (fun d => ⟨_, (rows1_in x i d).trans (hx d i)⟩) (rows1_out x i)
  have h2 := real_padded (f := fun d => rows2 y (ix2 d k)) (fun d => ⟨_, (rows2_in y d k).trans (hy d k)⟩) (fun e => rows2_out y e k)
  choose u hu using h1
  choose v hv using h2
  rw [split_real (fun d => (congrArg cond (hu d)).trans (cond_real (u d))) hv, split_sum]
  · refine Finset.sum_congr rfl fun d _ => ?_
    rw [rows1_in, rows2_in]
  · intro e
    rw [rows2_out, mul_zero]

theorem idx : ∀ t : Fin cfg0.N, win0_0.index t = ![0, 0] ∧ win0_1.index t = ![0, t.val] ∧ win0_2.index t = ![0, t.val] :=
  (by decide +kernel : ∀ t : Fin grid0.N, _)

/-- Where an element of a block of columns lies in the array. -/
theorem across {b n k t : ℕ} {f : Fin 2 → ℕ} (h : f = ![0, t]) (hb : 0 < b) (i : Fin k) (j : Fin n) (ht : t = j.1 / b) (a : Fin 2) :
    f a * (![k, b] : Fin 2 → ℕ) a + ((ix2 i (within hb j) : (⟨2, ![k, b]⟩ : Shape).Idx) a).val = ((ix2 i j : (⟨2, ![k, n]⟩ : Shape).Idx) a).val := by
  subst h
  match a with
  | 0 => exact whole i.1
  | 1 => exact place hb j ht

/-- The result at an index. -/
theorem cell (i : Fin 2048) (k : Fin 2304) : (((dats m 0 c).arrAt 2 cfg0.N : S2048x2304.Idx → EReal) (ix2 i k) : EReal)
    = split (fun d : Fin 128 => cond (rows1 (m ((c : Thread nD τ).loc main_arg0)) (ix2 i d))) (fun d => rows2 (m ((c : Thread nD τ).loc main_arg1)) (ix2 d k)) := by
  have hb : 0 < 256 := by decide
  obtain ⟨t, ht⟩ : ∃ t : Fin cfg0.N, t.val = k.1 / 256 := ⟨⟨k.1 / 256, by rw [show cfg0.N = 9 from N_0]; omega⟩, rfl⟩
  obtain ⟨i0, i1, i2⟩ := idx t
  have x0 : ∀ d : Fin 128, (iblk m c 0 t : Vec Ideal S2048x128 .f32) (ix2 i d) = (rows1 (m ((c : Thread nD τ).loc main_arg0)) (ix2 i d) : EReal) := fun d => by
    rw [← host_v1 m c]
    refine congrArg (V m c main_v1) (funext fun a => Fin.ext ((Pipeline.Window.rect_emb_val (cfg0.win 0) t _ a).trans ?_))
    show win0_0.index t a * _ + _ = _
    rw [i0]
    match a with
    | 0 => exact whole i.1
    | 1 => exact whole d.1
  have x1 : ∀ d : Fin 128, (iblk m c 1 t : Vec Ideal S128x256 .f32) (ix2 d (within hb k)) = (rows2 (m ((c : Thread nD τ).loc main_arg1)) (ix2 d k) : EReal) := fun d => by
    rw [← host_v2 m c]
    exact congrArg (V m c main_v2) (funext fun a => Fin.ext ((Pipeline.Window.rect_emb_val (cfg0.win 1) t _ a).trans (across i1 hb d k ht a)))
  have s : ((dats m 0 c).flushed 2 t : S2048x256.Idx → EReal) (ix2 i (within hb k)) = _ :=
    (congrFun (Value.flushed2 m c t) (ix2 i (within hb k))).trans (stored (iblk m c 0 t) (iblk m c 1 t) i (within hb k))
  have e := congrFun (Value.blocks2 m c t (flush0_2 t)) (ix2 i (within hb k))
  refine (congrArg ((dats m 0 c).arrAt 2 cfg0.N) (funext fun a => Fin.ext ((Pipeline.Window.rect_emb_val (cfg0.win 2) t _ a).trans (across i2 hb i k ht a)))).symm.trans ((e.trans s).trans ?_)
  exact congrArg₂ split (funext fun d => congrArg cond (x0 d)) (funext x1)

/-- The reference's result at an index. -/
theorem ref (x : FVec Ideal S8x2048 .f32) (y : FVec Ideal S8x2304 .f32) (i : Fin 2048) (k : Fin 2304) :
    (transpose Reference26Ideal.S2048x2304 [1, 0] (Host.dotGeneral Reference26Ideal.dot_S8x2304_S8x2048_S2304x2048_0_0_1_1_n_n none y (mulf x (Host.divf (broadcastInDim Reference26Ideal.S8x2048 ![] Reference26Ideal.Facts₀.bcast_S_S8x2048 (constant Reference26Ideal.S_ .f32 0x3F800000#32)) (addf (broadcastInDim Reference26Ideal.S8x2048 ![] Reference26Ideal.Facts₀.bcast_S_S8x2048 (constant Reference26Ideal.S_ .f32 0x3F800000#32)) (Host.exp (Host.negf x)))))) Reference26Ideal.Facts₀.transposes_S2304x2048_S2048x2304_1_0 (ix2 i k) : EReal)
    = ∑ d : Fin 8, cond (x (ix2 d i)) * y (ix2 d k) := by
  unfold cond sg
  pointwise
  exact Finset.sum_congr rfl fun d _ => mul_comm _ _

theorem algebraic : Cert.algebraic_Kernel26Ideal_Reference26Ideal_pre_finite26 := by
  intro m g m' g' hp he
  refine ⟨_, Value.run_blocks m g, (θ_run _ _ _).mono (fun r h c => ⟨(h c).1.trans ?_, (h c).2⟩) (Cert.Reference26Ideal.Value.run m' g')⟩
  obtain ⟨e0, e1⟩ := he c
  rw [e0, e1]
  funext j
  obtain ⟨i, k, rfl⟩ : ∃ (i : Fin 2048) (k : Fin 2304), j = ix2 i k := ⟨j 0, j 1, funext fun a => match a with | 0 => rfl | 1 => rfl⟩
  exact (ref _ _ i k).trans ((padded _ _ (hp c) i k).symm.trans (cell m c i k).symm)

/-- The call and its idealization are one text. -/
theorem same₀ {F : FTy → Type} [FloatOps F] : Cert.Kernel26.defs₀ (F := F) = Cert.Kernel26Ideal.defs₀ (F := F) := by
  unfold Cert.Kernel26.defs₀ Cert.Kernel26Ideal.defs₀
  refine congrArg Defs.onTc (funext fun l => funext fun x => ?_)
  match l, x with
  | 0, (t, s) => rfl
theorem same {F : FTy → Type} [FloatOps F] : Cert.Kernel26.defs (F := F) = Cert.Kernel26Ideal.defs (F := F) :=
  congrArg (Pipeline.defs Cert.Kernel26Ideal.pcfgs) same₀

theorem frame_kernel : Cert.quiescent_Kernel26 := fun m ρ _ => by
  rw [same]
  exact (θ_run Cert.Kernel26Ideal.defs _ _).mono (fun _ h => h) (Gen.frame (F := Bits) m ρ)
theorem frame_ideal : Cert.quiescent_Kernel26Ideal := fun m ρ _ => Gen.frame (F := Ideal) m ρ
theorem frame_ideal_finite : Cert.quiescent_Kernel26Ideal_pre_finite26 := fun m ρ _ => Gen.frame (F := Ideal) m ρ
theorem frame_reference : Cert.quiescent_Reference26Ideal := fun m ρ _ =>
  (θ_run _ _ _).mono (fun r h => ⟨fun c => (h c).2, sem_eq_zero_of_no_sems (by decide) r.2⟩) (Cert.Reference26Ideal.Value.run (F := Ideal) m ρ)
theorem frame_reference_finite : Cert.quiescent_Reference26Ideal_pre_finite26 := fun m ρ _ => frame_reference m ρ trivial
theorem preserves : Cert.preserves_Kernel26_Kernel26Ideal := trivial

end Cert.AdaBwd
-- ==== Proof.lean ====
/- The frames of the attention's backward call, of the feed-forward's five calls, of the two projections' six, of the gate's,
  the norm's two, the loss's and the optimiser's nine, of their idealizations and of their references, the named constants, and that each idealization and its reference leave the same
  results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Values
public import proofs.«01_k».proof.Proof.Ffn2
public import proofs.«01_k».proof.Proof.Ffn3
public import proofs.«01_k».proof.Proof.Ffn4
public import proofs.«01_k».proof.Proof.InX
public import proofs.«01_k».proof.Proof.InW
public import proofs.«01_k».proof.Proof.OutX
public import proofs.«01_k».proof.Proof.OutW
public import proofs.«01_k».proof.Proof.Up
public import proofs.«01_k».proof.Proof.Down
public import proofs.«01_k».proof.Proof.In
public import proofs.«01_k».proof.Proof.Out
public import proofs.«01_k».proof.Proof.GateBwd
public import proofs.«01_k».proof.Proof.NormBwd
public import proofs.«01_k».proof.Proof.Norm
public import proofs.«01_k».proof.Proof.Final
public import proofs.«01_k».proof.Proof.Adam
public import proofs.«01_k».proof.Proof.AdamOut
public import proofs.«01_k».proof.Proof.AdamCond
public import proofs.«01_k».proof.Proof.AdamBias
public import proofs.«01_k».proof.Proof.AdamNorm
public import proofs.«01_k».proof.Proof.AdamConv
public import proofs.«01_k».proof.Proof.AdamSmall
public import proofs.«01_k».proof.Proof.AdamUp
public import proofs.«01_k».proof.Proof.AdamDown
public import proofs.«01_k».proof.Proof.AdaBwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Fox.finite_facts, Cert.Ffn4.finite_facts, Cert.AdaBwd.finite_facts,
  Cert.Fox.frame_kernel, Cert.Fox.frame_ideal, Cert.Fox.frame_ideal_finite, Cert.Fox.frame_reference, Cert.Fox.frame_reference_finite,
  Cert.Ffn2.frame_kernel, Cert.Ffn2.frame_ideal, Cert.Ffn2.frame_reference,
  Cert.Ffn3.frame_kernel, Cert.Ffn3.frame_ideal, Cert.Ffn3.frame_reference,
  Cert.Ffn4.frame_kernel, Cert.Ffn4.frame_ideal, Cert.Ffn4.frame_ideal_finite, Cert.Ffn4.frame_reference, Cert.Ffn4.frame_reference_finite,
  Cert.InX.frame_kernel, Cert.InX.frame_ideal, Cert.InX.frame_reference,
  Cert.InW.frame_kernel, Cert.InW.frame_ideal, Cert.InW.frame_reference,
  Cert.OutX.frame_kernel, Cert.OutX.frame_ideal, Cert.OutX.frame_reference,
  Cert.OutW.frame_kernel, Cert.OutW.frame_ideal, Cert.OutW.frame_reference,
  Cert.Up.frame_kernel, Cert.Up.frame_ideal, Cert.Up.frame_reference,
  Cert.Down.frame_kernel, Cert.Down.frame_ideal, Cert.Down.frame_reference,
  Cert.In.frame_kernel, Cert.In.frame_ideal, Cert.In.frame_reference,
  Cert.Out.frame_kernel, Cert.Out.frame_ideal, Cert.Out.frame_reference,
  Cert.GateBwd.frame_kernel, Cert.GateBwd.frame_ideal, Cert.GateBwd.frame_reference,
  Cert.NormBwd.frame_kernel, Cert.NormBwd.frame_ideal, Cert.NormBwd.frame_reference,
  Cert.Norm.frame_kernel, Cert.Norm.frame_ideal, Cert.Norm.frame_reference,
  Cert.Final.frame_kernel, Cert.Final.frame_ideal, Cert.Final.frame_reference,
  Cert.Adam.frame_kernel, Cert.Adam.frame_ideal, Cert.Adam.frame_reference,
  Cert.AdamOut.frame_kernel, Cert.AdamOut.frame_ideal, Cert.AdamOut.frame_reference,
  Cert.AdamCond.frame_kernel, Cert.AdamCond.frame_ideal, Cert.AdamCond.frame_reference,
  Cert.AdamBias.frame_kernel, Cert.AdamBias.frame_ideal, Cert.AdamBias.frame_reference,
  Cert.AdamNorm.frame_kernel, Cert.AdamNorm.frame_ideal, Cert.AdamNorm.frame_reference,
  Cert.AdamConv.frame_kernel, Cert.AdamConv.frame_ideal, Cert.AdamConv.frame_reference,
  Cert.AdamSmall.frame_kernel, Cert.AdamSmall.frame_ideal, Cert.AdamSmall.frame_reference,
  Cert.AdamUp.frame_kernel, Cert.AdamUp.frame_ideal, Cert.AdamUp.frame_reference,
  Cert.AdamDown.frame_kernel, Cert.AdamDown.frame_ideal, Cert.AdamDown.frame_reference,
  Cert.AdaBwd.frame_kernel, Cert.AdaBwd.frame_ideal, Cert.AdaBwd.frame_ideal_finite, Cert.AdaBwd.frame_reference, Cert.AdaBwd.frame_reference_finite,
  Cert.Fox.preserves, Cert.Fox.algebraic, Cert.Ffn2.preserves, Cert.Ffn2.algebraic, Cert.Ffn3.preserves, Cert.Ffn3.algebraic,
  Cert.Ffn4.preserves, Cert.Ffn4.algebraic,
  Cert.InX.preserves, Cert.InX.algebraic, Cert.InW.preserves, Cert.InW.algebraic, Cert.OutX.preserves, Cert.OutX.algebraic,
  Cert.OutW.preserves, Cert.OutW.algebraic, Cert.Up.preserves, Cert.Up.algebraic, Cert.Down.preserves, Cert.Down.algebraic,
  Cert.In.preserves, Cert.In.algebraic, Cert.Out.preserves, Cert.Out.algebraic,
  Cert.GateBwd.preserves, Cert.GateBwd.algebraic,
  Cert.NormBwd.preserves, Cert.NormBwd.algebraic,
  Cert.Norm.preserves, Cert.Norm.algebraic,
  Cert.Final.preserves, Cert.Final.algebraic,
  Cert.Adam.preserves, Cert.Adam.algebraic,
  Cert.AdamOut.preserves, Cert.AdamOut.algebraic,
  Cert.AdamCond.preserves, Cert.AdamCond.algebraic,
  Cert.AdamBias.preserves, Cert.AdamBias.algebraic,
  Cert.AdamNorm.preserves, Cert.AdamNorm.algebraic,
  Cert.AdamConv.preserves, Cert.AdamConv.algebraic,
  Cert.AdamSmall.preserves, Cert.AdamSmall.algebraic,
  Cert.AdamUp.preserves, Cert.AdamUp.algebraic,
  Cert.AdamDown.preserves, Cert.AdamDown.algebraic,
  Cert.AdaBwd.preserves, Cert.AdaBwd.algebraic⟩

end Cert.Proof

end
